-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_KernelAtIdeal (m : (ℓ : Loc Cert.KernelAtIdeal.nD Cert.KernelAtIdeal.τ Cert.KernelAtIdeal.sig) → Buf (Elt Ideal) ℓ) : Prop :=
  True

def Pre_ReferenceAtIdeal (m : (ℓ : Loc Cert.ReferenceAtIdeal.nD Cert.ReferenceAtIdeal.τ Cert.ReferenceAtIdeal.sig) → Buf (Elt Ideal) ℓ) : Prop :=
  True

def Pre_RefRevIdeal (m : (ℓ : Loc Cert.RefRevIdeal.nD Cert.RefRevIdeal.τ Cert.RefRevIdeal.sig) → Buf (Elt Ideal) ℓ) : Prop :=
  True

def Pre_RefRevIdeal_finite [hPre_finite : Cert.Pre_finite.Facts] (m : (ℓ : Loc Cert.RefRevIdeal.nD Cert.RefRevIdeal.τ Cert.RefRevIdeal.sig) → Buf (Elt Ideal) ℓ) : Prop :=
  ∀ c : Dev Cert.RefRevIdeal.nD,
    (Cert.Pre_finite.fn (F := Ideal) (m ((c.tc : Thread Cert.RefRevIdeal.nD Cert.RefRevIdeal.τ).loc Cert.RefRevIdeal.main_arg0)) (m ((c.tc : Thread Cert.RefRevIdeal.nD Cert.RefRevIdeal.τ).loc Cert.RefRevIdeal.main_arg1)) (m ((c.tc : Thread Cert.RefRevIdeal.nD Cert.RefRevIdeal.τ).loc Cert.RefRevIdeal.main_arg2)) (m ((c.tc : Thread Cert.RefRevIdeal.nD Cert.RefRevIdeal.τ).loc Cert.RefRevIdeal.main_arg3)) (m ((c.tc : Thread Cert.RefRevIdeal.nD Cert.RefRevIdeal.τ).loc Cert.RefRevIdeal.main_arg4)) (m ((c.tc : Thread Cert.RefRevIdeal.nD Cert.RefRevIdeal.τ).loc Cert.RefRevIdeal.main_arg5)) (m ((c.tc : Thread Cert.RefRevIdeal.nD Cert.RefRevIdeal.τ).loc Cert.RefRevIdeal.main_arg6)) (m ((c.tc : Thread Cert.RefRevIdeal.nD Cert.RefRevIdeal.τ).loc Cert.RefRevIdeal.main_arg7)) (m ((c.tc : Thread Cert.RefRevIdeal.nD Cert.RefRevIdeal.τ).loc Cert.RefRevIdeal.main_arg8)) (m ((c.tc : Thread Cert.RefRevIdeal.nD Cert.RefRevIdeal.τ).loc Cert.RefRevIdeal.main_arg9)) (m ((c.tc : Thread Cert.RefRevIdeal.nD Cert.RefRevIdeal.τ).loc Cert.RefRevIdeal.main_arg10)) (m ((c.tc : Thread Cert.RefRevIdeal.nD Cert.RefRevIdeal.τ).loc Cert.RefRevIdeal.main_arg11)) (m ((c.tc : Thread Cert.RefRevIdeal.nD Cert.RefRevIdeal.τ).loc Cert.RefRevIdeal.main_arg12)) (m ((c.tc : Thread Cert.RefRevIdeal.nD Cert.RefRevIdeal.τ).loc Cert.RefRevIdeal.main_arg13)) (m ((c.tc : Thread Cert.RefRevIdeal.nD Cert.RefRevIdeal.τ).loc Cert.RefRevIdeal.main_arg14)) (m ((c.tc : Thread Cert.RefRevIdeal.nD Cert.RefRevIdeal.τ).loc Cert.RefRevIdeal.main_arg15)) (m ((c.tc : Thread Cert.RefRevIdeal.nD Cert.RefRevIdeal.τ).loc Cert.RefRevIdeal.main_arg16)) (m ((c.tc : Thread Cert.RefRevIdeal.nD Cert.RefRevIdeal.τ).loc Cert.RefRevIdeal.main_arg17)) (m ((c.tc : Thread Cert.RefRevIdeal.nD Cert.RefRevIdeal.τ).loc Cert.RefRevIdeal.main_arg18)) (m ((c.tc : Thread Cert.RefRevIdeal.nD Cert.RefRevIdeal.τ).loc Cert.RefRevIdeal.main_arg19))).1 = (fun _ => 1#1)
    ∧ (Cert.Pre_finite.fn (F := Ideal) (m ((c.tc : Thread Cert.RefRevIdeal.nD Cert.RefRevIdeal.τ).loc Cert.RefRevIdeal.main_arg0)) (m ((c.tc : Thread Cert.RefRevIdeal.nD Cert.RefRevIdeal.τ).loc Cert.RefRevIdeal.main_arg1)) (m ((c.tc : Thread Cert.RefRevIdeal.nD Cert.RefRevIdeal.τ).loc Cert.RefRevIdeal.main_arg2)) (m ((c.tc : Thread Cert.RefRevIdeal.nD Cert.RefRevIdeal.τ).loc Cert.RefRevIdeal.main_arg3)) (m ((c.tc : Thread Cert.RefRevIdeal.nD Cert.RefRevIdeal.τ).loc Cert.RefRevIdeal.main_arg4)) (m ((c.tc : Thread Cert.RefRevIdeal.nD Cert.RefRevIdeal.τ).loc Cert.RefRevIdeal.main_arg5)) (m ((c.tc : Thread Cert.RefRevIdeal.nD Cert.RefRevIdeal.τ).loc Cert.RefRevIdeal.main_arg6)) (m ((c.tc : Thread Cert.RefRevIdeal.nD Cert.RefRevIdeal.τ).loc Cert.RefRevIdeal.main_arg7)) (m ((c.tc : Thread Cert.RefRevIdeal.nD Cert.RefRevIdeal.τ).loc Cert.RefRevIdeal.main_arg8)) (m ((c.tc : Thread Cert.RefRevIdeal.nD Cert.RefRevIdeal.τ).loc Cert.RefRevIdeal.main_arg9)) (m ((c.tc : Thread Cert.RefRevIdeal.nD Cert.RefRevIdeal.τ).loc Cert.RefRevIdeal.main_arg10)) (m ((c.tc : Thread Cert.RefRevIdeal.nD Cert.RefRevIdeal.τ).loc Cert.RefRevIdeal.main_arg11)) (m ((c.tc : Thread Cert.RefRevIdeal.nD Cert.RefRevIdeal.τ).loc Cert.RefRevIdeal.main_arg12)) (m ((c.tc : Thread Cert.RefRevIdeal.nD Cert.RefRevIdeal.τ).loc Cert.RefRevIdeal.main_arg13)) (m ((c.tc : Thread Cert.RefRevIdeal.nD Cert.RefRevIdeal.τ).loc Cert.RefRevIdeal.main_arg14)) (m ((c.tc : Thread Cert.RefRevIdeal.nD Cert.RefRevIdeal.τ).loc Cert.RefRevIdeal.main_arg15)) (m ((c.tc : Thread Cert.RefRevIdeal.nD Cert.RefRevIdeal.τ).loc Cert.RefRevIdeal.main_arg16)) (m ((c.tc : Thread Cert.RefRevIdeal.nD Cert.RefRevIdeal.τ).loc Cert.RefRevIdeal.main_arg17)) (m ((c.tc : Thread Cert.RefRevIdeal.nD Cert.RefRevIdeal.τ).loc Cert.RefRevIdeal.main_arg18)) (m ((c.tc : Thread Cert.RefRevIdeal.nD Cert.RefRevIdeal.τ).loc Cert.RefRevIdeal.main_arg19))).2.1 = (fun _ => 1#1)
    ∧ (Cert.Pre_finite.fn (F := Ideal) (m ((c.tc : Thread Cert.RefRevIdeal.nD Cert.RefRevIdeal.τ).loc Cert.RefRevIdeal.main_arg0)) (m ((c.tc : Thread Cert.RefRevIdeal.nD Cert.RefRevIdeal.τ).loc Cert.RefRevIdeal.main_arg1)) (m ((c.tc : Thread Cert.RefRevIdeal.nD Cert.RefRevIdeal.τ).loc Cert.RefRevIdeal.main_arg2)) (m ((c.tc : Thread Cert.RefRevIdeal.nD Cert.RefRevIdeal.τ).loc Cert.RefRevIdeal.main_arg3)) (m ((c.tc : Thread Cert.RefRevIdeal.nD Cert.RefRevIdeal.τ).loc Cert.RefRevIdeal.main_arg4)) (m ((c.tc : Thread Cert.RefRevIdeal.nD Cert.RefRevIdeal.τ).loc Cert.RefRevIdeal.main_arg5)) (m ((c.tc : Thread Cert.RefRevIdeal.nD Cert.RefRevIdeal.τ).loc Cert.RefRevIdeal.main_arg6)) (m ((c.tc : Thread Cert.RefRevIdeal.nD Cert.RefRevIdeal.τ).loc Cert.RefRevIdeal.main_arg7)) (m ((c.tc : Thread Cert.RefRevIdeal.nD Cert.RefRevIdeal.τ).loc Cert.RefRevIdeal.main_arg8)) (m ((c.tc : Thread Cert.RefRevIdeal.nD Cert.RefRevIdeal.τ).loc Cert.RefRevIdeal.main_arg9)) (m ((c.tc : Thread Cert.RefRevIdeal.nD Cert.RefRevIdeal.τ).loc Cert.RefRevIdeal.main_arg10)) (m ((c.tc : Thread Cert.RefRevIdeal.nD Cert.RefRevIdeal.τ).loc Cert.RefRevIdeal.main_arg11)) (m ((c.tc : Thread Cert.RefRevIdeal.nD Cert.RefRevIdeal.τ).loc Cert.RefRevIdeal.main_arg12)) (m ((c.tc : Thread Cert.RefRevIdeal.nD Cert.RefRevIdeal.τ).loc Cert.RefRevIdeal.main_arg13)) (m ((c.tc : Thread Cert.RefRevIdeal.nD Cert.RefRevIdeal.τ).loc Cert.RefRevIdeal.main_arg14)) (m ((c.tc : Thread Cert.RefRevIdeal.nD Cert.RefRevIdeal.τ).loc Cert.RefRevIdeal.main_arg15)) (m ((c.tc : Thread Cert.RefRevIdeal.nD Cert.RefRevIdeal.τ).loc Cert.RefRevIdeal.main_arg16)) (m ((c.tc : Thread Cert.RefRevIdeal.nD Cert.RefRevIdeal.τ).loc Cert.RefRevIdeal.main_arg17)) (m ((c.tc : Thread Cert.RefRevIdeal.nD Cert.RefRevIdeal.τ).loc Cert.RefRevIdeal.main_arg18)) (m ((c.tc : Thread Cert.RefRevIdeal.nD Cert.RefRevIdeal.τ).loc Cert.RefRevIdeal.main_arg19))).2.2.1 = (fun _ => 1#1)
    ∧ (Cert.Pre_finite.fn (F := Ideal) (m ((c.tc : Thread Cert.RefRevIdeal.nD Cert.RefRevIdeal.τ).loc Cert.RefRevIdeal.main_arg0)) (m ((c.tc : Thread Cert.RefRevIdeal.nD Cert.RefRevIdeal.τ).loc Cert.RefRevIdeal.main_arg1)) (m ((c.tc : Thread Cert.RefRevIdeal.nD Cert.RefRevIdeal.τ).loc Cert.RefRevIdeal.main_arg2)) (m ((c.tc : Thread Cert.RefRevIdeal.nD Cert.RefRevIdeal.τ).loc Cert.RefRevIdeal.main_arg3)) (m ((c.tc : Thread Cert.RefRevIdeal.nD Cert.RefRevIdeal.τ).loc Cert.RefRevIdeal.main_arg4)) (m ((c.tc : Thread Cert.RefRevIdeal.nD Cert.RefRevIdeal.τ).loc Cert.RefRevIdeal.main_arg5)) (m ((c.tc : Thread Cert.RefRevIdeal.nD Cert.RefRevIdeal.τ).loc Cert.RefRevIdeal.main_arg6)) (m ((c.tc : Thread Cert.RefRevIdeal.nD Cert.RefRevIdeal.τ).loc Cert.RefRevIdeal.main_arg7)) (m ((c.tc : Thread Cert.RefRevIdeal.nD Cert.RefRevIdeal.τ).loc Cert.RefRevIdeal.main_arg8)) (m ((c.tc : Thread Cert.RefRevIdeal.nD Cert.RefRevIdeal.τ).loc Cert.RefRevIdeal.main_arg9)) (m ((c.tc : Thread Cert.RefRevIdeal.nD Cert.RefRevIdeal.τ).loc Cert.RefRevIdeal.main_arg10)) (m ((c.tc : Thread Cert.RefRevIdeal.nD Cert.RefRevIdeal.τ).loc Cert.RefRevIdeal.main_arg11)) (m ((c.tc : Thread Cert.RefRevIdeal.nD Cert.RefRevIdeal.τ).loc Cert.RefRevIdeal.main_arg12)) (m ((c.tc : Thread Cert.RefRevIdeal.nD Cert.RefRevIdeal.τ).loc Cert.RefRevIdeal.main_arg13)) (m ((c.tc : Thread Cert.RefRevIdeal.nD Cert.RefRevIdeal.τ).loc Cert.RefRevIdeal.main_arg14)) (m ((c.tc : Thread Cert.RefRevIdeal.nD Cert.RefRevIdeal.τ).loc Cert.RefRevIdeal.main_arg15)) (m ((c.tc : Thread Cert.RefRevIdeal.nD Cert.RefRevIdeal.τ).loc Cert.RefRevIdeal.main_arg16)) (m ((c.tc : Thread Cert.RefRevIdeal.nD Cert.RefRevIdeal.τ).loc Cert.RefRevIdeal.main_arg17)) (m ((c.tc : Thread Cert.RefRevIdeal.nD Cert.RefRevIdeal.τ).loc Cert.RefRevIdeal.main_arg18)) (m ((c.tc : Thread Cert.RefRevIdeal.nD Cert.RefRevIdeal.τ).loc Cert.RefRevIdeal.main_arg19))).2.2.2.1 = (fun _ => 1#1)
    ∧ (Cert.Pre_finite.fn (F := Ideal) (m ((c.tc : Thread Cert.RefRevIdeal.nD Cert.RefRevIdeal.τ).loc Cert.RefRevIdeal.main_arg0)) (m ((c.tc : Thread Cert.RefRevIdeal.nD Cert.RefRevIdeal.τ).loc Cert.RefRevIdeal.main_arg1)) (m ((c.tc : Thread Cert.RefRevIdeal.nD Cert.RefRevIdeal.τ).loc Cert.RefRevIdeal.main_arg2)) (m ((c.tc : Thread Cert.RefRevIdeal.nD Cert.RefRevIdeal.τ).loc Cert.RefRevIdeal.main_arg3)) (m ((c.tc : Thread Cert.RefRevIdeal.nD Cert.RefRevIdeal.τ).loc Cert.RefRevIdeal.main_arg4)) (m ((c.tc : Thread Cert.RefRevIdeal.nD Cert.RefRevIdeal.τ).loc Cert.RefRevIdeal.main_arg5)) (m ((c.tc : Thread Cert.RefRevIdeal.nD Cert.RefRevIdeal.τ).loc Cert.RefRevIdeal.main_arg6)) (m ((c.tc : Thread Cert.RefRevIdeal.nD Cert.RefRevIdeal.τ).loc Cert.RefRevIdeal.main_arg7)) (m ((c.tc : Thread Cert.RefRevIdeal.nD Cert.RefRevIdeal.τ).loc Cert.RefRevIdeal.main_arg8)) (m ((c.tc : Thread Cert.RefRevIdeal.nD Cert.RefRevIdeal.τ).loc Cert.RefRevIdeal.main_arg9)) (m ((c.tc : Thread Cert.RefRevIdeal.nD Cert.RefRevIdeal.τ).loc Cert.RefRevIdeal.main_arg10)) (m ((c.tc : Thread Cert.RefRevIdeal.nD Cert.RefRevIdeal.τ).loc Cert.RefRevIdeal.main_arg11)) (m ((c.tc : Thread Cert.RefRevIdeal.nD Cert.RefRevIdeal.τ).loc Cert.RefRevIdeal.main_arg12)) (m ((c.tc : Thread Cert.RefRevIdeal.nD Cert.RefRevIdeal.τ).loc Cert.RefRevIdeal.main_arg13)) (m ((c.tc : Thread Cert.RefRevIdeal.nD Cert.RefRevIdeal.τ).loc Cert.RefRevIdeal.main_arg14)) (m ((c.tc : Thread Cert.RefRevIdeal.nD Cert.RefRevIdeal.τ).loc Cert.RefRevIdeal.main_arg15)) (m ((c.tc : Thread Cert.RefRevIdeal.nD Cert.RefRevIdeal.τ).loc Cert.RefRevIdeal.main_arg16)) (m ((c.tc : Thread Cert.RefRevIdeal.nD Cert.RefRevIdeal.τ).loc Cert.RefRevIdeal.main_arg17)) (m ((c.tc : Thread Cert.RefRevIdeal.nD Cert.RefRevIdeal.τ).loc Cert.RefRevIdeal.main_arg18)) (m ((c.tc : Thread Cert.RefRevIdeal.nD Cert.RefRevIdeal.τ).loc Cert.RefRevIdeal.main_arg19))).2.2.2.2.1 = (fun _ => 1#1)
    ∧ (Cert.Pre_finite.fn (F := Ideal) (m ((c.tc : Thread Cert.RefRevIdeal.nD Cert.RefRevIdeal.τ).loc Cert.RefRevIdeal.main_arg0)) (m ((c.tc : Thread Cert.RefRevIdeal.nD Cert.RefRevIdeal.τ).loc Cert.RefRevIdeal.main_arg1)) (m ((c.tc : Thread Cert.RefRevIdeal.nD Cert.RefRevIdeal.τ).loc Cert.RefRevIdeal.main_arg2)) (m ((c.tc : Thread Cert.RefRevIdeal.nD Cert.RefRevIdeal.τ).loc Cert.RefRevIdeal.main_arg3)) (m ((c.tc : Thread Cert.RefRevIdeal.nD Cert.RefRevIdeal.τ).loc Cert.RefRevIdeal.main_arg4)) (m ((c.tc : Thread Cert.RefRevIdeal.nD Cert.RefRevIdeal.τ).loc Cert.RefRevIdeal.main_arg5)) (m ((c.tc : Thread Cert.RefRevIdeal.nD Cert.RefRevIdeal.τ).loc Cert.RefRevIdeal.main_arg6)) (m ((c.tc : Thread Cert.RefRevIdeal.nD Cert.RefRevIdeal.τ).loc Cert.RefRevIdeal.main_arg7)) (m ((c.tc : Thread Cert.RefRevIdeal.nD Cert.RefRevIdeal.τ).loc Cert.RefRevIdeal.main_arg8)) (m ((c.tc : Thread Cert.RefRevIdeal.nD Cert.RefRevIdeal.τ).loc Cert.RefRevIdeal.main_arg9)) (m ((c.tc : Thread Cert.RefRevIdeal.nD Cert.RefRevIdeal.τ).loc Cert.RefRevIdeal.main_arg10)) (m ((c.tc : Thread Cert.RefRevIdeal.nD Cert.RefRevIdeal.τ).loc Cert.RefRevIdeal.main_arg11)) (m ((c.tc : Thread Cert.RefRevIdeal.nD Cert.RefRevIdeal.τ).loc Cert.RefRevIdeal.main_arg12)) (m ((c.tc : Thread Cert.RefRevIdeal.nD Cert.RefRevIdeal.τ).loc Cert.RefRevIdeal.main_arg13)) (m ((c.tc : Thread Cert.RefRevIdeal.nD Cert.RefRevIdeal.τ).loc Cert.RefRevIdeal.main_arg14)) (m ((c.tc : Thread Cert.RefRevIdeal.nD Cert.RefRevIdeal.τ).loc Cert.RefRevIdeal.main_arg15)) (m ((c.tc : Thread Cert.RefRevIdeal.nD Cert.RefRevIdeal.τ).loc Cert.RefRevIdeal.main_arg16)) (m ((c.tc : Thread Cert.RefRevIdeal.nD Cert.RefRevIdeal.τ).loc Cert.RefRevIdeal.main_arg17)) (m ((c.tc : Thread Cert.RefRevIdeal.nD Cert.RefRevIdeal.τ).loc Cert.RefRevIdeal.main_arg18)) (m ((c.tc : Thread Cert.RefRevIdeal.nD Cert.RefRevIdeal.τ).loc Cert.RefRevIdeal.main_arg19))).2.2.2.2.2.1 = (fun _ => 1#1)
    ∧ (Cert.Pre_finite.fn (F := Ideal) (m ((c.tc : Thread Cert.RefRevIdeal.nD Cert.RefRevIdeal.τ).loc Cert.RefRevIdeal.main_arg0)) (m ((c.tc : Thread Cert.RefRevIdeal.nD Cert.RefRevIdeal.τ).loc Cert.RefRevIdeal.main_arg1)) (m ((c.tc : Thread Cert.RefRevIdeal.nD Cert.RefRevIdeal.τ).loc Cert.RefRevIdeal.main_arg2)) (m ((c.tc : Thread Cert.RefRevIdeal.nD Cert.RefRevIdeal.τ).loc Cert.RefRevIdeal.main_arg3)) (m ((c.tc : Thread Cert.RefRevIdeal.nD Cert.RefRevIdeal.τ).loc Cert.RefRevIdeal.main_arg4)) (m ((c.tc : Thread Cert.RefRevIdeal.nD Cert.RefRevIdeal.τ).loc Cert.RefRevIdeal.main_arg5)) (m ((c.tc : Thread Cert.RefRevIdeal.nD Cert.RefRevIdeal.τ).loc Cert.RefRevIdeal.main_arg6)) (m ((c.tc : Thread Cert.RefRevIdeal.nD Cert.RefRevIdeal.τ).loc Cert.RefRevIdeal.main_arg7)) (m ((c.tc : Thread Cert.RefRevIdeal.nD Cert.RefRevIdeal.τ).loc Cert.RefRevIdeal.main_arg8)) (m ((c.tc : Thread Cert.RefRevIdeal.nD Cert.RefRevIdeal.τ).loc Cert.RefRevIdeal.main_arg9)) (m ((c.tc : Thread Cert.RefRevIdeal.nD Cert.RefRevIdeal.τ).loc Cert.RefRevIdeal.main_arg10)) (m ((c.tc : Thread Cert.RefRevIdeal.nD Cert.RefRevIdeal.τ).loc Cert.RefRevIdeal.main_arg11)) (m ((c.tc : Thread Cert.RefRevIdeal.nD Cert.RefRevIdeal.τ).loc Cert.RefRevIdeal.main_arg12)) (m ((c.tc : Thread Cert.RefRevIdeal.nD Cert.RefRevIdeal.τ).loc Cert.RefRevIdeal.main_arg13)) (m ((c.tc : Thread Cert.RefRevIdeal.nD Cert.RefRevIdeal.τ).loc Cert.RefRevIdeal.main_arg14)) (m ((c.tc : Thread Cert.RefRevIdeal.nD Cert.RefRevIdeal.τ).loc Cert.RefRevIdeal.main_arg15)) (m ((c.tc : Thread Cert.RefRevIdeal.nD Cert.RefRevIdeal.τ).loc Cert.RefRevIdeal.main_arg16)) (m ((c.tc : Thread Cert.RefRevIdeal.nD Cert.RefRevIdeal.τ).loc Cert.RefRevIdeal.main_arg17)) (m ((c.tc : Thread Cert.RefRevIdeal.nD Cert.RefRevIdeal.τ).loc Cert.RefRevIdeal.main_arg18)) (m ((c.tc : Thread Cert.RefRevIdeal.nD Cert.RefRevIdeal.τ).loc Cert.RefRevIdeal.main_arg19))).2.2.2.2.2.2.1 = (fun _ => 1#1)
    ∧ (Cert.Pre_finite.fn (F := Ideal) (m ((c.tc : Thread Cert.RefRevIdeal.nD Cert.RefRevIdeal.τ).loc Cert.RefRevIdeal.main_arg0)) (m ((c.tc : Thread Cert.RefRevIdeal.nD Cert.RefRevIdeal.τ).loc Cert.RefRevIdeal.main_arg1)) (m ((c.tc : Thread Cert.RefRevIdeal.nD Cert.RefRevIdeal.τ).loc Cert.RefRevIdeal.main_arg2)) (m ((c.tc : Thread Cert.RefRevIdeal.nD Cert.RefRevIdeal.τ).loc Cert.RefRevIdeal.main_arg3)) (m ((c.tc : Thread Cert.RefRevIdeal.nD Cert.RefRevIdeal.τ).loc Cert.RefRevIdeal.main_arg4)) (m ((c.tc : Thread Cert.RefRevIdeal.nD Cert.RefRevIdeal.τ).loc Cert.RefRevIdeal.main_arg5)) (m ((c.tc : Thread Cert.RefRevIdeal.nD Cert.RefRevIdeal.τ).loc Cert.RefRevIdeal.main_arg6)) (m ((c.tc : Thread Cert.RefRevIdeal.nD Cert.RefRevIdeal.τ).loc Cert.RefRevIdeal.main_arg7)) (m ((c.tc : Thread Cert.RefRevIdeal.nD Cert.RefRevIdeal.τ).loc Cert.RefRevIdeal.main_arg8)) (m ((c.tc : Thread Cert.RefRevIdeal.nD Cert.RefRevIdeal.τ).loc Cert.RefRevIdeal.main_arg9)) (m ((c.tc : Thread Cert.RefRevIdeal.nD Cert.RefRevIdeal.τ).loc Cert.RefRevIdeal.main_arg10)) (m ((c.tc : Thread Cert.RefRevIdeal.nD Cert.RefRevIdeal.τ).loc Cert.RefRevIdeal.main_arg11)) (m ((c.tc : Thread Cert.RefRevIdeal.nD Cert.RefRevIdeal.τ).loc Cert.RefRevIdeal.main_arg12)) (m ((c.tc : Thread Cert.RefRevIdeal.nD Cert.RefRevIdeal.τ).loc Cert.RefRevIdeal.main_arg13)) (m ((c.tc : Thread Cert.RefRevIdeal.nD Cert.RefRevIdeal.τ).loc Cert.RefRevIdeal.main_arg14)) (m ((c.tc : Thread Cert.RefRevIdeal.nD Cert.RefRevIdeal.τ).loc Cert.RefRevIdeal.main_arg15)) (m ((c.tc : Thread Cert.RefRevIdeal.nD Cert.RefRevIdeal.τ).loc Cert.RefRevIdeal.main_arg16)) (m ((c.tc : Thread Cert.RefRevIdeal.nD Cert.RefRevIdeal.τ).loc Cert.RefRevIdeal.main_arg17)) (m ((c.tc : Thread Cert.RefRevIdeal.nD Cert.RefRevIdeal.τ).loc Cert.RefRevIdeal.main_arg18)) (m ((c.tc : Thread Cert.RefRevIdeal.nD Cert.RefRevIdeal.τ).loc Cert.RefRevIdeal.main_arg19))).2.2.2.2.2.2.2.1 = (fun _ => 1#1)
    ∧ (Cert.Pre_finite.fn (F := Ideal) (m ((c.tc : Thread Cert.RefRevIdeal.nD Cert.RefRevIdeal.τ).loc Cert.RefRevIdeal.main_arg0)) (m ((c.tc : Thread Cert.RefRevIdeal.nD Cert.RefRevIdeal.τ).loc Cert.RefRevIdeal.main_arg1)) (m ((c.tc : Thread Cert.RefRevIdeal.nD Cert.RefRevIdeal.τ).loc Cert.RefRevIdeal.main_arg2)) (m ((c.tc : Thread Cert.RefRevIdeal.nD Cert.RefRevIdeal.τ).loc Cert.RefRevIdeal.main_arg3)) (m ((c.tc : Thread Cert.RefRevIdeal.nD Cert.RefRevIdeal.τ).loc Cert.RefRevIdeal.main_arg4)) (m ((c.tc : Thread Cert.RefRevIdeal.nD Cert.RefRevIdeal.τ).loc Cert.RefRevIdeal.main_arg5)) (m ((c.tc : Thread Cert.RefRevIdeal.nD Cert.RefRevIdeal.τ).loc Cert.RefRevIdeal.main_arg6)) (m ((c.tc : Thread Cert.RefRevIdeal.nD Cert.RefRevIdeal.τ).loc Cert.RefRevIdeal.main_arg7)) (m ((c.tc : Thread Cert.RefRevIdeal.nD Cert.RefRevIdeal.τ).loc Cert.RefRevIdeal.main_arg8)) (m ((c.tc : Thread Cert.RefRevIdeal.nD Cert.RefRevIdeal.τ).loc Cert.RefRevIdeal.main_arg9)) (m ((c.tc : Thread Cert.RefRevIdeal.nD Cert.RefRevIdeal.τ).loc Cert.RefRevIdeal.main_arg10)) (m ((c.tc : Thread Cert.RefRevIdeal.nD Cert.RefRevIdeal.τ).loc Cert.RefRevIdeal.main_arg11)) (m ((c.tc : Thread Cert.RefRevIdeal.nD Cert.RefRevIdeal.τ).loc Cert.RefRevIdeal.main_arg12)) (m ((c.tc : Thread Cert.RefRevIdeal.nD Cert.RefRevIdeal.τ).loc Cert.RefRevIdeal.main_arg13)) (m ((c.tc : Thread Cert.RefRevIdeal.nD Cert.RefRevIdeal.τ).loc Cert.RefRevIdeal.main_arg14)) (m ((c.tc : Thread Cert.RefRevIdeal.nD Cert.RefRevIdeal.τ).loc Cert.RefRevIdeal.main_arg15)) (m ((c.tc : Thread Cert.RefRevIdeal.nD Cert.RefRevIdeal.τ).loc Cert.RefRevIdeal.main_arg16)) (m ((c.tc : Thread Cert.RefRevIdeal.nD Cert.RefRevIdeal.τ).loc Cert.RefRevIdeal.main_arg17)) (m ((c.tc : Thread Cert.RefRevIdeal.nD Cert.RefRevIdeal.τ).loc Cert.RefRevIdeal.main_arg18)) (m ((c.tc : Thread Cert.RefRevIdeal.nD Cert.RefRevIdeal.τ).loc Cert.RefRevIdeal.main_arg19))).2.2.2.2.2.2.2.2.1 = (fun _ => 1#1)
    ∧ (Cert.Pre_finite.fn (F := Ideal) (m ((c.tc : Thread Cert.RefRevIdeal.nD Cert.RefRevIdeal.τ).loc Cert.RefRevIdeal.main_arg0)) (m ((c.tc : Thread Cert.RefRevIdeal.nD Cert.RefRevIdeal.τ).loc Cert.RefRevIdeal.main_arg1)) (m ((c.tc : Thread Cert.RefRevIdeal.nD Cert.RefRevIdeal.τ).loc Cert.RefRevIdeal.main_arg2)) (m ((c.tc : Thread Cert.RefRevIdeal.nD Cert.RefRevIdeal.τ).loc Cert.RefRevIdeal.main_arg3)) (m ((c.tc : Thread Cert.RefRevIdeal.nD Cert.RefRevIdeal.τ).loc Cert.RefRevIdeal.main_arg4)) (m ((c.tc : Thread Cert.RefRevIdeal.nD Cert.RefRevIdeal.τ).loc Cert.RefRevIdeal.main_arg5)) (m ((c.tc : Thread Cert.RefRevIdeal.nD Cert.RefRevIdeal.τ).loc Cert.RefRevIdeal.main_arg6)) (m ((c.tc : Thread Cert.RefRevIdeal.nD Cert.RefRevIdeal.τ).loc Cert.RefRevIdeal.main_arg7)) (m ((c.tc : Thread Cert.RefRevIdeal.nD Cert.RefRevIdeal.τ).loc Cert.RefRevIdeal.main_arg8)) (m ((c.tc : Thread Cert.RefRevIdeal.nD Cert.RefRevIdeal.τ).loc Cert.RefRevIdeal.main_arg9)) (m ((c.tc : Thread Cert.RefRevIdeal.nD Cert.RefRevIdeal.τ).loc Cert.RefRevIdeal.main_arg10)) (m ((c.tc : Thread Cert.RefRevIdeal.nD Cert.RefRevIdeal.τ).loc Cert.RefRevIdeal.main_arg11)) (m ((c.tc : Thread Cert.RefRevIdeal.nD Cert.RefRevIdeal.τ).loc Cert.RefRevIdeal.main_arg12)) (m ((c.tc : Thread Cert.RefRevIdeal.nD Cert.RefRevIdeal.τ).loc Cert.RefRevIdeal.main_arg13)) (m ((c.tc : Thread Cert.RefRevIdeal.nD Cert.RefRevIdeal.τ).loc Cert.RefRevIdeal.main_arg14)) (m ((c.tc : Thread Cert.RefRevIdeal.nD Cert.RefRevIdeal.τ).loc Cert.RefRevIdeal.main_arg15)) (m ((c.tc : Thread Cert.RefRevIdeal.nD Cert.RefRevIdeal.τ).loc Cert.RefRevIdeal.main_arg16)) (m ((c.tc : Thread Cert.RefRevIdeal.nD Cert.RefRevIdeal.τ).loc Cert.RefRevIdeal.main_arg17)) (m ((c.tc : Thread Cert.RefRevIdeal.nD Cert.RefRevIdeal.τ).loc Cert.RefRevIdeal.main_arg18)) (m ((c.tc : Thread Cert.RefRevIdeal.nD Cert.RefRevIdeal.τ).loc Cert.RefRevIdeal.main_arg19))).2.2.2.2.2.2.2.2.2.1 = (fun _ => 1#1)
    ∧ (Cert.Pre_finite.fn (F := Ideal) (m ((c.tc : Thread Cert.RefRevIdeal.nD Cert.RefRevIdeal.τ).loc Cert.RefRevIdeal.main_arg0)) (m ((c.tc : Thread Cert.RefRevIdeal.nD Cert.RefRevIdeal.τ).loc Cert.RefRevIdeal.main_arg1)) (m ((c.tc : Thread Cert.RefRevIdeal.nD Cert.RefRevIdeal.τ).loc Cert.RefRevIdeal.main_arg2)) (m ((c.tc : Thread Cert.RefRevIdeal.nD Cert.RefRevIdeal.τ).loc Cert.RefRevIdeal.main_arg3)) (m ((c.tc : Thread Cert.RefRevIdeal.nD Cert.RefRevIdeal.τ).loc Cert.RefRevIdeal.main_arg4)) (m ((c.tc : Thread Cert.RefRevIdeal.nD Cert.RefRevIdeal.τ).loc Cert.RefRevIdeal.main_arg5)) (m ((c.tc : Thread Cert.RefRevIdeal.nD Cert.RefRevIdeal.τ).loc Cert.RefRevIdeal.main_arg6)) (m ((c.tc : Thread Cert.RefRevIdeal.nD Cert.RefRevIdeal.τ).loc Cert.RefRevIdeal.main_arg7)) (m ((c.tc : Thread Cert.RefRevIdeal.nD Cert.RefRevIdeal.τ).loc Cert.RefRevIdeal.main_arg8)) (m ((c.tc : Thread Cert.RefRevIdeal.nD Cert.RefRevIdeal.τ).loc Cert.RefRevIdeal.main_arg9)) (m ((c.tc : Thread Cert.RefRevIdeal.nD Cert.RefRevIdeal.τ).loc Cert.RefRevIdeal.main_arg10)) (m ((c.tc : Thread Cert.RefRevIdeal.nD Cert.RefRevIdeal.τ).loc Cert.RefRevIdeal.main_arg11)) (m ((c.tc : Thread Cert.RefRevIdeal.nD Cert.RefRevIdeal.τ).loc Cert.RefRevIdeal.main_arg12)) (m ((c.tc : Thread Cert.RefRevIdeal.nD Cert.RefRevIdeal.τ).loc Cert.RefRevIdeal.main_arg13)) (m ((c.tc : Thread Cert.RefRevIdeal.nD Cert.RefRevIdeal.τ).loc Cert.RefRevIdeal.main_arg14)) (m ((c.tc : Thread Cert.RefRevIdeal.nD Cert.RefRevIdeal.τ).loc Cert.RefRevIdeal.main_arg15)) (m ((c.tc : Thread Cert.RefRevIdeal.nD Cert.RefRevIdeal.τ).loc Cert.RefRevIdeal.main_arg16)) (m ((c.tc : Thread Cert.RefRevIdeal.nD Cert.RefRevIdeal.τ).loc Cert.RefRevIdeal.main_arg17)) (m ((c.tc : Thread Cert.RefRevIdeal.nD Cert.RefRevIdeal.τ).loc Cert.RefRevIdeal.main_arg18)) (m ((c.tc : Thread Cert.RefRevIdeal.nD Cert.RefRevIdeal.τ).loc Cert.RefRevIdeal.main_arg19))).2.2.2.2.2.2.2.2.2.2.1 = (fun _ => 1#1)
    ∧ (Cert.Pre_finite.fn (F := Ideal) (m ((c.tc : Thread Cert.RefRevIdeal.nD Cert.RefRevIdeal.τ).loc Cert.RefRevIdeal.main_arg0)) (m ((c.tc : Thread Cert.RefRevIdeal.nD Cert.RefRevIdeal.τ).loc Cert.RefRevIdeal.main_arg1)) (m ((c.tc : Thread Cert.RefRevIdeal.nD Cert.RefRevIdeal.τ).loc Cert.RefRevIdeal.main_arg2)) (m ((c.tc : Thread Cert.RefRevIdeal.nD Cert.RefRevIdeal.τ).loc Cert.RefRevIdeal.main_arg3)) (m ((c.tc : Thread Cert.RefRevIdeal.nD Cert.RefRevIdeal.τ).loc Cert.RefRevIdeal.main_arg4)) (m ((c.tc : Thread Cert.RefRevIdeal.nD Cert.RefRevIdeal.τ).loc Cert.RefRevIdeal.main_arg5)) (m ((c.tc : Thread Cert.RefRevIdeal.nD Cert.RefRevIdeal.τ).loc Cert.RefRevIdeal.main_arg6)) (m ((c.tc : Thread Cert.RefRevIdeal.nD Cert.RefRevIdeal.τ).loc Cert.RefRevIdeal.main_arg7)) (m ((c.tc : Thread Cert.RefRevIdeal.nD Cert.RefRevIdeal.τ).loc Cert.RefRevIdeal.main_arg8)) (m ((c.tc : Thread Cert.RefRevIdeal.nD Cert.RefRevIdeal.τ).loc Cert.RefRevIdeal.main_arg9)) (m ((c.tc : Thread Cert.RefRevIdeal.nD Cert.RefRevIdeal.τ).loc Cert.RefRevIdeal.main_arg10)) (m ((c.tc : Thread Cert.RefRevIdeal.nD Cert.RefRevIdeal.τ).loc Cert.RefRevIdeal.main_arg11)) (m ((c.tc : Thread Cert.RefRevIdeal.nD Cert.RefRevIdeal.τ).loc Cert.RefRevIdeal.main_arg12)) (m ((c.tc : Thread Cert.RefRevIdeal.nD Cert.RefRevIdeal.τ).loc Cert.RefRevIdeal.main_arg13)) (m ((c.tc : Thread Cert.RefRevIdeal.nD Cert.RefRevIdeal.τ).loc Cert.RefRevIdeal.main_arg14)) (m ((c.tc : Thread Cert.RefRevIdeal.nD Cert.RefRevIdeal.τ).loc Cert.RefRevIdeal.main_arg15)) (m ((c.tc : Thread Cert.RefRevIdeal.nD Cert.RefRevIdeal.τ).loc Cert.RefRevIdeal.main_arg16)) (m ((c.tc : Thread Cert.RefRevIdeal.nD Cert.RefRevIdeal.τ).loc Cert.RefRevIdeal.main_arg17)) (m ((c.tc : Thread Cert.RefRevIdeal.nD Cert.RefRevIdeal.τ).loc Cert.RefRevIdeal.main_arg18)) (m ((c.tc : Thread Cert.RefRevIdeal.nD Cert.RefRevIdeal.τ).loc Cert.RefRevIdeal.main_arg19))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_RefRevIdeal [hRefRevIdeal : Cert.RefRevIdeal.Facts] : Prop :=
  ∀ (m : (ℓ : Loc Cert.RefRevIdeal.nD Cert.RefRevIdeal.τ Cert.RefRevIdeal.sig) → Buf (Elt Ideal) ℓ) (g : Dev Cert.RefRevIdeal.nD → PrngReg), Pre_RefRevIdeal m →
    θ_run (Cert.RefRevIdeal.defs (F := Ideal)) (onTc (τ := Cert.RefRevIdeal.τ) (Cert.RefRevIdeal.main (F := Ideal))) ⟨m, fun _ => 0, g⟩ (fun r => (∀ c : Dev Cert.RefRevIdeal.nD,
      r.2.mem ((c.tc : Thread Cert.RefRevIdeal.nD Cert.RefRevIdeal.τ).loc Cert.RefRevIdeal.main_arg0) = m ((c.tc : Thread Cert.RefRevIdeal.nD Cert.RefRevIdeal.τ).loc Cert.RefRevIdeal.main_arg0)
      ∧ r.2.mem ((c.tc : Thread Cert.RefRevIdeal.nD Cert.RefRevIdeal.τ).loc Cert.RefRevIdeal.main_arg1) = m ((c.tc : Thread Cert.RefRevIdeal.nD Cert.RefRevIdeal.τ).loc Cert.RefRevIdeal.main_arg1)
      ∧ r.2.mem ((c.tc : Thread Cert.RefRevIdeal.nD Cert.RefRevIdeal.τ).loc Cert.RefRevIdeal.main_arg2) = m ((c.tc : Thread Cert.RefRevIdeal.nD Cert.RefRevIdeal.τ).loc Cert.RefRevIdeal.main_arg2)
      ∧ r.2.mem ((c.tc : Thread Cert.RefRevIdeal.nD Cert.RefRevIdeal.τ).loc Cert.RefRevIdeal.main_arg3) = m ((c.tc : Thread Cert.RefRevIdeal.nD Cert.RefRevIdeal.τ).loc Cert.RefRevIdeal.main_arg3)
      ∧ r.2.mem ((c.tc : Thread Cert.RefRevIdeal.nD Cert.RefRevIdeal.τ).loc Cert.RefRevIdeal.main_arg4) = m ((c.tc : Thread Cert.RefRevIdeal.nD Cert.RefRevIdeal.τ).loc Cert.RefRevIdeal.main_arg4)
      ∧ r.2.mem ((c.tc : Thread Cert.RefRevIdeal.nD Cert.RefRevIdeal.τ).loc Cert.RefRevIdeal.main_arg5) = m ((c.tc : Thread Cert.RefRevIdeal.nD Cert.RefRevIdeal.τ).loc Cert.RefRevIdeal.main_arg5)
      ∧ r.2.mem ((c.tc : Thread Cert.RefRevIdeal.nD Cert.RefRevIdeal.τ).loc Cert.RefRevIdeal.main_arg6) = m ((c.tc : Thread Cert.RefRevIdeal.nD Cert.RefRevIdeal.τ).loc Cert.RefRevIdeal.main_arg6)
      ∧ r.2.mem ((c.tc : Thread Cert.RefRevIdeal.nD Cert.RefRevIdeal.τ).loc Cert.RefRevIdeal.main_arg7) = m ((c.tc : Thread Cert.RefRevIdeal.nD Cert.RefRevIdeal.τ).loc Cert.RefRevIdeal.main_arg7)
      ∧ r.2.mem ((c.tc : Thread Cert.RefRevIdeal.nD Cert.RefRevIdeal.τ).loc Cert.RefRevIdeal.main_arg8) = m ((c.tc : Thread Cert.RefRevIdeal.nD Cert.RefRevIdeal.τ).loc Cert.RefRevIdeal.main_arg8)
      ∧ r.2.mem ((c.tc : Thread Cert.RefRevIdeal.nD Cert.RefRevIdeal.τ).loc Cert.RefRevIdeal.main_arg9) = m ((c.tc : Thread Cert.RefRevIdeal.nD Cert.RefRevIdeal.τ).loc Cert.RefRevIdeal.main_arg9)
      ∧ r.2.mem ((c.tc : Thread Cert.RefRevIdeal.nD Cert.RefRevIdeal.τ).loc Cert.RefRevIdeal.main_arg10) = m ((c.tc : Thread Cert.RefRevIdeal.nD Cert.RefRevIdeal.τ).loc Cert.RefRevIdeal.main_arg10)
      ∧ r.2.mem ((c.tc : Thread Cert.RefRevIdeal.nD Cert.RefRevIdeal.τ).loc Cert.RefRevIdeal.main_arg11) = m ((c.tc : Thread Cert.RefRevIdeal.nD Cert.RefRevIdeal.τ).loc Cert.RefRevIdeal.main_arg11)
      ∧ r.2.mem ((c.tc : Thread Cert.RefRevIdeal.nD Cert.RefRevIdeal.τ).loc Cert.RefRevIdeal.main_arg12) = m ((c.tc : Thread Cert.RefRevIdeal.nD Cert.RefRevIdeal.τ).loc Cert.RefRevIdeal.main_arg12)
      ∧ r.2.mem ((c.tc : Thread Cert.RefRevIdeal.nD Cert.RefRevIdeal.τ).loc Cert.RefRevIdeal.main_arg13) = m ((c.tc : Thread Cert.RefRevIdeal.nD Cert.RefRevIdeal.τ).loc Cert.RefRevIdeal.main_arg13)
      ∧ r.2.mem ((c.tc : Thread Cert.RefRevIdeal.nD Cert.RefRevIdeal.τ).loc Cert.RefRevIdeal.main_arg14) = m ((c.tc : Thread Cert.RefRevIdeal.nD Cert.RefRevIdeal.τ).loc Cert.RefRevIdeal.main_arg14)
      ∧ r.2.mem ((c.tc : Thread Cert.RefRevIdeal.nD Cert.RefRevIdeal.τ).loc Cert.RefRevIdeal.main_arg15) = m ((c.tc : Thread Cert.RefRevIdeal.nD Cert.RefRevIdeal.τ).loc Cert.RefRevIdeal.main_arg15)
      ∧ r.2.mem ((c.tc : Thread Cert.RefRevIdeal.nD Cert.RefRevIdeal.τ).loc Cert.RefRevIdeal.main_arg16) = m ((c.tc : Thread Cert.RefRevIdeal.nD Cert.RefRevIdeal.τ).loc Cert.RefRevIdeal.main_arg16)
      ∧ r.2.mem ((c.tc : Thread Cert.RefRevIdeal.nD Cert.RefRevIdeal.τ).loc Cert.RefRevIdeal.main_arg17) = m ((c.tc : Thread Cert.RefRevIdeal.nD Cert.RefRevIdeal.τ).loc Cert.RefRevIdeal.main_arg17)
      ∧ r.2.mem ((c.tc : Thread Cert.RefRevIdeal.nD Cert.RefRevIdeal.τ).loc Cert.RefRevIdeal.main_arg18) = m ((c.tc : Thread Cert.RefRevIdeal.nD Cert.RefRevIdeal.τ).loc Cert.RefRevIdeal.main_arg18)
      ∧ r.2.mem ((c.tc : Thread Cert.RefRevIdeal.nD Cert.RefRevIdeal.τ).loc Cert.RefRevIdeal.main_arg19) = m ((c.tc : Thread Cert.RefRevIdeal.nD Cert.RefRevIdeal.τ).loc Cert.RefRevIdeal.main_arg19))
      ∧ r.2.sem = fun _ => 0)

def quiescent_RefRevIdeal_pre_finite [hRefRevIdeal : Cert.RefRevIdeal.Facts] [hPre_finite : Cert.Pre_finite.Facts] : Prop :=
  ∀ (m : (ℓ : Loc Cert.RefRevIdeal.nD Cert.RefRevIdeal.τ Cert.RefRevIdeal.sig) → Buf (Elt Ideal) ℓ) (g : Dev Cert.RefRevIdeal.nD → PrngReg), Pre_RefRevIdeal_finite m →
    θ_run (Cert.RefRevIdeal.defs (F := Ideal)) (onTc (τ := Cert.RefRevIdeal.τ) (Cert.RefRevIdeal.main (F := Ideal))) ⟨m, fun _ => 0, g⟩ (fun r => (∀ c : Dev Cert.RefRevIdeal.nD,
      r.2.mem ((c.tc : Thread Cert.RefRevIdeal.nD Cert.RefRevIdeal.τ).loc Cert.RefRevIdeal.main_arg0) = m ((c.tc : Thread Cert.RefRevIdeal.nD Cert.RefRevIdeal.τ).loc Cert.RefRevIdeal.main_arg0)
      ∧ r.2.mem ((c.tc : Thread Cert.RefRevIdeal.nD Cert.RefRevIdeal.τ).loc Cert.RefRevIdeal.main_arg1) = m ((c.tc : Thread Cert.RefRevIdeal.nD Cert.RefRevIdeal.τ).loc Cert.RefRevIdeal.main_arg1)
      ∧ r.2.mem ((c.tc : Thread Cert.RefRevIdeal.nD Cert.RefRevIdeal.τ).loc Cert.RefRevIdeal.main_arg2) = m ((c.tc : Thread Cert.RefRevIdeal.nD Cert.RefRevIdeal.τ).loc Cert.RefRevIdeal.main_arg2)
      ∧ r.2.mem ((c.tc : Thread Cert.RefRevIdeal.nD Cert.RefRevIdeal.τ).loc Cert.RefRevIdeal.main_arg3) = m ((c.tc : Thread Cert.RefRevIdeal.nD Cert.RefRevIdeal.τ).loc Cert.RefRevIdeal.main_arg3)
      ∧ r.2.mem ((c.tc : Thread Cert.RefRevIdeal.nD Cert.RefRevIdeal.τ).loc Cert.RefRevIdeal.main_arg4) = m ((c.tc : Thread Cert.RefRevIdeal.nD Cert.RefRevIdeal.τ).loc Cert.RefRevIdeal.main_arg4)
      ∧ r.2.mem ((c.tc : Thread Cert.RefRevIdeal.nD Cert.RefRevIdeal.τ).loc Cert.RefRevIdeal.main_arg5) = m ((c.tc : Thread Cert.RefRevIdeal.nD Cert.RefRevIdeal.τ).loc Cert.RefRevIdeal.main_arg5)
      ∧ r.2.mem ((c.tc : Thread Cert.RefRevIdeal.nD Cert.RefRevIdeal.τ).loc Cert.RefRevIdeal.main_arg6) = m ((c.tc : Thread Cert.RefRevIdeal.nD Cert.RefRevIdeal.τ).loc Cert.RefRevIdeal.main_arg6)
      ∧ r.2.mem ((c.tc : Thread Cert.RefRevIdeal.nD Cert.RefRevIdeal.τ).loc Cert.RefRevIdeal.main_arg7) = m ((c.tc : Thread Cert.RefRevIdeal.nD Cert.RefRevIdeal.τ).loc Cert.RefRevIdeal.main_arg7)
      ∧ r.2.mem ((c.tc : Thread Cert.RefRevIdeal.nD Cert.RefRevIdeal.τ).loc Cert.RefRevIdeal.main_arg8) = m ((c.tc : Thread Cert.RefRevIdeal.nD Cert.RefRevIdeal.τ).loc Cert.RefRevIdeal.main_arg8)
      ∧ r.2.mem ((c.tc : Thread Cert.RefRevIdeal.nD Cert.RefRevIdeal.τ).loc Cert.RefRevIdeal.main_arg9) = m ((c.tc : Thread Cert.RefRevIdeal.nD Cert.RefRevIdeal.τ).loc Cert.RefRevIdeal.main_arg9)
      ∧ r.2.mem ((c.tc : Thread Cert.RefRevIdeal.nD Cert.RefRevIdeal.τ).loc Cert.RefRevIdeal.main_arg10) = m ((c.tc : Thread Cert.RefRevIdeal.nD Cert.RefRevIdeal.τ).loc Cert.RefRevIdeal.main_arg10)
      ∧ r.2.mem ((c.tc : Thread Cert.RefRevIdeal.nD Cert.RefRevIdeal.τ).loc Cert.RefRevIdeal.main_arg11) = m ((c.tc : Thread Cert.RefRevIdeal.nD Cert.RefRevIdeal.τ).loc Cert.RefRevIdeal.main_arg11)
      ∧ r.2.mem ((c.tc : Thread Cert.RefRevIdeal.nD Cert.RefRevIdeal.τ).loc Cert.RefRevIdeal.main_arg12) = m ((c.tc : Thread Cert.RefRevIdeal.nD Cert.RefRevIdeal.τ).loc Cert.RefRevIdeal.main_arg12)
      ∧ r.2.mem ((c.tc : Thread Cert.RefRevIdeal.nD Cert.RefRevIdeal.τ).loc Cert.RefRevIdeal.main_arg13) = m ((c.tc : Thread Cert.RefRevIdeal.nD Cert.RefRevIdeal.τ).loc Cert.RefRevIdeal.main_arg13)
      ∧ r.2.mem ((c.tc : Thread Cert.RefRevIdeal.nD Cert.RefRevIdeal.τ).loc Cert.RefRevIdeal.main_arg14) = m ((c.tc : Thread Cert.RefRevIdeal.nD Cert.RefRevIdeal.τ).loc Cert.RefRevIdeal.main_arg14)
      ∧ r.2.mem ((c.tc : Thread Cert.RefRevIdeal.nD Cert.RefRevIdeal.τ).loc Cert.RefRevIdeal.main_arg15) = m ((c.tc : Thread Cert.RefRevIdeal.nD Cert.RefRevIdeal.τ).loc Cert.RefRevIdeal.main_arg15)
      ∧ r.2.mem ((c.tc : Thread Cert.RefRevIdeal.nD Cert.RefRevIdeal.τ).loc Cert.RefRevIdeal.main_arg16) = m ((c.tc : Thread Cert.RefRevIdeal.nD Cert.RefRevIdeal.τ).loc Cert.RefRevIdeal.main_arg16)
      ∧ r.2.mem ((c.tc : Thread Cert.RefRevIdeal.nD Cert.RefRevIdeal.τ).loc Cert.RefRevIdeal.main_arg17) = m ((c.tc : Thread Cert.RefRevIdeal.nD Cert.RefRevIdeal.τ).loc Cert.RefRevIdeal.main_arg17)
      ∧ r.2.mem ((c.tc : Thread Cert.RefRevIdeal.nD Cert.RefRevIdeal.τ).loc Cert.RefRevIdeal.main_arg18) = m ((c.tc : Thread Cert.RefRevIdeal.nD Cert.RefRevIdeal.τ).loc Cert.RefRevIdeal.main_arg18)
      ∧ r.2.mem ((c.tc : Thread Cert.RefRevIdeal.nD Cert.RefRevIdeal.τ).loc Cert.RefRevIdeal.main_arg19) = m ((c.tc : Thread Cert.RefRevIdeal.nD Cert.RefRevIdeal.τ).loc Cert.RefRevIdeal.main_arg19))
      ∧ r.2.sem = fun _ => 0)

def preserves_Kernel_KernelIdeal : Prop :=
  True

def disproves_algebraic_KernelAtIdeal_ReferenceAtIdeal [hKernelAtIdeal : Cert.KernelAtIdeal.Facts] [hReferenceAtIdeal : Cert.ReferenceAtIdeal.Facts] : Prop :=
  ∀ (m : (ℓ : Loc Cert.KernelAtIdeal.nD Cert.KernelAtIdeal.τ Cert.KernelAtIdeal.sig) → Buf (Elt Ideal) ℓ) (g : Dev Cert.KernelAtIdeal.nD → PrngReg)
    (m' : (ℓ : Loc Cert.ReferenceAtIdeal.nD Cert.ReferenceAtIdeal.τ Cert.ReferenceAtIdeal.sig) → Buf (Elt Ideal) ℓ) (g' : Dev Cert.ReferenceAtIdeal.nD → PrngReg),
    (∀ c : Dev Cert.KernelAtIdeal.nD,
      m ((c.tc : Thread Cert.KernelAtIdeal.nD Cert.KernelAtIdeal.τ).loc Cert.KernelAtIdeal.main_arg0) = Cert.Cx_KernelAtIdeal.arg0 (F := Ideal)) →
    (∀ c : Dev Cert.KernelAtIdeal.nD,
      m' ((c.tc : Thread Cert.ReferenceAtIdeal.nD Cert.ReferenceAtIdeal.τ).loc Cert.ReferenceAtIdeal.main_arg0) = m ((c.tc : Thread Cert.KernelAtIdeal.nD Cert.KernelAtIdeal.τ).loc Cert.KernelAtIdeal.main_arg0)) →
    Pre_KernelAtIdeal m
    ∧ ∃ (v0 : (c : Dev Cert.KernelAtIdeal.nD) → Buf (Elt Ideal) ((c.tc : Thread Cert.KernelAtIdeal.nD Cert.KernelAtIdeal.τ).loc Cert.KernelAtIdeal.main_v106)),
      θ_run (Cert.KernelAtIdeal.defs (F := Ideal)) (onTc (τ := Cert.KernelAtIdeal.τ) (Cert.KernelAtIdeal.main (F := Ideal))) ⟨m, fun _ => 0, g⟩ (fun r => ¬ (∀ c : Dev Cert.KernelAtIdeal.nD,
          r.2.mem ((c.tc : Thread Cert.KernelAtIdeal.nD Cert.KernelAtIdeal.τ).loc Cert.KernelAtIdeal.main_v106) = v0 c))
      ∧ θ_run (Cert.ReferenceAtIdeal.defs (F := Ideal)) (onTc (τ := Cert.ReferenceAtIdeal.τ) (Cert.ReferenceAtIdeal.main (F := Ideal))) ⟨m', fun _ => 0, g'⟩ (fun r => ∀ c : Dev Cert.ReferenceAtIdeal.nD,
          r.2.mem ((c.tc : Thread Cert.ReferenceAtIdeal.nD Cert.ReferenceAtIdeal.τ).loc Cert.ReferenceAtIdeal.main_v343) = v0 c)

def algebraic_KernelIdeal_RefRevIdeal_pre_finite [hKernelIdeal : Cert.KernelIdeal.Facts] [hRefRevIdeal : Cert.RefRevIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefRevIdeal.nD Cert.RefRevIdeal.τ Cert.RefRevIdeal.sig) → Buf (Elt Ideal) ℓ) (g' : Dev Cert.RefRevIdeal.nD → PrngReg), Pre_KernelIdeal_finite m →
    (∀ c : Dev Cert.KernelIdeal.nD,
      m' ((c.tc : Thread Cert.RefRevIdeal.nD Cert.RefRevIdeal.τ).loc Cert.RefRevIdeal.main_arg0) = m ((c.tc : Thread Cert.KernelIdeal.nD Cert.KernelIdeal.τ).loc Cert.KernelIdeal.main_arg0)
      ∧ m' ((c.tc : Thread Cert.RefRevIdeal.nD Cert.RefRevIdeal.τ).loc Cert.RefRevIdeal.main_arg1) = m ((c.tc : Thread Cert.KernelIdeal.nD Cert.KernelIdeal.τ).loc Cert.KernelIdeal.main_arg1)
      ∧ m' ((c.tc : Thread Cert.RefRevIdeal.nD Cert.RefRevIdeal.τ).loc Cert.RefRevIdeal.main_arg2) = m ((c.tc : Thread Cert.KernelIdeal.nD Cert.KernelIdeal.τ).loc Cert.KernelIdeal.main_arg2)
      ∧ m' ((c.tc : Thread Cert.RefRevIdeal.nD Cert.RefRevIdeal.τ).loc Cert.RefRevIdeal.main_arg3) = m ((c.tc : Thread Cert.KernelIdeal.nD Cert.KernelIdeal.τ).loc Cert.KernelIdeal.main_arg3)
      ∧ m' ((c.tc : Thread Cert.RefRevIdeal.nD Cert.RefRevIdeal.τ).loc Cert.RefRevIdeal.main_arg4) = m ((c.tc : Thread Cert.KernelIdeal.nD Cert.KernelIdeal.τ).loc Cert.KernelIdeal.main_arg4)
      ∧ m' ((c.tc : Thread Cert.RefRevIdeal.nD Cert.RefRevIdeal.τ).loc Cert.RefRevIdeal.main_arg5) = m ((c.tc : Thread Cert.KernelIdeal.nD Cert.KernelIdeal.τ).loc Cert.KernelIdeal.main_arg5)
      ∧ m' ((c.tc : Thread Cert.RefRevIdeal.nD Cert.RefRevIdeal.τ).loc Cert.RefRevIdeal.main_arg6) = m ((c.tc : Thread Cert.KernelIdeal.nD Cert.KernelIdeal.τ).loc Cert.KernelIdeal.main_arg6)
      ∧ m' ((c.tc : Thread Cert.RefRevIdeal.nD Cert.RefRevIdeal.τ).loc Cert.RefRevIdeal.main_arg7) = m ((c.tc : Thread Cert.KernelIdeal.nD Cert.KernelIdeal.τ).loc Cert.KernelIdeal.main_arg7)
      ∧ m' ((c.tc : Thread Cert.RefRevIdeal.nD Cert.RefRevIdeal.τ).loc Cert.RefRevIdeal.main_arg8) = m ((c.tc : Thread Cert.KernelIdeal.nD Cert.KernelIdeal.τ).loc Cert.KernelIdeal.main_arg8)
      ∧ m' ((c.tc : Thread Cert.RefRevIdeal.nD Cert.RefRevIdeal.τ).loc Cert.RefRevIdeal.main_arg9) = m ((c.tc : Thread Cert.KernelIdeal.nD Cert.KernelIdeal.τ).loc Cert.KernelIdeal.main_arg9)
      ∧ m' ((c.tc : Thread Cert.RefRevIdeal.nD Cert.RefRevIdeal.τ).loc Cert.RefRevIdeal.main_arg10) = m ((c.tc : Thread Cert.KernelIdeal.nD Cert.KernelIdeal.τ).loc Cert.KernelIdeal.main_arg10)
      ∧ m' ((c.tc : Thread Cert.RefRevIdeal.nD Cert.RefRevIdeal.τ).loc Cert.RefRevIdeal.main_arg11) = m ((c.tc : Thread Cert.KernelIdeal.nD Cert.KernelIdeal.τ).loc Cert.KernelIdeal.main_arg11)
      ∧ m' ((c.tc : Thread Cert.RefRevIdeal.nD Cert.RefRevIdeal.τ).loc Cert.RefRevIdeal.main_arg12) = m ((c.tc : Thread Cert.KernelIdeal.nD Cert.KernelIdeal.τ).loc Cert.KernelIdeal.main_arg12)
      ∧ m' ((c.tc : Thread Cert.RefRevIdeal.nD Cert.RefRevIdeal.τ).loc Cert.RefRevIdeal.main_arg13) = m ((c.tc : Thread Cert.KernelIdeal.nD Cert.KernelIdeal.τ).loc Cert.KernelIdeal.main_arg13)
      ∧ m' ((c.tc : Thread Cert.RefRevIdeal.nD Cert.RefRevIdeal.τ).loc Cert.RefRevIdeal.main_arg14) = m ((c.tc : Thread Cert.KernelIdeal.nD Cert.KernelIdeal.τ).loc Cert.KernelIdeal.main_arg14)
      ∧ m' ((c.tc : Thread Cert.RefRevIdeal.nD Cert.RefRevIdeal.τ).loc Cert.RefRevIdeal.main_arg15) = m ((c.tc : Thread Cert.KernelIdeal.nD Cert.KernelIdeal.τ).loc Cert.KernelIdeal.main_arg15)
      ∧ m' ((c.tc : Thread Cert.RefRevIdeal.nD Cert.RefRevIdeal.τ).loc Cert.RefRevIdeal.main_arg16) = m ((c.tc : Thread Cert.KernelIdeal.nD Cert.KernelIdeal.τ).loc Cert.KernelIdeal.main_arg16)
      ∧ m' ((c.tc : Thread Cert.RefRevIdeal.nD Cert.RefRevIdeal.τ).loc Cert.RefRevIdeal.main_arg17) = m ((c.tc : Thread Cert.KernelIdeal.nD Cert.KernelIdeal.τ).loc Cert.KernelIdeal.main_arg17)
      ∧ m' ((c.tc : Thread Cert.RefRevIdeal.nD Cert.RefRevIdeal.τ).loc Cert.RefRevIdeal.main_arg18) = m ((c.tc : Thread Cert.KernelIdeal.nD Cert.KernelIdeal.τ).loc Cert.KernelIdeal.main_arg18)
      ∧ m' ((c.tc : Thread Cert.RefRevIdeal.nD Cert.RefRevIdeal.τ).loc Cert.RefRevIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.RefRevIdeal.defs (F := Ideal)) (onTc (τ := Cert.RefRevIdeal.τ) (Cert.RefRevIdeal.main (F := Ideal))) ⟨m', fun _ => 0, g'⟩ (fun r => ∀ c : Dev Cert.RefRevIdeal.nD,
          r.2.mem ((c.tc : Thread Cert.RefRevIdeal.nD Cert.RefRevIdeal.τ).loc Cert.RefRevIdeal.main_v331) = v0 c
          ∧ r.2.mem ((c.tc : Thread Cert.RefRevIdeal.nD Cert.RefRevIdeal.τ).loc Cert.RefRevIdeal.main_arg0) = m' ((c.tc : Thread Cert.RefRevIdeal.nD Cert.RefRevIdeal.τ).loc Cert.RefRevIdeal.main_arg0)
          ∧ r.2.mem ((c.tc : Thread Cert.RefRevIdeal.nD Cert.RefRevIdeal.τ).loc Cert.RefRevIdeal.main_arg1) = m' ((c.tc : Thread Cert.RefRevIdeal.nD Cert.RefRevIdeal.τ).loc Cert.RefRevIdeal.main_arg1)
          ∧ r.2.mem ((c.tc : Thread Cert.RefRevIdeal.nD Cert.RefRevIdeal.τ).loc Cert.RefRevIdeal.main_arg2) = m' ((c.tc : Thread Cert.RefRevIdeal.nD Cert.RefRevIdeal.τ).loc Cert.RefRevIdeal.main_arg2)
          ∧ r.2.mem ((c.tc : Thread Cert.RefRevIdeal.nD Cert.RefRevIdeal.τ).loc Cert.RefRevIdeal.main_arg3) = m' ((c.tc : Thread Cert.RefRevIdeal.nD Cert.RefRevIdeal.τ).loc Cert.RefRevIdeal.main_arg3)
          ∧ r.2.mem ((c.tc : Thread Cert.RefRevIdeal.nD Cert.RefRevIdeal.τ).loc Cert.RefRevIdeal.main_arg4) = m' ((c.tc : Thread Cert.RefRevIdeal.nD Cert.RefRevIdeal.τ).loc Cert.RefRevIdeal.main_arg4)
          ∧ r.2.mem ((c.tc : Thread Cert.RefRevIdeal.nD Cert.RefRevIdeal.τ).loc Cert.RefRevIdeal.main_arg5) = m' ((c.tc : Thread Cert.RefRevIdeal.nD Cert.RefRevIdeal.τ).loc Cert.RefRevIdeal.main_arg5)
          ∧ r.2.mem ((c.tc : Thread Cert.RefRevIdeal.nD Cert.RefRevIdeal.τ).loc Cert.RefRevIdeal.main_arg6) = m' ((c.tc : Thread Cert.RefRevIdeal.nD Cert.RefRevIdeal.τ).loc Cert.RefRevIdeal.main_arg6)
          ∧ r.2.mem ((c.tc : Thread Cert.RefRevIdeal.nD Cert.RefRevIdeal.τ).loc Cert.RefRevIdeal.main_arg7) = m' ((c.tc : Thread Cert.RefRevIdeal.nD Cert.RefRevIdeal.τ).loc Cert.RefRevIdeal.main_arg7)
          ∧ r.2.mem ((c.tc : Thread Cert.RefRevIdeal.nD Cert.RefRevIdeal.τ).loc Cert.RefRevIdeal.main_arg8) = m' ((c.tc : Thread Cert.RefRevIdeal.nD Cert.RefRevIdeal.τ).loc Cert.RefRevIdeal.main_arg8)
          ∧ r.2.mem ((c.tc : Thread Cert.RefRevIdeal.nD Cert.RefRevIdeal.τ).loc Cert.RefRevIdeal.main_arg9) = m' ((c.tc : Thread Cert.RefRevIdeal.nD Cert.RefRevIdeal.τ).loc Cert.RefRevIdeal.main_arg9)
          ∧ r.2.mem ((c.tc : Thread Cert.RefRevIdeal.nD Cert.RefRevIdeal.τ).loc Cert.RefRevIdeal.main_arg10) = m' ((c.tc : Thread Cert.RefRevIdeal.nD Cert.RefRevIdeal.τ).loc Cert.RefRevIdeal.main_arg10)
          ∧ r.2.mem ((c.tc : Thread Cert.RefRevIdeal.nD Cert.RefRevIdeal.τ).loc Cert.RefRevIdeal.main_arg11) = m' ((c.tc : Thread Cert.RefRevIdeal.nD Cert.RefRevIdeal.τ).loc Cert.RefRevIdeal.main_arg11)
          ∧ r.2.mem ((c.tc : Thread Cert.RefRevIdeal.nD Cert.RefRevIdeal.τ).loc Cert.RefRevIdeal.main_arg12) = m' ((c.tc : Thread Cert.RefRevIdeal.nD Cert.RefRevIdeal.τ).loc Cert.RefRevIdeal.main_arg12)
          ∧ r.2.mem ((c.tc : Thread Cert.RefRevIdeal.nD Cert.RefRevIdeal.τ).loc Cert.RefRevIdeal.main_arg13) = m' ((c.tc : Thread Cert.RefRevIdeal.nD Cert.RefRevIdeal.τ).loc Cert.RefRevIdeal.main_arg13)
          ∧ r.2.mem ((c.tc : Thread Cert.RefRevIdeal.nD Cert.RefRevIdeal.τ).loc Cert.RefRevIdeal.main_arg14) = m' ((c.tc : Thread Cert.RefRevIdeal.nD Cert.RefRevIdeal.τ).loc Cert.RefRevIdeal.main_arg14)
          ∧ r.2.mem ((c.tc : Thread Cert.RefRevIdeal.nD Cert.RefRevIdeal.τ).loc Cert.RefRevIdeal.main_arg15) = m' ((c.tc : Thread Cert.RefRevIdeal.nD Cert.RefRevIdeal.τ).loc Cert.RefRevIdeal.main_arg15)
          ∧ r.2.mem ((c.tc : Thread Cert.RefRevIdeal.nD Cert.RefRevIdeal.τ).loc Cert.RefRevIdeal.main_arg16) = m' ((c.tc : Thread Cert.RefRevIdeal.nD Cert.RefRevIdeal.τ).loc Cert.RefRevIdeal.main_arg16)
          ∧ r.2.mem ((c.tc : Thread Cert.RefRevIdeal.nD Cert.RefRevIdeal.τ).loc Cert.RefRevIdeal.main_arg17) = m' ((c.tc : Thread Cert.RefRevIdeal.nD Cert.RefRevIdeal.τ).loc Cert.RefRevIdeal.main_arg17)
          ∧ r.2.mem ((c.tc : Thread Cert.RefRevIdeal.nD Cert.RefRevIdeal.τ).loc Cert.RefRevIdeal.main_arg18) = m' ((c.tc : Thread Cert.RefRevIdeal.nD Cert.RefRevIdeal.τ).loc Cert.RefRevIdeal.main_arg18)
          ∧ r.2.mem ((c.tc : Thread Cert.RefRevIdeal.nD Cert.RefRevIdeal.τ).loc Cert.RefRevIdeal.main_arg19) = m' ((c.tc : Thread Cert.RefRevIdeal.nD Cert.RefRevIdeal.τ).loc Cert.RefRevIdeal.main_arg19))

def Claim : Prop :=
  ∃ (hKernel : Cert.Kernel.Facts) (hKernelIdeal : Cert.KernelIdeal.Facts) (hReferenceIdeal : Cert.ReferenceIdeal.Facts) (hKernelAtIdeal : Cert.KernelAtIdeal.Facts) (hReferenceAtIdeal : Cert.ReferenceAtIdeal.Facts) (hRefRevIdeal : Cert.RefRevIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_RefRevIdeal (hRefRevIdeal := hRefRevIdeal)
    ∧ quiescent_RefRevIdeal_pre_finite (hRefRevIdeal := hRefRevIdeal) (hPre_finite := hPre_finite)
    ∧ preserves_Kernel_KernelIdeal
    ∧ disproves_algebraic_KernelAtIdeal_ReferenceAtIdeal (hKernelAtIdeal := hKernelAtIdeal) (hReferenceAtIdeal := hReferenceAtIdeal)
    ∧ algebraic_KernelIdeal_RefRevIdeal_pre_finite (hKernelIdeal := hKernelIdeal) (hRefRevIdeal := hRefRevIdeal) (hPre_finite := hPre_finite)
-- ==== Cx_KernelAtIdeal.lean ====
noncomputable def arg0_words : Fin 2 → Fin 2 → Fin 128 → Fin 1 → BitVec 32 :=
  ![
    ![
      ![
        ![0x3F800000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32] ],
      ![
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32] ] ],
    ![
      ![
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32] ],
      ![
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32],
        ![0x00000000#32] ] ] ]
noncomputable def arg0 {F : FTy → Type} [FloatOps F] : FVec F (⟨4, ![2, 2, 128, 1]⟩ : Shape) .f32 := fun i => FloatOps.ofBits .f32 (arg0_words (i 0) (i 1) (i 2) (i 3))
-- ==== Pre_finite.lean ====
abbrev S64x64x64 : Shape := ⟨3, ![64, 64, 64]⟩
abbrev S4x4x1x64 : Shape := ⟨4, ![4, 4, 1, 64]⟩
abbrev S64 : Shape := ⟨1, ![64]⟩
abbrev S4x4x64x128 : Shape := ⟨4, ![4, 4, 64, 128]⟩
abbrev S128 : Shape := ⟨1, ![128]⟩
abbrev S4x4x128x256 : Shape := ⟨4, ![4, 4, 128, 256]⟩
abbrev S256 : Shape := ⟨1, ![256]⟩
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S512x64 : Shape := ⟨2, ![512, 64]⟩
abbrev S2048x1024 : Shape := ⟨2, ![2048, 1024]⟩
abbrev S8x8x1024x256 : Shape := ⟨4, ![8, 8, 1024, 256]⟩
abbrev S4x4x256x128 : Shape := ⟨4, ![4, 4, 256, 128]⟩
abbrev S2x2x128x1 : Shape := ⟨4, ![2, 2, 128, 1]⟩
abbrev S1 : Shape := ⟨1, ![1]⟩
abbrev S_ : Shape := ⟨0, ![]⟩

class Facts : Prop where
  bcast_S_S64x64x64 : S_.BroadcastsInDim S64x64x64 (![] : Fin 0 → Fin S64x64x64.rank)
  bcast_S_S4x4x1x64 : S_.BroadcastsInDim S4x4x1x64 (![] : Fin 0 → Fin S4x4x1x64.rank)
  bcast_S_S64 : S_.BroadcastsInDim S64 (![] : Fin 0 → Fin S64.rank)
  bcast_S_S4x4x64x128 : S_.BroadcastsInDim S4x4x64x128 (![] : Fin 0 → Fin S4x4x64x128.rank)
  bcast_S_S128 : S_.BroadcastsInDim S128 (![] : Fin 0 → Fin S128.rank)
  bcast_S_S4x4x128x256 : S_.BroadcastsInDim S4x4x128x256 (![] : Fin 0 → Fin S4x4x128x256.rank)
  bcast_S_S256 : S_.BroadcastsInDim S256 (![] : Fin 0 → Fin S256.rank)
  bcast_S_S16384x1024 : S_.BroadcastsInDim S16384x1024 (![] : Fin 0 → Fin S16384x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S2048 : S_.BroadcastsInDim S2048 (![] : Fin 0 → Fin S2048.rank)
  bcast_S_S512x64 : S_.BroadcastsInDim S512x64 (![] : Fin 0 → Fin S512x64.rank)

variable [Facts]

def fn_part1 {F : FTy → Type} [FloatOps F] (main_arg6 : FVec F S256 .f32) (main_arg7 : FVec F S16384x1024 .f32) (main_arg8 : FVec F S1024 .f32) (main_arg9 : FVec F S1024x2048 .f32) (main_arg10 : FVec F S2048 .f32) (main_arg11 : FVec F S512x64 .f32) (main_v2 : IVec S64x64x64 1) (main_v5 : IVec S4x4x1x64 1) (main_v8 : IVec S64 1) (main_v11 : IVec S4x4x64x128 1) (main_v14 : IVec S128 1) (main_v17 : IVec S4x4x128x256 1) : IVec S64x64x64 1 × IVec S4x4x1x64 1 × IVec S64 1 × IVec S4x4x64x128 1 × IVec S128 1 × IVec S4x4x128x256 1 × IVec S256 1 × IVec S16384x1024 1 × IVec S1024 1 × IVec S1024x2048 1 × IVec S2048 1 × IVec S512x64 1 :=
  let main_v18 : FVec F S256 .f32 := Host.absf main_arg6
  let main_cst_5 : FVec F S_ .f32 := constant S_ .f32 0x7F800000#32
  let main_v19 : FVec F S256 .f32 := broadcastInDim S256 ![] bcast_S_S256 main_cst_5
  let main_v20 : IVec S256 1 := cmpf .olt main_v18 main_v19
  let main_v21 : FVec F S16384x1024 .f32 := Host.absf main_arg7
  let main_cst_6 : FVec F S_ .f32 := constant S_ .f32 0x7F800000#32
  let main_v22 : FVec F S16384x1024 .f32 := broadcastInDim S16384x1024 ![] bcast_S_S16384x1024 main_cst_6
  let main_v23 : IVec S16384x1024 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S1024x2048 .f32 := Host.absf main_arg9
  let main_cst_8 : FVec F S_ .f32 := constant S_ .f32 0x7F800000#32
  let main_v28 : FVec F S1024x2048 .f32 := broadcastInDim S1024x2048 ![] bcast_S_S1024x2048 main_cst_8
  let main_v29 : IVec S1024x2048 1 := cmpf .olt main_v27 main_v28
  let main_v30 : FVec F S2048 .f32 := Host.absf main_arg10
  let main_cst_9 : FVec F S_ .f32 := constant S_ .f32 0x7F800000#32
  let main_v31 : FVec F S2048 .f32 := broadcastInDim S2048 ![] bcast_S_S2048 main_cst_9
  let main_v32 : IVec S2048 1 := cmpf .olt main_v30 main_v31
  let main_v33 : FVec F S512x64 .f32 := Host.absf main_arg11
  let main_cst_10 : FVec F S_ .f32 := constant S_ .f32 0x7F800000#32
  let main_v34 : FVec F S512x64 .f32 := broadcastInDim S512x64 ![] bcast_S_S512x64 main_cst_10
  let main_v35 : IVec S512x64 1 := cmpf .olt main_v33 main_v34
  (main_v2, main_v5, main_v8, main_v11, main_v14, main_v17, main_v20, main_v23, main_v26, main_v29, main_v32, main_v35)

def fn {F : FTy → Type} [FloatOps F] (main_arg0 : FVec F S64x64x64 .f32) (main_arg1 : FVec F S4x4x1x64 .f32) (main_arg2 : FVec F S64 .f32) (main_arg3 : FVec F S4x4x64x128 .f32) (main_arg4 : FVec F S128 .f32) (main_arg5 : FVec F S4x4x128x256 .f32) (main_arg6 : FVec F S256 .f32) (main_arg7 : FVec F S16384x1024 .f32) (main_arg8 : FVec F S1024 .f32) (main_arg9 : FVec F S1024x2048 .f32) (main_arg10 : FVec F S2048 .f32) (main_arg11 : FVec F S512x64 .f32) (main_arg12 : FVec F S2048x1024 .f32) (main_arg13 : FVec F S1024 .f32) (main_arg14 : FVec F S8x8x1024x256 .f32) (main_arg15 : FVec F S256 .f32) (main_arg16 : FVec F S4x4x256x128 .f32) (main_arg17 : FVec F S128 .f32) (main_arg18 : FVec F S2x2x128x1 .f32) (main_arg19 : FVec F S1 .f32) : IVec S64x64x64 1 × IVec S4x4x1x64 1 × IVec S64 1 × IVec S4x4x64x128 1 × IVec S128 1 × IVec S4x4x128x256 1 × IVec S256 1 × IVec S16384x1024 1 × IVec S1024 1 × IVec S1024x2048 1 × IVec S2048 1 × IVec S512x64 1 :=
  let main_v0 : FVec F S64x64x64 .f32 := Host.absf main_arg0
  let main_cst : FVec F S_ .f32 := constant S_ .f32 0x7F800000#32
  let main_v1 : FVec F S64x64x64 .f32 := broadcastInDim S64x64x64 ![] bcast_S_S64x64x64 main_cst
  let main_v2 : IVec S64x64x64 1 := cmpf .olt main_v0 main_v1
  let main_v3 : FVec F S4x4x1x64 .f32 := Host.absf main_arg1
  let main_cst_0 : FVec F S_ .f32 := constant S_ .f32 0x7F800000#32
  let main_v4 : FVec F S4x4x1x64 .f32 := broadcastInDim S4x4x1x64 ![] bcast_S_S4x4x1x64 main_cst_0
  let main_v5 : IVec S4x4x1x64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S4x4x64x128 .f32 := Host.absf main_arg3
  let main_cst_2 : FVec F S_ .f32 := constant S_ .f32 0x7F800000#32
  let main_v10 : FVec F S4x4x64x128 .f32 := broadcastInDim S4x4x64x128 ![] bcast_S_S4x4x64x128 main_cst_2
  let main_v11 : IVec S4x4x64x128 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S4x4x128x256 .f32 := Host.absf main_arg5
  let main_cst_4 : FVec F S_ .f32 := constant S_ .f32 0x7F800000#32
  let main_v16 : FVec F S4x4x128x256 .f32 := broadcastInDim S4x4x128x256 ![] bcast_S_S4x4x128x256 main_cst_4
  let main_v17 : IVec S4x4x128x256 1 := cmpf .olt main_v15 main_v16
  fn_part1 (F := F) main_arg6 main_arg7 main_arg8 main_arg9 main_arg10 main_arg11 main_v2 main_v5 main_v8 main_v11 main_v14 main_v17
-- ==== Kernel.lean ====
abbrev S64x64x64 : Shape := ⟨3, ![64, 64, 64]⟩
abbrev S4x4x1x64 : Shape := ⟨4, ![4, 4, 1, 64]⟩
abbrev S64 : Shape := ⟨1, ![64]⟩
abbrev S4x4x64x128 : Shape := ⟨4, ![4, 4, 64, 128]⟩
abbrev S128 : Shape := ⟨1, ![128]⟩
abbrev S4x4x128x256 : Shape := ⟨4, ![4, 4, 128, 256]⟩
abbrev S256 : Shape := ⟨1, ![256]⟩
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S512x64 : Shape := ⟨2, ![512, 64]⟩
abbrev S2048x1024 : Shape := ⟨2, ![2048, 1024]⟩
abbrev S8x8x1024x256 : Shape := ⟨4, ![8, 8, 1024, 256]⟩
abbrev S4x4x256x128 : Shape := ⟨4, ![4, 4, 256, 128]⟩
abbrev S2x2x128x1 : Shape := ⟨4, ![2, 2, 128, 1]⟩
abbrev S1 : Shape := ⟨1, ![1]⟩
abbrev S64x32x2x32x2 : Shape := ⟨5, ![64, 32, 2, 32, 2]⟩
abbrev S64x32x1x32x1 : Shape := ⟨5, ![64, 32, 1, 32, 1]⟩
abbrev S64x32x32 : Shape := ⟨3, ![64, 32, 32]⟩
abbrev S_ : Shape := ⟨0, ![]⟩
abbrev S64x34x34 : Shape := ⟨3, ![64, 34, 34]⟩
abbrev S64x32x32x1 : Shape := ⟨4, ![64, 32, 32, 1]⟩
abbrev S64x32x32x16 : Shape := ⟨4, ![64, 32, 32, 16]⟩
abbrev S65536x16 : Shape := ⟨2, ![65536, 16]⟩
abbrev S16x64 : Shape := ⟨2, ![16, 64]⟩
abbrev S16x64x128 : Shape := ⟨3, ![16, 64, 128]⟩
abbrev S16x128x256 : Shape := ⟨3, ![16, 128, 256]⟩
abbrev S1x64 : Shape := ⟨2, ![1, 64]⟩
abbrev S1x128 : Shape := ⟨2, ![1, 128]⟩
abbrev S1x256 : Shape := ⟨2, ![1, 256]⟩
abbrev S4096x256 : Shape := ⟨2, ![4096, 256]⟩
abbrev S16384x16 : Shape := ⟨2, ![16384, 16]⟩
abbrev S1024x256 : Shape := ⟨2, ![1024, 256]⟩
abbrev S4x4x16x10x10x64 : Shape := ⟨6, ![4, 4, 16, 10, 10, 64]⟩
abbrev S2x2x16x10x10x128 : Shape := ⟨6, ![2, 2, 16, 10, 10, 128]⟩
abbrev S16x8x4x8x4x16 : Shape := ⟨6, ![16, 8, 4, 8, 4, 16]⟩
abbrev S16x8x1x8x1x16 : Shape := ⟨6, ![16, 8, 1, 8, 1, 16]⟩
abbrev S16x8x8x16 : Shape := ⟨4, ![16, 8, 8, 16]⟩
abbrev S1024x16 : Shape := ⟨2, ![1024, 16]⟩
abbrev S1024x64 : Shape := ⟨2, ![1024, 64]⟩
abbrev S16x8x8x64 : Shape := ⟨4, ![16, 8, 8, 64]⟩
abbrev S1x1x16x8x8x64 : Shape := ⟨6, ![1, 1, 16, 8, 8, 64]⟩
abbrev S1024x128 : Shape := ⟨2, ![1024, 128]⟩
abbrev S1x64x128 : Shape := ⟨3, ![1, 64, 128]⟩
abbrev S64x128 : Shape := ⟨2, ![64, 128]⟩
abbrev S16x8x8x128 : Shape := ⟨4, ![16, 8, 8, 128]⟩
abbrev S1x1x16x8x8x128 : Shape := ⟨6, ![1, 1, 16, 8, 8, 128]⟩
abbrev S1x128x256 : Shape := ⟨3, ![1, 128, 256]⟩
abbrev S128x256 : Shape := ⟨2, ![128, 256]⟩
abbrev S64x1024x256 : Shape := ⟨3, ![64, 1024, 256]⟩
abbrev S256x4x4x128 : Shape := ⟨4, ![256, 4, 4, 128]⟩
abbrev S256x2048 : Shape := ⟨2, ![256, 2048]⟩
abbrev S16x128 : Shape := ⟨2, ![16, 128]⟩
abbrev S1x2048 : Shape := ⟨2, ![1, 2048]⟩
abbrev S16x16 : Shape := ⟨2, ![16, 16]⟩
abbrev S128x2x2x1 : Shape := ⟨4, ![128, 2, 2, 1]⟩
abbrev S128x4 : Shape := ⟨2, ![128, 4]⟩
abbrev S16x1x16x1 : Shape := ⟨4, ![16, 1, 16, 1]⟩
abbrev S1x128x1x4 : Shape := ⟨4, ![1, 128, 1, 4]⟩
abbrev S16x128x16x4 : Shape := ⟨4, ![16, 128, 16, 4]⟩
abbrev S2048x64 : Shape := ⟨2, ![2048, 64]⟩
abbrev S1x1 : Shape := ⟨2, ![1, 1]⟩
abbrev S64x1 : Shape := ⟨2, ![64, 1]⟩
abbrev S64x16384 : Shape := ⟨2, ![64, 16384]⟩
abbrev S64x512 : Shape := ⟨2, ![64, 512]⟩
abbrev S1x1024 : Shape := ⟨2, ![1, 1024]⟩
abbrev S4096x64 : Shape := ⟨2, ![4096, 64]⟩
abbrev S64x2048 : Shape := ⟨2, ![64, 2048]⟩
abbrev S4x1024x256 : Shape := ⟨3, ![4, 1024, 256]⟩
abbrev S64x1024 : Shape := ⟨2, ![64, 1024]⟩
abbrev S512 : Shape := ⟨1, ![512]⟩
abbrev S1x512 : Shape := ⟨2, ![1, 512]⟩
abbrev S64x64 : Shape := ⟨2, ![64, 64]⟩
abbrev S1x1024x256 : Shape := ⟨3, ![1, 1024, 256]⟩
abbrev S64x256 : Shape := ⟨2, ![64, 256]⟩
abbrev S512x256 : Shape := ⟨2, ![512, 256]⟩
abbrev S512x2048 : Shape := ⟨2, ![512, 2048]⟩
abbrev S8x8x64x4x4x2x2 : Shape := ⟨7, ![8, 8, 64, 4, 4, 2, 2]⟩
abbrev S64x8x4x2x8x4x2 : Shape := ⟨7, ![64, 8, 4, 2, 8, 4, 2]⟩
abbrev S64x64x64x1 : Shape := ⟨4, ![64, 64, 64, 1]⟩

abbrev nBuf : Space → Nat
  | .hbm => 121
  | .vmem => 35
  | .smem => 0
  | _ => 0

abbrev bufTy : (tb : Table) → Fin (tcTables nBuf tb) → BufTy
  | .hbm, ⟨0, _⟩ => ⟨S64x64x64, .f32⟩
  | .hbm, ⟨1, _⟩ => ⟨S4x4x1x64, .f32⟩
  | .hbm, ⟨2, _⟩ => ⟨S64, .f32⟩
  | .hbm, ⟨3, _⟩ => ⟨S4x4x64x128, .f32⟩
  | .hbm, ⟨4, _⟩ => ⟨S128, .f32⟩
  | .hbm, ⟨5, _⟩ => ⟨S4x4x128x256, .f32⟩
  | .hbm, ⟨6, _⟩ => ⟨S256, .f32⟩
  | .hbm, ⟨7, _⟩ => ⟨S16384x1024, .f32⟩
  | .hbm, ⟨8, _⟩ => ⟨S1024, .f32⟩
  | .hbm, ⟨9, _⟩ => ⟨S1024x2048, .f32⟩
  | .hbm, ⟨10, _⟩ => ⟨S2048, .f32⟩
  | .hbm, ⟨11, _⟩ => ⟨S512x64, .f32⟩
  | .hbm, ⟨12, _⟩ => ⟨S2048x1024, .f32⟩
  | .hbm, ⟨13, _⟩ => ⟨S1024, .f32⟩
  | .hbm, ⟨14, _⟩ => ⟨S8x8x1024x256, .f32⟩
  | .hbm, ⟨15, _⟩ => ⟨S256, .f32⟩
  | .hbm, ⟨16, _⟩ => ⟨S4x4x256x128, .f32⟩
  | .hbm, ⟨17, _⟩ => ⟨S128, .f32⟩
  | .hbm, ⟨18, _⟩ => ⟨S2x2x128x1, .f32⟩
  | .hbm, ⟨19, _⟩ => ⟨S1, .f32⟩
  | .hbm, ⟨20, _⟩ => ⟨S64x32x2x32x2, .f32⟩
  | .hbm, ⟨21, _⟩ => ⟨S64x32x1x32x1, .f32⟩
  | .hbm, ⟨22, _⟩ => ⟨S64x32x32, .f32⟩
  | .hbm, ⟨23, _⟩ => ⟨S_, .i32⟩
  | .hbm, ⟨24, _⟩ => ⟨S_, .f32⟩
  | .hbm, ⟨25, _⟩ => ⟨S64x34x34, .f32⟩
  | .hbm, ⟨26, _⟩ => ⟨S64x32x1x32x1, .f32⟩
  | .hbm, ⟨27, _⟩ => ⟨S64x32x32, .f32⟩
  | .hbm, ⟨28, _⟩ => ⟨S_, .i32⟩
  | .hbm, ⟨29, _⟩ => ⟨S_, .f32⟩
  | .hbm, ⟨30, _⟩ => ⟨S64x34x34, .f32⟩
  | .hbm, ⟨31, _⟩ => ⟨S64x32x1x32x1, .f32⟩
  | .hbm, ⟨32, _⟩ => ⟨S64x32x32, .f32⟩
  | .hbm, ⟨33, _⟩ => ⟨S_, .i32⟩
  | .hbm, ⟨34, _⟩ => ⟨S_, .f32⟩
  | .hbm, ⟨35, _⟩ => ⟨S64x34x34, .f32⟩
  | .hbm, ⟨36, _⟩ => ⟨S64x32x1x32x1, .f32⟩
  | .hbm, ⟨37, _⟩ => ⟨S64x32x32, .f32⟩
  | .hbm, ⟨38, _⟩ => ⟨S_, .i32⟩
  | .hbm, ⟨39, _⟩ => ⟨S_, .f32⟩
  | .hbm, ⟨40, _⟩ => ⟨S64x34x34, .f32⟩
  | .hbm, ⟨41, _⟩ => ⟨S64x32x32, .f32⟩
  | .hbm, ⟨42, _⟩ => ⟨S64x32x32, .f32⟩
  | .hbm, ⟨43, _⟩ => ⟨S64x32x32, .f32⟩
  | .hbm, ⟨44, _⟩ => ⟨S64x32x32, .f32⟩
  | .hbm, ⟨45, _⟩ => ⟨S64x32x32, .f32⟩
  | .hbm, ⟨46, _⟩ => ⟨S64x32x32, .f32⟩
  | .hbm, ⟨47, _⟩ => ⟨S64x32x32, .f32⟩
  | .hbm, ⟨48, _⟩ => ⟨S64x32x32, .f32⟩
  | .hbm, ⟨49, _⟩ => ⟨S64x32x32, .f32⟩
  | .hbm, ⟨50, _⟩ => ⟨S64x32x32, .f32⟩
  | .hbm, ⟨51, _⟩ => ⟨S64x32x32, .f32⟩
  | .hbm, ⟨52, _⟩ => ⟨S64x32x32, .f32⟩
  | .hbm, ⟨53, _⟩ => ⟨S64x32x32, .f32⟩
  | .hbm, ⟨54, _⟩ => ⟨S64x32x32, .f32⟩
  | .hbm, ⟨55, _⟩ => ⟨S64x32x32, .f32⟩
  | .hbm, ⟨56, _⟩ => ⟨S64x32x32, .f32⟩
  | .hbm, ⟨57, _⟩ => ⟨S64x32x32x1, .f32⟩
  | .hbm, ⟨58, _⟩ => ⟨S64x32x32x1, .f32⟩
  | .hbm, ⟨59, _⟩ => ⟨S64x32x32x1, .f32⟩
  | .hbm, ⟨60, _⟩ => ⟨S64x32x32x1, .f32⟩
  | .hbm, ⟨61, _⟩ => ⟨S64x32x32x1, .f32⟩
  | .hbm, ⟨62, _⟩ => ⟨S64x32x32x1, .f32⟩
  | .hbm, ⟨63, _⟩ => ⟨S64x32x32x1, .f32⟩
  | .hbm, ⟨64, _⟩ => ⟨S64x32x32x1, .f32⟩
  | .hbm, ⟨65, _⟩ => ⟨S64x32x32x1, .f32⟩
  | .hbm, ⟨66, _⟩ => ⟨S64x32x32x1, .f32⟩
  | .hbm, ⟨67, _⟩ => ⟨S64x32x32x1, .f32⟩
  | .hbm, ⟨68, _⟩ => ⟨S64x32x32x1, .f32⟩
  | .hbm, ⟨69, _⟩ => ⟨S64x32x32x1, .f32⟩
  | .hbm, ⟨70, _⟩ => ⟨S64x32x32x1, .f32⟩
  | .hbm, ⟨71, _⟩ => ⟨S64x32x32x1, .f32⟩
  | .hbm, ⟨72, _⟩ => ⟨S64x32x32x1, .f32⟩
  | .hbm, ⟨73, _⟩ => ⟨S64x32x32x16, .f32⟩
  | .hbm, ⟨74, _⟩ => ⟨S65536x16, .f32⟩
  | .hbm, ⟨75, _⟩ => ⟨S16x64, .f32⟩
  | .hbm, ⟨76, _⟩ => ⟨S16x64x128, .f32⟩
  | .hbm, ⟨77, _⟩ => ⟨S16x128x256, .f32⟩
  | .hbm, ⟨78, _⟩ => ⟨S1x64, .f32⟩
  | .hbm, ⟨79, _⟩ => ⟨S1x128, .f32⟩
  | .hbm, ⟨80, _⟩ => ⟨S1x256, .f32⟩
  | .hbm, ⟨81, _⟩ => ⟨S4096x256, .f32⟩
  | .hbm, ⟨82, _⟩ => ⟨S64x1024x256, .f32⟩
  | .hbm, ⟨83, _⟩ => ⟨S1x256, .f32⟩
  | .hbm, ⟨84, _⟩ => ⟨S256x4x4x128, .f32⟩
  | .hbm, ⟨85, _⟩ => ⟨S256x2048, .f32⟩
  | .hbm, ⟨86, _⟩ => ⟨S1x128, .f32⟩
  | .hbm, ⟨87, _⟩ => ⟨S16x128, .f32⟩
  | .hbm, ⟨88, _⟩ => ⟨S2048, .f32⟩
  | .hbm, ⟨89, _⟩ => ⟨S1x2048, .f32⟩
  | .hbm, ⟨90, _⟩ => ⟨S16x16, .i32⟩
  | .hbm, ⟨91, _⟩ => ⟨S16x16, .i32⟩
  | .hbm, ⟨92, _⟩ => ⟨S_, .i32⟩
  | .hbm, ⟨93, _⟩ => ⟨S16x16, .i32⟩
  | .hbm, ⟨94, _⟩ => ⟨S16x16, .i32⟩
  | .hbm, ⟨95, _⟩ => ⟨S16x16, .i1⟩
  | .hbm, ⟨96, _⟩ => ⟨S16x16, .f32⟩
  | .hbm, ⟨97, _⟩ => ⟨S128x2x2x1, .f32⟩
  | .hbm, ⟨98, _⟩ => ⟨S128x4, .f32⟩
  | .hbm, ⟨99, _⟩ => ⟨S16x1x16x1, .f32⟩
  | .hbm, ⟨100, _⟩ => ⟨S1x128x1x4, .f32⟩
  | .hbm, ⟨101, _⟩ => ⟨S16x128x16x4, .f32⟩
  | .hbm, ⟨102, _⟩ => ⟨S16x128x16x4, .f32⟩
  | .hbm, ⟨103, _⟩ => ⟨S16x128x16x4, .f32⟩
  | .hbm, ⟨104, _⟩ => ⟨S2048x64, .f32⟩
  | .hbm, ⟨105, _⟩ => ⟨S1x1, .f32⟩
  | .hbm, ⟨106, _⟩ => ⟨S64x1, .f32⟩
  | .hbm, ⟨107, _⟩ => ⟨S64, .f32⟩
  | .hbm, ⟨108, _⟩ => ⟨S1x64, .f32⟩
  | .hbm, ⟨109, _⟩ => ⟨S64x16384, .f32⟩
  | .hbm, ⟨110, _⟩ => ⟨S64x512, .f32⟩
  | .hbm, ⟨111, _⟩ => ⟨S_, .f32⟩
  | .hbm, ⟨112, _⟩ => ⟨S64x512, .f32⟩
  | .hbm, ⟨113, _⟩ => ⟨S64x512, .f32⟩
  | .hbm, ⟨114, _⟩ => ⟨S1x1024, .f32⟩
  | .hbm, ⟨115, _⟩ => ⟨S1x2048, .f32⟩
  | .hbm, ⟨116, _⟩ => ⟨S1x1024, .f32⟩
  | .hbm, ⟨117, _⟩ => ⟨S4096x64, .f32⟩
  | .hbm, ⟨118, _⟩ => ⟨S8x8x64x4x4x2x2, .f32⟩
  | .hbm, ⟨119, _⟩ => ⟨S64x8x4x2x8x4x2, .f32⟩
  | .hbm, ⟨120, _⟩ => ⟨S64x64x64x1, .f32⟩
  | .local _ .vmem, ⟨0, _⟩ => ⟨S16384x16, .f32⟩
  | .local _ .vmem, ⟨1, _⟩ => ⟨S16384x16, .f32⟩
  | .local _ .vmem, ⟨2, _⟩ => ⟨S16x64, .f32⟩
  | .local _ .vmem, ⟨3, _⟩ => ⟨S1x64, .f32⟩
  | .local _ .vmem, ⟨4, _⟩ => ⟨S16x64x128, .f32⟩
  | .local _ .vmem, ⟨5, _⟩ => ⟨S1x128, .f32⟩
  | .local _ .vmem, ⟨6, _⟩ => ⟨S16x128x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S4x4x16x10x10x64, .f32⟩
  | .local _ .vmem, ⟨11, _⟩ => ⟨S2x2x16x10x10x128, .f32⟩
  | .local _ .vmem, ⟨12, _⟩ => ⟨S64x2048, .f32⟩
  | .local _ .vmem, ⟨13, _⟩ => ⟨S64x2048, .f32⟩
  | .local _ .vmem, ⟨14, _⟩ => ⟨S2048x1024, .f32⟩
  | .local _ .vmem, ⟨15, _⟩ => ⟨S2048x1024, .f32⟩
  | .local _ .vmem, ⟨16, _⟩ => ⟨S1x1024, .f32⟩
  | .local _ .vmem, ⟨17, _⟩ => ⟨S1024x2048, .f32⟩
  | .local _ .vmem, ⟨18, _⟩ => ⟨S1x2048, .f32⟩
  | .local _ .vmem, ⟨19, _⟩ => ⟨S512x64, .f32⟩
  | .local _ .vmem, ⟨20, _⟩ => ⟨S64x512, .f32⟩
  | .local _ .vmem, ⟨21, _⟩ => ⟨S2048x1024, .f32⟩
  | .local _ .vmem, ⟨22, _⟩ => ⟨S1x1024, .f32⟩
  | .local _ .vmem, ⟨23, _⟩ => ⟨S4x1024x256, .f32⟩
  | .local _ .vmem, ⟨24, _⟩ => ⟨S4x1024x256, .f32⟩
  | .local _ .vmem, ⟨25, _⟩ => ⟨S1x256, .f32⟩
  | .local _ .vmem, ⟨26, _⟩ => ⟨S256x2048, .f32⟩
  | .local _ .vmem, ⟨27, _⟩ => ⟨S1x2048, .f32⟩
  | .local _ .vmem, ⟨28, _⟩ => ⟨S2048x64, .f32⟩
  | .local _ .vmem, ⟨29, _⟩ => ⟨S1x64, .f32⟩
  | .local _ .vmem, ⟨30, _⟩ => ⟨S512x64, .f32⟩
  | .local _ .vmem, ⟨31, _⟩ => ⟨S512x64, .f32⟩
  | .local _ .vmem, ⟨32, _⟩ => ⟨S64x1024, .f32⟩
  | .local _ .vmem, ⟨33, _⟩ => ⟨S64x1024, .f32⟩
  | .local _ .vmem, ⟨34, _⟩ => ⟨S4096x256, .f32⟩
  | _, _ => ⟨S64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_call0_v0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c_1 : Ref sig .tc := ⟨.hbm, 33, rfl⟩
abbrev main_call2_v0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_call3_v0 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_3 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc1_stg15_0 : Ref sig .tc := ⟨.vmem, 30, rfl⟩
abbrev cc1_stg15_1 : Ref sig .tc := ⟨.vmem, 31, rfl⟩
abbrev cc1_scratch0 : Ref sig .tc := ⟨.vmem, 32, rfl⟩
abbrev cc1_scratch1 : Ref sig .tc := ⟨.vmem, 33, rfl⟩
abbrev cc1_scratch2 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem15_0 : DmaSem sig := 28
abbrev cc1_sem15_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![33], ![false]⟩

def k1_cond4 (i : grid1.Coords) : BitVec 1 :=
  let arg0 : BitVec 32 := BitVec.ofNat 32 (i 0).val
  let c9_i32 : BitVec 32 := 9#32
  let v9 : BitVec 1 := Scalar.cmpi .sge arg0 c9_i32
  let c25_i32 : BitVec 32 := 25#32
  let v10 : BitVec 1 := Scalar.cmpi .slt arg0 c25_i32
  let v11 : BitVec 1 := Scalar.andi v9 v10
  let v12 : BitVec 32 := Scalar.extui v11
  let c0_i32_4 : BitVec 32 := 0#32
  let v13 : BitVec 1 := Scalar.cmpi .ne v12 c0_i32_4
  v13

def k1_off1 (i : grid1.Coords) (c0_i32_15 : BitVec 32) : Fin 2 → Nat :=
  let arg0 : BitVec 32 := BitVec.ofNat 32 (i 0).val
  let c9_i32_7 : BitVec 32 := 9#32
  let v17 : BitVec 32 := Scalar.subi arg0 c9_i32_7
  let c256_i32 : BitVec 32 := 256#32
  let v30 : BitVec 32 := Scalar.muli v17 c256_i32
  let v31 : BitVec 32 := Scalar.addi v30 c0_i32_15
  let v32 : Index := Scalar.indexCast v31
  let c0_16 : Index := 0#32
  ![v32.toNat, 0]
def k1_cond5 (i : grid1.Coords) : BitVec 1 :=
  let arg0 : BitVec 32 := BitVec.ofNat 32 (i 0).val
  let c25_i32_5 : BitVec 32 := 25#32
  let v14 : BitVec 1 := Scalar.cmpi .sge arg0 c25_i32_5
  let v15 : BitVec 32 := Scalar.extui v14
  let c0_i32_6 : BitVec 32 := 0#32
  let v16 : BitVec 1 := Scalar.cmpi .ne v15 c0_i32_6
  v16

def k1_off2 (i : grid1.Coords) : Fin 2 → Nat :=
  let arg0 : BitVec 32 := BitVec.ofNat 32 (i 0).val
  let c25_i32_7 : BitVec 32 := 25#32
  let v17 : BitVec 32 := Scalar.subi arg0 c25_i32_7
  let c512_i32 : BitVec 32 := 512#32
  let v18 : BitVec 32 := Scalar.muli v17 c512_i32
  let v19 : Index := Scalar.indexCast v18
  let c0 : Index := 0#32
  ![v19.toNat, 0]
def cc1_transform_0 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c9_i32 : BitVec 32 := 9#32
  let v0 : BitVec 32 := Scalar.subi arg0 c9_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![v2.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4x1024x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S2048x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S512x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== ReferenceIdeal.lean ====
abbrev S64x64x64 : Shape := ⟨3, ![64, 64, 64]⟩
abbrev S4x4x1x64 : Shape := ⟨4, ![4, 4, 1, 64]⟩
abbrev S64 : Shape := ⟨1, ![64]⟩
abbrev S4x4x64x128 : Shape := ⟨4, ![4, 4, 64, 128]⟩
abbrev S128 : Shape := ⟨1, ![128]⟩
abbrev S4x4x128x256 : Shape := ⟨4, ![4, 4, 128, 256]⟩
abbrev S256 : Shape := ⟨1, ![256]⟩
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S512x64 : Shape := ⟨2, ![512, 64]⟩
abbrev S2048x1024 : Shape := ⟨2, ![2048, 1024]⟩
abbrev S8x8x1024x256 : Shape := ⟨4, ![8, 8, 1024, 256]⟩
abbrev S4x4x256x128 : Shape := ⟨4, ![4, 4, 256, 128]⟩
abbrev S2x2x128x1 : Shape := ⟨4, ![2, 2, 128, 1]⟩
abbrev S1 : Shape := ⟨1, ![1]⟩
abbrev S64x64x64x1 : Shape := ⟨4, ![64, 64, 64, 1]⟩
abbrev S_ : Shape := ⟨0, ![]⟩
abbrev S64x66x66x1 : Shape := ⟨4, ![64, 66, 66, 1]⟩
abbrev S64x32x32x64 : Shape := ⟨4, ![64, 32, 32, 64]⟩
abbrev S64x32x32x1 : Shape := ⟨4, ![64, 32, 32, 1]⟩
abbrev S1x1x1x64 : Shape := ⟨4, ![1, 1, 1, 64]⟩
abbrev S1x64 : Shape := ⟨2, ![1, 64]⟩
abbrev S64x34x34x64 : Shape := ⟨4, ![64, 34, 34, 64]⟩
abbrev S64x16x16x128 : Shape := ⟨4, ![64, 16, 16, 128]⟩
abbrev S64x16x16x64 : Shape := ⟨4, ![64, 16, 16, 64]⟩
abbrev S1x1x64x128 : Shape := ⟨4, ![1, 1, 64, 128]⟩
abbrev S64x128 : Shape := ⟨2, ![64, 128]⟩
abbrev S1x1x1x128 : Shape := ⟨4, ![1, 1, 1, 128]⟩
abbrev S64x18x18x128 : Shape := ⟨4, ![64, 18, 18, 128]⟩
abbrev S64x8x8x256 : Shape := ⟨4, ![64, 8, 8, 256]⟩
abbrev S64x8x8x128 : Shape := ⟨4, ![64, 8, 8, 128]⟩
abbrev S1x1x128x256 : Shape := ⟨4, ![1, 1, 128, 256]⟩
abbrev S128x256 : Shape := ⟨2, ![128, 256]⟩
abbrev S1x1x1x256 : Shape := ⟨4, ![1, 1, 1, 256]⟩
abbrev S64x16384 : Shape := ⟨2, ![64, 16384]⟩
abbrev S64x1024 : Shape := ⟨2, ![64, 1024]⟩
abbrev S1x1024 : Shape := ⟨2, ![1, 1024]⟩
abbrev S64x2048 : Shape := ⟨2, ![64, 2048]⟩
abbrev S1x2048 : Shape := ⟨2, ![1, 2048]⟩
abbrev S64x32x64 : Shape := ⟨3, ![64, 32, 64]⟩
abbrev S64x32x1x64 : Shape := ⟨4, ![64, 32, 1, 64]⟩
abbrev S1x1x512x64 : Shape := ⟨4, ![1, 1, 512, 64]⟩
abbrev S64x32x512x64 : Shape := ⟨4, ![64, 32, 512, 64]⟩
abbrev S64x32x512 : Shape := ⟨3, ![64, 32, 512]⟩
abbrev S64x32 : Shape := ⟨2, ![64, 32]⟩
abbrev S64x32x1 : Shape := ⟨3, ![64, 32, 1]⟩
abbrev S1x1x1 : Shape := ⟨3, ![1, 1, 1]⟩
abbrev S64x1x1x1024 : Shape := ⟨4, ![64, 1, 1, 1024]⟩
abbrev S8x8x256x64x1x1 : Shape := ⟨6, ![8, 8, 256, 64, 1, 1]⟩
abbrev S64x1x8x1x8x256 : Shape := ⟨6, ![64, 1, 8, 1, 8, 256]⟩
abbrev S4x4x128x64x8x8 : Shape := ⟨6, ![4, 4, 128, 64, 8, 8]⟩
abbrev S64x8x4x8x4x128 : Shape := ⟨6, ![64, 8, 4, 8, 4, 128]⟩
abbrev S64x32x32x128 : Shape := ⟨4, ![64, 32, 32, 128]⟩
abbrev S2x2x1x64x32x32 : Shape := ⟨6, ![2, 2, 1, 64, 32, 32]⟩
abbrev S64x32x2x32x2x1 : Shape := ⟨6, ![64, 32, 2, 32, 2, 1]⟩
abbrev S1x1x1x1 : Shape := ⟨4, ![1, 1, 1, 1]⟩

abbrev nBuf : Space → Nat
  | .hbm => 391
  | .vmem => 0
  | .smem => 0
  | _ => 0

abbrev hbmTy0_0 (i : Nat) : BufTy := match i % 128 with
  | 0 => ⟨S64x64x64, .f32⟩
  | 1 => ⟨S4x4x1x64, .f32⟩
  | 2 => ⟨S64, .f32⟩
  | 3 => ⟨S4x4x64x128, .f32⟩
  | 4 => ⟨S128, .f32⟩
  | 5 => ⟨S4x4x128x256, .f32⟩
  | 6 => ⟨S256, .f32⟩
  | 7 => ⟨S16384x1024, .f32⟩
  | 8 => ⟨S1024, .f32⟩
  | 9 => ⟨S1024x2048, .f32⟩
  | 10 => ⟨S2048, .f32⟩
  | 11 => ⟨S512x64, .f32⟩
  | 12 => ⟨S2048x1024, .f32⟩
  | 13 => ⟨S1024, .f32⟩
  | 14 => ⟨S8x8x1024x256, .f32⟩
  | 15 => ⟨S256, .f32⟩
  | 16 => ⟨S4x4x256x128, .f32⟩
  | 17 => ⟨S128, .f32⟩
  | 18 => ⟨S2x2x128x1, .f32⟩
  | 19 => ⟨S1, .f32⟩
  | 20 => ⟨S64x64x64x1, .f32⟩
  | 21 => ⟨S_, .i32⟩
  | 22 => ⟨S_, .f32⟩
  | 23 => ⟨S64x66x66x1, .f32⟩
  | 24 => ⟨S_, .f32⟩
  | 25 => ⟨S64x32x32x64, .f32⟩
  | 26 => ⟨S64x32x32x1, .f32⟩
  | 27 => ⟨S1x1x1x64, .f32⟩
  | 28 => ⟨S1x64, .f32⟩
  | 29 => ⟨S64x32x32x64, .f32⟩
  | 30 => ⟨S64x32x32x64, .f32⟩
  | 31 => ⟨S64x32x32x1, .f32⟩
  | 32 => ⟨S1x1x1x64, .f32⟩
  | 33 => ⟨S1x64, .f32⟩
  | 34 => ⟨S64x32x32x64, .f32⟩
  | 35 => ⟨S64x32x32x64, .f32⟩
  | 36 => ⟨S64x32x32x1, .f32⟩
  | 37 => ⟨S1x1x1x64, .f32⟩
  | 38 => ⟨S1x64, .f32⟩
  | 39 => ⟨S64x32x32x64, .f32⟩
  | 40 => ⟨S64x32x32x64, .f32⟩
  | 41 => ⟨S64x32x32x1, .f32⟩
  | 42 => ⟨S1x1x1x64, .f32⟩
  | 43 => ⟨S1x64, .f32⟩
  | 44 => ⟨S64x32x32x64, .f32⟩
  | 45 => ⟨S64x32x32x64, .f32⟩
  | 46 => ⟨S64x32x32x1, .f32⟩
  | 47 => ⟨S1x1x1x64, .f32⟩
  | 48 => ⟨S1x64, .f32⟩
  | 49 => ⟨S64x32x32x64, .f32⟩
  | 50 => ⟨S64x32x32x64, .f32⟩
  | 51 => ⟨S64x32x32x1, .f32⟩
  | 52 => ⟨S1x1x1x64, .f32⟩
  | 53 => ⟨S1x64, .f32⟩
  | 54 => ⟨S64x32x32x64, .f32⟩
  | 55 => ⟨S64x32x32x64, .f32⟩
  | 56 => ⟨S64x32x32x1, .f32⟩
  | 57 => ⟨S1x1x1x64, .f32⟩
  | 58 => ⟨S1x64, .f32⟩
  | 59 => ⟨S64x32x32x64, .f32⟩
  | 60 => ⟨S64x32x32x64, .f32⟩
  | 61 => ⟨S64x32x32x1, .f32⟩
  | 62 => ⟨S1x1x1x64, .f32⟩
  | 63 => ⟨S1x64, .f32⟩
  | 64 => ⟨S64x32x32x64, .f32⟩
  | 65 => ⟨S64x32x32x64, .f32⟩
  | 66 => ⟨S64x32x32x1, .f32⟩
  | 67 => ⟨S1x1x1x64, .f32⟩
  | 68 => ⟨S1x64, .f32⟩
  | 69 => ⟨S64x32x32x64, .f32⟩
  | 70 => ⟨S64x32x32x64, .f32⟩
  | 71 => ⟨S64x32x32x1, .f32⟩
  | 72 => ⟨S1x1x1x64, .f32⟩
  | 73 => ⟨S1x64, .f32⟩
  | 74 => ⟨S64x32x32x64, .f32⟩
  | 75 => ⟨S64x32x32x64, .f32⟩
  | 76 => ⟨S64x32x32x1, .f32⟩
  | 77 => ⟨S1x1x1x64, .f32⟩
  | 78 => ⟨S1x64, .f32⟩
  | 79 => ⟨S64x32x32x64, .f32⟩
  | 80 => ⟨S64x32x32x64, .f32⟩
  | 81 => ⟨S64x32x32x1, .f32⟩
  | 82 => ⟨S1x1x1x64, .f32⟩
  | 83 => ⟨S1x64, .f32⟩
  | 84 => ⟨S64x32x32x64, .f32⟩
  | 85 => ⟨S64x32x32x64, .f32⟩
  | 86 => ⟨S64x32x32x1, .f32⟩
  | 87 => ⟨S1x1x1x64, .f32⟩
  | 88 => ⟨S1x64, .f32⟩
  | 89 => ⟨S64x32x32x64, .f32⟩
  | 90 => ⟨S64x32x32x64, .f32⟩
  | 91 => ⟨S64x32x32x1, .f32⟩
  | 92 => ⟨S1x1x1x64, .f32⟩
  | 93 => ⟨S1x64, .f32⟩
  | 94 => ⟨S64x32x32x64, .f32⟩
  | 95 => ⟨S64x32x32x64, .f32⟩
  | 96 => ⟨S64x32x32x1, .f32⟩
  | 97 => ⟨S1x1x1x64, .f32⟩
  | 98 => ⟨S1x64, .f32⟩
  | 99 => ⟨S64x32x32x64, .f32⟩
  | 100 => ⟨S64x32x32x64, .f32⟩
  | 101 => ⟨S64x32x32x1, .f32⟩
  | 102 => ⟨S1x1x1x64, .f32⟩
  | 103 => ⟨S1x64, .f32⟩
  | 104 => ⟨S64x32x32x64, .f32⟩
  | 105 => ⟨S64x32x32x64, .f32⟩
  | 106 => ⟨S1x1x1x64, .f32⟩
  | 107 => ⟨S64x32x32x64, .f32⟩
  | 108 => ⟨S64x32x32x64, .f32⟩
  | 109 => ⟨S_, .f32⟩
  | 110 => ⟨S64x32x32x64, .f32⟩
  | 111 => ⟨S64x32x32x64, .f32⟩
  | 112 => ⟨S_, .i32⟩
  | 113 => ⟨S_, .f32⟩
  | 114 => ⟨S64x34x34x64, .f32⟩
  | 115 => ⟨S_, .f32⟩
  | 116 => ⟨S64x16x16x128, .f32⟩
  | 117 => ⟨S64x16x16x64, .f32⟩
  | 118 => ⟨S1x1x64x128, .f32⟩
  | 119 => ⟨S64x128, .f32⟩
  | 120 => ⟨S64x16x16x128, .f32⟩
  | 121 => ⟨S64x16x16x128, .f32⟩
  | 122 => ⟨S64x16x16x64, .f32⟩
  | 123 => ⟨S1x1x64x128, .f32⟩
  | 124 => ⟨S64x128, .f32⟩
  | 125 => ⟨S64x16x16x128, .f32⟩
  | 126 => ⟨S64x16x16x128, .f32⟩
  | 127 => ⟨S64x16x16x64, .f32⟩
  | _ => ⟨S64x64x64, .f32⟩

abbrev hbmTy0_1 (i : Nat) : BufTy := match i % 128 with
  | 0 => ⟨S1x1x64x128, .f32⟩
  | 1 => ⟨S64x128, .f32⟩
  | 2 => ⟨S64x16x16x128, .f32⟩
  | 3 => ⟨S64x16x16x128, .f32⟩
  | 4 => ⟨S64x16x16x64, .f32⟩
  | 5 => ⟨S1x1x64x128, .f32⟩
  | 6 => ⟨S64x128, .f32⟩
  | 7 => ⟨S64x16x16x128, .f32⟩
  | 8 => ⟨S64x16x16x128, .f32⟩
  | 9 => ⟨S64x16x16x64, .f32⟩
  | 10 => ⟨S1x1x64x128, .f32⟩
  | 11 => ⟨S64x128, .f32⟩
  | 12 => ⟨S64x16x16x128, .f32⟩
  | 13 => ⟨S64x16x16x128, .f32⟩
  | 14 => ⟨S64x16x16x64, .f32⟩
  | 15 => ⟨S1x1x64x128, .f32⟩
  | 16 => ⟨S64x128, .f32⟩
  | 17 => ⟨S64x16x16x128, .f32⟩
  | 18 => ⟨S64x16x16x128, .f32⟩
  | 19 => ⟨S64x16x16x64, .f32⟩
  | 20 => ⟨S1x1x64x128, .f32⟩
  | 21 => ⟨S64x128, .f32⟩
  | 22 => ⟨S64x16x16x128, .f32⟩
  | 23 => ⟨S64x16x16x128, .f32⟩
  | 24 => ⟨S64x16x16x64, .f32⟩
  | 25 => ⟨S1x1x64x128, .f32⟩
  | 26 => ⟨S64x128, .f32⟩
  | 27 => ⟨S64x16x16x128, .f32⟩
  | 28 => ⟨S64x16x16x128, .f32⟩
  | 29 => ⟨S64x16x16x64, .f32⟩
  | 30 => ⟨S1x1x64x128, .f32⟩
  | 31 => ⟨S64x128, .f32⟩
  | 32 => ⟨S64x16x16x128, .f32⟩
  | 33 => ⟨S64x16x16x128, .f32⟩
  | 34 => ⟨S64x16x16x64, .f32⟩
  | 35 => ⟨S1x1x64x128, .f32⟩
  | 36 => ⟨S64x128, .f32⟩
  | 37 => ⟨S64x16x16x128, .f32⟩
  | 38 => ⟨S64x16x16x128, .f32⟩
  | 39 => ⟨S64x16x16x64, .f32⟩
  | 40 => ⟨S1x1x64x128, .f32⟩
  | 41 => ⟨S64x128, .f32⟩
  | 42 => ⟨S64x16x16x128, .f32⟩
  | 43 => ⟨S64x16x16x128, .f32⟩
  | 44 => ⟨S64x16x16x64, .f32⟩
  | 45 => ⟨S1x1x64x128, .f32⟩
  | 46 => ⟨S64x128, .f32⟩
  | 47 => ⟨S64x16x16x128, .f32⟩
  | 48 => ⟨S64x16x16x128, .f32⟩
  | 49 => ⟨S64x16x16x64, .f32⟩
  | 50 => ⟨S1x1x64x128, .f32⟩
  | 51 => ⟨S64x128, .f32⟩
  | 52 => ⟨S64x16x16x128, .f32⟩
  | 53 => ⟨S64x16x16x128, .f32⟩
  | 54 => ⟨S64x16x16x64, .f32⟩
  | 55 => ⟨S1x1x64x128, .f32⟩
  | 56 => ⟨S64x128, .f32⟩
  | 57 => ⟨S64x16x16x128, .f32⟩
  | 58 => ⟨S64x16x16x128, .f32⟩
  | 59 => ⟨S64x16x16x64, .f32⟩
  | 60 => ⟨S1x1x64x128, .f32⟩
  | 61 => ⟨S64x128, .f32⟩
  | 62 => ⟨S64x16x16x128, .f32⟩
  | 63 => ⟨S64x16x16x128, .f32⟩
  | 64 => ⟨S64x16x16x64, .f32⟩
  | 65 => ⟨S1x1x64x128, .f32⟩
  | 66 => ⟨S64x128, .f32⟩
  | 67 => ⟨S64x16x16x128, .f32⟩
  | 68 => ⟨S64x16x16x128, .f32⟩
  | 69 => ⟨S1x1x1x128, .f32⟩
  | 70 => ⟨S64x16x16x128, .f32⟩
  | 71 => ⟨S64x16x16x128, .f32⟩
  | 72 => ⟨S_, .f32⟩
  | 73 => ⟨S64x16x16x128, .f32⟩
  | 74 => ⟨S64x16x16x128, .f32⟩
  | 75 => ⟨S_, .i32⟩
  | 76 => ⟨S_, .f32⟩
  | 77 => ⟨S64x18x18x128, .f32⟩
  | 78 => ⟨S_, .f32⟩
  | 79 => ⟨S64x8x8x256, .f32⟩
  | 80 => ⟨S64x8x8x128, .f32⟩
  | 81 => ⟨S1x1x128x256, .f32⟩
  | 82 => ⟨S128x256, .f32⟩
  | 83 => ⟨S64x8x8x256, .f32⟩
  | 84 => ⟨S64x8x8x256, .f32⟩
  | 85 => ⟨S64x8x8x128, .f32⟩
  | 86 => ⟨S1x1x128x256, .f32⟩
  | 87 => ⟨S128x256, .f32⟩
  | 88 => ⟨S64x8x8x256, .f32⟩
  | 89 => ⟨S64x8x8x256, .f32⟩
  | 90 => ⟨S64x8x8x128, .f32⟩
  | 91 => ⟨S1x1x128x256, .f32⟩
  | 92 => ⟨S128x256, .f32⟩
  | 93 => ⟨S64x8x8x256, .f32⟩
  | 94 => ⟨S64x8x8x256, .f32⟩
  | 95 => ⟨S64x8x8x128, .f32⟩
  | 96 => ⟨S1x1x128x256, .f32⟩
  | 97 => ⟨S128x256, .f32⟩
  | 98 => ⟨S64x8x8x256, .f32⟩
  | 99 => ⟨S64x8x8x256, .f32⟩
  | 100 => ⟨S64x8x8x128, .f32⟩
  | 101 => ⟨S1x1x128x256, .f32⟩
  | 102 => ⟨S128x256, .f32⟩
  | 103 => ⟨S64x8x8x256, .f32⟩
  | 104 => ⟨S64x8x8x256, .f32⟩
  | 105 => ⟨S64x8x8x128, .f32⟩
  | 106 => ⟨S1x1x128x256, .f32⟩
  | 107 => ⟨S128x256, .f32⟩
  | 108 => ⟨S64x8x8x256, .f32⟩
  | 109 => ⟨S64x8x8x256, .f32⟩
  | 110 => ⟨S64x8x8x128, .f32⟩
  | 111 => ⟨S1x1x128x256, .f32⟩
  | 112 => ⟨S128x256, .f32⟩
  | 113 => ⟨S64x8x8x256, .f32⟩
  | 114 => ⟨S64x8x8x256, .f32⟩
  | 115 => ⟨S64x8x8x128, .f32⟩
  | 116 => ⟨S1x1x128x256, .f32⟩
  | 117 => ⟨S128x256, .f32⟩
  | 118 => ⟨S64x8x8x256, .f32⟩
  | 119 => ⟨S64x8x8x256, .f32⟩
  | 120 => ⟨S64x8x8x128, .f32⟩
  | 121 => ⟨S1x1x128x256, .f32⟩
  | 122 => ⟨S128x256, .f32⟩
  | 123 => ⟨S64x8x8x256, .f32⟩
  | 124 => ⟨S64x8x8x256, .f32⟩
  | 125 => ⟨S64x8x8x128, .f32⟩
  | 126 => ⟨S1x1x128x256, .f32⟩
  | 127 => ⟨S128x256, .f32⟩
  | _ => ⟨S64x64x64, .f32⟩

abbrev hbmTy0_2 (i : Nat) : BufTy := match i % 128 with
  | 0 => ⟨S64x8x8x256, .f32⟩
  | 1 => ⟨S64x8x8x256, .f32⟩
  | 2 => ⟨S64x8x8x128, .f32⟩
  | 3 => ⟨S1x1x128x256, .f32⟩
  | 4 => ⟨S128x256, .f32⟩
  | 5 => ⟨S64x8x8x256, .f32⟩
  | 6 => ⟨S64x8x8x256, .f32⟩
  | 7 => ⟨S64x8x8x128, .f32⟩
  | 8 => ⟨S1x1x128x256, .f32⟩
  | 9 => ⟨S128x256, .f32⟩
  | 10 => ⟨S64x8x8x256, .f32⟩
  | 11 => ⟨S64x8x8x256, .f32⟩
  | 12 => ⟨S64x8x8x128, .f32⟩
  | 13 => ⟨S1x1x128x256, .f32⟩
  | 14 => ⟨S128x256, .f32⟩
  | 15 => ⟨S64x8x8x256, .f32⟩
  | 16 => ⟨S64x8x8x256, .f32⟩
  | 17 => ⟨S64x8x8x128, .f32⟩
  | 18 => ⟨S1x1x128x256, .f32⟩
  | 19 => ⟨S128x256, .f32⟩
  | 20 => ⟨S64x8x8x256, .f32⟩
  | 21 => ⟨S64x8x8x256, .f32⟩
  | 22 => ⟨S64x8x8x128, .f32⟩
  | 23 => ⟨S1x1x128x256, .f32⟩
  | 24 => ⟨S128x256, .f32⟩
  | 25 => ⟨S64x8x8x256, .f32⟩
  | 26 => ⟨S64x8x8x256, .f32⟩
  | 27 => ⟨S64x8x8x128, .f32⟩
  | 28 => ⟨S1x1x128x256, .f32⟩
  | 29 => ⟨S128x256, .f32⟩
  | 30 => ⟨S64x8x8x256, .f32⟩
  | 31 => ⟨S64x8x8x256, .f32⟩
  | 32 => ⟨S1x1x1x256, .f32⟩
  | 33 => ⟨S64x8x8x256, .f32⟩
  | 34 => ⟨S64x8x8x256, .f32⟩
  | 35 => ⟨S_, .f32⟩
  | 36 => ⟨S64x8x8x256, .f32⟩
  | 37 => ⟨S64x8x8x256, .f32⟩
  | 38 => ⟨S64x16384, .f32⟩
  | 39 => ⟨S64x1024, .f32⟩
  | 40 => ⟨S1x1024, .f32⟩
  | 41 => ⟨S64x1024, .f32⟩
  | 42 => ⟨S64x1024, .f32⟩
  | 43 => ⟨S_, .f32⟩
  | 44 => ⟨S64x1024, .f32⟩
  | 45 => ⟨S64x1024, .f32⟩
  | 46 => ⟨S64x2048, .f32⟩
  | 47 => ⟨S1x2048, .f32⟩
  | 48 => ⟨S64x2048, .f32⟩
  | 49 => ⟨S64x2048, .f32⟩
  | 50 => ⟨S_, .f32⟩
  | 51 => ⟨S64x2048, .f32⟩
  | 52 => ⟨S64x2048, .f32⟩
  | 53 => ⟨S64x32x64, .f32⟩
  | 54 => ⟨S64x32x1x64, .f32⟩
  | 55 => ⟨S1x1x512x64, .f32⟩
  | 56 => ⟨S64x32x512x64, .f32⟩
  | 57 => ⟨S64x32x512x64, .f32⟩
  | 58 => ⟨S64x32x512x64, .f32⟩
  | 59 => ⟨S64x32x512x64, .f32⟩
  | 60 => ⟨S_, .f32⟩
  | 61 => ⟨S64x32x512, .f32⟩
  | 62 => ⟨S64x32x512, .f32⟩
  | 63 => ⟨S64x32x512, .i32⟩
  | 64 => ⟨S_, .f32⟩
  | 65 => ⟨S_, .i32⟩
  | 66 => ⟨S64x32, .f32⟩
  | 67 => ⟨S64x32, .i32⟩
  | 68 => ⟨S_, .i32⟩
  | 69 => ⟨S64x32, .i32⟩
  | 70 => ⟨S64x32, .i1⟩
  | 71 => ⟨S_, .i32⟩
  | 72 => ⟨S64x32, .i32⟩
  | 73 => ⟨S64x32, .i32⟩
  | 74 => ⟨S64x32, .i32⟩
  | 75 => ⟨S64x32x1, .i32⟩
  | 76 => ⟨S1, .i32⟩
  | 77 => ⟨S_, .i32⟩
  | 78 => ⟨S64x32x1, .i32⟩
  | 79 => ⟨S64x32x1, .i1⟩
  | 80 => ⟨S1x1x1, .i32⟩
  | 81 => ⟨S64x32x1, .i32⟩
  | 82 => ⟨S64x32x1, .i1⟩
  | 83 => ⟨S64x32x1, .i1⟩
  | 84 => ⟨S_, .i1⟩
  | 85 => ⟨S64x32, .i1⟩
  | 86 => ⟨S64x32x64, .f32⟩
  | 87 => ⟨S64x32x64, .i1⟩
  | 88 => ⟨S_, .f32⟩
  | 89 => ⟨S64x32x64, .f32⟩
  | 90 => ⟨S64x32x64, .f32⟩
  | 91 => ⟨S64x2048, .f32⟩
  | 92 => ⟨S64x1024, .f32⟩
  | 93 => ⟨S1x1024, .f32⟩
  | 94 => ⟨S64x1024, .f32⟩
  | 95 => ⟨S64x1024, .f32⟩
  | 96 => ⟨S_, .f32⟩
  | 97 => ⟨S64x1024, .f32⟩
  | 98 => ⟨S64x1024, .f32⟩
  | 99 => ⟨S64x1x1x1024, .f32⟩
  | 100 => ⟨S8x8x1024x256, .f32⟩
  | 101 => ⟨S8x8x256x64x1x1, .f32⟩
  | 102 => ⟨S64x1x8x1x8x256, .f32⟩
  | 103 => ⟨S64x8x8x256, .f32⟩
  | 104 => ⟨S1x1x1x256, .f32⟩
  | 105 => ⟨S64x8x8x256, .f32⟩
  | 106 => ⟨S64x8x8x256, .f32⟩
  | 107 => ⟨S_, .f32⟩
  | 108 => ⟨S64x8x8x256, .f32⟩
  | 109 => ⟨S64x8x8x256, .f32⟩
  | 110 => ⟨S4x4x256x128, .f32⟩
  | 111 => ⟨S4x4x128x64x8x8, .f32⟩
  | 112 => ⟨S64x8x4x8x4x128, .f32⟩
  | 113 => ⟨S64x32x32x128, .f32⟩
  | 114 => ⟨S1x1x1x128, .f32⟩
  | 115 => ⟨S64x32x32x128, .f32⟩
  | 116 => ⟨S64x32x32x128, .f32⟩
  | 117 => ⟨S_, .f32⟩
  | 118 => ⟨S64x32x32x128, .f32⟩
  | 119 => ⟨S64x32x32x128, .f32⟩
  | 120 => ⟨S2x2x128x1, .f32⟩
  | 121 => ⟨S2x2x1x64x32x32, .f32⟩
  | 122 => ⟨S64x32x2x32x2x1, .f32⟩
  | 123 => ⟨S64x64x64x1, .f32⟩
  | 124 => ⟨S1x1x1x1, .f32⟩
  | 125 => ⟨S64x64x64x1, .f32⟩
  | 126 => ⟨S64x64x64x1, .f32⟩
  | 127 => ⟨S64x64x64x1, .f32⟩
  | _ => ⟨S64x64x64, .f32⟩

abbrev hbmTy0_3 (i : Nat) : BufTy := match i % 128 with
  | 0 => ⟨S64x64x64x1, .f32⟩
  | 1 => ⟨S_, .f32⟩
  | 2 => ⟨S64x64x64x1, .f32⟩
  | 3 => ⟨S64x64x64x1, .f32⟩
  | 4 => ⟨S_, .f32⟩
  | 5 => ⟨S64x64x64x1, .f32⟩
  | 6 => ⟨S64x64x64x1, .f32⟩
  | _ => ⟨S64x64x64, .f32⟩

abbrev hbmTy (i : Nat) : BufTy := match i / 128 with
  | 0 => hbmTy0_0 i
  | 1 => hbmTy0_1 i
  | 2 => hbmTy0_2 i
  | 3 => hbmTy0_3 i
  | _ => ⟨S64x64x64, .f32⟩

abbrev bufTy : (tb : Table) → Fin (tcTables nBuf tb) → BufTy
  | .hbm, ⟨i, _⟩ => hbmTy i
  | _, _ => ⟨S64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_0 : Ref sig .tc := ⟨.hbm, 109, rfl⟩
abbrev main_v86 : Ref sig .tc := ⟨.hbm, 110, rfl⟩
abbrev main_v87 : Ref sig .tc := ⟨.hbm, 111, rfl⟩
abbrev main_c_1 : Ref sig .tc := ⟨.hbm, 112, rfl⟩
abbrev main_call1_v0 : Ref sig .tc := ⟨.hbm, 113, rfl⟩
abbrev main_v88 : Ref sig .tc := ⟨.hbm, 114, rfl⟩
abbrev main_cst_2 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_cst_3 : Ref sig .tc := ⟨.hbm, 200, rfl⟩
abbrev main_v173 : Ref sig .tc := ⟨.hbm, 201, rfl⟩
abbrev main_v174 : Ref sig .tc := ⟨.hbm, 202, rfl⟩
abbrev main_c_4 : Ref sig .tc := ⟨.hbm, 203, rfl⟩
abbrev main_call2_v0 : Ref sig .tc := ⟨.hbm, 204, rfl⟩
abbrev main_v175 : Ref sig .tc := ⟨.hbm, 205, rfl⟩
abbrev main_cst_5 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_cst_6 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_cst_7 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_cst_8 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_call3_v0 : Ref sig .tc := ⟨.hbm, 315, rfl⟩
abbrev main_call3_cst : Ref sig .tc := ⟨.hbm, 316, rfl⟩
abbrev main_call3_v1 : Ref sig .tc := ⟨.hbm, 317, rfl⟩
abbrev main_v281 : Ref sig .tc := ⟨.hbm, 318, rfl⟩
abbrev main_call4_v0 : Ref sig .tc := ⟨.hbm, 319, rfl⟩
abbrev main_call4_cst : Ref sig .tc := ⟨.hbm, 320, rfl⟩
abbrev main_call4_c : Ref sig .tc := ⟨.hbm, 321, rfl⟩
abbrev main_call4_v1_0 : Ref sig .tc := ⟨.hbm, 322, rfl⟩
abbrev main_v282 : Ref sig .tc := ⟨.hbm, 323, rfl⟩
abbrev main_call5_c : Ref sig .tc := ⟨.hbm, 324, rfl⟩
abbrev main_call5_v0 : Ref sig .tc := ⟨.hbm, 325, rfl⟩
abbrev main_call5_v1 : Ref sig .tc := ⟨.hbm, 326, rfl⟩
abbrev main_call5_c_0 : Ref sig .tc := ⟨.hbm, 327, rfl⟩
abbrev main_call5_v2 : Ref sig .tc := ⟨.hbm, 328, rfl⟩
abbrev main_call5_v3 : Ref sig .tc := ⟨.hbm, 329, rfl⟩
abbrev main_call5_v4 : Ref sig .tc := ⟨.hbm, 330, rfl⟩
abbrev main_call5_v5 : Ref sig .tc := ⟨.hbm, 331, rfl⟩
abbrev main_call5_c_1 : Ref sig .tc := ⟨.hbm, 332, rfl⟩
abbrev main_call5_c_2 : Ref sig .tc := ⟨.hbm, 333, rfl⟩
abbrev main_call5_v6 : Ref sig .tc := ⟨.hbm, 334, rfl⟩
abbrev main_call5_v7 : Ref sig .tc := ⟨.hbm, 335, rfl⟩
abbrev main_call5_v8 : Ref sig .tc := ⟨.hbm, 336, rfl⟩
abbrev main_call5_v9 : Ref sig .tc := ⟨.hbm, 337, rfl⟩
abbrev main_call5_v10 : Ref sig .tc := ⟨.hbm, 338, rfl⟩
abbrev main_call5_v11 : Ref sig .tc := ⟨.hbm, 339, rfl⟩
abbrev main_call5_c_3 : Ref sig .tc := ⟨.hbm, 340, rfl⟩
abbrev main_call5_v12 : Ref sig .tc := ⟨.hbm, 341, rfl⟩
abbrev main_call5_v13 : Ref sig .tc := ⟨.hbm, 342, rfl⟩
abbrev main_call5_v14 : Ref sig .tc := ⟨.hbm, 343, rfl⟩
abbrev main_call5_cst : Ref sig .tc := ⟨.hbm, 344, rfl⟩
abbrev main_call5_v15 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_cst_9 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_cst_10 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_cst_11 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_v315 : Ref sig .tc := ⟨.hbm, 381, rfl⟩
abbrev main_v316 : Ref sig .tc := ⟨.hbm, 382, rfl⟩
abbrev main_v317 : Ref sig .tc := ⟨.hbm, 383, rfl⟩
abbrev main_v318 : Ref sig .tc := ⟨.hbm, 384, rfl⟩
abbrev main_cst_12 : Ref sig .tc := ⟨.hbm, 385, rfl⟩
abbrev main_v319 : Ref sig .tc := ⟨.hbm, 386, rfl⟩
abbrev main_v320 : Ref sig .tc := ⟨.hbm, 387, rfl⟩
abbrev main_cst_13 : Ref sig .tc := ⟨.hbm, 388, rfl⟩
abbrev main_v321 : Ref sig .tc := ⟨.hbm, 389, rfl⟩
abbrev main_v322 : Ref sig .tc := ⟨.hbm, 390, rfl⟩

abbrev nD : Nat := 1
abbrev τ : Topo := Topo.v7x

variable {F : FTy → Type} [FloatOps F]
-- ==== KernelAtIdeal.lean ====
abbrev S2x2x128x1 : Shape := ⟨4, ![2, 2, 128, 1]⟩
abbrev S_ : Shape := ⟨0, ![]⟩
abbrev S64x64x64 : Shape := ⟨3, ![64, 64, 64]⟩
abbrev S4x4x1x64 : Shape := ⟨4, ![4, 4, 1, 64]⟩
abbrev S64 : Shape := ⟨1, ![64]⟩
abbrev S4x4x64x128 : Shape := ⟨4, ![4, 4, 64, 128]⟩
abbrev S128 : Shape := ⟨1, ![128]⟩
abbrev S4x4x128x256 : Shape := ⟨4, ![4, 4, 128, 256]⟩
abbrev S256 : Shape := ⟨1, ![256]⟩
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S512x64 : Shape := ⟨2, ![512, 64]⟩
abbrev S2048x1024 : Shape := ⟨2, ![2048, 1024]⟩
abbrev S8x8x1024x256 : Shape := ⟨4, ![8, 8, 1024, 256]⟩
abbrev S4x4x256x128 : Shape := ⟨4, ![4, 4, 256, 128]⟩
abbrev S1 : Shape := ⟨1, ![1]⟩
abbrev S64x32x2x32x2 : Shape := ⟨5, ![64, 32, 2, 32, 2]⟩
abbrev S64x32x1x32x1 : Shape := ⟨5, ![64, 32, 1, 32, 1]⟩
abbrev S64x32x32 : Shape := ⟨3, ![64, 32, 32]⟩
abbrev S64x34x34 : Shape := ⟨3, ![64, 34, 34]⟩
abbrev S64x32x32x1 : Shape := ⟨4, ![64, 32, 32, 1]⟩
abbrev S64x32x32x16 : Shape := ⟨4, ![64, 32, 32, 16]⟩
abbrev S65536x16 : Shape := ⟨2, ![65536, 16]⟩
abbrev S16x64 : Shape := ⟨2, ![16, 64]⟩
abbrev S16x64x128 : Shape := ⟨3, ![16, 64, 128]⟩
abbrev S16x128x256 : Shape := ⟨3, ![16, 128, 256]⟩
abbrev S1x64 : Shape := ⟨2, ![1, 64]⟩
abbrev S1x128 : Shape := ⟨2, ![1, 128]⟩
abbrev S1x256 : Shape := ⟨2, ![1, 256]⟩
abbrev S4096x256 : Shape := ⟨2, ![4096, 256]⟩
abbrev S16384x16 : Shape := ⟨2, ![16384, 16]⟩
abbrev S1024x256 : Shape := ⟨2, ![1024, 256]⟩
abbrev S4x4x16x10x10x64 : Shape := ⟨6, ![4, 4, 16, 10, 10, 64]⟩
abbrev S2x2x16x10x10x128 : Shape := ⟨6, ![2, 2, 16, 10, 10, 128]⟩
abbrev S16x8x4x8x4x16 : Shape := ⟨6, ![16, 8, 4, 8, 4, 16]⟩
abbrev S16x8x1x8x1x16 : Shape := ⟨6, ![16, 8, 1, 8, 1, 16]⟩
abbrev S16x8x8x16 : Shape := ⟨4, ![16, 8, 8, 16]⟩
abbrev S1024x16 : Shape := ⟨2, ![1024, 16]⟩
abbrev S1024x64 : Shape := ⟨2, ![1024, 64]⟩
abbrev S16x8x8x64 : Shape := ⟨4, ![16, 8, 8, 64]⟩
abbrev S1x1x16x8x8x64 : Shape := ⟨6, ![1, 1, 16, 8, 8, 64]⟩
abbrev S1024x128 : Shape := ⟨2, ![1024, 128]⟩
abbrev S1x64x128 : Shape := ⟨3, ![1, 64, 128]⟩
abbrev S64x128 : Shape := ⟨2, ![64, 128]⟩
abbrev S16x8x8x128 : Shape := ⟨4, ![16, 8, 8, 128]⟩
abbrev S1x1x16x8x8x128 : Shape := ⟨6, ![1, 1, 16, 8, 8, 128]⟩
abbrev S1x128x256 : Shape := ⟨3, ![1, 128, 256]⟩
abbrev S128x256 : Shape := ⟨2, ![128, 256]⟩
abbrev S64x1024x256 : Shape := ⟨3, ![64, 1024, 256]⟩
abbrev S256x4x4x128 : Shape := ⟨4, ![256, 4, 4, 128]⟩
abbrev S256x2048 : Shape := ⟨2, ![256, 2048]⟩
abbrev S16x128 : Shape := ⟨2, ![16, 128]⟩
abbrev S1x2048 : Shape := ⟨2, ![1, 2048]⟩
abbrev S16x16 : Shape := ⟨2, ![16, 16]⟩
abbrev S128x2x2x1 : Shape := ⟨4, ![128, 2, 2, 1]⟩
abbrev S128x4 : Shape := ⟨2, ![128, 4]⟩
abbrev S16x1x16x1 : Shape := ⟨4, ![16, 1, 16, 1]⟩
abbrev S1x128x1x4 : Shape := ⟨4, ![1, 128, 1, 4]⟩
abbrev S16x128x16x4 : Shape := ⟨4, ![16, 128, 16, 4]⟩
abbrev S2048x64 : Shape := ⟨2, ![2048, 64]⟩
abbrev S1x1 : Shape := ⟨2, ![1, 1]⟩
abbrev S64x1 : Shape := ⟨2, ![64, 1]⟩
abbrev S64x16384 : Shape := ⟨2, ![64, 16384]⟩
abbrev S64x512 : Shape := ⟨2, ![64, 512]⟩
abbrev S1x1024 : Shape := ⟨2, ![1, 1024]⟩
abbrev S4096x64 : Shape := ⟨2, ![4096, 64]⟩
abbrev S64x2048 : Shape := ⟨2, ![64, 2048]⟩
abbrev S4x1024x256 : Shape := ⟨3, ![4, 1024, 256]⟩
abbrev S64x1024 : Shape := ⟨2, ![64, 1024]⟩
abbrev S512 : Shape := ⟨1, ![512]⟩
abbrev S1x512 : Shape := ⟨2, ![1, 512]⟩
abbrev S64x64 : Shape := ⟨2, ![64, 64]⟩
abbrev S1x1024x256 : Shape := ⟨3, ![1, 1024, 256]⟩
abbrev S64x256 : Shape := ⟨2, ![64, 256]⟩
abbrev S512x256 : Shape := ⟨2, ![512, 256]⟩
abbrev S512x2048 : Shape := ⟨2, ![512, 2048]⟩
abbrev S8x8x64x4x4x2x2 : Shape := ⟨7, ![8, 8, 64, 4, 4, 2, 2]⟩
abbrev S64x8x4x2x8x4x2 : Shape := ⟨7, ![64, 8, 4, 2, 8, 4, 2]⟩
abbrev S64x64x64x1 : Shape := ⟨4, ![64, 64, 64, 1]⟩

abbrev nBuf : Space → Nat
  | .hbm => 144
  | .vmem => 35
  | .smem => 0
  | _ => 0

abbrev hbmTy0_0 (i : Nat) : BufTy := match i % 128 with
  | 0 => ⟨S2x2x128x1, .f32⟩
  | 1 => ⟨S_, .f32⟩
  | 2 => ⟨S64x64x64, .f32⟩
  | 3 => ⟨S_, .f32⟩
  | 4 => ⟨S4x4x1x64, .f32⟩
  | 5 => ⟨S_, .f32⟩
  | 6 => ⟨S64, .f32⟩
  | 7 => ⟨S_, .f32⟩
  | 8 => ⟨S4x4x64x128, .f32⟩
  | 9 => ⟨S_, .f32⟩
  | 10 => ⟨S128, .f32⟩
  | 11 => ⟨S_, .f32⟩
  | 12 => ⟨S4x4x128x256, .f32⟩
  | 13 => ⟨S_, .f32⟩
  | 14 => ⟨S256, .f32⟩
  | 15 => ⟨S_, .f32⟩
  | 16 => ⟨S16384x1024, .f32⟩
  | 17 => ⟨S_, .f32⟩
  | 18 => ⟨S1024, .f32⟩
  | 19 => ⟨S_, .f32⟩
  | 20 => ⟨S1024x2048, .f32⟩
  | 21 => ⟨S_, .f32⟩
  | 22 => ⟨S2048, .f32⟩
  | 23 => ⟨S_, .f32⟩
  | 24 => ⟨S512x64, .f32⟩
  | 25 => ⟨S_, .f32⟩
  | 26 => ⟨S2048x1024, .f32⟩
  | 27 => ⟨S_, .f32⟩
  | 28 => ⟨S1024, .f32⟩
  | 29 => ⟨S_, .f32⟩
  | 30 => ⟨S8x8x1024x256, .f32⟩
  | 31 => ⟨S_, .f32⟩
  | 32 => ⟨S256, .f32⟩
  | 33 => ⟨S_, .f32⟩
  | 34 => ⟨S4x4x256x128, .f32⟩
  | 35 => ⟨S_, .f32⟩
  | 36 => ⟨S128, .f32⟩
  | 37 => ⟨S_, .f32⟩
  | 38 => ⟨S2x2x128x1, .f32⟩
  | 39 => ⟨S_, .f32⟩
  | 40 => ⟨S1, .f32⟩
  | 41 => ⟨S_, .f32⟩
  | 42 => ⟨S128, .f32⟩
  | 43 => ⟨S64x32x2x32x2, .f32⟩
  | 44 => ⟨S64x32x1x32x1, .f32⟩
  | 45 => ⟨S64x32x32, .f32⟩
  | 46 => ⟨S_, .i32⟩
  | 47 => ⟨S_, .f32⟩
  | 48 => ⟨S64x34x34, .f32⟩
  | 49 => ⟨S64x32x1x32x1, .f32⟩
  | 50 => ⟨S64x32x32, .f32⟩
  | 51 => ⟨S_, .i32⟩
  | 52 => ⟨S_, .f32⟩
  | 53 => ⟨S64x34x34, .f32⟩
  | 54 => ⟨S64x32x1x32x1, .f32⟩
  | 55 => ⟨S64x32x32, .f32⟩
  | 56 => ⟨S_, .i32⟩
  | 57 => ⟨S_, .f32⟩
  | 58 => ⟨S64x34x34, .f32⟩
  | 59 => ⟨S64x32x1x32x1, .f32⟩
  | 60 => ⟨S64x32x32, .f32⟩
  | 61 => ⟨S_, .i32⟩
  | 62 => ⟨S_, .f32⟩
  | 63 => ⟨S64x34x34, .f32⟩
  | 64 => ⟨S64x32x32, .f32⟩
  | 65 => ⟨S64x32x32, .f32⟩
  | 66 => ⟨S64x32x32, .f32⟩
  | 67 => ⟨S64x32x32, .f32⟩
  | 68 => ⟨S64x32x32, .f32⟩
  | 69 => ⟨S64x32x32, .f32⟩
  | 70 => ⟨S64x32x32, .f32⟩
  | 71 => ⟨S64x32x32, .f32⟩
  | 72 => ⟨S64x32x32, .f32⟩
  | 73 => ⟨S64x32x32, .f32⟩
  | 74 => ⟨S64x32x32, .f32⟩
  | 75 => ⟨S64x32x32, .f32⟩
  | 76 => ⟨S64x32x32, .f32⟩
  | 77 => ⟨S64x32x32, .f32⟩
  | 78 => ⟨S64x32x32, .f32⟩
  | 79 => ⟨S64x32x32, .f32⟩
  | 80 => ⟨S64x32x32x1, .f32⟩
  | 81 => ⟨S64x32x32x1, .f32⟩
  | 82 => ⟨S64x32x32x1, .f32⟩
  | 83 => ⟨S64x32x32x1, .f32⟩
  | 84 => ⟨S64x32x32x1, .f32⟩
  | 85 => ⟨S64x32x32x1, .f32⟩
  | 86 => ⟨S64x32x32x1, .f32⟩
  | 87 => ⟨S64x32x32x1, .f32⟩
  | 88 => ⟨S64x32x32x1, .f32⟩
  | 89 => ⟨S64x32x32x1, .f32⟩
  | 90 => ⟨S64x32x32x1, .f32⟩
  | 91 => ⟨S64x32x32x1, .f32⟩
  | 92 => ⟨S64x32x32x1, .f32⟩
  | 93 => ⟨S64x32x32x1, .f32⟩
  | 94 => ⟨S64x32x32x1, .f32⟩
  | 95 => ⟨S64x32x32x1, .f32⟩
  | 96 => ⟨S64x32x32x16, .f32⟩
  | 97 => ⟨S65536x16, .f32⟩
  | 98 => ⟨S16x64, .f32⟩
  | 99 => ⟨S16x64x128, .f32⟩
  | 100 => ⟨S16x128x256, .f32⟩
  | 101 => ⟨S1x64, .f32⟩
  | 102 => ⟨S1x128, .f32⟩
  | 103 => ⟨S1x256, .f32⟩
  | 104 => ⟨S4096x256, .f32⟩
  | 105 => ⟨S64x1024x256, .f32⟩
  | 106 => ⟨S1x256, .f32⟩
  | 107 => ⟨S256x4x4x128, .f32⟩
  | 108 => ⟨S256x2048, .f32⟩
  | 109 => ⟨S1x128, .f32⟩
  | 110 => ⟨S16x128, .f32⟩
  | 111 => ⟨S2048, .f32⟩
  | 112 => ⟨S1x2048, .f32⟩
  | 113 => ⟨S16x16, .i32⟩
  | 114 => ⟨S16x16, .i32⟩
  | 115 => ⟨S_, .i32⟩
  | 116 => ⟨S16x16, .i32⟩
  | 117 => ⟨S16x16, .i32⟩
  | 118 => ⟨S16x16, .i1⟩
  | 119 => ⟨S16x16, .f32⟩
  | 120 => ⟨S128x2x2x1, .f32⟩
  | 121 => ⟨S128x4, .f32⟩
  | 122 => ⟨S16x1x16x1, .f32⟩
  | 123 => ⟨S1x128x1x4, .f32⟩
  | 124 => ⟨S16x128x16x4, .f32⟩
  | 125 => ⟨S16x128x16x4, .f32⟩
  | 126 => ⟨S16x128x16x4, .f32⟩
  | 127 => ⟨S2048x64, .f32⟩
  | _ => ⟨S2x2x128x1, .f32⟩

abbrev hbmTy0_1 (i : Nat) : BufTy := match i % 128 with
  | 0 => ⟨S1x1, .f32⟩
  | 1 => ⟨S64x1, .f32⟩
  | 2 => ⟨S64, .f32⟩
  | 3 => ⟨S1x64, .f32⟩
  | 4 => ⟨S64x16384, .f32⟩
  | 5 => ⟨S64x512, .f32⟩
  | 6 => ⟨S_, .f32⟩
  | 7 => ⟨S64x512, .f32⟩
  | 8 => ⟨S64x512, .f32⟩
  | 9 => ⟨S1x1024, .f32⟩
  | 10 => ⟨S1x2048, .f32⟩
  | 11 => ⟨S1x1024, .f32⟩
  | 12 => ⟨S4096x64, .f32⟩
  | 13 => ⟨S8x8x64x4x4x2x2, .f32⟩
  | 14 => ⟨S64x8x4x2x8x4x2, .f32⟩
  | 15 => ⟨S64x64x64x1, .f32⟩
  | _ => ⟨S2x2x128x1, .f32⟩

abbrev hbmTy (i : Nat) : BufTy := match i / 128 with
  | 0 => hbmTy0_0 i
  | 1 => hbmTy0_1 i
  | _ => ⟨S2x2x128x1, .f32⟩

abbrev bufTy : (tb : Table) → Fin (tcTables nBuf tb) → BufTy
  | .hbm, ⟨i, _⟩ => hbmTy i
  | .local _ .vmem, ⟨0, _⟩ => ⟨S16384x16, .f32⟩
  | .local _ .vmem, ⟨1, _⟩ => ⟨S16384x16, .f32⟩
  | .local _ .vmem, ⟨2, _⟩ => ⟨S16x64, .f32⟩
  | .local _ .vmem, ⟨3, _⟩ => ⟨S1x64, .f32⟩
  | .local _ .vmem, ⟨4, _⟩ => ⟨S16x64x128, .f32⟩
  | .local _ .vmem, ⟨5, _⟩ => ⟨S1x128, .f32⟩
  | .local _ .vmem, ⟨6, _⟩ => ⟨S16x128x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S4x4x16x10x10x64, .f32⟩
  | .local _ .vmem, ⟨11, _⟩ => ⟨S2x2x16x10x10x128, .f32⟩
  | .local _ .vmem, ⟨12, _⟩ => ⟨S64x2048, .f32⟩
  | .local _ .vmem, ⟨13, _⟩ => ⟨S64x2048, .f32⟩
  | .local _ .vmem, ⟨14, _⟩ => ⟨S2048x1024, .f32⟩
  | .local _ .vmem, ⟨15, _⟩ => ⟨S2048x1024, .f32⟩
  | .local _ .vmem, ⟨16, _⟩ => ⟨S1x1024, .f32⟩
  | .local _ .vmem, ⟨17, _⟩ => ⟨S1024x2048, .f32⟩
  | .local _ .vmem, ⟨18, _⟩ => ⟨S1x2048, .f32⟩
  | .local _ .vmem, ⟨19, _⟩ => ⟨S512x64, .f32⟩
  | .local _ .vmem, ⟨20, _⟩ => ⟨S64x512, .f32⟩
  | .local _ .vmem, ⟨21, _⟩ => ⟨S2048x1024, .f32⟩
  | .local _ .vmem, ⟨22, _⟩ => ⟨S1x1024, .f32⟩
  | .local _ .vmem, ⟨23, _⟩ => ⟨S4x1024x256, .f32⟩
  | .local _ .vmem, ⟨24, _⟩ => ⟨S4x1024x256, .f32⟩
  | .local _ .vmem, ⟨25, _⟩ => ⟨S1x256, .f32⟩
  | .local _ .vmem, ⟨26, _⟩ => ⟨S256x2048, .f32⟩
  | .local _ .vmem, ⟨27, _⟩ => ⟨S1x2048, .f32⟩
  | .local _ .vmem, ⟨28, _⟩ => ⟨S2048x64, .f32⟩
  | .local _ .vmem, ⟨29, _⟩ => ⟨S1x64, .f32⟩
  | .local _ .vmem, ⟨30, _⟩ => ⟨S512x64, .f32⟩
  | .local _ .vmem, ⟨31, _⟩ => ⟨S512x64, .f32⟩
  | .local _ .vmem, ⟨32, _⟩ => ⟨S64x1024, .f32⟩
  | .local _ .vmem, ⟨33, _⟩ => ⟨S64x1024, .f32⟩
  | .local _ .vmem, ⟨34, _⟩ => ⟨S4096x256, .f32⟩
  | _, _ => ⟨S2x2x128x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_cst_3 : Ref sig .tc := ⟨.hbm, 9, rfl⟩
abbrev main_v4 : Ref sig .tc := ⟨.hbm, 10, rfl⟩
abbrev main_cst_4 : Ref sig .tc := ⟨.hbm, 11, rfl⟩
abbrev main_v5 : Ref sig .tc := ⟨.hbm, 12, rfl⟩
abbrev main_cst_5 : Ref sig .tc := ⟨.hbm, 13, rfl⟩
abbrev main_v6 : Ref sig .tc := ⟨.hbm, 14, rfl⟩
abbrev main_cst_6 : Ref sig .tc := ⟨.hbm, 15, rfl⟩
abbrev main_v7 : Ref sig .tc := ⟨.hbm, 16, rfl⟩
abbrev main_cst_7 : Ref sig .tc := ⟨.hbm, 17, rfl⟩
abbrev main_v8 : Ref sig .tc := ⟨.hbm, 18, rfl⟩
abbrev main_cst_8 : Ref sig .tc := ⟨.hbm, 19, rfl⟩
abbrev main_v9 : Ref sig .tc := ⟨.hbm, 20, rfl⟩
abbrev main_cst_9 : Ref sig .tc := ⟨.hbm, 21, rfl⟩
abbrev main_v10 : Ref sig .tc := ⟨.hbm, 22, rfl⟩
abbrev main_cst_10 : Ref sig .tc := ⟨.hbm, 23, rfl⟩
abbrev main_v11 : Ref sig .tc := ⟨.hbm, 24, rfl⟩
abbrev main_cst_11 : Ref sig .tc := ⟨.hbm, 25, rfl⟩
abbrev main_v12 : Ref sig .tc := ⟨.hbm, 26, rfl⟩
abbrev main_cst_12 : Ref sig .tc := ⟨.hbm, 27, rfl⟩
abbrev main_v13 : Ref sig .tc := ⟨.hbm, 28, rfl⟩
abbrev main_cst_13 : Ref sig .tc := ⟨.hbm, 29, rfl⟩
abbrev main_v14 : Ref sig .tc := ⟨.hbm, 30, rfl⟩
abbrev main_cst_14 : Ref sig .tc := ⟨.hbm, 31, rfl⟩
abbrev main_v15 : Ref sig .tc := ⟨.hbm, 32, rfl⟩
abbrev main_cst_15 : Ref sig .tc := ⟨.hbm, 33, rfl⟩
abbrev main_v16 : Ref sig .tc := ⟨.hbm, 34, rfl⟩
abbrev main_cst_16 : Ref sig .tc := ⟨.hbm, 35, rfl⟩
abbrev main_v17 : Ref sig .tc := ⟨.hbm, 36, rfl⟩
abbrev main_cst_17 : Ref sig .tc := ⟨.hbm, 37, rfl⟩
abbrev main_v18 : Ref sig .tc := ⟨.hbm, 38, rfl⟩
abbrev main_cst_18 : Ref sig .tc := ⟨.hbm, 39, rfl⟩
abbrev main_v19 : Ref sig .tc := ⟨.hbm, 40, rfl⟩
abbrev main_cst_19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_call0_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_20 : Ref sig .tc := ⟨.hbm, 51, rfl⟩
abbrev main_call1_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_21 : Ref sig .tc := ⟨.hbm, 56, rfl⟩
abbrev main_call2_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_22 : Ref sig .tc := ⟨.hbm, 61, rfl⟩
abbrev main_call3_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_23 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_24 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc1_stg15_0 : Ref sig .tc := ⟨.vmem, 30, rfl⟩
abbrev cc1_stg15_1 : Ref sig .tc := ⟨.vmem, 31, rfl⟩
abbrev cc1_scratch0 : Ref sig .tc := ⟨.vmem, 32, rfl⟩
abbrev cc1_scratch1 : Ref sig .tc := ⟨.vmem, 33, rfl⟩
abbrev cc1_scratch2 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem15_0 : DmaSem sig := 28
abbrev cc1_sem15_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![33], ![false]⟩

def k1_cond4 (i : grid1.Coords) : BitVec 1 :=
  let arg0 : BitVec 32 := BitVec.ofNat 32 (i 0).val
  let c9_i32 : BitVec 32 := 9#32
  let v9 : BitVec 1 := Scalar.cmpi .sge arg0 c9_i32
  let c25_i32 : BitVec 32 := 25#32
  let v10 : BitVec 1 := Scalar.cmpi .slt arg0 c25_i32
  let v11 : BitVec 1 := Scalar.andi v9 v10
  let v12 : BitVec 32 := Scalar.extui v11
  let c0_i32_4 : BitVec 32 := 0#32
  let v13 : BitVec 1 := Scalar.cmpi .ne v12 c0_i32_4
  v13

def k1_off1 (i : grid1.Coords) (c0_i32_15 : BitVec 32) : Fin 2 → Nat :=
  let arg0 : BitVec 32 := BitVec.ofNat 32 (i 0).val
  let c9_i32_7 : BitVec 32 := 9#32
  let v17 : BitVec 32 := Scalar.subi arg0 c9_i32_7
  let c256_i32 : BitVec 32 := 256#32
  let v30 : BitVec 32 := Scalar.muli v17 c256_i32
  let v31 : BitVec 32 := Scalar.addi v30 c0_i32_15
  let v32 : Index := Scalar.indexCast v31
  let c0_16 : Index := 0#32
  ![v32.toNat, 0]
def k1_cond5 (i : grid1.Coords) : BitVec 1 :=
  let arg0 : BitVec 32 := BitVec.ofNat 32 (i 0).val
  let c25_i32_5 : BitVec 32 := 25#32
  let v14 : BitVec 1 := Scalar.cmpi .sge arg0 c25_i32_5
  let v15 : BitVec 32 := Scalar.extui v14
  let c0_i32_6 : BitVec 32 := 0#32
  let v16 : BitVec 1 := Scalar.cmpi .ne v15 c0_i32_6
  v16

def k1_off2 (i : grid1.Coords) : Fin 2 → Nat :=
  let arg0 : BitVec 32 := BitVec.ofNat 32 (i 0).val
  let c25_i32_7 : BitVec 32 := 25#32
  let v17 : BitVec 32 := Scalar.subi arg0 c25_i32_7
  let c512_i32 : BitVec 32 := 512#32
  let v18 : BitVec 32 := Scalar.muli v17 c512_i32
  let v19 : Index := Scalar.indexCast v18
  let c0 : Index := 0#32
  ![v19.toNat, 0]
def cc1_transform_0 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c9_i32 : BitVec 32 := 9#32
  let v0 : BitVec 32 := Scalar.subi arg0 c9_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![v2.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4x1024x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S2048x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S512x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== ReferenceAtIdeal.lean ====
abbrev S2x2x128x1 : Shape := ⟨4, ![2, 2, 128, 1]⟩
abbrev S_ : Shape := ⟨0, ![]⟩
abbrev S64x64x64 : Shape := ⟨3, ![64, 64, 64]⟩
abbrev S4x4x1x64 : Shape := ⟨4, ![4, 4, 1, 64]⟩
abbrev S64 : Shape := ⟨1, ![64]⟩
abbrev S4x4x64x128 : Shape := ⟨4, ![4, 4, 64, 128]⟩
abbrev S128 : Shape := ⟨1, ![128]⟩
abbrev S4x4x128x256 : Shape := ⟨4, ![4, 4, 128, 256]⟩
abbrev S256 : Shape := ⟨1, ![256]⟩
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S512x64 : Shape := ⟨2, ![512, 64]⟩
abbrev S2048x1024 : Shape := ⟨2, ![2048, 1024]⟩
abbrev S8x8x1024x256 : Shape := ⟨4, ![8, 8, 1024, 256]⟩
abbrev S4x4x256x128 : Shape := ⟨4, ![4, 4, 256, 128]⟩
abbrev S1 : Shape := ⟨1, ![1]⟩
abbrev S64x64x64x1 : Shape := ⟨4, ![64, 64, 64, 1]⟩
abbrev S64x66x66x1 : Shape := ⟨4, ![64, 66, 66, 1]⟩
abbrev S64x32x32x64 : Shape := ⟨4, ![64, 32, 32, 64]⟩
abbrev S64x32x32x1 : Shape := ⟨4, ![64, 32, 32, 1]⟩
abbrev S1x1x1x64 : Shape := ⟨4, ![1, 1, 1, 64]⟩
abbrev S1x64 : Shape := ⟨2, ![1, 64]⟩
abbrev S64x34x34x64 : Shape := ⟨4, ![64, 34, 34, 64]⟩
abbrev S64x16x16x128 : Shape := ⟨4, ![64, 16, 16, 128]⟩
abbrev S64x16x16x64 : Shape := ⟨4, ![64, 16, 16, 64]⟩
abbrev S1x1x64x128 : Shape := ⟨4, ![1, 1, 64, 128]⟩
abbrev S64x128 : Shape := ⟨2, ![64, 128]⟩
abbrev S1x1x1x128 : Shape := ⟨4, ![1, 1, 1, 128]⟩
abbrev S64x18x18x128 : Shape := ⟨4, ![64, 18, 18, 128]⟩
abbrev S64x8x8x256 : Shape := ⟨4, ![64, 8, 8, 256]⟩
abbrev S64x8x8x128 : Shape := ⟨4, ![64, 8, 8, 128]⟩
abbrev S1x1x128x256 : Shape := ⟨4, ![1, 1, 128, 256]⟩
abbrev S128x256 : Shape := ⟨2, ![128, 256]⟩
abbrev S1x1x1x256 : Shape := ⟨4, ![1, 1, 1, 256]⟩
abbrev S64x16384 : Shape := ⟨2, ![64, 16384]⟩
abbrev S64x1024 : Shape := ⟨2, ![64, 1024]⟩
abbrev S1x1024 : Shape := ⟨2, ![1, 1024]⟩
abbrev S64x2048 : Shape := ⟨2, ![64, 2048]⟩
abbrev S1x2048 : Shape := ⟨2, ![1, 2048]⟩
abbrev S64x32x64 : Shape := ⟨3, ![64, 32, 64]⟩
abbrev S64x32x1x64 : Shape := ⟨4, ![64, 32, 1, 64]⟩
abbrev S1x1x512x64 : Shape := ⟨4, ![1, 1, 512, 64]⟩
abbrev S64x32x512x64 : Shape := ⟨4, ![64, 32, 512, 64]⟩
abbrev S64x32x512 : Shape := ⟨3, ![64, 32, 512]⟩
abbrev S64x32 : Shape := ⟨2, ![64, 32]⟩
abbrev S64x32x1 : Shape := ⟨3, ![64, 32, 1]⟩
abbrev S1x1x1 : Shape := ⟨3, ![1, 1, 1]⟩
abbrev S64x1x1x1024 : Shape := ⟨4, ![64, 1, 1, 1024]⟩
abbrev S8x8x256x64x1x1 : Shape := ⟨6, ![8, 8, 256, 64, 1, 1]⟩
abbrev S64x1x8x1x8x256 : Shape := ⟨6, ![64, 1, 8, 1, 8, 256]⟩
abbrev S4x4x128x64x8x8 : Shape := ⟨6, ![4, 4, 128, 64, 8, 8]⟩
abbrev S64x8x4x8x4x128 : Shape := ⟨6, ![64, 8, 4, 8, 4, 128]⟩
abbrev S64x32x32x128 : Shape := ⟨4, ![64, 32, 32, 128]⟩
abbrev S2x2x1x64x32x32 : Shape := ⟨6, ![2, 2, 1, 64, 32, 32]⟩
abbrev S64x32x2x32x2x1 : Shape := ⟨6, ![64, 32, 2, 32, 2, 1]⟩
abbrev S1x1x1x1 : Shape := ⟨4, ![1, 1, 1, 1]⟩

abbrev nBuf : Space → Nat
  | .hbm => 414
  | .vmem => 0
  | .smem => 0
  | _ => 0

abbrev hbmTy0_0 (i : Nat) : BufTy := match i % 128 with
  | 0 => ⟨S2x2x128x1, .f32⟩
  | 1 => ⟨S_, .f32⟩
  | 2 => ⟨S64x64x64, .f32⟩
  | 3 => ⟨S_, .f32⟩
  | 4 => ⟨S4x4x1x64, .f32⟩
  | 5 => ⟨S_, .f32⟩
  | 6 => ⟨S64, .f32⟩
  | 7 => ⟨S_, .f32⟩
  | 8 => ⟨S4x4x64x128, .f32⟩
  | 9 => ⟨S_, .f32⟩
  | 10 => ⟨S128, .f32⟩
  | 11 => ⟨S_, .f32⟩
  | 12 => ⟨S4x4x128x256, .f32⟩
  | 13 => ⟨S_, .f32⟩
  | 14 => ⟨S256, .f32⟩
  | 15 => ⟨S_, .f32⟩
  | 16 => ⟨S16384x1024, .f32⟩
  | 17 => ⟨S_, .f32⟩
  | 18 => ⟨S1024, .f32⟩
  | 19 => ⟨S_, .f32⟩
  | 20 => ⟨S1024x2048, .f32⟩
  | 21 => ⟨S_, .f32⟩
  | 22 => ⟨S2048, .f32⟩
  | 23 => ⟨S_, .f32⟩
  | 24 => ⟨S512x64, .f32⟩
  | 25 => ⟨S_, .f32⟩
  | 26 => ⟨S2048x1024, .f32⟩
  | 27 => ⟨S_, .f32⟩
  | 28 => ⟨S1024, .f32⟩
  | 29 => ⟨S_, .f32⟩
  | 30 => ⟨S8x8x1024x256, .f32⟩
  | 31 => ⟨S_, .f32⟩
  | 32 => ⟨S256, .f32⟩
  | 33 => ⟨S_, .f32⟩
  | 34 => ⟨S4x4x256x128, .f32⟩
  | 35 => ⟨S_, .f32⟩
  | 36 => ⟨S128, .f32⟩
  | 37 => ⟨S_, .f32⟩
  | 38 => ⟨S2x2x128x1, .f32⟩
  | 39 => ⟨S_, .f32⟩
  | 40 => ⟨S1, .f32⟩
  | 41 => ⟨S_, .f32⟩
  | 42 => ⟨S128, .f32⟩
  | 43 => ⟨S64x64x64x1, .f32⟩
  | 44 => ⟨S_, .i32⟩
  | 45 => ⟨S_, .f32⟩
  | 46 => ⟨S64x66x66x1, .f32⟩
  | 47 => ⟨S_, .f32⟩
  | 48 => ⟨S64x32x32x64, .f32⟩
  | 49 => ⟨S64x32x32x1, .f32⟩
  | 50 => ⟨S1x1x1x64, .f32⟩
  | 51 => ⟨S1x64, .f32⟩
  | 52 => ⟨S64x32x32x64, .f32⟩
  | 53 => ⟨S64x32x32x64, .f32⟩
  | 54 => ⟨S64x32x32x1, .f32⟩
  | 55 => ⟨S1x1x1x64, .f32⟩
  | 56 => ⟨S1x64, .f32⟩
  | 57 => ⟨S64x32x32x64, .f32⟩
  | 58 => ⟨S64x32x32x64, .f32⟩
  | 59 => ⟨S64x32x32x1, .f32⟩
  | 60 => ⟨S1x1x1x64, .f32⟩
  | 61 => ⟨S1x64, .f32⟩
  | 62 => ⟨S64x32x32x64, .f32⟩
  | 63 => ⟨S64x32x32x64, .f32⟩
  | 64 => ⟨S64x32x32x1, .f32⟩
  | 65 => ⟨S1x1x1x64, .f32⟩
  | 66 => ⟨S1x64, .f32⟩
  | 67 => ⟨S64x32x32x64, .f32⟩
  | 68 => ⟨S64x32x32x64, .f32⟩
  | 69 => ⟨S64x32x32x1, .f32⟩
  | 70 => ⟨S1x1x1x64, .f32⟩
  | 71 => ⟨S1x64, .f32⟩
  | 72 => ⟨S64x32x32x64, .f32⟩
  | 73 => ⟨S64x32x32x64, .f32⟩
  | 74 => ⟨S64x32x32x1, .f32⟩
  | 75 => ⟨S1x1x1x64, .f32⟩
  | 76 => ⟨S1x64, .f32⟩
  | 77 => ⟨S64x32x32x64, .f32⟩
  | 78 => ⟨S64x32x32x64, .f32⟩
  | 79 => ⟨S64x32x32x1, .f32⟩
  | 80 => ⟨S1x1x1x64, .f32⟩
  | 81 => ⟨S1x64, .f32⟩
  | 82 => ⟨S64x32x32x64, .f32⟩
  | 83 => ⟨S64x32x32x64, .f32⟩
  | 84 => ⟨S64x32x32x1, .f32⟩
  | 85 => ⟨S1x1x1x64, .f32⟩
  | 86 => ⟨S1x64, .f32⟩
  | 87 => ⟨S64x32x32x64, .f32⟩
  | 88 => ⟨S64x32x32x64, .f32⟩
  | 89 => ⟨S64x32x32x1, .f32⟩
  | 90 => ⟨S1x1x1x64, .f32⟩
  | 91 => ⟨S1x64, .f32⟩
  | 92 => ⟨S64x32x32x64, .f32⟩
  | 93 => ⟨S64x32x32x64, .f32⟩
  | 94 => ⟨S64x32x32x1, .f32⟩
  | 95 => ⟨S1x1x1x64, .f32⟩
  | 96 => ⟨S1x64, .f32⟩
  | 97 => ⟨S64x32x32x64, .f32⟩
  | 98 => ⟨S64x32x32x64, .f32⟩
  | 99 => ⟨S64x32x32x1, .f32⟩
  | 100 => ⟨S1x1x1x64, .f32⟩
  | 101 => ⟨S1x64, .f32⟩
  | 102 => ⟨S64x32x32x64, .f32⟩
  | 103 => ⟨S64x32x32x64, .f32⟩
  | 104 => ⟨S64x32x32x1, .f32⟩
  | 105 => ⟨S1x1x1x64, .f32⟩
  | 106 => ⟨S1x64, .f32⟩
  | 107 => ⟨S64x32x32x64, .f32⟩
  | 108 => ⟨S64x32x32x64, .f32⟩
  | 109 => ⟨S64x32x32x1, .f32⟩
  | 110 => ⟨S1x1x1x64, .f32⟩
  | 111 => ⟨S1x64, .f32⟩
  | 112 => ⟨S64x32x32x64, .f32⟩
  | 113 => ⟨S64x32x32x64, .f32⟩
  | 114 => ⟨S64x32x32x1, .f32⟩
  | 115 => ⟨S1x1x1x64, .f32⟩
  | 116 => ⟨S1x64, .f32⟩
  | 117 => ⟨S64x32x32x64, .f32⟩
  | 118 => ⟨S64x32x32x64, .f32⟩
  | 119 => ⟨S64x32x32x1, .f32⟩
  | 120 => ⟨S1x1x1x64, .f32⟩
  | 121 => ⟨S1x64, .f32⟩
  | 122 => ⟨S64x32x32x64, .f32⟩
  | 123 => ⟨S64x32x32x64, .f32⟩
  | 124 => ⟨S64x32x32x1, .f32⟩
  | 125 => ⟨S1x1x1x64, .f32⟩
  | 126 => ⟨S1x64, .f32⟩
  | 127 => ⟨S64x32x32x64, .f32⟩
  | _ => ⟨S2x2x128x1, .f32⟩

abbrev hbmTy0_1 (i : Nat) : BufTy := match i % 128 with
  | 0 => ⟨S64x32x32x64, .f32⟩
  | 1 => ⟨S1x1x1x64, .f32⟩
  | 2 => ⟨S64x32x32x64, .f32⟩
  | 3 => ⟨S64x32x32x64, .f32⟩
  | 4 => ⟨S_, .f32⟩
  | 5 => ⟨S64x32x32x64, .f32⟩
  | 6 => ⟨S64x32x32x64, .f32⟩
  | 7 => ⟨S_, .i32⟩
  | 8 => ⟨S_, .f32⟩
  | 9 => ⟨S64x34x34x64, .f32⟩
  | 10 => ⟨S_, .f32⟩
  | 11 => ⟨S64x16x16x128, .f32⟩
  | 12 => ⟨S64x16x16x64, .f32⟩
  | 13 => ⟨S1x1x64x128, .f32⟩
  | 14 => ⟨S64x128, .f32⟩
  | 15 => ⟨S64x16x16x128, .f32⟩
  | 16 => ⟨S64x16x16x128, .f32⟩
  | 17 => ⟨S64x16x16x64, .f32⟩
  | 18 => ⟨S1x1x64x128, .f32⟩
  | 19 => ⟨S64x128, .f32⟩
  | 20 => ⟨S64x16x16x128, .f32⟩
  | 21 => ⟨S64x16x16x128, .f32⟩
  | 22 => ⟨S64x16x16x64, .f32⟩
  | 23 => ⟨S1x1x64x128, .f32⟩
  | 24 => ⟨S64x128, .f32⟩
  | 25 => ⟨S64x16x16x128, .f32⟩
  | 26 => ⟨S64x16x16x128, .f32⟩
  | 27 => ⟨S64x16x16x64, .f32⟩
  | 28 => ⟨S1x1x64x128, .f32⟩
  | 29 => ⟨S64x128, .f32⟩
  | 30 => ⟨S64x16x16x128, .f32⟩
  | 31 => ⟨S64x16x16x128, .f32⟩
  | 32 => ⟨S64x16x16x64, .f32⟩
  | 33 => ⟨S1x1x64x128, .f32⟩
  | 34 => ⟨S64x128, .f32⟩
  | 35 => ⟨S64x16x16x128, .f32⟩
  | 36 => ⟨S64x16x16x128, .f32⟩
  | 37 => ⟨S64x16x16x64, .f32⟩
  | 38 => ⟨S1x1x64x128, .f32⟩
  | 39 => ⟨S64x128, .f32⟩
  | 40 => ⟨S64x16x16x128, .f32⟩
  | 41 => ⟨S64x16x16x128, .f32⟩
  | 42 => ⟨S64x16x16x64, .f32⟩
  | 43 => ⟨S1x1x64x128, .f32⟩
  | 44 => ⟨S64x128, .f32⟩
  | 45 => ⟨S64x16x16x128, .f32⟩
  | 46 => ⟨S64x16x16x128, .f32⟩
  | 47 => ⟨S64x16x16x64, .f32⟩
  | 48 => ⟨S1x1x64x128, .f32⟩
  | 49 => ⟨S64x128, .f32⟩
  | 50 => ⟨S64x16x16x128, .f32⟩
  | 51 => ⟨S64x16x16x128, .f32⟩
  | 52 => ⟨S64x16x16x64, .f32⟩
  | 53 => ⟨S1x1x64x128, .f32⟩
  | 54 => ⟨S64x128, .f32⟩
  | 55 => ⟨S64x16x16x128, .f32⟩
  | 56 => ⟨S64x16x16x128, .f32⟩
  | 57 => ⟨S64x16x16x64, .f32⟩
  | 58 => ⟨S1x1x64x128, .f32⟩
  | 59 => ⟨S64x128, .f32⟩
  | 60 => ⟨S64x16x16x128, .f32⟩
  | 61 => ⟨S64x16x16x128, .f32⟩
  | 62 => ⟨S64x16x16x64, .f32⟩
  | 63 => ⟨S1x1x64x128, .f32⟩
  | 64 => ⟨S64x128, .f32⟩
  | 65 => ⟨S64x16x16x128, .f32⟩
  | 66 => ⟨S64x16x16x128, .f32⟩
  | 67 => ⟨S64x16x16x64, .f32⟩
  | 68 => ⟨S1x1x64x128, .f32⟩
  | 69 => ⟨S64x128, .f32⟩
  | 70 => ⟨S64x16x16x128, .f32⟩
  | 71 => ⟨S64x16x16x128, .f32⟩
  | 72 => ⟨S64x16x16x64, .f32⟩
  | 73 => ⟨S1x1x64x128, .f32⟩
  | 74 => ⟨S64x128, .f32⟩
  | 75 => ⟨S64x16x16x128, .f32⟩
  | 76 => ⟨S64x16x16x128, .f32⟩
  | 77 => ⟨S64x16x16x64, .f32⟩
  | 78 => ⟨S1x1x64x128, .f32⟩
  | 79 => ⟨S64x128, .f32⟩
  | 80 => ⟨S64x16x16x128, .f32⟩
  | 81 => ⟨S64x16x16x128, .f32⟩
  | 82 => ⟨S64x16x16x64, .f32⟩
  | 83 => ⟨S1x1x64x128, .f32⟩
  | 84 => ⟨S64x128, .f32⟩
  | 85 => ⟨S64x16x16x128, .f32⟩
  | 86 => ⟨S64x16x16x128, .f32⟩
  | 87 => ⟨S64x16x16x64, .f32⟩
  | 88 => ⟨S1x1x64x128, .f32⟩
  | 89 => ⟨S64x128, .f32⟩
  | 90 => ⟨S64x16x16x128, .f32⟩
  | 91 => ⟨S64x16x16x128, .f32⟩
  | 92 => ⟨S1x1x1x128, .f32⟩
  | 93 => ⟨S64x16x16x128, .f32⟩
  | 94 => ⟨S64x16x16x128, .f32⟩
  | 95 => ⟨S_, .f32⟩
  | 96 => ⟨S64x16x16x128, .f32⟩
  | 97 => ⟨S64x16x16x128, .f32⟩
  | 98 => ⟨S_, .i32⟩
  | 99 => ⟨S_, .f32⟩
  | 100 => ⟨S64x18x18x128, .f32⟩
  | 101 => ⟨S_, .f32⟩
  | 102 => ⟨S64x8x8x256, .f32⟩
  | 103 => ⟨S64x8x8x128, .f32⟩
  | 104 => ⟨S1x1x128x256, .f32⟩
  | 105 => ⟨S128x256, .f32⟩
  | 106 => ⟨S64x8x8x256, .f32⟩
  | 107 => ⟨S64x8x8x256, .f32⟩
  | 108 => ⟨S64x8x8x128, .f32⟩
  | 109 => ⟨S1x1x128x256, .f32⟩
  | 110 => ⟨S128x256, .f32⟩
  | 111 => ⟨S64x8x8x256, .f32⟩
  | 112 => ⟨S64x8x8x256, .f32⟩
  | 113 => ⟨S64x8x8x128, .f32⟩
  | 114 => ⟨S1x1x128x256, .f32⟩
  | 115 => ⟨S128x256, .f32⟩
  | 116 => ⟨S64x8x8x256, .f32⟩
  | 117 => ⟨S64x8x8x256, .f32⟩
  | 118 => ⟨S64x8x8x128, .f32⟩
  | 119 => ⟨S1x1x128x256, .f32⟩
  | 120 => ⟨S128x256, .f32⟩
  | 121 => ⟨S64x8x8x256, .f32⟩
  | 122 => ⟨S64x8x8x256, .f32⟩
  | 123 => ⟨S64x8x8x128, .f32⟩
  | 124 => ⟨S1x1x128x256, .f32⟩
  | 125 => ⟨S128x256, .f32⟩
  | 126 => ⟨S64x8x8x256, .f32⟩
  | 127 => ⟨S64x8x8x256, .f32⟩
  | _ => ⟨S2x2x128x1, .f32⟩

abbrev hbmTy0_2 (i : Nat) : BufTy := match i % 128 with
  | 0 => ⟨S64x8x8x128, .f32⟩
  | 1 => ⟨S1x1x128x256, .f32⟩
  | 2 => ⟨S128x256, .f32⟩
  | 3 => ⟨S64x8x8x256, .f32⟩
  | 4 => ⟨S64x8x8x256, .f32⟩
  | 5 => ⟨S64x8x8x128, .f32⟩
  | 6 => ⟨S1x1x128x256, .f32⟩
  | 7 => ⟨S128x256, .f32⟩
  | 8 => ⟨S64x8x8x256, .f32⟩
  | 9 => ⟨S64x8x8x256, .f32⟩
  | 10 => ⟨S64x8x8x128, .f32⟩
  | 11 => ⟨S1x1x128x256, .f32⟩
  | 12 => ⟨S128x256, .f32⟩
  | 13 => ⟨S64x8x8x256, .f32⟩
  | 14 => ⟨S64x8x8x256, .f32⟩
  | 15 => ⟨S64x8x8x128, .f32⟩
  | 16 => ⟨S1x1x128x256, .f32⟩
  | 17 => ⟨S128x256, .f32⟩
  | 18 => ⟨S64x8x8x256, .f32⟩
  | 19 => ⟨S64x8x8x256, .f32⟩
  | 20 => ⟨S64x8x8x128, .f32⟩
  | 21 => ⟨S1x1x128x256, .f32⟩
  | 22 => ⟨S128x256, .f32⟩
  | 23 => ⟨S64x8x8x256, .f32⟩
  | 24 => ⟨S64x8x8x256, .f32⟩
  | 25 => ⟨S64x8x8x128, .f32⟩
  | 26 => ⟨S1x1x128x256, .f32⟩
  | 27 => ⟨S128x256, .f32⟩
  | 28 => ⟨S64x8x8x256, .f32⟩
  | 29 => ⟨S64x8x8x256, .f32⟩
  | 30 => ⟨S64x8x8x128, .f32⟩
  | 31 => ⟨S1x1x128x256, .f32⟩
  | 32 => ⟨S128x256, .f32⟩
  | 33 => ⟨S64x8x8x256, .f32⟩
  | 34 => ⟨S64x8x8x256, .f32⟩
  | 35 => ⟨S64x8x8x128, .f32⟩
  | 36 => ⟨S1x1x128x256, .f32⟩
  | 37 => ⟨S128x256, .f32⟩
  | 38 => ⟨S64x8x8x256, .f32⟩
  | 39 => ⟨S64x8x8x256, .f32⟩
  | 40 => ⟨S64x8x8x128, .f32⟩
  | 41 => ⟨S1x1x128x256, .f32⟩
  | 42 => ⟨S128x256, .f32⟩
  | 43 => ⟨S64x8x8x256, .f32⟩
  | 44 => ⟨S64x8x8x256, .f32⟩
  | 45 => ⟨S64x8x8x128, .f32⟩
  | 46 => ⟨S1x1x128x256, .f32⟩
  | 47 => ⟨S128x256, .f32⟩
  | 48 => ⟨S64x8x8x256, .f32⟩
  | 49 => ⟨S64x8x8x256, .f32⟩
  | 50 => ⟨S64x8x8x128, .f32⟩
  | 51 => ⟨S1x1x128x256, .f32⟩
  | 52 => ⟨S128x256, .f32⟩
  | 53 => ⟨S64x8x8x256, .f32⟩
  | 54 => ⟨S64x8x8x256, .f32⟩
  | 55 => ⟨S1x1x1x256, .f32⟩
  | 56 => ⟨S64x8x8x256, .f32⟩
  | 57 => ⟨S64x8x8x256, .f32⟩
  | 58 => ⟨S_, .f32⟩
  | 59 => ⟨S64x8x8x256, .f32⟩
  | 60 => ⟨S64x8x8x256, .f32⟩
  | 61 => ⟨S64x16384, .f32⟩
  | 62 => ⟨S64x1024, .f32⟩
  | 63 => ⟨S1x1024, .f32⟩
  | 64 => ⟨S64x1024, .f32⟩
  | 65 => ⟨S64x1024, .f32⟩
  | 66 => ⟨S_, .f32⟩
  | 67 => ⟨S64x1024, .f32⟩
  | 68 => ⟨S64x1024, .f32⟩
  | 69 => ⟨S64x2048, .f32⟩
  | 70 => ⟨S1x2048, .f32⟩
  | 71 => ⟨S64x2048, .f32⟩
  | 72 => ⟨S64x2048, .f32⟩
  | 73 => ⟨S_, .f32⟩
  | 74 => ⟨S64x2048, .f32⟩
  | 75 => ⟨S64x2048, .f32⟩
  | 76 => ⟨S64x32x64, .f32⟩
  | 77 => ⟨S64x32x1x64, .f32⟩
  | 78 => ⟨S1x1x512x64, .f32⟩
  | 79 => ⟨S64x32x512x64, .f32⟩
  | 80 => ⟨S64x32x512x64, .f32⟩
  | 81 => ⟨S64x32x512x64, .f32⟩
  | 82 => ⟨S64x32x512x64, .f32⟩
  | 83 => ⟨S_, .f32⟩
  | 84 => ⟨S64x32x512, .f32⟩
  | 85 => ⟨S64x32x512, .f32⟩
  | 86 => ⟨S64x32x512, .i32⟩
  | 87 => ⟨S_, .f32⟩
  | 88 => ⟨S_, .i32⟩
  | 89 => ⟨S64x32, .f32⟩
  | 90 => ⟨S64x32, .i32⟩
  | 91 => ⟨S_, .i32⟩
  | 92 => ⟨S64x32, .i32⟩
  | 93 => ⟨S64x32, .i1⟩
  | 94 => ⟨S_, .i32⟩
  | 95 => ⟨S64x32, .i32⟩
  | 96 => ⟨S64x32, .i32⟩
  | 97 => ⟨S64x32, .i32⟩
  | 98 => ⟨S64x32x1, .i32⟩
  | 99 => ⟨S1, .i32⟩
  | 100 => ⟨S_, .i32⟩
  | 101 => ⟨S64x32x1, .i32⟩
  | 102 => ⟨S64x32x1, .i1⟩
  | 103 => ⟨S1x1x1, .i32⟩
  | 104 => ⟨S64x32x1, .i32⟩
  | 105 => ⟨S64x32x1, .i1⟩
  | 106 => ⟨S64x32x1, .i1⟩
  | 107 => ⟨S_, .i1⟩
  | 108 => ⟨S64x32, .i1⟩
  | 109 => ⟨S64x32x64, .f32⟩
  | 110 => ⟨S64x32x64, .i1⟩
  | 111 => ⟨S_, .f32⟩
  | 112 => ⟨S64x32x64, .f32⟩
  | 113 => ⟨S64x32x64, .f32⟩
  | 114 => ⟨S64x2048, .f32⟩
  | 115 => ⟨S64x1024, .f32⟩
  | 116 => ⟨S1x1024, .f32⟩
  | 117 => ⟨S64x1024, .f32⟩
  | 118 => ⟨S64x1024, .f32⟩
  | 119 => ⟨S_, .f32⟩
  | 120 => ⟨S64x1024, .f32⟩
  | 121 => ⟨S64x1024, .f32⟩
  | 122 => ⟨S64x1x1x1024, .f32⟩
  | 123 => ⟨S8x8x1024x256, .f32⟩
  | 124 => ⟨S8x8x256x64x1x1, .f32⟩
  | 125 => ⟨S64x1x8x1x8x256, .f32⟩
  | 126 => ⟨S64x8x8x256, .f32⟩
  | 127 => ⟨S1x1x1x256, .f32⟩
  | _ => ⟨S2x2x128x1, .f32⟩

abbrev hbmTy0_3 (i : Nat) : BufTy := match i % 128 with
  | 0 => ⟨S64x8x8x256, .f32⟩
  | 1 => ⟨S64x8x8x256, .f32⟩
  | 2 => ⟨S_, .f32⟩
  | 3 => ⟨S64x8x8x256, .f32⟩
  | 4 => ⟨S64x8x8x256, .f32⟩
  | 5 => ⟨S4x4x256x128, .f32⟩
  | 6 => ⟨S4x4x128x64x8x8, .f32⟩
  | 7 => ⟨S64x8x4x8x4x128, .f32⟩
  | 8 => ⟨S64x32x32x128, .f32⟩
  | 9 => ⟨S1x1x1x128, .f32⟩
  | 10 => ⟨S64x32x32x128, .f32⟩
  | 11 => ⟨S64x32x32x128, .f32⟩
  | 12 => ⟨S_, .f32⟩
  | 13 => ⟨S64x32x32x128, .f32⟩
  | 14 => ⟨S64x32x32x128, .f32⟩
  | 15 => ⟨S2x2x128x1, .f32⟩
  | 16 => ⟨S2x2x1x64x32x32, .f32⟩
  | 17 => ⟨S64x32x2x32x2x1, .f32⟩
  | 18 => ⟨S64x64x64x1, .f32⟩
  | 19 => ⟨S1x1x1x1, .f32⟩
  | 20 => ⟨S64x64x64x1, .f32⟩
  | 21 => ⟨S64x64x64x1, .f32⟩
  | 22 => ⟨S64x64x64x1, .f32⟩
  | 23 => ⟨S64x64x64x1, .f32⟩
  | 24 => ⟨S_, .f32⟩
  | 25 => ⟨S64x64x64x1, .f32⟩
  | 26 => ⟨S64x64x64x1, .f32⟩
  | 27 => ⟨S_, .f32⟩
  | 28 => ⟨S64x64x64x1, .f32⟩
  | 29 => ⟨S64x64x64x1, .f32⟩
  | _ => ⟨S2x2x128x1, .f32⟩

abbrev hbmTy (i : Nat) : BufTy := match i / 128 with
  | 0 => hbmTy0_0 i
  | 1 => hbmTy0_1 i
  | 2 => hbmTy0_2 i
  | 3 => hbmTy0_3 i
  | _ => ⟨S2x2x128x1, .f32⟩

abbrev bufTy : (tb : Table) → Fin (tcTables nBuf tb) → BufTy
  | .hbm, ⟨i, _⟩ => hbmTy i
  | _, _ => ⟨S2x2x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_cst_3 : Ref sig .tc := ⟨.hbm, 9, rfl⟩
abbrev main_v4 : Ref sig .tc := ⟨.hbm, 10, rfl⟩
abbrev main_cst_4 : Ref sig .tc := ⟨.hbm, 11, rfl⟩
abbrev main_v5 : Ref sig .tc := ⟨.hbm, 12, rfl⟩
abbrev main_cst_5 : Ref sig .tc := ⟨.hbm, 13, rfl⟩
abbrev main_v6 : Ref sig .tc := ⟨.hbm, 14, rfl⟩
abbrev main_cst_6 : Ref sig .tc := ⟨.hbm, 15, rfl⟩
abbrev main_v7 : Ref sig .tc := ⟨.hbm, 16, rfl⟩
abbrev main_cst_7 : Ref sig .tc := ⟨.hbm, 17, rfl⟩
abbrev main_v8 : Ref sig .tc := ⟨.hbm, 18, rfl⟩
abbrev main_cst_8 : Ref sig .tc := ⟨.hbm, 19, rfl⟩
abbrev main_v9 : Ref sig .tc := ⟨.hbm, 20, rfl⟩
abbrev main_cst_9 : Ref sig .tc := ⟨.hbm, 21, rfl⟩
abbrev main_v10 : Ref sig .tc := ⟨.hbm, 22, rfl⟩
abbrev main_cst_10 : Ref sig .tc := ⟨.hbm, 23, rfl⟩
abbrev main_v11 : Ref sig .tc := ⟨.hbm, 24, rfl⟩
abbrev main_cst_11 : Ref sig .tc := ⟨.hbm, 25, rfl⟩
abbrev main_v12 : Ref sig .tc := ⟨.hbm, 26, rfl⟩
abbrev main_cst_12 : Ref sig .tc := ⟨.hbm, 27, rfl⟩
abbrev main_v13 : Ref sig .tc := ⟨.hbm, 28, rfl⟩
abbrev main_cst_13 : Ref sig .tc := ⟨.hbm, 29, rfl⟩
abbrev main_v14 : Ref sig .tc := ⟨.hbm, 30, rfl⟩
abbrev main_cst_14 : Ref sig .tc := ⟨.hbm, 31, rfl⟩
abbrev main_v15 : Ref sig .tc := ⟨.hbm, 32, rfl⟩
abbrev main_cst_15 : Ref sig .tc := ⟨.hbm, 33, rfl⟩
abbrev main_v16 : Ref sig .tc := ⟨.hbm, 34, rfl⟩
abbrev main_cst_16 : Ref sig .tc := ⟨.hbm, 35, rfl⟩
abbrev main_v17 : Ref sig .tc := ⟨.hbm, 36, rfl⟩
abbrev main_cst_17 : Ref sig .tc := ⟨.hbm, 37, rfl⟩
abbrev main_v18 : Ref sig .tc := ⟨.hbm, 38, rfl⟩
abbrev main_cst_18 : Ref sig .tc := ⟨.hbm, 39, rfl⟩
abbrev main_v19 : Ref sig .tc := ⟨.hbm, 40, rfl⟩
abbrev main_cst_19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_call0_v0 : Ref sig .tc := ⟨.hbm, 45, rfl⟩
abbrev main_v22 : Ref sig .tc := ⟨.hbm, 46, rfl⟩
abbrev main_cst_20 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_21 : Ref sig .tc := ⟨.hbm, 132, rfl⟩
abbrev main_v107 : Ref sig .tc := ⟨.hbm, 133, rfl⟩
abbrev main_v108 : Ref sig .tc := ⟨.hbm, 134, rfl⟩
abbrev main_c_22 : Ref sig .tc := ⟨.hbm, 135, rfl⟩
abbrev main_call1_v0 : Ref sig .tc := ⟨.hbm, 136, rfl⟩
abbrev main_v109 : Ref sig .tc := ⟨.hbm, 137, rfl⟩
abbrev main_cst_23 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_cst_24 : Ref sig .tc := ⟨.hbm, 223, rfl⟩
abbrev main_v194 : Ref sig .tc := ⟨.hbm, 224, rfl⟩
abbrev main_v195 : Ref sig .tc := ⟨.hbm, 225, rfl⟩
abbrev main_c_25 : Ref sig .tc := ⟨.hbm, 226, rfl⟩
abbrev main_call2_v0 : Ref sig .tc := ⟨.hbm, 227, rfl⟩
abbrev main_v196 : Ref sig .tc := ⟨.hbm, 228, rfl⟩
abbrev main_cst_26 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_v235 : Ref sig .tc := ⟨.hbm, 268, rfl⟩
abbrev main_v236 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_cst_27 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_cst_28 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_cst_29 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_v298 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_call3_v0 : Ref sig .tc := ⟨.hbm, 338, rfl⟩
abbrev main_call3_cst : Ref sig .tc := ⟨.hbm, 339, rfl⟩
abbrev main_call3_v1 : Ref sig .tc := ⟨.hbm, 340, rfl⟩
abbrev main_v302 : Ref sig .tc := ⟨.hbm, 341, rfl⟩
abbrev main_call4_v0 : Ref sig .tc := ⟨.hbm, 342, rfl⟩
abbrev main_call4_cst : Ref sig .tc := ⟨.hbm, 343, rfl⟩
abbrev main_call4_c : Ref sig .tc := ⟨.hbm, 344, rfl⟩
abbrev main_call4_v1_0 : Ref sig .tc := ⟨.hbm, 345, rfl⟩
abbrev main_v303 : Ref sig .tc := ⟨.hbm, 346, rfl⟩
abbrev main_call5_c : Ref sig .tc := ⟨.hbm, 347, rfl⟩
abbrev main_call5_v0 : Ref sig .tc := ⟨.hbm, 348, rfl⟩
abbrev main_call5_v1 : Ref sig .tc := ⟨.hbm, 349, rfl⟩
abbrev main_call5_c_0 : Ref sig .tc := ⟨.hbm, 350, rfl⟩
abbrev main_call5_v2 : Ref sig .tc := ⟨.hbm, 351, rfl⟩
abbrev main_call5_v3 : Ref sig .tc := ⟨.hbm, 352, rfl⟩
abbrev main_call5_v4 : Ref sig .tc := ⟨.hbm, 353, rfl⟩
abbrev main_call5_v5 : Ref sig .tc := ⟨.hbm, 354, rfl⟩
abbrev main_call5_c_1 : Ref sig .tc := ⟨.hbm, 355, rfl⟩
abbrev main_call5_c_2 : Ref sig .tc := ⟨.hbm, 356, rfl⟩
abbrev main_call5_v6 : Ref sig .tc := ⟨.hbm, 357, rfl⟩
abbrev main_call5_v7 : Ref sig .tc := ⟨.hbm, 358, rfl⟩
abbrev main_call5_v8 : Ref sig .tc := ⟨.hbm, 359, rfl⟩
abbrev main_call5_v9 : Ref sig .tc := ⟨.hbm, 360, rfl⟩
abbrev main_call5_v10 : Ref sig .tc := ⟨.hbm, 361, rfl⟩
abbrev main_call5_v11 : Ref sig .tc := ⟨.hbm, 362, rfl⟩
abbrev main_call5_c_3 : Ref sig .tc := ⟨.hbm, 363, rfl⟩
abbrev main_call5_v12 : Ref sig .tc := ⟨.hbm, 364, rfl⟩
abbrev main_call5_v13 : Ref sig .tc := ⟨.hbm, 365, rfl⟩
abbrev main_call5_v14 : Ref sig .tc := ⟨.hbm, 366, rfl⟩
abbrev main_call5_cst : Ref sig .tc := ⟨.hbm, 367, rfl⟩
abbrev main_call5_v15 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_cst_30 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_v315 : Ref sig .tc := ⟨.hbm, 381, rfl⟩
abbrev main_v316 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_cst_31 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_v328 : Ref sig .tc := ⟨.hbm, 395, rfl⟩
abbrev main_cst_32 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_v337 : Ref sig .tc := ⟨.hbm, 405, rfl⟩
abbrev main_v338 : Ref sig .tc := ⟨.hbm, 406, rfl⟩
abbrev main_v339 : Ref sig .tc := ⟨.hbm, 407, rfl⟩
abbrev main_cst_33 : Ref sig .tc := ⟨.hbm, 408, rfl⟩
abbrev main_v340 : Ref sig .tc := ⟨.hbm, 409, rfl⟩
abbrev main_v341 : Ref sig .tc := ⟨.hbm, 410, rfl⟩
abbrev main_cst_34 : Ref sig .tc := ⟨.hbm, 411, rfl⟩
abbrev main_v342 : Ref sig .tc := ⟨.hbm, 412, rfl⟩
abbrev main_v343 : Ref sig .tc := ⟨.hbm, 413, rfl⟩

abbrev nD : Nat := 1
abbrev τ : Topo := Topo.v7x

variable {F : FTy → Type} [FloatOps F]
-- ==== RefRevIdeal.lean ====
abbrev S64x64x64 : Shape := ⟨3, ![64, 64, 64]⟩
abbrev S4x4x1x64 : Shape := ⟨4, ![4, 4, 1, 64]⟩
abbrev S64 : Shape := ⟨1, ![64]⟩
abbrev S4x4x64x128 : Shape := ⟨4, ![4, 4, 64, 128]⟩
abbrev S128 : Shape := ⟨1, ![128]⟩
abbrev S4x4x128x256 : Shape := ⟨4, ![4, 4, 128, 256]⟩
abbrev S256 : Shape := ⟨1, ![256]⟩
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S512x64 : Shape := ⟨2, ![512, 64]⟩
abbrev S2048x1024 : Shape := ⟨2, ![2048, 1024]⟩
abbrev S8x8x1024x256 : Shape := ⟨4, ![8, 8, 1024, 256]⟩
abbrev S4x4x256x128 : Shape := ⟨4, ![4, 4, 256, 128]⟩
abbrev S2x2x128x1 : Shape := ⟨4, ![2, 2, 128, 1]⟩
abbrev S1 : Shape := ⟨1, ![1]⟩
abbrev S64x64x64x1 : Shape := ⟨4, ![64, 64, 64, 1]⟩
abbrev S_ : Shape := ⟨0, ![]⟩
abbrev S64x66x66x1 : Shape := ⟨4, ![64, 66, 66, 1]⟩
abbrev S64x32x32x64 : Shape := ⟨4, ![64, 32, 32, 64]⟩
abbrev S64x32x32x1 : Shape := ⟨4, ![64, 32, 32, 1]⟩
abbrev S1x1x1x64 : Shape := ⟨4, ![1, 1, 1, 64]⟩
abbrev S1x64 : Shape := ⟨2, ![1, 64]⟩
abbrev S64x34x34x64 : Shape := ⟨4, ![64, 34, 34, 64]⟩
abbrev S64x16x16x128 : Shape := ⟨4, ![64, 16, 16, 128]⟩
abbrev S64x16x16x64 : Shape := ⟨4, ![64, 16, 16, 64]⟩
abbrev S1x1x64x128 : Shape := ⟨4, ![1, 1, 64, 128]⟩
abbrev S64x128 : Shape := ⟨2, ![64, 128]⟩
abbrev S1x1x1x128 : Shape := ⟨4, ![1, 1, 1, 128]⟩
abbrev S64x18x18x128 : Shape := ⟨4, ![64, 18, 18, 128]⟩
abbrev S64x8x8x256 : Shape := ⟨4, ![64, 8, 8, 256]⟩
abbrev S64x8x8x128 : Shape := ⟨4, ![64, 8, 8, 128]⟩
abbrev S1x1x128x256 : Shape := ⟨4, ![1, 1, 128, 256]⟩
abbrev S128x256 : Shape := ⟨2, ![128, 256]⟩
abbrev S1x1x1x256 : Shape := ⟨4, ![1, 1, 1, 256]⟩
abbrev S64x16384 : Shape := ⟨2, ![64, 16384]⟩
abbrev S64x1024 : Shape := ⟨2, ![64, 1024]⟩
abbrev S1x1024 : Shape := ⟨2, ![1, 1024]⟩
abbrev S64x2048 : Shape := ⟨2, ![64, 2048]⟩
abbrev S1x2048 : Shape := ⟨2, ![1, 2048]⟩
abbrev S64x32x64 : Shape := ⟨3, ![64, 32, 64]⟩
abbrev S64x32x1x64 : Shape := ⟨4, ![64, 32, 1, 64]⟩
abbrev S1x1x512x64 : Shape := ⟨4, ![1, 1, 512, 64]⟩
abbrev S64x32x512x64 : Shape := ⟨4, ![64, 32, 512, 64]⟩
abbrev S64x32x512 : Shape := ⟨3, ![64, 32, 512]⟩
abbrev S64x32 : Shape := ⟨2, ![64, 32]⟩
abbrev S64x32x1 : Shape := ⟨3, ![64, 32, 1]⟩
abbrev S512 : Shape := ⟨1, ![512]⟩
abbrev S1x1x1 : Shape := ⟨3, ![1, 1, 1]⟩
abbrev S64x1x1x1024 : Shape := ⟨4, ![64, 1, 1, 1024]⟩
abbrev S8x8x256x64x1x1 : Shape := ⟨6, ![8, 8, 256, 64, 1, 1]⟩
abbrev S64x1x8x1x8x256 : Shape := ⟨6, ![64, 1, 8, 1, 8, 256]⟩
abbrev S4x4x128x64x8x8 : Shape := ⟨6, ![4, 4, 128, 64, 8, 8]⟩
abbrev S64x8x4x8x4x128 : Shape := ⟨6, ![64, 8, 4, 8, 4, 128]⟩
abbrev S64x32x32x128 : Shape := ⟨4, ![64, 32, 32, 128]⟩
abbrev S2x2x1x64x32x32 : Shape := ⟨6, ![2, 2, 1, 64, 32, 32]⟩
abbrev S64x32x2x32x2x1 : Shape := ⟨6, ![64, 32, 2, 32, 2, 1]⟩
abbrev S1x1x1x1 : Shape := ⟨4, ![1, 1, 1, 1]⟩

abbrev nBuf : Space → Nat
  | .hbm => 402
  | .vmem => 0
  | .smem => 0
  | _ => 0

abbrev hbmTy0_0 (i : Nat) : BufTy := match i % 128 with
  | 0 => ⟨S64x64x64, .f32⟩
  | 1 => ⟨S4x4x1x64, .f32⟩
  | 2 => ⟨S64, .f32⟩
  | 3 => ⟨S4x4x64x128, .f32⟩
  | 4 => ⟨S128, .f32⟩
  | 5 => ⟨S4x4x128x256, .f32⟩
  | 6 => ⟨S256, .f32⟩
  | 7 => ⟨S16384x1024, .f32⟩
  | 8 => ⟨S1024, .f32⟩
  | 9 => ⟨S1024x2048, .f32⟩
  | 10 => ⟨S2048, .f32⟩
  | 11 => ⟨S512x64, .f32⟩
  | 12 => ⟨S2048x1024, .f32⟩
  | 13 => ⟨S1024, .f32⟩
  | 14 => ⟨S8x8x1024x256, .f32⟩
  | 15 => ⟨S256, .f32⟩
  | 16 => ⟨S4x4x256x128, .f32⟩
  | 17 => ⟨S128, .f32⟩
  | 18 => ⟨S2x2x128x1, .f32⟩
  | 19 => ⟨S1, .f32⟩
  | 20 => ⟨S8x8x1024x256, .f32⟩
  | 21 => ⟨S4x4x256x128, .f32⟩
  | 22 => ⟨S2x2x128x1, .f32⟩
  | 23 => ⟨S64x64x64x1, .f32⟩
  | 24 => ⟨S_, .i32⟩
  | 25 => ⟨S_, .f32⟩
  | 26 => ⟨S64x66x66x1, .f32⟩
  | 27 => ⟨S_, .f32⟩
  | 28 => ⟨S64x32x32x64, .f32⟩
  | 29 => ⟨S64x32x32x1, .f32⟩
  | 30 => ⟨S1x1x1x64, .f32⟩
  | 31 => ⟨S1x64, .f32⟩
  | 32 => ⟨S64x32x32x64, .f32⟩
  | 33 => ⟨S64x32x32x64, .f32⟩
  | 34 => ⟨S64x32x32x1, .f32⟩
  | 35 => ⟨S1x1x1x64, .f32⟩
  | 36 => ⟨S1x64, .f32⟩
  | 37 => ⟨S64x32x32x64, .f32⟩
  | 38 => ⟨S64x32x32x64, .f32⟩
  | 39 => ⟨S64x32x32x1, .f32⟩
  | 40 => ⟨S1x1x1x64, .f32⟩
  | 41 => ⟨S1x64, .f32⟩
  | 42 => ⟨S64x32x32x64, .f32⟩
  | 43 => ⟨S64x32x32x64, .f32⟩
  | 44 => ⟨S64x32x32x1, .f32⟩
  | 45 => ⟨S1x1x1x64, .f32⟩
  | 46 => ⟨S1x64, .f32⟩
  | 47 => ⟨S64x32x32x64, .f32⟩
  | 48 => ⟨S64x32x32x64, .f32⟩
  | 49 => ⟨S64x32x32x1, .f32⟩
  | 50 => ⟨S1x1x1x64, .f32⟩
  | 51 => ⟨S1x64, .f32⟩
  | 52 => ⟨S64x32x32x64, .f32⟩
  | 53 => ⟨S64x32x32x64, .f32⟩
  | 54 => ⟨S64x32x32x1, .f32⟩
  | 55 => ⟨S1x1x1x64, .f32⟩
  | 56 => ⟨S1x64, .f32⟩
  | 57 => ⟨S64x32x32x64, .f32⟩
  | 58 => ⟨S64x32x32x64, .f32⟩
  | 59 => ⟨S64x32x32x1, .f32⟩
  | 60 => ⟨S1x1x1x64, .f32⟩
  | 61 => ⟨S1x64, .f32⟩
  | 62 => ⟨S64x32x32x64, .f32⟩
  | 63 => ⟨S64x32x32x64, .f32⟩
  | 64 => ⟨S64x32x32x1, .f32⟩
  | 65 => ⟨S1x1x1x64, .f32⟩
  | 66 => ⟨S1x64, .f32⟩
  | 67 => ⟨S64x32x32x64, .f32⟩
  | 68 => ⟨S64x32x32x64, .f32⟩
  | 69 => ⟨S64x32x32x1, .f32⟩
  | 70 => ⟨S1x1x1x64, .f32⟩
  | 71 => ⟨S1x64, .f32⟩
  | 72 => ⟨S64x32x32x64, .f32⟩
  | 73 => ⟨S64x32x32x64, .f32⟩
  | 74 => ⟨S64x32x32x1, .f32⟩
  | 75 => ⟨S1x1x1x64, .f32⟩
  | 76 => ⟨S1x64, .f32⟩
  | 77 => ⟨S64x32x32x64, .f32⟩
  | 78 => ⟨S64x32x32x64, .f32⟩
  | 79 => ⟨S64x32x32x1, .f32⟩
  | 80 => ⟨S1x1x1x64, .f32⟩
  | 81 => ⟨S1x64, .f32⟩
  | 82 => ⟨S64x32x32x64, .f32⟩
  | 83 => ⟨S64x32x32x64, .f32⟩
  | 84 => ⟨S64x32x32x1, .f32⟩
  | 85 => ⟨S1x1x1x64, .f32⟩
  | 86 => ⟨S1x64, .f32⟩
  | 87 => ⟨S64x32x32x64, .f32⟩
  | 88 => ⟨S64x32x32x64, .f32⟩
  | 89 => ⟨S64x32x32x1, .f32⟩
  | 90 => ⟨S1x1x1x64, .f32⟩
  | 91 => ⟨S1x64, .f32⟩
  | 92 => ⟨S64x32x32x64, .f32⟩
  | 93 => ⟨S64x32x32x64, .f32⟩
  | 94 => ⟨S64x32x32x1, .f32⟩
  | 95 => ⟨S1x1x1x64, .f32⟩
  | 96 => ⟨S1x64, .f32⟩
  | 97 => ⟨S64x32x32x64, .f32⟩
  | 98 => ⟨S64x32x32x64, .f32⟩
  | 99 => ⟨S64x32x32x1, .f32⟩
  | 100 => ⟨S1x1x1x64, .f32⟩
  | 101 => ⟨S1x64, .f32⟩
  | 102 => ⟨S64x32x32x64, .f32⟩
  | 103 => ⟨S64x32x32x64, .f32⟩
  | 104 => ⟨S64x32x32x1, .f32⟩
  | 105 => ⟨S1x1x1x64, .f32⟩
  | 106 => ⟨S1x64, .f32⟩
  | 107 => ⟨S64x32x32x64, .f32⟩
  | 108 => ⟨S64x32x32x64, .f32⟩
  | 109 => ⟨S1x1x1x64, .f32⟩
  | 110 => ⟨S64x32x32x64, .f32⟩
  | 111 => ⟨S64x32x32x64, .f32⟩
  | 112 => ⟨S_, .f32⟩
  | 113 => ⟨S64x32x32x64, .f32⟩
  | 114 => ⟨S64x32x32x64, .f32⟩
  | 115 => ⟨S_, .i32⟩
  | 116 => ⟨S_, .f32⟩
  | 117 => ⟨S64x34x34x64, .f32⟩
  | 118 => ⟨S_, .f32⟩
  | 119 => ⟨S64x16x16x128, .f32⟩
  | 120 => ⟨S64x16x16x64, .f32⟩
  | 121 => ⟨S1x1x64x128, .f32⟩
  | 122 => ⟨S64x128, .f32⟩
  | 123 => ⟨S64x16x16x128, .f32⟩
  | 124 => ⟨S64x16x16x128, .f32⟩
  | 125 => ⟨S64x16x16x64, .f32⟩
  | 126 => ⟨S1x1x64x128, .f32⟩
  | 127 => ⟨S64x128, .f32⟩
  | _ => ⟨S64x64x64, .f32⟩

abbrev hbmTy0_1 (i : Nat) : BufTy := match i % 128 with
  | 0 => ⟨S64x16x16x128, .f32⟩
  | 1 => ⟨S64x16x16x128, .f32⟩
  | 2 => ⟨S64x16x16x64, .f32⟩
  | 3 => ⟨S1x1x64x128, .f32⟩
  | 4 => ⟨S64x128, .f32⟩
  | 5 => ⟨S64x16x16x128, .f32⟩
  | 6 => ⟨S64x16x16x128, .f32⟩
  | 7 => ⟨S64x16x16x64, .f32⟩
  | 8 => ⟨S1x1x64x128, .f32⟩
  | 9 => ⟨S64x128, .f32⟩
  | 10 => ⟨S64x16x16x128, .f32⟩
  | 11 => ⟨S64x16x16x128, .f32⟩
  | 12 => ⟨S64x16x16x64, .f32⟩
  | 13 => ⟨S1x1x64x128, .f32⟩
  | 14 => ⟨S64x128, .f32⟩
  | 15 => ⟨S64x16x16x128, .f32⟩
  | 16 => ⟨S64x16x16x128, .f32⟩
  | 17 => ⟨S64x16x16x64, .f32⟩
  | 18 => ⟨S1x1x64x128, .f32⟩
  | 19 => ⟨S64x128, .f32⟩
  | 20 => ⟨S64x16x16x128, .f32⟩
  | 21 => ⟨S64x16x16x128, .f32⟩
  | 22 => ⟨S64x16x16x64, .f32⟩
  | 23 => ⟨S1x1x64x128, .f32⟩
  | 24 => ⟨S64x128, .f32⟩
  | 25 => ⟨S64x16x16x128, .f32⟩
  | 26 => ⟨S64x16x16x128, .f32⟩
  | 27 => ⟨S64x16x16x64, .f32⟩
  | 28 => ⟨S1x1x64x128, .f32⟩
  | 29 => ⟨S64x128, .f32⟩
  | 30 => ⟨S64x16x16x128, .f32⟩
  | 31 => ⟨S64x16x16x128, .f32⟩
  | 32 => ⟨S64x16x16x64, .f32⟩
  | 33 => ⟨S1x1x64x128, .f32⟩
  | 34 => ⟨S64x128, .f32⟩
  | 35 => ⟨S64x16x16x128, .f32⟩
  | 36 => ⟨S64x16x16x128, .f32⟩
  | 37 => ⟨S64x16x16x64, .f32⟩
  | 38 => ⟨S1x1x64x128, .f32⟩
  | 39 => ⟨S64x128, .f32⟩
  | 40 => ⟨S64x16x16x128, .f32⟩
  | 41 => ⟨S64x16x16x128, .f32⟩
  | 42 => ⟨S64x16x16x64, .f32⟩
  | 43 => ⟨S1x1x64x128, .f32⟩
  | 44 => ⟨S64x128, .f32⟩
  | 45 => ⟨S64x16x16x128, .f32⟩
  | 46 => ⟨S64x16x16x128, .f32⟩
  | 47 => ⟨S64x16x16x64, .f32⟩
  | 48 => ⟨S1x1x64x128, .f32⟩
  | 49 => ⟨S64x128, .f32⟩
  | 50 => ⟨S64x16x16x128, .f32⟩
  | 51 => ⟨S64x16x16x128, .f32⟩
  | 52 => ⟨S64x16x16x64, .f32⟩
  | 53 => ⟨S1x1x64x128, .f32⟩
  | 54 => ⟨S64x128, .f32⟩
  | 55 => ⟨S64x16x16x128, .f32⟩
  | 56 => ⟨S64x16x16x128, .f32⟩
  | 57 => ⟨S64x16x16x64, .f32⟩
  | 58 => ⟨S1x1x64x128, .f32⟩
  | 59 => ⟨S64x128, .f32⟩
  | 60 => ⟨S64x16x16x128, .f32⟩
  | 61 => ⟨S64x16x16x128, .f32⟩
  | 62 => ⟨S64x16x16x64, .f32⟩
  | 63 => ⟨S1x1x64x128, .f32⟩
  | 64 => ⟨S64x128, .f32⟩
  | 65 => ⟨S64x16x16x128, .f32⟩
  | 66 => ⟨S64x16x16x128, .f32⟩
  | 67 => ⟨S64x16x16x64, .f32⟩
  | 68 => ⟨S1x1x64x128, .f32⟩
  | 69 => ⟨S64x128, .f32⟩
  | 70 => ⟨S64x16x16x128, .f32⟩
  | 71 => ⟨S64x16x16x128, .f32⟩
  | 72 => ⟨S1x1x1x128, .f32⟩
  | 73 => ⟨S64x16x16x128, .f32⟩
  | 74 => ⟨S64x16x16x128, .f32⟩
  | 75 => ⟨S_, .f32⟩
  | 76 => ⟨S64x16x16x128, .f32⟩
  | 77 => ⟨S64x16x16x128, .f32⟩
  | 78 => ⟨S_, .i32⟩
  | 79 => ⟨S_, .f32⟩
  | 80 => ⟨S64x18x18x128, .f32⟩
  | 81 => ⟨S_, .f32⟩
  | 82 => ⟨S64x8x8x256, .f32⟩
  | 83 => ⟨S64x8x8x128, .f32⟩
  | 84 => ⟨S1x1x128x256, .f32⟩
  | 85 => ⟨S128x256, .f32⟩
  | 86 => ⟨S64x8x8x256, .f32⟩
  | 87 => ⟨S64x8x8x256, .f32⟩
  | 88 => ⟨S64x8x8x128, .f32⟩
  | 89 => ⟨S1x1x128x256, .f32⟩
  | 90 => ⟨S128x256, .f32⟩
  | 91 => ⟨S64x8x8x256, .f32⟩
  | 92 => ⟨S64x8x8x256, .f32⟩
  | 93 => ⟨S64x8x8x128, .f32⟩
  | 94 => ⟨S1x1x128x256, .f32⟩
  | 95 => ⟨S128x256, .f32⟩
  | 96 => ⟨S64x8x8x256, .f32⟩
  | 97 => ⟨S64x8x8x256, .f32⟩
  | 98 => ⟨S64x8x8x128, .f32⟩
  | 99 => ⟨S1x1x128x256, .f32⟩
  | 100 => ⟨S128x256, .f32⟩
  | 101 => ⟨S64x8x8x256, .f32⟩
  | 102 => ⟨S64x8x8x256, .f32⟩
  | 103 => ⟨S64x8x8x128, .f32⟩
  | 104 => ⟨S1x1x128x256, .f32⟩
  | 105 => ⟨S128x256, .f32⟩
  | 106 => ⟨S64x8x8x256, .f32⟩
  | 107 => ⟨S64x8x8x256, .f32⟩
  | 108 => ⟨S64x8x8x128, .f32⟩
  | 109 => ⟨S1x1x128x256, .f32⟩
  | 110 => ⟨S128x256, .f32⟩
  | 111 => ⟨S64x8x8x256, .f32⟩
  | 112 => ⟨S64x8x8x256, .f32⟩
  | 113 => ⟨S64x8x8x128, .f32⟩
  | 114 => ⟨S1x1x128x256, .f32⟩
  | 115 => ⟨S128x256, .f32⟩
  | 116 => ⟨S64x8x8x256, .f32⟩
  | 117 => ⟨S64x8x8x256, .f32⟩
  | 118 => ⟨S64x8x8x128, .f32⟩
  | 119 => ⟨S1x1x128x256, .f32⟩
  | 120 => ⟨S128x256, .f32⟩
  | 121 => ⟨S64x8x8x256, .f32⟩
  | 122 => ⟨S64x8x8x256, .f32⟩
  | 123 => ⟨S64x8x8x128, .f32⟩
  | 124 => ⟨S1x1x128x256, .f32⟩
  | 125 => ⟨S128x256, .f32⟩
  | 126 => ⟨S64x8x8x256, .f32⟩
  | 127 => ⟨S64x8x8x256, .f32⟩
  | _ => ⟨S64x64x64, .f32⟩

abbrev hbmTy0_2 (i : Nat) : BufTy := match i % 128 with
  | 0 => ⟨S64x8x8x128, .f32⟩
  | 1 => ⟨S1x1x128x256, .f32⟩
  | 2 => ⟨S128x256, .f32⟩
  | 3 => ⟨S64x8x8x256, .f32⟩
  | 4 => ⟨S64x8x8x256, .f32⟩
  | 5 => ⟨S64x8x8x128, .f32⟩
  | 6 => ⟨S1x1x128x256, .f32⟩
  | 7 => ⟨S128x256, .f32⟩
  | 8 => ⟨S64x8x8x256, .f32⟩
  | 9 => ⟨S64x8x8x256, .f32⟩
  | 10 => ⟨S64x8x8x128, .f32⟩
  | 11 => ⟨S1x1x128x256, .f32⟩
  | 12 => ⟨S128x256, .f32⟩
  | 13 => ⟨S64x8x8x256, .f32⟩
  | 14 => ⟨S64x8x8x256, .f32⟩
  | 15 => ⟨S64x8x8x128, .f32⟩
  | 16 => ⟨S1x1x128x256, .f32⟩
  | 17 => ⟨S128x256, .f32⟩
  | 18 => ⟨S64x8x8x256, .f32⟩
  | 19 => ⟨S64x8x8x256, .f32⟩
  | 20 => ⟨S64x8x8x128, .f32⟩
  | 21 => ⟨S1x1x128x256, .f32⟩
  | 22 => ⟨S128x256, .f32⟩
  | 23 => ⟨S64x8x8x256, .f32⟩
  | 24 => ⟨S64x8x8x256, .f32⟩
  | 25 => ⟨S64x8x8x128, .f32⟩
  | 26 => ⟨S1x1x128x256, .f32⟩
  | 27 => ⟨S128x256, .f32⟩
  | 28 => ⟨S64x8x8x256, .f32⟩
  | 29 => ⟨S64x8x8x256, .f32⟩
  | 30 => ⟨S64x8x8x128, .f32⟩
  | 31 => ⟨S1x1x128x256, .f32⟩
  | 32 => ⟨S128x256, .f32⟩
  | 33 => ⟨S64x8x8x256, .f32⟩
  | 34 => ⟨S64x8x8x256, .f32⟩
  | 35 => ⟨S1x1x1x256, .f32⟩
  | 36 => ⟨S64x8x8x256, .f32⟩
  | 37 => ⟨S64x8x8x256, .f32⟩
  | 38 => ⟨S_, .f32⟩
  | 39 => ⟨S64x8x8x256, .f32⟩
  | 40 => ⟨S64x8x8x256, .f32⟩
  | 41 => ⟨S64x16384, .f32⟩
  | 42 => ⟨S64x1024, .f32⟩
  | 43 => ⟨S1x1024, .f32⟩
  | 44 => ⟨S64x1024, .f32⟩
  | 45 => ⟨S64x1024, .f32⟩
  | 46 => ⟨S_, .f32⟩
  | 47 => ⟨S64x1024, .f32⟩
  | 48 => ⟨S64x1024, .f32⟩
  | 49 => ⟨S64x2048, .f32⟩
  | 50 => ⟨S1x2048, .f32⟩
  | 51 => ⟨S64x2048, .f32⟩
  | 52 => ⟨S64x2048, .f32⟩
  | 53 => ⟨S_, .f32⟩
  | 54 => ⟨S64x2048, .f32⟩
  | 55 => ⟨S64x2048, .f32⟩
  | 56 => ⟨S64x32x64, .f32⟩
  | 57 => ⟨S64x32x1x64, .f32⟩
  | 58 => ⟨S1x1x512x64, .f32⟩
  | 59 => ⟨S64x32x512x64, .f32⟩
  | 60 => ⟨S64x32x512x64, .f32⟩
  | 61 => ⟨S64x32x512x64, .f32⟩
  | 62 => ⟨S64x32x512x64, .f32⟩
  | 63 => ⟨S_, .f32⟩
  | 64 => ⟨S64x32x512, .f32⟩
  | 65 => ⟨S64x32x512, .f32⟩
  | 66 => ⟨S_, .f32⟩
  | 67 => ⟨S64x32, .f32⟩
  | 68 => ⟨S64x32x1, .f32⟩
  | 69 => ⟨S64x32x512, .f32⟩
  | 70 => ⟨S64x32x512, .i1⟩
  | 71 => ⟨S512, .i32⟩
  | 72 => ⟨S_, .i32⟩
  | 73 => ⟨S_, .i32⟩
  | 74 => ⟨S64x32x512, .i32⟩
  | 75 => ⟨S64x32x512, .i32⟩
  | 76 => ⟨S64x32x512, .i32⟩
  | 77 => ⟨S_, .i32⟩
  | 78 => ⟨S64x32, .i32⟩
  | 79 => ⟨S_, .i32⟩
  | 80 => ⟨S64x32, .i32⟩
  | 81 => ⟨S64x32, .i1⟩
  | 82 => ⟨S_, .i32⟩
  | 83 => ⟨S64x32, .i32⟩
  | 84 => ⟨S64x32, .i32⟩
  | 85 => ⟨S64x32, .i32⟩
  | 86 => ⟨S64x32x1, .i32⟩
  | 87 => ⟨S1, .i32⟩
  | 88 => ⟨S_, .i32⟩
  | 89 => ⟨S64x32x1, .i32⟩
  | 90 => ⟨S64x32x1, .i1⟩
  | 91 => ⟨S1x1x1, .i32⟩
  | 92 => ⟨S64x32x1, .i32⟩
  | 93 => ⟨S64x32x1, .i1⟩
  | 94 => ⟨S64x32x1, .i1⟩
  | 95 => ⟨S_, .i1⟩
  | 96 => ⟨S64x32, .i1⟩
  | 97 => ⟨S64x32x64, .f32⟩
  | 98 => ⟨S64x32x64, .i1⟩
  | 99 => ⟨S_, .f32⟩
  | 100 => ⟨S64x32x64, .f32⟩
  | 101 => ⟨S64x32x64, .f32⟩
  | 102 => ⟨S64x2048, .f32⟩
  | 103 => ⟨S64x1024, .f32⟩
  | 104 => ⟨S1x1024, .f32⟩
  | 105 => ⟨S64x1024, .f32⟩
  | 106 => ⟨S64x1024, .f32⟩
  | 107 => ⟨S_, .f32⟩
  | 108 => ⟨S64x1024, .f32⟩
  | 109 => ⟨S64x1024, .f32⟩
  | 110 => ⟨S64x1x1x1024, .f32⟩
  | 111 => ⟨S8x8x1024x256, .f32⟩
  | 112 => ⟨S8x8x256x64x1x1, .f32⟩
  | 113 => ⟨S64x1x8x1x8x256, .f32⟩
  | 114 => ⟨S64x8x8x256, .f32⟩
  | 115 => ⟨S1x1x1x256, .f32⟩
  | 116 => ⟨S64x8x8x256, .f32⟩
  | 117 => ⟨S64x8x8x256, .f32⟩
  | 118 => ⟨S_, .f32⟩
  | 119 => ⟨S64x8x8x256, .f32⟩
  | 120 => ⟨S64x8x8x256, .f32⟩
  | 121 => ⟨S4x4x256x128, .f32⟩
  | 122 => ⟨S4x4x128x64x8x8, .f32⟩
  | 123 => ⟨S64x8x4x8x4x128, .f32⟩
  | 124 => ⟨S64x32x32x128, .f32⟩
  | 125 => ⟨S1x1x1x128, .f32⟩
  | 126 => ⟨S64x32x32x128, .f32⟩
  | 127 => ⟨S64x32x32x128, .f32⟩
  | _ => ⟨S64x64x64, .f32⟩

abbrev hbmTy0_3 (i : Nat) : BufTy := match i % 128 with
  | 0 => ⟨S_, .f32⟩
  | 1 => ⟨S64x32x32x128, .f32⟩
  | 2 => ⟨S64x32x32x128, .f32⟩
  | 3 => ⟨S2x2x128x1, .f32⟩
  | 4 => ⟨S2x2x1x64x32x32, .f32⟩
  | 5 => ⟨S64x32x2x32x2x1, .f32⟩
  | 6 => ⟨S64x64x64x1, .f32⟩
  | 7 => ⟨S1x1x1x1, .f32⟩
  | 8 => ⟨S64x64x64x1, .f32⟩
  | 9 => ⟨S64x64x64x1, .f32⟩
  | 10 => ⟨S64x64x64x1, .f32⟩
  | 11 => ⟨S64x64x64x1, .f32⟩
  | 12 => ⟨S_, .f32⟩
  | 13 => ⟨S64x64x64x1, .f32⟩
  | 14 => ⟨S64x64x64x1, .f32⟩
  | 15 => ⟨S_, .f32⟩
  | 16 => ⟨S64x64x64x1, .f32⟩
  | 17 => ⟨S64x64x64x1, .f32⟩
  | _ => ⟨S64x64x64, .f32⟩

abbrev hbmTy (i : Nat) : BufTy := match i / 128 with
  | 0 => hbmTy0_0 i
  | 1 => hbmTy0_1 i
  | 2 => hbmTy0_2 i
  | 3 => hbmTy0_3 i
  | _ => ⟨S64x64x64, .f32⟩

abbrev bufTy : (tb : Table) → Fin (tcTables nBuf tb) → BufTy
  | .hbm, ⟨i, _⟩ => hbmTy i
  | _, _ => ⟨S64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_call0_v0 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_0 : Ref sig .tc := ⟨.hbm, 112, rfl⟩
abbrev main_v89 : Ref sig .tc := ⟨.hbm, 113, rfl⟩
abbrev main_v90 : Ref sig .tc := ⟨.hbm, 114, rfl⟩
abbrev main_c_1 : Ref sig .tc := ⟨.hbm, 115, rfl⟩
abbrev main_call1_v0 : Ref sig .tc := ⟨.hbm, 116, rfl⟩
abbrev main_v91 : Ref sig .tc := ⟨.hbm, 117, rfl⟩
abbrev main_cst_2 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_cst_3 : Ref sig .tc := ⟨.hbm, 203, rfl⟩
abbrev main_v176 : Ref sig .tc := ⟨.hbm, 204, rfl⟩
abbrev main_v177 : Ref sig .tc := ⟨.hbm, 205, rfl⟩
abbrev main_c_4 : Ref sig .tc := ⟨.hbm, 206, rfl⟩
abbrev main_call2_v0 : Ref sig .tc := ⟨.hbm, 207, rfl⟩
abbrev main_v178 : Ref sig .tc := ⟨.hbm, 208, rfl⟩
abbrev main_cst_5 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_cst_6 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_cst_7 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_cst_8 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_call3_v0 : Ref sig .tc := ⟨.hbm, 318, rfl⟩
abbrev main_call3_cst : Ref sig .tc := ⟨.hbm, 319, rfl⟩
abbrev main_call3_v1 : Ref sig .tc := ⟨.hbm, 320, rfl⟩
abbrev main_v284 : Ref sig .tc := ⟨.hbm, 321, rfl⟩
abbrev main_cst_9 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_c_10 : Ref sig .tc := ⟨.hbm, 328, rfl⟩
abbrev main_call4_v0 : Ref sig .tc := ⟨.hbm, 329, rfl⟩
abbrev main_call4_v1 : Ref sig .tc := ⟨.hbm, 330, rfl⟩
abbrev main_call4_v2 : Ref sig .tc := ⟨.hbm, 331, rfl⟩
abbrev main_v290 : Ref sig .tc := ⟨.hbm, 332, rfl⟩
abbrev main_c_11 : Ref sig .tc := ⟨.hbm, 333, rfl⟩
abbrev main_v291 : Ref sig .tc := ⟨.hbm, 334, rfl⟩
abbrev main_call5_c : Ref sig .tc := ⟨.hbm, 335, rfl⟩
abbrev main_call5_v0 : Ref sig .tc := ⟨.hbm, 336, rfl⟩
abbrev main_call5_v1 : Ref sig .tc := ⟨.hbm, 337, rfl⟩
abbrev main_call5_c_0 : Ref sig .tc := ⟨.hbm, 338, rfl⟩
abbrev main_call5_v2 : Ref sig .tc := ⟨.hbm, 339, rfl⟩
abbrev main_call5_v3 : Ref sig .tc := ⟨.hbm, 340, rfl⟩
abbrev main_call5_v4 : Ref sig .tc := ⟨.hbm, 341, rfl⟩
abbrev main_call5_v5 : Ref sig .tc := ⟨.hbm, 342, rfl⟩
abbrev main_call5_c_1 : Ref sig .tc := ⟨.hbm, 343, rfl⟩
abbrev main_call5_c_2 : Ref sig .tc := ⟨.hbm, 344, rfl⟩
abbrev main_call5_v6 : Ref sig .tc := ⟨.hbm, 345, rfl⟩
abbrev main_call5_v7 : Ref sig .tc := ⟨.hbm, 346, rfl⟩
abbrev main_call5_v8 : Ref sig .tc := ⟨.hbm, 347, rfl⟩
abbrev main_call5_v9 : Ref sig .tc := ⟨.hbm, 348, rfl⟩
abbrev main_call5_v10 : Ref sig .tc := ⟨.hbm, 349, rfl⟩
abbrev main_call5_v11 : Ref sig .tc := ⟨.hbm, 350, rfl⟩
abbrev main_call5_c_3 : Ref sig .tc := ⟨.hbm, 351, rfl⟩
abbrev main_call5_v12 : Ref sig .tc := ⟨.hbm, 352, rfl⟩
abbrev main_call5_v13 : Ref sig .tc := ⟨.hbm, 353, rfl⟩
abbrev main_call5_v14 : Ref sig .tc := ⟨.hbm, 354, rfl⟩
abbrev main_call5_cst : Ref sig .tc := ⟨.hbm, 355, rfl⟩
abbrev main_call5_v15 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_cst_12 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_cst_13 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_cst_14 : Ref sig .tc := ⟨.hbm, 384, rfl⟩
abbrev main_v317 : Ref sig .tc := ⟨.hbm, 385, rfl⟩
abbrev main_v318 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩
abbrev main_v322 : Ref sig .tc := ⟨.hbm, 390, rfl⟩
abbrev main_v323 : Ref sig .tc := ⟨.hbm, 391, rfl⟩
abbrev main_v324 : Ref sig .tc := ⟨.hbm, 392, rfl⟩
abbrev main_v325 : Ref sig .tc := ⟨.hbm, 393, rfl⟩
abbrev main_v326 : Ref sig .tc := ⟨.hbm, 394, rfl⟩
abbrev main_v327 : Ref sig .tc := ⟨.hbm, 395, rfl⟩
abbrev main_cst_15 : Ref sig .tc := ⟨.hbm, 396, rfl⟩
abbrev main_v328 : Ref sig .tc := ⟨.hbm, 397, rfl⟩
abbrev main_v329 : Ref sig .tc := ⟨.hbm, 398, rfl⟩
abbrev main_cst_16 : Ref sig .tc := ⟨.hbm, 399, rfl⟩
abbrev main_v330 : Ref sig .tc := ⟨.hbm, 400, rfl⟩
abbrev main_v331 : Ref sig .tc := ⟨.hbm, 401, rfl⟩

abbrev nD : Nat := 1
abbrev τ : Topo := Topo.v7x

variable {F : FTy → Type} [FloatOps F]
-- ==== Proof.KI.EncRuns.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/
/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V9 m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V9 m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V9 m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V9 m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V9 m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V9 m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V9 m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V9 m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-! ## The kernel body on any staging memrefs: a subtype the run finds -/

/-- One staging buffer of output window 7, through which its contents are stated (`View.read_writes_of_cover`: the
    choice does not matter). -/
abbrev VO0_7 : View sig .tc .vmem S1024x256 .f32 := (Memref.whole cc0_stg7_0 : Memref sig .tc .vmem S1024x256 .f32).view
/-- Each window's current staging memref at point `t`, spelled as the pipeline passes it (`bodyAt0`), and its wholeness. -/
abbrev ms0_0 (t : Fin cfg0.N) : Memref sig .tc .vmem S16384x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4x4x16x10x10x64 .f32 := Memref.whole cc0_scratch0
abbrev scM0_1 : Memref sig .tc .vmem S2x2x16x10x10x128 .f32 := Memref.whole cc0_scratch1
/-- The scratch `arg9` the kernel carries between points, as a view: what it holds is stated through it. -/
abbrev VS0_0 : View sig .tc .vmem S4x4x16x10x10x64 .f32 := scM0_0.view
/-- The scratch `arg10` the kernel carries between points, as a view: what it holds is stated through it. -/
abbrev VS0_1 : View sig .tc .vmem S2x2x16x10x10x128 .f32 := scM0_1.view

/-- What the region's invariant carries besides the kernel's own scratch: the other scoped buffers and the generator
    register, at anything. -/
def Oth (c : Dev nD) : sProp 𝕄 :=
  iprop(Pipeline.scopedRestBut (Ix := Unit) (Name := ℕ) (U := UR sig nD τ) (Lvl := ℕ) (Val := Elt F) spec0 c [cc0_scratch0, cc0_scratch1] ∗ (∃ r, prngReg c r))

/-- The library's invariant with the kernel's two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ Oth c) := by
  unfold Pipeline.ΦA Oth; rw [scopedRest0_split]; simp only [scM0_0, scM0_1, owns_whole]; exact Idealize.SL.BI.equiv_iff.mp ⟨Idealize.SL.BI.sep_assoc, Idealize.SL.BI.sep_assoc'⟩

end Cert.KernelIdeal.Enc

end
-- ==== Proof.KI.EncRunA.lean ====
module

public import proofs.«01_k».proof.Proof.KI.EncRuns

@[expose] public section

-- membership in a rectangle of production extents (`View.cover_of_tiled`): the elaborator's structural look
-- recurses once per coordinate of the long axes
set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1352000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) :
    Σ' (L7 : List (View.Piece (Elt F) S1024x256 .f32)), Σ' (LS0 : List (View.Piece (Elt F) S4x4x16x10x10x64 .f32)), { LS1 : List (View.Piece (Elt F) S2x2x16x10x10x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__enc_kern i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__enc_kern_eq_skeleton]; unfold cc0__enc_kern_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.KernelIdeal.Enc

end
-- ==== Proof.KI.EncRunB.lean ====
module

public import proofs.«01_k».proof.Proof.KI.EncRunA

@[expose] public section

-- membership in a rectangle of production extents (`View.cover_of_tiled`): the elaborator's structural look
-- recurses once per coordinate of the long axes
set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1328000 in
/-- What the body's stores leave in each output's staging memref, as pieces (last first) IN CASE B (`scf.if` 0 not taken: points 1, 2, 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : ¬cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (xs0 : Vec F S4x4x16x10x10x64 .f32) (xs1 : Vec F S2x2x16x10x10x128 .f32) :
    Σ' (L7 : List (View.Piece (Elt F) S1024x256 .f32)), Σ' (LS0 : List (View.Piece (Elt F) S4x4x16x10x10x64 .f32)), { LS1 : List (View.Piece (Elt F) S2x2x16x10x10x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__enc_kern i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__enc_kern_eq_skeleton]; unfold cc0__enc_kern_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexact HS0
    iexact HS1

end Cert.KernelIdeal.Enc

end
-- ==== Proof.KI.EncData.lean ====
module

public import proofs.«01_k».proof.Proof.KI.EncRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (1 store of `S1024x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (y : S1024x256.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6).1 S1024x256.size (by sl_kernel_rfl) y

/-- What case A leaves in output 7's staging buffer: its pieces read back over junk. -/
def out0_A_7 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) : Vec F S1024x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 x0 x1 x2 x3 x4 x5 x6).1)

/-- Case A's pieces for scratch `arg9`, which the kernel carries between points, cover it: one of them a store of the WHOLE buffer (Lib/Ring.lean `sl_whole_mem`). -/
theorem scover0_A_0 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (y : S4x4x16x10x10x64.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_wholeMem (kernelRun0_A c i arg1 harg1 arg2 harg2 arg3 harg3 arg4 harg4 arg5 harg5 arg6 harg6 arg7 harg7 arg8 harg8 arg9 harg9 arg10 harg10 hc0 x0 x1 x2 x3 x4 x5 x6).2.1 (by sl_whole_mem) y

/-- What case A leaves in scratch `arg9`: its pieces read back over junk. -/
def sout0_A_0 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) : Vec F S4x4x16x10x10x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 x0 x1 x2 x3 x4 x5 x6).2.1)

/-- Case A's pieces for scratch `arg10`, which the kernel carries between points, cover it: one of them a store of the WHOLE buffer (Lib/Ring.lean `sl_whole_mem`). -/
theorem scover0_A_1 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (y : S2x2x16x10x10x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 hc0 x0 x1 x2 x3 x4 x5 x6).2.2.1 (by sl_whole_mem) y

/-- What case A leaves in scratch `arg10`: its pieces read back over junk. -/
def sout0_A_1 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) : Vec F S2x2x16x10x10x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 x0 x1 x2 x3 x4 x5 x6).2.2.1)

/-- Case B's pieces for output 7 tile its block (1 store of `S1024x256`, checked by the kernel's evaluation: Lib/Ring.lean `Piece.tiledL`, linear in the pieces, through a loop's `@[irreducible]` trip theorem too), so they cover it. -/
theorem cover0_B_7 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : ¬cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (xs0 : Vec F S4x4x16x10x10x64 .f32) (xs1 : Vec F S2x2x16x10x10x128 .f32) (y : S1024x256.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 xs0 xs1).1 S1024x256.size (by sl_kernel_rfl) y

/-- What case B leaves in output 7's staging buffer: its pieces read back over junk. -/
def out0_B_7 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : ¬cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (xs0 : Vec F S4x4x16x10x10x64 .f32) (xs1 : Vec F S2x2x16x10x10x128 .f32) : Vec F S1024x256 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 x0 x1 x2 x3 x4 x5 x6 xs0 xs1).1)

/-- What case B leaves in scratch `arg9`: its pieces (stores, a counted loop's segment) read back over what the point before left there, which it read first. -/
def sout0_B_0 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : ¬cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (xs0 : Vec F S4x4x16x10x10x64 .f32) (xs1 : Vec F S2x2x16x10x10x128 .f32) : Vec F S4x4x16x10x10x64 .f32 :=
  arg9.view.read (Elt F) (arg9.view.writes (Elt F) (harg9.unread xs0) (kernelRun0_B c i arg1 harg1 arg2 harg2 arg3 harg3 arg4 harg4 arg5 harg5 arg6 harg6 arg7 harg7 arg8 harg8 arg9 harg9 arg10 harg10 hc0 x0 x1 x2 x3 x4 x5 x6 xs0 xs1).2.1)

/-- What case B leaves in scratch `arg10`: its pieces (stores, a counted loop's segment) read back over what the point before left there, which it read first. -/
def sout0_B_1 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : ¬cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (xs0 : Vec F S4x4x16x10x10x64 .f32) (xs1 : Vec F S2x2x16x10x10x128 .f32) : Vec F S2x2x16x10x10x128 .f32 :=
  arg10.view.read (Elt F) (arg10.view.writes (Elt F) (harg10.unread xs1) (kernelRun0_B c i arg1 harg1 arg2 harg2 arg3 harg3 arg4 harg4 arg5 harg5 arg6 harg6 arg7 harg7 arg8 harg8 arg9 harg9 arg10 harg10 hc0 x0 x1 x2 x3 x4 x5 x6 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x256 .f32 × Vec F S4x4x16x10x10x64 .f32 × Vec F S2x2x16x10x10x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 4 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 4 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ Oth c)

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ Oth c) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ Oth c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (c : Dev nD) : Dat τ (Elt F) Unit ℕ (UR sig nD τ) ℕ cfg0 c where
  A w := V9 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m c).A w = V9 m c (Pipeline.arrRef spec0 w) := by
  dsimp only [dats]

/-- The invariant at a point's start (the proof data at `t.castSucc`), restated at `t.val`. -/
theorem PhiS_castSucc (c : Dev nD) (t : Fin cfg0.N) :
    (dats m c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]
theorem after0_7 (c : Dev nD) (t : Fin cfg0.N) : (dats m c).after 7 t = (outsAt0 m c t.val t.isLt).1 := by dsimp only [dats]

/-- Each input's current staging buffer holds its block at every point, fetched there or not (`beforeK_W_of`). -/
theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d
theorem before0_3 (c : Dev nD) (t : Fin cfg0.N) (d) : (dats m c).before 3 t d = iblk m c 3 t :=
  before0_3_of m (dats m c) (A_eq m c 3) (after0_3 m c) t d
theorem before0_4 (c : Dev nD) (t : Fin cfg0.N) (d) : (dats m c).before 4 t d = iblk m c 4 t :=
  before0_4_of m (dats m c) (A_eq m c 4) (after0_4 m c) t d
theorem before0_5 (c : Dev nD) (t : Fin cfg0.N) (d) : (dats m c).before 5 t d = iblk m c 5 t :=
  before0_5_of m (dats m c) (A_eq m c 5) (after0_5 m c) t d
theorem before0_6 (c : Dev nD) (t : Fin cfg0.N) (d) : (dats m c).before 6 t d = iblk m c 6 t :=
  before0_6_of m (dats m c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ d, owns (c : Thread nD τ) (ms0_7 t) fullShare ((dats m c).before 7 t d)))

/-- and what it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ owns (c : Thread nD τ) (ms0_5 t) fullShare ((dats m c).after 5 t)
    ∗ owns (c : Thread nD τ) (ms0_6 t) fullShare ((dats m c).after 6 t)
    ∗ owns (c : Thread nD τ) (ms0_7 t) fullShare ((dats m c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m c).owesAt () t.succ = (dats m c).owesAt () t.castSucc from rfl,
    after0_0, after0_1, after0_2, after0_3, after0_4, after0_5, after0_6, after0_7]
  rw [show (dats m c).Φ t.succ = PhiS m c (t.val + 1) t.isLt from rfl, PhiS_succ]
  have hN : t.val < 4 := lt_of_lt_of_eq t.isLt (show cfg0.N = 4 from N_0)
  by_cases h0 : t.val % 4 = 0
  · by_cases hz : t.val = 0
    · rw [PhiS_castSucc m c t, PhiS_zero m c _ _ hz, PhiA0_eq]
      rw [outsAt0_A m c t h0]
      unfold out0_A_7 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    · exfalso; have hN : t.val < 4 := lt_of_lt_of_eq t.isLt (show cfg0.N = 4 from N_0); omega
  · by_cases hz : t.val = 0
    · exfalso; have hN : t.val < 4 := lt_of_lt_of_eq t.isLt (show cfg0.N = 4 from N_0); omega
    · rw [PhiS_castSucc m c t, PhiS_pos m c _ _ hz]
      rw [outsAt0_B m c t h0]
      unfold out0_B_7 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, HS0, HS1⟩
      isplitl [HS0 HS1 Hg]
      · isplitl [HS0 HS1]
        · isplitl [HS0]
          · unfold owns; iexists _; isplitr
            swap; · iexact HS0
            ipureintro; rfl
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m c).Φ 0 := by
  rw [show (dats m c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m c).Φ t ⊢ Pipeline.ΦA spec0 c := by
  rw [show (dats m c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m c).Φ (Fin.last cfg0.N) ⊢ Pipeline.ΦA spec0 c :=
  Phi_out m c _ (by rw [Fin.val_last]; have : cfg0.N = 4 := N_0; omega)

end Cert.KernelIdeal.Enc

end
-- ==== Proof.KI.MegaRuns.lean ====
module

public import Idealize.ShloMosaic.Lib.Pipeline.Value
public import Idealize.ShloMosaic.Lib.VecWindow
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The guard of the body's first conditional: the first point of the grid. -/
abbrev c1 (i : grid1.Coords) : Prop := Scalar.cmpi .ne (Scalar.extui (Scalar.cmpi .eq (BitVec.ofNat 32 (i 0).val) 0#32) : BitVec 32) 0#32 = 1#1
/-- The guard of the second: the points of the first dense layer. -/
abbrev c2 (i : grid1.Coords) : Prop := Scalar.cmpi .ne (Scalar.extui (Scalar.cmpi .slt (BitVec.ofNat 32 (i 0).val) 8#32) : BitVec 32) 0#32 = 1#1
/-- The guard of the third: the point of the codebook look-up. -/
abbrev c3 (i : grid1.Coords) : Prop := Scalar.cmpi .ne (Scalar.extui (Scalar.cmpi .eq (BitVec.ofNat 32 (i 0).val) 8#32) : BitVec 32) 0#32 = 1#1

theorem off2_zero : (![0, 0] : Fin 2 → ℕ) = fun _ => 0 := by decide
theorem off3_zero : (![0, 0, 0] : Fin 3 → ℕ) = fun _ => 0 := by decide

set_option maxHeartbeats 1600000 in
/-- The first point: the accumulator is cleared and takes the first partial product. -/
theorem runA (c : Dev nD) (i : grid1.Coords) (arg1 : Memref sig .tc .vmem S64x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S512x64 .f32) (harg6 : arg6.IsWhole) (arg7 : Memref sig .tc .vmem S64x512 .f32) (harg7 : arg7.IsWhole) (arg8 : Memref sig .tc .vmem S2048x1024 .f32) (harg8 : arg8.IsWhole) (arg9 : Memref sig .tc .vmem S1x1024 .f32) (harg9 : arg9.IsWhole) (arg10 : Memref sig .tc .vmem S4x1024x256 .f32) (harg10 : arg10.IsWhole) (arg11 : Memref sig .tc .vmem S1x256 .f32) (harg11 : arg11.IsWhole) (arg12 : Memref sig .tc .vmem S256x2048 .f32) (harg12 : arg12.IsWhole) (arg13 : Memref sig .tc .vmem S1x2048 .f32) (harg13 : arg13.IsWhole) (arg14 : Memref sig .tc .vmem S2048x64 .f32) (harg14 : arg14.IsWhole) (arg15 : Memref sig .tc .vmem S1x64 .f32) (harg15 : arg15.IsWhole) (arg16 : Memref sig .tc .vmem S512x64 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S4096x256 .f32) (harg19 : arg19.IsWhole) (h1 : c1 i) (h2 : c2 i) (h3 : ¬c3 i) (h4 : ¬k1_cond4 i = 1#1) (h5 : ¬k1_cond5 i = 1#1) (x1 : Vec F S64x2048 .f32) (x2 : Vec F S2048x1024 .f32) (E : Set ℕ) (K : PUnit → sProp 𝕄) :
    iprop(owns (c : Thread nD τ) arg1 fullShare x1 ∗ owns (c : Thread nD τ) arg2 fullShare x2 ∗ (∃ d, owns (c : Thread nD τ) arg17 fullShare d)
      ∗ (iprop(owns (c : Thread nD τ) arg1 fullShare x1 ∗ owns (c : Thread nD τ) arg2 fullShare x2 ∗ owns (c : Thread nD τ) arg17 fullShare (k1_pay2 (k1_pay1 (F := F)) x1 x2)) -∗ K ⟨⟩))
      ⊢ wp frame (wpE (defs₀ (F := F)) Variants.none c none) E (cc1__mega_kern i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__mega_kern_eq_skeleton]; unfold cc1__mega_kern_skel
  unfold owns
  iintro ⟨⟨%f1, %hf1, H1⟩, ⟨%f2, %hf2, H2⟩, ⟨%d17, %f17, -, H17⟩, Hk⟩
  obtain rfl := harg1.eq_unread hf1; obtain rfl := harg2.eq_unread hf2
  sl_exec (disch := first | sl_exact h1 | sl_exact h2 | sl_exact h3 | sl_exact h4 | sl_exact h5)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H17
  ipureintro
  sl_unfold_words
  rw [View.read_writes_full]
  simp only [View.readAt_eq_ld, hf1, hf2, View.readCov_unit_zero (S := S64x1024) _ off2_zero, View.ld_unit_zero (S := S64x2048) off2_zero, View.ld_unit_zero (S := S2048x1024) off2_zero, View.ld_unit_zero (S := S64x1024) off2_zero]

set_option maxHeartbeats 1600000 in
/-- A later point of the first dense layer: the accumulator takes one more partial product. -/
theorem runB (c : Dev nD) (i : grid1.Coords) (arg1 : Memref sig .tc .vmem S64x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S512x64 .f32) (harg6 : arg6.IsWhole) (arg7 : Memref sig .tc .vmem S64x512 .f32) (harg7 : arg7.IsWhole) (arg8 : Memref sig .tc .vmem S2048x1024 .f32) (harg8 : arg8.IsWhole) (arg9 : Memref sig .tc .vmem S1x1024 .f32) (harg9 : arg9.IsWhole) (arg10 : Memref sig .tc .vmem S4x1024x256 .f32) (harg10 : arg10.IsWhole) (arg11 : Memref sig .tc .vmem S1x256 .f32) (harg11 : arg11.IsWhole) (arg12 : Memref sig .tc .vmem S256x2048 .f32) (harg12 : arg12.IsWhole) (arg13 : Memref sig .tc .vmem S1x2048 .f32) (harg13 : arg13.IsWhole) (arg14 : Memref sig .tc .vmem S2048x64 .f32) (harg14 : arg14.IsWhole) (arg15 : Memref sig .tc .vmem S1x64 .f32) (harg15 : arg15.IsWhole) (arg16 : Memref sig .tc .vmem S512x64 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S4096x256 .f32) (harg19 : arg19.IsWhole) (h1 : ¬c1 i) (h2 : c2 i) (h3 : ¬c3 i) (h4 : ¬k1_cond4 i = 1#1) (h5 : ¬k1_cond5 i = 1#1) (x1 : Vec F S64x2048 .f32) (x2 : Vec F S2048x1024 .f32) (x17 : Vec F S64x1024 .f32) (E : Set ℕ) (K : PUnit → sProp 𝕄) :
    iprop(owns (c : Thread nD τ) arg1 fullShare x1 ∗ owns (c : Thread nD τ) arg2 fullShare x2 ∗ owns (c : Thread nD τ) arg17 fullShare x17
      ∗ (iprop(owns (c : Thread nD τ) arg1 fullShare x1 ∗ owns (c : Thread nD τ) arg2 fullShare x2 ∗ owns (c : Thread nD τ) arg17 fullShare (k1_pay2 x17 x1 x2)) -∗ K ⟨⟩))
      ⊢ wp frame (wpE (defs₀ (F := F)) Variants.none c none) E (cc1__mega_kern i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__mega_kern_eq_skeleton]; unfold cc1__mega_kern_skel
  unfold owns
  iintro ⟨⟨%f1, %hf1, H1⟩, ⟨%f2, %hf2, H2⟩, ⟨%f17, %hf17, H17⟩, Hk⟩
  obtain rfl := harg1.eq_unread hf1; obtain rfl := harg2.eq_unread hf2; obtain rfl := harg17.eq_unread hf17
  sl_exec (disch := first | sl_exact h1 | sl_exact h2 | sl_exact h3 | sl_exact h4 | sl_exact h5)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H17
  ipureintro
  sl_unfold_words
  rw [View.read_writes_full]
  simp only [View.readAt_eq_ld, hf1, hf2, View.ld_unit_zero (S := S64x2048) off2_zero, View.ld_unit_zero (S := S2048x1024) off2_zero, View.ld_unit_zero (S := S64x1024) off2_zero, hf17]

end Cert.KernelIdeal.Mega

end
-- ==== Proof.KI.MegaRunC.lean ====
module

public import proofs.«01_k».proof.Proof.KI.MegaRuns

@[expose] public section

set_option maxRecDepth 16384

noncomputable section

namespace Cert.KernelIdeal.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1600000 in
/-- The point of the codebook look-up: what it leaves in the decoder's input buffer, as pieces. -/
def runC (c : Dev nD) (i : grid1.Coords) (arg1 : Memref sig .tc .vmem S64x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S512x64 .f32) (harg6 : arg6.IsWhole) (arg7 : Memref sig .tc .vmem S64x512 .f32) (harg7 : arg7.IsWhole) (arg8 : Memref sig .tc .vmem S2048x1024 .f32) (harg8 : arg8.IsWhole) (arg9 : Memref sig .tc .vmem S1x1024 .f32) (harg9 : arg9.IsWhole) (arg10 : Memref sig .tc .vmem S4x1024x256 .f32) (harg10 : arg10.IsWhole) (arg11 : Memref sig .tc .vmem S1x256 .f32) (harg11 : arg11.IsWhole) (arg12 : Memref sig .tc .vmem S256x2048 .f32) (harg12 : arg12.IsWhole) (arg13 : Memref sig .tc .vmem S1x2048 .f32) (harg13 : arg13.IsWhole) (arg14 : Memref sig .tc .vmem S2048x64 .f32) (harg14 : arg14.IsWhole) (arg15 : Memref sig .tc .vmem S1x64 .f32) (harg15 : arg15.IsWhole) (arg16 : Memref sig .tc .vmem S512x64 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S4096x256 .f32) (harg19 : arg19.IsWhole) (h1 : ¬c1 i) (h2 : ¬c2 i) (h3 : c3 i) (h4 : ¬k1_cond4 i = 1#1) (h5 : ¬k1_cond5 i = 1#1) (x3 : Vec F S1x1024 .f32) (x4 : Vec F S1024x2048 .f32) (x5 : Vec F S1x2048 .f32) (x6 : Vec F S512x64 .f32) (x7 : Vec F S64x512 .f32) (x8 : Vec F S2048x1024 .f32) (x9 : Vec F S1x1024 .f32) (x17 : Vec F S64x1024 .f32) :
    { L : List (View.Piece (Elt F) S64x1024 .f32) // ∀ (E : Set ℕ) (K : PUnit → sProp 𝕄),
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg17 fullShare x17 ∗ (∃ d, owns (c : Thread nD τ) arg18 fullShare d)
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg17 fullShare x17 ∗ (∃ f, arg18.view.loc (c : Thread nD τ) ↦[arg18.view.set]{fullShare} arg18.view.writes (Elt F) f L)) -∗ K ⟨⟩))
      ⊢ wp frame (wpE (defs₀ (F := F)) Variants.none c none) E (cc1__mega_kern i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc1__mega_kern_eq_skeleton]; unfold cc1__mega_kern_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]; unfold k1_part1_skel k1_part2_skel k1_part3_skel k1_part4_skel k1_part5_skel k1_part6_skel k1_part7_skel k1_part8_skel k1_part9_skel k1_part10_skel k1_part11_skel k1_part12_skel k1_part13_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f17, %hf17, H17⟩, ⟨%d18, %f18, -, H18⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg17.eq_unread hf17
    sl_exec (disch := first | sl_exact h1 | sl_exact h2 | sl_exact h3 | sl_exact h4 | sl_exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H17]
    · iexists _; isplitr; · ipureintro; exact harg17.read_unread _
      iexact H17
    iexists _; iexact H18

end Cert.KernelIdeal.Mega

end
-- ==== Proof.KI.MegaRunD.lean ====
module

public import proofs.«01_k».proof.Proof.KI.MegaRuns

@[expose] public section

set_option maxRecDepth 16384

noncomputable section

namespace Cert.KernelIdeal.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1600000 in
/-- A point of the first transposed convolution: four bands of rows are stored. -/
theorem runD (c : Dev nD) (i : grid1.Coords) (arg1 : Memref sig .tc .vmem S64x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S512x64 .f32) (harg6 : arg6.IsWhole) (arg7 : Memref sig .tc .vmem S64x512 .f32) (harg7 : arg7.IsWhole) (arg8 : Memref sig .tc .vmem S2048x1024 .f32) (harg8 : arg8.IsWhole) (arg9 : Memref sig .tc .vmem S1x1024 .f32) (harg9 : arg9.IsWhole) (arg10 : Memref sig .tc .vmem S4x1024x256 .f32) (harg10 : arg10.IsWhole) (arg11 : Memref sig .tc .vmem S1x256 .f32) (harg11 : arg11.IsWhole) (arg12 : Memref sig .tc .vmem S256x2048 .f32) (harg12 : arg12.IsWhole) (arg13 : Memref sig .tc .vmem S1x2048 .f32) (harg13 : arg13.IsWhole) (arg14 : Memref sig .tc .vmem S2048x64 .f32) (harg14 : arg14.IsWhole) (arg15 : Memref sig .tc .vmem S1x64 .f32) (harg15 : arg15.IsWhole) (arg16 : Memref sig .tc .vmem S512x64 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S4096x256 .f32) (harg19 : arg19.IsWhole) (h1 : ¬c1 i) (h2 : ¬c2 i) (h3 : ¬c3 i) (h4 : k1_cond4 i = 1#1) (h5 : ¬k1_cond5 i = 1#1) (x10 : Vec F S4x1024x256 .f32) (x11 : Vec F S1x256 .f32) (x18 : Vec F S64x1024 .f32) (x19 : Vec F S4096x256 .f32) (E : Set ℕ) (K : PUnit → sProp 𝕄) :
    iprop(owns (c : Thread nD τ) arg10 fullShare x10 ∗ owns (c : Thread nD τ) arg11 fullShare x11 ∗ owns (c : Thread nD τ) arg18 fullShare x18 ∗ owns (c : Thread nD τ) arg19 fullShare x19
      ∗ (iprop(owns (c : Thread nD τ) arg10 fullShare x10 ∗ owns (c : Thread nD τ) arg11 fullShare x11 ∗ owns (c : Thread nD τ) arg18 fullShare x18 ∗ owns (c : Thread nD τ) arg19 fullShare (VecWindow.put (VecWindow.put (VecWindow.put (VecWindow.put x19 (k1_off1 i 0#32) S64x256.size (k1_pay56 x18 x10 x11))
      (k1_off1 i 64#32) S64x256.size (k1_pay57 x18 x10 x11)) (k1_off1 i 128#32) S64x256.size (k1_pay4 (k1_pay58 x18 x10) x11))
      (k1_off1 i 192#32) S64x256.size (k1_pay5 x18 (k1_pay55 x10) x11))) -∗ K ⟨⟩))
      ⊢ wp frame (wpE (defs₀ (F := F)) Variants.none c none) E (cc1__mega_kern i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__mega_kern_eq_skeleton]; unfold cc1__mega_kern_skel
  simp only [k1_part14_eq_skeleton]; unfold k1_part14_skel
  unfold owns
  iintro ⟨⟨%f10, %hf10, H10⟩, ⟨%f11, %hf11, H11⟩, ⟨%f18, %hf18, H18⟩, ⟨%f19, %hf19, H19⟩, Hk⟩
  obtain rfl := harg10.eq_unread hf10; obtain rfl := harg11.eq_unread hf11; obtain rfl := harg18.eq_unread hf18; obtain rfl := harg19.eq_unread hf19
  sl_exec (disch := first | sl_exact h1 | sl_exact h2 | sl_exact h3 | sl_exact h4 | sl_exact h5)
  sl_step
  iapply Hk
  isplitl [H10]
  · iexists _; isplitr; · ipureintro; exact harg10.read_unread _
    iexact H10
  isplitl [H11]
  · iexists _; isplitr; · ipureintro; exact harg11.read_unread _
    iexact H11
  isplitl [H18]
  · iexists _; isplitr; · ipureintro; exact harg18.read_unread _
    iexact H18
  iexists _; isplitr
  swap; · iexact H19
  ipureintro
  iterate 4 rw [View.read_writes_cons_put _ _ _ _ _ rfl]
  simp only [View.writes_nil, View.readAt_eq_ld, hf10, hf11, hf18, hf19, View.ld_unit_zero (S := S4x1024x256) off3_zero, View.ld_unit_zero (S := S1x256) off2_zero, View.ld_unit_zero (S := S64x1024) off2_zero]

end Cert.KernelIdeal.Mega

end
-- ==== Proof.KI.MegaRunE.lean ====
module

public import proofs.«01_k».proof.Proof.KI.MegaRuns

@[expose] public section

set_option maxRecDepth 16384

noncomputable section

namespace Cert.KernelIdeal.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1600000 in
/-- A point of the last two transposed convolutions: a block of the output is stored. -/
theorem runE (c : Dev nD) (i : grid1.Coords) (arg1 : Memref sig .tc .vmem S64x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S512x64 .f32) (harg6 : arg6.IsWhole) (arg7 : Memref sig .tc .vmem S64x512 .f32) (harg7 : arg7.IsWhole) (arg8 : Memref sig .tc .vmem S2048x1024 .f32) (harg8 : arg8.IsWhole) (arg9 : Memref sig .tc .vmem S1x1024 .f32) (harg9 : arg9.IsWhole) (arg10 : Memref sig .tc .vmem S4x1024x256 .f32) (harg10 : arg10.IsWhole) (arg11 : Memref sig .tc .vmem S1x256 .f32) (harg11 : arg11.IsWhole) (arg12 : Memref sig .tc .vmem S256x2048 .f32) (harg12 : arg12.IsWhole) (arg13 : Memref sig .tc .vmem S1x2048 .f32) (harg13 : arg13.IsWhole) (arg14 : Memref sig .tc .vmem S2048x64 .f32) (harg14 : arg14.IsWhole) (arg15 : Memref sig .tc .vmem S1x64 .f32) (harg15 : arg15.IsWhole) (arg16 : Memref sig .tc .vmem S512x64 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S4096x256 .f32) (harg19 : arg19.IsWhole) (h1 : ¬c1 i) (h2 : ¬c2 i) (h3 : ¬c3 i) (h4 : ¬k1_cond4 i = 1#1) (h5 : k1_cond5 i = 1#1) (x12 : Vec F S256x2048 .f32) (x13 : Vec F S1x2048 .f32) (x14 : Vec F S2048x64 .f32) (x15 : Vec F S1x64 .f32) (x19 : Vec F S4096x256 .f32) (E : Set ℕ) (K : PUnit → sProp 𝕄) :
    iprop(owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg19 fullShare x19 ∗ (∃ d, owns (c : Thread nD τ) arg16 fullShare d)
      ∗ (iprop(owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg19 fullShare x19 ∗ owns (c : Thread nD τ) arg16 fullShare (k1_pay6 (View.ld x19 (Rect.unit (s := S4096x256) (k1_off2 i) S512x256.size (k1_off2_inb i h5))) x12 x13 x14 x15)) -∗ K ⟨⟩))
      ⊢ wp frame (wpE (defs₀ (F := F)) Variants.none c none) E (cc1__mega_kern i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__mega_kern_eq_skeleton]; unfold cc1__mega_kern_skel
  unfold owns
  iintro ⟨⟨%f12, %hf12, H12⟩, ⟨%f13, %hf13, H13⟩, ⟨%f14, %hf14, H14⟩, ⟨%f15, %hf15, H15⟩, ⟨%f19, %hf19, H19⟩, ⟨%d16, %f16, -, H16⟩, Hk⟩
  obtain rfl := harg12.eq_unread hf12; obtain rfl := harg13.eq_unread hf13; obtain rfl := harg14.eq_unread hf14; obtain rfl := harg15.eq_unread hf15; obtain rfl := harg19.eq_unread hf19
  sl_exec (disch := first | sl_exact h1 | sl_exact h2 | sl_exact h3 | sl_exact h4 | sl_exact h5)
  sl_step
  iapply Hk
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H19]
  · iexists _; isplitr; · ipureintro; exact harg19.read_unread _
    iexact H19
  iexists _; isplitr
  swap; · iexact H16
  ipureintro
  sl_unfold_words
  rw [View.read_writes_full]
  simp only [View.readAt_eq_ld, hf12, hf13, hf14, hf15, View.ld_unit_zero (S := S256x2048) off2_zero, View.ld_unit_zero (S := S1x2048) off2_zero, View.ld_unit_zero (S := S2048x64) off2_zero, View.ld_unit_zero (S := S1x64) off2_zero, hf19]

end Cert.KernelIdeal.Mega

end
-- ==== Proof.KI.MegaData.lean ====
module

public import proofs.«01_k».proof.Proof.KI.MegaRunC
public import proofs.«01_k».proof.Proof.KI.MegaRunD
public import proofs.«01_k».proof.Proof.KI.MegaRunE
public import Idealize.ShloMosaic.Lib.Pointwise

@[expose] public section

set_option maxRecDepth 16384

noncomputable section

namespace Cert.KernelIdeal.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The third window of scratch: whole scoped buffers of the kernel's own, passed beside the windows. -/
abbrev scA : Memref sig .tc .vmem S64x1024 .f32 := Memref.whole cc1_scratch0
abbrev scD : Memref sig .tc .vmem S64x1024 .f32 := Memref.whole cc1_scratch1
abbrev scW : Memref sig .tc .vmem S4096x256 .f32 := Memref.whole cc1_scratch2

/-- What the region's invariant carries besides the kernel's own scratch: the other scoped buffers and the generator
    register, at anything. -/
def Oth (c : Dev nD) : sProp 𝕄 :=
  iprop(Pipeline.scopedRestBut (Ix := Unit) (Name := ℕ) (U := UR sig nD τ) (Lvl := ℕ) (Val := Elt F) spec1 c [cc1_scratch0, cc1_scratch1, cc1_scratch2] ∗ (∃ r, prngReg c r))

/-- The library's invariant with the kernel's three scratch operands as memrefs owned at some contents. -/
theorem PhiA1_eq (c : Dev nD) :
    (Pipeline.ΦA spec1 c : sProp 𝕄)
      = iprop(iprop((∃ d, owns (c : Thread nD τ) scA fullShare d) ∗ (∃ d, owns (c : Thread nD τ) scD fullShare d) ∗ (∃ d, owns (c : Thread nD τ) scW fullShare d)) ∗ Oth c) := by
  unfold Pipeline.ΦA Oth
  rw [Pipeline.scopedRest_split_of_list spec1 c [cc1_scratch0, cc1_scratch1, cc1_scratch2] (by decide) (by decide)]
  simp only [scA, scD, scW, owns_whole]
  exact Idealize.SL.BI.equiv_iff.mp ⟨Idealize.SL.BI.sep_assoc, Idealize.SL.BI.sep_assoc'⟩

/-! ## Which point is in which case -/

/-- The grid coordinate of a point is its position. -/
theorem coord (t : Fin cfg1.N) : (grid1.coords t 0).val = t.val % 33 := by
  have e0 : (grid1.coords t 0).val = t.val / 1 % 33 := Pipeline.Grid.coords_val t 0 (by decide) rfl
  rw [e0, Nat.div_one]
theorem t_lt (t : Fin cfg1.N) : t.val < 33 := Nat.lt_of_lt_of_eq t.isLt N_1
theorem hc1 (t : Fin cfg1.N) : c1 (grid1.coords t) ↔ t.val = 0 := by
  have ht := t_lt t
  simp only [c1, coord]
  revert ht; generalize t.val = n; revert n; decide
theorem hc2 (t : Fin cfg1.N) : c2 (grid1.coords t) ↔ t.val < 8 := by
  have ht := t_lt t
  simp only [c2, coord]
  revert ht; generalize t.val = n; revert n; decide
theorem hc3 (t : Fin cfg1.N) : c3 (grid1.coords t) ↔ t.val = 8 := by
  have ht := t_lt t
  simp only [c3, coord]
  revert ht; generalize t.val = n; revert n; decide
theorem hc4 (t : Fin cfg1.N) : k1_cond4 (grid1.coords t) = 1#1 ↔ 9 ≤ t.val ∧ t.val < 25 := by
  have ht := t_lt t
  simp only [k1_cond4, coord]
  revert ht; generalize t.val = n; revert n; decide
theorem hc5 (t : Fin cfg1.N) : k1_cond5 (grid1.coords t) = 1#1 ↔ 25 ≤ t.val := by
  have ht := t_lt t
  simp only [k1_cond5, coord]
  revert ht; generalize t.val = n; revert n; decide
/-- The rows of the intermediate image a point of the fourth case stores start at `256 (t - 9)`. -/
theorem hoff1 (t : Fin cfg1.N) (h : 9 ≤ t.val ∧ t.val < 25) (r : Fin 4) :
    k1_off1 (grid1.coords t) (BitVec.ofNat 32 (64 * r.val)) = ![256 * (t.val - 9) + 64 * r.val, 0] := by
  have ht := t_lt t
  simp only [k1_off1, coord]
  revert h r; revert ht; generalize t.val = n; revert n; decide
/-- The rows a point of the fifth case loads start at `512 (t - 25)`. -/
theorem hoff2 (t : Fin cfg1.N) (h : 25 ≤ t.val) :
    k1_off2 (grid1.coords t) = ![512 * (t.val - 25), 0] := by
  have h2 := t_lt t
  simp only [k1_off2, coord]
  revert h2 h; generalize t.val = n; revert n; decide

variable (V : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk V c 11 t) (t : Fin cfg1.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk V c 12 t) (t : Fin cfg1.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk V c 13 t) (t : Fin cfg1.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk V c 14 t) (t : Fin cfg1.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- The point at position `n`. -/
def pt (n : ℕ) : Fin cfg1.N := ⟨n % 33, Nat.lt_of_lt_of_eq (Nat.mod_lt _ (by decide)) N_1.symm⟩
theorem pt_val (t : Fin cfg1.N) : pt t.val = t := Fin.ext (Nat.mod_eq_of_lt (t_lt t))

/-- The accumulator after point `n` of the first dense layer. -/
def accAt (c : Dev nD) : ℕ → Vec F S64x1024 .f32
  | 0 => k1_pay2 (k1_pay1 (F := F)) (iblk V c 0 (pt 0)) (iblk V c 1 (pt 0))
  | n + 1 => k1_pay2 (accAt c n) (iblk V c 0 (pt (n + 1))) (iblk V c 1 (pt (n + 1)))

theorem pt8 : (pt 8).val = 8 := rfl
/-- The decoder's input: what the point of the codebook look-up leaves. -/
def dV (c : Dev nD) : Vec F S64x1024 .f32 :=
  View.canon (runC (F := F) c (grid1.coords (pt 8)) (st1_0 (pt 8)) (hstage1_0 ((cfg1.slots (pt 8) 0).cast nbuf1_0)) (st1_1 (pt 8)) (hstage1_1 ((cfg1.slots (pt 8) 1).cast nbuf1_1)) (st1_2 (pt 8)) (hstage1_2 ((cfg1.slots (pt 8) 2).cast nbuf1_2)) (st1_3 (pt 8)) (hstage1_3 ((cfg1.slots (pt 8) 3).cast nbuf1_3)) (st1_4 (pt 8)) (hstage1_4 ((cfg1.slots (pt 8) 4).cast nbuf1_4)) (st1_5 (pt 8)) (hstage1_5 ((cfg1.slots (pt 8) 5).cast nbuf1_5)) (st1_6 (pt 8)) (hstage1_6 ((cfg1.slots (pt 8) 6).cast nbuf1_6)) (st1_7 (pt 8)) (hstage1_7 ((cfg1.slots (pt 8) 7).cast nbuf1_7)) (st1_8 (pt 8)) (hstage1_8 ((cfg1.slots (pt 8) 8).cast nbuf1_8)) (st1_9 (pt 8)) (hstage1_9 ((cfg1.slots (pt 8) 9).cast nbuf1_9)) (st1_10 (pt 8)) (hstage1_10 ((cfg1.slots (pt 8) 10).cast nbuf1_10)) (st1_11 (pt 8)) (hstage1_11 ((cfg1.slots (pt 8) 11).cast nbuf1_11)) (st1_12 (pt 8)) (hstage1_12 ((cfg1.slots (pt 8) 12).cast nbuf1_12)) (st1_13 (pt 8)) (hstage1_13 ((cfg1.slots (pt 8) 13).cast nbuf1_13)) (st1_14 (pt 8)) (hstage1_14 ((cfg1.slots (pt 8) 14).cast nbuf1_14)) (st1_15 (pt 8)) (hstage1_15 ((cfg1.slots (pt 8) 15).cast nbuf1_15)) scA (Memref.isWhole_whole _) scD (Memref.isWhole_whole _) scW (Memref.isWhole_whole _)
    (fun h => absurd ((hc1 _).1 h) (by decide)) (fun h => absurd ((hc2 _).1 h) (by decide)) ((hc3 _).2 rfl) (fun h => absurd ((hc4 _).1 h) (by decide)) (fun h => absurd ((hc5 _).1 h) (by decide))
    (iblk V c 2 (pt 8)) (iblk V c 3 (pt 8)) (iblk V c 4 (pt 8)) (iblk V c 5 (pt 8)) (iblk V c 6 (pt 8)) (iblk V c 7 (pt 8)) (iblk V c 8 (pt 8)) (accAt V c 7)).1

/-- The band of rows `r` (of four) the block `k` of the transposed convolution's weights gives from the input `x`. -/
def band (x : Vec F S64x1024 .f32) (k : Vec F S4x1024x256 .f32) (b : Vec F S1x256 .f32) (r : Fin 4) : Vec F S64x256 .f32 :=
  match r with
  | 0 => k1_pay56 x k b
  | 1 => k1_pay57 x k b
  | 2 => k1_pay4 (k1_pay58 x k) b
  | 3 => k1_pay5 x (k1_pay55 k) b

/-- The intermediate image, whole: row `256 j + 64 r + q` is row `q` of band `r` of weight block `j`. -/
def t1V (c : Dev nD) : Vec F S4096x256 .f32 := fun y =>
  band (dV V c) (iblk V c 9 (pt (9 + (y 0).val / 256))) (iblk V c 10 (pt (9 + (y 0).val / 256)))
    ⟨(y 0).val / 64 % 4, Nat.mod_lt _ (by decide)⟩ (ix2 (n0 := 64) (n1 := 256) ⟨(y 0).val % 64, Nat.mod_lt _ (by decide)⟩ (y 1))

/-- The 512 rows of it the point `n` of the last case loads. -/
def rowsV (c : Dev nD) (n : ℕ) : Vec F S512x256 .f32 := fun y =>
  t1V V c (ix2 (n0 := 4096) (n1 := 256) ⟨(512 * (n - 25) + (y 0).val) % 4096, Nat.mod_lt _ (by decide)⟩ (y 1))

/-- What the output's buffer holds after point `t` of the last case. -/
def outV (c : Dev nD) (t : Fin cfg1.N) : Vec F S512x64 .f32 :=
  k1_pay6 (rowsV V c t.val) (iblk V c 11 t) (iblk V c 12 t) (iblk V c 13 t) (iblk V c 14 t)

/-- What the scratch is known to hold before point `n`. -/
structure Inv (c : Dev nD) (n : ℕ) (a d : Vec F S64x1024 .f32) (w : Vec F S4096x256 .f32) : Prop where
  acc : 1 ≤ n → n ≤ 8 → a = accAt V c (n - 1)
  dec : 9 ≤ n → d = dV V c
  img : 9 ≤ n → ∀ y : S4096x256.Idx, (y 0).val < 256 * (n - 9) → w y = t1V V c y

/-- The region's invariant before point `n`. -/
def Phi (c : Dev nD) (n : ℕ) : sProp 𝕄 :=
  iprop(∃ a, ∃ d, ∃ w, ⌜Inv V c n a d w⌝ ∗ owns (c : Thread nD τ) scA fullShare a ∗ owns (c : Thread nD τ) scD fullShare d ∗ owns (c : Thread nD τ) scW fullShare w ∗ Oth c)

/-- The proof data of the pipeline on core `c`. -/
def dats (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => outV V c t
    | ⟨_ + 16, h⟩ => absurd h (Nat.not_lt.2 (Nat.le_add_left _ _))
  Φ t := Phi V c t.val
  q _ := fullShare
  owed _ := 0

theorem A_eq (c : Dev nD) (w : Fin cfg1.W) : (dats V c).A w = V c (Pipeline.arrRef spec1 w) := by
  dsimp only [dats]
theorem after1_0 (c : Dev nD) (t : Fin cfg1.N) : (dats V c).after 0 t = iblk V c 0 t := by dsimp only [dats]
theorem after1_1 (c : Dev nD) (t : Fin cfg1.N) : (dats V c).after 1 t = iblk V c 1 t := by dsimp only [dats]
theorem after1_2 (c : Dev nD) (t : Fin cfg1.N) : (dats V c).after 2 t = iblk V c 2 t := by dsimp only [dats]
theorem after1_3 (c : Dev nD) (t : Fin cfg1.N) : (dats V c).after 3 t = iblk V c 3 t := by dsimp only [dats]
theorem after1_4 (c : Dev nD) (t : Fin cfg1.N) : (dats V c).after 4 t = iblk V c 4 t := by dsimp only [dats]
theorem after1_5 (c : Dev nD) (t : Fin cfg1.N) : (dats V c).after 5 t = iblk V c 5 t := by dsimp only [dats]
theorem after1_6 (c : Dev nD) (t : Fin cfg1.N) : (dats V c).after 6 t = iblk V c 6 t := by dsimp only [dats]
theorem after1_7 (c : Dev nD) (t : Fin cfg1.N) : (dats V c).after 7 t = iblk V c 7 t := by dsimp only [dats]
theorem after1_8 (c : Dev nD) (t : Fin cfg1.N) : (dats V c).after 8 t = iblk V c 8 t := by dsimp only [dats]
theorem after1_9 (c : Dev nD) (t : Fin cfg1.N) : (dats V c).after 9 t = iblk V c 9 t := by dsimp only [dats]
theorem after1_10 (c : Dev nD) (t : Fin cfg1.N) : (dats V c).after 10 t = iblk V c 10 t := by dsimp only [dats]
theorem after1_11 (c : Dev nD) (t : Fin cfg1.N) : (dats V c).after 11 t = iblk V c 11 t := by dsimp only [dats]
theorem after1_12 (c : Dev nD) (t : Fin cfg1.N) : (dats V c).after 12 t = iblk V c 12 t := by dsimp only [dats]
theorem after1_13 (c : Dev nD) (t : Fin cfg1.N) : (dats V c).after 13 t = iblk V c 13 t := by dsimp only [dats]
theorem after1_14 (c : Dev nD) (t : Fin cfg1.N) : (dats V c).after 14 t = iblk V c 14 t := by dsimp only [dats]
theorem after1_15 (c : Dev nD) (t : Fin cfg1.N) : (dats V c).after 15 t = outV V c t := by dsimp only [dats]
theorem before1_0 (c : Dev nD) (t : Fin cfg1.N) (d) : (dats V c).before 0 t d = iblk V c 0 t :=
  before1_0_of V (dats V c) (A_eq V c 0) (after1_0 V c) t d
theorem before1_1 (c : Dev nD) (t : Fin cfg1.N) (d) : (dats V c).before 1 t d = iblk V c 1 t :=
  before1_1_of V (dats V c) (A_eq V c 1) (after1_1 V c) t d
theorem before1_2 (c : Dev nD) (t : Fin cfg1.N) (d) : (dats V c).before 2 t d = iblk V c 2 t :=
  before1_2_of V (dats V c) (A_eq V c 2) (after1_2 V c) t d
theorem before1_3 (c : Dev nD) (t : Fin cfg1.N) (d) : (dats V c).before 3 t d = iblk V c 3 t :=
  before1_3_of V (dats V c) (A_eq V c 3) (after1_3 V c) t d
theorem before1_4 (c : Dev nD) (t : Fin cfg1.N) (d) : (dats V c).before 4 t d = iblk V c 4 t :=
  before1_4_of V (dats V c) (A_eq V c 4) (after1_4 V c) t d
theorem before1_5 (c : Dev nD) (t : Fin cfg1.N) (d) : (dats V c).before 5 t d = iblk V c 5 t :=
  before1_5_of V (dats V c) (A_eq V c 5) (after1_5 V c) t d
theorem before1_6 (c : Dev nD) (t : Fin cfg1.N) (d) : (dats V c).before 6 t d = iblk V c 6 t :=
  before1_6_of V (dats V c) (A_eq V c 6) (after1_6 V c) t d
theorem before1_7 (c : Dev nD) (t : Fin cfg1.N) (d) : (dats V c).before 7 t d = iblk V c 7 t :=
  before1_7_of V (dats V c) (A_eq V c 7) (after1_7 V c) t d
theorem before1_8 (c : Dev nD) (t : Fin cfg1.N) (d) : (dats V c).before 8 t d = iblk V c 8 t :=
  before1_8_of V (dats V c) (A_eq V c 8) (after1_8 V c) t d
theorem before1_9 (c : Dev nD) (t : Fin cfg1.N) (d) : (dats V c).before 9 t d = iblk V c 9 t :=
  before1_9_of V (dats V c) (A_eq V c 9) (after1_9 V c) t d
theorem before1_10 (c : Dev nD) (t : Fin cfg1.N) (d) : (dats V c).before 10 t d = iblk V c 10 t :=
  before1_10_of V (dats V c) (A_eq V c 10) (after1_10 V c) t d
theorem before1_11 (c : Dev nD) (t : Fin cfg1.N) (d) : (dats V c).before 11 t d = iblk V c 11 t :=
  before1_11_of V (dats V c) (A_eq V c 11) (after1_11 V c) t d
theorem before1_12 (c : Dev nD) (t : Fin cfg1.N) (d) : (dats V c).before 12 t d = iblk V c 12 t :=
  before1_12_of V (dats V c) (A_eq V c 12) (after1_12 V c) t d
theorem before1_13 (c : Dev nD) (t : Fin cfg1.N) (d) : (dats V c).before 13 t d = iblk V c 13 t :=
  before1_13_of V (dats V c) (A_eq V c 13) (after1_13 V c) t d
theorem before1_14 (c : Dev nD) (t : Fin cfg1.N) (d) : (dats V c).before 14 t d = iblk V c 14 t :=
  before1_14_of V (dats V c) (A_eq V c 14) (after1_14 V c) t d
end Cert.KernelIdeal.Mega

end
-- ==== Proof.KI.MegaBody.lean ====
module

public import proofs.«01_k».proof.Proof.KI.MegaData

@[expose] public section

set_option maxRecDepth 16384

noncomputable section

namespace Cert.KernelIdeal.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem put_rows (x : Vec F S4096x256 .f32) (o : ℕ) (w : Vec F S64x256 .f32) (y : S4096x256.Idx) {off : Fin 2 → ℕ} (ho : off = ![o, 0]) :
    VecWindow.put (s := S4096x256) x off S64x256.size w y
      = if h : o ≤ (y 0).val ∧ (y 0).val < o + 64 then w (ix2 (n0 := 64) (n1 := 256) ⟨(y 0).val - o, by omega⟩ (y 1)) else x y := by
  subst ho
  unfold VecWindow.put
  have h1 : (y 1).val < 256 := (y 1).isLt
  by_cases h : o ≤ (y 0).val ∧ (y 0).val < o + 64
  · rw [dif_pos h, dif_pos (by
      intro a
      match a with
      | ⟨0, _⟩ => exact h
      | ⟨1, _⟩ => exact ⟨Nat.zero_le _, by simpa using h1⟩)]
    congr 1
    funext a
    match a with
    | ⟨0, _⟩ => rfl
    | ⟨1, _⟩ => rfl
  · rw [dif_neg h, dif_neg (fun hh => h (hh 0))]

variable (V : Dev nD → Valuation τ sig (Elt F))

theorem t1V_at (c : Dev nD) (t : Fin cfg1.N) (ht : 9 ≤ t.val ∧ t.val < 25) (r : Fin 4) (y : S4096x256.Idx)
    (h : 256 * (t.val - 9) + 64 * r.val ≤ (y 0).val ∧ (y 0).val < 256 * (t.val - 9) + 64 * r.val + 64) :
    band (dV V c) (iblk V c 9 t) (iblk V c 10 t) r (ix2 (n0 := 64) (n1 := 256) ⟨(y 0).val - (256 * (t.val - 9) + 64 * r.val), by omega⟩ (y 1))
      = t1V V c y := by
  unfold t1V
  have e1 : 9 + (y 0).val / 256 = t.val := by omega
  have e2 : (⟨(y 0).val / 64 % 4, Nat.mod_lt _ (by decide)⟩ : Fin 4) = r := Fin.ext (by simp only; omega)
  have e3 : (⟨(y 0).val % 64, Nat.mod_lt _ (by decide)⟩ : Fin 64) = ⟨(y 0).val - (256 * (t.val - 9) + 64 * r.val), by omega⟩ := Fin.ext (by simp only; omega)
  rw [e2, e3, e1, pt_val]

/-- A point of the fourth case extends the known rows of the image by its four bands. -/
theorem img_step (c : Dev nD) (t : Fin cfg1.N) (ht : 9 ≤ t.val ∧ t.val < 25) (x : Vec F S4096x256 .f32)
    (hx : ∀ y : S4096x256.Idx, (y 0).val < 256 * (t.val - 9) → x y = t1V V c y)
    (y : S4096x256.Idx) (hy : (y 0).val < 256 * (t.val + 1 - 9)) :
    VecWindow.put (VecWindow.put (VecWindow.put (VecWindow.put x (k1_off1 (grid1.coords t) 0#32) S64x256.size (k1_pay56 (dV V c) (iblk V c 9 t) (iblk V c 10 t)))
      (k1_off1 (grid1.coords t) 64#32) S64x256.size (k1_pay57 (dV V c) (iblk V c 9 t) (iblk V c 10 t))) (k1_off1 (grid1.coords t) 128#32) S64x256.size (k1_pay4 (k1_pay58 (dV V c) (iblk V c 9 t)) (iblk V c 10 t)))
      (k1_off1 (grid1.coords t) 192#32) S64x256.size (k1_pay5 (dV V c) (k1_pay55 (iblk V c 9 t)) (iblk V c 10 t)) y = t1V V c y := by
  have g0 : k1_off1 (grid1.coords t) 0#32 = ![256 * (t.val - 9) + 64 * (0 : Fin 4).val, 0] := hoff1 t ht 0
  have g1 : k1_off1 (grid1.coords t) 64#32 = ![256 * (t.val - 9) + 64 * (1 : Fin 4).val, 0] := hoff1 t ht 1
  have g2 : k1_off1 (grid1.coords t) 128#32 = ![256 * (t.val - 9) + 64 * (2 : Fin 4).val, 0] := hoff1 t ht 2
  have g3 : k1_off1 (grid1.coords t) 192#32 = ![256 * (t.val - 9) + 64 * (3 : Fin 4).val, 0] := hoff1 t ht 3
  rw [put_rows _ _ _ _ g3, put_rows _ _ _ _ g2, put_rows _ _ _ _ g1, put_rows _ _ _ _ g0]
  have key := t1V_at V c t ht
  by_cases h3 : 256 * (t.val - 9) + 64 * (3 : Fin 4).val ≤ (y 0).val ∧ (y 0).val < 256 * (t.val - 9) + 64 * (3 : Fin 4).val + 64
  · rw [dif_pos h3]; exact key 3 y h3
  rw [dif_neg h3]
  by_cases h2 : 256 * (t.val - 9) + 64 * (2 : Fin 4).val ≤ (y 0).val ∧ (y 0).val < 256 * (t.val - 9) + 64 * (2 : Fin 4).val + 64
  · rw [dif_pos h2]; exact key 2 y h2
  rw [dif_neg h2]
  by_cases h1 : 256 * (t.val - 9) + 64 * (1 : Fin 4).val ≤ (y 0).val ∧ (y 0).val < 256 * (t.val - 9) + 64 * (1 : Fin 4).val + 64
  · rw [dif_pos h1]; exact key 1 y h1
  rw [dif_neg h1]
  by_cases h0 : 256 * (t.val - 9) + 64 * (0 : Fin 4).val ≤ (y 0).val ∧ (y 0).val < 256 * (t.val - 9) + 64 * (0 : Fin 4).val + 64
  · rw [dif_pos h0]; exact key 0 y h0
  rw [dif_neg h0]
  apply hx
  have e0 : (0 : Fin 4).val = 0 := rfl
  have e1 : (1 : Fin 4).val = 1 := rfl
  have e2 : (2 : Fin 4).val = 2 := rfl
  have e3 : (3 : Fin 4).val = 3 := rfl
  rw [e0] at h0; rw [e1] at h1; rw [e2] at h2; rw [e3] at h3
  omega

/-- At a point of the last case every row is known, so its load reads the image's rows. -/
theorem rows_ld (c : Dev nD) (t : Fin cfg1.N) (ht : 25 ≤ t.val) (h5 : k1_cond5 (grid1.coords t) = 1#1) (x : Vec F S4096x256 .f32)
    (hx : ∀ y : S4096x256.Idx, (y 0).val < 256 * (t.val - 9) → x y = t1V V c y) :
    View.ld x (Rect.unit (s := S4096x256) (k1_off2 (grid1.coords t)) S512x256.size (k1_off2_inb (grid1.coords t) h5)) = rowsV V c t.val := by
  funext y
  have h33 := t_lt t
  have hy0 : (y 0).val < 512 := (y 0).isLt
  unfold rowsV
  have e : (Rect.unit (s := S4096x256) (k1_off2 (grid1.coords t)) S512x256.size (k1_off2_inb (grid1.coords t) h5)).emb y
      = ix2 (n0 := 4096) (n1 := 256) ⟨(512 * (t.val - 25) + (y 0).val) % 4096, Nat.mod_lt _ (by decide)⟩ (y 1) := by
    funext a
    apply Fin.ext
    match a with
    | ⟨0, _⟩ =>
      show k1_off2 (grid1.coords t) 0 + 1 * (y 0).val = (512 * (t.val - 25) + (y 0).val) % 4096
      have e0 : k1_off2 (grid1.coords t) 0 = 512 * (t.val - 25) := congrFun (hoff2 t ht) 0
      omega
    | ⟨1, _⟩ =>
      show k1_off2 (grid1.coords t) 1 + 1 * (y 1).val = (y 1).val
      have e0 : k1_off2 (grid1.coords t) 1 = 0 := congrFun (hoff2 t ht) 1
      omega
  show x ((Rect.unit (s := S4096x256) (k1_off2 (grid1.coords t)) S512x256.size (k1_off2_inb (grid1.coords t) h5)).emb y) = _
  rw [e]
  apply hx
  show (512 * (t.val - 25) + (y 0).val) % 4096 < 256 * (t.val - 9)
  omega

/-- What the output window's buffer is left at: as found before the last case's points, else at the point's block. -/
def post15 (c : Dev nD) (t : Fin cfg1.N) : sProp 𝕄 :=
  if 25 ≤ t.val then owns (c : Thread nD τ) (st1_15 t) fullShare ((dats V c).after 15 t)
  else iprop(∃ d, owns (c : Thread nD τ) (st1_15 t) fullShare ((dats V c).before 15 t d))

/-- What the body is called with at point `t`, the windows one by one; -/
def bodyPre (c : Dev nD) (t : Fin cfg1.N) : sProp 𝕄 :=
  iprop((dats V c).Φ t.castSucc ∗ (dats V c).owesAt () t.castSucc ∗ (∃ d, owns (c : Thread nD τ) (st1_0 t) fullShare ((dats V c).before 0 t d)) ∗ (∃ d, owns (c : Thread nD τ) (st1_1 t) fullShare ((dats V c).before 1 t d)) ∗ (∃ d, owns (c : Thread nD τ) (st1_2 t) fullShare ((dats V c).before 2 t d)) ∗ (∃ d, owns (c : Thread nD τ) (st1_3 t) fullShare ((dats V c).before 3 t d)) ∗ (∃ d, owns (c : Thread nD τ) (st1_4 t) fullShare ((dats V c).before 4 t d)) ∗ (∃ d, owns (c : Thread nD τ) (st1_5 t) fullShare ((dats V c).before 5 t d)) ∗ (∃ d, owns (c : Thread nD τ) (st1_6 t) fullShare ((dats V c).before 6 t d)) ∗ (∃ d, owns (c : Thread nD τ) (st1_7 t) fullShare ((dats V c).before 7 t d)) ∗ (∃ d, owns (c : Thread nD τ) (st1_8 t) fullShare ((dats V c).before 8 t d)) ∗ (∃ d, owns (c : Thread nD τ) (st1_9 t) fullShare ((dats V c).before 9 t d)) ∗ (∃ d, owns (c : Thread nD τ) (st1_10 t) fullShare ((dats V c).before 10 t d)) ∗ (∃ d, owns (c : Thread nD τ) (st1_11 t) fullShare ((dats V c).before 11 t d)) ∗ (∃ d, owns (c : Thread nD τ) (st1_12 t) fullShare ((dats V c).before 12 t d)) ∗ (∃ d, owns (c : Thread nD τ) (st1_13 t) fullShare ((dats V c).before 13 t d)) ∗ (∃ d, owns (c : Thread nD τ) (st1_14 t) fullShare ((dats V c).before 14 t d)) ∗ (∃ d, owns (c : Thread nD τ) (st1_15 t) fullShare ((dats V c).before 15 t d)))

/-- and what it returns. -/
def bodyPost (c : Dev nD) (t : Fin cfg1.N) : sProp 𝕄 :=
  iprop((dats V c).Φ t.succ ∗ (dats V c).owesAt () t.succ ∗ owns (c : Thread nD τ) (st1_0 t) fullShare ((dats V c).after 0 t) ∗ owns (c : Thread nD τ) (st1_1 t) fullShare ((dats V c).after 1 t) ∗ owns (c : Thread nD τ) (st1_2 t) fullShare ((dats V c).after 2 t) ∗ owns (c : Thread nD τ) (st1_3 t) fullShare ((dats V c).after 3 t) ∗ owns (c : Thread nD τ) (st1_4 t) fullShare ((dats V c).after 4 t) ∗ owns (c : Thread nD τ) (st1_5 t) fullShare ((dats V c).after 5 t) ∗ owns (c : Thread nD τ) (st1_6 t) fullShare ((dats V c).after 6 t) ∗ owns (c : Thread nD τ) (st1_7 t) fullShare ((dats V c).after 7 t) ∗ owns (c : Thread nD τ) (st1_8 t) fullShare ((dats V c).after 8 t) ∗ owns (c : Thread nD τ) (st1_9 t) fullShare ((dats V c).after 9 t) ∗ owns (c : Thread nD τ) (st1_10 t) fullShare ((dats V c).after 10 t) ∗ owns (c : Thread nD τ) (st1_11 t) fullShare ((dats V c).after 11 t) ∗ owns (c : Thread nD τ) (st1_12 t) fullShare ((dats V c).after 12 t) ∗ owns (c : Thread nD τ) (st1_13 t) fullShare ((dats V c).after 13 t) ∗ owns (c : Thread nD τ) (st1_14 t) fullShare ((dats V c).after 14 t) ∗ post15 V c t)

set_option maxHeartbeats 1600000 in
theorem bodyA (c : Dev nD) (t : Fin cfg1.N) (hc : t.val = 0) :
    bodyPre V c t ⊢ wp frame (wpE (defs₀ (F := F)) Variants.none c none) Set.univ (bodyAt1 t) (fun _ => bodyPost V c t) := by
  have h33 := t_lt t
  unfold bodyPre bodyPost bodyAt1
  simp only [before1_0, before1_1, before1_2, before1_3, before1_4, before1_5, before1_6, before1_7, before1_8, before1_9, before1_10, before1_11, before1_12, before1_13, before1_14]
  rw [show (dats V c).owesAt () t.succ = (dats V c).owesAt () t.castSucc from rfl, after1_0, after1_1, after1_2, after1_3, after1_4, after1_5, after1_6, after1_7, after1_8, after1_9, after1_10, after1_11, after1_12, after1_13, after1_14]
  rw [show (dats V c).Φ t.succ = Phi V c (t.val + 1) from rfl, show (dats V c).Φ t.castSucc = Phi V c t.val from rfl]
  unfold Phi post15
  rw [if_neg (by omega)]
  iintro ⟨⟨%a, %d, %w, %hI, HA, HD, HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (runA c (grid1.coords t) _ _ _ _ _ _ _ _ _ _ _ _ _ _ _ _ _ _ _ _ _ _ _ _ _ _ _ _ _ _ _ _ _ _ _ _ _ _ ((hc1 t).2 hc) ((hc2 t).2 (by omega)) (fun h => absurd ((hc3 t).1 h) (by omega)) (fun h => absurd ((hc4 t).1 h) (by omega)) (fun h => absurd ((hc5 t).1 h) (by omega)) (iblk V c 0 t) (iblk V c 1 t) Set.univ _)
  isplitl [H0]; · iexact H0
  isplitl [H1]; · iexact H1
  isplitl [HA]; · iexists _; iexact HA
  iintro ⟨H0, H1, HA⟩
  isplitl [HA HD HW Hg]
  · iexists _; iexists _; iexists _
    isplitr
    swap
    · isplitl [HA]; · iexact HA
      isplitl [HD]; · iexact HD
      isplitl [HW]; · iexact HW
      iexact Hg
    ipureintro
    refine ⟨fun _ _ => ?_, fun h => absurd h (by omega), fun h => absurd h (by omega)⟩
    rw [hc]; have e : t = pt 0 := by rw [← hc, pt_val]
    rw [e]; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

set_option maxHeartbeats 1600000 in
theorem bodyB (c : Dev nD) (t : Fin cfg1.N) (hc : 0 < t.val ∧ t.val < 8) :
    bodyPre V c t ⊢ wp frame (wpE (defs₀ (F := F)) Variants.none c none) Set.univ (bodyAt1 t) (fun _ => bodyPost V c t) := by
  have h33 := t_lt t
  unfold bodyPre bodyPost bodyAt1
  simp only [before1_0, before1_1, before1_2, before1_3, before1_4, before1_5, before1_6, before1_7, before1_8, before1_9, before1_10, before1_11, before1_12, before1_13, before1_14]
  rw [show (dats V c).owesAt () t.succ = (dats V c).owesAt () t.castSucc from rfl, after1_0, after1_1, after1_2, after1_3, after1_4, after1_5, after1_6, after1_7, after1_8, after1_9, after1_10, after1_11, after1_12, after1_13, after1_14]
  rw [show (dats V c).Φ t.succ = Phi V c (t.val + 1) from rfl, show (dats V c).Φ t.castSucc = Phi V c t.val from rfl]
  unfold Phi post15
  rw [if_neg (by omega)]
  iintro ⟨⟨%a, %d, %w, %hI, HA, HD, HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (runB c (grid1.coords t) _ _ _ _ _ _ _ _ _ _ _ _ _ _ _ _ _ _ _ _ _ _ _ _ _ _ _ _ _ _ _ _ _ _ _ _ _ _ (fun h => absurd ((hc1 t).1 h) (by omega)) ((hc2 t).2 hc.2) (fun h => absurd ((hc3 t).1 h) (by omega)) (fun h => absurd ((hc4 t).1 h) (by omega)) (fun h => absurd ((hc5 t).1 h) (by omega)) (iblk V c 0 t) (iblk V c 1 t) a Set.univ _)
  isplitl [H0]; · iexact H0
  isplitl [H1]; · iexact H1
  isplitl [HA]; · iexact HA
  iintro ⟨H0, H1, HA⟩
  isplitl [HA HD HW Hg]
  · iexists _; iexists _; iexists _
    isplitr
    swap
    · isplitl [HA]; · iexact HA
      isplitl [HD]; · iexact HD
      isplitl [HW]; · iexact HW
      iexact Hg
    ipureintro
    refine ⟨fun _ _ => ?_, fun h => absurd h (by omega), fun h => absurd h (by omega)⟩
    rw [hI.acc (by omega) (by omega)]
    obtain ⟨k, hk⟩ : ∃ k, t.val = k + 1 := ⟨t.val - 1, by omega⟩
    have e : t = pt (k + 1) := by rw [← hk, pt_val]
    rw [Nat.add_sub_cancel, hk, Nat.add_sub_cancel, e]; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

set_option maxHeartbeats 1600000 in
theorem bodyC (c : Dev nD) (t : Fin cfg1.N) (hc : t.val = 8) :
    bodyPre V c t ⊢ wp frame (wpE (defs₀ (F := F)) Variants.none c none) Set.univ (bodyAt1 t) (fun _ => bodyPost V c t) := by
  have h33 := t_lt t
  unfold bodyPre bodyPost bodyAt1
  simp only [before1_0, before1_1, before1_2, before1_3, before1_4, before1_5, before1_6, before1_7, before1_8, before1_9, before1_10, before1_11, before1_12, before1_13, before1_14]
  rw [show (dats V c).owesAt () t.succ = (dats V c).owesAt () t.castSucc from rfl, after1_0, after1_1, after1_2, after1_3, after1_4, after1_5, after1_6, after1_7, after1_8, after1_9, after1_10, after1_11, after1_12, after1_13, after1_14]
  rw [show (dats V c).Φ t.succ = Phi V c (t.val + 1) from rfl, show (dats V c).Φ t.castSucc = Phi V c t.val from rfl]
  unfold Phi post15
  rw [if_neg (by omega)]
  iintro ⟨⟨%a, %d, %w, %hI, HA, HD, HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runC c (grid1.coords t) _ _ _ _ _ _ _ _ _ _ _ _ _ _ _ _ _ _ _ _ _ _ _ _ _ _ _ _ _ _ _ _ _ _ _ _ _ _ (fun h => absurd ((hc1 t).1 h) (by omega)) (fun h => absurd ((hc2 t).1 h) (by omega)) ((hc3 t).2 hc) (fun h => absurd ((hc4 t).1 h) (by omega)) (fun h => absurd ((hc5 t).1 h) (by omega)) (iblk V c 2 t) (iblk V c 3 t) (iblk V c 4 t) (iblk V c 5 t) (iblk V c 6 t) (iblk V c 7 t) (iblk V c 8 t) a).2 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  isplitl [HD]; · iexists _; iexact HD
  iintro ⟨H2, H3, H4, H5, H6, H7, H8, HA, ⟨%f, HD⟩⟩
  isplitl [HA HD HW Hg]
  · iexists _; iexists (dV V c); iexists _
    isplitr
    swap
    · isplitl [HA]; · iexact HA
      isplitl [HD]
      · unfold owns; iexists _; isplitr
        swap; · iexact HD
        ipureintro
        have e : t = pt 8 := by rw [← hc, pt_val]
        subst e
        obtain rfl := hI.acc (by decide) (by decide)
        exact View.read_writes_eq_canon _ _ _ (View.cover_of_wholeMem _ (by sl_whole_mem))
      isplitl [HW]; · iexact HW
      iexact Hg
    ipureintro
    exact ⟨fun _ h => absurd h (by omega), fun _ => rfl, fun _ y h => absurd h (by rw [hc]; omega)⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

set_option maxHeartbeats 1600000 in
theorem bodyD (c : Dev nD) (t : Fin cfg1.N) (hc : 9 ≤ t.val ∧ t.val < 25) :
    bodyPre V c t ⊢ wp frame (wpE (defs₀ (F := F)) Variants.none c none) Set.univ (bodyAt1 t) (fun _ => bodyPost V c t) := by
  have h33 := t_lt t
  unfold bodyPre bodyPost bodyAt1
  simp only [before1_0, before1_1, before1_2, before1_3, before1_4, before1_5, before1_6, before1_7, before1_8, before1_9, before1_10, before1_11, before1_12, before1_13, before1_14]
  rw [show (dats V c).owesAt () t.succ = (dats V c).owesAt () t.castSucc from rfl, after1_0, after1_1, after1_2, after1_3, after1_4, after1_5, after1_6, after1_7, after1_8, after1_9, after1_10, after1_11, after1_12, after1_13, after1_14]
  rw [show (dats V c).Φ t.succ = Phi V c (t.val + 1) from rfl, show (dats V c).Φ t.castSucc = Phi V c t.val from rfl]
  unfold Phi post15
  rw [if_neg (by omega)]
  iintro ⟨⟨%a, %d, %w, %hI, HA, HD, HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  obtain rfl := hI.dec hc.1
  iapply (runD c (grid1.coords t) _ _ _ _ _ _ _ _ _ _ _ _ _ _ _ _ _ _ _ _ _ _ _ _ _ _ _ _ _ _ _ _ _ _ _ _ _ _ (fun h => absurd ((hc1 t).1 h) (by omega)) (fun h => absurd ((hc2 t).1 h) (by omega)) (fun h => absurd ((hc3 t).1 h) (by omega)) ((hc4 t).2 hc) (fun h => absurd ((hc5 t).1 h) (by omega)) (iblk V c 9 t) (iblk V c 10 t) (dV V c) w Set.univ _)
  isplitl [H9]; · iexact H9
  isplitl [H10]; · iexact H10
  isplitl [HD]; · iexact HD
  isplitl [HW]; · iexact HW
  iintro ⟨H9, H10, HD, HW⟩
  isplitl [HA HD HW Hg]
  · iexists _; iexists _; iexists _
    isplitr
    swap
    · isplitl [HA]; · iexact HA
      isplitl [HD]; · iexact HD
      isplitl [HW]; · iexact HW
      iexact Hg
    ipureintro
    exact ⟨fun _ h => absurd h (by omega), fun _ => rfl, fun _ y hy => img_step V c t hc w (hI.img hc.1) y hy⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

set_option maxHeartbeats 1600000 in
theorem bodyE (c : Dev nD) (t : Fin cfg1.N) (hc : 25 ≤ t.val) :
    bodyPre V c t ⊢ wp frame (wpE (defs₀ (F := F)) Variants.none c none) Set.univ (bodyAt1 t) (fun _ => bodyPost V c t) := by
  have h33 := t_lt t
  unfold bodyPre bodyPost bodyAt1
  simp only [before1_0, before1_1, before1_2, before1_3, before1_4, before1_5, before1_6, before1_7, before1_8, before1_9, before1_10, before1_11, before1_12, before1_13, before1_14]
  rw [show (dats V c).owesAt () t.succ = (dats V c).owesAt () t.castSucc from rfl, after1_0, after1_1, after1_2, after1_3, after1_4, after1_5, after1_6, after1_7, after1_8, after1_9, after1_10, after1_11, after1_12, after1_13, after1_14]
  rw [show (dats V c).Φ t.succ = Phi V c (t.val + 1) from rfl, show (dats V c).Φ t.castSucc = Phi V c t.val from rfl]
  unfold Phi post15
  rw [if_pos hc, after1_15]
  iintro ⟨⟨%a, %d, %w, %hI, HA, HD, HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (runE c (grid1.coords t) _ _ _ _ _ _ _ _ _ _ _ _ _ _ _ _ _ _ _ _ _ _ _ _ _ _ _ _ _ _ _ _ _ _ _ _ _ _ (fun h => absurd ((hc1 t).1 h) (by omega)) (fun h => absurd ((hc2 t).1 h) (by omega)) (fun h => absurd ((hc3 t).1 h) (by omega)) (fun h => absurd ((hc4 t).1 h) (by omega)) ((hc5 t).2 hc) (iblk V c 11 t) (iblk V c 12 t) (iblk V c 13 t) (iblk V c 14 t) w Set.univ _)
  isplitl [H11]; · iexact H11
  isplitl [H12]; · iexact H12
  isplitl [H13]; · iexact H13
  isplitl [H14]; · iexact H14
  isplitl [HW]; · iexact HW
  isplitl [H15]; · iexists _; iexact H15
  iintro ⟨H11, H12, H13, H14, HW, H15⟩
  rw [rows_ld V c t hc ((hc5 t).2 hc) w (hI.img (by omega))]
  isplitl [HA HD HW Hg]
  · iexists _; iexists _; iexists _
    isplitr
    swap
    · isplitl [HA]; · iexact HA
      isplitl [HD]; · iexact HD
      isplitl [HW]; · iexact HW
      iexact Hg
    ipureintro
    exact ⟨fun _ h => absurd h (by omega), fun _ => hI.dec (by omega), fun _ y hy => by
      by_cases h : (y 0).val < 256 * (t.val - 9)
      · exact hI.img (by omega) y h
      · have h0 : (y 0).val < 4096 := (y 0).isLt
        omega⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold outV; iexact H15

/-- The body at any point. -/
theorem sound_body (c : Dev nD) (t : Fin cfg1.N) :
    bodyPre V c t ⊢ wp frame (wpE (defs₀ (F := F)) Variants.none c none) Set.univ (bodyAt1 t) (fun _ => bodyPost V c t) := by
  have h33 := t_lt t
  by_cases hA : t.val = 0; · exact bodyA V c t hA
  by_cases hB : t.val < 8; · exact bodyB V c t ⟨by omega, hB⟩
  by_cases hC : t.val = 8; · exact bodyC V c t hC
  by_cases hD : t.val < 25; · exact bodyD V c t ⟨by omega, hD⟩
  exact bodyE V c t (by omega)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

theorem idle15 (t : Fin cfg1.N) : cfg1.idle 15 (cfg1.grid.coords t) = !decide (25 ≤ t.val) := by
  show (!(k1_cond5 (grid1.coords t) == 1#1)) = _
  by_cases h : 25 ≤ t.val
  · rw [(hc5 t).2 h, decide_eq_true h]; rfl
  · rw [decide_eq_false h, beq_false_of_ne (fun e => h ((hc5 t).1 e))]
theorem flush15 : ∀ t : Fin cfg1.N, t.val < 25 → (cfg1.win 15).flush t = false := by decide +kernel

/-- What the output window's buffer is left at is what the library asks. -/
theorem post15_leaves (c : Dev nD) (t : Fin cfg1.N) : post15 V c t ⊢ (dats V c).leavesExact 15 t := by
  unfold post15
  by_cases h : 25 ≤ t.val
  · rw [if_pos h]
    have hi : cfg1.idle 15 (cfg1.grid.coords t) = false := by rw [idle15, decide_eq_true h]; rfl
    unfold Dat.leavesExact; rw [hi]
  · rw [if_neg h]
    have hi : cfg1.idle 15 (cfg1.grid.coords t) = true := by rw [idle15, decide_eq_false h]; rfl
    rw [Dat.leavesExact_idle _ _ _ hi (flush15 t (by omega))]

/-- The library's body obligation, at every point. -/
theorem body_obligation (c : Dev nD) : BodyObligation (dats (F := F) V c) (defs₀ (F := F)) Variants.none () Set.univ := fun t => by
  rw [bigSep_W1, bigSep_W1, defs₀_row]
  refine triple_restated (sound_body V c t) rfl .rfl fun _ => ?_
  unfold bodyPost
  iterate 17 refine Idealize.SL.BI.sep_mono (Idealize.SL.BI.Entails.refl _) ?_
  exact post15_leaves V c t

/-- What the launch hands the region is the invariant before the first point. -/
theorem hin (c : Dev nD) : Pipeline.ΦA spec1 c ⊢ (dats V c).Φ 0 := by
  rw [show (dats V c).Φ 0 = Phi V c 0 from rfl, PhiA1_eq]
  unfold Phi
  iintro ⟨⟨⟨%a, HA⟩, ⟨%d, HD⟩, ⟨%w, HW⟩⟩, Hg⟩
  iexists _; iexists _; iexists _
  isplitr
  swap
  · isplitl [HA]; · iexact HA
    isplitl [HD]; · iexact HD
    isplitl [HW]; · iexact HW
    iexact Hg
  ipureintro
  exact ⟨fun h => absurd h (by decide), fun h => absurd h (by decide), fun h => absurd h (by decide)⟩

/-- After the last point the invariant gives it back. -/
theorem hout (c : Dev nD) : (dats V c).Φ (Fin.last cfg1.N) ⊢ Pipeline.ΦA spec1 c := by
  rw [show (dats V c).Φ (Fin.last cfg1.N) = Phi V c (Fin.last cfg1.N).val from rfl, PhiA1_eq]
  unfold Phi
  iintro ⟨%a, %d, %w, -, HA, HD, HW, Hg⟩
  isplitl [HA HD HW]
  · isplitl [HA]; · iexists _; iexact HA
    isplitl [HD]; · iexists _; iexact HD
    iexists _; iexact HW
  iexact Hg

end Cert.KernelIdeal.Mega

end
-- ==== Proof.KI.Run.lean ====
module

public import proofs.«01_k».proof.Proof.KI.EncData
public import proofs.«01_k».proof.Proof.KI.MegaBody
public import proofs.«01_k».proof.Proof.Gen.KernelIdeal.Regions
public import Idealize.ShloMosaic.Lib.Pipeline.RegionArraysS

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first kernel call leaves: its result array as the run's witness says, every other buffer as before. -/
def outs1 : Outs (F := F) := fun _ r c => Pipeline.afterRegion (Enc.dats m c) (V9 m c) (Proc.devRef .tc r)

/-- The buffers before the second kernel call. -/
abbrev Vm (c : Dev nD) : Valuation τ sig (Elt F) := V13 m (outs1 m) c

/-- What the two kernel calls leave: the first call's contents up to its place in the program, the second's after it. -/
def outs : Outs (F := F) := fun k r c =>
  if k = 10 then outs1 m k r c else Pipeline.afterRegion (Mega.dats (Vm m) c) (Vm m c) (Proc.devRef .tc r)

theorem V10_outs (c : Dev nD) : V10 m (outs m) c = V10 m (outs1 m) c := by
  show Function.update (V9 m c) main_v53 (outs m 10 main_v53 c) = Function.update (V9 m c) main_v53 (outs1 m 10 main_v53 c)
  rw [show outs m 10 main_v53 c = outs1 m 10 main_v53 c from if_pos rfl]

theorem V13_outs (c : Dev nD) : V13 m (outs m) c = Vm m c := by
  show StableHlo.after hostOps1_2 (StableHlo.after hostOps1_1 (StableHlo.after hostOps1 (V10 m (outs m) c))) = _
  rw [V10_outs m c]

theorem outs_14 (c : Dev nD) : outs m 14 main_v82 c = Pipeline.afterRegion (Mega.dats (Vm m) c) (Vm m c) (Proc.devRef .tc main_v82) :=
  if_neg (by decide)

/-- The two calls' proof data. -/
def pdats : (p : Fin 2) → (c : Dev nD) → Dat τ (Elt F) Unit ℕ (UR sig nD τ) ℕ (cfgs p) c
  | ⟨0, _⟩ => fun c => Enc.dats m c
  | ⟨1, _⟩ => fun c => Mega.dats (Vm m) c
  | ⟨_ + 2, h⟩ => absurd h (Nat.not_lt.2 (Nat.le_add_left _ _))

open Classical in
/-- Every counter of a TensorCore has the one level. -/
def L : GSem nD τ sig → Finset Unit := fun g => if g.1.2 = .tc then {()} else ∅

abbrev lv : GSem nD τ sig → Unit → ℕ := fun _ _ => 0

/-- What rides beside the buffers: the core owes nothing, and its random-number register. -/
def E (c : Dev nD) : sProp 𝕄 :=
  iprop((∃ W, owes (c : Thread nD τ) (0 : CellTallies nD τ sig Unit) W) ∗ (∃ r, prngReg c r) ∗ BI.emp)

theorem cut (p : Fin 2) : Pipeline.LevelCut (pcfgs (F := F)) adm () L lv p (fun _ => 0) (fun _ => 0) where
  hι _ _ _ := by unfold L; rw [if_pos rfl]; exact Finset.mem_singleton.mpr rfl
  hιb _ _ _ := Nat.le_refl _
  hD _ _ _ h := absurd h (Nat.lt_irrefl _)

set_option backward.isDefEq.respectTransparency.types false in
/-- The first kernel call's segment. -/
def reg0 : Pipeline.RegionSeg (pcfgs (F := F)) adm (pdats m) () defs₀ Variants.none L lv 0 :=
  Pipeline.RegionSeg.ofHeldIn (pcfgs (F := F)) adm (pdats m) () defs₀ Variants.none L lv 0 (fun _ => 0) (Pipeline.ucRefs τ sig)
    (fun c => iprop(∃ r, prngReg c r)) (fun c => iprop(∃ r, prngReg c r)) (launch0.toP) rfl
    (fun c => (Enc.body_obligation m c).loose) (fun _ _ => rfl) (fun _ => rfl)
    (fun c w => (Enc.dats m c).share_full (fun _ => rfl) w)
    (fun c => Enc.hin m c) (fun c => Enc.hout m c) (fun _ => 0) (cut 0) (fun _ => BI.emp) (V9 m)
    (fun c w => Enc.A_eq m c w)

set_option backward.isDefEq.respectTransparency.types false in
/-- The second kernel call's segment. -/
def reg1 : Pipeline.RegionSeg (pcfgs (F := F)) adm (pdats m) () defs₀ Variants.none L lv 1 :=
  Pipeline.RegionSeg.ofHeldIn (pcfgs (F := F)) adm (pdats m) () defs₀ Variants.none L lv 1 (fun _ => 0) (Pipeline.ucRefs τ sig)
    (fun c => iprop(∃ r, prngReg c r)) (fun c => iprop(∃ r, prngReg c r)) (launch1.toP) rfl
    (fun c => (Mega.body_obligation (Vm m) c).loose) (fun _ _ => rfl) (fun _ => rfl)
    (fun c w => (Mega.dats (Vm m) c).share_full (fun _ => rfl) w)
    (fun c => Mega.hin (Vm m) c) (fun c => Mega.hout (Vm m) c) (fun _ => 0) (cut 1) (fun _ => BI.emp) (Vm m)
    (fun c w => Mega.A_eq (Vm m) c w)

theorem sub0 : Pipeline.arrRefs (τ := τ) (pcfgs (F := F) 0).spec ⊆ Pipeline.ucRefs τ sig :=
  Pipeline.arrRefs_sub_ucRefs _ (show ∀ w : Fin 8, (Pipeline.arrRef cfg0.spec w).isScoped = false from by decide)

theorem sub1 : Pipeline.arrRefs (τ := τ) (pcfgs (F := F) 1).spec ⊆ Pipeline.ucRefs τ sig :=
  Pipeline.arrRefs_sub_ucRefs _ (show ∀ w : Fin 16, (Pipeline.arrRef cfg1.spec w).isScoped = false from by decide)

theorem mem_ucRefs {b : DevRef τ sig} (h : b ∈ Pipeline.ucRefs τ sig) : ∃ r : Ref sig .tc, b = Proc.devRef .tc r := by
  obtain ⟨r, -, e⟩ := Finset.mem_map.mp (Finset.mem_filter.mp h).1
  exact ⟨r, e.symm⟩

theorem keep0 : ∀ (r : Ref sig .tc) (w : Fin 8), ¬ r = main_v53 → Pipeline.arrRef cfg0.spec w = r → (cfg0.win w).isOut = false := by
  intro r w hr hw
  subst hw
  revert w
  decide

theorem keep1 : ∀ (r : Ref sig .tc) (w : Fin 16), ¬ r = main_v82 → Pipeline.arrRef cfg1.spec w = r → (cfg1.win w).isOut = false := by
  intro r w hr hw
  subst hw
  revert w
  decide

/-- After the first call exactly its result array has changed. -/
theorem after0_eq (c : Dev nD) : ∀ b ∈ Pipeline.ucRefs τ sig, Pipeline.afterRegion (Enc.dats m c) (V9 m c) b = V10 m (outs m) c b := by
  intro b hb
  obtain ⟨r, rfl⟩ := mem_ucRefs hb
  rw [V10_outs m c]
  by_cases e : r = main_v53
  · subst e
    exact (Function.update_self (Proc.devRef .tc main_v53) _ (V9 m c)).symm
  · refine (Pipeline.afterRegion_keeps (Enc.dats m c) (V9 m c) launch0.win.arr_inj (fun w => Enc.A_eq m c w) r ?_).trans
      (V10_of m (outs1 m) c r (by simpa using e)).symm
    exact fun w hw => keep0 r w e hw

/-- After the second call exactly its result array has changed. -/
theorem after1_eq (c : Dev nD) : ∀ b ∈ Pipeline.ucRefs τ sig, Pipeline.afterRegion (Mega.dats (Vm m) c) (Vm m c) b = V14 m (outs m) c b := by
  intro b hb
  obtain ⟨r, rfl⟩ := mem_ucRefs hb
  by_cases e : r = main_v82
  · subst e
    exact (outs_14 m c).symm.trans (Function.update_self (Proc.devRef .tc main_v82) _ (V13 m (outs m) c)).symm
  · refine (Pipeline.afterRegion_keeps (Mega.dats (Vm m) c) (Vm m c) launch1.win.arr_inj (fun w => Mega.A_eq (Vm m) c w) r ?_).trans
      ((V14_of m (outs m) c r (by simpa using e)).trans (congrFun (V13_outs m c) _)).symm
    exact fun w hw => keep1 r w e hw

theorem post0 (c : Dev nD) : (reg0 m).post c ⊢ iprop(StableHlo.held (c : Thread nD τ) (Pipeline.ucRefs τ sig) (V10 m (outs m) c) ∗ E c) := by
  rw [← StableHlo.held_congr (c : Thread nD τ) (after0_eq m c)]
  exact Pipeline.RegionSeg.ofHeldIn_post sub0 c

theorem post1 (c : Dev nD) : (reg1 m).post c ⊢ iprop(StableHlo.held (c : Thread nD τ) (Pipeline.ucRefs τ sig) (V14 m (outs m) c) ∗ E c) := by
  rw [← StableHlo.held_congr (c : Thread nD τ) (after1_eq m c)]
  exact Pipeline.RegionSeg.ofHeldIn_post sub1 c

theorem pre0 (c : Dev nD) : iprop(StableHlo.held (c : Thread nD τ) (Pipeline.ucRefs τ sig) (V9 m c) ∗ E c) ⊢ (reg0 m).pre c := by
  exact Pipeline.RegionSeg.ofHeldIn_pre (pcs := pcfgs (F := F)) (a := adm) (pdats := pdats m) (p := 0) (D := fun _ => 0) sub0 (X := fun c => iprop(∃ r, prngReg c r)) (R := fun _ => BI.emp) (W := V9 m) c

theorem pre1 (c : Dev nD) : iprop(StableHlo.held (c : Thread nD τ) (Pipeline.ucRefs τ sig) (V13 m (outs m) c) ∗ E c) ⊢ (reg1 m).pre c := by
  rw [V13_outs m c]
  exact Pipeline.RegionSeg.ofHeldIn_pre (pcs := pcfgs (F := F)) (a := adm) (pdats := pdats m) (p := 1) (D := fun _ => 0) sub1 (X := fun c => iprop(∃ r, prngReg c r)) (R := fun _ => BI.emp) (W := Vm m) c

/-- The program's items as segments. -/
abbrev mainSegs (c : Dev nD) : List (Seg (pcfgs (F := F)) adm (pdats m) () defs₀ Variants.none L lv) :=
  segs m (outs m) Variants.none L lv (fun _ => E) () (pdats m) (reg0 m) (reg1 m) c

theorem endOwes (c : Dev nD) : (E c : sProp 𝕄) ⊢ iprop(∃ W, owes (c : Thread nD τ) (0 : CellTallies nD τ sig Unit) W) := by
  unfold E
  iintro ⟨H, -, -⟩
  iexact H

set_option backward.isDefEq.respectTransparency.types false in
/-- THE RUN: from any memory with zero counters every execution terminates with every counter at zero and every buffer
    of the TensorCore that outlives the calls at the last valuation of the program's items. -/
theorem run_main : θ_run defs (onTc (τ := τ) (main (F := F))) ⟨m, fun _ => 0, ρ⟩ (fun r =>
    (∀ c : Dev nD, ∀ b ∈ Pipeline.ucRefs τ sig, r.2.mem ((c.tc : Thread nD τ).1, b) = V15 m (outs m) c b)
      ∧ r.2.sem = fun _ => 0) := by
  refine Pipeline.θ_run_regions_kit_dev_sems (pcfgs (F := F)) adm (pdats m) () cellOf_inj emb₁ defs₀ Variants.none L lv m ρ main
    (mainSegs m)
    (fun c Q => by
      rewrite [main_chain c, Pipeline.Seg.run_eq_chain,
        show (mainSegs m c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, Prog.lift (.customCall (Pipeline.entry 0) ()),
          StableHlo.seq hostOps1, StableHlo.seq hostOps1_1, StableHlo.seq hostOps1_2,
          Prog.lift (.customCall (Pipeline.entry 1) ()), StableHlo.seq hostOps2 ] from rfl]
      dsimp (config := { failIfUnchanged := false }) only
      exact Idealize.SL.BI.Entails.refl _)
    (fun c => by simp only [mainSegs, segs, Pipeline.Seg.pipes_host, Pipeline.Seg.pipes_region, Pipeline.Seg.pipes_nil]; decide)
    (fun _ => 0) (hL := fun g h => by unfold L; rw [if_neg h]) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from Idealize.SL.BI.Entails.refl _); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (V15 m (outs m) c))
    (hch := fun c => ⟨.rfl, .rfl, .rfl, .rfl, .rfl, .rfl, .rfl, .rfl, .rfl, pre0 m c, post0 m c, .rfl, .rfl, pre1 m c, post1 m c,
      sep_mono .rfl (endOwes c)⟩)
    (hinit := ?_) (QY := fun c s => ∀ b ∈ Pipeline.ucRefs τ sig, s.mem ((c.tc : Thread nD τ).1, b) = V15 m (outs m) c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    unfold E
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V15 m (outs m) c) s') $$ [Hh HSI]
    · isplitl [Hh] <;> iassumption
    icases Hr with ⟨%h, HSI⟩
    imodintro
    isplitr
    · ipureintro; exact h
    · iexact HSI

end Cert.KernelIdeal.Run

end
-- ==== Proof.KI.Frame.lean ====
module

public import proofs.«01_k».proof.Proof.KI.Run

@[expose] public section

set_option maxRecDepth 16384

noncomputable section

/-! # What the kernel leaves in its arguments and its result, over any reading of the floats -/

namespace Cert.KernelIdeal.Run

open Idealize.ShloMosaic Idealize.ShloMosaic.TcCoe Idealize.SL.Sem
open Cert.KernelIdeal.Gen

variable {F : FTy → Type} [FloatOps F]

/-- The arguments of the kernel are among the buffers a run is followed on. -/
theorem mem_followed (r : Ref sig .tc) (h : (Proc.devRef (τ := τ) .tc r).isScoped = false) :
    Proc.devRef .tc r ∈ Pipeline.ucRefs τ sig :=
  Finset.mem_filter.mpr ⟨StableHlo.devRef_mem_tcRefs r, by rw [h]; exact Bool.false_ne_true⟩

/-- The kernel leaves its arguments as they were, its result as the fifteen steps of its host program leave it, and no semaphore raised. -/
theorem run_args (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v85) = V15 m (outs m) c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) ∧ r.2.sem = fun _ => 0) := by
  refine (θ_run defs _ _).mono (fun r h => ⟨fun c => ⟨h.1 c _ (mem_followed main_v85 rfl), ?_, ?_, ?_, ?_, ?_, ?_, ?_, ?_, ?_, ?_, ?_, ?_, ?_, ?_, ?_, ?_, ?_, ?_, ?_, ?_⟩, h.2⟩) (run_main m g)
  · exact (h.1 c _ (mem_followed main_arg0 rfl)).trans (V15_main_arg0 m _ c)
  · exact (h.1 c _ (mem_followed main_arg1 rfl)).trans (V15_main_arg1 m _ c)
  · exact (h.1 c _ (mem_followed main_arg2 rfl)).trans (V15_main_arg2 m _ c)
  · exact (h.1 c _ (mem_followed main_arg3 rfl)).trans (V15_main_arg3 m _ c)
  · exact (h.1 c _ (mem_followed main_arg4 rfl)).trans (V15_main_arg4 m _ c)
  · exact (h.1 c _ (mem_followed main_arg5 rfl)).trans (V15_main_arg5 m _ c)
  · exact (h.1 c _ (mem_followed main_arg6 rfl)).trans (V15_main_arg6 m _ c)
  · exact (h.1 c _ (mem_followed main_arg7 rfl)).trans (V15_main_arg7 m _ c)
  · exact (h.1 c _ (mem_followed main_arg8 rfl)).trans (V15_main_arg8 m _ c)
  · exact (h.1 c _ (mem_followed main_arg9 rfl)).trans (V15_main_arg9 m _ c)
  · exact (h.1 c _ (mem_followed main_arg10 rfl)).trans (V15_main_arg10 m _ c)
  · exact (h.1 c _ (mem_followed main_arg11 rfl)).trans (V15_main_arg11 m _ c)
  · exact (h.1 c _ (mem_followed main_arg12 rfl)).trans (V15_main_arg12 m _ c)
  · exact (h.1 c _ (mem_followed main_arg13 rfl)).trans (V15_main_arg13 m _ c)
  · exact (h.1 c _ (mem_followed main_arg14 rfl)).trans (V15_main_arg14 m _ c)
  · exact (h.1 c _ (mem_followed main_arg15 rfl)).trans (V15_main_arg15 m _ c)
  · exact (h.1 c _ (mem_followed main_arg16 rfl)).trans (V15_main_arg16 m _ c)
  · exact (h.1 c _ (mem_followed main_arg17 rfl)).trans (V15_main_arg17 m _ c)
  · exact (h.1 c _ (mem_followed main_arg18 rfl)).trans (V15_main_arg18 m _ c)
  · exact (h.1 c _ (mem_followed main_arg19 rfl)).trans (V15_main_arg19 m _ c)

end Cert.KernelIdeal.Run
end
-- ==== Proof.K.Same.lean ====
module

public import proofs.«01_k».proof.Defs
public import proofs.«01_k».proof.Proof.Gen.Kernel
public import proofs.«01_k».proof.Proof.Gen.KernelIdeal
public import proofs.«01_k».proof.Proof.KI.Frame

@[expose] public section

set_option maxRecDepth 16384

noncomputable section

/-! # The two printed programs of the kernel are one, so that the frame over float words is the run already proved

The program printed for the extended reals and the one printed for float words are the same text for any reading of the
floats. What is proved of the former for any reading holds of the latter. -/

namespace Cert.Same

open Idealize.ShloMosaic Idealize.ShloMosaic.TcCoe Idealize.SL.Sem

attribute [local instance] Cert.Kernel.Gen.facts Cert.KernelIdeal.Gen.facts

variable {F : FTy → Type} [FloatOps F]

set_option maxHeartbeats 4000000 in
/-- The second call's bodies are the same. -/
theorem body1_eq : @Cert.Kernel.cc1__mega_kern F _ _ = @Cert.KernelIdeal.cc1__mega_kern F _ _ := by
  with_unfolding_all rfl

set_option maxHeartbeats 4000000 in
/-- The first call's bodies are the same. -/
theorem body0_eq : @Cert.Kernel.cc0__enc_kern F _ _ = @Cert.KernelIdeal.cc0__enc_kern F _ _ := by
  with_unfolding_all rfl

set_option maxHeartbeats 4000000 in
/-- The calls' windows and buffers are the same. -/
theorem pcfgs_eq : Cert.Kernel.pcfgs (F := F) = Cert.KernelIdeal.pcfgs (F := F) := by
  with_unfolding_all rfl

set_option maxHeartbeats 4000000 in
/-- So are the tables of the bodies. -/
theorem defs₀_eq : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) (funext fun l => ?_)
  match l with
  | 0 =>
    funext a
    obtain ⟨t, s⟩ := a
    dsimp only
    rw [body0_eq]
    rfl
  | 1 =>
    funext a
    obtain ⟨t, s⟩ := a
    dsimp only
    rw [body1_eq]
    rfl

set_option maxHeartbeats 4000000 in
/-- The host programs are the same. -/
theorem main_eq : Cert.Kernel.main (F := F) = Cert.KernelIdeal.main (F := F) := by
  with_reducible_and_instances unfold Cert.Kernel.main Cert.KernelIdeal.main
  with_unfolding_all rfl

set_option maxHeartbeats 4000000 in
/-- So are the tables with the calls' pipelines. -/
theorem defs_eq : Cert.Kernel.defs (F := F) = Cert.KernelIdeal.defs (F := F) := by
  unfold Cert.Kernel.defs Cert.KernelIdeal.defs
  rw [defs₀_eq]
  with_unfolding_all rfl

/-- Equal programs with equal tables of bodies run alike. -/
theorem carry {nD : ℕ} {τ : Topo} {sig : RefSig} {Val : EltTy → Type} {Λ : Labels} {d d' : Defs nD τ sig Val Λ} (hd : d = d')
    {p p' : Dev nD → Prog (TpuEff nD τ sig Val Λ .tc) PUnit} (hp : p = p') (s : MemSt nD τ sig Val) (Q : PUnit × MemSt nD τ sig Val → Prop)
    (h : θ_run d' (onTc p') s Q) : θ_run d (onTc p) s Q := by
  subst hd hp
  exact h

set_option maxHeartbeats 4000000 in
/-- The frame of `Kernel`: the run proved of the program for any reading of the floats, read at float words. -/
theorem frame_Kernel : quiescent_Kernel := by
  intro m g _
  exact carry defs_eq main_eq _ _
    ((θ_run (Cert.KernelIdeal.defs (F := Bits)) _ _).mono (fun _ h => ⟨fun c => (h.1 c).2, h.2⟩) (Cert.KernelIdeal.Run.run_args (F := Bits) m g))

end Cert.Same
end
-- ==== Proof.RI.Run.lean ====
module

public import proofs.«01_k».proof.Proof.Gen.ReferenceIdeal
public import Idealize.ShloMosaic.Lib.StableHlo.Run
public import Idealize.ShloMosaic.Lib.Pipeline.Frame

@[expose] public section

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 371. -/
abbrev ops_part0_0 : List (HloOp τ sig (Elt F)) :=
  [ unary main_arg0 main_v0 (broadcastInDim S64x64x64x1 ![0, 1, 2] bcast_S64x64x64_S64x64x64x1_0_1_2),
    nullary main_c (constantI S_ 32 0#32),
    TRef.unary (TRef.of (T := ⟨S_, .i32⟩) main_c) (TRef.of (T := ⟨S_, .f32⟩) main_call0_v0) (sitofp .f32),
    TRef.binary (TRef.of (T := ⟨S64x64x64x1, .f32⟩) main_v0) (TRef.of (T := ⟨S_, .f32⟩) main_call0_v0) (TRef.of (T := ⟨S64x66x66x1, .f32⟩) main_v1) (fun x v => pad S64x66x66x1 ![0, 1, 1, 0] ![0, 1, 1, 0] ![0, 0, 0, 0] x v pads_S64x64x64x1_S64x66x66x1_000_110_110_000 h_S_),
    nullary main_cst (constant S_ .f32 0x00000000#32),
    unary main_cst main_v2 (broadcastInDim S64x32x32x64 ![] bcast_S_S64x32x32x64),
    unary main_v1 main_v3 ((Host.slice S64x32x32x1 ![0, 0, 0, 0] ![1, 2, 2, 1] · slicesBy_S64x66x66x1_S64x32x32x1_0s1_0s2_0s2_0s1)),
    unary main_arg1 main_v4 ((extractStridedSlice S1x1x1x64 ![0, 0, 0, 0] · slices_S4x4x1x64_S1x1x1x64_0_0_0_0)),
    reshape main_v4 main_v5 (rfl : (.f32 : EltTy) = .f32) shapeCasts_S1x1x1x64_S1x64,
    binary main_v3 main_v5 main_v6 ((fun l r => Host.dotGeneral dot_S64x32x32x1_S1x64_S64x32x32x64_3_0_012_1_n_n none l r)),
    binary main_v2 main_v6 main_v7 (addf),
    unary main_v1 main_v8 ((Host.slice S64x32x32x1 ![0, 0, 1, 0] ![1, 2, 2, 1] · slicesBy_S64x66x66x1_S64x32x32x1_0s1_0s2_1s2_0s1)),
    unary main_arg1 main_v9 ((extractStridedSlice S1x1x1x64 ![0, 1, 0, 0] · slices_S4x4x1x64_S1x1x1x64_0_1_0_0)),
    reshape main_v9 main_v10 (rfl : (.f32 : EltTy) = .f32) shapeCasts_S1x1x1x64_S1x64,
    binary main_v8 main_v10 main_v11 ((fun l r => Host.dotGeneral dot_S64x32x32x1_S1x64_S64x32x32x64_3_0_012_1_n_n none l r)),
    binary main_v7 main_v11 main_v12 (addf),
    unary main_v1 main_v13 ((Host.slice S64x32x32x1 ![0, 0, 2, 0] ![1, 2, 2, 1] · slicesBy_S64x66x66x1_S64x32x32x1_0s1_0s2_2s2_0s1)),
    unary main_arg1 main_v14 ((extractStridedSlice S1x1x1x64 ![0, 2, 0, 0] · slices_S4x4x1x64_S1x1x1x64_0_2_0_0)),
    reshape main_v14 main_v15 (rfl : (.f32 : EltTy) = .f32) shapeCasts_S1x1x1x64_S1x64,
    binary main_v13 main_v15 main_v16 ((fun l r => Host.dotGeneral dot_S64x32x32x1_S1x64_S64x32x32x64_3_0_012_1_n_n none l r)),
    binary main_v12 main_v16 main_v17 (addf),
    unary main_v1 main_v18 ((Host.slice S64x32x32x1 ![0, 0, 3, 0] ![1, 2, 2, 1] · slicesBy_S64x66x66x1_S64x32x32x1_0s1_0s2_3s2_0s1)),
    unary main_arg1 main_v19 ((extractStridedSlice S1x1x1x64 ![0, 3, 0, 0] · slices_S4x4x1x64_S1x1x1x64_0_3_0_0)),
    reshape main_v19 main_v20 (rfl : (.f32 : EltTy) = .f32) shapeCasts_S1x1x1x64_S1x64,
    binary main_v18 main_v20 main_v21 ((fun l r => Host.dotGeneral dot_S64x32x32x1_S1x64_S64x32x32x64_3_0_012_1_n_n none l r)),
    binary main_v17 main_v21 main_v22 (addf),
    unary main_v1 main_v23 ((Host.slice S64x32x32x1 ![0, 1, 0, 0] ![1, 2, 2, 1] · slicesBy_S64x66x66x1_S64x32x32x1_0s1_1s2_0s2_0s1)),
    unary main_arg1 main_v24 ((extractStridedSlice S1x1x1x64 ![1, 0, 0, 0] · slices_S4x4x1x64_S1x1x1x64_1_0_0_0)),
    reshape main_v24 main_v25 (rfl : (.f32 : EltTy) = .f32) shapeCasts_S1x1x1x64_S1x64,
    binary main_v23 main_v25 main_v26 ((fun l r => Host.dotGeneral dot_S64x32x32x1_S1x64_S64x32x32x64_3_0_012_1_n_n none l r)) ]

/-- @main's operations 31 … 60 of 371. -/
abbrev ops_part0_1 : List (HloOp τ sig (Elt F)) :=
  [ binary main_v22 main_v26 main_v27 (addf),
    unary main_v1 main_v28 ((Host.slice S64x32x32x1 ![0, 1, 1, 0] ![1, 2, 2, 1] · slicesBy_S64x66x66x1_S64x32x32x1_0s1_1s2_1s2_0s1)),
    unary main_arg1 main_v29 ((extractStridedSlice S1x1x1x64 ![1, 1, 0, 0] · slices_S4x4x1x64_S1x1x1x64_1_1_0_0)),
    reshape main_v29 main_v30 (rfl : (.f32 : EltTy) = .f32) shapeCasts_S1x1x1x64_S1x64,
    binary main_v28 main_v30 main_v31 ((fun l r => Host.dotGeneral dot_S64x32x32x1_S1x64_S64x32x32x64_3_0_012_1_n_n none l r)),
    binary main_v27 main_v31 main_v32 (addf),
    unary main_v1 main_v33 ((Host.slice S64x32x32x1 ![0, 1, 2, 0] ![1, 2, 2, 1] · slicesBy_S64x66x66x1_S64x32x32x1_0s1_1s2_2s2_0s1)),
    unary main_arg1 main_v34 ((extractStridedSlice S1x1x1x64 ![1, 2, 0, 0] · slices_S4x4x1x64_S1x1x1x64_1_2_0_0)),
    reshape main_v34 main_v35 (rfl : (.f32 : EltTy) = .f32) shapeCasts_S1x1x1x64_S1x64,
    binary main_v33 main_v35 main_v36 ((fun l r => Host.dotGeneral dot_S64x32x32x1_S1x64_S64x32x32x64_3_0_012_1_n_n none l r)),
    binary main_v32 main_v36 main_v37 (addf),
    unary main_v1 main_v38 ((Host.slice S64x32x32x1 ![0, 1, 3, 0] ![1, 2, 2, 1] · slicesBy_S64x66x66x1_S64x32x32x1_0s1_1s2_3s2_0s1)),
    unary main_arg1 main_v39 ((extractStridedSlice S1x1x1x64 ![1, 3, 0, 0] · slices_S4x4x1x64_S1x1x1x64_1_3_0_0)),
    reshape main_v39 main_v40 (rfl : (.f32 : EltTy) = .f32) shapeCasts_S1x1x1x64_S1x64,
    binary main_v38 main_v40 main_v41 ((fun l r => Host.dotGeneral dot_S64x32x32x1_S1x64_S64x32x32x64_3_0_012_1_n_n none l r)),
    binary main_v37 main_v41 main_v42 (addf),
    unary main_v1 main_v43 ((Host.slice S64x32x32x1 ![0, 2, 0, 0] ![1, 2, 2, 1] · slicesBy_S64x66x66x1_S64x32x32x1_0s1_2s2_0s2_0s1)),
    unary main_arg1 main_v44 ((extractStridedSlice S1x1x1x64 ![2, 0, 0, 0] · slices_S4x4x1x64_S1x1x1x64_2_0_0_0)),
    reshape main_v44 main_v45 (rfl : (.f32 : EltTy) = .f32) shapeCasts_S1x1x1x64_S1x64,
    binary main_v43 main_v45 main_v46 ((fun l r => Host.dotGeneral dot_S64x32x32x1_S1x64_S64x32x32x64_3_0_012_1_n_n none l r)),
    binary main_v42 main_v46 main_v47 (addf),
    unary main_v1 main_v48 ((Host.slice S64x32x32x1 ![0, 2, 1, 0] ![1, 2, 2, 1] · slicesBy_S64x66x66x1_S64x32x32x1_0s1_2s2_1s2_0s1)),
    unary main_arg1 main_v49 ((extractStridedSlice S1x1x1x64 ![2, 1, 0, 0] · slices_S4x4x1x64_S1x1x1x64_2_1_0_0)),
    reshape main_v49 main_v50 (rfl : (.f32 : EltTy) = .f32) shapeCasts_S1x1x1x64_S1x64,
    binary main_v48 main_v50 main_v51 ((fun l r => Host.dotGeneral dot_S64x32x32x1_S1x64_S64x32x32x64_3_0_012_1_n_n none l r)),
    binary main_v47 main_v51 main_v52 (addf),
    unary main_v1 main_v53 ((Host.slice S64x32x32x1 ![0, 2, 2, 0] ![1, 2, 2, 1] · slicesBy_S64x66x66x1_S64x32x32x1_0s1_2s2_2s2_0s1)),
    unary main_arg1 main_v54 ((extractStridedSlice S1x1x1x64 ![2, 2, 0, 0] · slices_S4x4x1x64_S1x1x1x64_2_2_0_0)),
    reshape main_v54 main_v55 (rfl : (.f32 : EltTy) = .f32) shapeCasts_S1x1x1x64_S1x64,
    binary main_v53 main_v55 main_v56 ((fun l r => Host.dotGeneral dot_S64x32x32x1_S1x64_S64x32x32x64_3_0_012_1_n_n none l r)) ]

/-- @main's operations 61 … 61 of 371. -/
abbrev ops_part0_2 : List (HloOp τ sig (Elt F)) :=
  [ binary main_v52 main_v56 main_v57 (addf) ]

/-- Window `main_part0`'s operations. Not an abbreviation: `main_eq` below splits `ops` into the windows and no further. -/
def ops_part0 : List (HloOp τ sig (Elt F)) :=
  ops_part0_0 ++ (ops_part0_1 ++ (ops_part0_2))

/-- @main's operations 62 … 91 of 371. -/
abbrev ops_part1_0 : List (HloOp τ sig (Elt F)) :=
  [ unary main_v1 main_v58 ((Host.slice S64x32x32x1 ![0, 2, 3, 0] ![1, 2, 2, 1] · slicesBy_S64x66x66x1_S64x32x32x1_0s1_2s2_3s2_0s1)),
    unary main_arg1 main_v59 ((extractStridedSlice S1x1x1x64 ![2, 3, 0, 0] · slices_S4x4x1x64_S1x1x1x64_2_3_0_0)),
    reshape main_v59 main_v60 (rfl : (.f32 : EltTy) = .f32) shapeCasts_S1x1x1x64_S1x64,
    binary main_v58 main_v60 main_v61 ((fun l r => Host.dotGeneral dot_S64x32x32x1_S1x64_S64x32x32x64_3_0_012_1_n_n none l r)),
    binary main_v57 main_v61 main_v62 (addf),
    unary main_v1 main_v63 ((Host.slice S64x32x32x1 ![0, 3, 0, 0] ![1, 2, 2, 1] · slicesBy_S64x66x66x1_S64x32x32x1_0s1_3s2_0s2_0s1)),
    unary main_arg1 main_v64 ((extractStridedSlice S1x1x1x64 ![3, 0, 0, 0] · slices_S4x4x1x64_S1x1x1x64_3_0_0_0)),
    reshape main_v64 main_v65 (rfl : (.f32 : EltTy) = .f32) shapeCasts_S1x1x1x64_S1x64,
    binary main_v63 main_v65 main_v66 ((fun l r => Host.dotGeneral dot_S64x32x32x1_S1x64_S64x32x32x64_3_0_012_1_n_n none l r)),
    binary main_v62 main_v66 main_v67 (addf),
    unary main_v1 main_v68 ((Host.slice S64x32x32x1 ![0, 3, 1, 0] ![1, 2, 2, 1] · slicesBy_S64x66x66x1_S64x32x32x1_0s1_3s2_1s2_0s1)),
    unary main_arg1 main_v69 ((extractStridedSlice S1x1x1x64 ![3, 1, 0, 0] · slices_S4x4x1x64_S1x1x1x64_3_1_0_0)),
    reshape main_v69 main_v70 (rfl : (.f32 : EltTy) = .f32) shapeCasts_S1x1x1x64_S1x64,
    binary main_v68 main_v70 main_v71 ((fun l r => Host.dotGeneral dot_S64x32x32x1_S1x64_S64x32x32x64_3_0_012_1_n_n none l r)),
    binary main_v67 main_v71 main_v72 (addf),
    unary main_v1 main_v73 ((Host.slice S64x32x32x1 ![0, 3, 2, 0] ![1, 2, 2, 1] · slicesBy_S64x66x66x1_S64x32x32x1_0s1_3s2_2s2_0s1)),
    unary main_arg1 main_v74 ((extractStridedSlice S1x1x1x64 ![3, 2, 0, 0] · slices_S4x4x1x64_S1x1x1x64_3_2_0_0)),
    reshape main_v74 main_v75 (rfl : (.f32 : EltTy) = .f32) shapeCasts_S1x1x1x64_S1x64,
    binary main_v73 main_v75 main_v76 ((fun l r => Host.dotGeneral dot_S64x32x32x1_S1x64_S64x32x32x64_3_0_012_1_n_n none l r)),
    binary main_v72 main_v76 main_v77 (addf),
    unary main_v1 main_v78 ((Host.slice S64x32x32x1 ![0, 3, 3, 0] ![1, 2, 2, 1] · slicesBy_S64x66x66x1_S64x32x32x1_0s1_3s2_3s2_0s1)),
    unary main_arg1 main_v79 ((extractStridedSlice S1x1x1x64 ![3, 3, 0, 0] · slices_S4x4x1x64_S1x1x1x64_3_3_0_0)),
    reshape main_v79 main_v80 (rfl : (.f32 : EltTy) = .f32) shapeCasts_S1x1x1x64_S1x64,
    binary main_v78 main_v80 main_v81 ((fun l r => Host.dotGeneral dot_S64x32x32x1_S1x64_S64x32x32x64_3_0_012_1_n_n none l r)),
    binary main_v77 main_v81 main_v82 (addf),
    unary main_arg2 main_v83 (broadcastInDim S1x1x1x64 ![3] bcast_S64_S1x1x1x64_3),
    unary main_v83 main_v84 (broadcastInDim S64x32x32x64 ![0, 1, 2, 3] bcast_S1x1x1x64_S64x32x32x64_0_1_2_3),
    binary main_v82 main_v84 main_v85 (addf),
    nullary main_cst_0 (constant S_ .f32 0x00000000#32),
    unary main_cst_0 main_v86 (broadcastInDim S64x32x32x64 ![] bcast_S_S64x32x32x64) ]

/-- @main's operations 92 … 121 of 371. -/
abbrev ops_part1_1 : List (HloOp τ sig (Elt F)) :=
  [ binary main_v85 main_v86 main_v87 (maximumf),
    nullary main_c_1 (constantI S_ 32 0#32),
    TRef.unary (TRef.of (T := ⟨S_, .i32⟩) main_c_1) (TRef.of (T := ⟨S_, .f32⟩) main_call1_v0) (sitofp .f32),
    TRef.binary (TRef.of (T := ⟨S64x32x32x64, .f32⟩) main_v87) (TRef.of (T := ⟨S_, .f32⟩) main_call1_v0) (TRef.of (T := ⟨S64x34x34x64, .f32⟩) main_v88) (fun x v => pad S64x34x34x64 ![0, 1, 1, 0] ![0, 1, 1, 0] ![0, 0, 0, 0] x v pads_S64x32x32x64_S64x34x34x64_000_110_110_000 h_S_),
    nullary main_cst_2 (constant S_ .f32 0x00000000#32),
    unary main_cst_2 main_v89 (broadcastInDim S64x16x16x128 ![] bcast_S_S64x16x16x128),
    unary main_v88 main_v90 ((Host.slice S64x16x16x64 ![0, 0, 0, 0] ![1, 2, 2, 1] · slicesBy_S64x34x34x64_S64x16x16x64_0s1_0s2_0s2_0s1)),
    unary main_arg3 main_v91 ((extractStridedSlice S1x1x64x128 ![0, 0, 0, 0] · slices_S4x4x64x128_S1x1x64x128_0_0_0_0)),
    reshape main_v91 main_v92 (rfl : (.f32 : EltTy) = .f32) shapeCasts_S1x1x64x128_S64x128,
    binary main_v90 main_v92 main_v93 ((fun l r => Host.dotGeneral dot_S64x16x16x64_S64x128_S64x16x16x128_3_0_012_1_n_n none l r)),
    binary main_v89 main_v93 main_v94 (addf),
    unary main_v88 main_v95 ((Host.slice S64x16x16x64 ![0, 0, 1, 0] ![1, 2, 2, 1] · slicesBy_S64x34x34x64_S64x16x16x64_0s1_0s2_1s2_0s1)),
    unary main_arg3 main_v96 ((extractStridedSlice S1x1x64x128 ![0, 1, 0, 0] · slices_S4x4x64x128_S1x1x64x128_0_1_0_0)),
    reshape main_v96 main_v97 (rfl : (.f32 : EltTy) = .f32) shapeCasts_S1x1x64x128_S64x128,
    binary main_v95 main_v97 main_v98 ((fun l r => Host.dotGeneral dot_S64x16x16x64_S64x128_S64x16x16x128_3_0_012_1_n_n none l r)),
    binary main_v94 main_v98 main_v99 (addf),
    unary main_v88 main_v100 ((Host.slice S64x16x16x64 ![0, 0, 2, 0] ![1, 2, 2, 1] · slicesBy_S64x34x34x64_S64x16x16x64_0s1_0s2_2s2_0s1)),
    unary main_arg3 main_v101 ((extractStridedSlice S1x1x64x128 ![0, 2, 0, 0] · slices_S4x4x64x128_S1x1x64x128_0_2_0_0)),
    reshape main_v101 main_v102 (rfl : (.f32 : EltTy) = .f32) shapeCasts_S1x1x64x128_S64x128,
    binary main_v100 main_v102 main_v103 ((fun l r => Host.dotGeneral dot_S64x16x16x64_S64x128_S64x16x16x128_3_0_012_1_n_n none l r)),
    binary main_v99 main_v103 main_v104 (addf),
    unary main_v88 main_v105 ((Host.slice S64x16x16x64 ![0, 0, 3, 0] ![1, 2, 2, 1] · slicesBy_S64x34x34x64_S64x16x16x64_0s1_0s2_3s2_0s1)),
    unary main_arg3 main_v106 ((extractStridedSlice S1x1x64x128 ![0, 3, 0, 0] · slices_S4x4x64x128_S1x1x64x128_0_3_0_0)),
    reshape main_v106 main_v107 (rfl : (.f32 : EltTy) = .f32) shapeCasts_S1x1x64x128_S64x128,
    binary main_v105 main_v107 main_v108 ((fun l r => Host.dotGeneral dot_S64x16x16x64_S64x128_S64x16x16x128_3_0_012_1_n_n none l r)),
    binary main_v104 main_v108 main_v109 (addf),
    unary main_v88 main_v110 ((Host.slice S64x16x16x64 ![0, 1, 0, 0] ![1, 2, 2, 1] · slicesBy_S64x34x34x64_S64x16x16x64_0s1_1s2_0s2_0s1)),
    unary main_arg3 main_v111 ((extractStridedSlice S1x1x64x128 ![1, 0, 0, 0] · slices_S4x4x64x128_S1x1x64x128_1_0_0_0)),
    reshape main_v111 main_v112 (rfl : (.f32 : EltTy) = .f32) shapeCasts_S1x1x64x128_S64x128,
    binary main_v110 main_v112 main_v113 ((fun l r => Host.dotGeneral dot_S64x16x16x64_S64x128_S64x16x16x128_3_0_012_1_n_n none l r)) ]

/-- @main's operations 122 … 122 of 371. -/
abbrev ops_part1_2 : List (HloOp τ sig (Elt F)) :=
  [ binary main_v109 main_v113 main_v114 (addf) ]

/-- Window `main_part1`'s operations. Not an abbreviation: `main_eq` below splits `ops` into the windows and no further. -/
def ops_part1 : List (HloOp τ sig (Elt F)) :=
  ops_part1_0 ++ (ops_part1_1 ++ (ops_part1_2))

/-- @main's operations 123 … 182 of 371. -/
abbrev ops_part2 : List (HloOp τ sig (Elt F)) :=
  [ unary main_v88 main_v115 ((Host.slice S64x16x16x64 ![0, 1, 1, 0] ![1, 2, 2, 1] · slicesBy_S64x34x34x64_S64x16x16x64_0s1_1s2_1s2_0s1)),
    unary main_arg3 main_v116 ((extractStridedSlice S1x1x64x128 ![1, 1, 0, 0] · slices_S4x4x64x128_S1x1x64x128_1_1_0_0)),
    reshape main_v116 main_v117 (rfl : (.f32 : EltTy) = .f32) shapeCasts_S1x1x64x128_S64x128,
    binary main_v115 main_v117 main_v118 ((fun l r => Host.dotGeneral dot_S64x16x16x64_S64x128_S64x16x16x128_3_0_012_1_n_n none l r)),
    binary main_v114 main_v118 main_v119 (addf),
    unary main_v88 main_v120 ((Host.slice S64x16x16x64 ![0, 1, 2, 0] ![1, 2, 2, 1] · slicesBy_S64x34x34x64_S64x16x16x64_0s1_1s2_2s2_0s1)),
    unary main_arg3 main_v121 ((extractStridedSlice S1x1x64x128 ![1, 2, 0, 0] · slices_S4x4x64x128_S1x1x64x128_1_2_0_0)),
    reshape main_v121 main_v122 (rfl : (.f32 : EltTy) = .f32) shapeCasts_S1x1x64x128_S64x128,
    binary main_v120 main_v122 main_v123 ((fun l r => Host.dotGeneral dot_S64x16x16x64_S64x128_S64x16x16x128_3_0_012_1_n_n none l r)),
    binary main_v119 main_v123 main_v124 (addf),
    unary main_v88 main_v125 ((Host.slice S64x16x16x64 ![0, 1, 3, 0] ![1, 2, 2, 1] · slicesBy_S64x34x34x64_S64x16x16x64_0s1_1s2_3s2_0s1)),
    unary main_arg3 main_v126 ((extractStridedSlice S1x1x64x128 ![1, 3, 0, 0] · slices_S4x4x64x128_S1x1x64x128_1_3_0_0)),
    reshape main_v126 main_v127 (rfl : (.f32 : EltTy) = .f32) shapeCasts_S1x1x64x128_S64x128,
    binary main_v125 main_v127 main_v128 ((fun l r => Host.dotGeneral dot_S64x16x16x64_S64x128_S64x16x16x128_3_0_012_1_n_n none l r)),
    binary main_v124 main_v128 main_v129 (addf),
    unary main_v88 main_v130 ((Host.slice S64x16x16x64 ![0, 2, 0, 0] ![1, 2, 2, 1] · slicesBy_S64x34x34x64_S64x16x16x64_0s1_2s2_0s2_0s1)),
    unary main_arg3 main_v131 ((extractStridedSlice S1x1x64x128 ![2, 0, 0, 0] · slices_S4x4x64x128_S1x1x64x128_2_0_0_0)),
    reshape main_v131 main_v132 (rfl : (.f32 : EltTy) = .f32) shapeCasts_S1x1x64x128_S64x128,
    binary main_v130 main_v132 main_v133 ((fun l r => Host.dotGeneral dot_S64x16x16x64_S64x128_S64x16x16x128_3_0_012_1_n_n none l r)),
    binary main_v129 main_v133 main_v134 (addf),
    unary main_v88 main_v135 ((Host.slice S64x16x16x64 ![0, 2, 1, 0] ![1, 2, 2, 1] · slicesBy_S64x34x34x64_S64x16x16x64_0s1_2s2_1s2_0s1)),
    unary main_arg3 main_v136 ((extractStridedSlice S1x1x64x128 ![2, 1, 0, 0] · slices_S4x4x64x128_S1x1x64x128_2_1_0_0)),
    reshape main_v136 main_v137 (rfl : (.f32 : EltTy) = .f32) shapeCasts_S1x1x64x128_S64x128,
    binary main_v135 main_v137 main_v138 ((fun l r => Host.dotGeneral dot_S64x16x16x64_S64x128_S64x16x16x128_3_0_012_1_n_n none l r)),
    binary main_v134 main_v138 main_v139 (addf),
    unary main_v88 main_v140 ((Host.slice S64x16x16x64 ![0, 2, 2, 0] ![1, 2, 2, 1] · slicesBy_S64x34x34x64_S64x16x16x64_0s1_2s2_2s2_0s1)),
    unary main_arg3 main_v141 ((extractStridedSlice S1x1x64x128 ![2, 2, 0, 0] · slices_S4x4x64x128_S1x1x64x128_2_2_0_0)),
    reshape main_v141 main_v142 (rfl : (.f32 : EltTy) = .f32) shapeCasts_S1x1x64x128_S64x128,
    binary main_v140 main_v142 main_v143 ((fun l r => Host.dotGeneral dot_S64x16x16x64_S64x128_S64x16x16x128_3_0_012_1_n_n none l r)),
    binary main_v139 main_v143 main_v144 (addf),
    unary main_v88 main_v145 ((Host.slice S64x16x16x64 ![0, 2, 3, 0] ![1, 2, 2, 1] · slicesBy_S64x34x34x64_S64x16x16x64_0s1_2s2_3s2_0s1)),
    unary main_arg3 main_v146 ((extractStridedSlice S1x1x64x128 ![2, 3, 0, 0] · slices_S4x4x64x128_S1x1x64x128_2_3_0_0)),
    reshape main_v146 main_v147 (rfl : (.f32 : EltTy) = .f32) shapeCasts_S1x1x64x128_S64x128,
    binary main_v145 main_v147 main_v148 ((fun l r => Host.dotGeneral dot_S64x16x16x64_S64x128_S64x16x16x128_3_0_012_1_n_n none l r)),
    binary main_v144 main_v148 main_v149 (addf),
    unary main_v88 main_v150 ((Host.slice S64x16x16x64 ![0, 3, 0, 0] ![1, 2, 2, 1] · slicesBy_S64x34x34x64_S64x16x16x64_0s1_3s2_0s2_0s1)),
    unary main_arg3 main_v151 ((extractStridedSlice S1x1x64x128 ![3, 0, 0, 0] · slices_S4x4x64x128_S1x1x64x128_3_0_0_0)),
    reshape main_v151 main_v152 (rfl : (.f32 : EltTy) = .f32) shapeCasts_S1x1x64x128_S64x128,
    binary main_v150 main_v152 main_v153 ((fun l r => Host.dotGeneral dot_S64x16x16x64_S64x128_S64x16x16x128_3_0_012_1_n_n none l r)),
    binary main_v149 main_v153 main_v154 (addf),
    unary main_v88 main_v155 ((Host.slice S64x16x16x64 ![0, 3, 1, 0] ![1, 2, 2, 1] · slicesBy_S64x34x34x64_S64x16x16x64_0s1_3s2_1s2_0s1)),
    unary main_arg3 main_v156 ((extractStridedSlice S1x1x64x128 ![3, 1, 0, 0] · slices_S4x4x64x128_S1x1x64x128_3_1_0_0)),
    reshape main_v156 main_v157 (rfl : (.f32 : EltTy) = .f32) shapeCasts_S1x1x64x128_S64x128,
    binary main_v155 main_v157 main_v158 ((fun l r => Host.dotGeneral dot_S64x16x16x64_S64x128_S64x16x16x128_3_0_012_1_n_n none l r)),
    binary main_v154 main_v158 main_v159 (addf),
    unary main_v88 main_v160 ((Host.slice S64x16x16x64 ![0, 3, 2, 0] ![1, 2, 2, 1] · slicesBy_S64x34x34x64_S64x16x16x64_0s1_3s2_2s2_0s1)),
    unary main_arg3 main_v161 ((extractStridedSlice S1x1x64x128 ![3, 2, 0, 0] · slices_S4x4x64x128_S1x1x64x128_3_2_0_0)),
    reshape main_v161 main_v162 (rfl : (.f32 : EltTy) = .f32) shapeCasts_S1x1x64x128_S64x128,
    binary main_v160 main_v162 main_v163 ((fun l r => Host.dotGeneral dot_S64x16x16x64_S64x128_S64x16x16x128_3_0_012_1_n_n none l r)),
    binary main_v159 main_v163 main_v164 (addf),
    unary main_v88 main_v165 ((Host.slice S64x16x16x64 ![0, 3, 3, 0] ![1, 2, 2, 1] · slicesBy_S64x34x34x64_S64x16x16x64_0s1_3s2_3s2_0s1)),
    unary main_arg3 main_v166 ((extractStridedSlice S1x1x64x128 ![3, 3, 0, 0] · slices_S4x4x64x128_S1x1x64x128_3_3_0_0)),
    reshape main_v166 main_v167 (rfl : (.f32 : EltTy) = .f32) shapeCasts_S1x1x64x128_S64x128,
    binary main_v165 main_v167 main_v168 ((fun l r => Host.dotGeneral dot_S64x16x16x64_S64x128_S64x16x16x128_3_0_012_1_n_n none l r)),
    binary main_v164 main_v168 main_v169 (addf),
    unary main_arg4 main_v170 (broadcastInDim S1x1x1x128 ![3] bcast_S128_S1x1x1x128_3),
    unary main_v170 main_v171 (broadcastInDim S64x16x16x128 ![0, 1, 2, 3] bcast_S1x1x1x128_S64x16x16x128_0_1_2_3),
    binary main_v169 main_v171 main_v172 (addf),
    nullary main_cst_3 (constant S_ .f32 0x00000000#32),
    unary main_cst_3 main_v173 (broadcastInDim S64x16x16x128 ![] bcast_S_S64x16x16x128) ]

/-- @main's operations 183 … 212 of 371. -/
abbrev ops_part3_0 : List (HloOp τ sig (Elt F)) :=
  [ binary main_v172 main_v173 main_v174 (maximumf),
    nullary main_c_4 (constantI S_ 32 0#32),
    TRef.unary (TRef.of (T := ⟨S_, .i32⟩) main_c_4) (TRef.of (T := ⟨S_, .f32⟩) main_call2_v0) (sitofp .f32),
    TRef.binary (TRef.of (T := ⟨S64x16x16x128, .f32⟩) main_v174) (TRef.of (T := ⟨S_, .f32⟩) main_call2_v0) (TRef.of (T := ⟨S64x18x18x128, .f32⟩) main_v175) (fun x v => pad S64x18x18x128 ![0, 1, 1, 0] ![0, 1, 1, 0] ![0, 0, 0, 0] x v pads_S64x16x16x128_S64x18x18x128_000_110_110_000 h_S_),
    nullary main_cst_5 (constant S_ .f32 0x00000000#32),
    unary main_cst_5 main_v176 (broadcastInDim S64x8x8x256 ![] bcast_S_S64x8x8x256),
    unary main_v175 main_v177 ((Host.slice S64x8x8x128 ![0, 0, 0, 0] ![1, 2, 2, 1] · slicesBy_S64x18x18x128_S64x8x8x128_0s1_0s2_0s2_0s1)),
    unary main_arg5 main_v178 ((extractStridedSlice S1x1x128x256 ![0, 0, 0, 0] · slices_S4x4x128x256_S1x1x128x256_0_0_0_0)),
    reshape main_v178 main_v179 (rfl : (.f32 : EltTy) = .f32) shapeCasts_S1x1x128x256_S128x256,
    binary main_v177 main_v179 main_v180 ((fun l r => Host.dotGeneral dot_S64x8x8x128_S128x256_S64x8x8x256_3_0_012_1_n_n none l r)),
    binary main_v176 main_v180 main_v181 (addf),
    unary main_v175 main_v182 ((Host.slice S64x8x8x128 ![0, 0, 1, 0] ![1, 2, 2, 1] · slicesBy_S64x18x18x128_S64x8x8x128_0s1_0s2_1s2_0s1)),
    unary main_arg5 main_v183 ((extractStridedSlice S1x1x128x256 ![0, 1, 0, 0] · slices_S4x4x128x256_S1x1x128x256_0_1_0_0)),
    reshape main_v183 main_v184 (rfl : (.f32 : EltTy) = .f32) shapeCasts_S1x1x128x256_S128x256,
    binary main_v182 main_v184 main_v185 ((fun l r => Host.dotGeneral dot_S64x8x8x128_S128x256_S64x8x8x256_3_0_012_1_n_n none l r)),
    binary main_v181 main_v185 main_v186 (addf),
    unary main_v175 main_v187 ((Host.slice S64x8x8x128 ![0, 0, 2, 0] ![1, 2, 2, 1] · slicesBy_S64x18x18x128_S64x8x8x128_0s1_0s2_2s2_0s1)),
    unary main_arg5 main_v188 ((extractStridedSlice S1x1x128x256 ![0, 2, 0, 0] · slices_S4x4x128x256_S1x1x128x256_0_2_0_0)),
    reshape main_v188 main_v189 (rfl : (.f32 : EltTy) = .f32) shapeCasts_S1x1x128x256_S128x256,
    binary main_v187 main_v189 main_v190 ((fun l r => Host.dotGeneral dot_S64x8x8x128_S128x256_S64x8x8x256_3_0_012_1_n_n none l r)),
    binary main_v186 main_v190 main_v191 (addf),
    unary main_v175 main_v192 ((Host.slice S64x8x8x128 ![0, 0, 3, 0] ![1, 2, 2, 1] · slicesBy_S64x18x18x128_S64x8x8x128_0s1_0s2_3s2_0s1)),
    unary main_arg5 main_v193 ((extractStridedSlice S1x1x128x256 ![0, 3, 0, 0] · slices_S4x4x128x256_S1x1x128x256_0_3_0_0)),
    reshape main_v193 main_v194 (rfl : (.f32 : EltTy) = .f32) shapeCasts_S1x1x128x256_S128x256,
    binary main_v192 main_v194 main_v195 ((fun l r => Host.dotGeneral dot_S64x8x8x128_S128x256_S64x8x8x256_3_0_012_1_n_n none l r)),
    binary main_v191 main_v195 main_v196 (addf),
    unary main_v175 main_v197 ((Host.slice S64x8x8x128 ![0, 1, 0, 0] ![1, 2, 2, 1] · slicesBy_S64x18x18x128_S64x8x8x128_0s1_1s2_0s2_0s1)),
    unary main_arg5 main_v198 ((extractStridedSlice S1x1x128x256 ![1, 0, 0, 0] · slices_S4x4x128x256_S1x1x128x256_1_0_0_0)),
    reshape main_v198 main_v199 (rfl : (.f32 : EltTy) = .f32) shapeCasts_S1x1x128x256_S128x256,
    binary main_v197 main_v199 main_v200 ((fun l r => Host.dotGeneral dot_S64x8x8x128_S128x256_S64x8x8x256_3_0_012_1_n_n none l r)) ]

/-- @main's operations 213 … 242 of 371. -/
abbrev ops_part3_1 : List (HloOp τ sig (Elt F)) :=
  [ binary main_v196 main_v200 main_v201 (addf),
    unary main_v175 main_v202 ((Host.slice S64x8x8x128 ![0, 1, 1, 0] ![1, 2, 2, 1] · slicesBy_S64x18x18x128_S64x8x8x128_0s1_1s2_1s2_0s1)),
    unary main_arg5 main_v203 ((extractStridedSlice S1x1x128x256 ![1, 1, 0, 0] · slices_S4x4x128x256_S1x1x128x256_1_1_0_0)),
    reshape main_v203 main_v204 (rfl : (.f32 : EltTy) = .f32) shapeCasts_S1x1x128x256_S128x256,
    binary main_v202 main_v204 main_v205 ((fun l r => Host.dotGeneral dot_S64x8x8x128_S128x256_S64x8x8x256_3_0_012_1_n_n none l r)),
    binary main_v201 main_v205 main_v206 (addf),
    unary main_v175 main_v207 ((Host.slice S64x8x8x128 ![0, 1, 2, 0] ![1, 2, 2, 1] · slicesBy_S64x18x18x128_S64x8x8x128_0s1_1s2_2s2_0s1)),
    unary main_arg5 main_v208 ((extractStridedSlice S1x1x128x256 ![1, 2, 0, 0] · slices_S4x4x128x256_S1x1x128x256_1_2_0_0)),
    reshape main_v208 main_v209 (rfl : (.f32 : EltTy) = .f32) shapeCasts_S1x1x128x256_S128x256,
    binary main_v207 main_v209 main_v210 ((fun l r => Host.dotGeneral dot_S64x8x8x128_S128x256_S64x8x8x256_3_0_012_1_n_n none l r)),
    binary main_v206 main_v210 main_v211 (addf),
    unary main_v175 main_v212 ((Host.slice S64x8x8x128 ![0, 1, 3, 0] ![1, 2, 2, 1] · slicesBy_S64x18x18x128_S64x8x8x128_0s1_1s2_3s2_0s1)),
    unary main_arg5 main_v213 ((extractStridedSlice S1x1x128x256 ![1, 3, 0, 0] · slices_S4x4x128x256_S1x1x128x256_1_3_0_0)),
    reshape main_v213 main_v214 (rfl : (.f32 : EltTy) = .f32) shapeCasts_S1x1x128x256_S128x256,
    binary main_v212 main_v214 main_v215 ((fun l r => Host.dotGeneral dot_S64x8x8x128_S128x256_S64x8x8x256_3_0_012_1_n_n none l r)),
    binary main_v211 main_v215 main_v216 (addf),
    unary main_v175 main_v217 ((Host.slice S64x8x8x128 ![0, 2, 0, 0] ![1, 2, 2, 1] · slicesBy_S64x18x18x128_S64x8x8x128_0s1_2s2_0s2_0s1)),
    unary main_arg5 main_v218 ((extractStridedSlice S1x1x128x256 ![2, 0, 0, 0] · slices_S4x4x128x256_S1x1x128x256_2_0_0_0)),
    reshape main_v218 main_v219 (rfl : (.f32 : EltTy) = .f32) shapeCasts_S1x1x128x256_S128x256,
    binary main_v217 main_v219 main_v220 ((fun l r => Host.dotGeneral dot_S64x8x8x128_S128x256_S64x8x8x256_3_0_012_1_n_n none l r)),
    binary main_v216 main_v220 main_v221 (addf),
    unary main_v175 main_v222 ((Host.slice S64x8x8x128 ![0, 2, 1, 0] ![1, 2, 2, 1] · slicesBy_S64x18x18x128_S64x8x8x128_0s1_2s2_1s2_0s1)),
    unary main_arg5 main_v223 ((extractStridedSlice S1x1x128x256 ![2, 1, 0, 0] · slices_S4x4x128x256_S1x1x128x256_2_1_0_0)),
    reshape main_v223 main_v224 (rfl : (.f32 : EltTy) = .f32) shapeCasts_S1x1x128x256_S128x256,
    binary main_v222 main_v224 main_v225 ((fun l r => Host.dotGeneral dot_S64x8x8x128_S128x256_S64x8x8x256_3_0_012_1_n_n none l r)),
    binary main_v221 main_v225 main_v226 (addf),
    unary main_v175 main_v227 ((Host.slice S64x8x8x128 ![0, 2, 2, 0] ![1, 2, 2, 1] · slicesBy_S64x18x18x128_S64x8x8x128_0s1_2s2_2s2_0s1)),
    unary main_arg5 main_v228 ((extractStridedSlice S1x1x128x256 ![2, 2, 0, 0] · slices_S4x4x128x256_S1x1x128x256_2_2_0_0)),
    reshape main_v228 main_v229 (rfl : (.f32 : EltTy) = .f32) shapeCasts_S1x1x128x256_S128x256,
    binary main_v227 main_v229 main_v230 ((fun l r => Host.dotGeneral dot_S64x8x8x128_S128x256_S64x8x8x256_3_0_012_1_n_n none l r)) ]

/-- @main's operations 243 … 243 of 371. -/
abbrev ops_part3_2 : List (HloOp τ sig (Elt F)) :=
  [ binary main_v226 main_v230 main_v231 (addf) ]

/-- Window `main_part3`'s operations. Not an abbreviation: `main_eq` below splits `ops` into the windows and no further. -/
def ops_part3 : List (HloOp τ sig (Elt F)) :=
  ops_part3_0 ++ (ops_part3_1 ++ (ops_part3_2))

/-- @main's operations 244 … 273 of 371. -/
abbrev ops_part4_0 : List (HloOp τ sig (Elt F)) :=
  [ unary main_v175 main_v232 ((Host.slice S64x8x8x128 ![0, 2, 3, 0] ![1, 2, 2, 1] · slicesBy_S64x18x18x128_S64x8x8x128_0s1_2s2_3s2_0s1)),
    unary main_arg5 main_v233 ((extractStridedSlice S1x1x128x256 ![2, 3, 0, 0] · slices_S4x4x128x256_S1x1x128x256_2_3_0_0)),
    reshape main_v233 main_v234 (rfl : (.f32 : EltTy) = .f32) shapeCasts_S1x1x128x256_S128x256,
    binary main_v232 main_v234 main_v235 ((fun l r => Host.dotGeneral dot_S64x8x8x128_S128x256_S64x8x8x256_3_0_012_1_n_n none l r)),
    binary main_v231 main_v235 main_v236 (addf),
    unary main_v175 main_v237 ((Host.slice S64x8x8x128 ![0, 3, 0, 0] ![1, 2, 2, 1] · slicesBy_S64x18x18x128_S64x8x8x128_0s1_3s2_0s2_0s1)),
    unary main_arg5 main_v238 ((extractStridedSlice S1x1x128x256 ![3, 0, 0, 0] · slices_S4x4x128x256_S1x1x128x256_3_0_0_0)),
    reshape main_v238 main_v239 (rfl : (.f32 : EltTy) = .f32) shapeCasts_S1x1x128x256_S128x256,
    binary main_v237 main_v239 main_v240 ((fun l r => Host.dotGeneral dot_S64x8x8x128_S128x256_S64x8x8x256_3_0_012_1_n_n none l r)),
    binary main_v236 main_v240 main_v241 (addf),
    unary main_v175 main_v242 ((Host.slice S64x8x8x128 ![0, 3, 1, 0] ![1, 2, 2, 1] · slicesBy_S64x18x18x128_S64x8x8x128_0s1_3s2_1s2_0s1)),
    unary main_arg5 main_v243 ((extractStridedSlice S1x1x128x256 ![3, 1, 0, 0] · slices_S4x4x128x256_S1x1x128x256_3_1_0_0)),
    reshape main_v243 main_v244 (rfl : (.f32 : EltTy) = .f32) shapeCasts_S1x1x128x256_S128x256,
    binary main_v242 main_v244 main_v245 ((fun l r => Host.dotGeneral dot_S64x8x8x128_S128x256_S64x8x8x256_3_0_012_1_n_n none l r)),
    binary main_v241 main_v245 main_v246 (addf),
    unary main_v175 main_v247 ((Host.slice S64x8x8x128 ![0, 3, 2, 0] ![1, 2, 2, 1] · slicesBy_S64x18x18x128_S64x8x8x128_0s1_3s2_2s2_0s1)),
    unary main_arg5 main_v248 ((extractStridedSlice S1x1x128x256 ![3, 2, 0, 0] · slices_S4x4x128x256_S1x1x128x256_3_2_0_0)),
    reshape main_v248 main_v249 (rfl : (.f32 : EltTy) = .f32) shapeCasts_S1x1x128x256_S128x256,
    binary main_v247 main_v249 main_v250 ((fun l r => Host.dotGeneral dot_S64x8x8x128_S128x256_S64x8x8x256_3_0_012_1_n_n none l r)),
    binary main_v246 main_v250 main_v251 (addf),
    unary main_v175 main_v252 ((Host.slice S64x8x8x128 ![0, 3, 3, 0] ![1, 2, 2, 1] · slicesBy_S64x18x18x128_S64x8x8x128_0s1_3s2_3s2_0s1)),
    unary main_arg5 main_v253 ((extractStridedSlice S1x1x128x256 ![3, 3, 0, 0] · slices_S4x4x128x256_S1x1x128x256_3_3_0_0)),
    reshape main_v253 main_v254 (rfl : (.f32 : EltTy) = .f32) shapeCasts_S1x1x128x256_S128x256,
    binary main_v252 main_v254 main_v255 ((fun l r => Host.dotGeneral dot_S64x8x8x128_S128x256_S64x8x8x256_3_0_012_1_n_n none l r)),
    binary main_v251 main_v255 main_v256 (addf),
    unary main_arg6 main_v257 (broadcastInDim S1x1x1x256 ![3] bcast_S256_S1x1x1x256_3),
    unary main_v257 main_v258 (broadcastInDim S64x8x8x256 ![0, 1, 2, 3] bcast_S1x1x1x256_S64x8x8x256_0_1_2_3),
    binary main_v256 main_v258 main_v259 (addf),
    nullary main_cst_6 (constant S_ .f32 0x00000000#32),
    unary main_cst_6 main_v260 (broadcastInDim S64x8x8x256 ![] bcast_S_S64x8x8x256) ]

/-- @main's operations 274 … 303 of 371. -/
abbrev ops_part4_1 : List (HloOp τ sig (Elt F)) :=
  [ binary main_v259 main_v260 main_v261 (maximumf),
    reshape main_v261 main_v262 (rfl : (.f32 : EltTy) = .f32) shapeCasts_S64x8x8x256_S64x16384,
    binary main_v262 main_arg7 main_v263 ((fun l r => Host.dotGeneral dot_S64x16384_S16384x1024_S64x1024_1_0_0_1_n_n none l r)),
    unary main_arg8 main_v264 (broadcastInDim S1x1024 ![1] bcast_S1024_S1x1024_1),
    unary main_v264 main_v265 (broadcastInDim S64x1024 ![0, 1] bcast_S1x1024_S64x1024_0_1),
    binary main_v263 main_v265 main_v266 (addf),
    nullary main_cst_7 (constant S_ .f32 0x00000000#32),
    unary main_cst_7 main_v267 (broadcastInDim S64x1024 ![] bcast_S_S64x1024),
    binary main_v266 main_v267 main_v268 (maximumf),
    binary main_v268 main_arg9 main_v269 ((fun l r => Host.dotGeneral dot_S64x1024_S1024x2048_S64x2048_1_0_0_1_n_n none l r)),
    unary main_arg10 main_v270 (broadcastInDim S1x2048 ![1] bcast_S2048_S1x2048_1),
    unary main_v270 main_v271 (broadcastInDim S64x2048 ![0, 1] bcast_S1x2048_S64x2048_0_1),
    binary main_v269 main_v271 main_v272 (addf),
    nullary main_cst_8 (constant S_ .f32 0x00000000#32),
    unary main_cst_8 main_v273 (broadcastInDim S64x2048 ![] bcast_S_S64x2048),
    binary main_v272 main_v273 main_v274 (maximumf),
    reshape main_v274 main_v275 (rfl : (.f32 : EltTy) = .f32) shapeCasts_S64x2048_S64x32x64,
    unary main_v275 main_v276 (broadcastInDim S64x32x1x64 ![0, 1, 3] bcast_S64x32x64_S64x32x1x64_0_1_3),
    unary main_arg11 main_v277 (broadcastInDim S1x1x512x64 ![2, 3] bcast_S512x64_S1x1x512x64_2_3),
    unary main_v276 main_v278 (broadcastInDim S64x32x512x64 ![0, 1, 2, 3] bcast_S64x32x1x64_S64x32x512x64_0_1_2_3),
    unary main_v277 main_v279 (broadcastInDim S64x32x512x64 ![0, 1, 2, 3] bcast_S1x1x512x64_S64x32x512x64_0_1_2_3),
    binary main_v278 main_v279 main_v280 (subf),
    TRef.binary (TRef.of (T := ⟨S64x32x512x64, .f32⟩) main_v280) (TRef.of (T := ⟨S64x32x512x64, .f32⟩) main_v280) (TRef.of (T := ⟨S64x32x512x64, .f32⟩) main_call3_v0) mulf,
    TRef.nullary (TRef.of (T := ⟨S_, .f32⟩) main_call3_cst) (constant S_ .f32 0x00000000#32),
    TRef.binary (TRef.of (T := ⟨S64x32x512x64, .f32⟩) main_call3_v0) (TRef.of (T := ⟨S_, .f32⟩) main_call3_cst) (TRef.of (T := ⟨S64x32x512, .f32⟩) main_call3_v1) (fun x v => Host.reduceAdd x v reducesTo_S64x32x512x64_S64x32x512_d3 h_S_),
    TRef.unary (TRef.of (T := ⟨S64x32x512, .f32⟩) main_call3_v1) (TRef.of (T := ⟨S64x32x512, .f32⟩) main_v281) Host.sqrt,
    TRef.nullary (TRef.of (T := ⟨S64x32x512, .i32⟩) main_call4_v0) (iotaInDim S64x32x512 32 2),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S64x32x512, .f32⟩) main_v281) (TRef.of (T := ⟨S64x32x512, .i32⟩) main_call4_v0) (TRef.of (T := ⟨S_, .f32⟩) main_call4_cst) (TRef.of (T := ⟨S_, .i32⟩) main_call4_c) (TRef.of (T := ⟨S64x32, .f32⟩) main_call4_v1_0) (fun x y u v j => (Host.argReduce reducer_argmin_f32_i32 x y u v reducesTo_S64x32x512_S64x32_d2 h_S_ j).1) ]

/-- @main's operations 304 … 332 of 371. -/
abbrev ops_part4_2 : List (HloOp τ sig (Elt F)) :=
  [ TRef.quaternary (TRef.of (T := ⟨S64x32x512, .f32⟩) main_v281) (TRef.of (T := ⟨S64x32x512, .i32⟩) main_call4_v0) (TRef.of (T := ⟨S_, .f32⟩) main_call4_cst) (TRef.of (T := ⟨S_, .i32⟩) main_call4_c) (TRef.of (T := ⟨S64x32, .i32⟩) main_v282) (fun x y u v j => (Host.argReduce reducer_argmin_f32_i32 x y u v reducesTo_S64x32x512_S64x32_d2 h_S_ j).2),
    TRef.nullary (TRef.of (T := ⟨S_, .i32⟩) main_call5_c) (constantI S_ 32 0#32),
    TRef.unary (TRef.of (T := ⟨S_, .i32⟩) main_call5_c) (TRef.of (T := ⟨S64x32, .i32⟩) main_call5_v0) (broadcastInDim S64x32 ![] bcast_S_S64x32),
    TRef.binary (TRef.of (T := ⟨S64x32, .i32⟩) main_v282) (TRef.of (T := ⟨S64x32, .i32⟩) main_call5_v0) (TRef.of (T := ⟨S64x32, .i1⟩) main_call5_v1) (cmpi .slt),
    TRef.nullary (TRef.of (T := ⟨S_, .i32⟩) main_call5_c_0) (constantI S_ 32 512#32),
    TRef.unary (TRef.of (T := ⟨S_, .i32⟩) main_call5_c_0) (TRef.of (T := ⟨S64x32, .i32⟩) main_call5_v2) (broadcastInDim S64x32 ![] bcast_S_S64x32),
    TRef.binary (TRef.of (T := ⟨S64x32, .i32⟩) main_v282) (TRef.of (T := ⟨S64x32, .i32⟩) main_call5_v2) (TRef.of (T := ⟨S64x32, .i32⟩) main_call5_v3) addi,
    TRef.ternary (TRef.of (T := ⟨S64x32, .i1⟩) main_call5_v1) (TRef.of (T := ⟨S64x32, .i32⟩) main_call5_v3) (TRef.of (T := ⟨S64x32, .i32⟩) main_v282) (TRef.of (T := ⟨S64x32, .i32⟩) main_call5_v4) select,
    TRef.unary (TRef.of (T := ⟨S64x32, .i32⟩) main_call5_v4) (TRef.of (T := ⟨S64x32x1, .i32⟩) main_call5_v5) (broadcastInDim S64x32x1 ![0, 1] bcast_S64x32_S64x32x1_0_1),
    TRef.nullary (TRef.of (T := ⟨S1, .i32⟩) main_call5_c_1) (constantI S1 32 511#32),
    TRef.nullary (TRef.of (T := ⟨S_, .i32⟩) main_call5_c_2) (constantI S_ 32 0#32),
    TRef.unary (TRef.of (T := ⟨S_, .i32⟩) main_call5_c_2) (TRef.of (T := ⟨S64x32x1, .i32⟩) main_call5_v6) (broadcastInDim S64x32x1 ![] bcast_S_S64x32x1),
    TRef.binary (TRef.of (T := ⟨S64x32x1, .i32⟩) main_call5_v5) (TRef.of (T := ⟨S64x32x1, .i32⟩) main_call5_v6) (TRef.of (T := ⟨S64x32x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S64x32x1, .i32⟩) main_call5_v9) (broadcastInDim S64x32x1 ![0, 1, 2] bcast_S1x1x1_S64x32x1_0_1_2),
    TRef.binary (TRef.of (T := ⟨S64x32x1, .i32⟩) main_call5_v5) (TRef.of (T := ⟨S64x32x1, .i32⟩) main_call5_v9) (TRef.of (T := ⟨S64x32x1, .i1⟩) main_call5_v10) (cmpi .sle),
    TRef.binary (TRef.of (T := ⟨S64x32x1, .i1⟩) main_call5_v7) (TRef.of (T := ⟨S64x32x1, .i1⟩) main_call5_v10) (TRef.of (T := ⟨S64x32x1, .i1⟩) main_call5_v11) andi,
    TRef.nullary (TRef.of (T := ⟨S_, .i1⟩) main_call5_c_3) (constantI S_ 1 1#1),
    TRef.binary (TRef.of (T := ⟨S64x32x1, .i1⟩) main_call5_v11) (TRef.of (T := ⟨S_, .i1⟩) main_call5_c_3) (TRef.of (T := ⟨S64x32, .i1⟩) main_call5_v12) (fun x v => Host.reduce IntOp.andi x v reducesTo_S64x32x1_S64x32_d2 h_S_),
    TRef.binary (TRef.of (T := ⟨S512x64, .f32⟩) main_arg11) (TRef.of (T := ⟨S64x32x1, .i32⟩) main_call5_v5) (TRef.of (T := ⟨S64x32x64, .f32⟩) main_call5_v13) (fun x i => Host.gather gather_S512x64_S64x32x1_S64x32x64_2_0_n_n_0_2_164 x i),
    TRef.unary (TRef.of (T := ⟨S64x32, .i1⟩) main_call5_v12) (TRef.of (T := ⟨S64x32x64, .i1⟩) main_call5_v14) (broadcastInDim S64x32x64 ![0, 1] bcast_S64x32_S64x32x64_0_1),
    TRef.nullary (TRef.of (T := ⟨S_, .f32⟩) main_call5_cst) (constant S_ .f32 0x7FC00000#32),
    TRef.unary (TRef.of (T := ⟨S_, .f32⟩) main_call5_cst) (TRef.of (T := ⟨S64x32x64, .f32⟩) main_call5_v15) (broadcastInDim S64x32x64 ![] bcast_S_S64x32x64),
    TRef.ternary (TRef.of (T := ⟨S64x32x64, .i1⟩) main_call5_v14) (TRef.of (T := ⟨S64x32x64, .f32⟩) main_call5_v13) (TRef.of (T := ⟨S64x32x64, .f32⟩) main_call5_v15) (TRef.of (T := ⟨S64x32x64, .f32⟩) main_v283) select,
    reshape main_v283 main_v284 (rfl : (.f32 : EltTy) = .f32) shapeCasts_S64x32x64_S64x2048,
    binary main_v284 main_arg12 main_v285 ((fun l r => Host.dotGeneral dot_S64x2048_S2048x1024_S64x1024_1_0_0_1_n_n none l r)),
    unary main_arg13 main_v286 (broadcastInDim S1x1024 ![1] bcast_S1024_S1x1024_1),
    unary main_v286 main_v287 (broadcastInDim S64x1024 ![0, 1] bcast_S1x1024_S64x1024_0_1),
    binary main_v285 main_v287 main_v288 (addf) ]

/-- Window `main_part4`'s operations. Not an abbreviation: `main_eq` below splits `ops` into the windows and no further. -/
def ops_part4 : List (HloOp τ sig (Elt F)) :=
  ops_part4_0 ++ (ops_part4_1 ++ (ops_part4_2))

/-- @main's operations 333 … 371 of 371. -/
abbrev ops_part5 : List (HloOp τ sig (Elt F)) :=
  [ nullary main_cst_9 (constant S_ .f32 0x00000000#32),
    unary main_cst_9 main_v289 (broadcastInDim S64x1024 ![] bcast_S_S64x1024),
    binary main_v288 main_v289 main_v290 (maximumf),
    unary main_v290 main_v291 (broadcastInDim S64x1x1x1024 ![0, 3] bcast_S64x1024_S64x1x1x1024_0_3),
    unary main_arg14 main_v292 (Host.reverse [0, 1]),
    binary main_v292 main_v291 main_v293 ((fun l r => Host.dotGeneral dot_S8x8x1024x256_S64x1x1x1024_S8x8x256x64x1x1_2_3_013_012_n_n none l r)),
    unary main_v293 main_v294 ((transpose S64x1x8x1x8x256 [3, 4, 0, 5, 1, 2] · transposes_S8x8x256x64x1x1_S64x1x8x1x8x256_3_4_0_5_1_2)),
    reshape main_v294 main_v295 (rfl : (.f32 : EltTy) = .f32) shapeCasts_S64x1x8x1x8x256_S64x8x8x256,
    unary main_arg15 main_v296 (broadcastInDim S1x1x1x256 ![3] bcast_S256_S1x1x1x256_3),
    unary main_v296 main_v297 (broadcastInDim S64x8x8x256 ![0, 1, 2, 3] bcast_S1x1x1x256_S64x8x8x256_0_1_2_3),
    binary main_v295 main_v297 main_v298 (addf),
    nullary main_cst_10 (constant S_ .f32 0x00000000#32),
    unary main_cst_10 main_v299 (broadcastInDim S64x8x8x256 ![] bcast_S_S64x8x8x256),
    binary main_v298 main_v299 main_v300 (maximumf),
    unary main_arg16 main_v301 (Host.reverse [0, 1]),
    binary main_v301 main_v300 main_v302 ((fun l r => Host.dotGeneral dot_S4x4x256x128_S64x8x8x256_S4x4x128x64x8x8_2_3_013_012_n_n none l r)),
    unary main_v302 main_v303 ((transpose S64x8x4x8x4x128 [3, 4, 0, 5, 1, 2] · transposes_S4x4x128x64x8x8_S64x8x4x8x4x128_3_4_0_5_1_2)),
    reshape main_v303 main_v304 (rfl : (.f32 : EltTy) = .f32) shapeCasts_S64x8x4x8x4x128_S64x32x32x128,
    unary main_arg17 main_v305 (broadcastInDim S1x1x1x128 ![3] bcast_S128_S1x1x1x128_3),
    unary main_v305 main_v306 (broadcastInDim S64x32x32x128 ![0, 1, 2, 3] bcast_S1x1x1x128_S64x32x32x128_0_1_2_3),
    binary main_v304 main_v306 main_v307 (addf),
    nullary main_cst_11 (constant S_ .f32 0x00000000#32),
    unary main_cst_11 main_v308 (broadcastInDim S64x32x32x128 ![] bcast_S_S64x32x32x128),
    binary main_v307 main_v308 main_v309 (maximumf),
    unary main_arg18 main_v310 (Host.reverse [0, 1]),
    binary main_v310 main_v309 main_v311 ((fun l r => Host.dotGeneral dot_S2x2x128x1_S64x32x32x128_S2x2x1x64x32x32_2_3_013_012_n_n none l r)),
    unary main_v311 main_v312 ((transpose S64x32x2x32x2x1 [3, 4, 0, 5, 1, 2] · transposes_S2x2x1x64x32x32_S64x32x2x32x2x1_3_4_0_5_1_2)),
    reshape main_v312 main_v313 (rfl : (.f32 : EltTy) = .f32) shapeCasts_S64x32x2x32x2x1_S64x64x64x1,
    unary main_arg19 main_v314 (broadcastInDim S1x1x1x1 ![3] bcast_S1_S1x1x1x1_3),
    unary main_v314 main_v315 (broadcastInDim S64x64x64x1 ![0, 1, 2, 3] bcast_S1x1x1x1_S64x64x64x1_0_1_2_3),
    binary main_v313 main_v315 main_v316 (addf),
    unary main_v316 main_v317 (Host.negf),
    unary main_v317 main_v318 (Host.exp),
    nullary main_cst_12 (constant S_ .f32 0x3F800000#32),
    unary main_cst_12 main_v319 (broadcastInDim S64x64x64x1 ![] bcast_S_S64x64x64x1),
    binary main_v319 main_v318 main_v320 (addf),
    nullary main_cst_13 (constant S_ .f32 0x3F800000#32),
    unary main_cst_13 main_v321 (broadcastInDim S64x64x64x1 ![] bcast_S_S64x64x64x1),
    binary main_v321 main_v320 main_v322 (Host.divf) ]

/-- @main's 371 operations, in order (a called function's operations stand in its call's place, spelt `TRef.…`). -/
abbrev ops : List (HloOp τ sig (Elt F)) :=
  ops_part0 ++ (ops_part1 ++ (ops_part2 ++ (ops_part3 ++ (ops_part4 ++ (ops_part5)))))

set_option maxHeartbeats 4000000 in
theorem main_part0_eq (c : Dev nD) : main_part0 (F := F) c = seq ops_part0 := rfl
set_option maxHeartbeats 4000000 in
theorem main_part1_eq (c : Dev nD) : main_part1 (F := F) c = seq ops_part1 := rfl
theorem main_part2_eq (c : Dev nD) : main_part2 (F := F) c = seq ops_part2 := rfl
set_option maxHeartbeats 4000000 in
theorem main_part3_eq (c : Dev nD) : main_part3 (F := F) c = seq ops_part3 := rfl
set_option maxHeartbeats 4000000 in
theorem main_part4_eq (c : Dev nD) : main_part4 (F := F) c = seq ops_part4 := rfl
theorem main_part5_eq (c : Dev nD) : main_part5 (F := F) c = seq ops_part5 := rfl
theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_part0_0_sub : (ops_part0_0 : List (HloOp τ sig (Elt F))).Forall fun op => op.bufs ⊆ tcRefs τ sig :=
  ⟨unary_bufs_sub .., nullary_bufs_sub .., unary_bufs_sub .., binary_bufs_sub .., nullary_bufs_sub .., unary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub ..⟩
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part0_1_sub : (ops_part0_1 : List (HloOp τ sig (Elt F))).Forall fun op => op.bufs ⊆ tcRefs τ sig :=
  ⟨binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub ..⟩
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part0_2_sub : (ops_part0_2 : List (HloOp τ sig (Elt F))).Forall fun op => op.bufs ⊆ tcRefs τ sig :=
  binary_bufs_sub ..
theorem ops_part0_2_fresh : (ops_part0_2 : List (HloOp τ sig (Elt F))).Forall fun op => op.fresh = ∅ :=
  rfl
theorem ops_part1_0_sub : (ops_part1_0 : List (HloOp τ sig (Elt F))).Forall fun op => op.bufs ⊆ tcRefs τ sig :=
  ⟨unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., binary_bufs_sub .., nullary_bufs_sub .., unary_bufs_sub ..⟩
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part1_1_sub : (ops_part1_1 : List (HloOp τ sig (Elt F))).Forall fun op => op.bufs ⊆ tcRefs τ sig :=
  ⟨binary_bufs_sub .., nullary_bufs_sub .., unary_bufs_sub .., binary_bufs_sub .., nullary_bufs_sub .., unary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub ..⟩
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part1_2_sub : (ops_part1_2 : List (HloOp τ sig (Elt F))).Forall fun op => op.bufs ⊆ tcRefs τ sig :=
  binary_bufs_sub ..
theorem ops_part1_2_fresh : (ops_part1_2 : List (HloOp τ sig (Elt F))).Forall fun op => op.fresh = ∅ :=
  rfl
theorem ops_part2_sub : (ops_part2 : List (HloOp τ sig (Elt F))).Forall fun op => op.bufs ⊆ tcRefs τ sig :=
  ⟨unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., binary_bufs_sub .., nullary_bufs_sub .., unary_bufs_sub ..⟩
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part3_0_sub : (ops_part3_0 : List (HloOp τ sig (Elt F))).Forall fun op => op.bufs ⊆ tcRefs τ sig :=
  ⟨binary_bufs_sub .., nullary_bufs_sub .., unary_bufs_sub .., binary_bufs_sub .., nullary_bufs_sub .., unary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub ..⟩
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part3_1_sub : (ops_part3_1 : List (HloOp τ sig (Elt F))).Forall fun op => op.bufs ⊆ tcRefs τ sig :=
  ⟨binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub ..⟩
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part3_2_sub : (ops_part3_2 : List (HloOp τ sig (Elt F))).Forall fun op => op.bufs ⊆ tcRefs τ sig :=
  binary_bufs_sub ..
theorem ops_part3_2_fresh : (ops_part3_2 : List (HloOp τ sig (Elt F))).Forall fun op => op.fresh = ∅ :=
  rfl
theorem ops_part4_0_sub : (ops_part4_0 : List (HloOp τ sig (Elt F))).Forall fun op => op.bufs ⊆ tcRefs τ sig :=
  ⟨unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., binary_bufs_sub .., nullary_bufs_sub .., unary_bufs_sub ..⟩
theorem ops_part4_0_fresh : (ops_part4_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part4_1_sub : (ops_part4_1 : List (HloOp τ sig (Elt F))).Forall fun op => op.bufs ⊆ tcRefs τ sig :=
  ⟨binary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., reshape_bufs_sub .., unary_bufs_sub .., unary_bufs_sub .., unary_bufs_sub .., unary_bufs_sub .., binary_bufs_sub .., binary_bufs_sub .., nullary_bufs_sub .., binary_bufs_sub .., unary_bufs_sub .., nullary_bufs_sub .., nullary_bufs_sub .., nullary_bufs_sub .., quaternary_bufs_sub ..⟩
theorem ops_part4_1_fresh : (ops_part4_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part4_2_sub : (ops_part4_2 : List (HloOp τ sig (Elt F))).Forall fun op => op.bufs ⊆ tcRefs τ sig :=
  ⟨quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., unary_bufs_sub .., unary_bufs_sub .., binary_bufs_sub ..⟩
theorem ops_part4_2_fresh : (ops_part4_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part5_sub : (ops_part5 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part3, ops_part4, List.mem_append, or_assoc] at h
    rcases h with h | h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h, List.forall_iff_forall_mem.mp ops_part3_0_sub op h, List.forall_iff_forall_mem.mp ops_part3_1_sub op h, List.forall_iff_forall_mem.mp ops_part3_2_sub op h, List.forall_iff_forall_mem.mp ops_part4_0_sub op h, List.forall_iff_forall_mem.mp ops_part4_1_sub op h, List.forall_iff_forall_mem.mp ops_part4_2_sub op h, List.forall_iff_forall_mem.mp ops_part5_sub op h]
theorem ops_fresh : ∀ op ∈ (ops : List (HloOp τ sig (Elt F))), op.fresh = ∅ := fun op h => by
    simp only [ops, ops_part0, ops_part1, ops_part3, ops_part4, List.mem_append, or_assoc] at h
    rcases h with h | h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h, List.forall_iff_forall_mem.mp ops_part3_0_fresh op h, List.forall_iff_forall_mem.mp ops_part3_1_fresh op h, List.forall_iff_forall_mem.mp ops_part3_2_fresh op h, List.forall_iff_forall_mem.mp ops_part4_0_fresh op h, List.forall_iff_forall_mem.mp ops_part4_1_fresh op h, List.forall_iff_forall_mem.mp ops_part4_2_fresh op h, List.forall_iff_forall_mem.mp ops_part5_fresh op h]

/-- The buffers these operations write. -/
abbrev ops_part0_0_W : List (Ref sig .tc) := [main_v0, main_c, main_call0_v0, main_v1, main_cst, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26]
theorem ops_part0_0_writes : (ops_part0_0 : List (HloOp τ sig (Elt F))).Forall fun op => op.writes ⊆ (ops_part0_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part0_1_W : List (Ref sig .tc) := [main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56]
theorem ops_part0_1_writes : (ops_part0_1 : List (HloOp τ sig (Elt F))).Forall fun op => op.writes ⊆ (ops_part0_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part0_2_W : List (Ref sig .tc) := [main_v57]
theorem ops_part0_2_writes : (ops_part0_2 : List (HloOp τ sig (Elt F))).Forall fun op => op.writes ⊆ (ops_part0_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ?_ <;> exact List.mem_map_of_mem (by decide)

/-- The buffers these operations write. -/
abbrev ops_part1_0_W : List (Ref sig .tc) := [main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_cst_0, main_v86]
theorem ops_part1_0_writes : (ops_part1_0 : List (HloOp τ sig (Elt F))).Forall fun op => op.writes ⊆ (ops_part1_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part1_1_W : List (Ref sig .tc) := [main_v87, main_c_1, main_call1_v0, main_v88, main_cst_2, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113]
theorem ops_part1_1_writes : (ops_part1_1 : List (HloOp τ sig (Elt F))).Forall fun op => op.writes ⊆ (ops_part1_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part1_2_W : List (Ref sig .tc) := [main_v114]
theorem ops_part1_2_writes : (ops_part1_2 : List (HloOp τ sig (Elt F))).Forall fun op => op.writes ⊆ (ops_part1_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ?_ <;> exact List.mem_map_of_mem (by decide)

/-- The buffers these operations write. -/
abbrev ops_part2_W : List (Ref sig .tc) := [main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_cst_3, main_v173]
theorem ops_part2_writes : (ops_part2 : List (HloOp τ sig (Elt F))).Forall fun op => op.writes ⊆ (ops_part2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part3_0_W : List (Ref sig .tc) := [main_v174, main_c_4, main_call2_v0, main_v175, main_cst_5, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200]
theorem ops_part3_0_writes : (ops_part3_0 : List (HloOp τ sig (Elt F))).Forall fun op => op.writes ⊆ (ops_part3_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part3_1_W : List (Ref sig .tc) := [main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230]
theorem ops_part3_1_writes : (ops_part3_1 : List (HloOp τ sig (Elt F))).Forall fun op => op.writes ⊆ (ops_part3_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part3_2_W : List (Ref sig .tc) := [main_v231]
theorem ops_part3_2_writes : (ops_part3_2 : List (HloOp τ sig (Elt F))).Forall fun op => op.writes ⊆ (ops_part3_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ?_ <;> exact List.mem_map_of_mem (by decide)

/-- The buffers these operations write. -/
abbrev ops_part4_0_W : List (Ref sig .tc) := [main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_cst_6, main_v260]
theorem ops_part4_0_writes : (ops_part4_0 : List (HloOp τ sig (Elt F))).Forall fun op => op.writes ⊆ (ops_part4_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part4_1_W : List (Ref sig .tc) := [main_v261, main_v262, main_v263, main_v264, main_v265, main_v266, main_cst_7, main_v267, main_v268, main_v269, main_v270, main_v271, main_v272, main_cst_8, main_v273, main_v274, main_v275, main_v276, main_v277, main_v278, main_v279, main_v280, main_call3_v0, main_call3_cst, main_call3_v1, main_v281, main_call4_v0, main_call4_cst, main_call4_c, main_call4_v1_0]
theorem ops_part4_1_writes : (ops_part4_1 : List (HloOp τ sig (Elt F))).Forall fun op => op.writes ⊆ (ops_part4_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part4_2_W : List (Ref sig .tc) := [main_v282, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v283, main_v284, main_v285, main_v286, main_v287, main_v288]
theorem ops_part4_2_writes : (ops_part4_2 : List (HloOp τ sig (Elt F))).Forall fun op => op.writes ⊆ (ops_part4_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part5_W : List (Ref sig .tc) := [main_cst_9, main_v289, main_v290, main_v291, main_v292, main_v293, main_v294, main_v295, main_v296, main_v297, main_v298, main_cst_10, main_v299, main_v300, main_v301, main_v302, main_v303, main_v304, main_v305, main_v306, main_v307, main_cst_11, main_v308, main_v309, main_v310, main_v311, main_v312, main_v313, main_v314, main_v315, main_v316, main_v317, main_v318, main_cst_12, main_v319, main_v320, main_cst_13, main_v321, main_v322]
theorem ops_part5_writes : (ops_part5 : List (HloOp τ sig (Elt F))).Forall fun op => op.writes ⊆ (ops_part5_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The operations, one stretch after another. -/
theorem after_ops (V : Valuation τ sig (Elt F)) : after ops V = after ops_part5 (after ops_part4_2 (after ops_part4_1 (after ops_part4_0 (after ops_part3_2 (after ops_part3_1 (after ops_part3_0 (after ops_part2 (after ops_part1_2 (after ops_part1_1 (after ops_part1_0 (after ops_part0_2 (after ops_part0_1 (after ops_part0_0 V))))))))))))) := by
  simp only [ops, ops_part0, ops_part1, ops_part3, ops_part4, after_append]

/-- A buffer that no operation writes keeps its contents. -/
theorem keep (V : Valuation τ sig (Elt F)) (r : Ref sig .tc)
    (h : r ∉ ops_part0_0_W ∧ r ∉ ops_part0_1_W ∧ r ∉ ops_part0_2_W ∧ r ∉ ops_part1_0_W ∧ r ∉ ops_part1_1_W ∧ r ∉ ops_part1_2_W ∧ r ∉ ops_part2_W ∧ r ∉ ops_part3_0_W ∧ r ∉ ops_part3_1_W ∧ r ∉ ops_part3_2_W ∧ r ∉ ops_part4_0_W ∧ r ∉ ops_part4_1_W ∧ r ∉ ops_part4_2_W ∧ r ∉ ops_part5_W) : after ops V (Proc.devRef .tc r) = V (Proc.devRef .tc r) := by
  obtain ⟨h0, h1, h2, h3, h4, h5, h6, h7, h8, h9, h10, h11, h12, h13⟩ := h
  rw [after_ops]
  exact (after_of_writes_sub ops_part5 _ ops_part5_writes h13).trans <| (after_of_writes_sub ops_part4_2 _ ops_part4_2_writes h12).trans <| (after_of_writes_sub ops_part4_1 _ ops_part4_1_writes h11).trans <| (after_of_writes_sub ops_part4_0 _ ops_part4_0_writes h10).trans <| (after_of_writes_sub ops_part3_2 _ ops_part3_2_writes h9).trans <| (after_of_writes_sub ops_part3_1 _ ops_part3_1_writes h8).trans <| (after_of_writes_sub ops_part3_0 _ ops_part3_0_writes h7).trans <| (after_of_writes_sub ops_part2 _ ops_part2_writes h6).trans <| (after_of_writes_sub ops_part1_2 _ ops_part1_2_writes h5).trans <| (after_of_writes_sub ops_part1_1 _ ops_part1_1_writes h4).trans <| (after_of_writes_sub ops_part1_0 _ ops_part1_0_writes h3).trans <| (after_of_writes_sub ops_part0_2 _ ops_part0_2_writes h2).trans <| (after_of_writes_sub ops_part0_1 _ ops_part0_1_writes h1).trans <| (after_of_writes_sub ops_part0_0 _ ops_part0_0_writes h0).trans <| rfl

/-- Every execution terminates and leaves the arguments as they were. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) ∧ r.2.sem = fun _ => 0 :=
  (θ_run defs _ _).mono (fun r h => ⟨fun c => ⟨(h c main_arg0).trans (keep (launchContents m c) main_arg0 (by decide)),
      (h c main_arg1).trans (keep (launchContents m c) main_arg1 (by decide)),
      (h c main_arg2).trans (keep (launchContents m c) main_arg2 (by decide)),
      (h c main_arg3).trans (keep (launchContents m c) main_arg3 (by decide)),
      (h c main_arg4).trans (keep (launchContents m c) main_arg4 (by decide)),
      (h c main_arg5).trans (keep (launchContents m c) main_arg5 (by decide)),
      (h c main_arg6).trans (keep (launchContents m c) main_arg6 (by decide)),
      (h c main_arg7).trans (keep (launchContents m c) main_arg7 (by decide)),
      (h c main_arg8).trans (keep (launchContents m c) main_arg8 (by decide)),
      (h c main_arg9).trans (keep (launchContents m c) main_arg9 (by decide)),
      (h c main_arg10).trans (keep (launchContents m c) main_arg10 (by decide)),
      (h c main_arg11).trans (keep (launchContents m c) main_arg11 (by decide)),
      (h c main_arg12).trans (keep (launchContents m c) main_arg12 (by decide)),
      (h c main_arg13).trans (keep (launchContents m c) main_arg13 (by decide)),
      (h c main_arg14).trans (keep (launchContents m c) main_arg14 (by decide)),
      (h c main_arg15).trans (keep (launchContents m c) main_arg15 (by decide)),
      (h c main_arg16).trans (keep (launchContents m c) main_arg16 (by decide)),
      (h c main_arg17).trans (keep (launchContents m c) main_arg17 (by decide)),
      (h c main_arg18).trans (keep (launchContents m c) main_arg18 (by decide)),
      (h c main_arg19).trans (keep (launchContents m c) main_arg19 (by decide))⟩,
    sem_eq_zero_of_no_sems rfl r.2⟩)
    (run_seq scopedRefs_eq scopedSems_eq defs main (fun _ => ops) main_eq (fun _ => ops_sub) m ρ fun _ => ops_fresh)

end Cert.ReferenceIdeal.Run

end
-- ==== Proof.KA.EncRuns.lean ====
module

public import proofs.«01_k».proof.Proof.Gen.KernelAtIdeal.Launch
public import proofs.«01_k».proof.Proof.Gen.KernelAtIdeal.Skeleton
public import proofs.«01_k».proof.Proof.Gen.KernelAtIdeal.Points
public import proofs.«01_k».proof.Proof.Gen.KernelAtIdeal.Regions
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelAtIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAtIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/
/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V9 m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V9 m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V9 m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V9 m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V9 m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V9 m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V9 m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V9 m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-! ## The kernel body on any staging memrefs: a subtype the run finds -/

/-- One staging buffer of output window 7, through which its contents are stated (`View.read_writes_of_cover`: the
    choice does not matter). -/
abbrev VO0_7 : View sig .tc .vmem S1024x256 .f32 := (Memref.whole cc0_stg7_0 : Memref sig .tc .vmem S1024x256 .f32).view
/-- Each window's current staging memref at point `t`, spelled as the pipeline passes it (`bodyAt0`), and its wholeness. -/
abbrev ms0_0 (t : Fin cfg0.N) : Memref sig .tc .vmem S16384x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4x4x16x10x10x64 .f32 := Memref.whole cc0_scratch0
abbrev scM0_1 : Memref sig .tc .vmem S2x2x16x10x10x128 .f32 := Memref.whole cc0_scratch1
/-- The scratch `arg9` the kernel carries between points, as a view: what it holds is stated through it. -/
abbrev VS0_0 : View sig .tc .vmem S4x4x16x10x10x64 .f32 := scM0_0.view
/-- The scratch `arg10` the kernel carries between points, as a view: what it holds is stated through it. -/
abbrev VS0_1 : View sig .tc .vmem S2x2x16x10x10x128 .f32 := scM0_1.view

/-- What the region's invariant carries besides the kernel's own scratch: the other scoped buffers and the generator
    register, at anything. -/
def Oth (c : Dev nD) : sProp 𝕄 :=
  iprop(Pipeline.scopedRestBut (Ix := Unit) (Name := ℕ) (U := UR sig nD τ) (Lvl := ℕ) (Val := Elt F) spec0 c [cc0_scratch0, cc0_scratch1] ∗ (∃ r, prngReg c r))

/-- The library's invariant with the kernel's two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ Oth c) := by
  unfold Pipeline.ΦA Oth; rw [scopedRest0_split]; simp only [scM0_0, scM0_1, owns_whole]; exact Idealize.SL.BI.equiv_iff.mp ⟨Idealize.SL.BI.sep_assoc, Idealize.SL.BI.sep_assoc'⟩

end Cert.KernelAtIdeal.Enc

end
-- ==== Proof.KA.EncRunA.lean ====
module

public import proofs.«01_k».proof.Proof.KA.EncRuns

@[expose] public section

-- membership in a rectangle of production extents (`View.cover_of_tiled`): the elaborator's structural look
-- recurses once per coordinate of the long axes
set_option maxRecDepth 16384

noncomputable section

namespace Cert.KernelAtIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAtIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1352000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) :
    Σ' (L7 : List (View.Piece (Elt F) S1024x256 .f32)), Σ' (LS0 : List (View.Piece (Elt F) S4x4x16x10x10x64 .f32)), { LS1 : List (View.Piece (Elt F) S2x2x16x10x10x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__enc_kern i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__enc_kern_eq_skeleton]; unfold cc0__enc_kern_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.KernelAtIdeal.Enc

end
-- ==== Proof.KA.EncRunB.lean ====
module

public import proofs.«01_k».proof.Proof.KA.EncRunA

@[expose] public section

-- membership in a rectangle of production extents (`View.cover_of_tiled`): the elaborator's structural look
-- recurses once per coordinate of the long axes
set_option maxRecDepth 16384

noncomputable section

namespace Cert.KernelAtIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAtIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1328000 in
/-- What the body's stores leave in each output's staging memref, as pieces (last first) IN CASE B (`scf.if` 0 not taken: points 1, 2, 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : ¬cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (xs0 : Vec F S4x4x16x10x10x64 .f32) (xs1 : Vec F S2x2x16x10x10x128 .f32) :
    Σ' (L7 : List (View.Piece (Elt F) S1024x256 .f32)), Σ' (LS0 : List (View.Piece (Elt F) S4x4x16x10x10x64 .f32)), { LS1 : List (View.Piece (Elt F) S2x2x16x10x10x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__enc_kern i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__enc_kern_eq_skeleton]; unfold cc0__enc_kern_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexact HS0
    iexact HS1

end Cert.KernelAtIdeal.Enc

end
-- ==== Proof.KA.EncData.lean ====
module

public import proofs.«01_k».proof.Proof.KA.EncRunB
public import Idealize.ShloMosaic.Lib.Claim

@[expose] public section

-- membership in a rectangle of production extents (`View.cover_of_tiled`): the elaborator's structural look
-- recurses once per coordinate of the long axes
set_option maxRecDepth 16384

noncomputable section

namespace Cert.KernelAtIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAtIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (1 store of `S1024x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (y : S1024x256.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6).1 S1024x256.size (by sl_kernel_rfl) y

/-- What case A leaves in output 7's staging buffer: its pieces read back over junk. -/
def out0_A_7 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) : Vec F S1024x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 x0 x1 x2 x3 x4 x5 x6).1)

/-- Case A's pieces for scratch `arg9`, which the kernel carries between points, cover it: one of them a store of the WHOLE buffer (Lib/Ring.lean `sl_whole_mem`). -/
theorem scover0_A_0 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (y : S4x4x16x10x10x64.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_wholeMem (kernelRun0_A c i arg1 harg1 arg2 harg2 arg3 harg3 arg4 harg4 arg5 harg5 arg6 harg6 arg7 harg7 arg8 harg8 arg9 harg9 arg10 harg10 hc0 x0 x1 x2 x3 x4 x5 x6).2.1 (by sl_whole_mem) y

/-- What case A leaves in scratch `arg9`: its pieces read back over junk. -/
def sout0_A_0 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) : Vec F S4x4x16x10x10x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 x0 x1 x2 x3 x4 x5 x6).2.1)

/-- Case A's pieces for scratch `arg10`, which the kernel carries between points, cover it: one of them a store of the WHOLE buffer (Lib/Ring.lean `sl_whole_mem`). -/
theorem scover0_A_1 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (y : S2x2x16x10x10x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 hc0 x0 x1 x2 x3 x4 x5 x6).2.2.1 (by sl_whole_mem) y

/-- What case A leaves in scratch `arg10`: its pieces read back over junk. -/
def sout0_A_1 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) : Vec F S2x2x16x10x10x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 x0 x1 x2 x3 x4 x5 x6).2.2.1)

/-- Case B's pieces for output 7 tile its block (1 store of `S1024x256`, checked by the kernel's evaluation: Lib/Ring.lean `Piece.tiledL`, linear in the pieces, through a loop's `@[irreducible]` trip theorem too), so they cover it. -/
theorem cover0_B_7 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : ¬cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (xs0 : Vec F S4x4x16x10x10x64 .f32) (xs1 : Vec F S2x2x16x10x10x128 .f32) (y : S1024x256.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 xs0 xs1).1 S1024x256.size (by sl_kernel_rfl) y

/-- What case B leaves in output 7's staging buffer: its pieces read back over junk. -/
def out0_B_7 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : ¬cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (xs0 : Vec F S4x4x16x10x10x64 .f32) (xs1 : Vec F S2x2x16x10x10x128 .f32) : Vec F S1024x256 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 x0 x1 x2 x3 x4 x5 x6 xs0 xs1).1)

/-- What case B leaves in scratch `arg9`: its pieces (stores, a counted loop's segment) read back over what the point before left there, which it read first. -/
def sout0_B_0 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : ¬cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (xs0 : Vec F S4x4x16x10x10x64 .f32) (xs1 : Vec F S2x2x16x10x10x128 .f32) : Vec F S4x4x16x10x10x64 .f32 :=
  arg9.view.read (Elt F) (arg9.view.writes (Elt F) (harg9.unread xs0) (kernelRun0_B c i arg1 harg1 arg2 harg2 arg3 harg3 arg4 harg4 arg5 harg5 arg6 harg6 arg7 harg7 arg8 harg8 arg9 harg9 arg10 harg10 hc0 x0 x1 x2 x3 x4 x5 x6 xs0 xs1).2.1)

/-- What case B leaves in scratch `arg10`: its pieces (stores, a counted loop's segment) read back over what the point before left there, which it read first. -/
def sout0_B_1 (c : Dev nD) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (hc0 : ¬cond0_0 i)
    (x0 : Vec F S16384x16 .f32) (x1 : Vec F S16x64 .f32) (x2 : Vec F S1x64 .f32) (x3 : Vec F S16x64x128 .f32) (x4 : Vec F S1x128 .f32) (x5 : Vec F S16x128x256 .f32) (x6 : Vec F S1x256 .f32) (xs0 : Vec F S4x4x16x10x10x64 .f32) (xs1 : Vec F S2x2x16x10x10x128 .f32) : Vec F S2x2x16x10x10x128 .f32 :=
  arg10.view.read (Elt F) (arg10.view.writes (Elt F) (harg10.unread xs1) (kernelRun0_B c i arg1 harg1 arg2 harg2 arg3 harg3 arg4 harg4 arg5 harg5 arg6 harg6 arg7 harg7 arg8 harg8 arg9 harg9 arg10 harg10 hc0 x0 x1 x2 x3 x4 x5 x6 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x256 .f32 × Vec F S4x4x16x10x10x64 .f32 × Vec F S2x2x16x10x10x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 4 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 4 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ Oth c)

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ Oth c) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ Oth c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (c : Dev nD) : Dat τ (Elt F) Unit ℕ (UR sig nD τ) ℕ cfg0 c where
  A w := V9 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m c).A w = V9 m c (Pipeline.arrRef spec0 w) := by
  dsimp only [dats]

/-- The invariant at a point's start (the proof data at `t.castSucc`), restated at `t.val`. -/
theorem PhiS_castSucc (c : Dev nD) (t : Fin cfg0.N) :
    (dats m c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]
theorem after0_7 (c : Dev nD) (t : Fin cfg0.N) : (dats m c).after 7 t = (outsAt0 m c t.val t.isLt).1 := by dsimp only [dats]

/-- Each input's current staging buffer holds its block at every point, fetched there or not (`beforeK_W_of`). -/
theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d
theorem before0_3 (c : Dev nD) (t : Fin cfg0.N) (d) : (dats m c).before 3 t d = iblk m c 3 t :=
  before0_3_of m (dats m c) (A_eq m c 3) (after0_3 m c) t d
theorem before0_4 (c : Dev nD) (t : Fin cfg0.N) (d) : (dats m c).before 4 t d = iblk m c 4 t :=
  before0_4_of m (dats m c) (A_eq m c 4) (after0_4 m c) t d
theorem before0_5 (c : Dev nD) (t : Fin cfg0.N) (d) : (dats m c).before 5 t d = iblk m c 5 t :=
  before0_5_of m (dats m c) (A_eq m c 5) (after0_5 m c) t d
theorem before0_6 (c : Dev nD) (t : Fin cfg0.N) (d) : (dats m c).before 6 t d = iblk m c 6 t :=
  before0_6_of m (dats m c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ d, owns (c : Thread nD τ) (ms0_7 t) fullShare ((dats m c).before 7 t d)))

/-- and what it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ owns (c : Thread nD τ) (ms0_5 t) fullShare ((dats m c).after 5 t)
    ∗ owns (c : Thread nD τ) (ms0_6 t) fullShare ((dats m c).after 6 t)
    ∗ owns (c : Thread nD τ) (ms0_7 t) fullShare ((dats m c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m c).owesAt () t.succ = (dats m c).owesAt () t.castSucc from rfl,
    after0_0, after0_1, after0_2, after0_3, after0_4, after0_5, after0_6, after0_7]
  rw [show (dats m c).Φ t.succ = PhiS m c (t.val + 1) t.isLt from rfl, PhiS_succ]
  have hN : t.val < 4 := lt_of_lt_of_eq t.isLt (show cfg0.N = 4 from N_0)
  by_cases h0 : t.val % 4 = 0
  · by_cases hz : t.val = 0
    · rw [PhiS_castSucc m c t, PhiS_zero m c _ _ hz, PhiA0_eq]
      rw [outsAt0_A m c t h0]
      unfold out0_A_7 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    · exfalso; have hN : t.val < 4 := lt_of_lt_of_eq t.isLt (show cfg0.N = 4 from N_0); omega
  · by_cases hz : t.val = 0
    · exfalso; have hN : t.val < 4 := lt_of_lt_of_eq t.isLt (show cfg0.N = 4 from N_0); omega
    · rw [PhiS_castSucc m c t, PhiS_pos m c _ _ hz]
      rw [outsAt0_B m c t h0]
      unfold out0_B_7 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, HS0, HS1⟩
      isplitl [HS0 HS1 Hg]
      · isplitl [HS0 HS1]
        · isplitl [HS0]
          · unfold owns; iexists _; isplitr
            swap; · iexact HS0
            ipureintro; rfl
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m c).Φ 0 := by
  rw [show (dats m c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m c).Φ t ⊢ Pipeline.ΦA spec0 c := by
  rw [show (dats m c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m c).Φ (Fin.last cfg0.N) ⊢ Pipeline.ΦA spec0 c :=
  Phi_out m c _ (by rw [Fin.val_last]; have : cfg0.N = 4 := N_0; omega)

end Cert.KernelAtIdeal.Enc

end
-- ==== Proof.KA.MegaRuns.lean ====
module

public import Idealize.ShloMosaic.Lib.Pipeline.Value
public import Idealize.ShloMosaic.Lib.VecWindow
public import proofs.«01_k».proof.Proof.Gen.KernelAtIdeal.Launch
public import proofs.«01_k».proof.Proof.Gen.KernelAtIdeal.Skeleton
public import proofs.«01_k».proof.Proof.Gen.KernelAtIdeal.Points
public import proofs.«01_k».proof.Proof.Gen.KernelAtIdeal.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelAtIdeal.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAtIdeal.Gen

variable {F : FTy → Type} [FloatOps F]

local notation "𝕄" => MT nD τ sig Unit (Elt F) ℕ (UR sig nD τ) ℕ

/-- The guard of the body's first conditional: the first point of the grid. -/
abbrev c1 (i : grid1.Coords) : Prop := Scalar.cmpi .ne (Scalar.extui (Scalar.cmpi .eq (BitVec.ofNat 32 (i 0).val) 0#32) : BitVec 32) 0#32 = 1#1
/-- The guard of the second: the points of the first dense layer. -/
abbrev c2 (i : grid1.Coords) : Prop := Scalar.cmpi .ne (Scalar.extui (Scalar.cmpi .slt (BitVec.ofNat 32 (i 0).val) 8#32) : BitVec 32) 0#32 = 1#1
/-- The guard of the third: the point of the codebook look-up. -/
abbrev c3 (i : grid1.Coords) : Prop := Scalar.cmpi .ne (Scalar.extui (Scalar.cmpi .eq (BitVec.ofNat 32 (i 0).val) 8#32) : BitVec 32) 0#32 = 1#1

theorem off2_zero : (![0, 0] : Fin 2 → ℕ) = fun _ => 0 := by decide
theorem off3_zero : (![0, 0, 0] : Fin 3 → ℕ) = fun _ => 0 := by decide

set_option maxHeartbeats 1600000 in
/-- The first point: the accumulator is cleared and takes the first partial product. -/
theorem runA (c : Dev nD) (i : grid1.Coords) (arg1 : Memref sig .tc .vmem S64x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S512x64 .f32) (harg6 : arg6.IsWhole) (arg7 : Memref sig .tc .vmem S64x512 .f32) (harg7 : arg7.IsWhole) (arg8 : Memref sig .tc .vmem S2048x1024 .f32) (harg8 : arg8.IsWhole) (arg9 : Memref sig .tc .vmem S1x1024 .f32) (harg9 : arg9.IsWhole) (arg10 : Memref sig .tc .vmem S4x1024x256 .f32) (harg10 : arg10.IsWhole) (arg11 : Memref sig .tc .vmem S1x256 .f32) (harg11 : arg11.IsWhole) (arg12 : Memref sig .tc .vmem S256x2048 .f32) (harg12 : arg12.IsWhole) (arg13 : Memref sig .tc .vmem S1x2048 .f32) (harg13 : arg13.IsWhole) (arg14 : Memref sig .tc .vmem S2048x64 .f32) (harg14 : arg14.IsWhole) (arg15 : Memref sig .tc .vmem S1x64 .f32) (harg15 : arg15.IsWhole) (arg16 : Memref sig .tc .vmem S512x64 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S4096x256 .f32) (harg19 : arg19.IsWhole) (h1 : c1 i) (h2 : c2 i) (h3 : ¬c3 i) (h4 : ¬k1_cond4 i = 1#1) (h5 : ¬k1_cond5 i = 1#1) (x1 : Vec F S64x2048 .f32) (x2 : Vec F S2048x1024 .f32) (E : Set ℕ) (K : PUnit → sProp 𝕄) :
    iprop(owns (c : Thread nD τ) arg1 fullShare x1 ∗ owns (c : Thread nD τ) arg2 fullShare x2 ∗ (∃ d, owns (c : Thread nD τ) arg17 fullShare d)
      ∗ (iprop(owns (c : Thread nD τ) arg1 fullShare x1 ∗ owns (c : Thread nD τ) arg2 fullShare x2 ∗ owns (c : Thread nD τ) arg17 fullShare (k1_pay2 (k1_pay1 (F := F)) x1 x2)) -∗ K ⟨⟩))
      ⊢ wp frame (wpE (defs₀ (F := F)) Variants.none c none) E (cc1__mega_kern i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__mega_kern_eq_skeleton]; unfold cc1__mega_kern_skel
  unfold owns
  iintro ⟨⟨%f1, %hf1, H1⟩, ⟨%f2, %hf2, H2⟩, ⟨%d17, %f17, -, H17⟩, Hk⟩
  obtain rfl := harg1.eq_unread hf1; obtain rfl := harg2.eq_unread hf2
  sl_exec (disch := first | sl_exact h1 | sl_exact h2 | sl_exact h3 | sl_exact h4 | sl_exact h5)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H17
  ipureintro
  sl_unfold_words
  rw [View.read_writes_full]
  simp only [View.readAt_eq_ld, hf1, hf2, View.readCov_unit_zero (S := S64x1024) _ off2_zero, View.ld_unit_zero (S := S64x2048) off2_zero, View.ld_unit_zero (S := S2048x1024) off2_zero, View.ld_unit_zero (S := S64x1024) off2_zero]

set_option maxHeartbeats 1600000 in
/-- A later point of the first dense layer: the accumulator takes one more partial product. -/
theorem runB (c : Dev nD) (i : grid1.Coords) (arg1 : Memref sig .tc .vmem S64x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S512x64 .f32) (harg6 : arg6.IsWhole) (arg7 : Memref sig .tc .vmem S64x512 .f32) (harg7 : arg7.IsWhole) (arg8 : Memref sig .tc .vmem S2048x1024 .f32) (harg8 : arg8.IsWhole) (arg9 : Memref sig .tc .vmem S1x1024 .f32) (harg9 : arg9.IsWhole) (arg10 : Memref sig .tc .vmem S4x1024x256 .f32) (harg10 : arg10.IsWhole) (arg11 : Memref sig .tc .vmem S1x256 .f32) (harg11 : arg11.IsWhole) (arg12 : Memref sig .tc .vmem S256x2048 .f32) (harg12 : arg12.IsWhole) (arg13 : Memref sig .tc .vmem S1x2048 .f32) (harg13 : arg13.IsWhole) (arg14 : Memref sig .tc .vmem S2048x64 .f32) (harg14 : arg14.IsWhole) (arg15 : Memref sig .tc .vmem S1x64 .f32) (harg15 : arg15.IsWhole) (arg16 : Memref sig .tc .vmem S512x64 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S4096x256 .f32) (harg19 : arg19.IsWhole) (h1 : ¬c1 i) (h2 : c2 i) (h3 : ¬c3 i) (h4 : ¬k1_cond4 i = 1#1) (h5 : ¬k1_cond5 i = 1#1) (x1 : Vec F S64x2048 .f32) (x2 : Vec F S2048x1024 .f32) (x17 : Vec F S64x1024 .f32) (E : Set ℕ) (K : PUnit → sProp 𝕄) :
    iprop(owns (c : Thread nD τ) arg1 fullShare x1 ∗ owns (c : Thread nD τ) arg2 fullShare x2 ∗ owns (c : Thread nD τ) arg17 fullShare x17
      ∗ (iprop(owns (c : Thread nD τ) arg1 fullShare x1 ∗ owns (c : Thread nD τ) arg2 fullShare x2 ∗ owns (c : Thread nD τ) arg17 fullShare (k1_pay2 x17 x1 x2)) -∗ K ⟨⟩))
      ⊢ wp frame (wpE (defs₀ (F := F)) Variants.none c none) E (cc1__mega_kern i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__mega_kern_eq_skeleton]; unfold cc1__mega_kern_skel
  unfold owns
  iintro ⟨⟨%f1, %hf1, H1⟩, ⟨%f2, %hf2, H2⟩, ⟨%f17, %hf17, H17⟩, Hk⟩
  obtain rfl := harg1.eq_unread hf1; obtain rfl := harg2.eq_unread hf2; obtain rfl := harg17.eq_unread hf17
  sl_exec (disch := first | sl_exact h1 | sl_exact h2 | sl_exact h3 | sl_exact h4 | sl_exact h5)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H17
  ipureintro
  sl_unfold_words
  rw [View.read_writes_full]
  simp only [View.readAt_eq_ld, hf1, hf2, View.ld_unit_zero (S := S64x2048) off2_zero, View.ld_unit_zero (S := S2048x1024) off2_zero, View.ld_unit_zero (S := S64x1024) off2_zero, hf17]

end Cert.KernelAtIdeal.Mega

end
-- ==== Proof.KA.MegaRunC.lean ====
module

public import proofs.«01_k».proof.Proof.KA.MegaRuns

@[expose] public section

set_option maxRecDepth 16384

noncomputable section

namespace Cert.KernelAtIdeal.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAtIdeal.Gen

variable {F : FTy → Type} [FloatOps F]

local notation "𝕄" => MT nD τ sig Unit (Elt F) ℕ (UR sig nD τ) ℕ

set_option maxHeartbeats 1600000 in
/-- The point of the codebook look-up: what it leaves in the decoder's input buffer, as pieces. -/
def runC (c : Dev nD) (i : grid1.Coords) (arg1 : Memref sig .tc .vmem S64x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S512x64 .f32) (harg6 : arg6.IsWhole) (arg7 : Memref sig .tc .vmem S64x512 .f32) (harg7 : arg7.IsWhole) (arg8 : Memref sig .tc .vmem S2048x1024 .f32) (harg8 : arg8.IsWhole) (arg9 : Memref sig .tc .vmem S1x1024 .f32) (harg9 : arg9.IsWhole) (arg10 : Memref sig .tc .vmem S4x1024x256 .f32) (harg10 : arg10.IsWhole) (arg11 : Memref sig .tc .vmem S1x256 .f32) (harg11 : arg11.IsWhole) (arg12 : Memref sig .tc .vmem S256x2048 .f32) (harg12 : arg12.IsWhole) (arg13 : Memref sig .tc .vmem S1x2048 .f32) (harg13 : arg13.IsWhole) (arg14 : Memref sig .tc .vmem S2048x64 .f32) (harg14 : arg14.IsWhole) (arg15 : Memref sig .tc .vmem S1x64 .f32) (harg15 : arg15.IsWhole) (arg16 : Memref sig .tc .vmem S512x64 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S4096x256 .f32) (harg19 : arg19.IsWhole) (h1 : ¬c1 i) (h2 : ¬c2 i) (h3 : c3 i) (h4 : ¬k1_cond4 i = 1#1) (h5 : ¬k1_cond5 i = 1#1) (x3 : Vec F S1x1024 .f32) (x4 : Vec F S1024x2048 .f32) (x5 : Vec F S1x2048 .f32) (x6 : Vec F S512x64 .f32) (x7 : Vec F S64x512 .f32) (x8 : Vec F S2048x1024 .f32) (x9 : Vec F S1x1024 .f32) (x17 : Vec F S64x1024 .f32) :
    { L : List (View.Piece (Elt F) S64x1024 .f32) // ∀ (E : Set ℕ) (K : PUnit → sProp 𝕄),
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg17 fullShare x17 ∗ (∃ d, owns (c : Thread nD τ) arg18 fullShare d)
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg17 fullShare x17 ∗ (∃ f, arg18.view.loc (c : Thread nD τ) ↦[arg18.view.set]{fullShare} arg18.view.writes (Elt F) f L)) -∗ K ⟨⟩))
      ⊢ wp frame (wpE (defs₀ (F := F)) Variants.none c none) E (cc1__mega_kern i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc1__mega_kern_eq_skeleton]; unfold cc1__mega_kern_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]; unfold k1_part1_skel k1_part2_skel k1_part3_skel k1_part4_skel k1_part5_skel k1_part6_skel k1_part7_skel k1_part8_skel k1_part9_skel k1_part10_skel k1_part11_skel k1_part12_skel k1_part13_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f17, %hf17, H17⟩, ⟨%d18, %f18, -, H18⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg17.eq_unread hf17
    sl_exec (disch := first | sl_exact h1 | sl_exact h2 | sl_exact h3 | sl_exact h4 | sl_exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H17]
    · iexists _; isplitr; · ipureintro; exact harg17.read_unread _
      iexact H17
    iexists _; iexact H18

end Cert.KernelAtIdeal.Mega

end
-- ==== Proof.KA.MegaRunD.lean ====
module

public import proofs.«01_k».proof.Proof.KA.MegaRuns

@[expose] public section

set_option maxRecDepth 16384

noncomputable section

namespace Cert.KernelAtIdeal.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAtIdeal.Gen

variable {F : FTy → Type} [FloatOps F]

local notation "𝕄" => MT nD τ sig Unit (Elt F) ℕ (UR sig nD τ) ℕ

set_option maxHeartbeats 1600000 in
/-- A point of the first transposed convolution: four bands of rows are stored. -/
theorem runD (c : Dev nD) (i : grid1.Coords) (arg1 : Memref sig .tc .vmem S64x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S512x64 .f32) (harg6 : arg6.IsWhole) (arg7 : Memref sig .tc .vmem S64x512 .f32) (harg7 : arg7.IsWhole) (arg8 : Memref sig .tc .vmem S2048x1024 .f32) (harg8 : arg8.IsWhole) (arg9 : Memref sig .tc .vmem S1x1024 .f32) (harg9 : arg9.IsWhole) (arg10 : Memref sig .tc .vmem S4x1024x256 .f32) (harg10 : arg10.IsWhole) (arg11 : Memref sig .tc .vmem S1x256 .f32) (harg11 : arg11.IsWhole) (arg12 : Memref sig .tc .vmem S256x2048 .f32) (harg12 : arg12.IsWhole) (arg13 : Memref sig .tc .vmem S1x2048 .f32) (harg13 : arg13.IsWhole) (arg14 : Memref sig .tc .vmem S2048x64 .f32) (harg14 : arg14.IsWhole) (arg15 : Memref sig .tc .vmem S1x64 .f32) (harg15 : arg15.IsWhole) (arg16 : Memref sig .tc .vmem S512x64 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S4096x256 .f32) (harg19 : arg19.IsWhole) (h1 : ¬c1 i) (h2 : ¬c2 i) (h3 : ¬c3 i) (h4 : k1_cond4 i = 1#1) (h5 : ¬k1_cond5 i = 1#1) (x10 : Vec F S4x1024x256 .f32) (x11 : Vec F S1x256 .f32) (x18 : Vec F S64x1024 .f32) (x19 : Vec F S4096x256 .f32) (E : Set ℕ) (K : PUnit → sProp 𝕄) :
    iprop(owns (c : Thread nD τ) arg10 fullShare x10 ∗ owns (c : Thread nD τ) arg11 fullShare x11 ∗ owns (c : Thread nD τ) arg18 fullShare x18 ∗ owns (c : Thread nD τ) arg19 fullShare x19
      ∗ (iprop(owns (c : Thread nD τ) arg10 fullShare x10 ∗ owns (c : Thread nD τ) arg11 fullShare x11 ∗ owns (c : Thread nD τ) arg18 fullShare x18 ∗ owns (c : Thread nD τ) arg19 fullShare (VecWindow.put (VecWindow.put (VecWindow.put (VecWindow.put x19 (k1_off1 i 0#32) S64x256.size (k1_pay55 x18 x10 x11))
      (k1_off1 i 64#32) S64x256.size (k1_pay56 x18 x10 x11)) (k1_off1 i 128#32) S64x256.size (k1_pay4 (k1_pay57 x18 x10) x11))
      (k1_off1 i 192#32) S64x256.size (k1_pay5 x18 (k1_pay54 x10) x11))) -∗ K ⟨⟩))
      ⊢ wp frame (wpE (defs₀ (F := F)) Variants.none c none) E (cc1__mega_kern i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__mega_kern_eq_skeleton]; unfold cc1__mega_kern_skel
  simp only [k1_part14_eq_skeleton]; unfold k1_part14_skel
  unfold owns
  iintro ⟨⟨%f10, %hf10, H10⟩, ⟨%f11, %hf11, H11⟩, ⟨%f18, %hf18, H18⟩, ⟨%f19, %hf19, H19⟩, Hk⟩
  obtain rfl := harg10.eq_unread hf10; obtain rfl := harg11.eq_unread hf11; obtain rfl := harg18.eq_unread hf18; obtain rfl := harg19.eq_unread hf19
  sl_exec (disch := first | sl_exact h1 | sl_exact h2 | sl_exact h3 | sl_exact h4 | sl_exact h5)
  sl_step
  iapply Hk
  isplitl [H10]
  · iexists _; isplitr; · ipureintro; exact harg10.read_unread _
    iexact H10
  isplitl [H11]
  · iexists _; isplitr; · ipureintro; exact harg11.read_unread _
    iexact H11
  isplitl [H18]
  · iexists _; isplitr; · ipureintro; exact harg18.read_unread _
    iexact H18
  iexists _; isplitr
  swap; · iexact H19
  ipureintro
  iterate 4 rw [View.read_writes_cons_put _ _ _ _ _ rfl]
  simp only [View.writes_nil, View.readAt_eq_ld, hf10, hf11, hf18, hf19, View.ld_unit_zero (S := S4x1024x256) off3_zero, View.ld_unit_zero (S := S1x256) off2_zero, View.ld_unit_zero (S := S64x1024) off2_zero]

end Cert.KernelAtIdeal.Mega

end
-- ==== Proof.KA.MegaRunE.lean ====
module

public import proofs.«01_k».proof.Proof.KA.MegaRuns

@[expose] public section

set_option maxRecDepth 16384

noncomputable section

namespace Cert.KernelAtIdeal.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAtIdeal.Gen

variable {F : FTy → Type} [FloatOps F]

local notation "𝕄" => MT nD τ sig Unit (Elt F) ℕ (UR sig nD τ) ℕ

set_option maxHeartbeats 1600000 in
/-- A point of the last two transposed convolutions: a block of the output is stored. -/
theorem runE (c : Dev nD) (i : grid1.Coords) (arg1 : Memref sig .tc .vmem S64x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S512x64 .f32) (harg6 : arg6.IsWhole) (arg7 : Memref sig .tc .vmem S64x512 .f32) (harg7 : arg7.IsWhole) (arg8 : Memref sig .tc .vmem S2048x1024 .f32) (harg8 : arg8.IsWhole) (arg9 : Memref sig .tc .vmem S1x1024 .f32) (harg9 : arg9.IsWhole) (arg10 : Memref sig .tc .vmem S4x1024x256 .f32) (harg10 : arg10.IsWhole) (arg11 : Memref sig .tc .vmem S1x256 .f32) (harg11 : arg11.IsWhole) (arg12 : Memref sig .tc .vmem S256x2048 .f32) (harg12 : arg12.IsWhole) (arg13 : Memref sig .tc .vmem S1x2048 .f32) (harg13 : arg13.IsWhole) (arg14 : Memref sig .tc .vmem S2048x64 .f32) (harg14 : arg14.IsWhole) (arg15 : Memref sig .tc .vmem S1x64 .f32) (harg15 : arg15.IsWhole) (arg16 : Memref sig .tc .vmem S512x64 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S4096x256 .f32) (harg19 : arg19.IsWhole) (h1 : ¬c1 i) (h2 : ¬c2 i) (h3 : ¬c3 i) (h4 : ¬k1_cond4 i = 1#1) (h5 : k1_cond5 i = 1#1) (x12 : Vec F S256x2048 .f32) (x13 : Vec F S1x2048 .f32) (x14 : Vec F S2048x64 .f32) (x15 : Vec F S1x64 .f32) (x19 : Vec F S4096x256 .f32) (E : Set ℕ) (K : PUnit → sProp 𝕄) :
    iprop(owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg19 fullShare x19 ∗ (∃ d, owns (c : Thread nD τ) arg16 fullShare d)
      ∗ (iprop(owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg19 fullShare x19 ∗ owns (c : Thread nD τ) arg16 fullShare (k1_pay6 (View.ld x19 (Rect.unit (s := S4096x256) (k1_off2 i) S512x256.size (k1_off2_inb i h5))) x12 x13 x14 x15)) -∗ K ⟨⟩))
      ⊢ wp frame (wpE (defs₀ (F := F)) Variants.none c none) E (cc1__mega_kern i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__mega_kern_eq_skeleton]; unfold cc1__mega_kern_skel
  unfold owns
  iintro ⟨⟨%f12, %hf12, H12⟩, ⟨%f13, %hf13, H13⟩, ⟨%f14, %hf14, H14⟩, ⟨%f15, %hf15, H15⟩, ⟨%f19, %hf19, H19⟩, ⟨%d16, %f16, -, H16⟩, Hk⟩
  obtain rfl := harg12.eq_unread hf12; obtain rfl := harg13.eq_unread hf13; obtain rfl := harg14.eq_unread hf14; obtain rfl := harg15.eq_unread hf15; obtain rfl := harg19.eq_unread hf19
  sl_exec (disch := first | sl_exact h1 | sl_exact h2 | sl_exact h3 | sl_exact h4 | sl_exact h5)
  sl_step
  iapply Hk
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H19]
  · iexists _; isplitr; · ipureintro; exact harg19.read_unread _
    iexact H19
  iexists _; isplitr
  swap; · iexact H16
  ipureintro
  sl_unfold_words
  rw [View.read_writes_full]
  simp only [View.readAt_eq_ld, hf12, hf13, hf14, hf15, View.ld_unit_zero (S := S256x2048) off2_zero, View.ld_unit_zero (S := S1x2048) off2_zero, View.ld_unit_zero (S := S2048x64) off2_zero, View.ld_unit_zero (S := S1x64) off2_zero, hf19]

end Cert.KernelAtIdeal.Mega

end
-- ==== Proof.KA.MegaData.lean ====
module

public import proofs.«01_k».proof.Proof.KA.MegaRunC
public import proofs.«01_k».proof.Proof.KA.MegaRunD
public import proofs.«01_k».proof.Proof.KA.MegaRunE
public import Idealize.ShloMosaic.Lib.Pointwise

@[expose] public section

set_option maxRecDepth 16384

noncomputable section

namespace Cert.KernelAtIdeal.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAtIdeal.Gen

variable {F : FTy → Type} [FloatOps F]

local notation "𝕄" => MT nD τ sig Unit (Elt F) ℕ (UR sig nD τ) ℕ

/-- The third window of scratch: whole scoped buffers of the kernel's own, passed beside the windows. -/
abbrev scA : Memref sig .tc .vmem S64x1024 .f32 := Memref.whole cc1_scratch0
abbrev scD : Memref sig .tc .vmem S64x1024 .f32 := Memref.whole cc1_scratch1
abbrev scW : Memref sig .tc .vmem S4096x256 .f32 := Memref.whole cc1_scratch2

/-- What the region's invariant carries besides the kernel's own scratch: the other scoped buffers and the generator
    register, at anything. -/
def Oth (c : Dev nD) : sProp 𝕄 :=
  iprop(Pipeline.scopedRestBut (Ix := Unit) (Name := ℕ) (U := UR sig nD τ) (Lvl := ℕ) (Val := Elt F) spec1 c [cc1_scratch0, cc1_scratch1, cc1_scratch2] ∗ (∃ r, prngReg c r))

/-- The library's invariant with the kernel's three scratch operands as memrefs owned at some contents. -/
theorem PhiA1_eq (c : Dev nD) :
    (Pipeline.ΦA spec1 c : sProp 𝕄)
      = iprop(iprop((∃ d, owns (c : Thread nD τ) scA fullShare d) ∗ (∃ d, owns (c : Thread nD τ) scD fullShare d) ∗ (∃ d, owns (c : Thread nD τ) scW fullShare d)) ∗ Oth c) := by
  unfold Pipeline.ΦA Oth
  rw [Pipeline.scopedRest_split_of_list spec1 c [cc1_scratch0, cc1_scratch1, cc1_scratch2] (by decide) (by decide)]
  simp only [scA, scD, scW, owns_whole]
  exact Idealize.SL.BI.equiv_iff.mp ⟨Idealize.SL.BI.sep_assoc, Idealize.SL.BI.sep_assoc'⟩

/-! ## Which point is in which case -/

/-- The grid coordinate of a point is its position. -/
theorem coord (t : Fin cfg1.N) : (grid1.coords t 0).val = t.val % 33 := by
  have e0 : (grid1.coords t 0).val = t.val / 1 % 33 := Pipeline.Grid.coords_val t 0 (by decide) rfl
  rw [e0, Nat.div_one]
theorem t_lt (t : Fin cfg1.N) : t.val < 33 := Nat.lt_of_lt_of_eq t.isLt N_1
theorem hc1 (t : Fin cfg1.N) : c1 (grid1.coords t) ↔ t.val = 0 := by
  have ht := t_lt t
  simp only [c1, coord]
  revert ht; generalize t.val = n; revert n; decide
theorem hc2 (t : Fin cfg1.N) : c2 (grid1.coords t) ↔ t.val < 8 := by
  have ht := t_lt t
  simp only [c2, coord]
  revert ht; generalize t.val = n; revert n; decide
theorem hc3 (t : Fin cfg1.N) : c3 (grid1.coords t) ↔ t.val = 8 := by
  have ht := t_lt t
  simp only [c3, coord]
  revert ht; generalize t.val = n; revert n; decide
theorem hc4 (t : Fin cfg1.N) : k1_cond4 (grid1.coords t) = 1#1 ↔ 9 ≤ t.val ∧ t.val < 25 := by
  have ht := t_lt t
  simp only [k1_cond4, coord]
  revert ht; generalize t.val = n; revert n; decide
theorem hc5 (t : Fin cfg1.N) : k1_cond5 (grid1.coords t) = 1#1 ↔ 25 ≤ t.val := by
  have ht := t_lt t
  simp only [k1_cond5, coord]
  revert ht; generalize t.val = n; revert n; decide
/-- The rows of the intermediate image a point of the fourth case stores start at `256 (t - 9)`. -/
theorem hoff1 (t : Fin cfg1.N) (h : 9 ≤ t.val ∧ t.val < 25) (r : Fin 4) :
    k1_off1 (grid1.coords t) (BitVec.ofNat 32 (64 * r.val)) = ![256 * (t.val - 9) + 64 * r.val, 0] := by
  have ht := t_lt t
  simp only [k1_off1, coord]
  revert h r; revert ht; generalize t.val = n; revert n; decide
/-- The rows a point of the fifth case loads start at `512 (t - 25)`. -/
theorem hoff2 (t : Fin cfg1.N) (h : 25 ≤ t.val) :
    k1_off2 (grid1.coords t) = ![512 * (t.val - 25), 0] := by
  have h2 := t_lt t
  simp only [k1_off2, coord]
  revert h2 h; generalize t.val = n; revert n; decide

variable (V : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk V c 11 t) (t : Fin cfg1.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk V c 12 t) (t : Fin cfg1.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk V c 13 t) (t : Fin cfg1.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk V c 14 t) (t : Fin cfg1.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- The point at position `n`. -/
def pt (n : ℕ) : Fin cfg1.N := ⟨n % 33, Nat.lt_of_lt_of_eq (Nat.mod_lt _ (by decide)) N_1.symm⟩
theorem pt_val (t : Fin cfg1.N) : pt t.val = t := Fin.ext (Nat.mod_eq_of_lt (t_lt t))

/-- The accumulator after point `n` of the first dense layer. -/
def accAt (c : Dev nD) : ℕ → Vec F S64x1024 .f32
  | 0 => k1_pay2 (k1_pay1 (F := F)) (iblk V c 0 (pt 0)) (iblk V c 1 (pt 0))
  | n + 1 => k1_pay2 (accAt c n) (iblk V c 0 (pt (n + 1))) (iblk V c 1 (pt (n + 1)))

theorem pt8 : (pt 8).val = 8 := rfl
/-- The decoder's input: what the point of the codebook look-up leaves. -/
def dV (c : Dev nD) : Vec F S64x1024 .f32 :=
  View.canon (runC (F := F) c (grid1.coords (pt 8)) (st1_0 (pt 8)) (hstage1_0 ((cfg1.slots (pt 8) 0).cast nbuf1_0)) (st1_1 (pt 8)) (hstage1_1 ((cfg1.slots (pt 8) 1).cast nbuf1_1)) (st1_2 (pt 8)) (hstage1_2 ((cfg1.slots (pt 8) 2).cast nbuf1_2)) (st1_3 (pt 8)) (hstage1_3 ((cfg1.slots (pt 8) 3).cast nbuf1_3)) (st1_4 (pt 8)) (hstage1_4 ((cfg1.slots (pt 8) 4).cast nbuf1_4)) (st1_5 (pt 8)) (hstage1_5 ((cfg1.slots (pt 8) 5).cast nbuf1_5)) (st1_6 (pt 8)) (hstage1_6 ((cfg1.slots (pt 8) 6).cast nbuf1_6)) (st1_7 (pt 8)) (hstage1_7 ((cfg1.slots (pt 8) 7).cast nbuf1_7)) (st1_8 (pt 8)) (hstage1_8 ((cfg1.slots (pt 8) 8).cast nbuf1_8)) (st1_9 (pt 8)) (hstage1_9 ((cfg1.slots (pt 8) 9).cast nbuf1_9)) (st1_10 (pt 8)) (hstage1_10 ((cfg1.slots (pt 8) 10).cast nbuf1_10)) (st1_11 (pt 8)) (hstage1_11 ((cfg1.slots (pt 8) 11).cast nbuf1_11)) (st1_12 (pt 8)) (hstage1_12 ((cfg1.slots (pt 8) 12).cast nbuf1_12)) (st1_13 (pt 8)) (hstage1_13 ((cfg1.slots (pt 8) 13).cast nbuf1_13)) (st1_14 (pt 8)) (hstage1_14 ((cfg1.slots (pt 8) 14).cast nbuf1_14)) (st1_15 (pt 8)) (hstage1_15 ((cfg1.slots (pt 8) 15).cast nbuf1_15)) scA (Memref.isWhole_whole _) scD (Memref.isWhole_whole _) scW (Memref.isWhole_whole _)
    (fun h => absurd ((hc1 _).1 h) (by decide)) (fun h => absurd ((hc2 _).1 h) (by decide)) ((hc3 _).2 rfl) (fun h => absurd ((hc4 _).1 h) (by decide)) (fun h => absurd ((hc5 _).1 h) (by decide))
    (iblk V c 2 (pt 8)) (iblk V c 3 (pt 8)) (iblk V c 4 (pt 8)) (iblk V c 5 (pt 8)) (iblk V c 6 (pt 8)) (iblk V c 7 (pt 8)) (iblk V c 8 (pt 8)) (accAt V c 7)).1

/-- The band of rows `r` (of four) the block `k` of the transposed convolution's weights gives from the input `x`. -/
def band (x : Vec F S64x1024 .f32) (k : Vec F S4x1024x256 .f32) (b : Vec F S1x256 .f32) (r : Fin 4) : Vec F S64x256 .f32 :=
  match r with
  | 0 => k1_pay55 x k b
  | 1 => k1_pay56 x k b
  | 2 => k1_pay4 (k1_pay57 x k) b
  | 3 => k1_pay5 x (k1_pay54 k) b

/-- The intermediate image, whole: row `256 j + 64 r + q` is row `q` of band `r` of weight block `j`. -/
def t1V (c : Dev nD) : Vec F S4096x256 .f32 := fun y =>
  band (dV V c) (iblk V c 9 (pt (9 + (y 0).val / 256))) (iblk V c 10 (pt (9 + (y 0).val / 256)))
    ⟨(y 0).val / 64 % 4, Nat.mod_lt _ (by decide)⟩ (ix2 (n0 := 64) (n1 := 256) ⟨(y 0).val % 64, Nat.mod_lt _ (by decide)⟩ (y 1))

/-- The 512 rows of it the point `n` of the last case loads. -/
def rowsV (c : Dev nD) (n : ℕ) : Vec F S512x256 .f32 := fun y =>
  t1V V c (ix2 (n0 := 4096) (n1 := 256) ⟨(512 * (n - 25) + (y 0).val) % 4096, Nat.mod_lt _ (by decide)⟩ (y 1))

/-- What the output's buffer holds after point `t` of the last case. -/
def outV (c : Dev nD) (t : Fin cfg1.N) : Vec F S512x64 .f32 :=
  k1_pay6 (rowsV V c t.val) (iblk V c 11 t) (iblk V c 12 t) (iblk V c 13 t) (iblk V c 14 t)

/-- What the scratch is known to hold before point `n`. -/
structure Inv (c : Dev nD) (n : ℕ) (a d : Vec F S64x1024 .f32) (w : Vec F S4096x256 .f32) : Prop where
  acc : 1 ≤ n → n ≤ 8 → a = accAt V c (n - 1)
  dec : 9 ≤ n → d = dV V c
  img : 9 ≤ n → ∀ y : S4096x256.Idx, (y 0).val < 256 * (n - 9) → w y = t1V V c y

/-- The region's invariant before point `n`. -/
def Phi (c : Dev nD) (n : ℕ) : sProp 𝕄 :=
  iprop(∃ a, ∃ d, ∃ w, ⌜Inv V c n a d w⌝ ∗ owns (c : Thread nD τ) scA fullShare a ∗ owns (c : Thread nD τ) scD fullShare d ∗ owns (c : Thread nD τ) scW fullShare w ∗ Oth c)

/-- The proof data of the pipeline on core `c`. -/
def dats (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => outV V c t
    | ⟨_ + 16, h⟩ => absurd h (Nat.not_lt.2 (Nat.le_add_left _ _))
  Φ t := Phi V c t.val
  q _ := fullShare
  owed _ := 0

theorem A_eq (c : Dev nD) (w : Fin cfg1.W) : (dats V c).A w = V c (Pipeline.arrRef spec1 w) := by
  dsimp only [dats]
theorem after1_0 (c : Dev nD) (t : Fin cfg1.N) : (dats V c).after 0 t = iblk V c 0 t := by dsimp only [dats]
theorem after1_1 (c : Dev nD) (t : Fin cfg1.N) : (dats V c).after 1 t = iblk V c 1 t := by dsimp only [dats]
theorem after1_2 (c : Dev nD) (t : Fin cfg1.N) : (dats V c).after 2 t = iblk V c 2 t := by dsimp only [dats]
theorem after1_3 (c : Dev nD) (t : Fin cfg1.N) : (dats V c).after 3 t = iblk V c 3 t := by dsimp only [dats]
theorem after1_4 (c : Dev nD) (t : Fin cfg1.N) : (dats V c).after 4 t = iblk V c 4 t := by dsimp only [dats]
theorem after1_5 (c : Dev nD) (t : Fin cfg1.N) : (dats V c).after 5 t = iblk V c 5 t := by dsimp only [dats]
theorem after1_6 (c : Dev nD) (t : Fin cfg1.N) : (dats V c).after 6 t = iblk V c 6 t := by dsimp only [dats]
theorem after1_7 (c : Dev nD) (t : Fin cfg1.N) : (dats V c).after 7 t = iblk V c 7 t := by dsimp only [dats]
theorem after1_8 (c : Dev nD) (t : Fin cfg1.N) : (dats V c).after 8 t = iblk V c 8 t := by dsimp only [dats]
theorem after1_9 (c : Dev nD) (t : Fin cfg1.N) : (dats V c).after 9 t = iblk V c 9 t := by dsimp only [dats]
theorem after1_10 (c : Dev nD) (t : Fin cfg1.N) : (dats V c).after 10 t = iblk V c 10 t := by dsimp only [dats]
theorem after1_11 (c : Dev nD) (t : Fin cfg1.N) : (dats V c).after 11 t = iblk V c 11 t := by dsimp only [dats]
theorem after1_12 (c : Dev nD) (t : Fin cfg1.N) : (dats V c).after 12 t = iblk V c 12 t := by dsimp only [dats]
theorem after1_13 (c : Dev nD) (t : Fin cfg1.N) : (dats V c).after 13 t = iblk V c 13 t := by dsimp only [dats]
theorem after1_14 (c : Dev nD) (t : Fin cfg1.N) : (dats V c).after 14 t = iblk V c 14 t := by dsimp only [dats]
theorem after1_15 (c : Dev nD) (t : Fin cfg1.N) : (dats V c).after 15 t = outV V c t := by dsimp only [dats]
theorem before1_0 (c : Dev nD) (t : Fin cfg1.N) (d) : (dats V c).before 0 t d = iblk V c 0 t :=
  before1_0_of V (dats V c) (A_eq V c 0) (after1_0 V c) t d
theorem before1_1 (c : Dev nD) (t : Fin cfg1.N) (d) : (dats V c).before 1 t d = iblk V c 1 t :=
  before1_1_of V (dats V c) (A_eq V c 1) (after1_1 V c) t d
theorem before1_2 (c : Dev nD) (t : Fin cfg1.N) (d) : (dats V c).before 2 t d = iblk V c 2 t :=
  before1_2_of V (dats V c) (A_eq V c 2) (after1_2 V c) t d
theorem before1_3 (c : Dev nD) (t : Fin cfg1.N) (d) : (dats V c).before 3 t d = iblk V c 3 t :=
  before1_3_of V (dats V c) (A_eq V c 3) (after1_3 V c) t d
theorem before1_4 (c : Dev nD) (t : Fin cfg1.N) (d) : (dats V c).before 4 t d = iblk V c 4 t :=
  before1_4_of V (dats V c) (A_eq V c 4) (after1_4 V c) t d
theorem before1_5 (c : Dev nD) (t : Fin cfg1.N) (d) : (dats V c).before 5 t d = iblk V c 5 t :=
  before1_5_of V (dats V c) (A_eq V c 5) (after1_5 V c) t d
theorem before1_6 (c : Dev nD) (t : Fin cfg1.N) (d) : (dats V c).before 6 t d = iblk V c 6 t :=
  before1_6_of V (dats V c) (A_eq V c 6) (after1_6 V c) t d
theorem before1_7 (c : Dev nD) (t : Fin cfg1.N) (d) : (dats V c).before 7 t d = iblk V c 7 t :=
  before1_7_of V (dats V c) (A_eq V c 7) (after1_7 V c) t d
theorem before1_8 (c : Dev nD) (t : Fin cfg1.N) (d) : (dats V c).before 8 t d = iblk V c 8 t :=
  before1_8_of V (dats V c) (A_eq V c 8) (after1_8 V c) t d
theorem before1_9 (c : Dev nD) (t : Fin cfg1.N) (d) : (dats V c).before 9 t d = iblk V c 9 t :=
  before1_9_of V (dats V c) (A_eq V c 9) (after1_9 V c) t d
theorem before1_10 (c : Dev nD) (t : Fin cfg1.N) (d) : (dats V c).before 10 t d = iblk V c 10 t :=
  before1_10_of V (dats V c) (A_eq V c 10) (after1_10 V c) t d
theorem before1_11 (c : Dev nD) (t : Fin cfg1.N) (d) : (dats V c).before 11 t d = iblk V c 11 t :=
  before1_11_of V (dats V c) (A_eq V c 11) (after1_11 V c) t d
theorem before1_12 (c : Dev nD) (t : Fin cfg1.N) (d) : (dats V c).before 12 t d = iblk V c 12 t :=
  before1_12_of V (dats V c) (A_eq V c 12) (after1_12 V c) t d
theorem before1_13 (c : Dev nD) (t : Fin cfg1.N) (d) : (dats V c).before 13 t d = iblk V c 13 t :=
  before1_13_of V (dats V c) (A_eq V c 13) (after1_13 V c) t d
theorem before1_14 (c : Dev nD) (t : Fin cfg1.N) (d) : (dats V c).before 14 t d = iblk V c 14 t :=
  before1_14_of V (dats V c) (A_eq V c 14) (after1_14 V c) t d
end Cert.KernelAtIdeal.Mega

end
-- ==== Proof.KA.MegaBody.lean ====
module

public import proofs.«01_k».proof.Proof.KA.MegaData

@[expose] public section

set_option maxRecDepth 16384

noncomputable section

namespace Cert.KernelAtIdeal.Mega

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAtIdeal.Gen

variable {F : FTy → Type} [FloatOps F]

local notation "𝕄" => MT nD τ sig Unit (Elt F) ℕ (UR sig nD τ) ℕ

theorem put_rows (x : Vec F S4096x256 .f32) (o : ℕ) (w : Vec F S64x256 .f32) (y : S4096x256.Idx) {off : Fin 2 → ℕ} (ho : off = ![o, 0]) :
    VecWindow.put (s := S4096x256) x off S64x256.size w y
      = if h : o ≤ (y 0).val ∧ (y 0).val < o + 64 then w (ix2 (n0 := 64) (n1 := 256) ⟨(y 0).val - o, by omega⟩ (y 1)) else x y := by
  subst ho
  unfold VecWindow.put
  have h1 : (y 1).val < 256 := (y 1).isLt
  by_cases h : o ≤ (y 0).val ∧ (y 0).val < o + 64
  · rw [dif_pos h, dif_pos (by
      intro a
      match a with
      | ⟨0, _⟩ => exact h
      | ⟨1, _⟩ => exact ⟨Nat.zero_le _, by simpa using h1⟩)]
    congr 1
    funext a
    match a with
    | ⟨0, _⟩ => rfl
    | ⟨1, _⟩ => rfl
  · rw [dif_neg h, dif_neg (fun hh => h (hh 0))]

variable (V : Dev nD → Valuation τ sig (Elt F))

theorem t1V_at (c : Dev nD) (t : Fin cfg1.N) (ht : 9 ≤ t.val ∧ t.val < 25) (r : Fin 4) (y : S4096x256.Idx)
    (h : 256 * (t.val - 9) + 64 * r.val ≤ (y 0).val ∧ (y 0).val < 256 * (t.val - 9) + 64 * r.val + 64) :
    band (dV V c) (iblk V c 9 t) (iblk V c 10 t) r (ix2 (n0 := 64) (n1 := 256) ⟨(y 0).val - (256 * (t.val - 9) + 64 * r.val), by omega⟩ (y 1))
      = t1V V c y := by
  unfold t1V
  have e1 : 9 + (y 0).val / 256 = t.val := by omega
  have e2 : (⟨(y 0).val / 64 % 4, Nat.mod_lt _ (by decide)⟩ : Fin 4) = r := Fin.ext (by simp only; omega)
  have e3 : (⟨(y 0).val % 64, Nat.mod_lt _ (by decide)⟩ : Fin 64) = ⟨(y 0).val - (256 * (t.val - 9) + 64 * r.val), by omega⟩ := Fin.ext (by simp only; omega)
  rw [e2, e3, e1, pt_val]

/-- A point of the fourth case extends the known rows of the image by its four bands. -/
theorem img_step (c : Dev nD) (t : Fin cfg1.N) (ht : 9 ≤ t.val ∧ t.val < 25) (x : Vec F S4096x256 .f32)
    (hx : ∀ y : S4096x256.Idx, (y 0).val < 256 * (t.val - 9) → x y = t1V V c y)
    (y : S4096x256.Idx) (hy : (y 0).val < 256 * (t.val + 1 - 9)) :
    VecWindow.put (VecWindow.put (VecWindow.put (VecWindow.put x (k1_off1 (grid1.coords t) 0#32) S64x256.size (k1_pay55 (dV V c) (iblk V c 9 t) (iblk V c 10 t)))
      (k1_off1 (grid1.coords t) 64#32) S64x256.size (k1_pay56 (dV V c) (iblk V c 9 t) (iblk V c 10 t))) (k1_off1 (grid1.coords t) 128#32) S64x256.size (k1_pay4 (k1_pay57 (dV V c) (iblk V c 9 t)) (iblk V c 10 t)))
      (k1_off1 (grid1.coords t) 192#32) S64x256.size (k1_pay5 (dV V c) (k1_pay54 (iblk V c 9 t)) (iblk V c 10 t)) y = t1V V c y := by
  have g0 : k1_off1 (grid1.coords t) 0#32 = ![256 * (t.val - 9) + 64 * (0 : Fin 4).val, 0] := hoff1 t ht 0
  have g1 : k1_off1 (grid1.coords t) 64#32 = ![256 * (t.val - 9) + 64 * (1 : Fin 4).val, 0] := hoff1 t ht 1
  have g2 : k1_off1 (grid1.coords t) 128#32 = ![256 * (t.val - 9) + 64 * (2 : Fin 4).val, 0] := hoff1 t ht 2
  have g3 : k1_off1 (grid1.coords t) 192#32 = ![256 * (t.val - 9) + 64 * (3 : Fin 4).val, 0] := hoff1 t ht 3
  rw [put_rows _ _ _ _ g3, put_rows _ _ _ _ g2, put_rows _ _ _ _ g1, put_rows _ _ _ _ g0]
  have key := t1V_at V c t ht
  by_cases h3 : 256 * (t.val - 9) + 64 * (3 : Fin 4).val ≤ (y 0).val ∧ (y 0).val < 256 * (t.val - 9) + 64 * (3 : Fin 4).val + 64
  · rw [dif_pos h3]; exact key 3 y h3
  rw [dif_neg h3]
  by_cases h2 : 256 * (t.val - 9) + 64 * (2 : Fin 4).val ≤ (y 0).val ∧ (y 0).val < 256 * (t.val - 9) + 64 * (2 : Fin 4).val + 64
  · rw [dif_pos h2]; exact key 2 y h2
  rw [dif_neg h2]
  by_cases h1 : 256 * (t.val - 9) + 64 * (1 : Fin 4).val ≤ (y 0).val ∧ (y 0).val < 256 * (t.val - 9) + 64 * (1 : Fin 4).val + 64
  · rw [dif_pos h1]; exact key 1 y h1
  rw [dif_neg h1]
  by_cases h0 : 256 * (t.val - 9) + 64 * (0 : Fin 4).val ≤ (y 0).val ∧ (y 0).val < 256 * (t.val - 9) + 64 * (0 : Fin 4).val + 64
  · rw [dif_pos h0]; exact key 0 y h0
  rw [dif_neg h0]
  apply hx
  have e0 : (0 : Fin 4).val = 0 := rfl
  have e1 : (1 : Fin 4).val = 1 := rfl
  have e2 : (2 : Fin 4).val = 2 := rfl
  have e3 : (3 : Fin 4).val = 3 := rfl
  rw [e0] at h0; rw [e1] at h1; rw [e2] at h2; rw [e3] at h3
  omega

/-- At a point of the last case every row is known, so its load reads the image's rows. -/
theorem rows_ld (c : Dev nD) (t : Fin cfg1.N) (ht : 25 ≤ t.val) (h5 : k1_cond5 (grid1.coords t) = 1#1) (x : Vec F S4096x256 .f32)
    (hx : ∀ y : S4096x256.Idx, (y 0).val < 256 * (t.val - 9) → x y = t1V V c y) :
    View.ld x (Rect.unit (s := S4096x256) (k1_off2 (grid1.coords t)) S512x256.size (k1_off2_inb (grid1.coords t) h5)) = rowsV V c t.val := by
  funext y
  have h33 := t_lt t
  have hy0 : (y 0).val < 512 := (y 0).isLt
  unfold rowsV
  have e : (Rect.unit (s := S4096x256) (k1_off2 (grid1.coords t)) S512x256.size (k1_off2_inb (grid1.coords t) h5)).emb y
      = ix2 (n0 := 4096) (n1 := 256) ⟨(512 * (t.val - 25) + (y 0).val) % 4096, Nat.mod_lt _ (by decide)⟩ (y 1) := by
    funext a
    apply Fin.ext
    match a with
    | ⟨0, _⟩ =>
      show k1_off2 (grid1.coords t) 0 + 1 * (y 0).val = (512 * (t.val - 25) + (y 0).val) % 4096
      have e0 : k1_off2 (grid1.coords t) 0 = 512 * (t.val - 25) := congrFun (hoff2 t ht) 0
      omega
    | ⟨1, _⟩ =>
      show k1_off2 (grid1.coords t) 1 + 1 * (y 1).val = (y 1).val
      have e0 : k1_off2 (grid1.coords t) 1 = 0 := congrFun (hoff2 t ht) 1
      omega
  show x ((Rect.unit (s := S4096x256) (k1_off2 (grid1.coords t)) S512x256.size (k1_off2_inb (grid1.coords t) h5)).emb y) = _
  rw [e]
  apply hx
  show (512 * (t.val - 25) + (y 0).val) % 4096 < 256 * (t.val - 9)
  omega

/-- What the output window's buffer is left at: as found before the last case's points, else at the point's block. -/
def post15 (c : Dev nD) (t : Fin cfg1.N) : sProp 𝕄 :=
  if 25 ≤ t.val then owns (c : Thread nD τ) (st1_15 t) fullShare ((dats V c).after 15 t)
  else iprop(∃ d, owns (c : Thread nD τ) (st1_15 t) fullShare ((dats V c).before 15 t d))

/-- What the body is called with at point `t`, the windows one by one; -/
def bodyPre (c : Dev nD) (t : Fin cfg1.N) : sProp 𝕄 :=
  iprop((dats V c).Φ t.castSucc ∗ (dats V c).owesAt () t.castSucc ∗ (∃ d, owns (c : Thread nD τ) (st1_0 t) fullShare ((dats V c).before 0 t d)) ∗ (∃ d, owns (c : Thread nD τ) (st1_1 t) fullShare ((dats V c).before 1 t d)) ∗ (∃ d, owns (c : Thread nD τ) (st1_2 t) fullShare ((dats V c).before 2 t d)) ∗ (∃ d, owns (c : Thread nD τ) (st1_3 t) fullShare ((dats V c).before 3 t d)) ∗ (∃ d, owns (c : Thread nD τ) (st1_4 t) fullShare ((dats V c).before 4 t d)) ∗ (∃ d, owns (c : Thread nD τ) (st1_5 t) fullShare ((dats V c).before 5 t d)) ∗ (∃ d, owns (c : Thread nD τ) (st1_6 t) fullShare ((dats V c).before 6 t d)) ∗ (∃ d, owns (c : Thread nD τ) (st1_7 t) fullShare ((dats V c).before 7 t d)) ∗ (∃ d, owns (c : Thread nD τ) (st1_8 t) fullShare ((dats V c).before 8 t d)) ∗ (∃ d, owns (c : Thread nD τ) (st1_9 t) fullShare ((dats V c).before 9 t d)) ∗ (∃ d, owns (c : Thread nD τ) (st1_10 t) fullShare ((dats V c).before 10 t d)) ∗ (∃ d, owns (c : Thread nD τ) (st1_11 t) fullShare ((dats V c).before 11 t d)) ∗ (∃ d, owns (c : Thread nD τ) (st1_12 t) fullShare ((dats V c).before 12 t d)) ∗ (∃ d, owns (c : Thread nD τ) (st1_13 t) fullShare ((dats V c).before 13 t d)) ∗ (∃ d, owns (c : Thread nD τ) (st1_14 t) fullShare ((dats V c).before 14 t d)) ∗ (∃ d, owns (c : Thread nD τ) (st1_15 t) fullShare ((dats V c).before 15 t d)))

/-- and what it returns. -/
def bodyPost (c : Dev nD) (t : Fin cfg1.N) : sProp 𝕄 :=
  iprop((dats V c).Φ t.succ ∗ (dats V c).owesAt () t.succ ∗ owns (c : Thread nD τ) (st1_0 t) fullShare ((dats V c).after 0 t) ∗ owns (c : Thread nD τ) (st1_1 t) fullShare ((dats V c).after 1 t) ∗ owns (c : Thread nD τ) (st1_2 t) fullShare ((dats V c).after 2 t) ∗ owns (c : Thread nD τ) (st1_3 t) fullShare ((dats V c).after 3 t) ∗ owns (c : Thread nD τ) (st1_4 t) fullShare ((dats V c).after 4 t) ∗ owns (c : Thread nD τ) (st1_5 t) fullShare ((dats V c).after 5 t) ∗ owns (c : Thread nD τ) (st1_6 t) fullShare ((dats V c).after 6 t) ∗ owns (c : Thread nD τ) (st1_7 t) fullShare ((dats V c).after 7 t) ∗ owns (c : Thread nD τ) (st1_8 t) fullShare ((dats V c).after 8 t) ∗ owns (c : Thread nD τ) (st1_9 t) fullShare ((dats V c).after 9 t) ∗ owns (c : Thread nD τ) (st1_10 t) fullShare ((dats V c).after 10 t) ∗ owns (c : Thread nD τ) (st1_11 t) fullShare ((dats V c).after 11 t) ∗ owns (c : Thread nD τ) (st1_12 t) fullShare ((dats V c).after 12 t) ∗ owns (c : Thread nD τ) (st1_13 t) fullShare ((dats V c).after 13 t) ∗ owns (c : Thread nD τ) (st1_14 t) fullShare ((dats V c).after 14 t) ∗ post15 V c t)

set_option maxHeartbeats 1600000 in
theorem bodyA (c : Dev nD) (t : Fin cfg1.N) (hc : t.val = 0) :
    bodyPre V c t ⊢ wp frame (wpE (defs₀ (F := F)) Variants.none c none) Set.univ (bodyAt1 t) (fun _ => bodyPost V c t) := by
  have h33 := t_lt t
  unfold bodyPre bodyPost bodyAt1
  simp only [before1_0, before1_1, before1_2, before1_3, before1_4, before1_5, before1_6, before1_7, before1_8, before1_9, before1_10, before1_11, before1_12, before1_13, before1_14]
  rw [show (dats V c).owesAt () t.succ = (dats V c).owesAt () t.castSucc from rfl, after1_0, after1_1, after1_2, after1_3, after1_4, after1_5, after1_6, after1_7, after1_8, after1_9, after1_10, after1_11, after1_12, after1_13, after1_14]
  rw [show (dats V c).Φ t.succ = Phi V c (t.val + 1) from rfl, show (dats V c).Φ t.castSucc = Phi V c t.val from rfl]
  unfold Phi post15
  rw [if_neg (by omega)]
  iintro ⟨⟨%a, %d, %w, %hI, HA, HD, HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (runA c (grid1.coords t) _ _ _ _ _ _ _ _ _ _ _ _ _ _ _ _ _ _ _ _ _ _ _ _ _ _ _ _ _ _ _ _ _ _ _ _ _ _ ((hc1 t).2 hc) ((hc2 t).2 (by omega)) (fun h => absurd ((hc3 t).1 h) (by omega)) (fun h => absurd ((hc4 t).1 h) (by omega)) (fun h => absurd ((hc5 t).1 h) (by omega)) (iblk V c 0 t) (iblk V c 1 t) Set.univ _)
  isplitl [H0]; · iexact H0
  isplitl [H1]; · iexact H1
  isplitl [HA]; · iexists _; iexact HA
  iintro ⟨H0, H1, HA⟩
  isplitl [HA HD HW Hg]
  · iexists _; iexists _; iexists _
    isplitr
    swap
    · isplitl [HA]; · iexact HA
      isplitl [HD]; · iexact HD
      isplitl [HW]; · iexact HW
      iexact Hg
    ipureintro
    refine ⟨fun _ _ => ?_, fun h => absurd h (by omega), fun h => absurd h (by omega)⟩
    rw [hc]; have e : t = pt 0 := by rw [← hc, pt_val]
    rw [e]; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

set_option maxHeartbeats 1600000 in
theorem bodyB (c : Dev nD) (t : Fin cfg1.N) (hc : 0 < t.val ∧ t.val < 8) :
    bodyPre V c t ⊢ wp frame (wpE (defs₀ (F := F)) Variants.none c none) Set.univ (bodyAt1 t) (fun _ => bodyPost V c t) := by
  have h33 := t_lt t
  unfold bodyPre bodyPost bodyAt1
  simp only [before1_0, before1_1, before1_2, before1_3, before1_4, before1_5, before1_6, before1_7, before1_8, before1_9, before1_10, before1_11, before1_12, before1_13, before1_14]
  rw [show (dats V c).owesAt () t.succ = (dats V c).owesAt () t.castSucc from rfl, after1_0, after1_1, after1_2, after1_3, after1_4, after1_5, after1_6, after1_7, after1_8, after1_9, after1_10, after1_11, after1_12, after1_13, after1_14]
  rw [show (dats V c).Φ t.succ = Phi V c (t.val + 1) from rfl, show (dats V c).Φ t.castSucc = Phi V c t.val from rfl]
  unfold Phi post15
  rw [if_neg (by omega)]
  iintro ⟨⟨%a, %d, %w, %hI, HA, HD, HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (runB c (grid1.coords t) _ _ _ _ _ _ _ _ _ _ _ _ _ _ _ _ _ _ _ _ _ _ _ _ _ _ _ _ _ _ _ _ _ _ _ _ _ _ (fun h => absurd ((hc1 t).1 h) (by omega)) ((hc2 t).2 hc.2) (fun h => absurd ((hc3 t).1 h) (by omega)) (fun h => absurd ((hc4 t).1 h) (by omega)) (fun h => absurd ((hc5 t).1 h) (by omega)) (iblk V c 0 t) (iblk V c 1 t) a Set.univ _)
  isplitl [H0]; · iexact H0
  isplitl [H1]; · iexact H1
  isplitl [HA]; · iexact HA
  iintro ⟨H0, H1, HA⟩
  isplitl [HA HD HW Hg]
  · iexists _; iexists _; iexists _
    isplitr
    swap
    · isplitl [HA]; · iexact HA
      isplitl [HD]; · iexact HD
      isplitl [HW]; · iexact HW
      iexact Hg
    ipureintro
    refine ⟨fun _ _ => ?_, fun h => absurd h (by omega), fun h => absurd h (by omega)⟩
    rw [hI.acc (by omega) (by omega)]
    obtain ⟨k, hk⟩ : ∃ k, t.val = k + 1 := ⟨t.val - 1, by omega⟩
    have e : t = pt (k + 1) := by rw [← hk, pt_val]
    rw [Nat.add_sub_cancel, hk, Nat.add_sub_cancel, e]; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

set_option maxHeartbeats 1600000 in
theorem bodyC (c : Dev nD) (t : Fin cfg1.N) (hc : t.val = 8) :
    bodyPre V c t ⊢ wp frame (wpE (defs₀ (F := F)) Variants.none c none) Set.univ (bodyAt1 t) (fun _ => bodyPost V c t) := by
  have h33 := t_lt t
  unfold bodyPre bodyPost bodyAt1
  simp only [before1_0, before1_1, before1_2, before1_3, before1_4, before1_5, before1_6, before1_7, before1_8, before1_9, before1_10, before1_11, before1_12, before1_13, before1_14]
  rw [show (dats V c).owesAt () t.succ = (dats V c).owesAt () t.castSucc from rfl, after1_0, after1_1, after1_2, after1_3, after1_4, after1_5, after1_6, after1_7, after1_8, after1_9, after1_10, after1_11, after1_12, after1_13, after1_14]
  rw [show (dats V c).Φ t.succ = Phi V c (t.val + 1) from rfl, show (dats V c).Φ t.castSucc = Phi V c t.val from rfl]
  unfold Phi post15
  rw [if_neg (by omega)]
  iintro ⟨⟨%a, %d, %w, %hI, HA, HD, HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runC c (grid1.coords t) _ _ _ _ _ _ _ _ _ _ _ _ _ _ _ _ _ _ _ _ _ _ _ _ _ _ _ _ _ _ _ _ _ _ _ _ _ _ (fun h => absurd ((hc1 t).1 h) (by omega)) (fun h => absurd ((hc2 t).1 h) (by omega)) ((hc3 t).2 hc) (fun h => absurd ((hc4 t).1 h) (by omega)) (fun h => absurd ((hc5 t).1 h) (by omega)) (iblk V c 2 t) (iblk V c 3 t) (iblk V c 4 t) (iblk V c 5 t) (iblk V c 6 t) (iblk V c 7 t) (iblk V c 8 t) a).2 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  isplitl [HD]; · iexists _; iexact HD
  iintro ⟨H2, H3, H4, H5, H6, H7, H8, HA, ⟨%f, HD⟩⟩
  isplitl [HA HD HW Hg]
  · iexists _; iexists (dV V c); iexists _
    isplitr
    swap
    · isplitl [HA]; · iexact HA
      isplitl [HD]
      · unfold owns; iexists _; isplitr
        swap; · iexact HD
        ipureintro
        have e : t = pt 8 := by rw [← hc, pt_val]
        subst e
        obtain rfl := hI.acc (by decide) (by decide)
        exact View.read_writes_eq_canon _ _ _ (View.cover_of_wholeMem _ (by sl_whole_mem))
      isplitl [HW]; · iexact HW
      iexact Hg
    ipureintro
    exact ⟨fun _ h => absurd h (by omega), fun _ => rfl, fun _ y h => absurd h (by rw [hc]; omega)⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

set_option maxHeartbeats 1600000 in
theorem bodyD (c : Dev nD) (t : Fin cfg1.N) (hc : 9 ≤ t.val ∧ t.val < 25) :
    bodyPre V c t ⊢ wp frame (wpE (defs₀ (F := F)) Variants.none c none) Set.univ (bodyAt1 t) (fun _ => bodyPost V c t) := by
  have h33 := t_lt t
  unfold bodyPre bodyPost bodyAt1
  simp only [before1_0, before1_1, before1_2, before1_3, before1_4, before1_5, before1_6, before1_7, before1_8, before1_9, before1_10, before1_11, before1_12, before1_13, before1_14]
  rw [show (dats V c).owesAt () t.succ = (dats V c).owesAt () t.castSucc from rfl, after1_0, after1_1, after1_2, after1_3, after1_4, after1_5, after1_6, after1_7, after1_8, after1_9, after1_10, after1_11, after1_12, after1_13, after1_14]
  rw [show (dats V c).Φ t.succ = Phi V c (t.val + 1) from rfl, show (dats V c).Φ t.castSucc = Phi V c t.val from rfl]
  unfold Phi post15
  rw [if_neg (by omega)]
  iintro ⟨⟨%a, %d, %w, %hI, HA, HD, HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  obtain rfl := hI.dec hc.1
  iapply (runD c (grid1.coords t) _ _ _ _ _ _ _ _ _ _ _ _ _ _ _ _ _ _ _ _ _ _ _ _ _ _ _ _ _ _ _ _ _ _ _ _ _ _ (fun h => absurd ((hc1 t).1 h) (by omega)) (fun h => absurd ((hc2 t).1 h) (by omega)) (fun h => absurd ((hc3 t).1 h) (by omega)) ((hc4 t).2 hc) (fun h => absurd ((hc5 t).1 h) (by omega)) (iblk V c 9 t) (iblk V c 10 t) (dV V c) w Set.univ _)
  isplitl [H9]; · iexact H9
  isplitl [H10]; · iexact H10
  isplitl [HD]; · iexact HD
  isplitl [HW]; · iexact HW
  iintro ⟨H9, H10, HD, HW⟩
  isplitl [HA HD HW Hg]
  · iexists _; iexists _; iexists _
    isplitr
    swap
    · isplitl [HA]; · iexact HA
      isplitl [HD]; · iexact HD
      isplitl [HW]; · iexact HW
      iexact Hg
    ipureintro
    exact ⟨fun _ h => absurd h (by omega), fun _ => rfl, fun _ y hy => img_step V c t hc w (hI.img hc.1) y hy⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

set_option maxHeartbeats 1600000 in
theorem bodyE (c : Dev nD) (t : Fin cfg1.N) (hc : 25 ≤ t.val) :
    bodyPre V c t ⊢ wp frame (wpE (defs₀ (F := F)) Variants.none c none) Set.univ (bodyAt1 t) (fun _ => bodyPost V c t) := by
  have h33 := t_lt t
  unfold bodyPre bodyPost bodyAt1
  simp only [before1_0, before1_1, before1_2, before1_3, before1_4, before1_5, before1_6, before1_7, before1_8, before1_9, before1_10, before1_11, before1_12, before1_13, before1_14]
  rw [show (dats V c).owesAt () t.succ = (dats V c).owesAt () t.castSucc from rfl, after1_0, after1_1, after1_2, after1_3, after1_4, after1_5, after1_6, after1_7, after1_8, after1_9, after1_10, after1_11, after1_12, after1_13, after1_14]
  rw [show (dats V c).Φ t.succ = Phi V c (t.val + 1) from rfl, show (dats V c).Φ t.castSucc = Phi V c t.val from rfl]
  unfold Phi post15
  rw [if_pos hc, after1_15]
  iintro ⟨⟨%a, %d, %w, %hI, HA, HD, HW, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (runE c (grid1.coords t) _ _ _ _ _ _ _ _ _ _ _ _ _ _ _ _ _ _ _ _ _ _ _ _ _ _ _ _ _ _ _ _ _ _ _ _ _ _ (fun h => absurd ((hc1 t).1 h) (by omega)) (fun h => absurd ((hc2 t).1 h) (by omega)) (fun h => absurd ((hc3 t).1 h) (by omega)) (fun h => absurd ((hc4 t).1 h) (by omega)) ((hc5 t).2 hc) (iblk V c 11 t) (iblk V c 12 t) (iblk V c 13 t) (iblk V c 14 t) w Set.univ _)
  isplitl [H11]; · iexact H11
  isplitl [H12]; · iexact H12
  isplitl [H13]; · iexact H13
  isplitl [H14]; · iexact H14
  isplitl [HW]; · iexact HW
  isplitl [H15]; · iexists _; iexact H15
  iintro ⟨H11, H12, H13, H14, HW, H15⟩
  rw [rows_ld V c t hc ((hc5 t).2 hc) w (hI.img (by omega))]
  isplitl [HA HD HW Hg]
  · iexists _; iexists _; iexists _
    isplitr
    swap
    · isplitl [HA]; · iexact HA
      isplitl [HD]; · iexact HD
      isplitl [HW]; · iexact HW
      iexact Hg
    ipureintro
    exact ⟨fun _ h => absurd h (by omega), fun _ => hI.dec (by omega), fun _ y hy => by
      by_cases h : (y 0).val < 256 * (t.val - 9)
      · exact hI.img (by omega) y h
      · have h0 : (y 0).val < 4096 := (y 0).isLt
        omega⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold outV; iexact H15

/-- The body at any point. -/
theorem sound_body (c : Dev nD) (t : Fin cfg1.N) :
    bodyPre V c t ⊢ wp frame (wpE (defs₀ (F := F)) Variants.none c none) Set.univ (bodyAt1 t) (fun _ => bodyPost V c t) := by
  have h33 := t_lt t
  by_cases hA : t.val = 0; · exact bodyA V c t hA
  by_cases hB : t.val < 8; · exact bodyB V c t ⟨by omega, hB⟩
  by_cases hC : t.val = 8; · exact bodyC V c t hC
  by_cases hD : t.val < 25; · exact bodyD V c t ⟨by omega, hD⟩
  exact bodyE V c t (by omega)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

theorem idle15 (t : Fin cfg1.N) : cfg1.idle 15 (cfg1.grid.coords t) = !decide (25 ≤ t.val) := by
  show (!(k1_cond5 (grid1.coords t) == 1#1)) = _
  by_cases h : 25 ≤ t.val
  · rw [(hc5 t).2 h, decide_eq_true h]; rfl
  · rw [decide_eq_false h, beq_false_of_ne (fun e => h ((hc5 t).1 e))]
theorem flush15 : ∀ t : Fin cfg1.N, t.val < 25 → (cfg1.win 15).flush t = false := by decide +kernel

/-- What the output window's buffer is left at is what the library asks. -/
theorem post15_leaves (c : Dev nD) (t : Fin cfg1.N) : post15 V c t ⊢ (dats V c).leavesExact 15 t := by
  unfold post15
  by_cases h : 25 ≤ t.val
  · rw [if_pos h]
    have hi : cfg1.idle 15 (cfg1.grid.coords t) = false := by rw [idle15, decide_eq_true h]; rfl
    unfold Dat.leavesExact; rw [hi]
  · rw [if_neg h]
    have hi : cfg1.idle 15 (cfg1.grid.coords t) = true := by rw [idle15, decide_eq_false h]; rfl
    rw [Dat.leavesExact_idle _ _ _ hi (flush15 t (by omega))]

/-- The library's body obligation, at every point. -/
theorem body_obligation (c : Dev nD) : BodyObligation (dats (F := F) V c) (defs₀ (F := F)) Variants.none () Set.univ := fun t => by
  rw [bigSep_W1, bigSep_W1, defs₀_row]
  refine triple_restated (sound_body V c t) rfl .rfl fun _ => ?_
  unfold bodyPost
  iterate 17 refine Idealize.SL.BI.sep_mono (Idealize.SL.BI.Entails.refl _) ?_
  exact post15_leaves V c t

/-- What the launch hands the region is the invariant before the first point. -/
theorem hin (c : Dev nD) : Pipeline.ΦA spec1 c ⊢ (dats V c).Φ 0 := by
  rw [show (dats V c).Φ 0 = Phi V c 0 from rfl, PhiA1_eq]
  unfold Phi
  iintro ⟨⟨⟨%a, HA⟩, ⟨%d, HD⟩, ⟨%w, HW⟩⟩, Hg⟩
  iexists _; iexists _; iexists _
  isplitr
  swap
  · isplitl [HA]; · iexact HA
    isplitl [HD]; · iexact HD
    isplitl [HW]; · iexact HW
    iexact Hg
  ipureintro
  exact ⟨fun h => absurd h (by decide), fun h => absurd h (by decide), fun h => absurd h (by decide)⟩

/-- After the last point the invariant gives it back. -/
theorem hout (c : Dev nD) : (dats V c).Φ (Fin.last cfg1.N) ⊢ Pipeline.ΦA spec1 c := by
  rw [show (dats V c).Φ (Fin.last cfg1.N) = Phi V c (Fin.last cfg1.N).val from rfl, PhiA1_eq]
  unfold Phi
  iintro ⟨%a, %d, %w, -, HA, HD, HW, Hg⟩
  isplitl [HA HD HW]
  · isplitl [HA]; · iexists _; iexact HA
    isplitl [HD]; · iexists _; iexact HD
    iexists _; iexact HW
  iexact Hg

end Cert.KernelAtIdeal.Mega

end
-- ==== Proof.KA.Run.lean ====
module

public import proofs.«01_k».proof.Proof.KA.EncData
public import proofs.«01_k».proof.Proof.KA.MegaBody
public import proofs.«01_k».proof.Proof.Gen.KernelAtIdeal.Regions
public import Idealize.ShloMosaic.Lib.Pipeline.RegionArraysS

@[expose] public section

set_option maxRecDepth 16384

noncomputable section

namespace Cert.KernelAtIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
open Cert.KernelAtIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first kernel call leaves: its result array as the run's witness says, every other buffer as before. -/
def outs1 : Outs (F := F) := fun _ r c => Pipeline.afterRegion (Enc.dats m c) (V9 m c) (Proc.devRef .tc r)

/-- The buffers before the second kernel call. -/
abbrev Vm (c : Dev nD) : Valuation τ sig (Elt F) := V13 m (outs1 m) c

/-- What the two kernel calls leave: the first call's contents up to its place in the program, the second's after it. -/
def outs : Outs (F := F) := fun k r c =>
  if k = 10 then outs1 m k r c else Pipeline.afterRegion (Mega.dats (Vm m) c) (Vm m c) (Proc.devRef .tc r)

theorem V10_outs (c : Dev nD) : V10 m (outs m) c = V10 m (outs1 m) c := by
  show Function.update (V9 m c) main_v74 (outs m 10 main_v74 c) = Function.update (V9 m c) main_v74 (outs1 m 10 main_v74 c)
  rw [show outs m 10 main_v74 c = outs1 m 10 main_v74 c from if_pos rfl]

theorem V13_outs (c : Dev nD) : V13 m (outs m) c = Vm m c := by
  show StableHlo.after hostOps1_2 (StableHlo.after hostOps1_1 (StableHlo.after hostOps1 (V10 m (outs m) c))) = _
  rw [V10_outs m c]

theorem outs_14 (c : Dev nD) : outs m 14 main_v103 c = Pipeline.afterRegion (Mega.dats (Vm m) c) (Vm m c) (Proc.devRef .tc main_v103) :=
  if_neg (by decide)

/-- The two calls' proof data. -/
def pdats : (p : Fin 2) → (c : Dev nD) → Dat τ (Elt F) Unit ℕ (UR sig nD τ) ℕ (cfgs p) c
  | ⟨0, _⟩ => fun c => Enc.dats m c
  | ⟨1, _⟩ => fun c => Mega.dats (Vm m) c
  | ⟨_ + 2, h⟩ => absurd h (Nat.not_lt.2 (Nat.le_add_left _ _))

open Classical in
/-- Every counter of a TensorCore has the one level. -/
def L : GSem nD τ sig → Finset Unit := fun g => if g.1.2 = .tc then {()} else ∅

abbrev lv : GSem nD τ sig → Unit → ℕ := fun _ _ => 0

/-- What rides beside the buffers: the core owes nothing, and its random-number register. -/
def E (c : Dev nD) : sProp 𝕄 :=
  iprop((∃ W, owes (c : Thread nD τ) (0 : CellTallies nD τ sig Unit) W) ∗ (∃ r, prngReg c r) ∗ BI.emp)

theorem cut (p : Fin 2) : Pipeline.LevelCut (pcfgs (F := F)) adm () L lv p (fun _ => 0) (fun _ => 0) where
  hι _ _ _ := by unfold L; rw [if_pos rfl]; exact Finset.mem_singleton.mpr rfl
  hιb _ _ _ := Nat.le_refl _
  hD _ _ _ h := absurd h (Nat.lt_irrefl _)

set_option backward.isDefEq.respectTransparency.types false in
/-- The first kernel call's segment. -/
def reg0 : Pipeline.RegionSeg (pcfgs (F := F)) adm (pdats m) () defs₀ Variants.none L lv 0 :=
  Pipeline.RegionSeg.ofHeldIn (pcfgs (F := F)) adm (pdats m) () defs₀ Variants.none L lv 0 (fun _ => 0) (Pipeline.ucRefs τ sig)
    (fun c => iprop(∃ r, prngReg c r)) (fun c => iprop(∃ r, prngReg c r)) (launch0.toP) rfl
    (fun c => (Enc.body_obligation m c).loose) (fun _ _ => rfl) (fun _ => rfl)
    (fun c w => (Enc.dats m c).share_full (fun _ => rfl) w)
    (fun c => Enc.hin m c) (fun c => Enc.hout m c) (fun _ => 0) (cut 0) (fun _ => BI.emp) (V9 m)
    (fun c w => Enc.A_eq m c w)

set_option backward.isDefEq.respectTransparency.types false in
/-- The second kernel call's segment. -/
def reg1 : Pipeline.RegionSeg (pcfgs (F := F)) adm (pdats m) () defs₀ Variants.none L lv 1 :=
  Pipeline.RegionSeg.ofHeldIn (pcfgs (F := F)) adm (pdats m) () defs₀ Variants.none L lv 1 (fun _ => 0) (Pipeline.ucRefs τ sig)
    (fun c => iprop(∃ r, prngReg c r)) (fun c => iprop(∃ r, prngReg c r)) (launch1.toP) rfl
    (fun c => (Mega.body_obligation (Vm m) c).loose) (fun _ _ => rfl) (fun _ => rfl)
    (fun c w => (Mega.dats (Vm m) c).share_full (fun _ => rfl) w)
    (fun c => Mega.hin (Vm m) c) (fun c => Mega.hout (Vm m) c) (fun _ => 0) (cut 1) (fun _ => BI.emp) (Vm m)
    (fun c w => Mega.A_eq (Vm m) c w)

theorem sub0 : Pipeline.arrRefs (τ := τ) (pcfgs (F := F) 0).spec ⊆ Pipeline.ucRefs τ sig :=
  Pipeline.arrRefs_sub_ucRefs _ (show ∀ w : Fin 8, (Pipeline.arrRef cfg0.spec w).isScoped = false from by decide)

theorem sub1 : Pipeline.arrRefs (τ := τ) (pcfgs (F := F) 1).spec ⊆ Pipeline.ucRefs τ sig :=
  Pipeline.arrRefs_sub_ucRefs _ (show ∀ w : Fin 16, (Pipeline.arrRef cfg1.spec w).isScoped = false from by decide)

theorem mem_ucRefs {b : DevRef τ sig} (h : b ∈ Pipeline.ucRefs τ sig) : ∃ r : Ref sig .tc, b = Proc.devRef .tc r := by
  obtain ⟨r, -, e⟩ := Finset.mem_map.mp (Finset.mem_filter.mp h).1
  exact ⟨r, e.symm⟩

theorem keep0 : ∀ (r : Ref sig .tc) (w : Fin 8), ¬ r = main_v74 → Pipeline.arrRef cfg0.spec w = r → (cfg0.win w).isOut = false := by
  intro r w hr hw
  subst hw
  revert w
  decide

theorem keep1 : ∀ (r : Ref sig .tc) (w : Fin 16), ¬ r = main_v103 → Pipeline.arrRef cfg1.spec w = r → (cfg1.win w).isOut = false := by
  intro r w hr hw
  subst hw
  revert w
  decide

/-- After the first call exactly its result array has changed. -/
theorem after0_eq (c : Dev nD) : ∀ b ∈ Pipeline.ucRefs τ sig, Pipeline.afterRegion (Enc.dats m c) (V9 m c) b = V10 m (outs m) c b := by
  intro b hb
  obtain ⟨r, rfl⟩ := mem_ucRefs hb
  rw [V10_outs m c]
  by_cases e : r = main_v74
  · subst e
    exact (Function.update_self (Proc.devRef .tc main_v74) _ (V9 m c)).symm
  · refine (Pipeline.afterRegion_keeps (Enc.dats m c) (V9 m c) launch0.win.arr_inj (fun w => Enc.A_eq m c w) r ?_).trans
      (V10_of m (outs1 m) c r (by simpa using e)).symm
    exact fun w hw => keep0 r w e hw

/-- After the second call exactly its result array has changed. -/
theorem after1_eq (c : Dev nD) : ∀ b ∈ Pipeline.ucRefs τ sig, Pipeline.afterRegion (Mega.dats (Vm m) c) (Vm m c) b = V14 m (outs m) c b := by
  intro b hb
  obtain ⟨r, rfl⟩ := mem_ucRefs hb
  by_cases e : r = main_v103
  · subst e
    exact (outs_14 m c).symm.trans (Function.update_self (Proc.devRef .tc main_v103) _ (V13 m (outs m) c)).symm
  · refine (Pipeline.afterRegion_keeps (Mega.dats (Vm m) c) (Vm m c) launch1.win.arr_inj (fun w => Mega.A_eq (Vm m) c w) r ?_).trans
      ((V14_of m (outs m) c r (by simpa using e)).trans (congrFun (V13_outs m c) _)).symm
    exact fun w hw => keep1 r w e hw

theorem post0 (c : Dev nD) : (reg0 m).post c ⊢ iprop(StableHlo.held (c : Thread nD τ) (Pipeline.ucRefs τ sig) (V10 m (outs m) c) ∗ E c) := by
  rw [← StableHlo.held_congr (c : Thread nD τ) (after0_eq m c)]
  exact Pipeline.RegionSeg.ofHeldIn_post sub0 c

theorem post1 (c : Dev nD) : (reg1 m).post c ⊢ iprop(StableHlo.held (c : Thread nD τ) (Pipeline.ucRefs τ sig) (V14 m (outs m) c) ∗ E c) := by
  rw [← StableHlo.held_congr (c : Thread nD τ) (after1_eq m c)]
  exact Pipeline.RegionSeg.ofHeldIn_post sub1 c

theorem pre0 (c : Dev nD) : iprop(StableHlo.held (c : Thread nD τ) (Pipeline.ucRefs τ sig) (V9 m c) ∗ E c) ⊢ (reg0 m).pre c := by
  exact Pipeline.RegionSeg.ofHeldIn_pre (pcs := pcfgs (F := F)) (a := adm) (pdats := pdats m) (p := 0) (D := fun _ => 0) sub0 (X := fun c => iprop(∃ r, prngReg c r)) (R := fun _ => BI.emp) (W := V9 m) c

theorem pre1 (c : Dev nD) : iprop(StableHlo.held (c : Thread nD τ) (Pipeline.ucRefs τ sig) (V13 m (outs m) c) ∗ E c) ⊢ (reg1 m).pre c := by
  rw [V13_outs m c]
  exact Pipeline.RegionSeg.ofHeldIn_pre (pcs := pcfgs (F := F)) (a := adm) (pdats := pdats m) (p := 1) (D := fun _ => 0) sub1 (X := fun c => iprop(∃ r, prngReg c r)) (R := fun _ => BI.emp) (W := Vm m) c

/-- The program's items as segments. -/
abbrev mainSegs (c : Dev nD) : List (Seg (pcfgs (F := F)) adm (pdats m) () defs₀ Variants.none L lv) :=
  segs m (outs m) Variants.none L lv (fun _ => E) () (pdats m) (reg0 m) (reg1 m) c

theorem endOwes (c : Dev nD) : (E c : sProp 𝕄) ⊢ iprop(∃ W, owes (c : Thread nD τ) (0 : CellTallies nD τ sig Unit) W) := by
  unfold E
  iintro ⟨H, -, -⟩
  iexact H

set_option backward.isDefEq.respectTransparency.types false in
/-- THE RUN: from any memory with zero counters every execution terminates with every counter at zero and every buffer
    of the TensorCore that outlives the calls at the last valuation of the program's items. -/
theorem run_main : θ_run defs (onTc (τ := τ) (main (F := F))) ⟨m, fun _ => 0, ρ⟩ (fun r =>
    (∀ c : Dev nD, ∀ b ∈ Pipeline.ucRefs τ sig, r.2.mem ((c.tc : Thread nD τ).1, b) = V15 m (outs m) c b)
      ∧ r.2.sem = fun _ => 0) := by
  refine Pipeline.θ_run_regions_kit_dev_sems (pcfgs (F := F)) adm (pdats m) () cellOf_inj emb₁ defs₀ Variants.none L lv m ρ main
    (mainSegs m)
    (fun c Q => by
      rewrite [main_chain c, Pipeline.Seg.run_eq_chain,
        show (mainSegs m c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, Prog.lift (.customCall (Pipeline.entry 0) ()),
          StableHlo.seq hostOps1, StableHlo.seq hostOps1_1, StableHlo.seq hostOps1_2,
          Prog.lift (.customCall (Pipeline.entry 1) ()), StableHlo.seq hostOps2 ] from rfl]
      dsimp (config := { failIfUnchanged := false }) only
      exact Idealize.SL.BI.Entails.refl _)
    (fun c => by simp only [mainSegs, segs, Pipeline.Seg.pipes_host, Pipeline.Seg.pipes_region, Pipeline.Seg.pipes_nil]; decide)
    (fun _ => 0) (hL := fun g h => by unfold L; rw [if_neg h]) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from Idealize.SL.BI.Entails.refl _); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (V15 m (outs m) c))
    (hch := fun c => ⟨.rfl, .rfl, .rfl, .rfl, .rfl, .rfl, .rfl, .rfl, .rfl, pre0 m c, post0 m c, .rfl, .rfl, pre1 m c, post1 m c,
      sep_mono .rfl (endOwes c)⟩)
    (hinit := ?_) (QY := fun c s => ∀ b ∈ Pipeline.ucRefs τ sig, s.mem ((c.tc : Thread nD τ).1, b) = V15 m (outs m) c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    unfold E
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V15 m (outs m) c) s') $$ [Hh HSI]
    · isplitl [Hh] <;> iassumption
    icases Hr with ⟨%h, HSI⟩
    imodintro
    isplitr
    · ipureintro; exact h
    · iexact HSI

end Cert.KernelAtIdeal.Run

end
-- ==== Proof.KA.Host.lean ====
module

public import proofs.«01_k».proof.Proof.Gen.KernelAtIdeal.Regions
public import proofs.«01_k».proof.Proof.Gen.KernelAtIdeal.Skeleton
public import Idealize.ShloMosaic.PureOps.Ideal.Laws
public import Idealize.ShloMosaic.Lib.Pointwise

@[expose] public section

set_option maxRecDepth 16384

noncomputable section

namespace Cert.KernelAtIdeal.Host

open Cert.KernelAtIdeal Cert.KernelAtIdeal.Gen Idealize.ShloMosaic Idealize.ShloMosaic.TcCoe Idealize.SL.Sem Idealize.ShloMosaic.StableHlo

variable (m : (ℓ : Loc nD τ sig) → Buf (Elt Ideal) ℓ) (outs : Outs (F := Ideal)) (c : Dev nD)

/-- The decoder's last point, at an element of column zero, when its filters `v21` are zero, its biases `v24` one, its last
    bias `v33` zero and column zero of its last filters `v30` is the first unit vector: the logistic function at one. -/
theorem pay6_column (v20 : Vec Ideal S512x256 .f32) (v21 : Vec Ideal S256x2048 .f32) (v24 : Vec Ideal S1x2048 .f32)
    (v30 : Vec Ideal S2048x64 .f32) (v33 : Vec Ideal S1x64 .f32)
    (h21 : ∀ i, v21 i = (0 : EReal)) (h24 : ∀ i, v24 i = (1 : EReal)) (h33 : ∀ i, v33 i = (0 : EReal))
    (h30 : ∀ k : Fin 2048, v30 (ix2 k 0) = if k = 0 then (1 : EReal) else 0) (r : Fin 512) :
    k1_pay6 (F := Ideal) v20 v21 v24 v30 v33 (ix2 r 0) = Ideal.logistic 1 := by
  unfold_payloads
  pointwise
  simp [h21, h24, h33, h30]

/-- Contents the first stretch of host operations fills and no later one writes are there at the second call. -/
theorem V10_early (r : Ref sig .tc)
    (h : r ∉ hostOps0_1_W ∧ r ∉ hostOps0_2_W ∧ r ∉ hostOps0_3_W ∧ r ∉ hostOps0_4_W ∧ r ∉ hostOps0_5_W ∧ r ∉ hostOps0_6_W
      ∧ r ∉ hostOps0_7_W ∧ r ∉ hostOps0_8_W ∧ r ∉ ([main_v74] : List (Ref sig .tc))) :
    V10 m outs c r = V1 m c r := by
  obtain ⟨h1, h2, h3, h4, h5, h6, h7, h8, h9⟩ := h
  rw [V10_of m outs c r h9, V9_of m c r h8, V8_of m c r h7, V7_of m c r h6, V6_of m c r h5, V5_of m c r h4, V4_of m c r h3,
    V3_of m c r h2, V2_of m c r h1]

theorem V1_v16 : V1 m c main_v16 = broadcastInDim S4x4x256x128 ![] bcast_S_S4x4x256x128 (constant (F := Ideal) S_ .f32 0x00000000#32) := by
  show after hostOps0 (V0 m c) (Proc.devRef .tc main_v16) = _
  after_results

theorem V1_v20 : V1 m c main_v20 = broadcastInDim S128 ![] bcast_S_S128 (constant (F := Ideal) S_ .f32 0x3F800000#32) := by
  show after hostOps0 (V0 m c) (Proc.devRef .tc main_v20) = _
  after_results

theorem V1_v19 : V1 m c main_v19 = broadcastInDim S1 ![] bcast_S_S1 (constant (F := Ideal) S_ .f32 0x00000000#32) := by
  show after hostOps0 (V0 m c) (Proc.devRef .tc main_v19) = _
  after_results

/-- The second call's deconvolution filters are zero. -/
theorem V13_v78 (i) : V13 m outs c main_v78 i = (0 : EReal) := by
  rw [V13_of m outs c main_v78 (by decide), V12_of m outs c main_v78 (by decide)]
  have e : V11 m outs c main_v78 = shapeCast S256x2048 (transpose S256x4x4x128 [2, 0, 1, 3] (V10 m outs c main_v16) transposes_S4x4x256x128_S256x4x4x128_2_0_1_3) shapeCasts_S256x4x4x128_S256x2048 := by
    show after hostOps1 (V10 m outs c) (Proc.devRef .tc main_v78) = _
    after_results
    rfl
  rw [e, V10_early m outs c main_v16 (by decide), V1_v16 m c]
  pointwise!

/-- Its bias is one. -/
theorem V13_v82 (i) : V13 m outs c main_v82 i = (1 : EReal) := by
  rw [V13_of m outs c main_v82 (by decide), V12_of m outs c main_v82 (by decide)]
  have e : V11 m outs c main_v82 = shapeCast S1x2048 (shapeCast S2048 (broadcastInDim S16x128 ![0, 1] bcast_S1x128_S16x128_0_1 (shapeCast S1x128 (V10 m outs c main_v20) shapeCasts_S128_S1x128)) shapeCasts_S16x128_S2048) shapeCasts_S2048_S1x2048 := by
    show after hostOps1 (V10 m outs c) (Proc.devRef .tc main_v82) = _
    after_results
    rfl
  rw [e, V10_early m outs c main_v20 (by decide), V1_v20 m c]
  pointwise!

/-- The last bias is zero. -/
theorem V13_v95 (i) : V13 m outs c main_v95 i = (0 : EReal) := by
  have e : V13 m outs c main_v95 = shapeCast S1x64 (shapeCast S64 (broadcastInDim S64x1 ![0, 1] bcast_S1x1_S64x1_0_1 (shapeCast S1x1 (V12 m outs c main_v19) shapeCasts_S1_S1x1)) shapeCasts_S64x1_S64) shapeCasts_S64_S1x64 := by
    show after hostOps1_2 (V12 m outs c) (Proc.devRef .tc main_v95) = _
    after_results
    rfl
  rw [e, V12_of m outs c main_v19 (by decide), V11_of m outs c main_v19 (by decide), V10_early m outs c main_v19 (by decide), V1_v19 m c]
  pointwise!

/-- The block-diagonal filters of the last transposed convolution, before the second call. -/
theorem V12_v91 : V12 m outs c main_v91
    = shapeCast S2048x64 (mulf (F := Ideal) (φ := .f32)
        (broadcastInDim S16x128x16x4 ![0, 1, 2, 3] bcast_S16x1x16x1_S16x128x16x4_0_1_2_3
          (broadcastInDim S16x1x16x1 ![0, 2] bcast_S16x16_S16x1x16x1_0_2 (V11 m outs c main_v88)))
        (broadcastInDim S16x128x16x4 ![0, 1, 2, 3] bcast_S1x128x1x4_S16x128x16x4_0_1_2_3
          (broadcastInDim S1x128x1x4 ![1, 3] bcast_S128x4_S1x128x1x4_1_3 (V11 m outs c main_v90)))) shapeCasts_S16x128x16x4_S2048x64 := by
  show after hostOps1_1 (V11 m outs c) (Proc.devRef .tc main_v91) = _
  after_results
  rfl

/-- The unit matrix of order sixteen. -/
theorem V11_v88 : V11 m outs c main_v88
    = uitofp (F := Ideal) .f32 (cmpi .eq (addi (iotaInDim S16x16 32 0) (broadcastInDim S16x16 ![] bcast_S_S16x16 (constantI S_ 32 0#32))) (iotaInDim S16x16 32 1)) := by
  show after hostOps1 (V10 m outs c) (Proc.devRef .tc main_v88) = _
  after_results

/-- The last filters, their four positions side by side. -/
theorem V11_v90 : V11 m outs c main_v90
    = shapeCast S128x4 (transpose S128x2x2x1 [2, 0, 1, 3] (m ((c : Thread nD τ).loc main_arg0)) transposes_S2x2x128x1_S128x2x2x1_2_0_1_3) shapeCasts_S128x2x2x1_S128x4 := by
  have e : V10 m outs c main_arg0 = m ((c : Thread nD τ).loc main_arg0) := by
    rw [V10_early m outs c main_arg0 (by decide), V1_of m c main_arg0 (by decide)]
  rw [← e]
  show after hostOps1 (V10 m outs c) (Proc.devRef .tc main_v90) = _
  after_results
  rfl

/-- Column zero of the unit matrix, as a comparison of two words. -/
theorem eye_column : ∀ q : Fin 16,
    IntOp.cmpi CmpIPredicate.eq (IntOp.addi (BitVec.ofNat 32 q.val) 0#32) 0#32 = if q = 0 then 1#1 else 0#1 := by decide

theorem one_bits : (FloatOps.uitofp FTy.f32 (1#1) : Ideal .f32) = (1 : EReal) := by
  show (((1#1 : BitVec 1).toNat : ℝ) : EReal) = 1
  norm_num

theorem zero_bit : (FloatOps.uitofp FTy.f32 (0#1) : Ideal .f32) = (0 : EReal) := by
  show (((0#1 : BitVec 1).toNat : ℝ) : EReal) = 0
  norm_num

/-- Column zero of the block-diagonal filters: the filters at position (0, 0) in the first block, zero below it. -/
theorem V13_v91 (k : Fin 2048) (hk : ∀ ch : Fin 128, m ((c : Thread nD τ).loc main_arg0) (ix4 0 0 ch 0) = if ch = 0 then (1 : EReal) else 0) :
    V13 m outs c main_v91 (ix2 k 0) = if k = 0 then (1 : EReal) else 0 := by
  rw [V13_of m outs c main_v91 (by decide), V12_v91, V11_v88, V11_v90]
  pointwise
  rw [hk]
  have hq : k.val / 128 < 16 := by omega
  have e := eye_column ⟨k.val / 128, hq⟩
  simp only at e
  rw [e]
  by_cases h : k.val < 128
  · rw [if_pos (Fin.ext (by simp; omega)), one_bits, one_mul]
    by_cases h0 : k.val = 0
    · rw [if_pos (Fin.ext (by simp [h0])), if_pos (Fin.ext h0)]
    · rw [if_neg (fun x => h0 (by have := congrArg Fin.val x; simp at this; omega)), if_neg (fun x => h0 (congrArg Fin.val x))]
  · rw [if_neg (fun x => h (by have := congrArg Fin.val x; simp at this; omega)), zero_bit, zero_mul,
      if_neg (fun x => h (by have := congrArg Fin.val x; simp at this; omega))]

end Cert.KernelAtIdeal.Host

end
-- ==== Proof.KA.Value.lean ====
module

public import proofs.«01_k».proof.Proof.KA.Run
public import proofs.«01_k».proof.Proof.KA.Host
public import Idealize.ShloMosaic.Lib.Pipeline.ValueKit.Geometry

@[expose] public section

set_option maxRecDepth 16384

noncomputable section

namespace Cert.KernelAtIdeal.Value

open Cert.KernelAtIdeal Cert.KernelAtIdeal.Gen Idealize.ShloMosaic Idealize.ShloMosaic.TcCoe Idealize.SL.Sem Idealize.ShloMosaic.StableHlo
open Cert.KernelAtIdeal.Host Cert.KernelAtIdeal.Run

variable (m : (ℓ : Loc nD τ sig) → Buf (Elt Ideal) ℓ) (c : Dev nD)

/-- What a point of the last stage leaves in column zero of its block. -/
theorem outV_column (hk : ∀ ch : Fin 128, m ((c : Thread nD τ).loc main_arg0) (ix4 0 0 ch 0) = if ch = 0 then (1 : EReal) else 0)
    (t : Fin cfg1.N) (r : Fin 512) : Mega.outV (Vm m) c t (ix2 r 0) = Ideal.logistic 1 := by
  unfold Mega.outV
  refine pay6_column _ _ _ _ _ (fun i => ?_) (fun i => ?_) (fun i => ?_) (fun k => ?_) r
  · exact V13_v78 m (outs1 m) c _
  · exact V13_v82 m (outs1 m) c _
  · exact V13_v95 m (outs1 m) c _
  · refine Eq.trans ?_ (V13_v91 m (outs1 m) c k hk)
    show V13 m (outs1 m) c main_v91 (((cfg1.win 13).rect t).emb (ix2 k 0)) = _
    congr 1
    funext a
    apply Fin.ext
    refine (Pipeline.Window.rect_emb_val_of_index_zero _ _ _ ?_ _).trans rfl
    revert a t
    decide +kernel

/-- Column zero of the second call's result. -/
theorem call_column (hk : ∀ ch : Fin 128, m ((c : Thread nD τ).loc main_arg0) (ix4 0 0 ch 0) = if ch = 0 then (1 : EReal) else 0)
    (r : Fin 4096) : V14 m (outs m) c main_v103 (ix2 r 0) = Ideal.logistic 1 := by
  rw [show V14 m (outs m) c main_v103 = outs m 14 main_v103 c from Function.update_self _ _ _, outs_14 m c]
  rw [show Pipeline.afterRegion (Mega.dats (Vm m) c) (Vm m c) (Proc.devRef .tc main_v103) = (Mega.dats (Vm m) c).arrAt 15 cfg1.N from
    Pipeline.afterRegion_arr (Mega.dats (Vm m) c) (Vm m c) launch1.win.arr_inj 15]
  refine Pipeline.Dat.arrAt_forall_of_covers (Mega.dats (Vm m) c) 15 (fun i v => (i 1).val = 0 → v = Ideal.logistic 1) (by decide +kernel)
    (fun t hf y h => ?_) (ix2 r 0) (harr := Memref.isWhole_whole _) rfl
  rw [Mega.after1_15]
  have hy : (y 1).val = 0 := by
    refine Eq.trans ?_ h
    exact (Pipeline.Window.rect_emb_val_of_index_zero (cfg1.win 15) t 1 ((by decide +kernel : ∀ t : Fin cfg1.N, (cfg1.win 15).index t 1 = 0) t) y).symm
  have e : ((cfg1.win 15).xinj (cfg1.grid.coords t) y : S512x64.Idx) = ix2 ⟨(y 0).val, (y 0).isLt⟩ 0 := by
    rw [eq_ix2 ((cfg1.win 15).xinj (cfg1.grid.coords t) y : S512x64.Idx)]
    congr 1
    exact Fin.ext hy
  exact (congrArg (Mega.outV (Vm m) c t) e).trans (outV_column m c hk t _)

/-- The kernel's result at index zero. -/
theorem result_zero (hk : ∀ ch : Fin 128, m ((c : Thread nD τ).loc main_arg0) (ix4 0 0 ch 0) = if ch = 0 then (1 : EReal) else 0) :
    V15 m (outs m) c main_v106 (ix4 0 0 0 0) = Ideal.logistic 1 := by
  have e : V15 m (outs m) c main_v106 = shapeCast S64x64x64x1 (transpose S64x8x4x2x8x4x2 [2, 0, 3, 5, 1, 4, 6]
      (shapeCast S8x8x64x4x4x2x2 (V14 m (outs m) c main_v103) shapeCasts_S4096x64_S8x8x64x4x4x2x2)
      transposes_S8x8x64x4x4x2x2_S64x8x4x2x8x4x2_2_0_3_5_1_4_6) shapeCasts_S64x8x4x2x8x4x2_S64x64x64x1 := by
    show after hostOps2 (V14 m (outs m) c) (Proc.devRef .tc main_v106) = _
    after_results
    rfl
  rw [e]
  pointwise
  exact call_column m c hk _

end Cert.KernelAtIdeal.Value

end
-- ==== Proof.RAt.Run.lean ====
module

public import proofs.«01_k».proof.Proof.Gen.ReferenceAtIdeal
public import Idealize.ShloMosaic.Lib.StableHlo.Run
public import Idealize.ShloMosaic.Lib.Pipeline.Frame

@[expose] public section

set_option maxRecDepth 8192

noncomputable section

namespace Cert.ReferenceAtIdeal.Run

open Cert.ReferenceAtIdeal Cert.ReferenceAtIdeal.Gen Idealize.ShloMosaic Idealize.ShloMosaic.TcCoe Idealize.SL.Sem Idealize.ShloMosaic.StableHlo

variable {F : FTy → Type} [FloatOps F]

/-- @main's operations 1 … 30 of 413. -/
abbrev ops_part0_0 : List (HloOp τ sig (Elt F)) :=
  [ nullary main_cst (constant S_ .f32 0x00000000#32),
    unary main_cst main_v0 (broadcastInDim S64x64x64 ![] bcast_S_S64x64x64),
    nullary main_cst_0 (constant S_ .f32 0x00000000#32),
    unary main_cst_0 main_v1 (broadcastInDim S4x4x1x64 ![] bcast_S_S4x4x1x64),
    nullary main_cst_1 (constant S_ .f32 0x00000000#32),
    unary main_cst_1 main_v2 (broadcastInDim S64 ![] bcast_S_S64),
    nullary main_cst_2 (constant S_ .f32 0x00000000#32),
    unary main_cst_2 main_v3 (broadcastInDim S4x4x64x128 ![] bcast_S_S4x4x64x128),
    nullary main_cst_3 (constant S_ .f32 0x00000000#32),
    unary main_cst_3 main_v4 (broadcastInDim S128 ![] bcast_S_S128),
    nullary main_cst_4 (constant S_ .f32 0x00000000#32),
    unary main_cst_4 main_v5 (broadcastInDim S4x4x128x256 ![] bcast_S_S4x4x128x256),
    nullary main_cst_5 (constant S_ .f32 0x00000000#32),
    unary main_cst_5 main_v6 (broadcastInDim S256 ![] bcast_S_S256),
    nullary main_cst_6 (constant S_ .f32 0x00000000#32),
    unary main_cst_6 main_v7 (broadcastInDim S16384x1024 ![] bcast_S_S16384x1024),
    nullary main_cst_7 (constant S_ .f32 0x00000000#32),
    unary main_cst_7 main_v8 (broadcastInDim S1024 ![] bcast_S_S1024),
    nullary main_cst_8 (constant S_ .f32 0x00000000#32),
    unary main_cst_8 main_v9 (broadcastInDim S1024x2048 ![] bcast_S_S1024x2048),
    nullary main_cst_9 (constant S_ .f32 0x00000000#32),
    unary main_cst_9 main_v10 (broadcastInDim S2048 ![] bcast_S_S2048),
    nullary main_cst_10 (constant S_ .f32 0x00000000#32),
    unary main_cst_10 main_v11 (broadcastInDim S512x64 ![] bcast_S_S512x64),
    nullary main_cst_11 (constant S_ .f32 0x00000000#32),
    unary main_cst_11 main_v12 (broadcastInDim S2048x1024 ![] bcast_S_S2048x1024),
    nullary main_cst_12 (constant S_ .f32 0x00000000#32),
    unary main_cst_12 main_v13 (broadcastInDim S1024 ![] bcast_S_S1024),
    nullary main_cst_13 (constant S_ .f32 0x00000000#32),
    unary main_cst_13 main_v14 (broadcastInDim S8x8x1024x256 ![] bcast_S_S8x8x1024x256) ]

/-- @main's operations 31 … 60 of 413. -/
abbrev ops_part0_1 : List (HloOp τ sig (Elt F)) :=
  [ nullary main_cst_14 (constant S_ .f32 0x00000000#32),
    unary main_cst_14 main_v15 (broadcastInDim S256 ![] bcast_S_S256),
    nullary main_cst_15 (constant S_ .f32 0x00000000#32),
    unary main_cst_15 main_v16 (broadcastInDim S4x4x256x128 ![] bcast_S_S4x4x256x128),
    nullary main_cst_16 (constant S_ .f32 0x00000000#32),
    unary main_cst_16 main_v17 (broadcastInDim S128 ![] bcast_S_S128),
    nullary main_cst_17 (constant S_ .f32 0x00000000#32),
    unary main_cst_17 main_v18 (broadcastInDim S2x2x128x1 ![] bcast_S_S2x2x128x1),
    nullary main_cst_18 (constant S_ .f32 0x00000000#32),
    unary main_cst_18 main_v19 (broadcastInDim S1 ![] bcast_S_S1),
    nullary main_cst_19 (constant S_ .f32 0x3F800000#32),
    unary main_cst_19 main_v20 (broadcastInDim S128 ![] bcast_S_S128),
    unary main_v0 main_v21 (broadcastInDim S64x64x64x1 ![0, 1, 2] bcast_S64x64x64_S64x64x64x1_0_1_2),
    nullary main_c (constantI S_ 32 0#32),
    TRef.unary (TRef.of (T := ⟨S_, .i32⟩) main_c) (TRef.of (T := ⟨S_, .f32⟩) main_call0_v0) (sitofp .f32),
    TRef.binary (TRef.of (T := ⟨S64x64x64x1, .f32⟩) main_v21) (TRef.of (T := ⟨S_, .f32⟩) main_call0_v0) (TRef.of (T := ⟨S64x66x66x1, .f32⟩) main_v22) (fun x v => pad S64x66x66x1 ![0, 1, 1, 0] ![0, 1, 1, 0] ![0, 0, 0, 0] x v pads_S64x64x64x1_S64x66x66x1_000_110_110_000 h_S_),
    nullary main_cst_20 (constant S_ .f32 0x00000000#32),
    unary main_cst_20 main_v23 (broadcastInDim S64x32x32x64 ![] bcast_S_S64x32x32x64),
    unary main_v22 main_v24 ((Host.slice S64x32x32x1 ![0, 0, 0, 0] ![1, 2, 2, 1] · slicesBy_S64x66x66x1_S64x32x32x1_0s1_0s2_0s2_0s1)),
    unary main_v1 main_v25 ((extractStridedSlice S1x1x1x64 ![0, 0, 0, 0] · slices_S4x4x1x64_S1x1x1x64_0_0_0_0)),
    reshape main_v25 main_v26 (rfl : (.f32 : EltTy) = .f32) shapeCasts_S1x1x1x64_S1x64,
    binary main_v24 main_v26 main_v27 ((fun l r => Host.dotGeneral dot_S64x32x32x1_S1x64_S64x32x32x64_3_0_012_1_n_n none l r)),
    binary main_v23 main_v27 main_v28 (addf),
    unary main_v22 main_v29 ((Host.slice S64x32x32x1 ![0, 0, 1, 0] ![1, 2, 2, 1] · slicesBy_S64x66x66x1_S64x32x32x1_0s1_0s2_1s2_0s1)),
    unary main_v1 main_v30 ((extractStridedSlice S1x1x1x64 ![0, 1, 0, 0] · slices_S4x4x1x64_S1x1x1x64_0_1_0_0)),
    reshape main_v30 main_v31 (rfl : (.f32 : EltTy) = .f32) shapeCasts_S1x1x1x64_S1x64,
    binary main_v29 main_v31 main_v32 ((fun l r => Host.dotGeneral dot_S64x32x32x1_S1x64_S64x32x32x64_3_0_012_1_n_n none l r)),
    binary main_v28 main_v32 main_v33 (addf),
    unary main_v22 main_v34 ((Host.slice S64x32x32x1 ![0, 0, 2, 0] ![1, 2, 2, 1] · slicesBy_S64x66x66x1_S64x32x32x1_0s1_0s2_2s2_0s1)),
    unary main_v1 main_v35 ((extractStridedSlice S1x1x1x64 ![0, 2, 0, 0] · slices_S4x4x1x64_S1x1x1x64_0_2_0_0)) ]

/-- @main's operations 61 … 61 of 413. -/
abbrev ops_part0_2 : List (HloOp τ sig (Elt F)) :=
  [ reshape main_v35 main_v36 (rfl : (.f32 : EltTy) = .f32) shapeCasts_S1x1x1x64_S1x64 ]

/-- Window `main_part0`'s operations. Not an abbreviation: `main_eq` below splits `ops` into the windows and no further. -/
def ops_part0 : List (HloOp τ sig (Elt F)) :=
  ops_part0_0 ++ (ops_part0_1 ++ (ops_part0_2))

/-- @main's operations 62 … 121 of 413. -/
abbrev ops_part1 : List (HloOp τ sig (Elt F)) :=
  [ binary main_v34 main_v36 main_v37 ((fun l r => Host.dotGeneral dot_S64x32x32x1_S1x64_S64x32x32x64_3_0_012_1_n_n none l r)),
    binary main_v33 main_v37 main_v38 (addf),
    unary main_v22 main_v39 ((Host.slice S64x32x32x1 ![0, 0, 3, 0] ![1, 2, 2, 1] · slicesBy_S64x66x66x1_S64x32x32x1_0s1_0s2_3s2_0s1)),
    unary main_v1 main_v40 ((extractStridedSlice S1x1x1x64 ![0, 3, 0, 0] · slices_S4x4x1x64_S1x1x1x64_0_3_0_0)),
    reshape main_v40 main_v41 (rfl : (.f32 : EltTy) = .f32) shapeCasts_S1x1x1x64_S1x64,
    binary main_v39 main_v41 main_v42 ((fun l r => Host.dotGeneral dot_S64x32x32x1_S1x64_S64x32x32x64_3_0_012_1_n_n none l r)),
    binary main_v38 main_v42 main_v43 (addf),
    unary main_v22 main_v44 ((Host.slice S64x32x32x1 ![0, 1, 0, 0] ![1, 2, 2, 1] · slicesBy_S64x66x66x1_S64x32x32x1_0s1_1s2_0s2_0s1)),
    unary main_v1 main_v45 ((extractStridedSlice S1x1x1x64 ![1, 0, 0, 0] · slices_S4x4x1x64_S1x1x1x64_1_0_0_0)),
    reshape main_v45 main_v46 (rfl : (.f32 : EltTy) = .f32) shapeCasts_S1x1x1x64_S1x64,
    binary main_v44 main_v46 main_v47 ((fun l r => Host.dotGeneral dot_S64x32x32x1_S1x64_S64x32x32x64_3_0_012_1_n_n none l r)),
    binary main_v43 main_v47 main_v48 (addf),
    unary main_v22 main_v49 ((Host.slice S64x32x32x1 ![0, 1, 1, 0] ![1, 2, 2, 1] · slicesBy_S64x66x66x1_S64x32x32x1_0s1_1s2_1s2_0s1)),
    unary main_v1 main_v50 ((extractStridedSlice S1x1x1x64 ![1, 1, 0, 0] · slices_S4x4x1x64_S1x1x1x64_1_1_0_0)),
    reshape main_v50 main_v51 (rfl : (.f32 : EltTy) = .f32) shapeCasts_S1x1x1x64_S1x64,
    binary main_v49 main_v51 main_v52 ((fun l r => Host.dotGeneral dot_S64x32x32x1_S1x64_S64x32x32x64_3_0_012_1_n_n none l r)),
    binary main_v48 main_v52 main_v53 (addf),
    unary main_v22 main_v54 ((Host.slice S64x32x32x1 ![0, 1, 2, 0] ![1, 2, 2, 1] · slicesBy_S64x66x66x1_S64x32x32x1_0s1_1s2_2s2_0s1)),
    unary main_v1 main_v55 ((extractStridedSlice S1x1x1x64 ![1, 2, 0, 0] · slices_S4x4x1x64_S1x1x1x64_1_2_0_0)),
    reshape main_v55 main_v56 (rfl : (.f32 : EltTy) = .f32) shapeCasts_S1x1x1x64_S1x64,
    binary main_v54 main_v56 main_v57 ((fun l r => Host.dotGeneral dot_S64x32x32x1_S1x64_S64x32x32x64_3_0_012_1_n_n none l r)),
    binary main_v53 main_v57 main_v58 (addf),
    unary main_v22 main_v59 ((Host.slice S64x32x32x1 ![0, 1, 3, 0] ![1, 2, 2, 1] · slicesBy_S64x66x66x1_S64x32x32x1_0s1_1s2_3s2_0s1)),
    unary main_v1 main_v60 ((extractStridedSlice S1x1x1x64 ![1, 3, 0, 0] · slices_S4x4x1x64_S1x1x1x64_1_3_0_0)),
    reshape main_v60 main_v61 (rfl : (.f32 : EltTy) = .f32) shapeCasts_S1x1x1x64_S1x64,
    binary main_v59 main_v61 main_v62 ((fun l r => Host.dotGeneral dot_S64x32x32x1_S1x64_S64x32x32x64_3_0_012_1_n_n none l r)),
    binary main_v58 main_v62 main_v63 (addf),
    unary main_v22 main_v64 ((Host.slice S64x32x32x1 ![0, 2, 0, 0] ![1, 2, 2, 1] · slicesBy_S64x66x66x1_S64x32x32x1_0s1_2s2_0s2_0s1)),
    unary main_v1 main_v65 ((extractStridedSlice S1x1x1x64 ![2, 0, 0, 0] · slices_S4x4x1x64_S1x1x1x64_2_0_0_0)),
    reshape main_v65 main_v66 (rfl : (.f32 : EltTy) = .f32) shapeCasts_S1x1x1x64_S1x64,
    binary main_v64 main_v66 main_v67 ((fun l r => Host.dotGeneral dot_S64x32x32x1_S1x64_S64x32x32x64_3_0_012_1_n_n none l r)),
    binary main_v63 main_v67 main_v68 (addf),
    unary main_v22 main_v69 ((Host.slice S64x32x32x1 ![0, 2, 1, 0] ![1, 2, 2, 1] · slicesBy_S64x66x66x1_S64x32x32x1_0s1_2s2_1s2_0s1)),
    unary main_v1 main_v70 ((extractStridedSlice S1x1x1x64 ![2, 1, 0, 0] · slices_S4x4x1x64_S1x1x1x64_2_1_0_0)),
    reshape main_v70 main_v71 (rfl : (.f32 : EltTy) = .f32) shapeCasts_S1x1x1x64_S1x64,
    binary main_v69 main_v71 main_v72 ((fun l r => Host.dotGeneral dot_S64x32x32x1_S1x64_S64x32x32x64_3_0_012_1_n_n none l r)),
    binary main_v68 main_v72 main_v73 (addf),
    unary main_v22 main_v74 ((Host.slice S64x32x32x1 ![0, 2, 2, 0] ![1, 2, 2, 1] · slicesBy_S64x66x66x1_S64x32x32x1_0s1_2s2_2s2_0s1)),
    unary main_v1 main_v75 ((extractStridedSlice S1x1x1x64 ![2, 2, 0, 0] · slices_S4x4x1x64_S1x1x1x64_2_2_0_0)),
    reshape main_v75 main_v76 (rfl : (.f32 : EltTy) = .f32) shapeCasts_S1x1x1x64_S1x64,
    binary main_v74 main_v76 main_v77 ((fun l r => Host.dotGeneral dot_S64x32x32x1_S1x64_S64x32x32x64_3_0_012_1_n_n none l r)),
    binary main_v73 main_v77 main_v78 (addf),
    unary main_v22 main_v79 ((Host.slice S64x32x32x1 ![0, 2, 3, 0] ![1, 2, 2, 1] · slicesBy_S64x66x66x1_S64x32x32x1_0s1_2s2_3s2_0s1)),
    unary main_v1 main_v80 ((extractStridedSlice S1x1x1x64 ![2, 3, 0, 0] · slices_S4x4x1x64_S1x1x1x64_2_3_0_0)),
    reshape main_v80 main_v81 (rfl : (.f32 : EltTy) = .f32) shapeCasts_S1x1x1x64_S1x64,
    binary main_v79 main_v81 main_v82 ((fun l r => Host.dotGeneral dot_S64x32x32x1_S1x64_S64x32x32x64_3_0_012_1_n_n none l r)),
    binary main_v78 main_v82 main_v83 (addf),
    unary main_v22 main_v84 ((Host.slice S64x32x32x1 ![0, 3, 0, 0] ![1, 2, 2, 1] · slicesBy_S64x66x66x1_S64x32x32x1_0s1_3s2_0s2_0s1)),
    unary main_v1 main_v85 ((extractStridedSlice S1x1x1x64 ![3, 0, 0, 0] · slices_S4x4x1x64_S1x1x1x64_3_0_0_0)),
    reshape main_v85 main_v86 (rfl : (.f32 : EltTy) = .f32) shapeCasts_S1x1x1x64_S1x64,
    binary main_v84 main_v86 main_v87 ((fun l r => Host.dotGeneral dot_S64x32x32x1_S1x64_S64x32x32x64_3_0_012_1_n_n none l r)),
    binary main_v83 main_v87 main_v88 (addf),
    unary main_v22 main_v89 ((Host.slice S64x32x32x1 ![0, 3, 1, 0] ![1, 2, 2, 1] · slicesBy_S64x66x66x1_S64x32x32x1_0s1_3s2_1s2_0s1)),
    unary main_v1 main_v90 ((extractStridedSlice S1x1x1x64 ![3, 1, 0, 0] · slices_S4x4x1x64_S1x1x1x64_3_1_0_0)),
    reshape main_v90 main_v91 (rfl : (.f32 : EltTy) = .f32) shapeCasts_S1x1x1x64_S1x64,
    binary main_v89 main_v91 main_v92 ((fun l r => Host.dotGeneral dot_S64x32x32x1_S1x64_S64x32x32x64_3_0_012_1_n_n none l r)),
    binary main_v88 main_v92 main_v93 (addf),
    unary main_v22 main_v94 ((Host.slice S64x32x32x1 ![0, 3, 2, 0] ![1, 2, 2, 1] · slicesBy_S64x66x66x1_S64x32x32x1_0s1_3s2_2s2_0s1)),
    unary main_v1 main_v95 ((extractStridedSlice S1x1x1x64 ![3, 2, 0, 0] · slices_S4x4x1x64_S1x1x1x64_3_2_0_0)),
    reshape main_v95 main_v96 (rfl : (.f32 : EltTy) = .f32) shapeCasts_S1x1x1x64_S1x64 ]

/-- @main's operations 122 … 151 of 413. -/
abbrev ops_part2_0 : List (HloOp τ sig (Elt F)) :=
  [ binary main_v94 main_v96 main_v97 ((fun l r => Host.dotGeneral dot_S64x32x32x1_S1x64_S64x32x32x64_3_0_012_1_n_n none l r)),
    binary main_v93 main_v97 main_v98 (addf),
    unary main_v22 main_v99 ((Host.slice S64x32x32x1 ![0, 3, 3, 0] ![1, 2, 2, 1] · slicesBy_S64x66x66x1_S64x32x32x1_0s1_3s2_3s2_0s1)),
    unary main_v1 main_v100 ((extractStridedSlice S1x1x1x64 ![3, 3, 0, 0] · slices_S4x4x1x64_S1x1x1x64_3_3_0_0)),
    reshape main_v100 main_v101 (rfl : (.f32 : EltTy) = .f32) shapeCasts_S1x1x1x64_S1x64,
    binary main_v99 main_v101 main_v102 ((fun l r => Host.dotGeneral dot_S64x32x32x1_S1x64_S64x32x32x64_3_0_012_1_n_n none l r)),
    binary main_v98 main_v102 main_v103 (addf),
    unary main_v2 main_v104 (broadcastInDim S1x1x1x64 ![3] bcast_S64_S1x1x1x64_3),
    unary main_v104 main_v105 (broadcastInDim S64x32x32x64 ![0, 1, 2, 3] bcast_S1x1x1x64_S64x32x32x64_0_1_2_3),
    binary main_v103 main_v105 main_v106 (addf),
    nullary main_cst_21 (constant S_ .f32 0x00000000#32),
    unary main_cst_21 main_v107 (broadcastInDim S64x32x32x64 ![] bcast_S_S64x32x32x64),
    binary main_v106 main_v107 main_v108 (maximumf),
    nullary main_c_22 (constantI S_ 32 0#32),
    TRef.unary (TRef.of (T := ⟨S_, .i32⟩) main_c_22) (TRef.of (T := ⟨S_, .f32⟩) main_call1_v0) (sitofp .f32),
    TRef.binary (TRef.of (T := ⟨S64x32x32x64, .f32⟩) main_v108) (TRef.of (T := ⟨S_, .f32⟩) main_call1_v0) (TRef.of (T := ⟨S64x34x34x64, .f32⟩) main_v109) (fun x v => pad S64x34x34x64 ![0, 1, 1, 0] ![0, 1, 1, 0] ![0, 0, 0, 0] x v pads_S64x32x32x64_S64x34x34x64_000_110_110_000 h_S_),
    nullary main_cst_23 (constant S_ .f32 0x00000000#32),
    unary main_cst_23 main_v110 (broadcastInDim S64x16x16x128 ![] bcast_S_S64x16x16x128),
    unary main_v109 main_v111 ((Host.slice S64x16x16x64 ![0, 0, 0, 0] ![1, 2, 2, 1] · slicesBy_S64x34x34x64_S64x16x16x64_0s1_0s2_0s2_0s1)),
    unary main_v3 main_v112 ((extractStridedSlice S1x1x64x128 ![0, 0, 0, 0] · slices_S4x4x64x128_S1x1x64x128_0_0_0_0)),
    reshape main_v112 main_v113 (rfl : (.f32 : EltTy) = .f32) shapeCasts_S1x1x64x128_S64x128,
    binary main_v111 main_v113 main_v114 ((fun l r => Host.dotGeneral dot_S64x16x16x64_S64x128_S64x16x16x128_3_0_012_1_n_n none l r)),
    binary main_v110 main_v114 main_v115 (addf),
    unary main_v109 main_v116 ((Host.slice S64x16x16x64 ![0, 0, 1, 0] ![1, 2, 2, 1] · slicesBy_S64x34x34x64_S64x16x16x64_0s1_0s2_1s2_0s1)),
    unary main_v3 main_v117 ((extractStridedSlice S1x1x64x128 ![0, 1, 0, 0] · slices_S4x4x64x128_S1x1x64x128_0_1_0_0)),
    reshape main_v117 main_v118 (rfl : (.f32 : EltTy) = .f32) shapeCasts_S1x1x64x128_S64x128,
    binary main_v116 main_v118 main_v119 ((fun l r => Host.dotGeneral dot_S64x16x16x64_S64x128_S64x16x16x128_3_0_012_1_n_n none l r)),
    binary main_v115 main_v119 main_v120 (addf),
    unary main_v109 main_v121 ((Host.slice S64x16x16x64 ![0, 0, 2, 0] ![1, 2, 2, 1] · slicesBy_S64x34x34x64_S64x16x16x64_0s1_0s2_2s2_0s1)),
    unary main_v3 main_v122 ((extractStridedSlice S1x1x64x128 ![0, 2, 0, 0] · slices_S4x4x64x128_S1x1x64x128_0_2_0_0)) ]

/-- @main's operations 152 … 181 of 413. -/
abbrev ops_part2_1 : List (HloOp τ sig (Elt F)) :=
  [ reshape main_v122 main_v123 (rfl : (.f32 : EltTy) = .f32) shapeCasts_S1x1x64x128_S64x128,
    binary main_v121 main_v123 main_v124 ((fun l r => Host.dotGeneral dot_S64x16x16x64_S64x128_S64x16x16x128_3_0_012_1_n_n none l r)),
    binary main_v120 main_v124 main_v125 (addf),
    unary main_v109 main_v126 ((Host.slice S64x16x16x64 ![0, 0, 3, 0] ![1, 2, 2, 1] · slicesBy_S64x34x34x64_S64x16x16x64_0s1_0s2_3s2_0s1)),
    unary main_v3 main_v127 ((extractStridedSlice S1x1x64x128 ![0, 3, 0, 0] · slices_S4x4x64x128_S1x1x64x128_0_3_0_0)),
    reshape main_v127 main_v128 (rfl : (.f32 : EltTy) = .f32) shapeCasts_S1x1x64x128_S64x128,
    binary main_v126 main_v128 main_v129 ((fun l r => Host.dotGeneral dot_S64x16x16x64_S64x128_S64x16x16x128_3_0_012_1_n_n none l r)),
    binary main_v125 main_v129 main_v130 (addf),
    unary main_v109 main_v131 ((Host.slice S64x16x16x64 ![0, 1, 0, 0] ![1, 2, 2, 1] · slicesBy_S64x34x34x64_S64x16x16x64_0s1_1s2_0s2_0s1)),
    unary main_v3 main_v132 ((extractStridedSlice S1x1x64x128 ![1, 0, 0, 0] · slices_S4x4x64x128_S1x1x64x128_1_0_0_0)),
    reshape main_v132 main_v133 (rfl : (.f32 : EltTy) = .f32) shapeCasts_S1x1x64x128_S64x128,
    binary main_v131 main_v133 main_v134 ((fun l r => Host.dotGeneral dot_S64x16x16x64_S64x128_S64x16x16x128_3_0_012_1_n_n none l r)),
    binary main_v130 main_v134 main_v135 (addf),
    unary main_v109 main_v136 ((Host.slice S64x16x16x64 ![0, 1, 1, 0] ![1, 2, 2, 1] · slicesBy_S64x34x34x64_S64x16x16x64_0s1_1s2_1s2_0s1)),
    unary main_v3 main_v137 ((extractStridedSlice S1x1x64x128 ![1, 1, 0, 0] · slices_S4x4x64x128_S1x1x64x128_1_1_0_0)),
    reshape main_v137 main_v138 (rfl : (.f32 : EltTy) = .f32) shapeCasts_S1x1x64x128_S64x128,
    binary main_v136 main_v138 main_v139 ((fun l r => Host.dotGeneral dot_S64x16x16x64_S64x128_S64x16x16x128_3_0_012_1_n_n none l r)),
    binary main_v135 main_v139 main_v140 (addf),
    unary main_v109 main_v141 ((Host.slice S64x16x16x64 ![0, 1, 2, 0] ![1, 2, 2, 1] · slicesBy_S64x34x34x64_S64x16x16x64_0s1_1s2_2s2_0s1)),
    unary main_v3 main_v142 ((extractStridedSlice S1x1x64x128 ![1, 2, 0, 0] · slices_S4x4x64x128_S1x1x64x128_1_2_0_0)),
    reshape main_v142 main_v143 (rfl : (.f32 : EltTy) = .f32) shapeCasts_S1x1x64x128_S64x128,
    binary main_v141 main_v143 main_v144 ((fun l r => Host.dotGeneral dot_S64x16x16x64_S64x128_S64x16x16x128_3_0_012_1_n_n none l r)),
    binary main_v140 main_v144 main_v145 (addf),
    unary main_v109 main_v146 ((Host.slice S64x16x16x64 ![0, 1, 3, 0] ![1, 2, 2, 1] · slicesBy_S64x34x34x64_S64x16x16x64_0s1_1s2_3s2_0s1)),
    unary main_v3 main_v147 ((extractStridedSlice S1x1x64x128 ![1, 3, 0, 0] · slices_S4x4x64x128_S1x1x64x128_1_3_0_0)),
    reshape main_v147 main_v148 (rfl : (.f32 : EltTy) = .f32) shapeCasts_S1x1x64x128_S64x128,
    binary main_v146 main_v148 main_v149 ((fun l r => Host.dotGeneral dot_S64x16x16x64_S64x128_S64x16x16x128_3_0_012_1_n_n none l r)),
    binary main_v145 main_v149 main_v150 (addf),
    unary main_v109 main_v151 ((Host.slice S64x16x16x64 ![0, 2, 0, 0] ![1, 2, 2, 1] · slicesBy_S64x34x34x64_S64x16x16x64_0s1_2s2_0s2_0s1)),
    unary main_v3 main_v152 ((extractStridedSlice S1x1x64x128 ![2, 0, 0, 0] · slices_S4x4x64x128_S1x1x64x128_2_0_0_0)) ]

/-- @main's operations 182 … 182 of 413. -/
abbrev ops_part2_2 : List (HloOp τ sig (Elt F)) :=
  [ reshape main_v152 main_v153 (rfl : (.f32 : EltTy) = .f32) shapeCasts_S1x1x64x128_S64x128 ]

/-- Window `main_part2`'s operations. Not an abbreviation: `main_eq` below splits `ops` into the windows and no further. -/
def ops_part2 : List (HloOp τ sig (Elt F)) :=
  ops_part2_0 ++ (ops_part2_1 ++ (ops_part2_2))

/-- @main's operations 183 … 212 of 413. -/
abbrev ops_part3_0 : List (HloOp τ sig (Elt F)) :=
  [ binary main_v151 main_v153 main_v154 ((fun l r => Host.dotGeneral dot_S64x16x16x64_S64x128_S64x16x16x128_3_0_012_1_n_n none l r)),
    binary main_v150 main_v154 main_v155 (addf),
    unary main_v109 main_v156 ((Host.slice S64x16x16x64 ![0, 2, 1, 0] ![1, 2, 2, 1] · slicesBy_S64x34x34x64_S64x16x16x64_0s1_2s2_1s2_0s1)),
    unary main_v3 main_v157 ((extractStridedSlice S1x1x64x128 ![2, 1, 0, 0] · slices_S4x4x64x128_S1x1x64x128_2_1_0_0)),
    reshape main_v157 main_v158 (rfl : (.f32 : EltTy) = .f32) shapeCasts_S1x1x64x128_S64x128,
    binary main_v156 main_v158 main_v159 ((fun l r => Host.dotGeneral dot_S64x16x16x64_S64x128_S64x16x16x128_3_0_012_1_n_n none l r)),
    binary main_v155 main_v159 main_v160 (addf),
    unary main_v109 main_v161 ((Host.slice S64x16x16x64 ![0, 2, 2, 0] ![1, 2, 2, 1] · slicesBy_S64x34x34x64_S64x16x16x64_0s1_2s2_2s2_0s1)),
    unary main_v3 main_v162 ((extractStridedSlice S1x1x64x128 ![2, 2, 0, 0] · slices_S4x4x64x128_S1x1x64x128_2_2_0_0)),
    reshape main_v162 main_v163 (rfl : (.f32 : EltTy) = .f32) shapeCasts_S1x1x64x128_S64x128,
    binary main_v161 main_v163 main_v164 ((fun l r => Host.dotGeneral dot_S64x16x16x64_S64x128_S64x16x16x128_3_0_012_1_n_n none l r)),
    binary main_v160 main_v164 main_v165 (addf),
    unary main_v109 main_v166 ((Host.slice S64x16x16x64 ![0, 2, 3, 0] ![1, 2, 2, 1] · slicesBy_S64x34x34x64_S64x16x16x64_0s1_2s2_3s2_0s1)),
    unary main_v3 main_v167 ((extractStridedSlice S1x1x64x128 ![2, 3, 0, 0] · slices_S4x4x64x128_S1x1x64x128_2_3_0_0)),
    reshape main_v167 main_v168 (rfl : (.f32 : EltTy) = .f32) shapeCasts_S1x1x64x128_S64x128,
    binary main_v166 main_v168 main_v169 ((fun l r => Host.dotGeneral dot_S64x16x16x64_S64x128_S64x16x16x128_3_0_012_1_n_n none l r)),
    binary main_v165 main_v169 main_v170 (addf),
    unary main_v109 main_v171 ((Host.slice S64x16x16x64 ![0, 3, 0, 0] ![1, 2, 2, 1] · slicesBy_S64x34x34x64_S64x16x16x64_0s1_3s2_0s2_0s1)),
    unary main_v3 main_v172 ((extractStridedSlice S1x1x64x128 ![3, 0, 0, 0] · slices_S4x4x64x128_S1x1x64x128_3_0_0_0)),
    reshape main_v172 main_v173 (rfl : (.f32 : EltTy) = .f32) shapeCasts_S1x1x64x128_S64x128,
    binary main_v171 main_v173 main_v174 ((fun l r => Host.dotGeneral dot_S64x16x16x64_S64x128_S64x16x16x128_3_0_012_1_n_n none l r)),
    binary main_v170 main_v174 main_v175 (addf),
    unary main_v109 main_v176 ((Host.slice S64x16x16x64 ![0, 3, 1, 0] ![1, 2, 2, 1] · slicesBy_S64x34x34x64_S64x16x16x64_0s1_3s2_1s2_0s1)),
    unary main_v3 main_v177 ((extractStridedSlice S1x1x64x128 ![3, 1, 0, 0] · slices_S4x4x64x128_S1x1x64x128_3_1_0_0)),
    reshape main_v177 main_v178 (rfl : (.f32 : EltTy) = .f32) shapeCasts_S1x1x64x128_S64x128,
    binary main_v176 main_v178 main_v179 ((fun l r => Host.dotGeneral dot_S64x16x16x64_S64x128_S64x16x16x128_3_0_012_1_n_n none l r)),
    binary main_v175 main_v179 main_v180 (addf),
    unary main_v109 main_v181 ((Host.slice S64x16x16x64 ![0, 3, 2, 0] ![1, 2, 2, 1] · slicesBy_S64x34x34x64_S64x16x16x64_0s1_3s2_2s2_0s1)),
    unary main_v3 main_v182 ((extractStridedSlice S1x1x64x128 ![3, 2, 0, 0] · slices_S4x4x64x128_S1x1x64x128_3_2_0_0)),
    reshape main_v182 main_v183 (rfl : (.f32 : EltTy) = .f32) shapeCasts_S1x1x64x128_S64x128 ]

/-- @main's operations 213 … 242 of 413. -/
abbrev ops_part3_1 : List (HloOp τ sig (Elt F)) :=
  [ binary main_v181 main_v183 main_v184 ((fun l r => Host.dotGeneral dot_S64x16x16x64_S64x128_S64x16x16x128_3_0_012_1_n_n none l r)),
    binary main_v180 main_v184 main_v185 (addf),
    unary main_v109 main_v186 ((Host.slice S64x16x16x64 ![0, 3, 3, 0] ![1, 2, 2, 1] · slicesBy_S64x34x34x64_S64x16x16x64_0s1_3s2_3s2_0s1)),
    unary main_v3 main_v187 ((extractStridedSlice S1x1x64x128 ![3, 3, 0, 0] · slices_S4x4x64x128_S1x1x64x128_3_3_0_0)),
    reshape main_v187 main_v188 (rfl : (.f32 : EltTy) = .f32) shapeCasts_S1x1x64x128_S64x128,
    binary main_v186 main_v188 main_v189 ((fun l r => Host.dotGeneral dot_S64x16x16x64_S64x128_S64x16x16x128_3_0_012_1_n_n none l r)),
    binary main_v185 main_v189 main_v190 (addf),
    unary main_v4 main_v191 (broadcastInDim S1x1x1x128 ![3] bcast_S128_S1x1x1x128_3),
    unary main_v191 main_v192 (broadcastInDim S64x16x16x128 ![0, 1, 2, 3] bcast_S1x1x1x128_S64x16x16x128_0_1_2_3),
    binary main_v190 main_v192 main_v193 (addf),
    nullary main_cst_24 (constant S_ .f32 0x00000000#32),
    unary main_cst_24 main_v194 (broadcastInDim S64x16x16x128 ![] bcast_S_S64x16x16x128),
    binary main_v193 main_v194 main_v195 (maximumf),
    nullary main_c_25 (constantI S_ 32 0#32),
    TRef.unary (TRef.of (T := ⟨S_, .i32⟩) main_c_25) (TRef.of (T := ⟨S_, .f32⟩) main_call2_v0) (sitofp .f32),
    TRef.binary (TRef.of (T := ⟨S64x16x16x128, .f32⟩) main_v195) (TRef.of (T := ⟨S_, .f32⟩) main_call2_v0) (TRef.of (T := ⟨S64x18x18x128, .f32⟩) main_v196) (fun x v => pad S64x18x18x128 ![0, 1, 1, 0] ![0, 1, 1, 0] ![0, 0, 0, 0] x v pads_S64x16x16x128_S64x18x18x128_000_110_110_000 h_S_),
    nullary main_cst_26 (constant S_ .f32 0x00000000#32),
    unary main_cst_26 main_v197 (broadcastInDim S64x8x8x256 ![] bcast_S_S64x8x8x256),
    unary main_v196 main_v198 ((Host.slice S64x8x8x128 ![0, 0, 0, 0] ![1, 2, 2, 1] · slicesBy_S64x18x18x128_S64x8x8x128_0s1_0s2_0s2_0s1)),
    unary main_v5 main_v199 ((extractStridedSlice S1x1x128x256 ![0, 0, 0, 0] · slices_S4x4x128x256_S1x1x128x256_0_0_0_0)),
    reshape main_v199 main_v200 (rfl : (.f32 : EltTy) = .f32) shapeCasts_S1x1x128x256_S128x256,
    binary main_v198 main_v200 main_v201 ((fun l r => Host.dotGeneral dot_S64x8x8x128_S128x256_S64x8x8x256_3_0_012_1_n_n none l r)),
    binary main_v197 main_v201 main_v202 (addf),
    unary main_v196 main_v203 ((Host.slice S64x8x8x128 ![0, 0, 1, 0] ![1, 2, 2, 1] · slicesBy_S64x18x18x128_S64x8x8x128_0s1_0s2_1s2_0s1)),
    unary main_v5 main_v204 ((extractStridedSlice S1x1x128x256 ![0, 1, 0, 0] · slices_S4x4x128x256_S1x1x128x256_0_1_0_0)),
    reshape main_v204 main_v205 (rfl : (.f32 : EltTy) = .f32) shapeCasts_S1x1x128x256_S128x256,
    binary main_v203 main_v205 main_v206 ((fun l r => Host.dotGeneral dot_S64x8x8x128_S128x256_S64x8x8x256_3_0_012_1_n_n none l r)),
    binary main_v202 main_v206 main_v207 (addf),
    unary main_v196 main_v208 ((Host.slice S64x8x8x128 ![0, 0, 2, 0] ![1, 2, 2, 1] · slicesBy_S64x18x18x128_S64x8x8x128_0s1_0s2_2s2_0s1)),
    unary main_v5 main_v209 ((extractStridedSlice S1x1x128x256 ![0, 2, 0, 0] · slices_S4x4x128x256_S1x1x128x256_0_2_0_0)) ]

/-- @main's operations 243 … 243 of 413. -/
abbrev ops_part3_2 : List (HloOp τ sig (Elt F)) :=
  [ reshape main_v209 main_v210 (rfl : (.f32 : EltTy) = .f32) shapeCasts_S1x1x128x256_S128x256 ]

/-- Window `main_part3`'s operations. Not an abbreviation: `main_eq` below splits `ops` into the windows and no further. -/
def ops_part3 : List (HloOp τ sig (Elt F)) :=
  ops_part3_0 ++ (ops_part3_1 ++ (ops_part3_2))

/-- @main's operations 244 … 303 of 413. -/
abbrev ops_part4 : List (HloOp τ sig (Elt F)) :=
  [ binary main_v208 main_v210 main_v211 ((fun l r => Host.dotGeneral dot_S64x8x8x128_S128x256_S64x8x8x256_3_0_012_1_n_n none l r)),
    binary main_v207 main_v211 main_v212 (addf),
    unary main_v196 main_v213 ((Host.slice S64x8x8x128 ![0, 0, 3, 0] ![1, 2, 2, 1] · slicesBy_S64x18x18x128_S64x8x8x128_0s1_0s2_3s2_0s1)),
    unary main_v5 main_v214 ((extractStridedSlice S1x1x128x256 ![0, 3, 0, 0] · slices_S4x4x128x256_S1x1x128x256_0_3_0_0)),
    reshape main_v214 main_v215 (rfl : (.f32 : EltTy) = .f32) shapeCasts_S1x1x128x256_S128x256,
    binary main_v213 main_v215 main_v216 ((fun l r => Host.dotGeneral dot_S64x8x8x128_S128x256_S64x8x8x256_3_0_012_1_n_n none l r)),
    binary main_v212 main_v216 main_v217 (addf),
    unary main_v196 main_v218 ((Host.slice S64x8x8x128 ![0, 1, 0, 0] ![1, 2, 2, 1] · slicesBy_S64x18x18x128_S64x8x8x128_0s1_1s2_0s2_0s1)),
    unary main_v5 main_v219 ((extractStridedSlice S1x1x128x256 ![1, 0, 0, 0] · slices_S4x4x128x256_S1x1x128x256_1_0_0_0)),
    reshape main_v219 main_v220 (rfl : (.f32 : EltTy) = .f32) shapeCasts_S1x1x128x256_S128x256,
    binary main_v218 main_v220 main_v221 ((fun l r => Host.dotGeneral dot_S64x8x8x128_S128x256_S64x8x8x256_3_0_012_1_n_n none l r)),
    binary main_v217 main_v221 main_v222 (addf),
    unary main_v196 main_v223 ((Host.slice S64x8x8x128 ![0, 1, 1, 0] ![1, 2, 2, 1] · slicesBy_S64x18x18x128_S64x8x8x128_0s1_1s2_1s2_0s1)),
    unary main_v5 main_v224 ((extractStridedSlice S1x1x128x256 ![1, 1, 0, 0] · slices_S4x4x128x256_S1x1x128x256_1_1_0_0)),
    reshape main_v224 main_v225 (rfl : (.f32 : EltTy) = .f32) shapeCasts_S1x1x128x256_S128x256,
    binary main_v223 main_v225 main_v226 ((fun l r => Host.dotGeneral dot_S64x8x8x128_S128x256_S64x8x8x256_3_0_012_1_n_n none l r)),
    binary main_v222 main_v226 main_v227 (addf),
    unary main_v196 main_v228 ((Host.slice S64x8x8x128 ![0, 1, 2, 0] ![1, 2, 2, 1] · slicesBy_S64x18x18x128_S64x8x8x128_0s1_1s2_2s2_0s1)),
    unary main_v5 main_v229 ((extractStridedSlice S1x1x128x256 ![1, 2, 0, 0] · slices_S4x4x128x256_S1x1x128x256_1_2_0_0)),
    reshape main_v229 main_v230 (rfl : (.f32 : EltTy) = .f32) shapeCasts_S1x1x128x256_S128x256,
    binary main_v228 main_v230 main_v231 ((fun l r => Host.dotGeneral dot_S64x8x8x128_S128x256_S64x8x8x256_3_0_012_1_n_n none l r)),
    binary main_v227 main_v231 main_v232 (addf),
    unary main_v196 main_v233 ((Host.slice S64x8x8x128 ![0, 1, 3, 0] ![1, 2, 2, 1] · slicesBy_S64x18x18x128_S64x8x8x128_0s1_1s2_3s2_0s1)),
    unary main_v5 main_v234 ((extractStridedSlice S1x1x128x256 ![1, 3, 0, 0] · slices_S4x4x128x256_S1x1x128x256_1_3_0_0)),
    reshape main_v234 main_v235 (rfl : (.f32 : EltTy) = .f32) shapeCasts_S1x1x128x256_S128x256,
    binary main_v233 main_v235 main_v236 ((fun l r => Host.dotGeneral dot_S64x8x8x128_S128x256_S64x8x8x256_3_0_012_1_n_n none l r)),
    binary main_v232 main_v236 main_v237 (addf),
    unary main_v196 main_v238 ((Host.slice S64x8x8x128 ![0, 2, 0, 0] ![1, 2, 2, 1] · slicesBy_S64x18x18x128_S64x8x8x128_0s1_2s2_0s2_0s1)),
    unary main_v5 main_v239 ((extractStridedSlice S1x1x128x256 ![2, 0, 0, 0] · slices_S4x4x128x256_S1x1x128x256_2_0_0_0)),
    reshape main_v239 main_v240 (rfl : (.f32 : EltTy) = .f32) shapeCasts_S1x1x128x256_S128x256,
    binary main_v238 main_v240 main_v241 ((fun l r => Host.dotGeneral dot_S64x8x8x128_S128x256_S64x8x8x256_3_0_012_1_n_n none l r)),
    binary main_v237 main_v241 main_v242 (addf),
    unary main_v196 main_v243 ((Host.slice S64x8x8x128 ![0, 2, 1, 0] ![1, 2, 2, 1] · slicesBy_S64x18x18x128_S64x8x8x128_0s1_2s2_1s2_0s1)),
    unary main_v5 main_v244 ((extractStridedSlice S1x1x128x256 ![2, 1, 0, 0] · slices_S4x4x128x256_S1x1x128x256_2_1_0_0)),
    reshape main_v244 main_v245 (rfl : (.f32 : EltTy) = .f32) shapeCasts_S1x1x128x256_S128x256,
    binary main_v243 main_v245 main_v246 ((fun l r => Host.dotGeneral dot_S64x8x8x128_S128x256_S64x8x8x256_3_0_012_1_n_n none l r)),
    binary main_v242 main_v246 main_v247 (addf),
    unary main_v196 main_v248 ((Host.slice S64x8x8x128 ![0, 2, 2, 0] ![1, 2, 2, 1] · slicesBy_S64x18x18x128_S64x8x8x128_0s1_2s2_2s2_0s1)),
    unary main_v5 main_v249 ((extractStridedSlice S1x1x128x256 ![2, 2, 0, 0] · slices_S4x4x128x256_S1x1x128x256_2_2_0_0)),
    reshape main_v249 main_v250 (rfl : (.f32 : EltTy) = .f32) shapeCasts_S1x1x128x256_S128x256,
    binary main_v248 main_v250 main_v251 ((fun l r => Host.dotGeneral dot_S64x8x8x128_S128x256_S64x8x8x256_3_0_012_1_n_n none l r)),
    binary main_v247 main_v251 main_v252 (addf),
    unary main_v196 main_v253 ((Host.slice S64x8x8x128 ![0, 2, 3, 0] ![1, 2, 2, 1] · slicesBy_S64x18x18x128_S64x8x8x128_0s1_2s2_3s2_0s1)),
    unary main_v5 main_v254 ((extractStridedSlice S1x1x128x256 ![2, 3, 0, 0] · slices_S4x4x128x256_S1x1x128x256_2_3_0_0)),
    reshape main_v254 main_v255 (rfl : (.f32 : EltTy) = .f32) shapeCasts_S1x1x128x256_S128x256,
    binary main_v253 main_v255 main_v256 ((fun l r => Host.dotGeneral dot_S64x8x8x128_S128x256_S64x8x8x256_3_0_012_1_n_n none l r)),
    binary main_v252 main_v256 main_v257 (addf),
    unary main_v196 main_v258 ((Host.slice S64x8x8x128 ![0, 3, 0, 0] ![1, 2, 2, 1] · slicesBy_S64x18x18x128_S64x8x8x128_0s1_3s2_0s2_0s1)),
    unary main_v5 main_v259 ((extractStridedSlice S1x1x128x256 ![3, 0, 0, 0] · slices_S4x4x128x256_S1x1x128x256_3_0_0_0)),
    reshape main_v259 main_v260 (rfl : (.f32 : EltTy) = .f32) shapeCasts_S1x1x128x256_S128x256,
    binary main_v258 main_v260 main_v261 ((fun l r => Host.dotGeneral dot_S64x8x8x128_S128x256_S64x8x8x256_3_0_012_1_n_n none l r)),
    binary main_v257 main_v261 main_v262 (addf),
    unary main_v196 main_v263 ((Host.slice S64x8x8x128 ![0, 3, 1, 0] ![1, 2, 2, 1] · slicesBy_S64x18x18x128_S64x8x8x128_0s1_3s2_1s2_0s1)),
    unary main_v5 main_v264 ((extractStridedSlice S1x1x128x256 ![3, 1, 0, 0] · slices_S4x4x128x256_S1x1x128x256_3_1_0_0)),
    reshape main_v264 main_v265 (rfl : (.f32 : EltTy) = .f32) shapeCasts_S1x1x128x256_S128x256,
    binary main_v263 main_v265 main_v266 ((fun l r => Host.dotGeneral dot_S64x8x8x128_S128x256_S64x8x8x256_3_0_012_1_n_n none l r)),
    binary main_v262 main_v266 main_v267 (addf),
    unary main_v196 main_v268 ((Host.slice S64x8x8x128 ![0, 3, 2, 0] ![1, 2, 2, 1] · slicesBy_S64x18x18x128_S64x8x8x128_0s1_3s2_2s2_0s1)),
    unary main_v5 main_v269 ((extractStridedSlice S1x1x128x256 ![3, 2, 0, 0] · slices_S4x4x128x256_S1x1x128x256_3_2_0_0)),
    reshape main_v269 main_v270 (rfl : (.f32 : EltTy) = .f32) shapeCasts_S1x1x128x256_S128x256 ]

/-- @main's operations 304 … 333 of 413. -/
abbrev ops_part5_0 : List (HloOp τ sig (Elt F)) :=
  [ binary main_v268 main_v270 main_v271 ((fun l r => Host.dotGeneral dot_S64x8x8x128_S128x256_S64x8x8x256_3_0_012_1_n_n none l r)),
    binary main_v267 main_v271 main_v272 (addf),
    unary main_v196 main_v273 ((Host.slice S64x8x8x128 ![0, 3, 3, 0] ![1, 2, 2, 1] · slicesBy_S64x18x18x128_S64x8x8x128_0s1_3s2_3s2_0s1)),
    unary main_v5 main_v274 ((extractStridedSlice S1x1x128x256 ![3, 3, 0, 0] · slices_S4x4x128x256_S1x1x128x256_3_3_0_0)),
    reshape main_v274 main_v275 (rfl : (.f32 : EltTy) = .f32) shapeCasts_S1x1x128x256_S128x256,
    binary main_v273 main_v275 main_v276 ((fun l r => Host.dotGeneral dot_S64x8x8x128_S128x256_S64x8x8x256_3_0_012_1_n_n none l r)),
    binary main_v272 main_v276 main_v277 (addf),
    unary main_v6 main_v278 (broadcastInDim S1x1x1x256 ![3] bcast_S256_S1x1x1x256_3),
    unary main_v278 main_v279 (broadcastInDim S64x8x8x256 ![0, 1, 2, 3] bcast_S1x1x1x256_S64x8x8x256_0_1_2_3),
    binary main_v277 main_v279 main_v280 (addf),
    nullary main_cst_27 (constant S_ .f32 0x00000000#32),
    unary main_cst_27 main_v281 (broadcastInDim S64x8x8x256 ![] bcast_S_S64x8x8x256),
    binary main_v280 main_v281 main_v282 (maximumf),
    reshape main_v282 main_v283 (rfl : (.f32 : EltTy) = .f32) shapeCasts_S64x8x8x256_S64x16384,
    binary main_v283 main_v7 main_v284 ((fun l r => Host.dotGeneral dot_S64x16384_S16384x1024_S64x1024_1_0_0_1_n_n none l r)),
    unary main_v8 main_v285 (broadcastInDim S1x1024 ![1] bcast_S1024_S1x1024_1),
    unary main_v285 main_v286 (broadcastInDim S64x1024 ![0, 1] bcast_S1x1024_S64x1024_0_1),
    binary main_v284 main_v286 main_v287 (addf),
    nullary main_cst_28 (constant S_ .f32 0x00000000#32),
    unary main_cst_28 main_v288 (broadcastInDim S64x1024 ![] bcast_S_S64x1024),
    binary main_v287 main_v288 main_v289 (maximumf),
    binary main_v289 main_v9 main_v290 ((fun l r => Host.dotGeneral dot_S64x1024_S1024x2048_S64x2048_1_0_0_1_n_n none l r)),
    unary main_v10 main_v291 (broadcastInDim S1x2048 ![1] bcast_S2048_S1x2048_1),
    unary main_v291 main_v292 (broadcastInDim S64x2048 ![0, 1] bcast_S1x2048_S64x2048_0_1),
    binary main_v290 main_v292 main_v293 (addf),
    nullary main_cst_29 (constant S_ .f32 0x00000000#32),
    unary main_cst_29 main_v294 (broadcastInDim S64x2048 ![] bcast_S_S64x2048),
    binary main_v293 main_v294 main_v295 (maximumf),
    reshape main_v295 main_v296 (rfl : (.f32 : EltTy) = .f32) shapeCasts_S64x2048_S64x32x64,
    unary main_v296 main_v297 (broadcastInDim S64x32x1x64 ![0, 1, 3] bcast_S64x32x64_S64x32x1x64_0_1_3) ]

/-- @main's operations 334 … 363 of 413. -/
abbrev ops_part5_1 : List (HloOp τ sig (Elt F)) :=
  [ unary main_v11 main_v298 (broadcastInDim S1x1x512x64 ![2, 3] bcast_S512x64_S1x1x512x64_2_3),
    unary main_v297 main_v299 (broadcastInDim S64x32x512x64 ![0, 1, 2, 3] bcast_S64x32x1x64_S64x32x512x64_0_1_2_3),
    unary main_v298 main_v300 (broadcastInDim S64x32x512x64 ![0, 1, 2, 3] bcast_S1x1x512x64_S64x32x512x64_0_1_2_3),
    binary main_v299 main_v300 main_v301 (subf),
    TRef.binary (TRef.of (T := ⟨S64x32x512x64, .f32⟩) main_v301) (TRef.of (T := ⟨S64x32x512x64, .f32⟩) main_v301) (TRef.of (T := ⟨S64x32x512x64, .f32⟩) main_call3_v0) mulf,
    TRef.nullary (TRef.of (T := ⟨S_, .f32⟩) main_call3_cst) (constant S_ .f32 0x00000000#32),
    TRef.binary (TRef.of (T := ⟨S64x32x512x64, .f32⟩) main_call3_v0) (TRef.of (T := ⟨S_, .f32⟩) main_call3_cst) (TRef.of (T := ⟨S64x32x512, .f32⟩) main_call3_v1) (fun x v => Host.reduceAdd x v reducesTo_S64x32x512x64_S64x32x512_d3 h_S_),
    TRef.unary (TRef.of (T := ⟨S64x32x512, .f32⟩) main_call3_v1) (TRef.of (T := ⟨S64x32x512, .f32⟩) main_v302) Host.sqrt,
    TRef.nullary (TRef.of (T := ⟨S64x32x512, .i32⟩) main_call4_v0) (iotaInDim S64x32x512 32 2),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S64x32x512, .f32⟩) main_v302) (TRef.of (T := ⟨S64x32x512, .i32⟩) main_call4_v0) (TRef.of (T := ⟨S_, .f32⟩) main_call4_cst) (TRef.of (T := ⟨S_, .i32⟩) main_call4_c) (TRef.of (T := ⟨S64x32, .f32⟩) main_call4_v1_0) (fun x y u v j => (Host.argReduce reducer_argmin_f32_i32 x y u v reducesTo_S64x32x512_S64x32_d2 h_S_ j).1),
    TRef.quaternary (TRef.of (T := ⟨S64x32x512, .f32⟩) main_v302) (TRef.of (T := ⟨S64x32x512, .i32⟩) main_call4_v0) (TRef.of (T := ⟨S_, .f32⟩) main_call4_cst) (TRef.of (T := ⟨S_, .i32⟩) main_call4_c) (TRef.of (T := ⟨S64x32, .i32⟩) main_v303) (fun x y u v j => (Host.argReduce reducer_argmin_f32_i32 x y u v reducesTo_S64x32x512_S64x32_d2 h_S_ j).2),
    TRef.nullary (TRef.of (T := ⟨S_, .i32⟩) main_call5_c) (constantI S_ 32 0#32),
    TRef.unary (TRef.of (T := ⟨S_, .i32⟩) main_call5_c) (TRef.of (T := ⟨S64x32, .i32⟩) main_call5_v0) (broadcastInDim S64x32 ![] bcast_S_S64x32),
    TRef.binary (TRef.of (T := ⟨S64x32, .i32⟩) main_v303) (TRef.of (T := ⟨S64x32, .i32⟩) main_call5_v0) (TRef.of (T := ⟨S64x32, .i1⟩) main_call5_v1) (cmpi .slt),
    TRef.nullary (TRef.of (T := ⟨S_, .i32⟩) main_call5_c_0) (constantI S_ 32 512#32),
    TRef.unary (TRef.of (T := ⟨S_, .i32⟩) main_call5_c_0) (TRef.of (T := ⟨S64x32, .i32⟩) main_call5_v2) (broadcastInDim S64x32 ![] bcast_S_S64x32),
    TRef.binary (TRef.of (T := ⟨S64x32, .i32⟩) main_v303) (TRef.of (T := ⟨S64x32, .i32⟩) main_call5_v2) (TRef.of (T := ⟨S64x32, .i32⟩) main_call5_v3) addi,
    TRef.ternary (TRef.of (T := ⟨S64x32, .i1⟩) main_call5_v1) (TRef.of (T := ⟨S64x32, .i32⟩) main_call5_v3) (TRef.of (T := ⟨S64x32, .i32⟩) main_v303) (TRef.of (T := ⟨S64x32, .i32⟩) main_call5_v4) select,
    TRef.unary (TRef.of (T := ⟨S64x32, .i32⟩) main_call5_v4) (TRef.of (T := ⟨S64x32x1, .i32⟩) main_call5_v5) (broadcastInDim S64x32x1 ![0, 1] bcast_S64x32_S64x32x1_0_1),
    TRef.nullary (TRef.of (T := ⟨S1, .i32⟩) main_call5_c_1) (constantI S1 32 511#32),
    TRef.nullary (TRef.of (T := ⟨S_, .i32⟩) main_call5_c_2) (constantI S_ 32 0#32),
    TRef.unary (TRef.of (T := ⟨S_, .i32⟩) main_call5_c_2) (TRef.of (T := ⟨S64x32x1, .i32⟩) main_call5_v6) (broadcastInDim S64x32x1 ![] bcast_S_S64x32x1),
    TRef.binary (TRef.of (T := ⟨S64x32x1, .i32⟩) main_call5_v5) (TRef.of (T := ⟨S64x32x1, .i32⟩) main_call5_v6) (TRef.of (T := ⟨S64x32x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S64x32x1, .i32⟩) main_call5_v9) (broadcastInDim S64x32x1 ![0, 1, 2] bcast_S1x1x1_S64x32x1_0_1_2),
    TRef.binary (TRef.of (T := ⟨S64x32x1, .i32⟩) main_call5_v5) (TRef.of (T := ⟨S64x32x1, .i32⟩) main_call5_v9) (TRef.of (T := ⟨S64x32x1, .i1⟩) main_call5_v10) (cmpi .sle),
    TRef.binary (TRef.of (T := ⟨S64x32x1, .i1⟩) main_call5_v7) (TRef.of (T := ⟨S64x32x1, .i1⟩) main_call5_v10) (TRef.of (T := ⟨S64x32x1, .i1⟩) main_call5_v11) andi,
    TRef.nullary (TRef.of (T := ⟨S_, .i1⟩) main_call5_c_3) (constantI S_ 1 1#1) ]

/-- @main's operations 364 … 392 of 413. -/
abbrev ops_part5_2 : List (HloOp τ sig (Elt F)) :=
  [ TRef.binary (TRef.of (T := ⟨S64x32x1, .i1⟩) main_call5_v11) (TRef.of (T := ⟨S_, .i1⟩) main_call5_c_3) (TRef.of (T := ⟨S64x32, .i1⟩) main_call5_v12) (fun x v => Host.reduce IntOp.andi x v reducesTo_S64x32x1_S64x32_d2 h_S_),
    TRef.binary (TRef.of (T := ⟨S512x64, .f32⟩) main_v11) (TRef.of (T := ⟨S64x32x1, .i32⟩) main_call5_v5) (TRef.of (T := ⟨S64x32x64, .f32⟩) main_call5_v13) (fun x i => Host.gather gather_S512x64_S64x32x1_S64x32x64_2_0_n_n_0_2_164 x i),
    TRef.unary (TRef.of (T := ⟨S64x32, .i1⟩) main_call5_v12) (TRef.of (T := ⟨S64x32x64, .i1⟩) main_call5_v14) (broadcastInDim S64x32x64 ![0, 1] bcast_S64x32_S64x32x64_0_1),
    TRef.nullary (TRef.of (T := ⟨S_, .f32⟩) main_call5_cst) (constant S_ .f32 0x7FC00000#32),
    TRef.unary (TRef.of (T := ⟨S_, .f32⟩) main_call5_cst) (TRef.of (T := ⟨S64x32x64, .f32⟩) main_call5_v15) (broadcastInDim S64x32x64 ![] bcast_S_S64x32x64),
    TRef.ternary (TRef.of (T := ⟨S64x32x64, .i1⟩) main_call5_v14) (TRef.of (T := ⟨S64x32x64, .f32⟩) main_call5_v13) (TRef.of (T := ⟨S64x32x64, .f32⟩) main_call5_v15) (TRef.of (T := ⟨S64x32x64, .f32⟩) main_v304) select,
    reshape main_v304 main_v305 (rfl : (.f32 : EltTy) = .f32) shapeCasts_S64x32x64_S64x2048,
    binary main_v305 main_v12 main_v306 ((fun l r => Host.dotGeneral dot_S64x2048_S2048x1024_S64x1024_1_0_0_1_n_n none l r)),
    unary main_v13 main_v307 (broadcastInDim S1x1024 ![1] bcast_S1024_S1x1024_1),
    unary main_v307 main_v308 (broadcastInDim S64x1024 ![0, 1] bcast_S1x1024_S64x1024_0_1),
    binary main_v306 main_v308 main_v309 (addf),
    nullary main_cst_30 (constant S_ .f32 0x00000000#32),
    unary main_cst_30 main_v310 (broadcastInDim S64x1024 ![] bcast_S_S64x1024),
    binary main_v309 main_v310 main_v311 (maximumf),
    unary main_v311 main_v312 (broadcastInDim S64x1x1x1024 ![0, 3] bcast_S64x1024_S64x1x1x1024_0_3),
    unary main_v14 main_v313 (Host.reverse [0, 1]),
    binary main_v313 main_v312 main_v314 ((fun l r => Host.dotGeneral dot_S8x8x1024x256_S64x1x1x1024_S8x8x256x64x1x1_2_3_013_012_n_n none l r)),
    unary main_v314 main_v315 ((transpose S64x1x8x1x8x256 [3, 4, 0, 5, 1, 2] · transposes_S8x8x256x64x1x1_S64x1x8x1x8x256_3_4_0_5_1_2)),
    reshape main_v315 main_v316 (rfl : (.f32 : EltTy) = .f32) shapeCasts_S64x1x8x1x8x256_S64x8x8x256,
    unary main_v15 main_v317 (broadcastInDim S1x1x1x256 ![3] bcast_S256_S1x1x1x256_3),
    unary main_v317 main_v318 (broadcastInDim S64x8x8x256 ![0, 1, 2, 3] bcast_S1x1x1x256_S64x8x8x256_0_1_2_3),
    binary main_v316 main_v318 main_v319 (addf),
    nullary main_cst_31 (constant S_ .f32 0x00000000#32),
    unary main_cst_31 main_v320 (broadcastInDim S64x8x8x256 ![] bcast_S_S64x8x8x256),
    binary main_v319 main_v320 main_v321 (maximumf),
    unary main_v16 main_v322 (Host.reverse [0, 1]),
    binary main_v322 main_v321 main_v323 ((fun l r => Host.dotGeneral dot_S4x4x256x128_S64x8x8x256_S4x4x128x64x8x8_2_3_013_012_n_n none l r)),
    unary main_v323 main_v324 ((transpose S64x8x4x8x4x128 [3, 4, 0, 5, 1, 2] · transposes_S4x4x128x64x8x8_S64x8x4x8x4x128_3_4_0_5_1_2)),
    reshape main_v324 main_v325 (rfl : (.f32 : EltTy) = .f32) shapeCasts_S64x8x4x8x4x128_S64x32x32x128 ]

/-- Window `main_part5`'s operations. Not an abbreviation: `main_eq` below splits `ops` into the windows and no further. -/
def ops_part5 : List (HloOp τ sig (Elt F)) :=
  ops_part5_0 ++ (ops_part5_1 ++ (ops_part5_2))

/-- @main's operations 393 … 413 of 413. -/
abbrev ops_part6 : List (HloOp τ sig (Elt F)) :=
  [ unary main_v20 main_v326 (broadcastInDim S1x1x1x128 ![3] bcast_S128_S1x1x1x128_3),
    unary main_v326 main_v327 (broadcastInDim S64x32x32x128 ![0, 1, 2, 3] bcast_S1x1x1x128_S64x32x32x128_0_1_2_3),
    binary main_v325 main_v327 main_v328 (addf),
    nullary main_cst_32 (constant S_ .f32 0x00000000#32),
    unary main_cst_32 main_v329 (broadcastInDim S64x32x32x128 ![] bcast_S_S64x32x32x128),
    binary main_v328 main_v329 main_v330 (maximumf),
    unary main_arg0 main_v331 (Host.reverse [0, 1]),
    binary main_v331 main_v330 main_v332 ((fun l r => Host.dotGeneral dot_S2x2x128x1_S64x32x32x128_S2x2x1x64x32x32_2_3_013_012_n_n none l r)),
    unary main_v332 main_v333 ((transpose S64x32x2x32x2x1 [3, 4, 0, 5, 1, 2] · transposes_S2x2x1x64x32x32_S64x32x2x32x2x1_3_4_0_5_1_2)),
    reshape main_v333 main_v334 (rfl : (.f32 : EltTy) = .f32) shapeCasts_S64x32x2x32x2x1_S64x64x64x1,
    unary main_v19 main_v335 (broadcastInDim S1x1x1x1 ![3] bcast_S1_S1x1x1x1_3),
    unary main_v335 main_v336 (broadcastInDim S64x64x64x1 ![0, 1, 2, 3] bcast_S1x1x1x1_S64x64x64x1_0_1_2_3),
    binary main_v334 main_v336 main_v337 (addf),
    unary main_v337 main_v338 (Host.negf),
    unary main_v338 main_v339 (Host.exp),
    nullary main_cst_33 (constant S_ .f32 0x3F800000#32),
    unary main_cst_33 main_v340 (broadcastInDim S64x64x64x1 ![] bcast_S_S64x64x64x1),
    binary main_v340 main_v339 main_v341 (addf),
    nullary main_cst_34 (constant S_ .f32 0x3F800000#32),
    unary main_cst_34 main_v342 (broadcastInDim S64x64x64x1 ![] bcast_S_S64x64x64x1),
    binary main_v342 main_v341 main_v343 (Host.divf) ]

/-- @main's 413 operations, in order (a called function's operations stand in its call's place, spelt `TRef.…`). -/
abbrev ops : List (HloOp τ sig (Elt F)) :=
  ops_part0 ++ (ops_part1 ++ (ops_part2 ++ (ops_part3 ++ (ops_part4 ++ (ops_part5 ++ (ops_part6))))))

set_option maxHeartbeats 4000000 in
theorem main_part0_eq (c : Dev nD) : main_part0 (F := F) c = seq ops_part0 := rfl
theorem main_part1_eq (c : Dev nD) : main_part1 (F := F) c = seq ops_part1 := rfl
set_option maxHeartbeats 4000000 in
theorem main_part2_eq (c : Dev nD) : main_part2 (F := F) c = seq ops_part2 := rfl
set_option maxHeartbeats 4000000 in
theorem main_part3_eq (c : Dev nD) : main_part3 (F := F) c = seq ops_part3 := rfl
theorem main_part4_eq (c : Dev nD) : main_part4 (F := F) c = seq ops_part4 := rfl
set_option maxHeartbeats 4000000 in
theorem main_part5_eq (c : Dev nD) : main_part5 (F := F) c = seq ops_part5 := rfl
theorem main_part6_eq (c : Dev nD) : main_part6 (F := F) c = seq ops_part6 := rfl
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_part0_0_sub : (ops_part0_0 : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub ..⟩
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part0_1_sub : (ops_part0_1 : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., nullary_bufs_sub .., unary_bufs_sub .., binary_bufs_sub .., nullary_bufs_sub .., unary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub ..⟩
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part0_2_sub : (ops_part0_2 : List (HloOp τ sig (Elt F))).Forall fun op => op.bufs ⊆ tcRefs τ sig :=
  reshape_bufs_sub ..
theorem ops_part0_2_fresh : (ops_part0_2 : List (HloOp τ sig (Elt F))).Forall fun op => op.fresh = ∅ :=
  rfl
theorem ops_part1_sub : (ops_part1 : List (HloOp τ sig (Elt F))).Forall fun op => op.bufs ⊆ tcRefs τ sig :=
  ⟨binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub ..⟩
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part2_0_sub : (ops_part2_0 : List (HloOp τ sig (Elt F))).Forall fun op => op.bufs ⊆ tcRefs τ sig :=
  ⟨binary_bufs_sub .., binary_bufs_sub .., unary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub ..⟩
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part2_1_sub : (ops_part2_1 : List (HloOp τ sig (Elt F))).Forall fun op => op.bufs ⊆ tcRefs τ sig :=
  ⟨reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub ..⟩
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part2_2_sub : (ops_part2_2 : List (HloOp τ sig (Elt F))).Forall fun op => op.bufs ⊆ tcRefs τ sig :=
  reshape_bufs_sub ..
theorem ops_part2_2_fresh : (ops_part2_2 : List (HloOp τ sig (Elt F))).Forall fun op => op.fresh = ∅ :=
  rfl
theorem ops_part3_0_sub : (ops_part3_0 : List (HloOp τ sig (Elt F))).Forall fun op => op.bufs ⊆ tcRefs τ sig :=
  ⟨binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub ..⟩
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part3_1_sub : (ops_part3_1 : List (HloOp τ sig (Elt F))).Forall fun op => op.bufs ⊆ tcRefs τ sig :=
  ⟨binary_bufs_sub .., binary_bufs_sub .., unary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub ..⟩
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part3_2_sub : (ops_part3_2 : List (HloOp τ sig (Elt F))).Forall fun op => op.bufs ⊆ tcRefs τ sig :=
  reshape_bufs_sub ..
theorem ops_part3_2_fresh : (ops_part3_2 : List (HloOp τ sig (Elt F))).Forall fun op => op.fresh = ∅ :=
  rfl
theorem ops_part4_sub : (ops_part4 : List (HloOp τ sig (Elt F))).Forall fun op => op.bufs ⊆ tcRefs τ sig :=
  ⟨binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub ..⟩
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part5_0_sub : (ops_part5_0 : List (HloOp τ sig (Elt F))).Forall fun op => op.bufs ⊆ tcRefs τ sig :=
  ⟨binary_bufs_sub .., binary_bufs_sub .., unary_bufs_sub .., unary_bufs_sub .., reshape_bufs_sub .., binary_bufs_sub .., binary_bufs_sub .., unary_bufs_sub .., unary_bufs_sub .., binary_bufs_sub .., nullary_bufs_sub .., unary_bufs_sub .., binary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., reshape_bufs_sub .., unary_bufs_sub ..⟩
theorem ops_part5_0_fresh : (ops_part5_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part5_1_sub : (ops_part5_1 : List (HloOp τ sig (Elt F))).Forall fun op => op.bufs ⊆ tcRefs τ sig :=
  ⟨unary_bufs_sub .., unary_bufs_sub .., unary_bufs_sub .., binary_bufs_sub .., binary_bufs_sub .., nullary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub ..⟩
theorem ops_part5_1_fresh : (ops_part5_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part5_2_sub : (ops_part5_2 : List (HloOp τ sig (Elt F))).Forall fun op => op.bufs ⊆ tcRefs τ sig :=
  ⟨binary_bufs_sub .., binary_bufs_sub .., unary_bufs_sub .., nullary_bufs_sub .., unary_bufs_sub .., ternary_bufs_sub .., reshape_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., reshape_bufs_sub ..⟩
theorem ops_part5_2_fresh : (ops_part5_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part6_sub : (ops_part6 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem ops_part6_fresh : (ops_part6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part2, ops_part3, ops_part5, List.mem_append, or_assoc] at h
    rcases h with h | h | h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_sub op h, List.forall_iff_forall_mem.mp ops_part5_0_sub op h, List.forall_iff_forall_mem.mp ops_part5_1_sub op h, List.forall_iff_forall_mem.mp ops_part5_2_sub op h, List.forall_iff_forall_mem.mp ops_part6_sub op h]
theorem ops_fresh : ∀ op ∈ (ops : List (HloOp τ sig (Elt F))), op.fresh = ∅ := fun op h => by
    simp only [ops, ops_part0, ops_part2, ops_part3, ops_part5, List.mem_append, or_assoc] at h
    rcases h with h | h | h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_fresh op h, List.forall_iff_forall_mem.mp ops_part5_0_fresh op h, List.forall_iff_forall_mem.mp ops_part5_1_fresh op h, List.forall_iff_forall_mem.mp ops_part5_2_fresh op h, List.forall_iff_forall_mem.mp ops_part6_fresh op h]

/-- The buffers these operations write. -/
abbrev ops_part0_0_W : List (Ref sig .tc) := [main_cst, main_v0, main_cst_0, main_v1, main_cst_1, main_v2, main_cst_2, main_v3, main_cst_3, main_v4, main_cst_4, main_v5, main_cst_5, main_v6, main_cst_6, main_v7, main_cst_7, main_v8, main_cst_8, main_v9, main_cst_9, main_v10, main_cst_10, main_v11, main_cst_11, main_v12, main_cst_12, main_v13, main_cst_13, main_v14]
theorem ops_part0_0_writes : (ops_part0_0 : List (HloOp τ sig (Elt F))).Forall fun op => op.writes ⊆ (ops_part0_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part0_1_W : List (Ref sig .tc) := [main_cst_14, main_v15, main_cst_15, main_v16, main_cst_16, main_v17, main_cst_17, main_v18, main_cst_18, main_v19, main_cst_19, main_v20, main_v21, main_c, main_call0_v0, main_v22, main_cst_20, main_v23, main_v24, main_v25, main_v26, main_v27, main_v28, main_v29, main_v30, main_v31, main_v32, main_v33, main_v34, main_v35]
theorem ops_part0_1_writes : (ops_part0_1 : List (HloOp τ sig (Elt F))).Forall fun op => op.writes ⊆ (ops_part0_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part0_2_W : List (Ref sig .tc) := [main_v36]
theorem ops_part0_2_writes : (ops_part0_2 : List (HloOp τ sig (Elt F))).Forall fun op => op.writes ⊆ (ops_part0_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ?_ <;> exact List.mem_map_of_mem (by decide)

/-- The buffers these operations write. -/
abbrev ops_part1_W : List (Ref sig .tc) := [main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96]
theorem ops_part1_writes : (ops_part1 : List (HloOp τ sig (Elt F))).Forall fun op => op.writes ⊆ (ops_part1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part2_0_W : List (Ref sig .tc) := [main_v97, main_v98, main_v99, main_v100, main_v101, main_v102, main_v103, main_v104, main_v105, main_v106, main_cst_21, main_v107, main_v108, main_c_22, main_call1_v0, main_v109, main_cst_23, main_v110, main_v111, main_v112, main_v113, main_v114, main_v115, main_v116, main_v117, main_v118, main_v119, main_v120, main_v121, main_v122]
theorem ops_part2_0_writes : (ops_part2_0 : List (HloOp τ sig (Elt F))).Forall fun op => op.writes ⊆ (ops_part2_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part2_1_W : List (Ref sig .tc) := [main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152]
theorem ops_part2_1_writes : (ops_part2_1 : List (HloOp τ sig (Elt F))).Forall fun op => op.writes ⊆ (ops_part2_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part2_2_W : List (Ref sig .tc) := [main_v153]
theorem ops_part2_2_writes : (ops_part2_2 : List (HloOp τ sig (Elt F))).Forall fun op => op.writes ⊆ (ops_part2_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ?_ <;> exact List.mem_map_of_mem (by decide)

/-- The buffers these operations write. -/
abbrev ops_part3_0_W : List (Ref sig .tc) := [main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183]
theorem ops_part3_0_writes : (ops_part3_0 : List (HloOp τ sig (Elt F))).Forall fun op => op.writes ⊆ (ops_part3_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part3_1_W : List (Ref sig .tc) := [main_v184, main_v185, main_v186, main_v187, main_v188, main_v189, main_v190, main_v191, main_v192, main_v193, main_cst_24, main_v194, main_v195, main_c_25, main_call2_v0, main_v196, main_cst_26, main_v197, main_v198, main_v199, main_v200, main_v201, main_v202, main_v203, main_v204, main_v205, main_v206, main_v207, main_v208, main_v209]
theorem ops_part3_1_writes : (ops_part3_1 : List (HloOp τ sig (Elt F))).Forall fun op => op.writes ⊆ (ops_part3_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part3_2_W : List (Ref sig .tc) := [main_v210]
theorem ops_part3_2_writes : (ops_part3_2 : List (HloOp τ sig (Elt F))).Forall fun op => op.writes ⊆ (ops_part3_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ?_ <;> exact List.mem_map_of_mem (by decide)

/-- The buffers these operations write. -/
abbrev ops_part4_W : List (Ref sig .tc) := [main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264, main_v265, main_v266, main_v267, main_v268, main_v269, main_v270]
theorem ops_part4_writes : (ops_part4 : List (HloOp τ sig (Elt F))).Forall fun op => op.writes ⊆ (ops_part4_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part5_0_W : List (Ref sig .tc) := [main_v271, main_v272, main_v273, main_v274, main_v275, main_v276, main_v277, main_v278, main_v279, main_v280, main_cst_27, main_v281, main_v282, main_v283, main_v284, main_v285, main_v286, main_v287, main_cst_28, main_v288, main_v289, main_v290, main_v291, main_v292, main_v293, main_cst_29, main_v294, main_v295, main_v296, main_v297]
theorem ops_part5_0_writes : (ops_part5_0 : List (HloOp τ sig (Elt F))).Forall fun op => op.writes ⊆ (ops_part5_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part5_1_W : List (Ref sig .tc) := [main_v298, main_v299, main_v300, main_v301, main_call3_v0, main_call3_cst, main_call3_v1, main_v302, main_call4_v0, main_call4_cst, main_call4_c, main_call4_v1_0, main_v303, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3]
theorem ops_part5_1_writes : (ops_part5_1 : List (HloOp τ sig (Elt F))).Forall fun op => op.writes ⊆ (ops_part5_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part5_2_W : List (Ref sig .tc) := [main_call5_v12, main_call5_v13, main_call5_v14, main_call5_cst, main_call5_v15, main_v304, main_v305, main_v306, main_v307, main_v308, main_v309, main_cst_30, main_v310, main_v311, main_v312, main_v313, main_v314, main_v315, main_v316, main_v317, main_v318, main_v319, main_cst_31, main_v320, main_v321, main_v322, main_v323, main_v324, main_v325]
theorem ops_part5_2_writes : (ops_part5_2 : List (HloOp τ sig (Elt F))).Forall fun op => op.writes ⊆ (ops_part5_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- The buffers these operations write. -/
abbrev ops_part6_W : List (Ref sig .tc) := [main_v326, main_v327, main_v328, main_cst_32, main_v329, main_v330, main_v331, main_v332, main_v333, main_v334, main_v335, main_v336, main_v337, main_v338, main_v339, main_cst_33, main_v340, main_v341, main_cst_34, main_v342, main_v343]
theorem ops_part6_writes : (ops_part6 : List (HloOp τ sig (Elt F))).Forall fun op => op.writes ⊆ (ops_part6_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  refine ⟨?_, ?_, ?_, ?_, ?_, ?_, ?_, ?_, ?_, ?_, ?_, ?_, ?_, ?_, ?_, ?_, ?_, ?_, ?_, ?_, ?_⟩ <;> exact List.mem_map_of_mem (by decide)

/-- The contents before the second of the three transposed convolutions reads its filters. -/
def mid (V : Valuation τ sig (Elt F)) : Valuation τ sig (Elt F) := after ops_part5_1 (after ops_part5_0 (after ops_part4 (after ops_part3_2 (after ops_part3_1 (after ops_part3_0 (after ops_part2_2 (after ops_part2_1 (after ops_part2_0 (after ops_part1 (after ops_part0_2 (after ops_part0_1 (after ops_part0_0 V))))))))))))

theorem after_ops (V : Valuation τ sig (Elt F)) : after ops V = after ops_part6 (after ops_part5_2 (mid V)) := by
  simp only [ops, ops_part0, ops_part2, ops_part3, ops_part5, after_append]
  rfl

theorem mid_main_v16 (V : Valuation τ sig (Elt F)) : mid V (Proc.devRef .tc main_v16) = (broadcastInDim S4x4x256x128 ![] bcast_S_S4x4x256x128 (constant S_ .f32 0x00000000#32)) := by
  unfold mid
  refine (after_of_writes_sub ops_part5_1 _ ops_part5_1_writes (r := main_v16) (by decide)).trans <| (after_of_writes_sub ops_part5_0 _ ops_part5_0_writes (r := main_v16) (by decide)).trans <| (after_of_writes_sub ops_part4 _ ops_part4_writes (r := main_v16) (by decide)).trans <| (after_of_writes_sub ops_part3_2 _ ops_part3_2_writes (r := main_v16) (by decide)).trans <| (after_of_writes_sub ops_part3_1 _ ops_part3_1_writes (r := main_v16) (by decide)).trans <| (after_of_writes_sub ops_part3_0 _ ops_part3_0_writes (r := main_v16) (by decide)).trans <| (after_of_writes_sub ops_part2_2 _ ops_part2_2_writes (r := main_v16) (by decide)).trans <| (after_of_writes_sub ops_part2_1 _ ops_part2_1_writes (r := main_v16) (by decide)).trans <| (after_of_writes_sub ops_part2_0 _ ops_part2_0_writes (r := main_v16) (by decide)).trans <| (after_of_writes_sub ops_part1 _ ops_part1_writes (r := main_v16) (by decide)).trans <| (after_of_writes_sub ops_part0_2 _ ops_part0_2_writes (r := main_v16) (by decide)).trans <| ?_
  simp only [ops_part0_1]
  after_results

theorem mid_main_v19 (V : Valuation τ sig (Elt F)) : mid V (Proc.devRef .tc main_v19) = (broadcastInDim S1 ![] bcast_S_S1 (constant S_ .f32 0x00000000#32)) := by
  unfold mid
  refine (after_of_writes_sub ops_part5_1 _ ops_part5_1_writes (r := main_v19) (by decide)).trans <| (after_of_writes_sub ops_part5_0 _ ops_part5_0_writes (r := main_v19) (by decide)).trans <| (after_of_writes_sub ops_part4 _ ops_part4_writes (r := main_v19) (by decide)).trans <| (after_of_writes_sub ops_part3_2 _ ops_part3_2_writes (r := main_v19) (by decide)).trans <| (after_of_writes_sub ops_part3_1 _ ops_part3_1_writes (r := main_v19) (by decide)).trans <| (after_of_writes_sub ops_part3_0 _ ops_part3_0_writes (r := main_v19) (by decide)).trans <| (after_of_writes_sub ops_part2_2 _ ops_part2_2_writes (r := main_v19) (by decide)).trans <| (after_of_writes_sub ops_part2_1 _ ops_part2_1_writes (r := main_v19) (by decide)).trans <| (after_of_writes_sub ops_part2_0 _ ops_part2_0_writes (r := main_v19) (by decide)).trans <| (after_of_writes_sub ops_part1 _ ops_part1_writes (r := main_v19) (by decide)).trans <| (after_of_writes_sub ops_part0_2 _ ops_part0_2_writes (r := main_v19) (by decide)).trans <| ?_
  simp only [ops_part0_1]
  after_results

theorem mid_main_v20 (V : Valuation τ sig (Elt F)) : mid V (Proc.devRef .tc main_v20) = (broadcastInDim S128 ![] bcast_S_S128 (constant S_ .f32 0x3F800000#32)) := by
  unfold mid
  refine (after_of_writes_sub ops_part5_1 _ ops_part5_1_writes (r := main_v20) (by decide)).trans <| (after_of_writes_sub ops_part5_0 _ ops_part5_0_writes (r := main_v20) (by decide)).trans <| (after_of_writes_sub ops_part4 _ ops_part4_writes (r := main_v20) (by decide)).trans <| (after_of_writes_sub ops_part3_2 _ ops_part3_2_writes (r := main_v20) (by decide)).trans <| (after_of_writes_sub ops_part3_1 _ ops_part3_1_writes (r := main_v20) (by decide)).trans <| (after_of_writes_sub ops_part3_0 _ ops_part3_0_writes (r := main_v20) (by decide)).trans <| (after_of_writes_sub ops_part2_2 _ ops_part2_2_writes (r := main_v20) (by decide)).trans <| (after_of_writes_sub ops_part2_1 _ ops_part2_1_writes (r := main_v20) (by decide)).trans <| (after_of_writes_sub ops_part2_0 _ ops_part2_0_writes (r := main_v20) (by decide)).trans <| (after_of_writes_sub ops_part1 _ ops_part1_writes (r := main_v20) (by decide)).trans <| (after_of_writes_sub ops_part0_2 _ ops_part0_2_writes (r := main_v20) (by decide)).trans <| ?_
  simp only [ops_part0_1]
  after_results

theorem mid_arg0 (V : Valuation τ sig (Elt F)) : mid V (Proc.devRef .tc main_arg0) = V (Proc.devRef .tc main_arg0) := by
  unfold mid
  exact (after_of_writes_sub ops_part5_1 _ ops_part5_1_writes (r := main_arg0) (by decide)).trans <| (after_of_writes_sub ops_part5_0 _ ops_part5_0_writes (r := main_arg0) (by decide)).trans <| (after_of_writes_sub ops_part4 _ ops_part4_writes (r := main_arg0) (by decide)).trans <| (after_of_writes_sub ops_part3_2 _ ops_part3_2_writes (r := main_arg0) (by decide)).trans <| (after_of_writes_sub ops_part3_1 _ ops_part3_1_writes (r := main_arg0) (by decide)).trans <| (after_of_writes_sub ops_part3_0 _ ops_part3_0_writes (r := main_arg0) (by decide)).trans <| (after_of_writes_sub ops_part2_2 _ ops_part2_2_writes (r := main_arg0) (by decide)).trans <| (after_of_writes_sub ops_part2_1 _ ops_part2_1_writes (r := main_arg0) (by decide)).trans <| (after_of_writes_sub ops_part2_0 _ ops_part2_0_writes (r := main_arg0) (by decide)).trans <| (after_of_writes_sub ops_part1 _ ops_part1_writes (r := main_arg0) (by decide)).trans <| (after_of_writes_sub ops_part0_2 _ ops_part0_2_writes (r := main_arg0) (by decide)).trans <| (after_of_writes_sub ops_part0_1 _ ops_part0_1_writes (r := main_arg0) (by decide)).trans <| (after_of_writes_sub ops_part0_0 _ ops_part0_0_writes (r := main_arg0) (by decide)).trans <| rfl

/-- Every execution terminates with every buffer at the operations' contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v343) = after ops_part6 (after ops_part5_2 (mid (launchContents m c))) (Proc.devRef .tc main_v343) :=
  (θ_run defs _ _).mono (fun _ h c => (h c main_v343).trans (congrFun (after_ops (launchContents m c)) _))
    (run_seq scopedRefs_eq scopedSems_eq defs main (fun _ => ops) main_eq (fun _ => ops_sub) m ρ fun _ => ops_fresh)

end Cert.ReferenceAtIdeal.Run

end
-- ==== Proof.RAt.Value.lean ====
module

public import proofs.«01_k».proof.Proof.RAt.Run
public import Idealize.ShloMosaic.PureOps.Ideal.Laws
public import Idealize.ShloMosaic.Lib.Pointwise

@[expose] public section

set_option maxRecDepth 8192

noncomputable section

namespace Cert.ReferenceAtIdeal.Value

open Cert.ReferenceAtIdeal Cert.ReferenceAtIdeal.Gen Cert.ReferenceAtIdeal.Run Idealize.ShloMosaic Idealize.ShloMosaic.TcCoe Idealize.SL.Sem Idealize.ShloMosaic.StableHlo

/-- A product whose left operand is zero everywhere is zero, whatever the right one holds. -/
theorem dot_zero {sl sr so : Shape} (d : DotDims sl sr so) (l : FVec Ideal sl .f32) (r : FVec Ideal sr .f32)
    (hl : ∀ i, l i = (0 : EReal)) (j : so.Idx) : (Host.dotGeneral d none l r : FVec Ideal so .f32) j = (0 : EReal) := by
  rw [Host.dotGeneral, Ideal.dotGeneral_apply]
  exact Finset.sum_eq_zero fun k _ => by rw [hl]; exact zero_mul _

/-- The constant the reference fills its zero arguments with. -/
theorem zero_bits (s : Shape) (h : S_.BroadcastsInDim s ![]) (i : s.Idx) :
    (broadcastInDim s ![] h (constant (F := Ideal) S_ .f32 0x00000000#32) : FVec Ideal s .f32) i = (0 : EReal) := by
  pointwise!

/-- With the second filter zero, the second transposed convolution is zero before its bias. -/
theorem v325_zero (W : Valuation τ sig (Elt Ideal))
    (h16 : W (Proc.devRef .tc main_v16) = broadcastInDim S4x4x256x128 ![] bcast_S_S4x4x256x128 (constant (F := Ideal) S_ .f32 0x00000000#32)) :
    ∀ j, after ops_part5_2 W (Proc.devRef .tc main_v325) j = (0 : EReal) := by
  intro j
  simp only [ops_part5_2]
  after_results
  exact dot_zero _ _ _ (fun i => by rw [h16]; exact zero_bits _ _ _) _

/-- The reference's result at index zero: the reversed filters stand at position (1, 1), where they are zero. -/
theorem v343_zero (W : Valuation τ sig (Elt Ideal))
    (h325 : ∀ j, W (Proc.devRef .tc main_v325) j = (0 : EReal))
    (h20 : W (Proc.devRef .tc main_v20) = broadcastInDim S128 ![] bcast_S_S128 (constant (F := Ideal) S_ .f32 0x3F800000#32))
    (h19 : W (Proc.devRef .tc main_v19) = broadcastInDim S1 ![] bcast_S_S1 (constant (F := Ideal) S_ .f32 0x00000000#32))
    (h0 : ∀ ch : Fin 128, W (Proc.devRef .tc main_arg0) (ix4 1 1 ch 0) = (0 : EReal)) :
    after ops_part6 W (Proc.devRef .tc main_v343) (ix4 0 0 0 0) = ((2⁻¹ : ℝ) : EReal) := by
  simp only [ops_part6]
  after_results
  rw [h20, h19]
  pointwise
  rw [Finset.sum_eq_zero (fun x _ => ?_)]
  · simp only [neg_zero]
    rw [show (0 : EReal) = ((0 : ℝ) : EReal) from rfl, show (1 : EReal) = ((1 : ℝ) : EReal) from rfl]
    simp only [Ideal.exp_coe, Real.exp_zero, ← EReal.coe_add]
    rw [Ideal.div_coe (by norm_num), ← EReal.coe_mul]
    norm_num
  · exact (congrArg (fun z : EReal => z * _) (h0 x)).trans (zero_mul _)

end Cert.ReferenceAtIdeal.Value

end
-- ==== Proof.T.Blk.lean ====
module

public import proofs.«01_k».proof.Proof.KI.MegaData
public import Idealize.ShloMosaic.Lib.Pipeline.ValueKit.Basic
public import Idealize.ShloMosaic.Lib.Pipeline.ValueKit.Geometry

@[expose] public section

set_option maxRecDepth 16384

noncomputable section

/-! # The blocks the second call reads and writes -/

namespace Cert.KernelIdeal.Dec

open Cert.KernelIdeal Cert.KernelIdeal.Gen Cert.KernelIdeal.Mega Idealize.ShloMosaic Idealize.ShloMosaic.TcCoe Idealize.SL.Sem Idealize.ShloMosaic.StableHlo

variable (V : Dev nD → Valuation τ sig (Elt Ideal)) (c : Dev nD)

/-- Windows 2 to 8 and 10 to 14 stay at index zero. -/
theorem still (k : Fin cfg1.W) (hk : k ≠ 0 ∧ k ≠ 1 ∧ k ≠ 9 ∧ k ≠ 15) (t : Fin cfg1.N) (a : Fin (cfg1.win k).shape.rank) : (cfg1.win k).index t a = 0 := by
  revert k t
  decide +kernel

/-- The block of window 0 at point `n` of the first eight: columns from `2048 * n`. -/
theorem blk_0 (n : Fin 8) (b : Fin 64) (k : Fin 2048) :
    iblk V c 0 (pt n.val) (ix2 b k) = (V c main_v75 : S64x16384.Idx → EReal) (ix2 b ⟨2048 * n.val + k.val, by omega⟩) := by
  have hi : ∀ n : Fin 8, (cfg1.win 0).index (pt n.val) 0 = 0 ∧ (cfg1.win 0).index (pt n.val) 1 = n.val := by decide +kernel
  refine congrArg (V c main_v75 : S64x16384.Idx → EReal) (?_ : ((cfg1.win 0).rect (pt n.val)).emb (ix2 b k) = _)
  funext a
  apply Fin.ext
  fin_cases a
  · exact Pipeline.Window.rect_emb_val_of_index_zero (cfg1.win 0) _ 0 (hi n).1 _
  · refine (Pipeline.Window.rect_emb_val (cfg1.win 0) _ _ 1).trans ?_
    rw [show (cfg1.win 0).index (pt n.val) 1 = n.val from (hi n).2]
    show n.val * 2048 + k.val = 2048 * n.val + k.val
    omega

/-- The block of window 1 at point `n` of the first eight: rows from `2048 * n`. -/
theorem blk_1 (n : Fin 8) (k : Fin 2048) (o : Fin 1024) :
    iblk V c 1 (pt n.val) (ix2 k o) = (V c main_arg7 : S16384x1024.Idx → EReal) (ix2 ⟨2048 * n.val + k.val, by omega⟩ o) := by
  have hi : ∀ n : Fin 8, (cfg1.win 1).index (pt n.val) 0 = n.val ∧ (cfg1.win 1).index (pt n.val) 1 = 0 := by decide +kernel
  refine congrArg (V c main_arg7 : S16384x1024.Idx → EReal) (?_ : ((cfg1.win 1).rect (pt n.val)).emb (ix2 k o) = _)
  funext a
  apply Fin.ext
  fin_cases a
  · refine (Pipeline.Window.rect_emb_val (cfg1.win 1) _ _ 0).trans ?_
    rw [show (cfg1.win 1).index (pt n.val) 0 = n.val from (hi n).1]
    show n.val * 2048 + k.val = 2048 * n.val + k.val
    omega
  · exact Pipeline.Window.rect_emb_val_of_index_zero (cfg1.win 1) _ 1 (hi n).2 _

/-- The block of window 9 at point `9 + j`: positions from `4 * j`. -/
theorem blk_9 (j : Fin 16) (r : Fin 4) (k : Fin 1024) (o : Fin 256) :
    iblk V c 9 (pt (9 + j.val)) (ix3 r k o) = (V c main_v54 : S64x1024x256.Idx → EReal) (ix3 ⟨4 * j.val + r.val, by omega⟩ k o) := by
  have hi : ∀ j : Fin 16, (cfg1.win 9).index (pt (9 + j.val)) 0 = j.val ∧ (cfg1.win 9).index (pt (9 + j.val)) 1 = 0 ∧ (cfg1.win 9).index (pt (9 + j.val)) 2 = 0 := by decide +kernel
  refine congrArg (V c main_v54 : S64x1024x256.Idx → EReal) (?_ : ((cfg1.win 9).rect (pt (9 + j.val))).emb (ix3 r k o) = _)
  funext a
  apply Fin.ext
  fin_cases a
  · refine (Pipeline.Window.rect_emb_val (cfg1.win 9) _ _ 0).trans ?_
    rw [show (cfg1.win 9).index (pt (9 + j.val)) 0 = j.val from (hi j).1]
    show j.val * 4 + r.val = 4 * j.val + r.val
    omega
  · exact Pipeline.Window.rect_emb_val_of_index_zero (cfg1.win 9) _ 1 (hi j).2.1 _
  · exact Pipeline.Window.rect_emb_val_of_index_zero (cfg1.win 9) _ 2 (hi j).2.2 _

/-- Where a point's block of the result lies. -/
theorem rows_15 (t : Fin cfg1.N) (ht : 25 ≤ t.val) (y : S512x64.Idx) :
    (((cfg1.win 15).rect t).emb y 0).val = 512 * (t.val - 25) + (y 0).val ∧ (((cfg1.win 15).rect t).emb y 1).val = (y 1).val := by
  have hi : ∀ t : Fin cfg1.N, 25 ≤ t.val → (cfg1.win 15).index t 0 = t.val - 25 ∧ (cfg1.win 15).index t 1 = 0 := by decide +kernel
  refine ⟨(Pipeline.Window.rect_emb_val (cfg1.win 15) t y 0).trans ?_, Pipeline.Window.rect_emb_val_of_index_zero (cfg1.win 15) t 1 (hi t ht).2 y⟩
  rw [show (cfg1.win 15).index t 0 = t.val - 25 from (hi t ht).1]
  show (t.val - 25) * 512 + (y 0).val = _
  omega

theorem blk_2 (t : Fin cfg1.N) : iblk V c 2 t = V c main_v79 := by
  funext y
  refine congrArg (V c main_v79) (?_ : ((cfg1.win 2).rect t).emb y = y)
  funext a
  exact Fin.ext (Pipeline.Window.rect_emb_val_of_index_zero (cfg1.win 2) t a (still 2 (by decide) t a) y)

theorem blk_3 (t : Fin cfg1.N) : iblk V c 3 t = V c main_arg9 := by
  funext y
  refine congrArg (V c main_arg9) (?_ : ((cfg1.win 3).rect t).emb y = y)
  funext a
  exact Fin.ext (Pipeline.Window.rect_emb_val_of_index_zero (cfg1.win 3) t a (still 3 (by decide) t a) y)

theorem blk_4 (t : Fin cfg1.N) : iblk V c 4 t = V c main_v80 := by
  funext y
  refine congrArg (V c main_v80) (?_ : ((cfg1.win 4).rect t).emb y = y)
  funext a
  exact Fin.ext (Pipeline.Window.rect_emb_val_of_index_zero (cfg1.win 4) t a (still 4 (by decide) t a) y)

theorem blk_5 (t : Fin cfg1.N) : iblk V c 5 t = V c main_arg11 := by
  funext y
  refine congrArg (V c main_arg11) (?_ : ((cfg1.win 5).rect t).emb y = y)
  funext a
  exact Fin.ext (Pipeline.Window.rect_emb_val_of_index_zero (cfg1.win 5) t a (still 5 (by decide) t a) y)

theorem blk_6 (t : Fin cfg1.N) : iblk V c 6 t = V c main_v78 := by
  funext y
  refine congrArg (V c main_v78) (?_ : ((cfg1.win 6).rect t).emb y = y)
  funext a
  exact Fin.ext (Pipeline.Window.rect_emb_val_of_index_zero (cfg1.win 6) t a (still 6 (by decide) t a) y)

theorem blk_7 (t : Fin cfg1.N) : iblk V c 7 t = V c main_arg12 := by
  funext y
  refine congrArg (V c main_arg12) (?_ : ((cfg1.win 7).rect t).emb y = y)
  funext a
  exact Fin.ext (Pipeline.Window.rect_emb_val_of_index_zero (cfg1.win 7) t a (still 7 (by decide) t a) y)

theorem blk_8 (t : Fin cfg1.N) : iblk V c 8 t = V c main_v81 := by
  funext y
  refine congrArg (V c main_v81) (?_ : ((cfg1.win 8).rect t).emb y = y)
  funext a
  exact Fin.ext (Pipeline.Window.rect_emb_val_of_index_zero (cfg1.win 8) t a (still 8 (by decide) t a) y)

theorem blk_10 (t : Fin cfg1.N) : iblk V c 10 t = V c main_v55 := by
  funext y
  refine congrArg (V c main_v55) (?_ : ((cfg1.win 10).rect t).emb y = y)
  funext a
  exact Fin.ext (Pipeline.Window.rect_emb_val_of_index_zero (cfg1.win 10) t a (still 10 (by decide) t a) y)

theorem blk_11 (t : Fin cfg1.N) : iblk V c 11 t = V c main_v57 := by
  funext y
  refine congrArg (V c main_v57) (?_ : ((cfg1.win 11).rect t).emb y = y)
  funext a
  exact Fin.ext (Pipeline.Window.rect_emb_val_of_index_zero (cfg1.win 11) t a (still 11 (by decide) t a) y)

theorem blk_12 (t : Fin cfg1.N) : iblk V c 12 t = V c main_v61 := by
  funext y
  refine congrArg (V c main_v61) (?_ : ((cfg1.win 12).rect t).emb y = y)
  funext a
  exact Fin.ext (Pipeline.Window.rect_emb_val_of_index_zero (cfg1.win 12) t a (still 12 (by decide) t a) y)

theorem blk_13 (t : Fin cfg1.N) : iblk V c 13 t = V c main_v70 := by
  funext y
  refine congrArg (V c main_v70) (?_ : ((cfg1.win 13).rect t).emb y = y)
  funext a
  exact Fin.ext (Pipeline.Window.rect_emb_val_of_index_zero (cfg1.win 13) t a (still 13 (by decide) t a) y)

theorem blk_14 (t : Fin cfg1.N) : iblk V c 14 t = V c main_v74 := by
  funext y
  refine congrArg (V c main_v74) (?_ : ((cfg1.win 14).rect t).emb y = y)
  funext a
  exact Fin.ext (Pipeline.Window.rect_emb_val_of_index_zero (cfg1.win 14) t a (still 14 (by decide) t a) y)

end Cert.KernelIdeal.Dec
end
-- ==== Proof.EK.Spec.lean ====
module

public import proofs.«01_k».proof.Proof.KI.EncData
public import Idealize.ShloMosaic.PureOps.Ideal.Laws
public import Idealize.ShloMosaic.Lib.Pointwise

@[expose] public section

set_option maxRecDepth 16384

noncomputable section

namespace Cert.KernelIdeal.EV

open Cert.KernelIdeal Cert.KernelIdeal.Gen Cert.KernelIdeal.Enc Idealize.ShloMosaic Idealize.ShloMosaic.TcCoe Idealize.SL.Sem Idealize.ShloMosaic.StableHlo

/-- The natural number `k` as an index below `n`. -/
def fin (n : ℕ) [NeZero n] (k : ℕ) : Fin n := Fin.ofNat n k

/-- Entry `(p, q)` of image `b` after the first convolution, `p` and `q` counted from four rows and columns before the image; zero
    outside of it. `x` holds sixteen taps a row. -/
def H1 (x : S16384x16.Idx → EReal) (w : S16x64.Idx → EReal) (a : S1x64.Idx → EReal) (b p q : ℕ) (ch : Fin 64) : EReal :=
  if 4 ≤ p ∧ p < 36 ∧ 4 ≤ q ∧ q < 36 then
    max ((∑ t : Fin 16, x (ix2 (fin 16384 (b * 1024 + (p - 4) * 32 + (q - 4))) t) * w (ix2 t ch)) + a (ix2 0 ch)) 0
  else 0

/-- Entry `(p, q)` of image `b` after the second convolution of `h`, counted from two rows and columns before the image. -/
def H2 (h : ℕ → ℕ → ℕ → Fin 64 → EReal) (w : S16x64x128.Idx → EReal) (a : S1x128.Idx → EReal) (b p q : ℕ) (o : Fin 128) : EReal :=
  if 2 ≤ p ∧ p < 18 ∧ 2 ≤ q ∧ q < 18 then
    max ((∑ t : Fin 16, ∑ c : Fin 64, h b (2 * (p - 2) + t.val / 4 + 3) (2 * (q - 2) + t.val % 4 + 3) c * w (ix3 t c o)) + a (ix2 0 o)) 0
  else 0

/-- Entry `(p, q)` of image `b` after the third convolution of `h`. -/
def H3 (h : ℕ → ℕ → ℕ → Fin 128 → EReal) (w : S16x128x256.Idx → EReal) (a : S1x256.Idx → EReal) (b p q : ℕ) (o : Fin 256) : EReal :=
  max ((∑ t : Fin 16, ∑ c : Fin 128, h b (2 * p + t.val / 4 + 1) (2 * q + t.val % 4 + 1) c * w (ix3 t c o)) + a (ix2 0 o)) 0

/-- What the first scratch holds: the first convolution's rows and columns dealt out by their remainder by four. -/
def C1 (x : S16384x16.Idx → EReal) (w : S16x64.Idx → EReal) (a : S1x64.Idx → EReal) : S4x4x16x10x10x64.Idx → EReal := fun y =>
  H1 x w a (y 2).val (4 * (y 3).val + (y 0).val) (4 * (y 4).val + (y 1).val) (y 5)

/-- What the second scratch holds: the second convolution's rows and columns dealt out by their remainder by two. -/
def C2 (h : ℕ → ℕ → ℕ → Fin 64 → EReal) (w : S16x64x128.Idx → EReal) (a : S1x128.Idx → EReal) : S2x2x16x10x10x128.Idx → EReal := fun y =>
  H2 h w a (y 2).val (2 * (y 3).val + (y 0).val) (2 * (y 4).val + (y 1).val) (y 5)

end Cert.KernelIdeal.EV
end
-- ==== Proof.EK.Pay1.lean ====
module

public import proofs.«01_k».proof.Proof.EK.Spec

@[expose] public section

set_option maxRecDepth 16384

noncomputable section

namespace Cert.KernelIdeal.EV

open Cert.KernelIdeal Cert.KernelIdeal.Gen Cert.KernelIdeal.Enc Idealize.ShloMosaic Idealize.ShloMosaic.TcCoe Idealize.SL.Sem Idealize.ShloMosaic.StableHlo

/-- Row `k` of the taps against the first filter, with bias and relu, is the entry of the first scratch at `z` when `k` is that
    entry's row. -/
theorem row_C1 (x : S16384x16.Idx → EReal) (w : S16x64.Idx → EReal) (a : S1x64.Idx → EReal) (z : S4x4x16x10x10x64.Idx) (k : Fin 16384)
    (ch : Fin 64) (hk : k.val = (z 2).val * 1024 + (4 * (z 3).val + (z 0).val - 4) * 32 + (4 * (z 4).val + (z 1).val - 4))
    (h3 : 1 ≤ (z 3).val ∧ (z 3).val ≤ 8) (h4 : 1 ≤ (z 4).val ∧ (z 4).val ≤ 8) (hc : ch.val = (z 5).val) :
    max ((∑ t : Fin 16, x (ix2 k t) * w (ix2 t ch)) + a (ix2 0 ch)) 0 = C1 x w a z := by
  have h0 : (z 0).val < 4 := (z 0).isLt
  have h1 : (z 1).val < 4 := (z 1).isLt
  have e : fin 16384 ((z 2).val * 1024 + (4 * (z 3).val + (z 0).val - 4) * 32 + (4 * (z 4).val + (z 1).val - 4)) = k :=
    Fin.ext (by rw [← hk]; exact Nat.mod_eq_of_lt k.isLt)
  have ec : ch = z 5 := Fin.ext hc
  unfold C1 H1
  rw [if_pos (by omega), e, ec]

/-- The store of remainders `3` and `3`. -/
theorem store1_33 (x : Vec Ideal S16384x16 .f32) (w : Vec Ideal S16x64 .f32) (a : Vec Ideal S1x64 .f32) (y : S1x1x16x8x8x64.Idx)
    (z : S4x4x16x10x10x64.Idx) (h0 : (z 0).val = 3) (h1 : (z 1).val = 3) (h2 : (z 2).val = (y 2).val) (h3 : (z 3).val = 1 + (y 3).val)
    (h4 : (z 4).val = 1 + (y 4).val) (h5 : (z 5).val = (y 5).val) : k0_pay26 (F := Ideal) (k0_pay4 x) w a y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `3` and `2`. -/
theorem store1_32 (x : Vec Ideal S16384x16 .f32) (w : Vec Ideal S16x64 .f32) (a : Vec Ideal S1x64 .f32) (y : S1x1x16x8x8x64.Idx)
    (z : S4x4x16x10x10x64.Idx) (h0 : (z 0).val = 3) (h1 : (z 1).val = 2) (h2 : (z 2).val = (y 2).val) (h3 : (z 3).val = 1 + (y 3).val)
    (h4 : (z 4).val = 1 + (y 4).val) (h5 : (z 5).val = (y 5).val) : k0_pay25 (F := Ideal) (k0_pay24 (k0_pay4 x)) w a y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `3` and `1`. -/
theorem store1_31 (x : Vec Ideal S16384x16 .f32) (w : Vec Ideal S16x64 .f32) (a : Vec Ideal S1x64 .f32) (y : S1x1x16x8x8x64.Idx)
    (z : S4x4x16x10x10x64.Idx) (h0 : (z 0).val = 3) (h1 : (z 1).val = 1) (h2 : (z 2).val = (y 2).val) (h3 : (z 3).val = 1 + (y 3).val)
    (h4 : (z 4).val = 1 + (y 4).val) (h5 : (z 5).val = (y 5).val) : k0_pay23 (F := Ideal) (k0_pay4 x) w a y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `3` and `0`. -/
theorem store1_30 (x : Vec Ideal S16384x16 .f32) (w : Vec Ideal S16x64 .f32) (a : Vec Ideal S1x64 .f32) (y : S1x1x16x8x8x64.Idx)
    (z : S4x4x16x10x10x64.Idx) (h0 : (z 0).val = 3) (h1 : (z 1).val = 0) (h2 : (z 2).val = (y 2).val) (h3 : (z 3).val = 1 + (y 3).val)
    (h4 : (z 4).val = 1 + (y 4).val) (h5 : (z 5).val = (y 5).val) : k0_pay22 (F := Ideal) (k0_pay4 x) w a y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `2` and `3`. -/
theorem store1_23 (x : Vec Ideal S16384x16 .f32) (w : Vec Ideal S16x64 .f32) (a : Vec Ideal S1x64 .f32) (y : S1x1x16x8x8x64.Idx)
    (z : S4x4x16x10x10x64.Idx) (h0 : (z 0).val = 2) (h1 : (z 1).val = 3) (h2 : (z 2).val = (y 2).val) (h3 : (z 3).val = 1 + (y 3).val)
    (h4 : (z 4).val = 1 + (y 4).val) (h5 : (z 5).val = (y 5).val) : k0_pay21 (F := Ideal) (k0_pay4 x) w a y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `2` and `2`. -/
theorem store1_22 (x : Vec Ideal S16384x16 .f32) (w : Vec Ideal S16x64 .f32) (a : Vec Ideal S1x64 .f32) (y : S1x1x16x8x8x64.Idx)
    (z : S4x4x16x10x10x64.Idx) (h0 : (z 0).val = 2) (h1 : (z 1).val = 2) (h2 : (z 2).val = (y 2).val) (h3 : (z 3).val = 1 + (y 3).val)
    (h4 : (z 4).val = 1 + (y 4).val) (h5 : (z 5).val = (y 5).val) : k0_pay20 (F := Ideal) (k0_pay4 x) w a y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `2` and `1`. -/
theorem store1_21 (x : Vec Ideal S16384x16 .f32) (w : Vec Ideal S16x64 .f32) (a : Vec Ideal S1x64 .f32) (y : S1x1x16x8x8x64.Idx)
    (z : S4x4x16x10x10x64.Idx) (h0 : (z 0).val = 2) (h1 : (z 1).val = 1) (h2 : (z 2).val = (y 2).val) (h3 : (z 3).val = 1 + (y 3).val)
    (h4 : (z 4).val = 1 + (y 4).val) (h5 : (z 5).val = (y 5).val) : k0_pay19 (F := Ideal) (k0_pay18 (k0_pay4 x) w a) y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `2` and `0`. -/
theorem store1_20 (x : Vec Ideal S16384x16 .f32) (w : Vec Ideal S16x64 .f32) (a : Vec Ideal S1x64 .f32) (y : S1x1x16x8x8x64.Idx)
    (z : S4x4x16x10x10x64.Idx) (h0 : (z 0).val = 2) (h1 : (z 1).val = 0) (h2 : (z 2).val = (y 2).val) (h3 : (z 3).val = 1 + (y 3).val)
    (h4 : (z 4).val = 1 + (y 4).val) (h5 : (z 5).val = (y 5).val) : k0_pay17 (F := Ideal) (k0_pay4 x) w a y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `1` and `3`. -/
theorem store1_13 (x : Vec Ideal S16384x16 .f32) (w : Vec Ideal S16x64 .f32) (a : Vec Ideal S1x64 .f32) (y : S1x1x16x8x8x64.Idx)
    (z : S4x4x16x10x10x64.Idx) (h0 : (z 0).val = 1) (h1 : (z 1).val = 3) (h2 : (z 2).val = (y 2).val) (h3 : (z 3).val = 1 + (y 3).val)
    (h4 : (z 4).val = 1 + (y 4).val) (h5 : (z 5).val = (y 5).val) : k0_pay16 (F := Ideal) (k0_pay15 (k0_pay4 x) w a) y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `1` and `2`. -/
theorem store1_12 (x : Vec Ideal S16384x16 .f32) (w : Vec Ideal S16x64 .f32) (a : Vec Ideal S1x64 .f32) (y : S1x1x16x8x8x64.Idx)
    (z : S4x4x16x10x10x64.Idx) (h0 : (z 0).val = 1) (h1 : (z 1).val = 2) (h2 : (z 2).val = (y 2).val) (h3 : (z 3).val = 1 + (y 3).val)
    (h4 : (z 4).val = 1 + (y 4).val) (h5 : (z 5).val = (y 5).val) : k0_pay14 (F := Ideal) (k0_pay4 x) w a y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `1` and `1`. -/
theorem store1_11 (x : Vec Ideal S16384x16 .f32) (w : Vec Ideal S16x64 .f32) (a : Vec Ideal S1x64 .f32) (y : S1x1x16x8x8x64.Idx)
    (z : S4x4x16x10x10x64.Idx) (h0 : (z 0).val = 1) (h1 : (z 1).val = 1) (h2 : (z 2).val = (y 2).val) (h3 : (z 3).val = 1 + (y 3).val)
    (h4 : (z 4).val = 1 + (y 4).val) (h5 : (z 5).val = (y 5).val) : k0_pay13 (F := Ideal) (k0_pay12 (k0_pay4 x) w a) y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `1` and `0`. -/
theorem store1_10 (x : Vec Ideal S16384x16 .f32) (w : Vec Ideal S16x64 .f32) (a : Vec Ideal S1x64 .f32) (y : S1x1x16x8x8x64.Idx)
    (z : S4x4x16x10x10x64.Idx) (h0 : (z 0).val = 1) (h1 : (z 1).val = 0) (h2 : (z 2).val = (y 2).val) (h3 : (z 3).val = 1 + (y 3).val)
    (h4 : (z 4).val = 1 + (y 4).val) (h5 : (z 5).val = (y 5).val) : k0_pay11 (F := Ideal) (k0_pay4 x) w a y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `0` and `3`. -/
theorem store1_03 (x : Vec Ideal S16384x16 .f32) (w : Vec Ideal S16x64 .f32) (a : Vec Ideal S1x64 .f32) (y : S1x1x16x8x8x64.Idx)
    (z : S4x4x16x10x10x64.Idx) (h0 : (z 0).val = 0) (h1 : (z 1).val = 3) (h2 : (z 2).val = (y 2).val) (h3 : (z 3).val = 1 + (y 3).val)
    (h4 : (z 4).val = 1 + (y 4).val) (h5 : (z 5).val = (y 5).val) : k0_pay10 (F := Ideal) (k0_pay9 (k0_pay4 x) w a) y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `0` and `2`. -/
theorem store1_02 (x : Vec Ideal S16384x16 .f32) (w : Vec Ideal S16x64 .f32) (a : Vec Ideal S1x64 .f32) (y : S1x1x16x8x8x64.Idx)
    (z : S4x4x16x10x10x64.Idx) (h0 : (z 0).val = 0) (h1 : (z 1).val = 2) (h2 : (z 2).val = (y 2).val) (h3 : (z 3).val = 1 + (y 3).val)
    (h4 : (z 4).val = 1 + (y 4).val) (h5 : (z 5).val = (y 5).val) : k0_pay8 (F := Ideal) (k0_pay4 x) w a y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `0` and `1`. -/
theorem store1_01 (x : Vec Ideal S16384x16 .f32) (w : Vec Ideal S16x64 .f32) (a : Vec Ideal S1x64 .f32) (y : S1x1x16x8x8x64.Idx)
    (z : S4x4x16x10x10x64.Idx) (h0 : (z 0).val = 0) (h1 : (z 1).val = 1) (h2 : (z 2).val = (y 2).val) (h3 : (z 3).val = 1 + (y 3).val)
    (h4 : (z 4).val = 1 + (y 4).val) (h5 : (z 5).val = (y 5).val) : k0_pay7 (F := Ideal) (k0_pay6 x w a) y = C1 x w a z := by
  have b3 : (y 3).val < 8 := (y 3).isLt
  have b4 : (y 4).val < 8 := (y 4).isLt
  unfold_payloads
  pointwise
  exact row_C1 x w a z _ _ (by simp only []; omega) (by omega) (by omega) h5.symm

/-- The store of remainders `0` and `0`. -/
theorem store1_00 (x : Vec Ideal S16384x16 .f32) (w : Vec Ideal S16x64 .f32) (a : Vec Ideal S1x64 .f32) (y : S1x1x16x8x8x64.Idx)
    (z : S4x4x16x10x10x64.Idx) (h0 : (z 0).val = 0) (h1 : (z 1).val = 0) (h2 : (z 2).val = (y 2).val) (h3 : (z 3).val = 1 + (y 3).val)
    (h4 : (z 4).val = 1 + (y 4).val) (h5 : (z 5).val = (y 5).val) : k0_pay5 (F := Ideal) x w a y = C1 x w a z := by
  have b3 : (y 3).val < 8 := (y 3).isLt
  have b4 : (y 4).val < 8 := (y 4).isLt
  unfold_payloads
  pointwise
  exact row_C1 x w a z _ _ (by simp only []; omega) (by omega) (by omega) h5.symm

end Cert.KernelIdeal.EV
end
-- ==== Proof.EK.Pay2.lean ====
module

public import proofs.«01_k».proof.Proof.EK.Spec

@[expose] public section

set_option maxRecDepth 16384

noncomputable section

namespace Cert.KernelIdeal.EV

open Cert.KernelIdeal Cert.KernelIdeal.Gen Cert.KernelIdeal.Enc Idealize.ShloMosaic Idealize.ShloMosaic.TcCoe Idealize.SL.Sem Idealize.ShloMosaic.StableHlo

/-- Sixteen terms added one after another are the sum over them. -/
theorem sum16 (f : Fin 16 → EReal) :
    f 0 + f 1 + f 2 + f 3 + f 4 + f 5 + f 6 + f 7 + f 8 + f 9 + f 10 + f 11 + f 12 + f 13 + f 14 + f 15 = ∑ t, f t := by
  simp only [Fin.sum_univ_castSucc, Fin.sum_univ_zero, zero_add]
  rfl

/-- Tap `t` of the second convolution at remainders `P` and `Q`. -/
def tap2 (h : ℕ → ℕ → ℕ → Fin 64 → EReal) (P Q : ℕ) (t : Fin 16) : S1x1x16x8x8x64.Idx → EReal := fun x =>
  h (x 2).val (2 * (2 * (x 3).val + P) + t.val / 4 + 3) (2 * (2 * (x 4).val + Q) + t.val % 4 + 3) (x 5)

/-- Tap `t` of the third convolution. -/
def tap3 (h : ℕ → ℕ → ℕ → Fin 128 → EReal) (t : Fin 16) : S1x1x16x8x8x128.Idx → EReal := fun x =>
  h (x 2).val (2 * (x 3).val + t.val / 4 + 1) (2 * (x 4).val + t.val % 4 + 1) (x 5)

/-- An entry of the second scratch inside its ring is the sum over the sixteen taps. -/
theorem row_C2 (h : ℕ → ℕ → ℕ → Fin 64 → EReal) (w : S16x64x128.Idx → EReal) (a : S1x128.Idx → EReal) (P Q : ℕ) (y : S1x1x16x8x8x128.Idx)
    (z : S2x2x16x10x10x128.Idx) (h0 : (z 0).val = P) (h1 : (z 1).val = Q) (h2 : (z 2).val = (y 2).val) (h3 : (z 3).val = 1 + (y 3).val)
    (h4 : (z 4).val = 1 + (y 4).val) (h5 : (z 5).val = (y 5).val) :
    C2 h w a z = max ((∑ t : Fin 16, ∑ c : Fin 64, tap2 h P Q t (ix6 0 0 (y 2) (y 3) (y 4) c) * w (ix3 t c (y 5))) + a (ix2 0 (y 5))) 0 := by
  have b0 : (z 0).val < 2 := (z 0).isLt
  have b1 : (z 1).val < 2 := (z 1).isLt
  have b3 : (y 3).val < 8 := (y 3).isLt
  have b4 : (y 4).val < 8 := (y 4).isLt
  have ec : z 5 = y 5 := Fin.ext h5
  unfold C2 H2
  rw [if_pos (by omega), ec, h2, show 2 * (z 3).val + (z 0).val - 2 = 2 * (y 3).val + P by omega,
    show 2 * (z 4).val + (z 1).val - 2 = 2 * (y 4).val + Q by omega]
  rfl

/-- The second convolution's store of remainders `1` and `1`. -/
theorem store2_11 (h : ℕ → ℕ → ℕ → Fin 64 → EReal) (v333 v340 v456 v463 v361 v368 v484 v491 v579 v586 v702 v709 v607 v614 v730 v737 : Vec Ideal S1x1x16x8x8x64 .f32)
    (w : Fin 16 → Vec Ideal S1x64x128 .f32) (a : Vec Ideal S1x128 .f32) (W : S16x64x128.Idx → EReal) (y : S1x1x16x8x8x128.Idx) (z : S2x2x16x10x10x128.Idx)
    (h0 : (z 0).val = 1) (h1 : (z 1).val = 1) (h2 : (z 2).val = (y 2).val) (h3 : (z 3).val = 1 + (y 3).val)
    (h4 : (z 4).val = 1 + (y 4).val) (h5 : (z 5).val = (y 5).val)
    (hw : ∀ t x, w t x = W (ix3 t (x 1) (x 2)))
    (t0 : ∀ x, v333 x = tap2 h 1 1 0 x)
    (t1 : ∀ x, v340 x = tap2 h 1 1 1 x)
    (t2 : ∀ x, v456 x = tap2 h 1 1 2 x)
    (t3 : ∀ x, v463 x = tap2 h 1 1 3 x)
    (t4 : ∀ x, v361 x = tap2 h 1 1 4 x)
    (t5 : ∀ x, v368 x = tap2 h 1 1 5 x)
    (t6 : ∀ x, v484 x = tap2 h 1 1 6 x)
    (t7 : ∀ x, v491 x = tap2 h 1 1 7 x)
    (t8 : ∀ x, v579 x = tap2 h 1 1 8 x)
    (t9 : ∀ x, v586 x = tap2 h 1 1 9 x)
    (t10 : ∀ x, v702 x = tap2 h 1 1 10 x)
    (t11 : ∀ x, v709 x = tap2 h 1 1 11 x)
    (t12 : ∀ x, v607 x = tap2 h 1 1 12 x)
    (t13 : ∀ x, v614 x = tap2 h 1 1 13 x)
    (t14 : ∀ x, v730 x = tap2 h 1 1 14 x)
    (t15 : ∀ x, v737 x = tap2 h 1 1 15 x)
    : k0_pay62 (F := Ideal) (k0_pay61 (k0_pay59 (k0_pay58 (k0_pay56 (k0_pay55 v333 (w 0)) v340 (w 1) v456 (w 2) v463 (w 3)) (k0_pay57 v361) (w 4) v368 (w 5) v484 (w 6) v491 (w 7)) v579 (w 8) v586 (w 9) v702 (w 10)) (k0_pay60 v709) ((w 11)) v607 (w 12) v614 (w 13) v730 (w 14)) v737 (w 15) a y = C2 h W a z := by
  unfold_payloads
  pointwise
  simp only [hw, t0, t1, t2, t3, t4, t5, t6, t7, t8, t9, t10, t11, t12, t13, t14, t15]
  rw [row_C2 h W a 1 1 y z h0 h1 h2 h3 h4 h5, ← sum16]
  rfl

/-- The second convolution's store of remainders `1` and `0`. -/
theorem store2_10 (h : ℕ → ℕ → ℕ → Fin 64 → EReal) (v319 v326 v333 v340 v347 v354 v361 v368 v565 v572 v579 v586 v593 v600 v607 v614 : Vec Ideal S1x1x16x8x8x64 .f32)
    (w : Fin 16 → Vec Ideal S1x64x128 .f32) (a : Vec Ideal S1x128 .f32) (W : S16x64x128.Idx → EReal) (y : S1x1x16x8x8x128.Idx) (z : S2x2x16x10x10x128.Idx)
    (h0 : (z 0).val = 1) (h1 : (z 1).val = 0) (h2 : (z 2).val = (y 2).val) (h3 : (z 3).val = 1 + (y 3).val)
    (h4 : (z 4).val = 1 + (y 4).val) (h5 : (z 5).val = (y 5).val)
    (hw : ∀ t x, w t x = W (ix3 t (x 1) (x 2)))
    (t0 : ∀ x, v319 x = tap2 h 1 0 0 x)
    (t1 : ∀ x, v326 x = tap2 h 1 0 1 x)
    (t2 : ∀ x, v333 x = tap2 h 1 0 2 x)
    (t3 : ∀ x, v340 x = tap2 h 1 0 3 x)
    (t4 : ∀ x, v347 x = tap2 h 1 0 4 x)
    (t5 : ∀ x, v354 x = tap2 h 1 0 5 x)
    (t6 : ∀ x, v361 x = tap2 h 1 0 6 x)
    (t7 : ∀ x, v368 x = tap2 h 1 0 7 x)
    (t8 : ∀ x, v565 x = tap2 h 1 0 8 x)
    (t9 : ∀ x, v572 x = tap2 h 1 0 9 x)
    (t10 : ∀ x, v579 x = tap2 h 1 0 10 x)
    (t11 : ∀ x, v586 x = tap2 h 1 0 11 x)
    (t12 : ∀ x, v593 x = tap2 h 1 0 12 x)
    (t13 : ∀ x, v600 x = tap2 h 1 0 13 x)
    (t14 : ∀ x, v607 x = tap2 h 1 0 14 x)
    (t15 : ∀ x, v614 x = tap2 h 1 0 15 x)
    : k0_pay54 (F := Ideal) (k0_pay52 (k0_pay51 (k0_pay48 (k0_pay47 k0_pay44 (k0_pay45 v319) (k0_pay46 (w 0)) v326 (w 1) v333 (w 2) v340 (w 3)) v347 (w 4) v354 (w 5) v361 (w 6)) (k0_pay49 v368) (k0_pay50 (w 7)) (constant (F := Ideal) S1024x128 .f32 0#32) v565 (w 8) v572 (w 9) v579 (w 10)) v586 (w 11) v593 (w 12) v600 (w 13)) (k0_pay53 v607 (w 14)) v614 (w 15) a y = C2 h W a z := by
  unfold_payloads
  pointwise
  simp only [hw, t0, t1, t2, t3, t4, t5, t6, t7, t8, t9, t10, t11, t12, t13, t14, t15]
  rw [row_C2 h W a 1 0 y z h0 h1 h2 h3 h4 h5, ← sum16]
  rfl

/-- The second convolution's store of remainders `0` and `1`. -/
theorem store2_01 (h : ℕ → ℕ → ℕ → Fin 64 → EReal) (v277 v284 v400 v407 v305 v312 v428 v435 v333 v340 v456 v463 v361 v368 v484 v491 : Vec Ideal S1x1x16x8x8x64 .f32)
    (w : Fin 16 → Vec Ideal S1x64x128 .f32) (a : Vec Ideal S1x128 .f32) (W : S16x64x128.Idx → EReal) (y : S1x1x16x8x8x128.Idx) (z : S2x2x16x10x10x128.Idx)
    (h0 : (z 0).val = 0) (h1 : (z 1).val = 1) (h2 : (z 2).val = (y 2).val) (h3 : (z 3).val = 1 + (y 3).val)
    (h4 : (z 4).val = 1 + (y 4).val) (h5 : (z 5).val = (y 5).val)
    (hw : ∀ t x, w t x = W (ix3 t (x 1) (x 2)))
    (t0 : ∀ x, v277 x = tap2 h 0 1 0 x)
    (t1 : ∀ x, v284 x = tap2 h 0 1 1 x)
    (t2 : ∀ x, v400 x = tap2 h 0 1 2 x)
    (t3 : ∀ x, v407 x = tap2 h 0 1 3 x)
    (t4 : ∀ x, v305 x = tap2 h 0 1 4 x)
    (t5 : ∀ x, v312 x = tap2 h 0 1 5 x)
    (t6 : ∀ x, v428 x = tap2 h 0 1 6 x)
    (t7 : ∀ x, v435 x = tap2 h 0 1 7 x)
    (t8 : ∀ x, v333 x = tap2 h 0 1 8 x)
    (t9 : ∀ x, v340 x = tap2 h 0 1 9 x)
    (t10 : ∀ x, v456 x = tap2 h 0 1 10 x)
    (t11 : ∀ x, v463 x = tap2 h 0 1 11 x)
    (t12 : ∀ x, v361 x = tap2 h 0 1 12 x)
    (t13 : ∀ x, v368 x = tap2 h 0 1 13 x)
    (t14 : ∀ x, v484 x = tap2 h 0 1 14 x)
    (t15 : ∀ x, v491 x = tap2 h 0 1 15 x)
    : k0_pay43 (F := Ideal) (k0_pay41 (k0_pay40 (k0_pay38 (k0_pay37 k0_pay35 (k0_pay36 v277) (w 0) v284 (w 1) v400 (w 2) v407 (w 3)) v305 (w 4) v312 (w 5) v428 (w 6)) (k0_pay39 v435) (w 7) v333 (w 8) v340 (w 9) v456 (w 10)) v463 (w 11) v361 (w 12) v368 (w 13)) (k0_pay42 v484) (w 14) v491 (w 15) a y = C2 h W a z := by
  unfold_payloads
  pointwise
  simp only [hw, t0, t1, t2, t3, t4, t5, t6, t7, t8, t9, t10, t11, t12, t13, t14, t15]
  rw [row_C2 h W a 0 1 y z h0 h1 h2 h3 h4 h5, ← sum16]
  rfl

/-- The second convolution's store of remainders `0` and `0`. -/
theorem store2_00 (h : ℕ → ℕ → ℕ → Fin 64 → EReal) (v263 v270 v277 v284 v291 v298 v305 v312 v319 v326 v333 v340 v347 v354 v361 v368 : Vec Ideal S1x1x16x8x8x64 .f32)
    (w : Fin 16 → Vec Ideal S1x64x128 .f32) (a : Vec Ideal S1x128 .f32) (W : S16x64x128.Idx → EReal) (y : S1x1x16x8x8x128.Idx) (z : S2x2x16x10x10x128.Idx)
    (h0 : (z 0).val = 0) (h1 : (z 1).val = 0) (h2 : (z 2).val = (y 2).val) (h3 : (z 3).val = 1 + (y 3).val)
    (h4 : (z 4).val = 1 + (y 4).val) (h5 : (z 5).val = (y 5).val)
    (hw : ∀ t x, w t x = W (ix3 t (x 1) (x 2)))
    (t0 : ∀ x, v263 x = tap2 h 0 0 0 x)
    (t1 : ∀ x, v270 x = tap2 h 0 0 1 x)
    (t2 : ∀ x, v277 x = tap2 h 0 0 2 x)
    (t3 : ∀ x, v284 x = tap2 h 0 0 3 x)
    (t4 : ∀ x, v291 x = tap2 h 0 0 4 x)
    (t5 : ∀ x, v298 x = tap2 h 0 0 5 x)
    (t6 : ∀ x, v305 x = tap2 h 0 0 6 x)
    (t7 : ∀ x, v312 x = tap2 h 0 0 7 x)
    (t8 : ∀ x, v319 x = tap2 h 0 0 8 x)
    (t9 : ∀ x, v326 x = tap2 h 0 0 9 x)
    (t10 : ∀ x, v333 x = tap2 h 0 0 10 x)
    (t11 : ∀ x, v340 x = tap2 h 0 0 11 x)
    (t12 : ∀ x, v347 x = tap2 h 0 0 12 x)
    (t13 : ∀ x, v354 x = tap2 h 0 0 13 x)
    (t14 : ∀ x, v361 x = tap2 h 0 0 14 x)
    (t15 : ∀ x, v368 x = tap2 h 0 0 15 x)
    : k0_pay34 (F := Ideal) (k0_pay33 (k0_pay31 (k0_pay30 (k0_pay28 k0_pay27 v263 (w 0) v270 (w 1) v277 (w 2)) (k0_pay29 v284) (w 3) v291 (w 4) v298 (w 5) v305 (w 6)) v312 (w 7) v319 (w 8) v326 (w 9)) (k0_pay32 v333) (w 10) v340 (w 11) v347 (w 12) v354 (w 13)) v361 (w 14) v368 (w 15) a y = C2 h W a z := by
  unfold_payloads
  pointwise
  simp only [hw, t0, t1, t2, t3, t4, t5, t6, t7, t8, t9, t10, t11, t12, t13, t14, t15]
  rw [row_C2 h W a 0 0 y z h0 h1 h2 h3 h4 h5, ← sum16]
  rfl

/-- The block a point writes. -/
theorem store3 (h : ℕ → ℕ → ℕ → Fin 128 → EReal) (v755 v762 v769 v776 v783 v790 v797 v804 v811 v818 v825 v832 v839 v846 v853 v860 : Vec Ideal S1x1x16x8x8x128 .f32)
    (w : Fin 16 → Vec Ideal S1x128x256 .f32) (a : Vec Ideal S1x256 .f32) (W : S16x128x256.Idx → EReal) (y : S1024x256.Idx)
    (hw : ∀ t x, w t x = W (ix3 t (x 1) (x 2)))
    (t0 : ∀ x, v755 x = tap3 h 0 x)
    (t1 : ∀ x, v762 x = tap3 h 1 x)
    (t2 : ∀ x, v769 x = tap3 h 2 x)
    (t3 : ∀ x, v776 x = tap3 h 3 x)
    (t4 : ∀ x, v783 x = tap3 h 4 x)
    (t5 : ∀ x, v790 x = tap3 h 5 x)
    (t6 : ∀ x, v797 x = tap3 h 6 x)
    (t7 : ∀ x, v804 x = tap3 h 7 x)
    (t8 : ∀ x, v811 x = tap3 h 8 x)
    (t9 : ∀ x, v818 x = tap3 h 9 x)
    (t10 : ∀ x, v825 x = tap3 h 10 x)
    (t11 : ∀ x, v832 x = tap3 h 11 x)
    (t12 : ∀ x, v839 x = tap3 h 12 x)
    (t13 : ∀ x, v846 x = tap3 h 13 x)
    (t14 : ∀ x, v853 x = tap3 h 14 x)
    (t15 : ∀ x, v860 x = tap3 h 15 x)
    : k0_pay1 (F := Ideal) (k0_pay69 (k0_pay68 (k0_pay66 (k0_pay65 (k0_pay63 v755 (w 0)) (k0_pay64 v762) (w 1) v769 (w 2) v776 (w 3) v783 (w 4)) v790 (w 5) v797 (w 6) v804 (w 7)) (k0_pay67 v811) (w 8) v818 (w 9) v825 (w 10) v832 (w 11)) v839 (w 12) v846 (w 13) v853 (w 14)) (k0_pay70 v860) (w 15) a y = H3 h W a ((y 0).val / 64) ((y 0).val / 8 % 8) ((y 0).val % 8) (y 1) := by
  unfold_payloads
  pointwise
  simp only [hw, t0, t1, t2, t3, t4, t5, t6, t7, t8, t9, t10, t11, t12, t13, t14, t15]
  unfold H3
  rw [← sum16]
  rfl

end Cert.KernelIdeal.EV
end
-- ==== Proof.EK.St1.lean ====
module

public import proofs.«01_k».proof.Proof.EK.Pay1
public import proofs.«01_k».proof.Proof.EK.Pay2
public import Idealize.ShloMosaic.Lib.WholeRead

@[expose] public section

set_option maxRecDepth 16384

noncomputable section

namespace Cert.KernelIdeal.EV

open Cert.KernelIdeal Cert.KernelIdeal.Gen Cert.KernelIdeal.Enc Idealize.ShloMosaic Idealize.ShloMosaic.TcCoe Idealize.SL.Sem Idealize.ShloMosaic.StableHlo

/-- A load of a whole buffer at its contents `X` gives `X`. -/
theorem load_whole {s : Shape} (g : Memref sig .tc .vmem s .f32) (hg : g.IsWhole) (X : Vec Ideal s .f32) (off : Fin s.rank → ℕ)
    (inb : ∀ a, off a + s.size a ≤ s.size a) : View.readAt (Elt Ideal) g.view (Rect.unit off s.size inb).toLoadRect (hg.unread X) = X := by
  funext x
  rw [hg.readAt_unread]
  congr 1
  funext a
  apply Fin.ext
  show off a + 1 * (x a).val = (x a).val
  have := inb a
  omega

/-- Where a rectangle of unit strides places an index. -/
theorem emb_val {s : Shape} (off size : Fin s.rank → ℕ) (inb : ∀ a, off a + size a ≤ s.size a) (y : (Rect.unit off size inb).shape.Idx)
    (a : Fin s.rank) : ((Rect.unit off size inb).emb y a).val = off a + (y a).val := by
  show off a + 1 * (y a).val = _
  omega

/-- Where a box of the first scratch places an index, coordinate by coordinate. -/
theorem emb1 (p q i j : ℕ) (inb : ∀ a, (![p, q, 0, i, j, 0] : Fin 6 → ℕ) a + (![1, 1, 16, 8, 8, 64] : Fin 6 → ℕ) a ≤ S4x4x16x10x10x64.size a)
    (y : S1x1x16x8x8x64.Idx) (z : S4x4x16x10x10x64.Idx)
    (hz : z = (Rect.unit (s := S4x4x16x10x10x64) ![p, q, 0, i, j, 0] ![1, 1, 16, 8, 8, 64] inb).emb y) :
    (z 0).val = p ∧ (z 1).val = q ∧ (z 2).val = (y 2).val ∧ (z 3).val = i + (y 3).val ∧ (z 4).val = j + (y 4).val ∧ (z 5).val = (y 5).val := by
  subst hz
  have b0 : (y 0).val < 1 := (y 0).isLt
  have b1 : (y 1).val < 1 := (y 1).isLt
  refine ⟨?_, ?_, ?_, ?_, ?_, ?_⟩
  · show p + 1 * (y 0).val = p; omega
  · show q + 1 * (y 1).val = q; omega
  · show 0 + 1 * (y 2).val = _; omega
  · show i + 1 * (y 3).val = _; omega
  · show j + 1 * (y 4).val = _; omega
  · show 0 + 1 * (y 5).val = _; omega

/-- Where a box of the second scratch places an index, coordinate by coordinate. -/
theorem emb2 (p q i j : ℕ) (inb : ∀ a, (![p, q, 0, i, j, 0] : Fin 6 → ℕ) a + (![1, 1, 16, 8, 8, 128] : Fin 6 → ℕ) a ≤ S2x2x16x10x10x128.size a)
    (y : S1x1x16x8x8x128.Idx) (z : S2x2x16x10x10x128.Idx)
    (hz : z = (Rect.unit (s := S2x2x16x10x10x128) ![p, q, 0, i, j, 0] ![1, 1, 16, 8, 8, 128] inb).emb y) :
    (z 0).val = p ∧ (z 1).val = q ∧ (z 2).val = (y 2).val ∧ (z 3).val = i + (y 3).val ∧ (z 4).val = j + (y 4).val ∧ (z 5).val = (y 5).val := by
  subst hz
  have b0 : (y 0).val < 1 := (y 0).isLt
  have b1 : (y 1).val < 1 := (y 1).isLt
  refine ⟨?_, ?_, ?_, ?_, ?_, ?_⟩
  · show p + 1 * (y 0).val = p; omega
  · show q + 1 * (y 1).val = q; omega
  · show 0 + 1 * (y 2).val = _; omega
  · show i + 1 * (y 3).val = _; omega
  · show j + 1 * (y 4).val = _; omega
  · show 0 + 1 * (y 5).val = _; omega

variable (c : Dev nD) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (x0 : Vec Ideal S16384x16 .f32) (x1 : Vec Ideal S16x64 .f32) (x2 : Vec Ideal S1x64 .f32)

/-- The sixteen stores to the first scratch hold its entries. -/
theorem pieces1 : ∀ p ∈ kernelRun0_B.sl.HS0_16 (F := Ideal) c arg1 harg1 arg2 harg2 arg3 harg3 x0 x1 x2, ∀ x, p.2 x = C1 x0 x1 x2 (p.1.emb x) := by
  intro p hp
  unfold kernelRun0_B.sl.HS0_16 at hp
  simp only [List.mem_cons, List.not_mem_nil, or_false] at hp
  rcases hp with rfl | rfl | rfl | rfl | rfl | rfl | rfl | rfl | rfl | rfl | rfl | rfl | rfl | rfl | rfl | rfl <;> intro y
  · obtain ⟨h0, h1, h2, h3, h4, h5⟩ := emb1 3 3 1 1 _ y _ rfl
    exact (store1_33 _ _ _ y _ h0 h1 h2 h3 h4 h5).trans (by rw [load_whole arg1, load_whole arg2, load_whole arg3])
  · obtain ⟨h0, h1, h2, h3, h4, h5⟩ := emb1 3 2 1 1 _ y _ rfl
    exact (store1_32 _ _ _ y _ h0 h1 h2 h3 h4 h5).trans (by rw [load_whole arg1, load_whole arg2, load_whole arg3])
  · obtain ⟨h0, h1, h2, h3, h4, h5⟩ := emb1 3 1 1 1 _ y _ rfl
    exact (store1_31 _ _ _ y _ h0 h1 h2 h3 h4 h5).trans (by rw [load_whole arg1, load_whole arg2, load_whole arg3])
  · obtain ⟨h0, h1, h2, h3, h4, h5⟩ := emb1 3 0 1 1 _ y _ rfl
    exact (store1_30 _ _ _ y _ h0 h1 h2 h3 h4 h5).trans (by rw [load_whole arg1, load_whole arg2, load_whole arg3])
  · obtain ⟨h0, h1, h2, h3, h4, h5⟩ := emb1 2 3 1 1 _ y _ rfl
    exact (store1_23 _ _ _ y _ h0 h1 h2 h3 h4 h5).trans (by rw [load_whole arg1, load_whole arg2, load_whole arg3])
  · obtain ⟨h0, h1, h2, h3, h4, h5⟩ := emb1 2 2 1 1 _ y _ rfl
    exact (store1_22 _ _ _ y _ h0 h1 h2 h3 h4 h5).trans (by rw [load_whole arg1, load_whole arg2, load_whole arg3])
  · obtain ⟨h0, h1, h2, h3, h4, h5⟩ := emb1 2 1 1 1 _ y _ rfl
    exact (store1_21 _ _ _ y _ h0 h1 h2 h3 h4 h5).trans (by rw [load_whole arg1, load_whole arg2, load_whole arg3])
  · obtain ⟨h0, h1, h2, h3, h4, h5⟩ := emb1 2 0 1 1 _ y _ rfl
    exact (store1_20 _ _ _ y _ h0 h1 h2 h3 h4 h5).trans (by rw [load_whole arg1, load_whole arg2, load_whole arg3])
  · obtain ⟨h0, h1, h2, h3, h4, h5⟩ := emb1 1 3 1 1 _ y _ rfl
    exact (store1_13 _ _ _ y _ h0 h1 h2 h3 h4 h5).trans (by rw [load_whole arg1, load_whole arg2, load_whole arg3])
  · obtain ⟨h0, h1, h2, h3, h4, h5⟩ := emb1 1 2 1 1 _ y _ rfl
    exact (store1_12 _ _ _ y _ h0 h1 h2 h3 h4 h5).trans (by rw [load_whole arg1, load_whole arg2, load_whole arg3])
  · obtain ⟨h0, h1, h2, h3, h4, h5⟩ := emb1 1 1 1 1 _ y _ rfl
    exact (store1_11 _ _ _ y _ h0 h1 h2 h3 h4 h5).trans (by rw [load_whole arg1, load_whole arg2, load_whole arg3])
  · obtain ⟨h0, h1, h2, h3, h4, h5⟩ := emb1 1 0 1 1 _ y _ rfl
    exact (store1_10 _ _ _ y _ h0 h1 h2 h3 h4 h5).trans (by rw [load_whole arg1, load_whole arg2, load_whole arg3])
  · obtain ⟨h0, h1, h2, h3, h4, h5⟩ := emb1 0 3 1 1 _ y _ rfl
    exact (store1_03 _ _ _ y _ h0 h1 h2 h3 h4 h5).trans (by rw [load_whole arg1, load_whole arg2, load_whole arg3])
  · obtain ⟨h0, h1, h2, h3, h4, h5⟩ := emb1 0 2 1 1 _ y _ rfl
    exact (store1_02 _ _ _ y _ h0 h1 h2 h3 h4 h5).trans (by rw [load_whole arg1, load_whole arg2, load_whole arg3])
  · obtain ⟨h0, h1, h2, h3, h4, h5⟩ := emb1 0 1 1 1 _ y _ rfl
    exact (store1_01 _ _ _ y _ h0 h1 h2 h3 h4 h5).trans (by rw [load_whole arg1, load_whole arg2, load_whole arg3])
  · obtain ⟨h0, h1, h2, h3, h4, h5⟩ := emb1 0 0 1 1 _ y _ rfl
    exact (store1_00 _ _ _ y _ h0 h1 h2 h3 h4 h5).trans (by rw [load_whole arg1, load_whole arg2, load_whole arg3])

/-- One of the stores covers each place inside the ring. -/
theorem cover1 (y : S4x4x16x10x10x64.Idx) (h3 : 1 ≤ (y 3).val ∧ (y 3).val ≤ 8) (h4 : 1 ≤ (y 4).val ∧ (y 4).val ≤ 8) :
    ∃ p ∈ kernelRun0_B.sl.HS0_16 (F := Ideal) c arg1 harg1 arg2 harg2 arg3 harg3 x0 x1 x2, y ∈ p.1.set := by
  have b0 : (y 0).val < 4 := (y 0).isLt
  have b1 : (y 1).val < 4 := (y 1).isLt
  have b2 : (y 2).val < 16 := (y 2).isLt
  have b5 : (y 5).val < 64 := (y 5).isLt
  have key : ∀ (p q : ℕ) (inb : ∀ a, (![p, q, 0, 1, 1, 0] : Fin 6 → ℕ) a + (![1, 1, 16, 8, 8, 64] : Fin 6 → ℕ) a ≤ S4x4x16x10x10x64.size a),
      (y 0).val = p → (y 1).val = q → y ∈ (Rect.unit (s := S4x4x16x10x10x64) ![p, q, 0, 1, 1, 0] ![1, 1, 16, 8, 8, 64] inb).set := by
    intro p q inb hp hq
    refine Rect.mem_set_unit.mpr fun a => ?_
    fin_cases a
    · exact ⟨by show p ≤ (y 0).val; omega, by show (y 0).val < p + 1; omega⟩
    · exact ⟨by show q ≤ (y 1).val; omega, by show (y 1).val < q + 1; omega⟩
    · exact ⟨by show 0 ≤ (y 2).val; omega, by show (y 2).val < 0 + 16; omega⟩
    · exact ⟨by show 1 ≤ (y 3).val; omega, by show (y 3).val < 1 + 8; omega⟩
    · exact ⟨by show 1 ≤ (y 4).val; omega, by show (y 4).val < 1 + 8; omega⟩
    · exact ⟨by show 0 ≤ (y 5).val; omega, by show (y 5).val < 0 + 64; omega⟩
  unfold kernelRun0_B.sl.HS0_16
  simp only [List.exists_mem_cons_iff, List.not_mem_nil, false_and, exists_false, or_false]
  interval_cases e0 : (y 0).val <;> interval_cases e1 : (y 1).val
  · exact Or.inr (Or.inr (Or.inr (Or.inr (Or.inr (Or.inr (Or.inr (Or.inr (Or.inr (Or.inr (Or.inr (Or.inr (Or.inr (Or.inr (Or.inr ((key 0 0 _ rfl rfl))))))))))))))))
  · exact Or.inr (Or.inr (Or.inr (Or.inr (Or.inr (Or.inr (Or.inr (Or.inr (Or.inr (Or.inr (Or.inr (Or.inr (Or.inr (Or.inr (Or.inl (key 0 1 _ rfl rfl)))))))))))))))
  · exact Or.inr (Or.inr (Or.inr (Or.inr (Or.inr (Or.inr (Or.inr (Or.inr (Or.inr (Or.inr (Or.inr (Or.inr (Or.inr (Or.inl (key 0 2 _ rfl rfl))))))))))))))
  · exact Or.inr (Or.inr (Or.inr (Or.inr (Or.inr (Or.inr (Or.inr (Or.inr (Or.inr (Or.inr (Or.inr (Or.inr (Or.inl (key 0 3 _ rfl rfl)))))))))))))
  · exact Or.inr (Or.inr (Or.inr (Or.inr (Or.inr (Or.inr (Or.inr (Or.inr (Or.inr (Or.inr (Or.inr (Or.inl (key 1 0 _ rfl rfl))))))))))))
  · exact Or.inr (Or.inr (Or.inr (Or.inr (Or.inr (Or.inr (Or.inr (Or.inr (Or.inr (Or.inr (Or.inl (key 1 1 _ rfl rfl)))))))))))
  · exact Or.inr (Or.inr (Or.inr (Or.inr (Or.inr (Or.inr (Or.inr (Or.inr (Or.inr (Or.inl (key 1 2 _ rfl rfl))))))))))
  · exact Or.inr (Or.inr (Or.inr (Or.inr (Or.inr (Or.inr (Or.inr (Or.inr (Or.inl (key 1 3 _ rfl rfl)))))))))
  · exact Or.inr (Or.inr (Or.inr (Or.inr (Or.inr (Or.inr (Or.inr (Or.inl (key 2 0 _ rfl rfl))))))))
  · exact Or.inr (Or.inr (Or.inr (Or.inr (Or.inr (Or.inr (Or.inl (key 2 1 _ rfl rfl)))))))
  · exact Or.inr (Or.inr (Or.inr (Or.inr (Or.inr (Or.inl (key 2 2 _ rfl rfl))))))
  · exact Or.inr (Or.inr (Or.inr (Or.inr (Or.inl (key 2 3 _ rfl rfl)))))
  · exact Or.inr (Or.inr (Or.inr (Or.inl (key 3 0 _ rfl rfl))))
  · exact Or.inr (Or.inr (Or.inl (key 3 1 _ rfl rfl)))
  · exact Or.inr (Or.inl (key 3 2 _ rfl rfl))
  · exact Or.inl (key 3 3 _ rfl rfl)

/-- None of the stores meets the ring. -/
theorem miss1 (y : S4x4x16x10x10x64.Idx) (h : ¬((1 ≤ (y 3).val ∧ (y 3).val ≤ 8) ∧ (1 ≤ (y 4).val ∧ (y 4).val ≤ 8))) :
    ∀ p ∈ kernelRun0_B.sl.HS0_16 (F := Ideal) c arg1 harg1 arg2 harg2 arg3 harg3 x0 x1 x2, y ∉ p.1.set := by
  have key : ∀ (p q : ℕ) (inb : ∀ a, (![p, q, 0, 1, 1, 0] : Fin 6 → ℕ) a + (![1, 1, 16, 8, 8, 64] : Fin 6 → ℕ) a ≤ S4x4x16x10x10x64.size a),
      y ∉ (Rect.unit (s := S4x4x16x10x10x64) ![p, q, 0, 1, 1, 0] ![1, 1, 16, 8, 8, 64] inb).set := by
    intro p q inb hy
    have h3 : 1 ≤ (y 3).val ∧ (y 3).val < 1 + 8 := Rect.mem_set_unit.mp hy 3
    have h4 : 1 ≤ (y 4).val ∧ (y 4).val < 1 + 8 := Rect.mem_set_unit.mp hy 4
    omega
  intro p hp
  unfold kernelRun0_B.sl.HS0_16 at hp
  simp only [List.mem_cons, List.not_mem_nil, or_false] at hp
  rcases hp with rfl | rfl | rfl | rfl | rfl | rfl | rfl | rfl | rfl | rfl | rfl | rfl | rfl | rfl | rfl | rfl
  · exact key _ _ inb_S4x4x16x10x10x64_S1x1x16x8x8x64_3_3_0_1_1_0
  · exact key _ _ inb_S4x4x16x10x10x64_S1x1x16x8x8x64_3_2_0_1_1_0
  · exact key _ _ inb_S4x4x16x10x10x64_S1x1x16x8x8x64_3_1_0_1_1_0
  · exact key _ _ inb_S4x4x16x10x10x64_S1x1x16x8x8x64_3_0_0_1_1_0
  · exact key _ _ inb_S4x4x16x10x10x64_S1x1x16x8x8x64_2_3_0_1_1_0
  · exact key _ _ inb_S4x4x16x10x10x64_S1x1x16x8x8x64_2_2_0_1_1_0
  · exact key _ _ inb_S4x4x16x10x10x64_S1x1x16x8x8x64_2_1_0_1_1_0
  · exact key _ _ inb_S4x4x16x10x10x64_S1x1x16x8x8x64_2_0_0_1_1_0
  · exact key _ _ inb_S4x4x16x10x10x64_S1x1x16x8x8x64_1_3_0_1_1_0
  · exact key _ _ inb_S4x4x16x10x10x64_S1x1x16x8x8x64_1_2_0_1_1_0
  · exact key _ _ inb_S4x4x16x10x10x64_S1x1x16x8x8x64_1_1_0_1_1_0
  · exact key _ _ inb_S4x4x16x10x10x64_S1x1x16x8x8x64_1_0_0_1_1_0
  · exact key _ _ inb_S4x4x16x10x10x64_S1x1x16x8x8x64_0_3_0_1_1_0
  · exact key _ _ inb_S4x4x16x10x10x64_S1x1x16x8x8x64_0_2_0_1_1_0
  · exact key _ _ inb_S4x4x16x10x10x64_S1x1x16x8x8x64_0_1_0_1_1_0
  · exact key _ _ inb_S4x4x16x10x10x64_S1x1x16x8x8x64_0_0_0_1_1_0

/-- The first scratch after the stores, over contents whose ring is zero. -/
theorem state1 {κ : Kind} {sp : Space} (v : View sig κ sp S4x4x16x10x10x64 .f32) (f : v.ty.Contents (Elt Ideal))
    (hf : ∀ y : S4x4x16x10x10x64.Idx, ¬((1 ≤ (y 3).val ∧ (y 3).val ≤ 8) ∧ (1 ≤ (y 4).val ∧ (y 4).val ≤ 8)) → v.read (Elt Ideal) f y = (0 : EReal)) :
    v.read (Elt Ideal) (v.writes (Elt Ideal) f (kernelRun0_B.sl.HS0_16 (F := Ideal) c arg1 harg1 arg2 harg2 arg3 harg3 x0 x1 x2)) = C1 x0 x1 x2 := by
  funext y
  by_cases h : (1 ≤ (y 3).val ∧ (y 3).val ≤ 8) ∧ (1 ≤ (y 4).val ∧ (y 4).val ≤ 8)
  · exact View.read_writes_apply_of_pieces v f _ _ (pieces1 c arg1 harg1 arg2 harg2 arg3 harg3 x0 x1 x2) y (cover1 c arg1 harg1 arg2 harg2 arg3 harg3 x0 x1 x2 y h.1 h.2)
  · rw [View.read_writes_apply_of_forall_not_mem v f y _ (miss1 c arg1 harg1 arg2 harg2 arg3 harg3 x0 x1 x2 y h), hf y h]
    have b0 : (y 0).val < 4 := (y 0).isLt
    have b1 : (y 1).val < 4 := (y 1).isLt
    unfold C1 H1
    rw [if_neg (by omega)]

/-- The first scratch after the stores of the first point, which fills it with zero before. -/
theorem state1_first {κ : Kind} {sp : Space} (v : View sig κ sp S4x4x16x10x10x64 .f32) (f : v.ty.Contents (Elt Ideal)) :
    v.read (Elt Ideal) (v.writes (Elt Ideal) f (kernelRun0_A.sl.HS0_17 (F := Ideal) c arg1 harg1 arg2 harg2 arg3 harg3 x0 x1 x2)) = C1 x0 x1 x2 := by
  have e : kernelRun0_A.sl.HS0_17 (F := Ideal) c arg1 harg1 arg2 harg2 arg3 harg3 x0 x1 x2 = kernelRun0_B.sl.HS0_16 (F := Ideal) c arg1 harg1 arg2 harg2 arg3 harg3 x0 x1 x2 ++ [⟨Rect.unit ![0, 0, 0, 0, 0, 0] S4x4x16x10x10x64.size
    inb_S4x4x16x10x10x64_S4x4x16x10x10x64_0_0_0_0_0_0, k0_pay2 (F := Ideal)⟩] := rfl
  rw [e, View.writes_append]
  refine state1 c arg1 harg1 arg2 harg2 arg3 harg3 x0 x1 x2 v _ fun y _ => ?_
  rw [View.read_writes_cons_hit_of_coords v f _ _ [] y y (fun a => ?_)]
  · unfold k0_pay2
    pointwise!
  · fin_cases a <;> exact (by omega : ∀ n : ℕ, n = 0 + 1 * n) _

end Cert.KernelIdeal.EV
end
-- ==== Proof.T.Spec.lean ====
module

public import proofs.«01_k».proof.Proof.EK.Spec

@[expose] public section

set_option maxRecDepth 16384

noncomputable section

/-! # What comes after the encoder

Two dense layers, the look-up of the nearest codebook row, a dense layer and three transposed convolutions whose
stride is their width, over the extended reals. -/

namespace Cert.KernelIdeal.Dec

open Cert.KernelIdeal Cert.KernelIdeal.Gen Idealize.ShloMosaic Idealize.ShloMosaic.TcCoe Idealize.SL.Sem Idealize.ShloMosaic.StableHlo

/-- The first position at which the least of 512 values stands, as a 32-bit word. -/
def near (f : Fin 512 → EReal) : BitVec 32 :=
  Finset.univ.fold IntOp.minsi 2147483647#32 fun k => if f k = Finset.univ.fold min (Ideal.ofBits .f32 0x7F800000#32) f then BitVec.ofNat 32 k.val else 512#32

/-- That position, as a row number. -/
def row (f : Fin 512 → EReal) : Fin 512 := ⟨(near f).toNat % 512, Nat.mod_lt _ (by decide)⟩

/-- The first dense layer, of the encoder's result `g`. -/
def hid (g : Fin 64 → Fin 16384 → EReal) (W : S16384x1024.Idx → EReal) (a : S1024.Idx → EReal) (b : Fin 64) (o : Fin 1024) : EReal :=
  max ((∑ k : Fin 16384, g b k * W (ix2 k o)) + a (ix1 o)) 0

/-- The second dense layer: the latent vectors side by side. -/
def lat (h : Fin 64 → Fin 1024 → EReal) (W : S1024x2048.Idx → EReal) (a : S2048.Idx → EReal) (b : Fin 64) (o : Fin 2048) : EReal :=
  max ((∑ k : Fin 1024, h b k * W (ix2 k o)) + a (ix1 o)) 0

/-- The square of the distance of latent vector `l` of image `b` from row `k` of the codebook. -/
def gap (p : Fin 64 → Fin 2048 → EReal) (e : S512x64.Idx → EReal) (b : Fin 64) (l : Fin 32) (k : Fin 512) : EReal :=
  ∑ c : Fin 64, (p b ⟨64 * l.val + c.val, by omega⟩ - e (ix2 k c)) * (p b ⟨64 * l.val + c.val, by omega⟩ - e (ix2 k c))

/-- The latent vectors, each replaced by the nearest row of the codebook. -/
def code (p : Fin 64 → Fin 2048 → EReal) (e : S512x64.Idx → EReal) (b : Fin 64) (q : Fin 2048) : EReal :=
  e (ix2 (row fun k => Ideal.sqrt (gap p e b ⟨q.val / 64, by omega⟩ k)) ⟨q.val % 64, by omega⟩)

/-- The decoder's dense layer. -/
def dense (x : Fin 64 → Fin 2048 → EReal) (W : S2048x1024.Idx → EReal) (a : S1024.Idx → EReal) (b : Fin 64) (o : Fin 1024) : EReal :=
  max ((∑ k : Fin 2048, x b k * W (ix2 k o)) + a (ix1 o)) 0

/-- The first transposed convolution. -/
def img1 (d : Fin 64 → Fin 1024 → EReal) (K : S8x8x1024x256.Idx → EReal) (a : S256.Idx → EReal) (b : Fin 64) (i j : Fin 8) (o : Fin 256) : EReal :=
  max ((∑ k : Fin 1024, d b k * K (ix4 i j k o)) + a (ix1 o)) 0

/-- The second transposed convolution. -/
def img2 (t : Fin 64 → Fin 8 → Fin 8 → Fin 256 → EReal) (K : S4x4x256x128.Idx → EReal) (a : S128.Idx → EReal) (b : Fin 64) (i j : Fin 32) (o : Fin 128) : EReal :=
  max ((∑ k : Fin 256, t b ⟨i.val / 4, by omega⟩ ⟨j.val / 4, by omega⟩ k * K (ix4 ⟨i.val % 4, by omega⟩ ⟨j.val % 4, by omega⟩ k o)) + a (ix1 o)) 0

/-- The third transposed convolution. -/
def img3 (t : Fin 64 → Fin 32 → Fin 32 → Fin 128 → EReal) (K : S2x2x128x1.Idx → EReal) (a : S1.Idx → EReal) (b : Fin 64) (i j : Fin 64) : EReal :=
  (∑ k : Fin 128, t b ⟨i.val / 2, by omega⟩ ⟨j.val / 2, by omega⟩ k * K (ix4 ⟨i.val % 2, by omega⟩ ⟨j.val % 2, by omega⟩ k 0)) + a (ix1 0)

end Cert.KernelIdeal.Dec
end
-- ==== Proof.T.Near.lean ====
module

public import proofs.«01_k».proof.Proof.T.Spec

@[expose] public section

set_option maxRecDepth 16384

noncomputable section

/-! # The first position of the least value -/

namespace Cert.KernelIdeal.Dec

open Cert.KernelIdeal Cert.KernelIdeal.Gen Idealize.ShloMosaic Idealize.ShloMosaic.TcCoe Idealize.SL.Sem Idealize.ShloMosaic.StableHlo

theorem one_word : FloatOps.sitofp (F := Ideal) FTy.f32 (BitVec.setWidth 32 (1#1)) = (1 : EReal) := by
  show ((((BitVec.setWidth 32 (1#1)).toInt : ℝ)) : EReal) = 1
  rw [show (BitVec.setWidth 32 (1#1)).toInt = 1 by decide]
  norm_num

theorem zero_word : FloatOps.sitofp (F := Ideal) FTy.f32 (BitVec.setWidth 32 (0#1)) = (0 : EReal) := by
  show ((((BitVec.setWidth 32 (0#1)).toInt : ℝ)) : EReal) = 0
  rw [show (BitVec.setWidth 32 (0#1)).toInt = 0 by decide]
  norm_num

/-- Infinity's bits. -/
theorem top_bits : Ideal.ofBits .f32 0x7F800000#32 = (⊤ : EReal) := by
  simp [Ideal.ofBits, Ideal.ieee]

/-- The lesser of two words is the one whose signed value is less. -/
theorem minsi_toInt (x y : BitVec 32) : (IntOp.minsi x y).toInt = min x.toInt y.toInt := by
  show (if x.slt y then x else y).toInt = _
  by_cases h : x.toInt < y.toInt
  · rw [if_pos (by rw [BitVec.slt]; exact decide_eq_true h), min_eq_left h.le]
  · rw [if_neg (by rw [BitVec.slt]; simpa using h), min_eq_right (not_lt.1 h)]

/-- A fold by the least word is the first value or one of the entries. -/
theorem fold_mem {ι : Type} [DecidableEq ι] (s : Finset ι) (g : ι → BitVec 32) :
    s.fold IntOp.minsi 2147483647#32 g = 2147483647#32 ∨ ∃ k ∈ s, s.fold IntOp.minsi 2147483647#32 g = g k := by
  induction s using Finset.induction_on with
  | empty => exact Or.inl Finset.fold_empty
  | insert a s ha ih =>
    rw [Finset.fold_insert ha]
    have h : IntOp.minsi (g a) (s.fold IntOp.minsi 2147483647#32 g) = g a ∨ IntOp.minsi (g a) (s.fold IntOp.minsi 2147483647#32 g) = s.fold IntOp.minsi 2147483647#32 g := by
      show (if _ then _ else _) = _ ∨ (if _ then _ else _) = _
      split
      · exact Or.inl rfl
      · exact Or.inr rfl
    rcases h with h | h
    · exact Or.inr ⟨a, Finset.mem_insert_self _ _, h⟩
    · rw [h]
      exact ih.imp id fun ⟨k, hk, e⟩ => ⟨k, Finset.mem_insert_of_mem hk, e⟩

/-- A fold by the least word is at most every entry. -/
theorem fold_le {ι : Type} [DecidableEq ι] (s : Finset ι) (g : ι → BitVec 32) (k : ι) (hk : k ∈ s) :
    (s.fold IntOp.minsi 2147483647#32 g).toInt ≤ (g k).toInt := by
  induction s using Finset.induction_on with
  | empty => exact absurd hk (Finset.notMem_empty _)
  | insert a s ha ih =>
    rw [Finset.fold_insert ha, minsi_toInt]
    rcases Finset.mem_insert.1 hk with rfl | h
    · exact min_le_left _ _
    · exact (min_le_right _ _).trans (ih h)

theorem word_toInt (k : ℕ) (hk : k ≤ 512) : (BitVec.ofNat 32 k).toInt = k := by
  rw [BitVec.toInt_ofNat', Int.bmod_eq_of_le (by omega) (by omega)]

/-- The least of 512 values. -/
def least (f : Fin 512 → EReal) : EReal := Finset.univ.fold min (Ideal.ofBits .f32 0x7F800000#32) f

theorem least_eq (f : Fin 512 → EReal) : least f = Finset.univ.inf f := by
  unfold least
  rw [top_bits]
  rfl

theorem least_mem (f : Fin 512 → EReal) : ∃ k, f k = least f := by
  rw [least_eq]
  obtain ⟨k, _, h⟩ := Finset.exists_mem_eq_inf Finset.univ ⟨0, Finset.mem_univ _⟩ f
  exact ⟨k, h.symm⟩

/-- The least value stands at a position exactly if no other value is less. -/
theorem eq_least (f : Fin 512 → EReal) (k : Fin 512) : f k = least f ↔ ∀ j, f k ≤ f j := by
  constructor
  · intro h j
    rw [h, least_eq]
    exact Finset.inf_le (Finset.mem_univ _)
  · intro h
    obtain ⟨j, hj⟩ := least_mem f
    refine le_antisymm ((h j).trans hj.le) ?_
    rw [least_eq]
    exact Finset.inf_le (Finset.mem_univ _)

/-- The word is the number of a row. -/
theorem near_row (f : Fin 512 → EReal) : near f = BitVec.ofNat 32 (row f).val := by
  have key : ∃ k : Fin 512, near f = BitVec.ofNat 32 k.val := by
    obtain ⟨j, hj⟩ := least_mem f
    have hle : (near f).toInt ≤ 511 := by
      have h := fold_le Finset.univ (fun k : Fin 512 => if f k = least f then BitVec.ofNat 32 k.val else 512#32) j (Finset.mem_univ _)
      rw [if_pos hj, word_toInt _ (by omega)] at h
      exact h.trans (by have := j.isLt; omega)
    rcases fold_mem Finset.univ (fun k : Fin 512 => if f k = least f then BitVec.ofNat 32 k.val else 512#32) with h | ⟨k, _, h⟩
    · have h' : near f = 2147483647#32 := h
      rw [h'] at hle
      exact absurd hle (by decide)
    · have h' : near f = if f k = least f then BitVec.ofNat 32 k.val else 512#32 := h
      by_cases e : f k = least f
      · rw [if_pos e] at h'
        exact ⟨k, h'⟩
      · rw [if_neg e] at h'
        rw [h'] at hle
        exact absurd hle (by decide)
  obtain ⟨k, hk⟩ := key
  have : row f = k := by
    apply Fin.ext
    show (near f).toNat % 512 = k.val
    rw [hk, BitVec.toNat_ofNat]
    omega
  rw [this, hk]

/-- Two families of values whose order relations to the least agree have the same first least position. -/
theorem near_congr (f g : Fin 512 → EReal) (h : ∀ k, (∀ j, f k ≤ f j) ↔ ∀ j, g k ≤ g j) : near f = near g := by
  have e : ∀ k, (f k = least f) = (g k = least g) := fun k => propext ((eq_least f k).trans ((h k).trans (eq_least g k).symm))
  show Finset.univ.fold IntOp.minsi 2147483647#32 (fun k : Fin 512 => if f k = least f then BitVec.ofNat 32 k.val else 512#32)
    = Finset.univ.fold IntOp.minsi 2147483647#32 (fun k : Fin 512 => if g k = least g then BitVec.ofNat 32 k.val else 512#32)
  refine congrArg (Finset.univ.fold IntOp.minsi 2147483647#32) (funext fun k => ?_)
  by_cases hk : f k = least f
  · rw [if_pos hk, if_pos ((e k).mp hk)]
  · rw [if_neg hk, if_neg fun h => hk ((e k).mpr h)]

theorem row_congr (f g : Fin 512 → EReal) (h : ∀ k, (∀ j, f k ≤ f j) ↔ ∀ j, g k ≤ g j) : row f = row g := by
  unfold row
  exact Fin.ext (congrArg (fun z : BitVec 32 => z.toNat % 512) (near_congr f g h))

end Cert.KernelIdeal.Dec
end
-- ==== Proof.T.Col.lean ====
module

public import proofs.«01_k».proof.Proof.EK.St1
public import proofs.«01_k».proof.Proof.T.Near

@[expose] public section

set_option maxRecDepth 16384

noncomputable section

namespace Cert.KernelIdeal.Dec

open Cert.KernelIdeal Cert.KernelIdeal.Gen Idealize.ShloMosaic Idealize.ShloMosaic.TcCoe Idealize.SL.Sem Idealize.ShloMosaic.StableHlo

/-- How far the rows of the codebook are from the vectors `z`, as the kernel measures it. -/
def distV (z : FVec Ideal S64x64 .f32) (et : FVec Ideal S64x512 .f32) (n : FVec Ideal S1x512 .f32) : FVec Ideal S64x512 .f32 :=
  addf (broadcastTo S64x512 n broadcasts_S1x512_S64x512) (matmul dot_S64x64_S64x512_S64x512_1_0_0_1_n_n none z et (constant S64x512 .f32 0x00000000#32))

/-- The position of the nearest row. -/
def firstV (d : FVec Ideal S64x512 .f32) : IVec S64 32 :=
  multiReductionI .minsi [1] S64 (select (cmpf .oeq d (broadcastTo S64x512 (shapeCast S64x1 (multiReduction .minimumf [1] S64 d 0x7F800000#32 reduces_S64x512_S64 (.inl rfl) rfl) shapeCasts_S64_S64x1) broadcasts_S64x1_S64x512))
    (iota .tc S64x512 32 [1] iota_S64x512_d1_w32) (broadcast S64x512 512#32)) 2147483647#32 reduces_S64x512_S64 rfl

/-- The rows of the codebook at given positions, by the product with a matrix of zeros and ones. -/
def pickV (e : FVec Ideal S512x64 .f32) (v : IVec S64 32) : FVec Ideal S64x64 .f32 :=
  matmul dot_S64x512_S512x64_S64x64_1_0_0_1_n_n none
    (sitofp .f32 (extui 32 (cmpi .eq (iota .tc S64x512 32 [1] iota_S64x512_d1_w32) (broadcastTo S64x512 (shapeCast S64x1 v shapeCasts_S64_S64x1) broadcasts_S64x1_S64x512)) natLt_1_32)) e (constant S64x64 .f32 0x00000000#32)

/-- One latent vector's column block of the look-up's result. -/
def colV (z : FVec Ideal S64x64 .f32) (e : FVec Ideal S512x64 .f32) (et : FVec Ideal S64x512 .f32) (n : FVec Ideal S1x512 .f32) : FVec Ideal S64x64 .f32 :=
  pickV e (firstV (distV z et n))

theorem slice_at (l : Fin 32) : S64x2048.Slices ![0, 64 * l.val] S64x64 := by
  revert l; decide

/-- The look-up's result, one block of columns for each of the latent vectors. -/
def flatV (pe : FVec Ideal S64x2048 .f32) (e : FVec Ideal S512x64 .f32) (et : FVec Ideal S64x512 .f32) (n : FVec Ideal S1x512 .f32) : FVec Ideal S64x2048 .f32 :=
  concatenate S64x2048 1 (List.ofFn fun l : Fin 32 => ⟨S64x64, colV (extractStridedSlice S64x64 ![0, 64 * l.val] pe (slice_at l)) e et n⟩) concatenates_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x2048_d1

/-- The look-up's result at an index. -/
theorem flatV_at (pe : FVec Ideal S64x2048 .f32) (e : FVec Ideal S512x64 .f32) (et : FVec Ideal S64x512 .f32) (n : FVec Ideal S1x512 .f32)
    (b : Fin 64) (q : Fin 2048) : flatV pe e et n (ix2 b q)
      = colV (extractStridedSlice S64x64 ![0, 64 * (q.val / 64)] pe (slice_at ⟨q.val / 64, by omega⟩)) e et n (ix2 b ⟨q.val % 64, by omega⟩) := by
  refine concatenate_ofFn_apply (t := S64x2048) (s₁ := S64x64) 1 (fun l : Fin 32 => colV (extractStridedSlice S64x64 ![0, 64 * l.val] pe (slice_at l)) e et n) _ rfl 64 rfl (ix2 b q) ⟨q.val / 64, by omega⟩ rfl _ rfl ?_
  intro a ha
  match a, ha with
  | ⟨0, _⟩, _ => rfl
  | ⟨1, _⟩, h => exact absurd rfl h

/-- The distances at an index. -/
theorem distV_at (z : FVec Ideal S64x64 .f32) (et : FVec Ideal S64x512 .f32) (n : FVec Ideal S1x512 .f32) (b : Fin 64) (k : Fin 512) :
    distV z et n (ix2 b k) = n (ix2 0 k) + ∑ c : Fin 64, z (ix2 b c) * et (ix2 c k) := by
  unfold distV
  pointwise

/-- The kernel's position of the nearest row is the first least one. -/
theorem firstV_at (d : FVec Ideal S64x512 .f32) (b : Fin 64) : firstV d (ix1 b) = near fun k => d (ix2 b k) := by
  unfold firstV near
  pointwise

/-- The product with a matrix of zeros and ones picks one row. -/
theorem pickV_at (e : FVec Ideal S512x64 .f32) (v : IVec S64 32) (b : Fin 64) (c : Fin 64) (k : Fin 512) (hk : v (ix1 b) = BitVec.ofNat 32 k.val) :
    pickV e v (ix2 b c) = e (ix2 k c) := by
  unfold pickV
  pointwise
  rw [hk, Finset.sum_eq_single k]
  · rw [show IntOp.cmpi CmpIPredicate.eq (BitVec.ofNat 32 k.val) (BitVec.ofNat 32 k.val) = 1#1 from congrArg BitVec.ofBool (beq_self_eq_true _)]
    rw [show FloatOps.sitofp (F := Ideal) FTy.f32 (BitVec.setWidth 32 (1#1)) = (1 : EReal) from one_word]
    exact one_mul _
  · intro x _ hx
    have hne : BitVec.ofNat 32 x.val ≠ BitVec.ofNat 32 k.val := by
      intro h
      have := congrArg BitVec.toNat h
      rw [BitVec.toNat_ofNat, BitVec.toNat_ofNat, Nat.mod_eq_of_lt (by omega), Nat.mod_eq_of_lt (by omega)] at this
      exact hx (Fin.ext this)
    rw [show IntOp.cmpi CmpIPredicate.eq (BitVec.ofNat 32 x.val) (BitVec.ofNat 32 k.val) = 0#1 from congrArg BitVec.ofBool (beq_eq_false_iff_ne.2 hne)]
    rw [show FloatOps.sitofp (F := Ideal) FTy.f32 (BitVec.setWidth 32 (0#1)) = (0 : EReal) from zero_word]
    exact zero_mul _
  · exact fun h => absurd (Finset.mem_univ _) h

/-- The look-up's result at an index: an entry of the nearest row. -/
theorem flatV_row (pe : FVec Ideal S64x2048 .f32) (e : FVec Ideal S512x64 .f32) (et : FVec Ideal S64x512 .f32) (n : FVec Ideal S1x512 .f32)
    (b : Fin 64) (q : Fin 2048) : flatV pe e et n (ix2 b q)
      = e (ix2 (row fun k => n (ix2 0 k) + ∑ c : Fin 64, pe (ix2 b ⟨64 * (q.val / 64) + c.val, by omega⟩) * et (ix2 c k)) ⟨q.val % 64, by omega⟩) := by
  rw [flatV_at]
  refine pickV_at e _ b _ _ ?_
  rw [firstV_at]
  refine (near_row _).trans (congrArg (fun f => BitVec.ofNat 32 (row f).val) (funext fun k => ?_))
  rw [distV_at]
  refine congrArg (n (ix2 0 k) + ·) (Finset.sum_congr rfl fun c _ => ?_)
  pointwise

end Cert.KernelIdeal.Dec
end
-- ==== Proof.T.DV.lean ====
module

public import proofs.«01_k».proof.Proof.KI.MegaData
public import proofs.«01_k».proof.Proof.T.Col
public import Idealize.ShloMosaic.Lib.Pipeline.ValueKit.Basic

@[expose] public section

set_option maxRecDepth 16384

noncomputable section

/-! # The decoder's input and the images, read at an index -/

namespace Cert.KernelIdeal.Dec

open Cert.KernelIdeal Cert.KernelIdeal.Gen Cert.KernelIdeal.Mega Idealize.ShloMosaic Idealize.ShloMosaic.TcCoe Idealize.SL.Sem Idealize.ShloMosaic.StableHlo
open Cert.KernelIdeal.EV (load_whole)

/-- The columns of the payloads side by side are the look-up's result. -/
theorem dV_eq (V : Dev nD → Valuation τ sig (Elt Ideal)) (c : Dev nD) : dV V c =
    k1_pay3 (flatV (k1_pay7 (accAt V c 7) (iblk V c 2 (pt 8)) (iblk V c 3 (pt 8)) (iblk V c 4 (pt 8))) (iblk V c 5 (pt 8)) (k1_pay8 (iblk V c 6 (pt 8))) (k1_pay9 (iblk V c 6 (pt 8)))) (iblk V c 7 (pt 8)) (iblk V c 8 (pt 8)) := by
  unfold dV
  generalize iblk V c 2 (pt 8) = x3
  generalize iblk V c 3 (pt 8) = x4
  generalize iblk V c 4 (pt 8) = x5
  generalize iblk V c 5 (pt 8) = x6
  generalize iblk V c 6 (pt 8) = x7
  generalize iblk V c 7 (pt 8) = x8
  generalize iblk V c 8 (pt 8) = x9
  generalize accAt V c 7 = x17
  unfold runC
  dsimp only
  refine (View.canon_cons_unit_lit _ _ _ (by decide)).trans ?_
  rw [load_whole (st1_2 (pt 8)), load_whole (st1_3 (pt 8)), load_whole (st1_4 (pt 8)), load_whole (st1_5 (pt 8)), load_whole (st1_6 (pt 8)), load_whole (st1_7 (pt 8)), load_whole (st1_8 (pt 8)), load_whole scA]
  rfl

/-- The latent vectors at an index. -/
theorem pay7_at (x : FVec Ideal S64x1024 .f32) (a : FVec Ideal S1x1024 .f32) (W : FVec Ideal S1024x2048 .f32) (w : FVec Ideal S1x2048 .f32) (b : Fin 64) (q : Fin 2048) :
    k1_pay7 x a W w (ix2 b q) = max ((∑ k : Fin 1024, max (x (ix2 b k) + a (ix2 0 k)) 0 * W (ix2 k q)) + w (ix2 0 q)) 0 := by
  unfold_payloads
  pointwise

theorem pay8_at (x : FVec Ideal S64x512 .f32) (b : Fin 64) (q : Fin 512) : k1_pay8 x (ix2 b q) = x (ix2 b q) := by
  unfold_payloads
  pointwise

theorem pay9_at (x : FVec Ideal S64x512 .f32) (q : Fin 512) : k1_pay9 x (ix2 0 q) = Ideal.ofBits .f32 0x3E800000#32 * ∑ k : Fin 64, x (ix2 k q) * x (ix2 k q) := by
  unfold_payloads
  pointwise

theorem pay3_at (x : FVec Ideal S64x2048 .f32) (W : FVec Ideal S2048x1024 .f32) (w : FVec Ideal S1x1024 .f32) (b : Fin 64) (q : Fin 1024) :
    k1_pay3 x W w (ix2 b q) = max ((∑ k : Fin 2048, x (ix2 b k) * W (ix2 k q)) + w (ix2 0 q)) 0 := by
  unfold_payloads
  pointwise

theorem pay56_at (x : FVec Ideal S64x1024 .f32) (K : FVec Ideal S4x1024x256 .f32) (w : FVec Ideal S1x256 .f32) (b : Fin 64) (o : Fin 256) :
    k1_pay56 (F := Ideal) x K w (ix2 b o) = max ((∑ k : Fin 1024, x (ix2 b k) * K (ix3 0 k o)) + w (ix2 0 o)) 0 := by
  unfold_payloads
  pointwise

theorem pay57_at (x : FVec Ideal S64x1024 .f32) (K : FVec Ideal S4x1024x256 .f32) (w : FVec Ideal S1x256 .f32) (b : Fin 64) (o : Fin 256) :
    k1_pay57 (F := Ideal) x K w (ix2 b o) = max ((∑ k : Fin 1024, x (ix2 b k) * K (ix3 1 k o)) + w (ix2 0 o)) 0 := by
  unfold_payloads
  pointwise

theorem pay58_at (x : FVec Ideal S64x1024 .f32) (K : FVec Ideal S4x1024x256 .f32) (w : FVec Ideal S1x256 .f32) (b : Fin 64) (o : Fin 256) :
    k1_pay4 (F := Ideal) (k1_pay58 x K) w (ix2 b o) = max ((∑ k : Fin 1024, x (ix2 b k) * K (ix3 2 k o)) + w (ix2 0 o)) 0 := by
  unfold_payloads
  pointwise

theorem pay5_at (x : FVec Ideal S64x1024 .f32) (K : FVec Ideal S4x1024x256 .f32) (w : FVec Ideal S1x256 .f32) (b : Fin 64) (o : Fin 256) :
    k1_pay5 (F := Ideal) x (k1_pay55 K) w (ix2 b o) = max ((∑ k : Fin 1024, x (ix2 b k) * K (ix3 3 k o)) + w (ix2 0 o)) 0 := by
  unfold_payloads
  pointwise

/-- A band of the first image at an index. -/
theorem band_at (x : FVec Ideal S64x1024 .f32) (K : FVec Ideal S4x1024x256 .f32) (w : FVec Ideal S1x256 .f32) (r : Fin 4) (b : Fin 64) (o : Fin 256) :
    band (F := Ideal) x K w r (ix2 b o) = max ((∑ k : Fin 1024, x (ix2 b k) * K (ix3 r k o)) + w (ix2 0 o)) 0 := by
  match r with
  | 0 => exact pay56_at x K w b o
  | 1 => exact pay57_at x K w b o
  | 2 => exact pay58_at x K w b o
  | 3 => exact pay5_at x K w b o

theorem pay6_at (x : FVec Ideal S512x256 .f32) (W : FVec Ideal S256x2048 .f32) (w : FVec Ideal S1x2048 .f32) (M : FVec Ideal S2048x64 .f32) (a : FVec Ideal S1x64 .f32)
    (r : Fin 512) (s : Fin 64) :
    k1_pay6 (F := Ideal) x W w M a (ix2 r s) = Ideal.logistic ((∑ m : Fin 2048, max ((∑ k : Fin 256, x (ix2 r k) * W (ix2 k m)) + w (ix2 0 m)) 0 * M (ix2 m s)) + a (ix2 0 s)) := by
  unfold_payloads
  pointwise

end Cert.KernelIdeal.Dec
end
-- ==== Proof.T.Acc.lean ====
module

public import proofs.«01_k».proof.Proof.T.Blk
public import proofs.«01_k».proof.Proof.T.DV

@[expose] public section

set_option maxRecDepth 16384

noncomputable section

/-! # The running sum of the first dense layer, and a sum against block-diagonal filters -/

namespace Cert.KernelIdeal.Dec

open Cert.KernelIdeal Cert.KernelIdeal.Gen Cert.KernelIdeal.Mega Idealize.ShloMosaic Idealize.ShloMosaic.TcCoe Idealize.SL.Sem Idealize.ShloMosaic.StableHlo

theorem pay1_at (b : Fin 64) (o : Fin 1024) : k1_pay1 (F := Ideal) (ix2 b o) = (0 : EReal) := by
  unfold_payloads
  pointwise

theorem pay2_at (x : FVec Ideal S64x1024 .f32) (h : FVec Ideal S64x2048 .f32) (w : FVec Ideal S2048x1024 .f32) (b : Fin 64) (o : Fin 1024) :
    k1_pay2 (F := Ideal) x h w (ix2 b o) = x (ix2 b o) + ∑ k : Fin 2048, h (ix2 b k) * w (ix2 k o) := by
  unfold_payloads
  pointwise

variable (V : Dev nD → Valuation τ sig (Elt Ideal)) (c : Dev nD)

/-- The first call's result, an image a row. -/
def opA : S64x16384.Idx → EReal := V c main_v75

/-- The first dense layer's weights. -/
def opW : S16384x1024.Idx → EReal := V c main_arg7

/-- Their blocks. -/
def blkA (t : Fin cfg1.N) : S64x2048.Idx → EReal := iblk V c 0 t

def blkW (t : Fin cfg1.N) : S2048x1024.Idx → EReal := iblk V c 1 t

/-- A product of the first dense layer, by the number of its column. -/
def term (b : Fin 64) (o : Fin 1024) (i : ℕ) : EReal :=
  if h : i < 16384 then opA V c (ix2 b ⟨i, h⟩) * opW V c (ix2 ⟨i, h⟩ o) else 0

/-- The products of one block. -/
theorem block_sum (n : Fin 8) (b : Fin 64) (o : Fin 1024) :
    (∑ k : Fin 2048, blkA V c (pt n.val) (ix2 b k) * blkW V c (pt n.val) (ix2 k o)) = ∑ i ∈ Finset.range 2048, term V c b o (2048 * n.val + i) := by
  rw [Finset.sum_range]
  refine Finset.sum_congr rfl fun k _ => ?_
  refine (congrArg₂ (fun u v : EReal => u * v) (blk_0 V c n b k) (blk_1 V c n k o)).trans ?_
  unfold term
  rw [dif_pos (by omega)]
  rfl

/-- The running sum after block `n`. -/
theorem acc_at (n : ℕ) (hn : n < 8) (b : Fin 64) (o : Fin 1024) : (accAt V c n (ix2 b o) : EReal) = ∑ i ∈ Finset.range (2048 * (n + 1)), term V c b o i := by
  induction n with
  | zero =>
    refine (pay2_at _ _ _ b o).trans ?_
    rw [pay1_at, zero_add]
    refine (block_sum V c 0 b o).trans ?_
    simp
  | succ n ih =>
    refine (pay2_at _ _ _ b o).trans ?_
    rw [ih (by omega), show 2048 * (n + 1 + 1) = 2048 * (n + 1) + 2048 by ring, Finset.sum_range_add]
    exact congrArg _ (block_sum V c ⟨n + 1, hn⟩ b o)

/-- The running sum after the last block. -/
theorem acc_all (b : Fin 64) (o : Fin 1024) :
    (accAt V c 7 (ix2 b o) : EReal) = ∑ k : Fin 16384, opA V c (ix2 b k) * opW V c (ix2 k o) := by
  refine (acc_at V c 7 (by omega) b o).trans ?_
  show ∑ i ∈ Finset.range 16384, term V c b o i = _
  rw [Finset.sum_range]
  refine Finset.sum_congr rfl fun k _ => ?_
  unfold term
  rw [dif_pos k.isLt]

/-- Against block-diagonal filters only the products of one block are left. -/
theorem one_block (A : Fin 2048 → EReal) (B : Fin 128 → EReal) (w : Fin 16) :
    (∑ q : Fin 2048, A q * ((if (⟨q.val / 128, by omega⟩ : Fin 16) = w then (1 : EReal) else 0) * B ⟨q.val % 128, by omega⟩)) = ∑ u : Fin 128, A ⟨128 * w.val + u.val, by omega⟩ * B u := by
  have e : ∀ f : Fin 2048 → EReal, ∑ q, f q = ∑ v : Fin 16, ∑ u : Fin 128, f ⟨128 * v.val + u.val, by omega⟩ := by
    intro f
    rw [← Fintype.sum_prod_type' (f := fun (v : Fin 16) (u : Fin 128) => f ⟨128 * v.val + u.val, by omega⟩)]
    refine (Fintype.sum_equiv (finProdFinEquiv (m := 16) (n := 128)) _ _ fun p => ?_).symm
    exact congrArg f (Fin.ext (Nat.add_comm _ _))
  rw [e, Finset.sum_eq_single w]
  · refine Finset.sum_congr rfl fun u _ => ?_
    have h1 : (⟨(128 * w.val + u.val) / 128, by omega⟩ : Fin 16) = w := Fin.ext (by show (128 * w.val + u.val) / 128 = w.val; omega)
    have h2 : (⟨(128 * w.val + u.val) % 128, by omega⟩ : Fin 128) = u := Fin.ext (by show (128 * w.val + u.val) % 128 = u.val; omega)
    rw [if_pos h1, one_mul, h2]
  · intro v _ hv
    refine Finset.sum_eq_zero fun u _ => ?_
    have h1 : (⟨(128 * v.val + u.val) / 128, by omega⟩ : Fin 16) = v := Fin.ext (by show (128 * v.val + u.val) / 128 = v.val; omega)
    rw [h1, if_neg hv, zero_mul, mul_zero]
  · exact fun h => absurd (Finset.mem_univ _) h

end Cert.KernelIdeal.Dec
end
-- ==== Proof.EK.St2.lean ====
module

public import proofs.«01_k».proof.Proof.EK.St1

@[expose] public section

set_option maxRecDepth 16384

noncomputable section

namespace Cert.KernelIdeal.EV

open Cert.KernelIdeal Cert.KernelIdeal.Gen Cert.KernelIdeal.Enc Idealize.ShloMosaic Idealize.ShloMosaic.TcCoe Idealize.SL.Sem Idealize.ShloMosaic.StableHlo

/-- An entry of the first scratch is the tap of the second convolution that reads it. -/
theorem tap2_of (x0 : S16384x16.Idx → EReal) (x1 : S16x64.Idx → EReal) (x2 : S1x64.Idx → EReal) (P Q : ℕ) (t : Fin 16) (p q i j : ℕ)
    (inb : ∀ a, (![p, q, 0, i, j, 0] : Fin 6 → ℕ) a + (![1, 1, 16, 8, 8, 64] : Fin 6 → ℕ) a ≤ S4x4x16x10x10x64.size a)
    (hi : 4 * i + p = 2 * P + t.val / 4 + 3) (hj : 4 * j + q = 2 * Q + t.val % 4 + 3) (y : S1x1x16x8x8x64.Idx) :
    C1 x0 x1 x2 ((Rect.unit (s := S4x4x16x10x10x64) ![p, q, 0, i, j, 0] ![1, 1, 16, 8, 8, 64] inb).emb y) = tap2 (H1 x0 x1 x2) P Q t y := by
  obtain ⟨h0, h1, h2, h3, h4, h5⟩ := emb1 p q i j inb y _ rfl
  unfold C1 tap2
  rw [h0, h1, h2, h3, h4, show 4 * (i + (y 3).val) + p = 2 * (2 * (y 3).val + P) + t.val / 4 + 3 by omega,
    show 4 * (j + (y 4).val) + q = 2 * (2 * (y 4).val + Q) + t.val % 4 + 3 by omega]
  congr 1
  exact Fin.ext h5

/-- An entry of the second scratch is the tap of the third convolution that reads it. -/
theorem tap3_of (h : ℕ → ℕ → ℕ → Fin 64 → EReal) (x3 : S16x64x128.Idx → EReal) (x4 : S1x128.Idx → EReal) (t : Fin 16) (p q i j : ℕ)
    (inb : ∀ a, (![p, q, 0, i, j, 0] : Fin 6 → ℕ) a + (![1, 1, 16, 8, 8, 128] : Fin 6 → ℕ) a ≤ S2x2x16x10x10x128.size a)
    (hi : 2 * i + p = t.val / 4 + 1) (hj : 2 * j + q = t.val % 4 + 1) (y : S1x1x16x8x8x128.Idx) :
    C2 h x3 x4 ((Rect.unit (s := S2x2x16x10x10x128) ![p, q, 0, i, j, 0] ![1, 1, 16, 8, 8, 128] inb).emb y) = tap3 (H2 h x3 x4) t y := by
  obtain ⟨h0, h1, h2, h3, h4, h5⟩ := emb2 p q i j inb y _ rfl
  unfold C2 tap3
  rw [h0, h1, h2, h3, h4, show 2 * (i + (y 3).val) + p = 2 * (y 3).val + t.val / 4 + 1 by omega,
    show 2 * (j + (y 4).val) + q = 2 * (y 4).val + t.val % 4 + 1 by omega]
  congr 1
  exact Fin.ext h5

/-- The bounds of filter `t`'s load from the second filters. -/
theorem inb_w2 (t : Fin 16) : ∀ a, (![t.val, 0, 0] : Fin 3 → ℕ) a + S1x64x128.size a ≤ S16x64x128.size a := by
  revert t; decide

/-- The bounds of filter `t`'s load from the third filters. -/
theorem inb_w3 (t : Fin 16) : ∀ a, (![t.val, 0, 0] : Fin 3 → ℕ) a + S1x128x256.size a ≤ S16x128x256.size a := by
  revert t; decide

/-- Filter `t` of the second filters, loaded. -/
def w2 (g : Memref sig .tc .vmem S16x64x128 .f32) (hg : g.IsWhole) (X : Vec Ideal S16x64x128 .f32) (t : Fin 16) : Vec Ideal S1x64x128 .f32 :=
  View.readAt (Elt Ideal) g.view (Rect.unit (s := S16x64x128) ![t.val, 0, 0] S1x64x128.size (inb_w2 t)).toLoadRect (hg.unread X)

/-- Filter `t` of the third filters, loaded. -/
def w3 (g : Memref sig .tc .vmem S16x128x256 .f32) (hg : g.IsWhole) (X : Vec Ideal S16x128x256 .f32) (t : Fin 16) : Vec Ideal S1x128x256 .f32 :=
  View.readAt (Elt Ideal) g.view (Rect.unit (s := S16x128x256) ![t.val, 0, 0] S1x128x256.size (inb_w3 t)).toLoadRect (hg.unread X)

/-- The loaded filter's entries. -/
theorem w2_at (g : Memref sig .tc .vmem S16x64x128 .f32) (hg : g.IsWhole) (X : Vec Ideal S16x64x128 .f32) (t : Fin 16) (x : S1x64x128.Idx) :
    w2 g hg X t x = X (ix3 t (x 1) (x 2)) := by
  unfold w2
  rw [hg.readAt_unread]
  congr 1
  have b0 : (x 0).val < 1 := (x 0).isLt
  funext a
  apply Fin.ext
  fin_cases a
  · show t.val + 1 * (x 0).val = t.val; omega
  · show 0 + 1 * (x 1).val = (x 1).val; omega
  · show 0 + 1 * (x 2).val = (x 2).val; omega

/-- The loaded filter's entries. -/
theorem w3_at (g : Memref sig .tc .vmem S16x128x256 .f32) (hg : g.IsWhole) (X : Vec Ideal S16x128x256 .f32) (t : Fin 16) (x : S1x128x256.Idx) :
    w3 g hg X t x = X (ix3 t (x 1) (x 2)) := by
  unfold w3
  rw [hg.readAt_unread]
  congr 1
  have b0 : (x 0).val < 1 := (x 0).isLt
  funext a
  apply Fin.ext
  fin_cases a
  · show t.val + 1 * (x 0).val = t.val; omega
  · show 0 + 1 * (x 1).val = (x 1).val; omega
  · show 0 + 1 * (x 2).val = (x 2).val; omega

section
variable (G : S2x2x16x10x10x128.Idx → EReal) (p11 p10 p01 p00 : S1x1x16x8x8x128.Idx → EReal)
  (i11 : ∀ a, (![1, 1, 0, 1, 1, 0] : Fin 6 → ℕ) a + (![1, 1, 16, 8, 8, 128] : Fin 6 → ℕ) a ≤ S2x2x16x10x10x128.size a)
  (g11 : ∀ y, p11 y = G ((Rect.unit (s := S2x2x16x10x10x128) ![1, 1, 0, 1, 1, 0] ![1, 1, 16, 8, 8, 128] i11).emb y))
  (i10 : ∀ a, (![1, 0, 0, 1, 1, 0] : Fin 6 → ℕ) a + (![1, 1, 16, 8, 8, 128] : Fin 6 → ℕ) a ≤ S2x2x16x10x10x128.size a)
  (g10 : ∀ y, p10 y = G ((Rect.unit (s := S2x2x16x10x10x128) ![1, 0, 0, 1, 1, 0] ![1, 1, 16, 8, 8, 128] i10).emb y))
  (i01 : ∀ a, (![0, 1, 0, 1, 1, 0] : Fin 6 → ℕ) a + (![1, 1, 16, 8, 8, 128] : Fin 6 → ℕ) a ≤ S2x2x16x10x10x128.size a)
  (g01 : ∀ y, p01 y = G ((Rect.unit (s := S2x2x16x10x10x128) ![0, 1, 0, 1, 1, 0] ![1, 1, 16, 8, 8, 128] i01).emb y))
  (i00 : ∀ a, (![0, 0, 0, 1, 1, 0] : Fin 6 → ℕ) a + (![1, 1, 16, 8, 8, 128] : Fin 6 → ℕ) a ≤ S2x2x16x10x10x128.size a)
  (g00 : ∀ y, p00 y = G ((Rect.unit (s := S2x2x16x10x10x128) ![0, 0, 0, 1, 1, 0] ![1, 1, 16, 8, 8, 128] i00).emb y))
include g11 g10 g01 g00

/-- After four stores of `G`, one for each pair of remainders, each place inside the ring holds `G`. -/
theorem state2_in {κ : Kind} {sp : Space} (v : View sig κ sp S2x2x16x10x10x128 .f32) (f : v.ty.Contents (Elt Ideal))
    (L : List (View.Piece (Elt Ideal) S2x2x16x10x10x128 .f32)) (y : S2x2x16x10x10x128.Idx) (h : (1 ≤ (y 3).val ∧ (y 3).val ≤ 8) ∧ (1 ≤ (y 4).val ∧ (y 4).val ≤ 8)) :
    v.read (Elt Ideal) (v.writes (Elt Ideal) f ([⟨Rect.unit ![1, 1, 0, 1, 1, 0] ![1, 1, 16, 8, 8, 128] i11, p11⟩, ⟨Rect.unit ![1, 0, 0, 1, 1, 0] ![1, 1, 16, 8, 8, 128] i10, p10⟩, ⟨Rect.unit ![0, 1, 0, 1, 1, 0] ![1, 1, 16, 8, 8, 128] i01, p01⟩, ⟨Rect.unit ![0, 0, 0, 1, 1, 0] ![1, 1, 16, 8, 8, 128] i00, p00⟩] ++ L)) y = G y := by
  rw [View.writes_append]
  have b0 : (y 0).val < 2 := (y 0).isLt
  have b1 : (y 1).val < 2 := (y 1).isLt
  have b2 : (y 2).val < 16 := (y 2).isLt
  have b5 : (y 5).val < 128 := (y 5).isLt
  have key : ∀ (p q : ℕ) (inb : ∀ a, (![p, q, 0, 1, 1, 0] : Fin 6 → ℕ) a + (![1, 1, 16, 8, 8, 128] : Fin 6 → ℕ) a ≤ S2x2x16x10x10x128.size a),
      (y 0).val = p → (y 1).val = q → y ∈ (Rect.unit (s := S2x2x16x10x10x128) ![p, q, 0, 1, 1, 0] ![1, 1, 16, 8, 8, 128] inb).set := by
    intro p q inb hp hq
    refine Rect.mem_set_unit.mpr fun a => ?_
    fin_cases a
    · exact ⟨by show p ≤ (y 0).val; omega, by show (y 0).val < p + 1; omega⟩
    · exact ⟨by show q ≤ (y 1).val; omega, by show (y 1).val < q + 1; omega⟩
    · exact ⟨by show 0 ≤ (y 2).val; omega, by show (y 2).val < 0 + 16; omega⟩
    · exact ⟨by show 1 ≤ (y 3).val; omega, by show (y 3).val < 1 + 8; omega⟩
    · exact ⟨by show 1 ≤ (y 4).val; omega, by show (y 4).val < 1 + 8; omega⟩
    · exact ⟨by show 0 ≤ (y 5).val; omega, by show (y 5).val < 0 + 128; omega⟩
  refine View.read_writes_apply_of_pieces (Val := Elt Ideal) v _ G _ (fun p hp => ?_) y ?_
  · simp only [List.mem_cons, List.not_mem_nil, or_false] at hp
    rcases hp with rfl | rfl | rfl | rfl
    · exact g11
    · exact g10
    · exact g01
    · exact g00
  · simp only [List.exists_mem_cons_iff, List.not_mem_nil, false_and, exists_false, or_false]
    by_cases e0 : (y 0).val = 1
    · by_cases e1 : (y 1).val = 1
      · exact Or.inl (key 1 1 i11 e0 e1)
      · exact Or.inr (Or.inl (key 1 0 i10 e0 (by omega)))
    · by_cases e1 : (y 1).val = 1
      · exact Or.inr (Or.inr (Or.inl (key 0 1 i01 (by omega) e1)))
      · exact Or.inr (Or.inr (Or.inr (key 0 0 i00 (by omega) (by omega))))

/-- After four stores of `G` over contents whose ring is zero, as `G`'s is, the scratch holds `G`. -/
theorem state2 {κ : Kind} {sp : Space} (v : View sig κ sp S2x2x16x10x10x128 .f32) (f : v.ty.Contents (Elt Ideal))
    (hG : ∀ y : S2x2x16x10x10x128.Idx, ¬((1 ≤ (y 3).val ∧ (y 3).val ≤ 8) ∧ (1 ≤ (y 4).val ∧ (y 4).val ≤ 8)) → G y = 0)
    (L : List (View.Piece (Elt Ideal) S2x2x16x10x10x128 .f32))
    (hf : ∀ y : S2x2x16x10x10x128.Idx, ¬((1 ≤ (y 3).val ∧ (y 3).val ≤ 8) ∧ (1 ≤ (y 4).val ∧ (y 4).val ≤ 8)) → v.read (Elt Ideal) (v.writes (Elt Ideal) f L) y = (0 : EReal)) :
    v.read (Elt Ideal) (v.writes (Elt Ideal) f ([⟨Rect.unit ![1, 1, 0, 1, 1, 0] ![1, 1, 16, 8, 8, 128] i11, p11⟩, ⟨Rect.unit ![1, 0, 0, 1, 1, 0] ![1, 1, 16, 8, 8, 128] i10, p10⟩, ⟨Rect.unit ![0, 1, 0, 1, 1, 0] ![1, 1, 16, 8, 8, 128] i01, p01⟩, ⟨Rect.unit ![0, 0, 0, 1, 1, 0] ![1, 1, 16, 8, 8, 128] i00, p00⟩] ++ L)) = G := by
  funext y
  by_cases h : (1 ≤ (y 3).val ∧ (y 3).val ≤ 8) ∧ (1 ≤ (y 4).val ∧ (y 4).val ≤ 8)
  · exact state2_in G p11 p10 p01 p00 i11 g11 i10 g10 i01 g01 i00 g00 v f L y h
  · have key : ∀ (p q : ℕ) (inb : ∀ a, (![p, q, 0, 1, 1, 0] : Fin 6 → ℕ) a + (![1, 1, 16, 8, 8, 128] : Fin 6 → ℕ) a ≤ S2x2x16x10x10x128.size a),
        y ∉ (Rect.unit (s := S2x2x16x10x10x128) ![p, q, 0, 1, 1, 0] ![1, 1, 16, 8, 8, 128] inb).set := by
      intro p q inb hy
      have h3 : 1 ≤ (y 3).val ∧ (y 3).val < 1 + 8 := Rect.mem_set_unit.mp hy 3
      have h4 : 1 ≤ (y 4).val ∧ (y 4).val < 1 + 8 := Rect.mem_set_unit.mp hy 4
      omega
    rw [View.writes_append, View.read_writes_apply_of_forall_not_mem v _ y _ (fun p hp => ?_), hf y h, hG y h]
    simp only [List.mem_cons, List.not_mem_nil, or_false] at hp
    rcases hp with rfl | rfl | rfl | rfl
    · exact key 1 1 i11
    · exact key 1 0 i10
    · exact key 0 1 i01
    · exact key 0 0 i00

end

/-- The second scratch's entries on the ring are zero. -/
theorem C2_ring (h : ℕ → ℕ → ℕ → Fin 64 → EReal) (w : S16x64x128.Idx → EReal) (a : S1x128.Idx → EReal) (y : S2x2x16x10x10x128.Idx)
    (hy : ¬((1 ≤ (y 3).val ∧ (y 3).val ≤ 8) ∧ (1 ≤ (y 4).val ∧ (y 4).val ≤ 8))) : C2 h w a y = 0 := by
  have b0 : (y 0).val < 2 := (y 0).isLt
  have b1 : (y 1).val < 2 := (y 1).isLt
  unfold C2 H2
  rw [if_neg (by omega)]

/-- The first scratch's entries on the ring are zero. -/
theorem C1_ring (x : S16384x16.Idx → EReal) (w : S16x64.Idx → EReal) (a : S1x64.Idx → EReal) (y : S4x4x16x10x10x64.Idx)
    (hy : ¬((1 ≤ (y 3).val ∧ (y 3).val ≤ 8) ∧ (1 ≤ (y 4).val ∧ (y 4).val ≤ 8))) : C1 x w a y = 0 := by
  have b0 : (y 0).val < 4 := (y 0).isLt
  have b1 : (y 1).val < 4 := (y 1).isLt
  unfold C1 H1
  rw [if_neg (by omega)]

/-- What the kernel's point leaves in its block of the result, from the point's input blocks. -/
def E (x0 : S16384x16.Idx → EReal) (x1 : S16x64.Idx → EReal) (x2 : S1x64.Idx → EReal) (x3 : S16x64x128.Idx → EReal) (x4 : S1x128.Idx → EReal)
    (x5 : S16x128x256.Idx → EReal) (x6 : S1x256.Idx → EReal) : S1024x256.Idx → EReal := fun y =>
  H3 (H2 (H1 x0 x1 x2) x3 x4) x5 x6 ((y 0).val / 64) ((y 0).val / 8 % 8) ((y 0).val % 8) (y 1)

end Cert.KernelIdeal.EV
end
-- ==== Proof.EK.RunA.lean ====
module

public import proofs.«01_k».proof.Proof.EK.St2

@[expose] public section

set_option maxRecDepth 16384

noncomputable section

namespace Cert.KernelIdeal.EV

open Cert.KernelIdeal Cert.KernelIdeal.Gen Cert.KernelIdeal.Enc Idealize.ShloMosaic Idealize.ShloMosaic.TcCoe Idealize.SL.Sem Idealize.ShloMosaic.StableHlo

variable (c : Dev nD) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (x0 : Vec Ideal S16384x16 .f32) (x1 : Vec Ideal S16x64 .f32) (x2 : Vec Ideal S1x64 .f32) (x3 : Vec Ideal S16x64x128 .f32) (x4 : Vec Ideal S1x128 .f32) (x5 : Vec Ideal S16x128x256 .f32) (x6 : Vec Ideal S1x256 .f32)

/-- A load of the first scratch is a tap of the second convolution. -/
theorem load1f (P Q : ℕ) (t : Fin 16) (p q i j : ℕ) (inb : ∀ a, (![p, q, 0, i, j, 0] : Fin 6 → ℕ) a + (![1, 1, 16, 8, 8, 64] : Fin 6 → ℕ) a ≤ S4x4x16x10x10x64.size a)
    (hi : 4 * i + p = 2 * P + t.val / 4 + 3) (hj : 4 * j + q = 2 * Q + t.val % 4 + 3) (y : S1x1x16x8x8x64.Idx) :
    arg9.view.readCov (kernelRun0_A.sl.HS0_17 (F := Ideal) c arg1 harg1 arg2 harg2 arg3 harg3 x0 x1 x2) (Rect.unit (s := S4x4x16x10x10x64) ![p, q, 0, i, j, 0] ![1, 1, 16, 8, 8, 64] inb).toLoadRect y = tap2 (H1 x0 x1 x2) P Q t y := by
  refine Eq.trans ?_ (tap2_of x0 x1 x2 P Q t p q i j inb hi hj y)
  exact congrFun (state1_first c arg1 harg1 arg2 harg2 arg3 harg3 x0 x1 x2 arg9.view _) _

/-- The store of remainders `1` and `1` holds the second convolution's entries. -/
theorem piece2f_11 (inb : ∀ a, (![1, 1, 0, 1, 1, 0] : Fin 6 → ℕ) a + (![1, 1, 16, 8, 8, 128] : Fin 6 → ℕ) a ≤ S2x2x16x10x10x128.size a)
    (y : S1x1x16x8x8x128.Idx) : ((kernelRun0_A.sl.HS1_5 (F := Ideal) c arg1 harg1 arg2 harg2 arg3 harg3 arg4 harg4 arg5 harg5 arg9 x0 x1 x2 x3 x4).get ⟨0, Nat.le_of_ble_eq_true rfl⟩).2 y
      = C2 (H1 x0 x1 x2) x3 x4 ((Rect.unit (s := S2x2x16x10x10x128) ![1, 1, 0, 1, 1, 0] ![1, 1, 16, 8, 8, 128] inb).emb y) := by
  obtain ⟨h0, h1, h2, h3, h4, h5⟩ := emb2 1 1 1 1 inb y _ rfl
  refine (store2_11 (H1 x0 x1 x2) _ _ _ _ _ _ _ _ _ _ _ _ _ _ _ _ (w2 arg4 harg4 x3) _ x3 y _ h0 h1 h2 h3 h4 h5
    (fun t x => w2_at arg4 harg4 x3 t x) ?_ ?_ ?_ ?_ ?_ ?_ ?_ ?_ ?_ ?_ ?_ ?_ ?_ ?_ ?_ ?_).trans (by rw [load_whole arg5])
  · exact load1f c arg1 harg1 arg2 harg2 arg3 harg3 arg9 x0 x1 x2 1 1 0 1 1 1 1 _ (by decide) (by decide)
  · exact load1f c arg1 harg1 arg2 harg2 arg3 harg3 arg9 x0 x1 x2 1 1 1 1 2 1 1 _ (by decide) (by decide)
  · exact load1f c arg1 harg1 arg2 harg2 arg3 harg3 arg9 x0 x1 x2 1 1 2 1 3 1 1 _ (by decide) (by decide)
  · exact load1f c arg1 harg1 arg2 harg2 arg3 harg3 arg9 x0 x1 x2 1 1 3 1 0 1 2 _ (by decide) (by decide)
  · exact load1f c arg1 harg1 arg2 harg2 arg3 harg3 arg9 x0 x1 x2 1 1 4 2 1 1 1 _ (by decide) (by decide)
  · exact load1f c arg1 harg1 arg2 harg2 arg3 harg3 arg9 x0 x1 x2 1 1 5 2 2 1 1 _ (by decide) (by decide)
  · exact load1f c arg1 harg1 arg2 harg2 arg3 harg3 arg9 x0 x1 x2 1 1 6 2 3 1 1 _ (by decide) (by decide)
  · exact load1f c arg1 harg1 arg2 harg2 arg3 harg3 arg9 x0 x1 x2 1 1 7 2 0 1 2 _ (by decide) (by decide)
  · exact load1f c arg1 harg1 arg2 harg2 arg3 harg3 arg9 x0 x1 x2 1 1 8 3 1 1 1 _ (by decide) (by decide)
  · exact load1f c arg1 harg1 arg2 harg2 arg3 harg3 arg9 x0 x1 x2 1 1 9 3 2 1 1 _ (by decide) (by decide)
  · exact load1f c arg1 harg1 arg2 harg2 arg3 harg3 arg9 x0 x1 x2 1 1 10 3 3 1 1 _ (by decide) (by decide)
  · exact load1f c arg1 harg1 arg2 harg2 arg3 harg3 arg9 x0 x1 x2 1 1 11 3 0 1 2 _ (by decide) (by decide)
  · exact load1f c arg1 harg1 arg2 harg2 arg3 harg3 arg9 x0 x1 x2 1 1 12 0 1 2 1 _ (by decide) (by decide)
  · exact load1f c arg1 harg1 arg2 harg2 arg3 harg3 arg9 x0 x1 x2 1 1 13 0 2 2 1 _ (by decide) (by decide)
  · exact load1f c arg1 harg1 arg2 harg2 arg3 harg3 arg9 x0 x1 x2 1 1 14 0 3 2 1 _ (by decide) (by decide)
  · exact load1f c arg1 harg1 arg2 harg2 arg3 harg3 arg9 x0 x1 x2 1 1 15 0 0 2 2 _ (by decide) (by decide)

/-- The store of remainders `1` and `0` holds the second convolution's entries. -/
theorem piece2f_10 (inb : ∀ a, (![1, 0, 0, 1, 1, 0] : Fin 6 → ℕ) a + (![1, 1, 16, 8, 8, 128] : Fin 6 → ℕ) a ≤ S2x2x16x10x10x128.size a)
    (y : S1x1x16x8x8x128.Idx) : ((kernelRun0_A.sl.HS1_5 (F := Ideal) c arg1 harg1 arg2 harg2 arg3 harg3 arg4 harg4 arg5 harg5 arg9 x0 x1 x2 x3 x4).get ⟨1, Nat.le_of_ble_eq_true rfl⟩).2 y
      = C2 (H1 x0 x1 x2) x3 x4 ((Rect.unit (s := S2x2x16x10x10x128) ![1, 0, 0, 1, 1, 0] ![1, 1, 16, 8, 8, 128] inb).emb y) := by
  obtain ⟨h0, h1, h2, h3, h4, h5⟩ := emb2 1 0 1 1 inb y _ rfl
  refine (store2_10 (H1 x0 x1 x2) _ _ _ _ _ _ _ _ _ _ _ _ _ _ _ _ (w2 arg4 harg4 x3) _ x3 y _ h0 h1 h2 h3 h4 h5
    (fun t x => w2_at arg4 harg4 x3 t x) ?_ ?_ ?_ ?_ ?_ ?_ ?_ ?_ ?_ ?_ ?_ ?_ ?_ ?_ ?_ ?_).trans (by rw [load_whole arg5])
  · exact load1f c arg1 harg1 arg2 harg2 arg3 harg3 arg9 x0 x1 x2 1 0 0 1 3 1 0 _ (by decide) (by decide)
  · exact load1f c arg1 harg1 arg2 harg2 arg3 harg3 arg9 x0 x1 x2 1 0 1 1 0 1 1 _ (by decide) (by decide)
  · exact load1f c arg1 harg1 arg2 harg2 arg3 harg3 arg9 x0 x1 x2 1 0 2 1 1 1 1 _ (by decide) (by decide)
  · exact load1f c arg1 harg1 arg2 harg2 arg3 harg3 arg9 x0 x1 x2 1 0 3 1 2 1 1 _ (by decide) (by decide)
  · exact load1f c arg1 harg1 arg2 harg2 arg3 harg3 arg9 x0 x1 x2 1 0 4 2 3 1 0 _ (by decide) (by decide)
  · exact load1f c arg1 harg1 arg2 harg2 arg3 harg3 arg9 x0 x1 x2 1 0 5 2 0 1 1 _ (by decide) (by decide)
  · exact load1f c arg1 harg1 arg2 harg2 arg3 harg3 arg9 x0 x1 x2 1 0 6 2 1 1 1 _ (by decide) (by decide)
  · exact load1f c arg1 harg1 arg2 harg2 arg3 harg3 arg9 x0 x1 x2 1 0 7 2 2 1 1 _ (by decide) (by decide)
  · exact load1f c arg1 harg1 arg2 harg2 arg3 harg3 arg9 x0 x1 x2 1 0 8 3 3 1 0 _ (by decide) (by decide)
  · exact load1f c arg1 harg1 arg2 harg2 arg3 harg3 arg9 x0 x1 x2 1 0 9 3 0 1 1 _ (by decide) (by decide)
  · exact load1f c arg1 harg1 arg2 harg2 arg3 harg3 arg9 x0 x1 x2 1 0 10 3 1 1 1 _ (by decide) (by decide)
  · exact load1f c arg1 harg1 arg2 harg2 arg3 harg3 arg9 x0 x1 x2 1 0 11 3 2 1 1 _ (by decide) (by decide)
  · exact load1f c arg1 harg1 arg2 harg2 arg3 harg3 arg9 x0 x1 x2 1 0 12 0 3 2 0 _ (by decide) (by decide)
  · exact load1f c arg1 harg1 arg2 harg2 arg3 harg3 arg9 x0 x1 x2 1 0 13 0 0 2 1 _ (by decide) (by decide)
  · exact load1f c arg1 harg1 arg2 harg2 arg3 harg3 arg9 x0 x1 x2 1 0 14 0 1 2 1 _ (by decide) (by decide)
  · exact load1f c arg1 harg1 arg2 harg2 arg3 harg3 arg9 x0 x1 x2 1 0 15 0 2 2 1 _ (by decide) (by decide)

/-- The store of remainders `0` and `1` holds the second convolution's entries. -/
theorem piece2f_01 (inb : ∀ a, (![0, 1, 0, 1, 1, 0] : Fin 6 → ℕ) a + (![1, 1, 16, 8, 8, 128] : Fin 6 → ℕ) a ≤ S2x2x16x10x10x128.size a)
    (y : S1x1x16x8x8x128.Idx) : ((kernelRun0_A.sl.HS1_5 (F := Ideal) c arg1 harg1 arg2 harg2 arg3 harg3 arg4 harg4 arg5 harg5 arg9 x0 x1 x2 x3 x4).get ⟨2, Nat.le_of_ble_eq_true rfl⟩).2 y
      = C2 (H1 x0 x1 x2) x3 x4 ((Rect.unit (s := S2x2x16x10x10x128) ![0, 1, 0, 1, 1, 0] ![1, 1, 16, 8, 8, 128] inb).emb y) := by
  obtain ⟨h0, h1, h2, h3, h4, h5⟩ := emb2 0 1 1 1 inb y _ rfl
  refine (store2_01 (H1 x0 x1 x2) _ _ _ _ _ _ _ _ _ _ _ _ _ _ _ _ (w2 arg4 harg4 x3) _ x3 y _ h0 h1 h2 h3 h4 h5
    (fun t x => w2_at arg4 harg4 x3 t x) ?_ ?_ ?_ ?_ ?_ ?_ ?_ ?_ ?_ ?_ ?_ ?_ ?_ ?_ ?_ ?_).trans (by rw [load_whole arg5])
  · exact load1f c arg1 harg1 arg2 harg2 arg3 harg3 arg9 x0 x1 x2 0 1 0 3 1 0 1 _ (by decide) (by decide)
  · exact load1f c arg1 harg1 arg2 harg2 arg3 harg3 arg9 x0 x1 x2 0 1 1 3 2 0 1 _ (by decide) (by decide)
  · exact load1f c arg1 harg1 arg2 harg2 arg3 harg3 arg9 x0 x1 x2 0 1 2 3 3 0 1 _ (by decide) (by decide)
  · exact load1f c arg1 harg1 arg2 harg2 arg3 harg3 arg9 x0 x1 x2 0 1 3 3 0 0 2 _ (by decide) (by decide)
  · exact load1f c arg1 harg1 arg2 harg2 arg3 harg3 arg9 x0 x1 x2 0 1 4 0 1 1 1 _ (by decide) (by decide)
  · exact load1f c arg1 harg1 arg2 harg2 arg3 harg3 arg9 x0 x1 x2 0 1 5 0 2 1 1 _ (by decide) (by decide)
  · exact load1f c arg1 harg1 arg2 harg2 arg3 harg3 arg9 x0 x1 x2 0 1 6 0 3 1 1 _ (by decide) (by decide)
  · exact load1f c arg1 harg1 arg2 harg2 arg3 harg3 arg9 x0 x1 x2 0 1 7 0 0 1 2 _ (by decide) (by decide)
  · exact load1f c arg1 harg1 arg2 harg2 arg3 harg3 arg9 x0 x1 x2 0 1 8 1 1 1 1 _ (by decide) (by decide)
  · exact load1f c arg1 harg1 arg2 harg2 arg3 harg3 arg9 x0 x1 x2 0 1 9 1 2 1 1 _ (by decide) (by decide)
  · exact load1f c arg1 harg1 arg2 harg2 arg3 harg3 arg9 x0 x1 x2 0 1 10 1 3 1 1 _ (by decide) (by decide)
  · exact load1f c arg1 harg1 arg2 harg2 arg3 harg3 arg9 x0 x1 x2 0 1 11 1 0 1 2 _ (by decide) (by decide)
  · exact load1f c arg1 harg1 arg2 harg2 arg3 harg3 arg9 x0 x1 x2 0 1 12 2 1 1 1 _ (by decide) (by decide)
  · exact load1f c arg1 harg1 arg2 harg2 arg3 harg3 arg9 x0 x1 x2 0 1 13 2 2 1 1 _ (by decide) (by decide)
  · exact load1f c arg1 harg1 arg2 harg2 arg3 harg3 arg9 x0 x1 x2 0 1 14 2 3 1 1 _ (by decide) (by decide)
  · exact load1f c arg1 harg1 arg2 harg2 arg3 harg3 arg9 x0 x1 x2 0 1 15 2 0 1 2 _ (by decide) (by decide)

/-- The store of remainders `0` and `0` holds the second convolution's entries. -/
theorem piece2f_00 (inb : ∀ a, (![0, 0, 0, 1, 1, 0] : Fin 6 → ℕ) a + (![1, 1, 16, 8, 8, 128] : Fin 6 → ℕ) a ≤ S2x2x16x10x10x128.size a)
    (y : S1x1x16x8x8x128.Idx) : ((kernelRun0_A.sl.HS1_5 (F := Ideal) c arg1 harg1 arg2 harg2 arg3 harg3 arg4 harg4 arg5 harg5 arg9 x0 x1 x2 x3 x4).get ⟨3, Nat.le_of_ble_eq_true rfl⟩).2 y
      = C2 (H1 x0 x1 x2) x3 x4 ((Rect.unit (s := S2x2x16x10x10x128) ![0, 0, 0, 1, 1, 0] ![1, 1, 16, 8, 8, 128] inb).emb y) := by
  obtain ⟨h0, h1, h2, h3, h4, h5⟩ := emb2 0 0 1 1 inb y _ rfl
  refine (store2_00 (H1 x0 x1 x2) _ _ _ _ _ _ _ _ _ _ _ _ _ _ _ _ (w2 arg4 harg4 x3) _ x3 y _ h0 h1 h2 h3 h4 h5
    (fun t x => w2_at arg4 harg4 x3 t x) ?_ ?_ ?_ ?_ ?_ ?_ ?_ ?_ ?_ ?_ ?_ ?_ ?_ ?_ ?_ ?_).trans (by rw [load_whole arg5])
  · exact load1f c arg1 harg1 arg2 harg2 arg3 harg3 arg9 x0 x1 x2 0 0 0 3 3 0 0 _ (by decide) (by decide)
  · exact load1f c arg1 harg1 arg2 harg2 arg3 harg3 arg9 x0 x1 x2 0 0 1 3 0 0 1 _ (by decide) (by decide)
  · exact load1f c arg1 harg1 arg2 harg2 arg3 harg3 arg9 x0 x1 x2 0 0 2 3 1 0 1 _ (by decide) (by decide)
  · exact load1f c arg1 harg1 arg2 harg2 arg3 harg3 arg9 x0 x1 x2 0 0 3 3 2 0 1 _ (by decide) (by decide)
  · exact load1f c arg1 harg1 arg2 harg2 arg3 harg3 arg9 x0 x1 x2 0 0 4 0 3 1 0 _ (by decide) (by decide)
  · exact load1f c arg1 harg1 arg2 harg2 arg3 harg3 arg9 x0 x1 x2 0 0 5 0 0 1 1 _ (by decide) (by decide)
  · exact load1f c arg1 harg1 arg2 harg2 arg3 harg3 arg9 x0 x1 x2 0 0 6 0 1 1 1 _ (by decide) (by decide)
  · exact load1f c arg1 harg1 arg2 harg2 arg3 harg3 arg9 x0 x1 x2 0 0 7 0 2 1 1 _ (by decide) (by decide)
  · exact load1f c arg1 harg1 arg2 harg2 arg3 harg3 arg9 x0 x1 x2 0 0 8 1 3 1 0 _ (by decide) (by decide)
  · exact load1f c arg1 harg1 arg2 harg2 arg3 harg3 arg9 x0 x1 x2 0 0 9 1 0 1 1 _ (by decide) (by decide)
  · exact load1f c arg1 harg1 arg2 harg2 arg3 harg3 arg9 x0 x1 x2 0 0 10 1 1 1 1 _ (by decide) (by decide)
  · exact load1f c arg1 harg1 arg2 harg2 arg3 harg3 arg9 x0 x1 x2 0 0 11 1 2 1 1 _ (by decide) (by decide)
  · exact load1f c arg1 harg1 arg2 harg2 arg3 harg3 arg9 x0 x1 x2 0 0 12 2 3 1 0 _ (by decide) (by decide)
  · exact load1f c arg1 harg1 arg2 harg2 arg3 harg3 arg9 x0 x1 x2 0 0 13 2 0 1 1 _ (by decide) (by decide)
  · exact load1f c arg1 harg1 arg2 harg2 arg3 harg3 arg9 x0 x1 x2 0 0 14 2 1 1 1 _ (by decide) (by decide)
  · exact load1f c arg1 harg1 arg2 harg2 arg3 harg3 arg9 x0 x1 x2 0 0 15 2 2 1 1 _ (by decide) (by decide)
/-- After the zero store the second scratch is the second convolution. -/
theorem state2_first (v : View sig .tc .vmem S2x2x16x10x10x128 .f32) (f : v.ty.Contents (Elt Ideal)) :
    v.read (Elt Ideal) (v.writes (Elt Ideal) f (kernelRun0_A.sl.HS1_5 (F := Ideal) c arg1 harg1 arg2 harg2 arg3 harg3 arg4 harg4 arg5 harg5 arg9 x0 x1 x2 x3 x4)) = C2 (H1 x0 x1 x2) x3 x4 :=
  state2 (C2 (H1 x0 x1 x2) x3 x4) _ _ _ _ _ (piece2f_11 c arg1 harg1 arg2 harg2 arg3 harg3 arg4 harg4 arg5 harg5 arg9 x0 x1 x2 x3 x4 _) _ (piece2f_10 c arg1 harg1 arg2 harg2 arg3 harg3 arg4 harg4 arg5 harg5 arg9 x0 x1 x2 x3 x4 _) _ (piece2f_01 c arg1 harg1 arg2 harg2 arg3 harg3 arg4 harg4 arg5 harg5 arg9 x0 x1 x2 x3 x4 _) _ (piece2f_00 c arg1 harg1 arg2 harg2 arg3 harg3 arg4 harg4 arg5 harg5 arg9 x0 x1 x2 x3 x4 _) v f (fun y hy => C2_ring _ _ _ y hy) [⟨Rect.unit ![0, 0, 0, 0, 0, 0] S2x2x16x10x10x128.size inb_S2x2x16x10x10x128_S2x2x16x10x10x128_0_0_0_0_0_0, k0_pay3 (F := Ideal)⟩] (fun y _ => by
    refine View.read_writes_apply_of_pieces (Val := Elt Ideal) v f (fun _ => (0 : EReal)) _ (fun p hp => ?_) y ?_
    · simp only [List.mem_cons, List.not_mem_nil, or_false] at hp
      subst hp
      intro x
      unfold_payloads
      pointwise
    · refine ⟨_, List.mem_cons_self, (?_ : y ∈ (Rect.unit (s := S2x2x16x10x10x128) ![0, 0, 0, 0, 0, 0] S2x2x16x10x10x128.size inb_S2x2x16x10x10x128_S2x2x16x10x10x128_0_0_0_0_0_0).set)⟩
      refine Rect.mem_set_unit.mpr fun a => ⟨?_, ?_⟩
      · fin_cases a <;> exact Nat.zero_le _
      · have := (y a).isLt
        fin_cases a <;> (simp only [Nat.reduceAdd] at *; simpa using this))

/-- A load of the second scratch is a tap of the third convolution. -/
theorem load2f (t : Fin 16) (p q i j : ℕ) (inb : ∀ a, (![p, q, 0, i, j, 0] : Fin 6 → ℕ) a + (![1, 1, 16, 8, 8, 128] : Fin 6 → ℕ) a ≤ S2x2x16x10x10x128.size a)
    (hi : 2 * i + p = t.val / 4 + 1) (hj : 2 * j + q = t.val % 4 + 1) (y : S1x1x16x8x8x128.Idx) :
    arg10.view.readCov (kernelRun0_A.sl.HS1_5 (F := Ideal) c arg1 harg1 arg2 harg2 arg3 harg3 arg4 harg4 arg5 harg5 arg9 x0 x1 x2 x3 x4) (Rect.unit (s := S2x2x16x10x10x128) ![p, q, 0, i, j, 0] ![1, 1, 16, 8, 8, 128] inb).toLoadRect y = tap3 (H2 (H1 x0 x1 x2) x3 x4) t y := by
  refine Eq.trans ?_ (tap3_of (H1 x0 x1 x2) x3 x4 t p q i j inb hi hj y)
  exact congrFun (state2_first c arg1 harg1 arg2 harg2 arg3 harg3 arg4 harg4 arg5 harg5 arg9 x0 x1 x2 x3 x4 arg10.view _) _

/-- What the point stores in its block of the result. -/
theorem outf (i : grid0.Coords) (hc0 : cond0_0 i) (v : View sig .tc .vmem S1024x256 .f32) (f : v.ty.Contents (Elt Ideal)) :
    v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 hc0 x0 x1 x2 x3 x4 x5 x6).1) = E x0 x1 x2 x3 x4 x5 x6 := by
  funext y
  unfold kernelRun0_A
  dsimp only
  refine View.read_writes_apply_of_pieces (Val := Elt Ideal) v f (E x0 x1 x2 x3 x4 x5 x6) _ (fun p hp => ?_) y ?_
  · simp only [List.mem_cons, List.not_mem_nil, or_false] at hp
    subst hp
    intro x
    refine (store3 (H2 (H1 x0 x1 x2) x3 x4) _ _ _ _ _ _ _ _ _ _ _ _ _ _ _ _ (w3 arg6 harg6 x5) _ x5 x (fun t x => w3_at arg6 harg6 x5 t x) ?_ ?_ ?_ ?_ ?_ ?_ ?_ ?_ ?_ ?_ ?_ ?_ ?_ ?_ ?_ ?_).trans ?_
    · exact load2f c arg1 harg1 arg2 harg2 arg3 harg3 arg4 harg4 arg5 harg5 arg9 arg10 x0 x1 x2 x3 x4 0 1 1 0 0 _ (by decide) (by decide)
    · exact load2f c arg1 harg1 arg2 harg2 arg3 harg3 arg4 harg4 arg5 harg5 arg9 arg10 x0 x1 x2 x3 x4 1 1 0 0 1 _ (by decide) (by decide)
    · exact load2f c arg1 harg1 arg2 harg2 arg3 harg3 arg4 harg4 arg5 harg5 arg9 arg10 x0 x1 x2 x3 x4 2 1 1 0 1 _ (by decide) (by decide)
    · exact load2f c arg1 harg1 arg2 harg2 arg3 harg3 arg4 harg4 arg5 harg5 arg9 arg10 x0 x1 x2 x3 x4 3 1 0 0 2 _ (by decide) (by decide)
    · exact load2f c arg1 harg1 arg2 harg2 arg3 harg3 arg4 harg4 arg5 harg5 arg9 arg10 x0 x1 x2 x3 x4 4 0 1 1 0 _ (by decide) (by decide)
    · exact load2f c arg1 harg1 arg2 harg2 arg3 harg3 arg4 harg4 arg5 harg5 arg9 arg10 x0 x1 x2 x3 x4 5 0 0 1 1 _ (by decide) (by decide)
    · exact load2f c arg1 harg1 arg2 harg2 arg3 harg3 arg4 harg4 arg5 harg5 arg9 arg10 x0 x1 x2 x3 x4 6 0 1 1 1 _ (by decide) (by decide)
    · exact load2f c arg1 harg1 arg2 harg2 arg3 harg3 arg4 harg4 arg5 harg5 arg9 arg10 x0 x1 x2 x3 x4 7 0 0 1 2 _ (by decide) (by decide)
    · exact load2f c arg1 harg1 arg2 harg2 arg3 harg3 arg4 harg4 arg5 harg5 arg9 arg10 x0 x1 x2 x3 x4 8 1 1 1 0 _ (by decide) (by decide)
    · exact load2f c arg1 harg1 arg2 harg2 arg3 harg3 arg4 harg4 arg5 harg5 arg9 arg10 x0 x1 x2 x3 x4 9 1 0 1 1 _ (by decide) (by decide)
    · exact load2f c arg1 harg1 arg2 harg2 arg3 harg3 arg4 harg4 arg5 harg5 arg9 arg10 x0 x1 x2 x3 x4 10 1 1 1 1 _ (by decide) (by decide)
    · exact load2f c arg1 harg1 arg2 harg2 arg3 harg3 arg4 harg4 arg5 harg5 arg9 arg10 x0 x1 x2 x3 x4 11 1 0 1 2 _ (by decide) (by decide)
    · exact load2f c arg1 harg1 arg2 harg2 arg3 harg3 arg4 harg4 arg5 harg5 arg9 arg10 x0 x1 x2 x3 x4 12 0 1 2 0 _ (by decide) (by decide)
    · exact load2f c arg1 harg1 arg2 harg2 arg3 harg3 arg4 harg4 arg5 harg5 arg9 arg10 x0 x1 x2 x3 x4 13 0 0 2 1 _ (by decide) (by decide)
    · exact load2f c arg1 harg1 arg2 harg2 arg3 harg3 arg4 harg4 arg5 harg5 arg9 arg10 x0 x1 x2 x3 x4 14 0 1 2 1 _ (by decide) (by decide)
    · exact load2f c arg1 harg1 arg2 harg2 arg3 harg3 arg4 harg4 arg5 harg5 arg9 arg10 x0 x1 x2 x3 x4 15 0 0 2 2 _ (by decide) (by decide)
    · rw [load_whole arg7]
      have hx : (Rect.unit (s := S1024x256) ![0, 0] ![1024, 256] inb_S1024x256_S1024x256_0_0).emb x = x := by
        funext a
        apply Fin.ext
        fin_cases a
        · show 0 + 1 * (x 0).val = (x 0).val; omega
        · show 0 + 1 * (x 1).val = (x 1).val; omega
      exact (congrArg (E x0 x1 x2 x3 x4 x5 x6) hx).symm
  · refine ⟨_, List.mem_cons_self, (?_ : y ∈ (Rect.unit (s := S1024x256) ![0, 0] ![1024, 256] inb_S1024x256_S1024x256_0_0).set)⟩
    refine Rect.mem_set_unit.mpr fun a => ?_
    have b0 : (y 0).val < 1024 := (y 0).isLt
    have b1 : (y 1).val < 256 := (y 1).isLt
    fin_cases a
    · exact ⟨Nat.zero_le _, by show (y 0).val < 0 + 1024; omega⟩
    · exact ⟨Nat.zero_le _, by show (y 1).val < 0 + 256; omega⟩

/-- What the point leaves in the first scratch. -/
theorem sc0f (i : grid0.Coords) (hc0 : cond0_0 i) (v : View sig .tc .vmem S4x4x16x10x10x64 .f32) (f : v.ty.Contents (Elt Ideal)) :
    v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 hc0 x0 x1 x2 x3 x4 x5 x6).2.1) = C1 x0 x1 x2 := by
  unfold kernelRun0_A
  dsimp only
  exact state1_first c arg1 harg1 arg2 harg2 arg3 harg3 x0 x1 x2 v f

/-- What the point leaves in the second scratch. -/
theorem sc1f (i : grid0.Coords) (hc0 : cond0_0 i) (v : View sig .tc .vmem S2x2x16x10x10x128 .f32) (f : v.ty.Contents (Elt Ideal)) :
    v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 hc0 x0 x1 x2 x3 x4 x5 x6).2.2.1) = C2 (H1 x0 x1 x2) x3 x4 := by
  unfold kernelRun0_A
  dsimp only
  exact state2_first c arg1 harg1 arg2 harg2 arg3 harg3 arg4 harg4 arg5 harg5 arg9 x0 x1 x2 x3 x4 v f

end Cert.KernelIdeal.EV
end
-- ==== Proof.EK.RunB.lean ====
module

public import proofs.«01_k».proof.Proof.EK.St2

@[expose] public section

set_option maxRecDepth 16384

noncomputable section

namespace Cert.KernelIdeal.EV

open Cert.KernelIdeal Cert.KernelIdeal.Gen Cert.KernelIdeal.Enc Idealize.ShloMosaic Idealize.ShloMosaic.TcCoe Idealize.SL.Sem Idealize.ShloMosaic.StableHlo

variable (c : Dev nD) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x128 .f32) (harg4 : arg4.IsWhole) (arg5 : Memref sig .tc .vmem S1x128 .f32) (harg5 : arg5.IsWhole) (arg6 : Memref sig .tc .vmem S16x128x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S4x4x16x10x10x64 .f32) (harg9 : arg9.IsWhole) (arg10 : Memref sig .tc .vmem S2x2x16x10x10x128 .f32) (harg10 : arg10.IsWhole) (x0 : Vec Ideal S16384x16 .f32) (x1 : Vec Ideal S16x64 .f32) (x2 : Vec Ideal S1x64 .f32) (x3 : Vec Ideal S16x64x128 .f32) (x4 : Vec Ideal S1x128 .f32) (x5 : Vec Ideal S16x128x256 .f32) (x6 : Vec Ideal S1x256 .f32) (xs0 : Vec Ideal S4x4x16x10x10x64 .f32) (xs1 : Vec Ideal S2x2x16x10x10x128 .f32)
  (hx0 : ∀ y : S4x4x16x10x10x64.Idx, ¬((1 ≤ (y 3).val ∧ (y 3).val ≤ 8) ∧ (1 ≤ (y 4).val ∧ (y 4).val ≤ 8)) → xs0 y = (0 : EReal))
  (hx1 : ∀ y : S2x2x16x10x10x128.Idx, ¬((1 ≤ (y 3).val ∧ (y 3).val ≤ 8) ∧ (1 ≤ (y 4).val ∧ (y 4).val ≤ 8)) → xs1 y = (0 : EReal))

include hx0 in
/-- A load of the first scratch is a tap of the second convolution. -/
theorem load1 (P Q : ℕ) (t : Fin 16) (p q i j : ℕ) (inb : ∀ a, (![p, q, 0, i, j, 0] : Fin 6 → ℕ) a + (![1, 1, 16, 8, 8, 64] : Fin 6 → ℕ) a ≤ S4x4x16x10x10x64.size a)
    (hi : 4 * i + p = 2 * P + t.val / 4 + 3) (hj : 4 * j + q = 2 * Q + t.val % 4 + 3) (y : S1x1x16x8x8x64.Idx) :
    View.readAt (Elt Ideal) arg9.view (Rect.unit (s := S4x4x16x10x10x64) ![p, q, 0, i, j, 0] ![1, 1, 16, 8, 8, 64] inb).toLoadRect
      (arg9.view.writes (Elt Ideal) (harg9.unread xs0) (kernelRun0_B.sl.HS0_16 (F := Ideal) c arg1 harg1 arg2 harg2 arg3 harg3 x0 x1 x2)) y = tap2 (H1 x0 x1 x2) P Q t y := by
  refine Eq.trans ?_ (tap2_of x0 x1 x2 P Q t p q i j inb hi hj y)
  exact congrFun (state1 c arg1 harg1 arg2 harg2 arg3 harg3 x0 x1 x2 arg9.view _ (fun z hz => by rw [harg9.read_unread]; exact hx0 z hz)) _

/-- A load of the first scratch inside its ring is a tap of the second convolution. -/
theorem load1c (P Q : ℕ) (t : Fin 16) (p q : ℕ) (inb : ∀ a, (![p, q, 0, 1, 1, 0] : Fin 6 → ℕ) a + (![1, 1, 16, 8, 8, 64] : Fin 6 → ℕ) a ≤ S4x4x16x10x10x64.size a)
    (hi : 4 * 1 + p = 2 * P + t.val / 4 + 3) (hj : 4 * 1 + q = 2 * Q + t.val % 4 + 3) (y : S1x1x16x8x8x64.Idx) :
    arg9.view.readCov (kernelRun0_B.sl.HS0_16 (F := Ideal) c arg1 harg1 arg2 harg2 arg3 harg3 x0 x1 x2) (Rect.unit (s := S4x4x16x10x10x64) ![p, q, 0, 1, 1, 0] ![1, 1, 16, 8, 8, 64] inb).toLoadRect y = tap2 (H1 x0 x1 x2) P Q t y := by
  refine Eq.trans ?_ (tap2_of x0 x1 x2 P Q t p q 1 1 inb hi hj y)
  obtain ⟨-, -, -, h3, h4, -⟩ := emb1 p q 1 1 inb y _ rfl
  have b3 : (y 3).val < 8 := (y 3).isLt
  have b4 : (y 4).val < 8 := (y 4).isLt
  exact View.read_writes_apply_of_pieces arg9.view _ _ _ (pieces1 c arg1 harg1 arg2 harg2 arg3 harg3 x0 x1 x2) _ (cover1 c arg1 harg1 arg2 harg2 arg3 harg3 x0 x1 x2 ((Rect.unit (s := S4x4x16x10x10x64) ![p, q, 0, 1, 1, 0] ![1, 1, 16, 8, 8, 64] inb).emb y) (by rw [h3]; omega) (by rw [h4]; omega))

include hx0 in
/-- The store of remainders `1` and `1` holds the second convolution's entries. -/
theorem piece2_11 (inb : ∀ a, (![1, 1, 0, 1, 1, 0] : Fin 6 → ℕ) a + (![1, 1, 16, 8, 8, 128] : Fin 6 → ℕ) a ≤ S2x2x16x10x10x128.size a)
    (y : S1x1x16x8x8x128.Idx) : ((kernelRun0_B.sl.HS1_4 (F := Ideal) c arg1 harg1 arg2 harg2 arg3 harg3 arg4 harg4 arg5 harg5 arg9 harg9 x0 x1 x2 x3 x4 xs0).get ⟨0, Nat.le_of_ble_eq_true rfl⟩).2 y
      = C2 (H1 x0 x1 x2) x3 x4 ((Rect.unit (s := S2x2x16x10x10x128) ![1, 1, 0, 1, 1, 0] ![1, 1, 16, 8, 8, 128] inb).emb y) := by
  obtain ⟨h0, h1, h2, h3, h4, h5⟩ := emb2 1 1 1 1 inb y _ rfl
  refine (store2_11 (H1 x0 x1 x2) _ _ _ _ _ _ _ _ _ _ _ _ _ _ _ _ (w2 arg4 harg4 x3) _ x3 y _ h0 h1 h2 h3 h4 h5
    (fun t x => w2_at arg4 harg4 x3 t x) ?_ ?_ ?_ ?_ ?_ ?_ ?_ ?_ ?_ ?_ ?_ ?_ ?_ ?_ ?_ ?_).trans (by rw [load_whole arg5])
  · exact load1c c arg1 harg1 arg2 harg2 arg3 harg3 arg9 x0 x1 x2 1 1 0 1 1 _ (by decide) (by decide)
  · exact load1c c arg1 harg1 arg2 harg2 arg3 harg3 arg9 x0 x1 x2 1 1 1 1 2 _ (by decide) (by decide)
  · exact load1c c arg1 harg1 arg2 harg2 arg3 harg3 arg9 x0 x1 x2 1 1 2 1 3 _ (by decide) (by decide)
  · exact load1 c arg1 harg1 arg2 harg2 arg3 harg3 arg9 harg9 x0 x1 x2 xs0 hx0 1 1 3 1 0 1 2 _ (by decide) (by decide)
  · exact load1c c arg1 harg1 arg2 harg2 arg3 harg3 arg9 x0 x1 x2 1 1 4 2 1 _ (by decide) (by decide)
  · exact load1c c arg1 harg1 arg2 harg2 arg3 harg3 arg9 x0 x1 x2 1 1 5 2 2 _ (by decide) (by decide)
  · exact load1c c arg1 harg1 arg2 harg2 arg3 harg3 arg9 x0 x1 x2 1 1 6 2 3 _ (by decide) (by decide)
  · exact load1 c arg1 harg1 arg2 harg2 arg3 harg3 arg9 harg9 x0 x1 x2 xs0 hx0 1 1 7 2 0 1 2 _ (by decide) (by decide)
  · exact load1c c arg1 harg1 arg2 harg2 arg3 harg3 arg9 x0 x1 x2 1 1 8 3 1 _ (by decide) (by decide)
  · exact load1c c arg1 harg1 arg2 harg2 arg3 harg3 arg9 x0 x1 x2 1 1 9 3 2 _ (by decide) (by decide)
  · exact load1c c arg1 harg1 arg2 harg2 arg3 harg3 arg9 x0 x1 x2 1 1 10 3 3 _ (by decide) (by decide)
  · exact load1 c arg1 harg1 arg2 harg2 arg3 harg3 arg9 harg9 x0 x1 x2 xs0 hx0 1 1 11 3 0 1 2 _ (by decide) (by decide)
  · exact load1 c arg1 harg1 arg2 harg2 arg3 harg3 arg9 harg9 x0 x1 x2 xs0 hx0 1 1 12 0 1 2 1 _ (by decide) (by decide)
  · exact load1 c arg1 harg1 arg2 harg2 arg3 harg3 arg9 harg9 x0 x1 x2 xs0 hx0 1 1 13 0 2 2 1 _ (by decide) (by decide)
  · exact load1 c arg1 harg1 arg2 harg2 arg3 harg3 arg9 harg9 x0 x1 x2 xs0 hx0 1 1 14 0 3 2 1 _ (by decide) (by decide)
  · exact load1 c arg1 harg1 arg2 harg2 arg3 harg3 arg9 harg9 x0 x1 x2 xs0 hx0 1 1 15 0 0 2 2 _ (by decide) (by decide)

include hx0 in
/-- The store of remainders `1` and `0` holds the second convolution's entries. -/
theorem piece2_10 (inb : ∀ a, (![1, 0, 0, 1, 1, 0] : Fin 6 → ℕ) a + (![1, 1, 16, 8, 8, 128] : Fin 6 → ℕ) a ≤ S2x2x16x10x10x128.size a)
    (y : S1x1x16x8x8x128.Idx) : ((kernelRun0_B.sl.HS1_4 (F := Ideal) c arg1 harg1 arg2 harg2 arg3 harg3 arg4 harg4 arg5 harg5 arg9 harg9 x0 x1 x2 x3 x4 xs0).get ⟨1, Nat.le_of_ble_eq_true rfl⟩).2 y
      = C2 (H1 x0 x1 x2) x3 x4 ((Rect.unit (s := S2x2x16x10x10x128) ![1, 0, 0, 1, 1, 0] ![1, 1, 16, 8, 8, 128] inb).emb y) := by
  obtain ⟨h0, h1, h2, h3, h4, h5⟩ := emb2 1 0 1 1 inb y _ rfl
  refine (store2_10 (H1 x0 x1 x2) _ _ _ _ _ _ _ _ _ _ _ _ _ _ _ _ (w2 arg4 harg4 x3) _ x3 y _ h0 h1 h2 h3 h4 h5
    (fun t x => w2_at arg4 harg4 x3 t x) ?_ ?_ ?_ ?_ ?_ ?_ ?_ ?_ ?_ ?_ ?_ ?_ ?_ ?_ ?_ ?_).trans (by rw [load_whole arg5])
  · exact load1 c arg1 harg1 arg2 harg2 arg3 harg3 arg9 harg9 x0 x1 x2 xs0 hx0 1 0 0 1 3 1 0 _ (by decide) (by decide)
  · exact load1c c arg1 harg1 arg2 harg2 arg3 harg3 arg9 x0 x1 x2 1 0 1 1 0 _ (by decide) (by decide)
  · exact load1c c arg1 harg1 arg2 harg2 arg3 harg3 arg9 x0 x1 x2 1 0 2 1 1 _ (by decide) (by decide)
  · exact load1c c arg1 harg1 arg2 harg2 arg3 harg3 arg9 x0 x1 x2 1 0 3 1 2 _ (by decide) (by decide)
  · exact load1 c arg1 harg1 arg2 harg2 arg3 harg3 arg9 harg9 x0 x1 x2 xs0 hx0 1 0 4 2 3 1 0 _ (by decide) (by decide)
  · exact load1c c arg1 harg1 arg2 harg2 arg3 harg3 arg9 x0 x1 x2 1 0 5 2 0 _ (by decide) (by decide)
  · exact load1c c arg1 harg1 arg2 harg2 arg3 harg3 arg9 x0 x1 x2 1 0 6 2 1 _ (by decide) (by decide)
  · exact load1c c arg1 harg1 arg2 harg2 arg3 harg3 arg9 x0 x1 x2 1 0 7 2 2 _ (by decide) (by decide)
  · exact load1 c arg1 harg1 arg2 harg2 arg3 harg3 arg9 harg9 x0 x1 x2 xs0 hx0 1 0 8 3 3 1 0 _ (by decide) (by decide)
  · exact load1c c arg1 harg1 arg2 harg2 arg3 harg3 arg9 x0 x1 x2 1 0 9 3 0 _ (by decide) (by decide)
  · exact load1c c arg1 harg1 arg2 harg2 arg3 harg3 arg9 x0 x1 x2 1 0 10 3 1 _ (by decide) (by decide)
  · exact load1c c arg1 harg1 arg2 harg2 arg3 harg3 arg9 x0 x1 x2 1 0 11 3 2 _ (by decide) (by decide)
  · exact load1 c arg1 harg1 arg2 harg2 arg3 harg3 arg9 harg9 x0 x1 x2 xs0 hx0 1 0 12 0 3 2 0 _ (by decide) (by decide)
  · exact load1 c arg1 harg1 arg2 harg2 arg3 harg3 arg9 harg9 x0 x1 x2 xs0 hx0 1 0 13 0 0 2 1 _ (by decide) (by decide)
  · exact load1 c arg1 harg1 arg2 harg2 arg3 harg3 arg9 harg9 x0 x1 x2 xs0 hx0 1 0 14 0 1 2 1 _ (by decide) (by decide)
  · exact load1 c arg1 harg1 arg2 harg2 arg3 harg3 arg9 harg9 x0 x1 x2 xs0 hx0 1 0 15 0 2 2 1 _ (by decide) (by decide)

include hx0 in
/-- The store of remainders `0` and `1` holds the second convolution's entries. -/
theorem piece2_01 (inb : ∀ a, (![0, 1, 0, 1, 1, 0] : Fin 6 → ℕ) a + (![1, 1, 16, 8, 8, 128] : Fin 6 → ℕ) a ≤ S2x2x16x10x10x128.size a)
    (y : S1x1x16x8x8x128.Idx) : ((kernelRun0_B.sl.HS1_4 (F := Ideal) c arg1 harg1 arg2 harg2 arg3 harg3 arg4 harg4 arg5 harg5 arg9 harg9 x0 x1 x2 x3 x4 xs0).get ⟨2, Nat.le_of_ble_eq_true rfl⟩).2 y
      = C2 (H1 x0 x1 x2) x3 x4 ((Rect.unit (s := S2x2x16x10x10x128) ![0, 1, 0, 1, 1, 0] ![1, 1, 16, 8, 8, 128] inb).emb y) := by
  obtain ⟨h0, h1, h2, h3, h4, h5⟩ := emb2 0 1 1 1 inb y _ rfl
  refine (store2_01 (H1 x0 x1 x2) _ _ _ _ _ _ _ _ _ _ _ _ _ _ _ _ (w2 arg4 harg4 x3) _ x3 y _ h0 h1 h2 h3 h4 h5
    (fun t x => w2_at arg4 harg4 x3 t x) ?_ ?_ ?_ ?_ ?_ ?_ ?_ ?_ ?_ ?_ ?_ ?_ ?_ ?_ ?_ ?_).trans (by rw [load_whole arg5])
  · exact load1 c arg1 harg1 arg2 harg2 arg3 harg3 arg9 harg9 x0 x1 x2 xs0 hx0 0 1 0 3 1 0 1 _ (by decide) (by decide)
  · exact load1 c arg1 harg1 arg2 harg2 arg3 harg3 arg9 harg9 x0 x1 x2 xs0 hx0 0 1 1 3 2 0 1 _ (by decide) (by decide)
  · exact load1 c arg1 harg1 arg2 harg2 arg3 harg3 arg9 harg9 x0 x1 x2 xs0 hx0 0 1 2 3 3 0 1 _ (by decide) (by decide)
  · exact load1 c arg1 harg1 arg2 harg2 arg3 harg3 arg9 harg9 x0 x1 x2 xs0 hx0 0 1 3 3 0 0 2 _ (by decide) (by decide)
  · exact load1c c arg1 harg1 arg2 harg2 arg3 harg3 arg9 x0 x1 x2 0 1 4 0 1 _ (by decide) (by decide)
  · exact load1c c arg1 harg1 arg2 harg2 arg3 harg3 arg9 x0 x1 x2 0 1 5 0 2 _ (by decide) (by decide)
  · exact load1c c arg1 harg1 arg2 harg2 arg3 harg3 arg9 x0 x1 x2 0 1 6 0 3 _ (by decide) (by decide)
  · exact load1 c arg1 harg1 arg2 harg2 arg3 harg3 arg9 harg9 x0 x1 x2 xs0 hx0 0 1 7 0 0 1 2 _ (by decide) (by decide)
  · exact load1c c arg1 harg1 arg2 harg2 arg3 harg3 arg9 x0 x1 x2 0 1 8 1 1 _ (by decide) (by decide)
  · exact load1c c arg1 harg1 arg2 harg2 arg3 harg3 arg9 x0 x1 x2 0 1 9 1 2 _ (by decide) (by decide)
  · exact load1c c arg1 harg1 arg2 harg2 arg3 harg3 arg9 x0 x1 x2 0 1 10 1 3 _ (by decide) (by decide)
  · exact load1 c arg1 harg1 arg2 harg2 arg3 harg3 arg9 harg9 x0 x1 x2 xs0 hx0 0 1 11 1 0 1 2 _ (by decide) (by decide)
  · exact load1c c arg1 harg1 arg2 harg2 arg3 harg3 arg9 x0 x1 x2 0 1 12 2 1 _ (by decide) (by decide)
  · exact load1c c arg1 harg1 arg2 harg2 arg3 harg3 arg9 x0 x1 x2 0 1 13 2 2 _ (by decide) (by decide)
  · exact load1c c arg1 harg1 arg2 harg2 arg3 harg3 arg9 x0 x1 x2 0 1 14 2 3 _ (by decide) (by decide)
  · exact load1 c arg1 harg1 arg2 harg2 arg3 harg3 arg9 harg9 x0 x1 x2 xs0 hx0 0 1 15 2 0 1 2 _ (by decide) (by decide)

include hx0 in
/-- The store of remainders `0` and `0` holds the second convolution's entries. -/
theorem piece2_00 (inb : ∀ a, (![0, 0, 0, 1, 1, 0] : Fin 6 → ℕ) a + (![1, 1, 16, 8, 8, 128] : Fin 6 → ℕ) a ≤ S2x2x16x10x10x128.size a)
    (y : S1x1x16x8x8x128.Idx) : ((kernelRun0_B.sl.HS1_4 (F := Ideal) c arg1 harg1 arg2 harg2 arg3 harg3 arg4 harg4 arg5 harg5 arg9 harg9 x0 x1 x2 x3 x4 xs0).get ⟨3, Nat.le_of_ble_eq_true rfl⟩).2 y
      = C2 (H1 x0 x1 x2) x3 x4 ((Rect.unit (s := S2x2x16x10x10x128) ![0, 0, 0, 1, 1, 0] ![1, 1, 16, 8, 8, 128] inb).emb y) := by
  obtain ⟨h0, h1, h2, h3, h4, h5⟩ := emb2 0 0 1 1 inb y _ rfl
  refine (store2_00 (H1 x0 x1 x2) _ _ _ _ _ _ _ _ _ _ _ _ _ _ _ _ (w2 arg4 harg4 x3) _ x3 y _ h0 h1 h2 h3 h4 h5
    (fun t x => w2_at arg4 harg4 x3 t x) ?_ ?_ ?_ ?_ ?_ ?_ ?_ ?_ ?_ ?_ ?_ ?_ ?_ ?_ ?_ ?_).trans (by rw [load_whole arg5])
  · exact load1 c arg1 harg1 arg2 harg2 arg3 harg3 arg9 harg9 x0 x1 x2 xs0 hx0 0 0 0 3 3 0 0 _ (by decide) (by decide)
  · exact load1 c arg1 harg1 arg2 harg2 arg3 harg3 arg9 harg9 x0 x1 x2 xs0 hx0 0 0 1 3 0 0 1 _ (by decide) (by decide)
  · exact load1 c arg1 harg1 arg2 harg2 arg3 harg3 arg9 harg9 x0 x1 x2 xs0 hx0 0 0 2 3 1 0 1 _ (by decide) (by decide)
  · exact load1 c arg1 harg1 arg2 harg2 arg3 harg3 arg9 harg9 x0 x1 x2 xs0 hx0 0 0 3 3 2 0 1 _ (by decide) (by decide)
  · exact load1 c arg1 harg1 arg2 harg2 arg3 harg3 arg9 harg9 x0 x1 x2 xs0 hx0 0 0 4 0 3 1 0 _ (by decide) (by decide)
  · exact load1c c arg1 harg1 arg2 harg2 arg3 harg3 arg9 x0 x1 x2 0 0 5 0 0 _ (by decide) (by decide)
  · exact load1c c arg1 harg1 arg2 harg2 arg3 harg3 arg9 x0 x1 x2 0 0 6 0 1 _ (by decide) (by decide)
  · exact load1c c arg1 harg1 arg2 harg2 arg3 harg3 arg9 x0 x1 x2 0 0 7 0 2 _ (by decide) (by decide)
  · exact load1 c arg1 harg1 arg2 harg2 arg3 harg3 arg9 harg9 x0 x1 x2 xs0 hx0 0 0 8 1 3 1 0 _ (by decide) (by decide)
  · exact load1c c arg1 harg1 arg2 harg2 arg3 harg3 arg9 x0 x1 x2 0 0 9 1 0 _ (by decide) (by decide)
  · exact load1c c arg1 harg1 arg2 harg2 arg3 harg3 arg9 x0 x1 x2 0 0 10 1 1 _ (by decide) (by decide)
  · exact load1c c arg1 harg1 arg2 harg2 arg3 harg3 arg9 x0 x1 x2 0 0 11 1 2 _ (by decide) (by decide)
  · exact load1 c arg1 harg1 arg2 harg2 arg3 harg3 arg9 harg9 x0 x1 x2 xs0 hx0 0 0 12 2 3 1 0 _ (by decide) (by decide)
  · exact load1c c arg1 harg1 arg2 harg2 arg3 harg3 arg9 x0 x1 x2 0 0 13 2 0 _ (by decide) (by decide)
  · exact load1c c arg1 harg1 arg2 harg2 arg3 harg3 arg9 x0 x1 x2 0 0 14 2 1 _ (by decide) (by decide)
  · exact load1c c arg1 harg1 arg2 harg2 arg3 harg3 arg9 x0 x1 x2 0 0 15 2 2 _ (by decide) (by decide)
include hx0 in
/-- Over a scratch whose ring is zero, the second scratch is the second convolution. -/
theorem state2_next (v : View sig .tc .vmem S2x2x16x10x10x128 .f32) (f : v.ty.Contents (Elt Ideal))
    (hf : ∀ y : S2x2x16x10x10x128.Idx, ¬((1 ≤ (y 3).val ∧ (y 3).val ≤ 8) ∧ (1 ≤ (y 4).val ∧ (y 4).val ≤ 8)) → v.read (Elt Ideal) f y = (0 : EReal)) :
    v.read (Elt Ideal) (v.writes (Elt Ideal) f (kernelRun0_B.sl.HS1_4 (F := Ideal) c arg1 harg1 arg2 harg2 arg3 harg3 arg4 harg4 arg5 harg5 arg9 harg9 x0 x1 x2 x3 x4 xs0)) = C2 (H1 x0 x1 x2) x3 x4 :=
  state2 (C2 (H1 x0 x1 x2) x3 x4) _ _ _ _ _ (piece2_11 c arg1 harg1 arg2 harg2 arg3 harg3 arg4 harg4 arg5 harg5 arg9 harg9 x0 x1 x2 x3 x4 xs0 hx0 _) _ (piece2_10 c arg1 harg1 arg2 harg2 arg3 harg3 arg4 harg4 arg5 harg5 arg9 harg9 x0 x1 x2 x3 x4 xs0 hx0 _) _ (piece2_01 c arg1 harg1 arg2 harg2 arg3 harg3 arg4 harg4 arg5 harg5 arg9 harg9 x0 x1 x2 x3 x4 xs0 hx0 _) _ (piece2_00 c arg1 harg1 arg2 harg2 arg3 harg3 arg4 harg4 arg5 harg5 arg9 harg9 x0 x1 x2 x3 x4 xs0 hx0 _) v f (fun y hy => C2_ring _ _ _ y hy) [] hf

include hx0 hx1 in
/-- A load of the second scratch is a tap of the third convolution. -/
theorem load2 (t : Fin 16) (p q i j : ℕ) (inb : ∀ a, (![p, q, 0, i, j, 0] : Fin 6 → ℕ) a + (![1, 1, 16, 8, 8, 128] : Fin 6 → ℕ) a ≤ S2x2x16x10x10x128.size a)
    (hi : 2 * i + p = t.val / 4 + 1) (hj : 2 * j + q = t.val % 4 + 1) (y : S1x1x16x8x8x128.Idx) :
    View.readAt (Elt Ideal) arg10.view (Rect.unit (s := S2x2x16x10x10x128) ![p, q, 0, i, j, 0] ![1, 1, 16, 8, 8, 128] inb).toLoadRect
      (arg10.view.writes (Elt Ideal) (harg10.unread xs1) (kernelRun0_B.sl.HS1_4 (F := Ideal) c arg1 harg1 arg2 harg2 arg3 harg3 arg4 harg4 arg5 harg5 arg9 harg9 x0 x1 x2 x3 x4 xs0)) y = tap3 (H2 (H1 x0 x1 x2) x3 x4) t y := by
  refine Eq.trans ?_ (tap3_of (H1 x0 x1 x2) x3 x4 t p q i j inb hi hj y)
  exact congrFun (state2_next c arg1 harg1 arg2 harg2 arg3 harg3 arg4 harg4 arg5 harg5 arg9 harg9 x0 x1 x2 x3 x4 xs0 hx0 arg10.view _ (fun z hz => by rw [harg10.read_unread]; exact hx1 z hz)) _

include hx0 in
/-- A load of the second scratch inside its ring is a tap of the third convolution. -/
theorem load2c (t : Fin 16) (p q : ℕ) (inb : ∀ a, (![p, q, 0, 1, 1, 0] : Fin 6 → ℕ) a + (![1, 1, 16, 8, 8, 128] : Fin 6 → ℕ) a ≤ S2x2x16x10x10x128.size a)
    (hi : 2 * 1 + p = t.val / 4 + 1) (hj : 2 * 1 + q = t.val % 4 + 1) (y : S1x1x16x8x8x128.Idx) :
    arg10.view.readCov (kernelRun0_B.sl.HS1_4 (F := Ideal) c arg1 harg1 arg2 harg2 arg3 harg3 arg4 harg4 arg5 harg5 arg9 harg9 x0 x1 x2 x3 x4 xs0) (Rect.unit (s := S2x2x16x10x10x128) ![p, q, 0, 1, 1, 0] ![1, 1, 16, 8, 8, 128] inb).toLoadRect y = tap3 (H2 (H1 x0 x1 x2) x3 x4) t y := by
  refine Eq.trans ?_ (tap3_of (H1 x0 x1 x2) x3 x4 t p q 1 1 inb hi hj y)
  obtain ⟨-, -, -, h3, h4, -⟩ := emb2 p q 1 1 inb y _ rfl
  have b3 : (y 3).val < 8 := (y 3).isLt
  have b4 : (y 4).val < 8 := (y 4).isLt
  exact state2_in (C2 (H1 x0 x1 x2) x3 x4) _ _ _ _ _ (piece2_11 c arg1 harg1 arg2 harg2 arg3 harg3 arg4 harg4 arg5 harg5 arg9 harg9 x0 x1 x2 x3 x4 xs0 hx0 _) _ (piece2_10 c arg1 harg1 arg2 harg2 arg3 harg3 arg4 harg4 arg5 harg5 arg9 harg9 x0 x1 x2 x3 x4 xs0 hx0 _) _ (piece2_01 c arg1 harg1 arg2 harg2 arg3 harg3 arg4 harg4 arg5 harg5 arg9 harg9 x0 x1 x2 x3 x4 xs0 hx0 _) _ (piece2_00 c arg1 harg1 arg2 harg2 arg3 harg3 arg4 harg4 arg5 harg5 arg9 harg9 x0 x1 x2 x3 x4 xs0 hx0 _) arg10.view _ [] ((Rect.unit (s := S2x2x16x10x10x128) ![p, q, 0, 1, 1, 0] ![1, 1, 16, 8, 8, 128] inb).emb y)
    (by rw [h3, h4]; omega)

include hx0 hx1 in
/-- What the point stores in its block of the result. -/
theorem out (i : grid0.Coords) (hc0 : ¬cond0_0 i) (v : View sig .tc .vmem S1024x256 .f32) (f : v.ty.Contents (Elt Ideal)) :
    v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 hc0 x0 x1 x2 x3 x4 x5 x6 xs0 xs1).1) = E x0 x1 x2 x3 x4 x5 x6 := by
  funext y
  unfold kernelRun0_B
  dsimp only
  refine View.read_writes_apply_of_pieces (Val := Elt Ideal) v f (E x0 x1 x2 x3 x4 x5 x6) _ (fun p hp => ?_) y ?_
  · simp only [List.mem_cons, List.not_mem_nil, or_false] at hp
    subst hp
    intro x
    refine (store3 (H2 (H1 x0 x1 x2) x3 x4) _ _ _ _ _ _ _ _ _ _ _ _ _ _ _ _ (w3 arg6 harg6 x5) _ x5 x (fun t x => w3_at arg6 harg6 x5 t x) ?_ ?_ ?_ ?_ ?_ ?_ ?_ ?_ ?_ ?_ ?_ ?_ ?_ ?_ ?_ ?_).trans ?_
    · exact load2 c arg1 harg1 arg2 harg2 arg3 harg3 arg4 harg4 arg5 harg5 arg9 harg9 arg10 harg10 x0 x1 x2 x3 x4 xs0 xs1 hx0 hx1 0 1 1 0 0 _ (by decide) (by decide)
    · exact load2 c arg1 harg1 arg2 harg2 arg3 harg3 arg4 harg4 arg5 harg5 arg9 harg9 arg10 harg10 x0 x1 x2 x3 x4 xs0 xs1 hx0 hx1 1 1 0 0 1 _ (by decide) (by decide)
    · exact load2 c arg1 harg1 arg2 harg2 arg3 harg3 arg4 harg4 arg5 harg5 arg9 harg9 arg10 harg10 x0 x1 x2 x3 x4 xs0 xs1 hx0 hx1 2 1 1 0 1 _ (by decide) (by decide)
    · exact load2 c arg1 harg1 arg2 harg2 arg3 harg3 arg4 harg4 arg5 harg5 arg9 harg9 arg10 harg10 x0 x1 x2 x3 x4 xs0 xs1 hx0 hx1 3 1 0 0 2 _ (by decide) (by decide)
    · exact load2 c arg1 harg1 arg2 harg2 arg3 harg3 arg4 harg4 arg5 harg5 arg9 harg9 arg10 harg10 x0 x1 x2 x3 x4 xs0 xs1 hx0 hx1 4 0 1 1 0 _ (by decide) (by decide)
    · exact load2c c arg1 harg1 arg2 harg2 arg3 harg3 arg4 harg4 arg5 harg5 arg9 harg9 arg10 x0 x1 x2 x3 x4 xs0 hx0 5 0 0 _ (by decide) (by decide)
    · exact load2c c arg1 harg1 arg2 harg2 arg3 harg3 arg4 harg4 arg5 harg5 arg9 harg9 arg10 x0 x1 x2 x3 x4 xs0 hx0 6 0 1 _ (by decide) (by decide)
    · exact load2 c arg1 harg1 arg2 harg2 arg3 harg3 arg4 harg4 arg5 harg5 arg9 harg9 arg10 harg10 x0 x1 x2 x3 x4 xs0 xs1 hx0 hx1 7 0 0 1 2 _ (by decide) (by decide)
    · exact load2 c arg1 harg1 arg2 harg2 arg3 harg3 arg4 harg4 arg5 harg5 arg9 harg9 arg10 harg10 x0 x1 x2 x3 x4 xs0 xs1 hx0 hx1 8 1 1 1 0 _ (by decide) (by decide)
    · exact load2c c arg1 harg1 arg2 harg2 arg3 harg3 arg4 harg4 arg5 harg5 arg9 harg9 arg10 x0 x1 x2 x3 x4 xs0 hx0 9 1 0 _ (by decide) (by decide)
    · exact load2c c arg1 harg1 arg2 harg2 arg3 harg3 arg4 harg4 arg5 harg5 arg9 harg9 arg10 x0 x1 x2 x3 x4 xs0 hx0 10 1 1 _ (by decide) (by decide)
    · exact load2 c arg1 harg1 arg2 harg2 arg3 harg3 arg4 harg4 arg5 harg5 arg9 harg9 arg10 harg10 x0 x1 x2 x3 x4 xs0 xs1 hx0 hx1 11 1 0 1 2 _ (by decide) (by decide)
    · exact load2 c arg1 harg1 arg2 harg2 arg3 harg3 arg4 harg4 arg5 harg5 arg9 harg9 arg10 harg10 x0 x1 x2 x3 x4 xs0 xs1 hx0 hx1 12 0 1 2 0 _ (by decide) (by decide)
    · exact load2 c arg1 harg1 arg2 harg2 arg3 harg3 arg4 harg4 arg5 harg5 arg9 harg9 arg10 harg10 x0 x1 x2 x3 x4 xs0 xs1 hx0 hx1 13 0 0 2 1 _ (by decide) (by decide)
    · exact load2 c arg1 harg1 arg2 harg2 arg3 harg3 arg4 harg4 arg5 harg5 arg9 harg9 arg10 harg10 x0 x1 x2 x3 x4 xs0 xs1 hx0 hx1 14 0 1 2 1 _ (by decide) (by decide)
    · exact load2 c arg1 harg1 arg2 harg2 arg3 harg3 arg4 harg4 arg5 harg5 arg9 harg9 arg10 harg10 x0 x1 x2 x3 x4 xs0 xs1 hx0 hx1 15 0 0 2 2 _ (by decide) (by decide)
    · rw [load_whole arg7]
      have hx : (Rect.unit (s := S1024x256) ![0, 0] ![1024, 256] inb_S1024x256_S1024x256_0_0).emb x = x := by
        funext a
        apply Fin.ext
        fin_cases a
        · show 0 + 1 * (x 0).val = (x 0).val; omega
        · show 0 + 1 * (x 1).val = (x 1).val; omega
      exact (congrArg (E x0 x1 x2 x3 x4 x5 x6) hx).symm
  · refine ⟨_, List.mem_cons_self, (?_ : y ∈ (Rect.unit (s := S1024x256) ![0, 0] ![1024, 256] inb_S1024x256_S1024x256_0_0).set)⟩
    refine Rect.mem_set_unit.mpr fun a => ?_
    have b0 : (y 0).val < 1024 := (y 0).isLt
    have b1 : (y 1).val < 256 := (y 1).isLt
    fin_cases a
    · exact ⟨Nat.zero_le _, by show (y 0).val < 0 + 1024; omega⟩
    · exact ⟨Nat.zero_le _, by show (y 1).val < 0 + 256; omega⟩

/-- What the point leaves in the first scratch. -/
theorem sc0 (i : grid0.Coords) (hc0 : ¬cond0_0 i) (v : View sig .tc .vmem S4x4x16x10x10x64 .f32) (f : v.ty.Contents (Elt Ideal))
    (hf : ∀ y : S4x4x16x10x10x64.Idx, ¬((1 ≤ (y 3).val ∧ (y 3).val ≤ 8) ∧ (1 ≤ (y 4).val ∧ (y 4).val ≤ 8)) → v.read (Elt Ideal) f y = (0 : EReal)) :
    v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 hc0 x0 x1 x2 x3 x4 x5 x6 xs0 xs1).2.1) = C1 x0 x1 x2 := by
  unfold kernelRun0_B
  dsimp only
  exact state1 c arg1 harg1 arg2 harg2 arg3 harg3 x0 x1 x2 v f hf

include hx0 in
/-- What the point leaves in the second scratch. -/
theorem sc1 (i : grid0.Coords) (hc0 : ¬cond0_0 i) (v : View sig .tc .vmem S2x2x16x10x10x128 .f32) (f : v.ty.Contents (Elt Ideal))
    (hf : ∀ y : S2x2x16x10x10x128.Idx, ¬((1 ≤ (y 3).val ∧ (y 3).val ≤ 8) ∧ (1 ≤ (y 4).val ∧ (y 4).val ≤ 8)) → v.read (Elt Ideal) f y = (0 : EReal)) :
    v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 hc0 x0 x1 x2 x3 x4 x5 x6 xs0 xs1).2.2.1) = C2 (H1 x0 x1 x2) x3 x4 := by
  unfold kernelRun0_B
  dsimp only
  exact state2_next c arg1 harg1 arg2 harg2 arg3 harg3 arg4 harg4 arg5 harg5 arg9 harg9 x0 x1 x2 x3 x4 xs0 hx0 v f hf

end Cert.KernelIdeal.EV
end
-- ==== Proof.EK.Pts.lean ====
module

public import proofs.«01_k».proof.Proof.EK.RunA
public import proofs.«01_k».proof.Proof.EK.RunB
public import proofs.«01_k».proof.Proof.KI.EncData
public import Idealize.ShloMosaic.Lib.Pipeline.ValueKit.Geometry

@[expose] public section

set_option maxRecDepth 16384

noncomputable section

namespace Cert.KernelIdeal.EV

open Cert.KernelIdeal Cert.KernelIdeal.Gen Cert.KernelIdeal.Enc Idealize.ShloMosaic Idealize.ShloMosaic.TcCoe Idealize.SL.Sem Idealize.ShloMosaic.StableHlo

variable (m : (ℓ : Loc nD τ sig) → Buf (Elt Ideal) ℓ) (c : Dev nD)

/-- What a point leaves in both scratches and in its block of the result, from its input blocks. -/
def Good (t : Fin cfg0.N) : Prop :=
  (outsAt0 m c t.val t.isLt).2.1 = C1 (iblk m c 0 t) (iblk m c 1 t) (iblk m c 2 t)
  ∧ (outsAt0 m c t.val t.isLt).2.2 = C2 (H1 (iblk m c 0 t) (iblk m c 1 t) (iblk m c 2 t)) (iblk m c 3 t) (iblk m c 4 t)
  ∧ (outsAt0 m c t.val t.isLt).1
    = E (iblk m c 0 t) (iblk m c 1 t) (iblk m c 2 t) (iblk m c 3 t) (iblk m c 4 t) (iblk m c 5 t) (iblk m c 6 t)

/-- A point that starts from zeroed scratches. -/
theorem good_first (t : Fin cfg0.N) (h0 : t.val % 4 = 0) : Good m c t := by
  unfold Good
  rw [outsAt0_A m c t h0]
  refine ⟨?_, ?_, ?_⟩
  · dsimp only
    unfold sout0_A_0
    apply sc0f
  · dsimp only
    unfold sout0_A_1
    apply sc1f
  · dsimp only
    unfold out0_A_7
    apply outf

/-- A point that finds what the point before left. -/
theorem good_next (t : Fin cfg0.N) (h0 : ¬t.val % 4 = 0) (t' : Fin cfg0.N) (ht : t.val = t'.val + 1) (h : Good m c t') : Good m c t := by
  have e : ∀ h', outsAt0 m c (t.val - 1) h' = outsAt0 m c t'.val t'.isLt := by
    rw [show t.val - 1 = t'.val by omega]; exact fun _ => rfl
  have hx0 : ∀ y : S4x4x16x10x10x64.Idx, ¬((1 ≤ (y 3).val ∧ (y 3).val ≤ 8) ∧ (1 ≤ (y 4).val ∧ (y 4).val ≤ 8)) →
      (outsAt0 m c t'.val t'.isLt).2.1 y = (0 : EReal) := fun y hy => by rw [h.1]; exact C1_ring _ _ _ y hy
  have hx1 : ∀ y : S2x2x16x10x10x128.Idx, ¬((1 ≤ (y 3).val ∧ (y 3).val ≤ 8) ∧ (1 ≤ (y 4).val ∧ (y 4).val ≤ 8)) →
      (outsAt0 m c t'.val t'.isLt).2.2 y = (0 : EReal) := fun y hy => by rw [h.2.1]; exact C2_ring _ _ _ y hy
  unfold Good
  rw [outsAt0_B m c t h0]
  simp only [e]
  refine ⟨?_, ?_, ?_⟩
  · unfold sout0_B_0
    apply sc0
    exact fun z hz => by rw [(Memref.isWhole_whole _).read_unread]; exact hx0 z hz
  · unfold sout0_B_1
    apply sc1
    · exact hx0
    · exact fun z hz => by rw [(Memref.isWhole_whole _).read_unread]; exact hx1 z hz
  · unfold out0_B_7
    apply out
    · exact hx0
    · exact hx1

/-- Every point. -/
theorem good (n : ℕ) : ∀ h : n < cfg0.N, Good m c ⟨n, h⟩ := by
  induction n with
  | zero => exact fun h => good_first m c _ rfl
  | succ n ih =>
    intro h
    by_cases h0 : (n + 1) % 4 = 0
    · exact good_first m c ⟨n + 1, h⟩ h0
    · exact good_next m c ⟨n + 1, h⟩ h0 ⟨n, by omega⟩ rfl (ih (by omega))

/-- The contents the call finds. -/
def Vd (b : Ref sig .tc) : Buf (Elt Ideal) ((c : Thread nD τ).loc b) := V9 m c b

/-- Where a point's block of the first operand lies. -/
theorem rows_in (t : Fin cfg0.N) (y : S16384x16.Idx) :
    (((cfg0.win 0).rect t).emb y 0).val = t.val * 16384 + (y 0).val ∧ (((cfg0.win 0).rect t).emb y 1).val = (y 1).val := by
  have hi : ∀ t : Fin cfg0.N, (cfg0.win 0).index t 0 = t.val ∧ (cfg0.win 0).index t 1 = 0 := by decide +kernel
  refine ⟨(Pipeline.Window.rect_emb_val (cfg0.win 0) t y 0).trans ?_, Pipeline.Window.rect_emb_val_of_index_zero (cfg0.win 0) t 1 (hi t).2 y⟩
  rw [show (cfg0.win 0).index t 0 = t.val from (hi t).1]
  rfl

/-- Where a point's block of the result lies. -/
theorem rows_out (t : Fin cfg0.N) (y : S1024x256.Idx) :
    (((cfg0.win 7).rect t).emb y 0).val = t.val * 1024 + (y 0).val ∧ (((cfg0.win 7).rect t).emb y 1).val = (y 1).val := by
  have hi : ∀ t : Fin cfg0.N, (cfg0.win 7).index t 0 = t.val ∧ (cfg0.win 7).index t 1 = 0 := by decide +kernel
  refine ⟨(Pipeline.Window.rect_emb_val (cfg0.win 7) t y 0).trans ?_, Pipeline.Window.rect_emb_val_of_index_zero (cfg0.win 7) t 1 (hi t).2 y⟩
  rw [show (cfg0.win 7).index t 0 = t.val from (hi t).1]
  rfl

/-- A point's block of the first operand. -/
theorem block_in (t : Fin cfg0.N) :
    (iblk m c 0 t : S16384x16.Idx → EReal) = fun z => Vd m c main_v46 (ix2 (fin 65536 (t.val * 16384 + (z 0).val)) (z 1)) := by
  funext y
  have ht : t.val < 4 := t.isLt
  have hy : (y 0).val < 16384 := (y 0).isLt
  obtain ⟨h0, h1⟩ := rows_in t y
  refine congrArg (Vd m c main_v46) (?_ : ((cfg0.win 0).rect t).emb y = (ix2 (fin 65536 (t.val * 16384 + (y 0).val)) (y 1) : S65536x16.Idx))
  funext a
  apply Fin.ext
  fin_cases a
  · exact h0.trans (Nat.mod_eq_of_lt (by omega)).symm
  · exact h1

/-- The windows of the filters and biases stay at index zero. -/
theorem whole (k : Fin cfg0.W) (hk : k ≠ 0 ∧ k ≠ 7) (t : Fin cfg0.N) (a : Fin (cfg0.win k).shape.rank) : (cfg0.win k).index t a = 0 := by
  revert k t
  decide +kernel

/-- A point's block of operand 1 is the whole operand. -/
theorem block_1 (t : Fin cfg0.N) : iblk m c 1 t = Vd m c main_v47 := by
  funext y
  refine congrArg (Vd m c main_v47) (?_ : ((cfg0.win 1).rect t).emb y = (y : S16x64.Idx))
  funext a
  apply Fin.ext
  exact Pipeline.Window.rect_emb_val_of_index_zero (cfg0.win 1) t a (whole 1 (by decide) t a) y

/-- A point's block of operand 2 is the whole operand. -/
theorem block_2 (t : Fin cfg0.N) : iblk m c 2 t = Vd m c main_v50 := by
  funext y
  refine congrArg (Vd m c main_v50) (?_ : ((cfg0.win 2).rect t).emb y = (y : S1x64.Idx))
  funext a
  apply Fin.ext
  exact Pipeline.Window.rect_emb_val_of_index_zero (cfg0.win 2) t a (whole 2 (by decide) t a) y

/-- A point's block of operand 3 is the whole operand. -/
theorem block_3 (t : Fin cfg0.N) : iblk m c 3 t = Vd m c main_v48 := by
  funext y
  refine congrArg (Vd m c main_v48) (?_ : ((cfg0.win 3).rect t).emb y = (y : S16x64x128.Idx))
  funext a
  apply Fin.ext
  exact Pipeline.Window.rect_emb_val_of_index_zero (cfg0.win 3) t a (whole 3 (by decide) t a) y

/-- A point's block of operand 4 is the whole operand. -/
theorem block_4 (t : Fin cfg0.N) : iblk m c 4 t = Vd m c main_v51 := by
  funext y
  refine congrArg (Vd m c main_v51) (?_ : ((cfg0.win 4).rect t).emb y = (y : S1x128.Idx))
  funext a
  apply Fin.ext
  exact Pipeline.Window.rect_emb_val_of_index_zero (cfg0.win 4) t a (whole 4 (by decide) t a) y

/-- A point's block of operand 5 is the whole operand. -/
theorem block_5 (t : Fin cfg0.N) : iblk m c 5 t = Vd m c main_v49 := by
  funext y
  refine congrArg (Vd m c main_v49) (?_ : ((cfg0.win 5).rect t).emb y = (y : S16x128x256.Idx))
  funext a
  apply Fin.ext
  exact Pipeline.Window.rect_emb_val_of_index_zero (cfg0.win 5) t a (whole 5 (by decide) t a) y

/-- A point's block of operand 6 is the whole operand. -/
theorem block_6 (t : Fin cfg0.N) : iblk m c 6 t = Vd m c main_v52 := by
  funext y
  refine congrArg (Vd m c main_v52) (?_ : ((cfg0.win 6).rect t).emb y = (y : S1x256.Idx))
  funext a
  apply Fin.ext
  exact Pipeline.Window.rect_emb_val_of_index_zero (cfg0.win 6) t a (whole 6 (by decide) t a) y

/-- The result, from the contents the call finds. -/
def Res : S4096x256.Idx → EReal := fun i =>
  H3 (H2 (H1 (fun z => Vd m c main_v46 (ix2 (fin 65536 ((i 0).val / 1024 * 16384 + (z 0).val)) (z 1))) (Vd m c main_v47) (Vd m c main_v50))
    (Vd m c main_v48) (Vd m c main_v51)) (Vd m c main_v49) (Vd m c main_v52) ((i 0).val % 1024 / 64) ((i 0).val % 1024 / 8 % 8) ((i 0).val % 1024 % 8) (i 1)

/-- What a point leaves in its block of the result is `Res` there. -/
theorem block_out (t : Fin cfg0.N) (y : S1024x256.Idx) : (outsAt0 m c t.val t.isLt).1 y = Res m c (((cfg0.win 7).rect t).emb y) := by
  rw [(good m c t.val t.isLt).2.2, block_in, block_1, block_2, block_3, block_4, block_5, block_6]
  have hy : (y 0).val < 1024 := (y 0).isLt
  obtain ⟨e0, e1⟩ := rows_out t y
  generalize ((cfg0.win 7).rect t).emb y = z at e0 e1
  unfold E Res
  rw [e0, show (t.val * 1024 + (y 0).val) / 1024 = t.val by omega, show (t.val * 1024 + (y 0).val) % 1024 = (y 0).val by omega,
    show y 1 = z 1 from Fin.ext e1.symm]
  rfl

/-- The result array. -/
theorem result : (dats m c).arrAt 7 cfg0.N = Res m c := by
  refine Pipeline.Dat.arrAt_eq_of_covers (dats m c) 7 (Res m c) (by decide +kernel) (fun t hf y => ?_) (harr := Memref.isWhole_whole _)
  rw [after0_7]
  exact block_out m c t _

end Cert.KernelIdeal.EV
end
-- ==== Proof.EK.Host.lean ====
module

public import proofs.«01_k».proof.Proof.EK.Pts

@[expose] public section

set_option maxRecDepth 16384

noncomputable section

namespace Cert.KernelIdeal.EV

open Cert.KernelIdeal Cert.KernelIdeal.Gen Cert.KernelIdeal.Enc Idealize.ShloMosaic Idealize.ShloMosaic.TcCoe Idealize.SL.Sem Idealize.ShloMosaic.StableHlo

/-- The image with a border of zeros, at any row and column. -/
def xpad (A : S64x64x64.Idx → EReal) (b : Fin 64) (i j : ℕ) : EReal :=
  if (1 ≤ i ∧ i ≤ 64) ∧ (1 ≤ j ∧ j ≤ 64) then A (ix3 b (fin 64 (i - 1)) (fin 64 (j - 1))) else 0

theorem xpad_congr (A : S64x64x64.Idx → EReal) {b b' : Fin 64} {i i' j j' : ℕ} (hb : b = b') (hi : i = i') (hj : j = j') :
    xpad A b i j = xpad A b' i' j' := by
  rw [hb, hi, hj]

/-- The padding value. -/
theorem pad_zero : (FloatOps.sitofp (F := Ideal) FTy.f32 (0#32) : EReal) = 0 := by
  show ((((0#32 : BitVec 32).toInt : ℤ) : ℝ) : EReal) = 0
  simp

/-- The pixels of row remainder 0 and column remainder 0, with a border of zeros. -/
def P00 (A : Vec Ideal S64x64x64 .f32) : Vec Ideal S64x34x34 .f32 :=
  pad S64x34x34 ![0, 1, 1] ![0, 1, 1] ![0, 0, 0] (shapeCast S64x32x32 (extractStridedSlice S64x32x1x32x1 ![0, 0, 0, 0, 0]
    (shapeCast S64x32x2x32x2 A shapeCasts_S64x64x64_S64x32x2x32x2) slices_S64x32x2x32x2_S64x32x1x32x1_0_0_0_0_0) shapeCasts_S64x32x1x32x1_S64x32x32)
    (sitofp (F := Ideal) .f32 (constantI S_ 32 0#32)) pads_S64x32x32_S64x34x34_000_110_110 h_S_

theorem P00_at (A : Vec Ideal S64x64x64 .f32) (b : Fin 64) (j k : Fin 34) :
    P00 A (ix3 b j k) = xpad A b (2 * j.val + 0 - 1) (2 * k.val + 0 - 1) := by
  unfold P00 xpad
  pointwise
  by_cases h : (1 ≤ j.val ∧ j.val - 1 < 32) ∧ 1 ≤ k.val ∧ k.val - 1 < 32
  · rw [dif_pos h, if_pos (by omega)]
    congr 2
    · apply Fin.ext
      show _ = (2 * j.val + 0 - 1 - 1) % 64
      dsimp only
      omega
    · apply Fin.ext
      show _ = (2 * k.val + 0 - 1 - 1) % 64
      dsimp only
      omega
  · rw [dif_neg h, if_neg (by omega)]
    exact pad_zero

/-- The pixels of row remainder 0 and column remainder 1, with a border of zeros. -/
def P01 (A : Vec Ideal S64x64x64 .f32) : Vec Ideal S64x34x34 .f32 :=
  pad S64x34x34 ![0, 1, 1] ![0, 1, 1] ![0, 0, 0] (shapeCast S64x32x32 (extractStridedSlice S64x32x1x32x1 ![0, 0, 0, 0, 1]
    (shapeCast S64x32x2x32x2 A shapeCasts_S64x64x64_S64x32x2x32x2) slices_S64x32x2x32x2_S64x32x1x32x1_0_0_0_0_1) shapeCasts_S64x32x1x32x1_S64x32x32)
    (sitofp (F := Ideal) .f32 (constantI S_ 32 0#32)) pads_S64x32x32_S64x34x34_000_110_110 h_S_

theorem P01_at (A : Vec Ideal S64x64x64 .f32) (b : Fin 64) (j k : Fin 34) :
    P01 A (ix3 b j k) = xpad A b (2 * j.val + 0 - 1) (2 * k.val + 1 - 1) := by
  unfold P01 xpad
  pointwise
  by_cases h : (1 ≤ j.val ∧ j.val - 1 < 32) ∧ 1 ≤ k.val ∧ k.val - 1 < 32
  · rw [dif_pos h, if_pos (by omega)]
    congr 2
    · apply Fin.ext
      show _ = (2 * j.val + 0 - 1 - 1) % 64
      dsimp only
      omega
    · apply Fin.ext
      show _ = (2 * k.val + 1 - 1 - 1) % 64
      dsimp only
      omega
  · rw [dif_neg h, if_neg (by omega)]
    exact pad_zero

/-- The pixels of row remainder 1 and column remainder 0, with a border of zeros. -/
def P10 (A : Vec Ideal S64x64x64 .f32) : Vec Ideal S64x34x34 .f32 :=
  pad S64x34x34 ![0, 1, 1] ![0, 1, 1] ![0, 0, 0] (shapeCast S64x32x32 (extractStridedSlice S64x32x1x32x1 ![0, 0, 1, 0, 0]
    (shapeCast S64x32x2x32x2 A shapeCasts_S64x64x64_S64x32x2x32x2) slices_S64x32x2x32x2_S64x32x1x32x1_0_0_1_0_0) shapeCasts_S64x32x1x32x1_S64x32x32)
    (sitofp (F := Ideal) .f32 (constantI S_ 32 0#32)) pads_S64x32x32_S64x34x34_000_110_110 h_S_

theorem P10_at (A : Vec Ideal S64x64x64 .f32) (b : Fin 64) (j k : Fin 34) :
    P10 A (ix3 b j k) = xpad A b (2 * j.val + 1 - 1) (2 * k.val + 0 - 1) := by
  unfold P10 xpad
  pointwise
  by_cases h : (1 ≤ j.val ∧ j.val - 1 < 32) ∧ 1 ≤ k.val ∧ k.val - 1 < 32
  · rw [dif_pos h, if_pos (by omega)]
    congr 2
    · apply Fin.ext
      show _ = (2 * j.val + 1 - 1 - 1) % 64
      dsimp only
      omega
    · apply Fin.ext
      show _ = (2 * k.val + 0 - 1 - 1) % 64
      dsimp only
      omega
  · rw [dif_neg h, if_neg (by omega)]
    exact pad_zero

/-- The pixels of row remainder 1 and column remainder 1, with a border of zeros. -/
def P11 (A : Vec Ideal S64x64x64 .f32) : Vec Ideal S64x34x34 .f32 :=
  pad S64x34x34 ![0, 1, 1] ![0, 1, 1] ![0, 0, 0] (shapeCast S64x32x32 (extractStridedSlice S64x32x1x32x1 ![0, 0, 1, 0, 1]
    (shapeCast S64x32x2x32x2 A shapeCasts_S64x64x64_S64x32x2x32x2) slices_S64x32x2x32x2_S64x32x1x32x1_0_0_1_0_1) shapeCasts_S64x32x1x32x1_S64x32x32)
    (sitofp (F := Ideal) .f32 (constantI S_ 32 0#32)) pads_S64x32x32_S64x34x34_000_110_110 h_S_

theorem P11_at (A : Vec Ideal S64x64x64 .f32) (b : Fin 64) (j k : Fin 34) :
    P11 A (ix3 b j k) = xpad A b (2 * j.val + 1 - 1) (2 * k.val + 1 - 1) := by
  unfold P11 xpad
  pointwise
  by_cases h : (1 ≤ j.val ∧ j.val - 1 < 32) ∧ 1 ≤ k.val ∧ k.val - 1 < 32
  · rw [dif_pos h, if_pos (by omega)]
    congr 2
    · apply Fin.ext
      show _ = (2 * j.val + 1 - 1 - 1) % 64
      dsimp only
      omega
    · apply Fin.ext
      show _ = (2 * k.val + 1 - 1 - 1) % 64
      dsimp only
      omega
  · rw [dif_neg h, if_neg (by omega)]
    exact pad_zero

/-- The sixteen taps of the first convolution, one column each, a row per pixel of its result. -/
def X46 (A : Vec Ideal S64x64x64 .f32) : Vec Ideal S65536x16 .f32 :=
  shapeCast S65536x16 (concatenate S64x32x32x16 3 [⟨S64x32x32x1, broadcastInDim S64x32x32x1 ![0, 1, 2] bcast_S64x32x32_S64x32x32x1_0_1_2 (extractStridedSlice S64x32x32 ![0, 0, 0] (P11 A) slices_S64x34x34_S64x32x32_0_0_0)⟩, ⟨S64x32x32x1, broadcastInDim S64x32x32x1 ![0, 1, 2] bcast_S64x32x32_S64x32x32x1_0_1_2 (extractStridedSlice S64x32x32 ![0, 0, 1] (P10 A) slices_S64x34x34_S64x32x32_0_0_1)⟩, ⟨S64x32x32x1, broadcastInDim S64x32x32x1 ![0, 1, 2] bcast_S64x32x32_S64x32x32x1_0_1_2 (extractStridedSlice S64x32x32 ![0, 0, 1] (P11 A) slices_S64x34x34_S64x32x32_0_0_1)⟩, ⟨S64x32x32x1, broadcastInDim S64x32x32x1 ![0, 1, 2] bcast_S64x32x32_S64x32x32x1_0_1_2 (extractStridedSlice S64x32x32 ![0, 0, 2] (P10 A) slices_S64x34x34_S64x32x32_0_0_2)⟩, ⟨S64x32x32x1, broadcastInDim S64x32x32x1 ![0, 1, 2] bcast_S64x32x32_S64x32x32x1_0_1_2 (extractStridedSlice S64x32x32 ![0, 1, 0] (P01 A) slices_S64x34x34_S64x32x32_0_1_0)⟩, ⟨S64x32x32x1, broadcastInDim S64x32x32x1 ![0, 1, 2] bcast_S64x32x32_S64x32x32x1_0_1_2 (extractStridedSlice S64x32x32 ![0, 1, 1] (P00 A) slices_S64x34x34_S64x32x32_0_1_1)⟩, ⟨S64x32x32x1, broadcastInDim S64x32x32x1 ![0, 1, 2] bcast_S64x32x32_S64x32x32x1_0_1_2 (extractStridedSlice S64x32x32 ![0, 1, 1] (P01 A) slices_S64x34x34_S64x32x32_0_1_1)⟩, ⟨S64x32x32x1, broadcastInDim S64x32x32x1 ![0, 1, 2] bcast_S64x32x32_S64x32x32x1_0_1_2 (extractStridedSlice S64x32x32 ![0, 1, 2] (P00 A) slices_S64x34x34_S64x32x32_0_1_2)⟩, ⟨S64x32x32x1, broadcastInDim S64x32x32x1 ![0, 1, 2] bcast_S64x32x32_S64x32x32x1_0_1_2 (extractStridedSlice S64x32x32 ![0, 1, 0] (P11 A) slices_S64x34x34_S64x32x32_0_1_0)⟩, ⟨S64x32x32x1, broadcastInDim S64x32x32x1 ![0, 1, 2] bcast_S64x32x32_S64x32x32x1_0_1_2 (extractStridedSlice S64x32x32 ![0, 1, 1] (P10 A) slices_S64x34x34_S64x32x32_0_1_1)⟩, ⟨S64x32x32x1, broadcastInDim S64x32x32x1 ![0, 1, 2] bcast_S64x32x32_S64x32x32x1_0_1_2 (extractStridedSlice S64x32x32 ![0, 1, 1] (P11 A) slices_S64x34x34_S64x32x32_0_1_1)⟩, ⟨S64x32x32x1, broadcastInDim S64x32x32x1 ![0, 1, 2] bcast_S64x32x32_S64x32x32x1_0_1_2 (extractStridedSlice S64x32x32 ![0, 1, 2] (P10 A) slices_S64x34x34_S64x32x32_0_1_2)⟩, ⟨S64x32x32x1, broadcastInDim S64x32x32x1 ![0, 1, 2] bcast_S64x32x32_S64x32x32x1_0_1_2 (extractStridedSlice S64x32x32 ![0, 2, 0] (P01 A) slices_S64x34x34_S64x32x32_0_2_0)⟩, ⟨S64x32x32x1, broadcastInDim S64x32x32x1 ![0, 1, 2] bcast_S64x32x32_S64x32x32x1_0_1_2 (extractStridedSlice S64x32x32 ![0, 2, 1] (P00 A) slices_S64x34x34_S64x32x32_0_2_1)⟩, ⟨S64x32x32x1, broadcastInDim S64x32x32x1 ![0, 1, 2] bcast_S64x32x32_S64x32x32x1_0_1_2 (extractStridedSlice S64x32x32 ![0, 2, 1] (P01 A) slices_S64x34x34_S64x32x32_0_2_1)⟩, ⟨S64x32x32x1, broadcastInDim S64x32x32x1 ![0, 1, 2] bcast_S64x32x32_S64x32x32x1_0_1_2 (extractStridedSlice S64x32x32 ![0, 2, 2] (P00 A) slices_S64x34x34_S64x32x32_0_2_2)⟩] concatenates_S64x32x32x1_S64x32x32x1_S64x32x32x1_S64x32x32x1_S64x32x32x1_S64x32x32x1_S64x32x32x1_S64x32x32x1_S64x32x32x1_S64x32x32x1_S64x32x32x1_S64x32x32x1_S64x32x32x1_S64x32x32x1_S64x32x32x1_S64x32x32x1_S64x32x32x16_d3) shapeCasts_S64x32x32x16_S65536x16

theorem X46_at (A : Vec Ideal S64x64x64 .f32) (r : Fin 65536) (t : Fin 16) :
    X46 A (ix2 r t) = xpad A (fin 64 (r.val / 1024)) (2 * (r.val / 32 % 32) + t.val / 4) (2 * (r.val % 32) + t.val % 4) := by
  unfold X46
  have b : (⟨r.val / 1024, by omega⟩ : Fin 64) = fin 64 (r.val / 1024) := Fin.ext (Nat.mod_eq_of_lt (by omega)).symm
  fin_cases t
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
  · pointwise
    simp only [P00_at, P01_at, P10_at, P11_at]
    exact xpad_congr A b (by omega) (by omega)
/-- The operand's entries, from the argument's. -/
theorem v47_at (A : Vec Ideal S4x4x1x64 .f32) (t : Fin 16) (ch : Fin 64) :
    shapeCast S16x64 A shapeCasts_S4x4x1x64_S16x64 (ix2 t ch) = A (ix4 (fin 4 (t.val / 4)) (fin 4 (t.val % 4)) 0 ch) := by
  pointwise
  have e0 : (⟨t.val / 4, by omega⟩ : Fin 4) = fin 4 (t.val / 4) := Fin.ext (Nat.mod_eq_of_lt (by omega)).symm
  have e1 : (⟨t.val % 4, by omega⟩ : Fin 4) = fin 4 (t.val % 4) := Fin.ext (Nat.mod_eq_of_lt (by omega)).symm
  rw [e0, e1]

/-- The operand's entries, from the argument's. -/
theorem v48_at (A : Vec Ideal S4x4x64x128 .f32) (t : Fin 16) (ch : Fin 64) (o : Fin 128) :
    shapeCast S16x64x128 A shapeCasts_S4x4x64x128_S16x64x128 (ix3 t ch o) = A (ix4 (fin 4 (t.val / 4)) (fin 4 (t.val % 4)) ch o) := by
  pointwise
  have e0 : (⟨t.val / 4, by omega⟩ : Fin 4) = fin 4 (t.val / 4) := Fin.ext (Nat.mod_eq_of_lt (by omega)).symm
  have e1 : (⟨t.val % 4, by omega⟩ : Fin 4) = fin 4 (t.val % 4) := Fin.ext (Nat.mod_eq_of_lt (by omega)).symm
  rw [e0, e1]

/-- The operand's entries, from the argument's. -/
theorem v49_at (A : Vec Ideal S4x4x128x256 .f32) (t : Fin 16) (ch : Fin 128) (o : Fin 256) :
    shapeCast S16x128x256 A shapeCasts_S4x4x128x256_S16x128x256 (ix3 t ch o) = A (ix4 (fin 4 (t.val / 4)) (fin 4 (t.val % 4)) ch o) := by
  pointwise
  have e0 : (⟨t.val / 4, by omega⟩ : Fin 4) = fin 4 (t.val / 4) := Fin.ext (Nat.mod_eq_of_lt (by omega)).symm
  have e1 : (⟨t.val % 4, by omega⟩ : Fin 4) = fin 4 (t.val % 4) := Fin.ext (Nat.mod_eq_of_lt (by omega)).symm
  rw [e0, e1]

/-- The operand's entries, from the argument's. -/
theorem v50_at (A : Vec Ideal S64 .f32) (o : Fin 64) :
    shapeCast S1x64 A shapeCasts_S64_S1x64 (ix2 0 o) = A (ix1 o) := by
  pointwise

/-- The operand's entries, from the argument's. -/
theorem v51_at (A : Vec Ideal S128 .f32) (o : Fin 128) :
    shapeCast S1x128 A shapeCasts_S128_S1x128 (ix2 0 o) = A (ix1 o) := by
  pointwise

/-- The operand's entries, from the argument's. -/
theorem v52_at (A : Vec Ideal S256 .f32) (o : Fin 256) :
    shapeCast S1x256 A shapeCasts_S256_S1x256 (ix2 0 o) = A (ix1 o) := by
  pointwise

variable (m : (ℓ : Loc nD τ sig) → Buf (Elt Ideal) ℓ) (c : Dev nD)

/-- Two stretches of host operations, one after the other. -/
theorem after_two (a b : List (HloOp τ sig (Elt Ideal))) : ∀ V : Valuation τ sig (Elt Ideal), after (a ++ b) V = after b (after a V) := by
  induction a with
  | nil => exact fun _ => rfl
  | cons x l ih =>
    intro V
    simp only [List.cons_append, after_cons, ih]

/-- The contents the first call finds, as one stretch of host operations. -/
theorem V9_eq : V9 m c = after (hostOps0 ++ (hostOps0_1 ++ (hostOps0_2 ++ (hostOps0_3 ++ (hostOps0_4 ++ (hostOps0_5 ++ (hostOps0_6 ++ (hostOps0_7 ++ hostOps0_8)))))))) (V0 m c) := by
  simp only [after_two]

/-- What the call finds in its operand. -/
theorem Vd_v46 : Vd m c main_v46 = X46 (m ((c : Thread nD τ).loc main_arg0)) := by
  refine (congrFun (V9_eq m c) _).trans ?_
  simp only [hostOps0, hostOps0_1, hostOps0_2, hostOps0_3, hostOps0_4, hostOps0_5, hostOps0_6, hostOps0_7, hostOps0_8, List.cons_append, List.nil_append]
  after_results
  rfl

/-- What the call finds in its operand. -/
theorem Vd_v47 : Vd m c main_v47 = shapeCast S16x64 (m ((c : Thread nD τ).loc main_arg1)) shapeCasts_S4x4x1x64_S16x64 := by
  refine (congrFun (V9_eq m c) _).trans ?_
  simp only [hostOps0, hostOps0_1, hostOps0_2, hostOps0_3, hostOps0_4, hostOps0_5, hostOps0_6, hostOps0_7, hostOps0_8, List.cons_append, List.nil_append]
  after_results
  rfl

/-- What the call finds in its operand. -/
theorem Vd_v48 : Vd m c main_v48 = shapeCast S16x64x128 (m ((c : Thread nD τ).loc main_arg3)) shapeCasts_S4x4x64x128_S16x64x128 := by
  refine (congrFun (V9_eq m c) _).trans ?_
  simp only [hostOps0, hostOps0_1, hostOps0_2, hostOps0_3, hostOps0_4, hostOps0_5, hostOps0_6, hostOps0_7, hostOps0_8, List.cons_append, List.nil_append]
  after_results
  rfl

/-- What the call finds in its operand. -/
theorem Vd_v49 : Vd m c main_v49 = shapeCast S16x128x256 (m ((c : Thread nD τ).loc main_arg5)) shapeCasts_S4x4x128x256_S16x128x256 := by
  refine (congrFun (V9_eq m c) _).trans ?_
  simp only [hostOps0, hostOps0_1, hostOps0_2, hostOps0_3, hostOps0_4, hostOps0_5, hostOps0_6, hostOps0_7, hostOps0_8, List.cons_append, List.nil_append]
  after_results
  rfl

/-- What the call finds in its operand. -/
theorem Vd_v50 : Vd m c main_v50 = shapeCast S1x64 (m ((c : Thread nD τ).loc main_arg2)) shapeCasts_S64_S1x64 := by
  refine (congrFun (V9_eq m c) _).trans ?_
  simp only [hostOps0, hostOps0_1, hostOps0_2, hostOps0_3, hostOps0_4, hostOps0_5, hostOps0_6, hostOps0_7, hostOps0_8, List.cons_append, List.nil_append]
  after_results
  rfl

/-- What the call finds in its operand. -/
theorem Vd_v51 : Vd m c main_v51 = shapeCast S1x128 (m ((c : Thread nD τ).loc main_arg4)) shapeCasts_S128_S1x128 := by
  refine (congrFun (V9_eq m c) _).trans ?_
  simp only [hostOps0, hostOps0_1, hostOps0_2, hostOps0_3, hostOps0_4, hostOps0_5, hostOps0_6, hostOps0_7, hostOps0_8, List.cons_append, List.nil_append]
  after_results
  rfl

/-- What the call finds in its operand. -/
theorem Vd_v52 : Vd m c main_v52 = shapeCast S1x256 (m ((c : Thread nD τ).loc main_arg6)) shapeCasts_S256_S1x256 := by
  refine (congrFun (V9_eq m c) _).trans ?_
  simp only [hostOps0, hostOps0_1, hostOps0_2, hostOps0_3, hostOps0_4, hostOps0_5, hostOps0_6, hostOps0_7, hostOps0_8, List.cons_append, List.nil_append]
  after_results
  rfl

end Cert.KernelIdeal.EV
end
-- ==== Proof.EK.Ref.lean ====
module

public import proofs.«01_k».proof.Proof.EK.Host
public import proofs.«01_k».proof.Proof.Gen.RefRevIdeal.Run

@[expose] public section

set_option maxRecDepth 16384

noncomputable section

/-! # What the reference's encoder computes

Each stage of the reference as a sum over the sixteen taps of a four-by-four filter, read at one
index. -/

namespace Cert.RefRevIdeal.EV

open Cert.RefRevIdeal Cert.RefRevIdeal.Gen Cert.RefRevIdeal.Value Idealize.ShloMosaic Idealize.ShloMosaic.TcCoe Idealize.SL.Sem Idealize.ShloMosaic.StableHlo
open Cert.KernelIdeal.EV (fin xpad pad_zero sum16)

/-- The first convolution of the padded images, with its bias, clipped at zero and padded by one. -/
def pad1 (A : S64x64x64.Idx → EReal) (w : S4x4x1x64.Idx → EReal) (a : S64.Idx → EReal) (b : Fin 64) (i j : ℕ) (o : Fin 64) : EReal :=
  if (1 ≤ i ∧ i ≤ 32) ∧ (1 ≤ j ∧ j ≤ 32) then
    max ((∑ t : Fin 16, xpad A b (2 * (i - 1) + t.val / 4) (2 * (j - 1) + t.val % 4) * w (ix4 (fin 4 (t.val / 4)) (fin 4 (t.val % 4)) 0 o)) + a (ix1 o)) 0
  else 0

/-- The second convolution, of padded images `h`, with its bias, clipped at zero and padded by one. -/
def pad2 (h : Fin 64 → ℕ → ℕ → Fin 64 → EReal) (w : S4x4x64x128.Idx → EReal) (a : S128.Idx → EReal) (b : Fin 64) (i j : ℕ) (o : Fin 128) : EReal :=
  if (1 ≤ i ∧ i ≤ 16) ∧ (1 ≤ j ∧ j ≤ 16) then
    max ((∑ t : Fin 16, ∑ c : Fin 64, h b (2 * (i - 1) + t.val / 4) (2 * (j - 1) + t.val % 4) c * w (ix4 (fin 4 (t.val / 4)) (fin 4 (t.val % 4)) c o)) + a (ix1 o)) 0
  else 0

/-- The third convolution, of padded images `h`, with its bias, clipped at zero. -/
def out3 (h : Fin 64 → ℕ → ℕ → Fin 128 → EReal) (w : S4x4x128x256.Idx → EReal) (a : S256.Idx → EReal) (b : Fin 64) (i j : ℕ) (o : Fin 256) : EReal :=
  max ((∑ t : Fin 16, ∑ c : Fin 128, h b (2 * i + t.val / 4) (2 * j + t.val % 4) c * w (ix4 (fin 4 (t.val / 4)) (fin 4 (t.val % 4)) c o)) + a (ix1 o)) 0

/-- Sixteen summands, each a value of `f`, add up to the sum of `f`. -/
theorem sum16_of (f : Fin 16 → EReal) {a0 a1 a2 a3 a4 a5 a6 a7 a8 a9 a10 a11 a12 a13 a14 a15 : EReal}
    (h0 : f 0 = a0) (h1 : f 1 = a1) (h2 : f 2 = a2) (h3 : f 3 = a3) (h4 : f 4 = a4) (h5 : f 5 = a5) (h6 : f 6 = a6) (h7 : f 7 = a7) (h8 : f 8 = a8) (h9 : f 9 = a9) (h10 : f 10 = a10) (h11 : f 11 = a11) (h12 : f 12 = a12) (h13 : f 13 = a13) (h14 : f 14 = a14) (h15 : f 15 = a15) :
    a0 + a1 + a2 + a3 + a4 + a5 + a6 + a7 + a8 + a9 + a10 + a11 + a12 + a13 + a14 + a15 = ∑ t, f t := by
  rw [← sum16, h0, h1, h2, h3, h4, h5, h6, h7, h8, h9, h10, h11, h12, h13, h14, h15]

/-- The same, where every summand is a sum over channels of products. -/
theorem taps_of {C : Type} [Fintype C] (g : ℕ → ℕ → C → EReal) (w : Fin 4 → Fin 4 → C → EReal) (i j : ℕ) :
    (∑ c, g i j c * w 0 0 c) + (∑ c, g i (1 + j) c * w 0 1 c) + (∑ c, g i (2 + j) c * w 0 2 c) + (∑ c, g i (3 + j) c * w 0 3 c) + (∑ c, g (1 + i) j c * w 1 0 c) + (∑ c, g (1 + i) (1 + j) c * w 1 1 c) + (∑ c, g (1 + i) (2 + j) c * w 1 2 c) + (∑ c, g (1 + i) (3 + j) c * w 1 3 c) + (∑ c, g (2 + i) j c * w 2 0 c) + (∑ c, g (2 + i) (1 + j) c * w 2 1 c) + (∑ c, g (2 + i) (2 + j) c * w 2 2 c) + (∑ c, g (2 + i) (3 + j) c * w 2 3 c) + (∑ c, g (3 + i) j c * w 3 0 c) + (∑ c, g (3 + i) (1 + j) c * w 3 1 c) + (∑ c, g (3 + i) (2 + j) c * w 3 2 c) + (∑ c, g (3 + i) (3 + j) c * w 3 3 c) =
      ∑ t : Fin 16, ∑ c, g (i + t.val / 4) (j + t.val % 4) c * w (fin 4 (t.val / 4)) (fin 4 (t.val % 4)) c := by
  have e : ∀ (k k' l l' : ℕ) (P Q P' Q' : Fin 4), k = k' → l = l' → P = P' → Q = Q' →
      (∑ c, g k l c * w P Q c) = ∑ c, g k' l' c * w P' Q' c := by
    intro k k' l l' P Q P' Q' h1 h2 h3 h4
    rw [h1, h2, h3, h4]
  apply sum16_of <;> refine e _ _ _ _ _ _ _ _ ?_ ?_ rfl rfl <;> first | rfl | exact Nat.add_comm _ _

variable (V0 : Valuation τ sig (Elt Ideal))

/-- The images padded by one. -/
theorem v4_at (A : Vec Ideal S64x64x64 .f32) (hA : V0 (Proc.devRef .tc main_arg0) = A) (b : Fin 64) (i j : Fin 66) (k : Fin 1) :
    res_main_v4 V0 (ix4 b i j k) = xpad A b i j := by
  unfold res_main_v4 xpad
  rw [hA]
  pointwise
  by_cases h : (1 ≤ i.val ∧ i.val - 1 < 64) ∧ 1 ≤ j.val ∧ j.val - 1 < 64
  · rw [dif_pos h, if_pos (by omega)]
    have e0 : (⟨i.val - 1, by omega⟩ : Fin 64) = fin 64 (i.val - 1) := Fin.ext (Nat.mod_eq_of_lt (by omega)).symm
    have e1 : (⟨j.val - 1, by omega⟩ : Fin 64) = fin 64 (j.val - 1) := Fin.ext (Nat.mod_eq_of_lt (by omega)).symm
    rw [e0, e1]
  · rw [dif_neg h, if_neg (by omega)]
    exact pad_zero

theorem v91_at (A : Vec Ideal S64x64x64 .f32) (hA : V0 (Proc.devRef .tc main_arg0) = A)
    (w : Vec Ideal S4x4x1x64 .f32) (hw : V0 (Proc.devRef .tc main_arg1) = w)
    (a : Vec Ideal S64 .f32) (ha : V0 (Proc.devRef .tc main_arg2) = a) (b : Fin 64) (i j : Fin 34) (k : Fin 64) :
    res_main_v91 V0 (ix4 b i j k) = pad1 A w a b i j k := by
  have h1 := v4_at V0 A hA
  unfold res_main_v91 res_main_v65 pad1
  rw [hw, ha]
  generalize res_main_v4 V0 = v1 at h1
  pointwise
  simp only [h1]
  by_cases h : (1 ≤ i.val ∧ i.val ≤ 32) ∧ (1 ≤ j.val ∧ j.val ≤ 32)
  · rw [dif_pos (by
      intro x
      fin_cases x
      · exact ⟨Nat.zero_le _, Nat.mod_one _, b.isLt.trans_le' (Nat.le_of_eq (Nat.div_one _))⟩
      · exact ⟨h.1.1, Nat.mod_one _, by show (i.val - 1) / 1 < 32; omega⟩
      · exact ⟨h.2.1, Nat.mod_one _, by show (j.val - 1) / 1 < 32; omega⟩
      · exact ⟨Nat.zero_le _, Nat.mod_one _, k.isLt.trans_le' (Nat.le_of_eq (Nat.div_one _))⟩), if_pos h]
    refine congrArg (fun z => max (z + a (ix1 k)) 0) ((taps_of (C := Fin 1) (fun p q _ => xpad A b p q) (fun P Q _ => w (ix4 P Q 0 k)) _ _).trans ?_)
    simp only [Finset.univ_unique, Finset.sum_singleton]
  · rw [dif_neg (by
      intro g
      have g1 := g 1
      have g2 := g 2
      have e1 : 1 ≤ i.val ∧ _ ∧ (i.val - 1) / 1 < 32 := g1
      have e2 : 1 ≤ j.val ∧ _ ∧ (j.val - 1) / 1 < 32 := g2
      omega), if_neg h]
    exact pad_zero

theorem v178_at (h : Fin 64 → ℕ → ℕ → Fin 64 → EReal) (hh : ∀ (b : Fin 64) (i j : Fin 34) (k : Fin 64), res_main_v91 V0 (ix4 b i j k) = h b i j k)
    (w : Vec Ideal S4x4x64x128 .f32) (hw : V0 (Proc.devRef .tc main_arg3) = w)
    (a : Vec Ideal S128 .f32) (ha : V0 (Proc.devRef .tc main_arg4) = a) (b : Fin 64) (i j : Fin 18) (k : Fin 128) :
    res_main_v178 V0 (ix4 b i j k) = pad2 h w a b i j k := by
  unfold res_main_v178 res_main_v147 pad2
  rw [hw, ha]
  generalize res_main_v91 V0 = v1 at hh
  pointwise
  simp only [hh]
  by_cases h' : (1 ≤ i.val ∧ i.val ≤ 16) ∧ (1 ≤ j.val ∧ j.val ≤ 16)
  · rw [dif_pos (by
      intro x
      fin_cases x
      · exact ⟨Nat.zero_le _, Nat.mod_one _, b.isLt.trans_le' (Nat.le_of_eq (Nat.div_one _))⟩
      · exact ⟨h'.1.1, Nat.mod_one _, by show (i.val - 1) / 1 < 16; omega⟩
      · exact ⟨h'.2.1, Nat.mod_one _, by show (j.val - 1) / 1 < 16; omega⟩
      · exact ⟨Nat.zero_le _, Nat.mod_one _, k.isLt.trans_le' (Nat.le_of_eq (Nat.div_one _))⟩), if_pos h']
    exact congrArg (fun z => max (z + a (ix1 k)) 0) (taps_of (fun p q c => h b p q c) (fun P Q c => w (ix4 P Q c k)) _ _)
  · rw [dif_neg (by
      intro g
      have g1 := g 1
      have g2 := g 2
      have e1 : 1 ≤ i.val ∧ _ ∧ (i.val - 1) / 1 < 16 := g1
      have e2 : 1 ≤ j.val ∧ _ ∧ (j.val - 1) / 1 < 16 := g2
      omega), if_neg h']
    exact pad_zero

end Cert.RefRevIdeal.EV
end
-- ==== Proof.EK.Eq.lean ====
module

public import proofs.«01_k».proof.Proof.EK.Host
public import proofs.«01_k».proof.Proof.EK.Ref

@[expose] public section

set_option maxRecDepth 16384

noncomputable section

/-! # The encoder and its reference compute the same

The kernel's layers, whose images are counted within one block of sixteen and whose borders are wider than the
convolutions need, are the reference's layers. -/

namespace Cert.KernelIdeal.EV

open Cert.KernelIdeal Cert.KernelIdeal.Gen Cert.KernelIdeal.Enc Idealize.ShloMosaic Idealize.ShloMosaic.TcCoe Idealize.SL.Sem Idealize.ShloMosaic.StableHlo
open Cert.RefRevIdeal.EV (pad1 pad2 out3)

/-- The first layer of image `b` of block `T`, its border three wider than the reference's. -/
theorem layer1 (A : Vec Ideal S64x64x64 .f32) (w : Vec Ideal S4x4x1x64 .f32) (a : Vec Ideal S64 .f32) (T b p q : ℕ) (hT : T < 4) (hb : b < 16) (o : Fin 64) :
    H1 (fun z => X46 A (ix2 (fin 65536 (T * 16384 + (z 0).val)) (z 1))) (shapeCast S16x64 w shapeCasts_S4x4x1x64_S16x64)
      (shapeCast S1x64 a shapeCasts_S64_S1x64) b (p + 3) (q + 3) o = pad1 A w a (fin 64 (T * 16 + b)) p q o := by
  unfold H1 pad1
  by_cases h : (1 ≤ p ∧ p ≤ 32) ∧ (1 ≤ q ∧ q ≤ 32)
  · rw [if_pos (by omega), if_pos h, v50_at]
    refine congrArg (fun s => max (s + a (ix1 o)) 0) (Finset.sum_congr rfl fun t _ => ?_)
    rw [v47_at]
    refine congrArg (· * _) ?_
    have e : ((fin 65536 (T * 16384 + (fin 16384 (b * 1024 + (p + 3 - 4) * 32 + (q + 3 - 4))).val)).val) = T * 16384 + b * 1024 + (p - 1) * 32 + (q - 1) := by
      show (T * 16384 + (b * 1024 + (p + 3 - 4) * 32 + (q + 3 - 4)) % 16384) % 65536 = _
      omega
    refine (X46_at A _ t).trans (xpad_congr A ?_ ?_ ?_)
    · exact congrArg (fin 64) (by show (fin 65536 (T * 16384 + (fin 16384 (b * 1024 + (p + 3 - 4) * 32 + (q + 3 - 4))).val)).val / 1024 = _; rw [e]; omega)
    · show 2 * ((fin 65536 (T * 16384 + (fin 16384 (b * 1024 + (p + 3 - 4) * 32 + (q + 3 - 4))).val)).val / 32 % 32) + _ = _
      rw [e]; omega
    · show 2 * ((fin 65536 (T * 16384 + (fin 16384 (b * 1024 + (p + 3 - 4) * 32 + (q + 3 - 4))).val)).val % 32) + _ = _
      rw [e]; omega
  · rw [if_neg (by omega), if_neg h]

/-- The second layer, its border one wider than the reference's. -/
theorem layer2 (h : ℕ → ℕ → ℕ → Fin 64 → EReal) (g : Fin 64 → ℕ → ℕ → Fin 64 → EReal) (b : ℕ) (B : Fin 64)
    (hg : ∀ p q o, h b (p + 3) (q + 3) o = g B p q o) (w : Vec Ideal S4x4x64x128 .f32) (a : Vec Ideal S128 .f32) (p q : ℕ) (o : Fin 128) :
    H2 h (shapeCast S16x64x128 w shapeCasts_S4x4x64x128_S16x64x128) (shapeCast S1x128 a shapeCasts_S128_S1x128) b (p + 1) (q + 1) o =
      pad2 g w a B p q o := by
  unfold H2 pad2
  by_cases h' : (1 ≤ p ∧ p ≤ 16) ∧ (1 ≤ q ∧ q ≤ 16)
  · rw [if_pos (by omega), if_pos h', v51_at]
    refine congrArg (fun s => max (s + a (ix1 o)) 0) (Finset.sum_congr rfl fun t _ => Finset.sum_congr rfl fun c _ => ?_)
    rw [v48_at, hg, show p + 1 - 2 = p - 1 by omega, show q + 1 - 2 = q - 1 by omega]
  · rw [if_neg (by omega), if_neg h']

/-- The third layer. -/
theorem layer3 (h : ℕ → ℕ → ℕ → Fin 128 → EReal) (g : Fin 64 → ℕ → ℕ → Fin 128 → EReal) (b : ℕ) (B : Fin 64)
    (hg : ∀ p q o, h b (p + 1) (q + 1) o = g B p q o) (w : Vec Ideal S4x4x128x256 .f32) (a : Vec Ideal S256 .f32) (p q : ℕ) (o : Fin 256) :
    H3 h (shapeCast S16x128x256 w shapeCasts_S4x4x128x256_S16x128x256) (shapeCast S1x256 a shapeCasts_S256_S1x256) b p q o =
      out3 g w a B p q o := by
  unfold H3 out3
  rw [v52_at]
  refine congrArg (fun s => max (s + a (ix1 o)) 0) (Finset.sum_congr rfl fun t _ => Finset.sum_congr rfl fun c _ => ?_)
  rw [v49_at, hg]

variable (m : (ℓ : Loc nD τ sig) → Buf (Elt Ideal) ℓ) (c : Dev nD)

/-- The encoder's result is the three layers of its arguments. -/
theorem res_eq : Res m c = fun i : S4096x256.Idx =>
    out3 (pad2 (pad1 (m ((c : Thread nD τ).loc main_arg0)) (m ((c : Thread nD τ).loc main_arg1)) (m ((c : Thread nD τ).loc main_arg2)))
        (m ((c : Thread nD τ).loc main_arg3)) (m ((c : Thread nD τ).loc main_arg4)))
      (m ((c : Thread nD τ).loc main_arg5)) (m ((c : Thread nD τ).loc main_arg6)) (fin 64 ((i 0).val / 64)) ((i 0).val / 8 % 8) ((i 0).val % 8) (i 1) := by
  funext i
  unfold Res
  rw [Vd_v46, Vd_v47, Vd_v48, Vd_v49, Vd_v50, Vd_v51, Vd_v52]
  have hr : (i 0).val < 4096 := (i 0).isLt
  refine (layer3 _ _ ((i 0).val % 1024 / 64) _ (fun p q o => layer2 _ _ _ _ (fun p q o => layer1 _ _ _ ((i 0).val / 1024) ((i 0).val % 1024 / 64) p q
    (by omega) (by omega) o) _ _ p q o) _ _ _ _ _).trans ?_
  rw [show (i 0).val / 1024 * 16 + (i 0).val % 1024 / 64 = (i 0).val / 64 by omega, show (i 0).val % 1024 / 8 % 8 = (i 0).val / 8 % 8 by omega,
    show (i 0).val % 1024 % 8 = (i 0).val % 8 by omega]

end Cert.KernelIdeal.EV
end
-- ==== Proof.T.KHost.lean ====
module

public import proofs.«01_k».proof.Proof.KI.Run
public import proofs.«01_k».proof.Proof.EK.Eq
public import proofs.«01_k».proof.Proof.EK.Pts
public import proofs.«01_k».proof.Proof.T.Spec
public import Idealize.ShloMosaic.PureOps.Ideal.Laws
public import Idealize.ShloMosaic.Lib.Pointwise

@[expose] public section

set_option maxRecDepth 16384

noncomputable section

/-! # What the second call finds in its operands -/

namespace Cert.KernelIdeal.Dec

open Cert.KernelIdeal Cert.KernelIdeal.Gen Cert.KernelIdeal.Run Idealize.ShloMosaic Idealize.ShloMosaic.TcCoe Idealize.SL.Sem Idealize.ShloMosaic.StableHlo

variable (m : (ℓ : Loc nD τ sig) → Buf (Elt Ideal) ℓ) (c : Dev nD)

/-- An argument is still there after the first call. -/
theorem V10_arg (r : Ref sig .tc)
    (h : r ∉ hostOps0_W ∧ r ∉ hostOps0_1_W ∧ r ∉ hostOps0_2_W ∧ r ∉ hostOps0_3_W ∧ r ∉ hostOps0_4_W ∧ r ∉ hostOps0_5_W ∧ r ∉ hostOps0_6_W
      ∧ r ∉ hostOps0_7_W ∧ r ∉ hostOps0_8_W ∧ r ∉ ([main_v53] : List (Ref sig .tc))) :
    V10 m (outs1 m) c r = m ((c : Thread nD τ).loc r) := by
  obtain ⟨h0, h1, h2, h3, h4, h5, h6, h7, h8, h9⟩ := h
  rw [V10_of m (outs1 m) c r h9, V9_of m c r h8, V8_of m c r h7, V7_of m c r h6, V6_of m c r h5, V5_of m c r h4, V4_of m c r h3,
    V3_of m c r h2, V2_of m c r h1, V1_of m c r h0]

theorem V12_arg (r : Ref sig .tc) (h : r ∉ hostOps1_W ∧ r ∉ hostOps1_1_W)
    (h' : r ∉ hostOps0_W ∧ r ∉ hostOps0_1_W ∧ r ∉ hostOps0_2_W ∧ r ∉ hostOps0_3_W ∧ r ∉ hostOps0_4_W ∧ r ∉ hostOps0_5_W ∧ r ∉ hostOps0_6_W
      ∧ r ∉ hostOps0_7_W ∧ r ∉ hostOps0_8_W ∧ r ∉ ([main_v53] : List (Ref sig .tc))) :
    V12 m (outs1 m) c r = m ((c : Thread nD τ).loc r) := by
  rw [V12_of m (outs1 m) c r h.2, V11_of m (outs1 m) c r h.1, V10_arg m c r h']

theorem Vm_arg (r : Ref sig .tc) (h : r ∉ hostOps1_W ∧ r ∉ hostOps1_1_W) (h2 : r ∉ hostOps1_2_W)
    (h' : r ∉ hostOps0_W ∧ r ∉ hostOps0_1_W ∧ r ∉ hostOps0_2_W ∧ r ∉ hostOps0_3_W ∧ r ∉ hostOps0_4_W ∧ r ∉ hostOps0_5_W ∧ r ∉ hostOps0_6_W
      ∧ r ∉ hostOps0_7_W ∧ r ∉ hostOps0_8_W ∧ r ∉ ([main_v53] : List (Ref sig .tc))) :
    Vm m c r = m ((c : Thread nD τ).loc r) := by
  refine (V13_of m (outs1 m) c r h2).trans (V12_arg m c r h h')

/-- The first call's result. -/
theorem V12_v53 : V12 m (outs1 m) c main_v53 = EV.Res m c := by
  rw [V12_of m (outs1 m) c main_v53 (by decide), V11_of m (outs1 m) c main_v53 (by decide),
    show V10 m (outs1 m) c main_v53 = outs1 m 10 main_v53 c from Function.update_self _ _ _]
  exact (Pipeline.afterRegion_arr (Enc.dats m c) (V9 m c) launch0.win.arr_inj 7).trans (EV.result m c)

/-! ## As array expressions -/

theorem Vm_v54 : Vm m c main_v54 = shapeCast S64x1024x256 (m ((c : Thread nD τ).loc main_arg14)) shapeCasts_S8x8x1024x256_S64x1024x256 := by
  refine (V13_of m (outs1 m) c main_v54 (by decide)).trans ((V12_of m (outs1 m) c main_v54 (by decide)).trans ?_)
  rw [← V10_arg m c main_arg14 (by decide)]
  show after hostOps1 (V10 m (outs1 m) c) (Proc.devRef .tc main_v54) = _
  after_results
  rfl

theorem Vm_v55 : Vm m c main_v55 = shapeCast S1x256 (m ((c : Thread nD τ).loc main_arg15)) shapeCasts_S256_S1x256 := by
  refine (V13_of m (outs1 m) c main_v55 (by decide)).trans ((V12_of m (outs1 m) c main_v55 (by decide)).trans ?_)
  rw [← V10_arg m c main_arg15 (by decide)]
  show after hostOps1 (V10 m (outs1 m) c) (Proc.devRef .tc main_v55) = _
  after_results
  rfl

theorem Vm_v57 : Vm m c main_v57 = shapeCast S256x2048 (transpose S256x4x4x128 [2, 0, 1, 3] (m ((c : Thread nD τ).loc main_arg16)) transposes_S4x4x256x128_S256x4x4x128_2_0_1_3) shapeCasts_S256x4x4x128_S256x2048 := by
  refine (V13_of m (outs1 m) c main_v57 (by decide)).trans ((V12_of m (outs1 m) c main_v57 (by decide)).trans ?_)
  rw [← V10_arg m c main_arg16 (by decide)]
  show after hostOps1 (V10 m (outs1 m) c) (Proc.devRef .tc main_v57) = _
  after_results
  rfl

theorem Vm_v61 : Vm m c main_v61 = shapeCast S1x2048 (shapeCast S2048 (broadcastInDim S16x128 ![0, 1] bcast_S1x128_S16x128_0_1 (shapeCast S1x128 (m ((c : Thread nD τ).loc main_arg17)) shapeCasts_S128_S1x128)) shapeCasts_S16x128_S2048) shapeCasts_S2048_S1x2048 := by
  refine (V13_of m (outs1 m) c main_v61 (by decide)).trans ((V12_of m (outs1 m) c main_v61 (by decide)).trans ?_)
  rw [← V10_arg m c main_arg17 (by decide)]
  show after hostOps1 (V10 m (outs1 m) c) (Proc.devRef .tc main_v61) = _
  after_results
  rfl

theorem V11_v67 : V11 m (outs1 m) c main_v67
    = uitofp (F := Ideal) .f32 (cmpi .eq (addi (iotaInDim S16x16 32 0) (broadcastInDim S16x16 ![] bcast_S_S16x16 (constantI S_ 32 0#32))) (iotaInDim S16x16 32 1)) := by
  show after hostOps1 (V10 m (outs1 m) c) (Proc.devRef .tc main_v67) = _
  after_results

theorem V11_v69 : V11 m (outs1 m) c main_v69
    = shapeCast S128x4 (transpose S128x2x2x1 [2, 0, 1, 3] (m ((c : Thread nD τ).loc main_arg18)) transposes_S2x2x128x1_S128x2x2x1_2_0_1_3) shapeCasts_S128x2x2x1_S128x4 := by
  rw [← V10_arg m c main_arg18 (by decide)]
  show after hostOps1 (V10 m (outs1 m) c) (Proc.devRef .tc main_v69) = _
  after_results
  rfl

/-- The block-diagonal filters, from the unit matrix and the filters side by side. -/
def kronV (x : FVec Ideal S16x16 .f32) (y : FVec Ideal S128x4 .f32) : FVec Ideal S2048x64 .f32 :=
  shapeCast S2048x64 (mulf (F := Ideal) (φ := .f32)
    (broadcastInDim S16x128x16x4 ![0, 1, 2, 3] bcast_S16x1x16x1_S16x128x16x4_0_1_2_3 (broadcastInDim S16x1x16x1 ![0, 2] bcast_S16x16_S16x1x16x1_0_2 x))
    (broadcastInDim S16x128x16x4 ![0, 1, 2, 3] bcast_S1x128x1x4_S16x128x16x4_0_1_2_3 (broadcastInDim S1x128x1x4 ![1, 3] bcast_S128x4_S1x128x1x4_1_3 y))) shapeCasts_S16x128x16x4_S2048x64

theorem Vm_v70 : Vm m c main_v70 = kronV (uitofp (F := Ideal) .f32 (cmpi .eq (addi (iotaInDim S16x16 32 0) (broadcastInDim S16x16 ![] bcast_S_S16x16 (constantI S_ 32 0#32))) (iotaInDim S16x16 32 1)))
    (shapeCast S128x4 (transpose S128x2x2x1 [2, 0, 1, 3] (m ((c : Thread nD τ).loc main_arg18)) transposes_S2x2x128x1_S128x2x2x1_2_0_1_3) shapeCasts_S128x2x2x1_S128x4) := by
  refine (V13_of m (outs1 m) c main_v70 (by decide)).trans ?_
  rw [← V11_v67 m c, ← V11_v69 m c]
  show after hostOps1_1 (V11 m (outs1 m) c) (Proc.devRef .tc main_v70) = _
  after_results
  rfl

theorem Vm_v74 : Vm m c main_v74 = shapeCast S1x64 (shapeCast S64 (broadcastInDim S64x1 ![0, 1] bcast_S1x1_S64x1_0_1 (shapeCast S1x1 (m ((c : Thread nD τ).loc main_arg19)) shapeCasts_S1_S1x1)) shapeCasts_S64x1_S64) shapeCasts_S64_S1x64 := by
  rw [← V12_arg m c main_arg19 (by decide) (by decide)]
  show after hostOps1_2 (V12 m (outs1 m) c) (Proc.devRef .tc main_v74) = _
  after_results
  rfl

theorem Vm_v75 : Vm m c main_v75 = shapeCast S64x16384 (EV.Res m c) shapeCasts_S4096x256_S64x16384 := by
  rw [← V12_v53 m c]
  show after hostOps1_2 (V12 m (outs1 m) c) (Proc.devRef .tc main_v75) = _
  after_results
  rfl

theorem Vm_v78 : Vm m c main_v78 = mulf (F := Ideal) (φ := .f32) (broadcastInDim S64x512 ![] bcast_S_S64x512 (constant (F := Ideal) S_ .f32 0xC0000000#32)) (transpose S64x512 [1, 0] (m ((c : Thread nD τ).loc main_arg11)) transposes_S512x64_S64x512_1_0) := by
  rw [← V12_arg m c main_arg11 (by decide) (by decide)]
  show after hostOps1_2 (V12 m (outs1 m) c) (Proc.devRef .tc main_v78) = _
  after_results

theorem Vm_v79 : Vm m c main_v79 = shapeCast S1x1024 (m ((c : Thread nD τ).loc main_arg8)) shapeCasts_S1024_S1x1024 := by
  rw [← V12_arg m c main_arg8 (by decide) (by decide)]
  show after hostOps1_2 (V12 m (outs1 m) c) (Proc.devRef .tc main_v79) = _
  after_results
  rfl

theorem Vm_v80 : Vm m c main_v80 = shapeCast S1x2048 (m ((c : Thread nD τ).loc main_arg10)) shapeCasts_S2048_S1x2048 := by
  rw [← V12_arg m c main_arg10 (by decide) (by decide)]
  show after hostOps1_2 (V12 m (outs1 m) c) (Proc.devRef .tc main_v80) = _
  after_results
  rfl

theorem Vm_v81 : Vm m c main_v81 = shapeCast S1x1024 (m ((c : Thread nD τ).loc main_arg13)) shapeCasts_S1024_S1x1024 := by
  rw [← V12_arg m c main_arg13 (by decide) (by decide)]
  show after hostOps1_2 (V12 m (outs1 m) c) (Proc.devRef .tc main_v81) = _
  after_results
  rfl

/-! ## At an index -/

theorem flat_v54 (K : FVec Ideal S8x8x1024x256 .f32) (p : Fin 64) (k : Fin 1024) (o : Fin 256) :
    shapeCast S64x1024x256 K shapeCasts_S8x8x1024x256_S64x1024x256 (ix3 p k o) = K (ix4 ⟨p.val / 8, by omega⟩ ⟨p.val % 8, by omega⟩ k o) := by
  pointwise

theorem flat_v57 (K : FVec Ideal S4x4x256x128 .f32) (k : Fin 256) (q : Fin 2048) :
    shapeCast S256x2048 (transpose S256x4x4x128 [2, 0, 1, 3] K transposes_S4x4x256x128_S256x4x4x128_2_0_1_3) shapeCasts_S256x4x4x128_S256x2048 (ix2 k q)
      = K (ix4 ⟨q.val / 512, by omega⟩ ⟨q.val / 128 % 4, by omega⟩ k ⟨q.val % 128, by omega⟩) := by
  pointwise

theorem flat_v61 (a : FVec Ideal S128 .f32) (q : Fin 2048) :
    shapeCast S1x2048 (shapeCast S2048 (broadcastInDim S16x128 ![0, 1] bcast_S1x128_S16x128_0_1 (shapeCast S1x128 a shapeCasts_S128_S1x128)) shapeCasts_S16x128_S2048) shapeCasts_S2048_S1x2048 (ix2 0 q) = a (ix1 ⟨q.val % 128, by omega⟩) := by
  pointwise

theorem flat_v74 (a : FVec Ideal S1 .f32) (q : Fin 64) :
    shapeCast S1x64 (shapeCast S64 (broadcastInDim S64x1 ![0, 1] bcast_S1x1_S64x1_0_1 (shapeCast S1x1 a shapeCasts_S1_S1x1)) shapeCasts_S64x1_S64) shapeCasts_S64_S1x64 (ix2 0 q) = a (ix1 0) := by
  pointwise

theorem flat_v75 (R : FVec Ideal S4096x256 .f32) (b : Fin 64) (q : Fin 16384) :
    shapeCast S64x16384 R shapeCasts_S4096x256_S64x16384 (ix2 b q) = R (ix2 ⟨b.val * 64 + q.val / 256, by omega⟩ ⟨q.val % 256, by omega⟩) := by
  pointwise

theorem flat_v78 (e : FVec Ideal S512x64 .f32) (k : Fin 64) (r : Fin 512) :
    mulf (F := Ideal) (φ := .f32) (broadcastInDim S64x512 ![] bcast_S_S64x512 (constant (F := Ideal) S_ .f32 0xC0000000#32)) (transpose S64x512 [1, 0] e transposes_S512x64_S64x512_1_0) (ix2 k r) = Ideal.ofBits .f32 0xC0000000#32 * e (ix2 r k) := by
  pointwise

theorem flat_a256 (a : FVec Ideal S256 .f32) (q : Fin 256) : shapeCast S1x256 a shapeCasts_S256_S1x256 (ix2 0 q) = a (ix1 q) := by
  pointwise

theorem flat_a1024 (a : FVec Ideal S1024 .f32) (q : Fin 1024) : shapeCast S1x1024 a shapeCasts_S1024_S1x1024 (ix2 0 q) = a (ix1 q) := by
  pointwise

theorem flat_a2048 (a : FVec Ideal S2048 .f32) (q : Fin 2048) : shapeCast S1x2048 a shapeCasts_S2048_S1x2048 (ix2 0 q) = a (ix1 q) := by
  pointwise

theorem kronV_at (x : FVec Ideal S16x16 .f32) (y : FVec Ideal S128x4 .f32) (q : Fin 2048) (s : Fin 64) :
    kronV x y (ix2 q s) = x (ix2 ⟨q.val / 128, by omega⟩ ⟨s.val / 4, by omega⟩) * y (ix2 ⟨q.val % 128, by omega⟩ ⟨s.val % 4, by omega⟩) := by
  unfold kronV
  pointwise

theorem side_at (K : FVec Ideal S2x2x128x1 .f32) (k : Fin 128) (s : Fin 4) :
    shapeCast S128x4 (transpose S128x2x2x1 [2, 0, 1, 3] K transposes_S2x2x128x1_S128x2x2x1_2_0_1_3) shapeCasts_S128x2x2x1_S128x4 (ix2 k s) = K (ix4 ⟨s.val / 2, by omega⟩ ⟨s.val % 2, by omega⟩ k 0) := by
  pointwise

theorem same_word : ∀ q r : Fin 16,
    IntOp.cmpi CmpIPredicate.eq (IntOp.addi (BitVec.ofNat 32 q.val) 0#32) (BitVec.ofNat 32 r.val) = if q = r then 1#1 else 0#1 := by decide

theorem one_word_real : (FloatOps.uitofp FTy.f32 (1#1) : Ideal .f32) = (1 : EReal) := by
  show (((1#1 : BitVec 1).toNat : ℝ) : EReal) = 1
  norm_num

theorem zero_word_real : (FloatOps.uitofp FTy.f32 (0#1) : Ideal .f32) = (0 : EReal) := by
  show (((0#1 : BitVec 1).toNat : ℝ) : EReal) = 0
  norm_num

/-- The unit matrix of order sixteen. -/
theorem eye_at (q r : Fin 16) :
    uitofp (F := Ideal) .f32 (cmpi .eq (addi (iotaInDim S16x16 32 0) (broadcastInDim S16x16 ![] bcast_S_S16x16 (constantI S_ 32 0#32))) (iotaInDim S16x16 32 1)) (ix2 q r) = if q = r then (1 : EReal) else 0 := by
  pointwise
  rw [same_word q r]
  split
  · exact one_word_real
  · exact zero_word_real

end Cert.KernelIdeal.Dec
end
-- ==== Proof.T.KVal.lean ====
module

public import proofs.«01_k».proof.Proof.T.Acc
public import proofs.«01_k».proof.Proof.T.KHost

@[expose] public section

set_option maxRecDepth 16384

noncomputable section

/-! # The kernel's result at an index -/

namespace Cert.KernelIdeal.Dec

open Cert.KernelIdeal Cert.KernelIdeal.Gen Cert.KernelIdeal.Run Idealize.ShloMosaic Idealize.ShloMosaic.TcCoe Idealize.SL.Sem Idealize.ShloMosaic.StableHlo
open Cert.KernelIdeal.EV (fin)
open Cert.RefRevIdeal.EV (pad1 pad2 out3)

/-- The encoder's result, an image a row. -/
def enc (x : S64x64x64.Idx → EReal) (w1 : S4x4x1x64.Idx → EReal) (a1 : S64.Idx → EReal) (w2 : S4x4x64x128.Idx → EReal) (a2 : S128.Idx → EReal)
    (w3 : S4x4x128x256.Idx → EReal) (a3 : S256.Idx → EReal) (b : Fin 64) (q : Fin 16384) : EReal :=
  out3 (pad2 (pad1 x w1 a1) w2 a2) w3 a3 b (q.val / 2048) (q.val / 256 % 8) ⟨q.val % 256, by omega⟩

/-- The kernel's measure of the distance of latent vector `l` of image `b` from row `k` of the codebook. -/
def score (p : Fin 64 → Fin 2048 → EReal) (e : S512x64.Idx → EReal) (b : Fin 64) (l : Fin 32) (k : Fin 512) : EReal :=
  Ideal.ofBits .f32 0x3E800000#32 * (∑ c : Fin 64, (Ideal.ofBits .f32 0xC0000000#32 * e (ix2 k c)) * (Ideal.ofBits .f32 0xC0000000#32 * e (ix2 k c)))
    + ∑ c : Fin 64, p b ⟨64 * l.val + c.val, by omega⟩ * (Ideal.ofBits .f32 0xC0000000#32 * e (ix2 k c))

/-- The latent vectors, each replaced by the row the kernel's measure names. -/
def pick (p : Fin 64 → Fin 2048 → EReal) (e : S512x64.Idx → EReal) (b : Fin 64) (q : Fin 2048) : EReal :=
  e (ix2 (row fun k => score p e b ⟨q.val / 64, by omega⟩ k) ⟨q.val % 64, by omega⟩)

theorem img2_split (t : Fin 64 → Fin 8 → Fin 8 → Fin 256 → EReal) (K : S4x4x256x128.Idx → EReal) (a : S128.Idx → EReal) (b : Fin 64) (i j : Fin 32) (o : Fin 128)
    (x y : Fin 8) (u v : Fin 4) (hi : i.val = 4 * x.val + u.val) (hj : j.val = 4 * y.val + v.val) :
    img2 t K a b i j o = max ((∑ k : Fin 256, t b x y k * K (ix4 u v k o)) + a (ix1 o)) 0 := by
  have h1 : (⟨i.val / 4, by omega⟩ : Fin 8) = x := Fin.ext (by show i.val / 4 = x.val; omega)
  have h2 : (⟨j.val / 4, by omega⟩ : Fin 8) = y := Fin.ext (by show j.val / 4 = y.val; omega)
  have h3 : (⟨i.val % 4, by omega⟩ : Fin 4) = u := Fin.ext (by show i.val % 4 = u.val; omega)
  have h4 : (⟨j.val % 4, by omega⟩ : Fin 4) = v := Fin.ext (by show j.val % 4 = v.val; omega)
  unfold img2
  rw [h1, h2, h3, h4]

theorem img3_split (t : Fin 64 → Fin 32 → Fin 32 → Fin 128 → EReal) (K : S2x2x128x1.Idx → EReal) (a : S1.Idx → EReal) (b : Fin 64) (i j : Fin 64)
    (x y : Fin 32) (u v : Fin 2) (hi : i.val = 2 * x.val + u.val) (hj : j.val = 2 * y.val + v.val) :
    img3 t K a b i j = (∑ k : Fin 128, t b x y k * K (ix4 u v k 0)) + a (ix1 0) := by
  have h1 : (⟨i.val / 2, by omega⟩ : Fin 32) = x := Fin.ext (by show i.val / 2 = x.val; omega)
  have h2 : (⟨j.val / 2, by omega⟩ : Fin 32) = y := Fin.ext (by show j.val / 2 = y.val; omega)
  have h3 : (⟨i.val % 2, by omega⟩ : Fin 2) = u := Fin.ext (by show i.val % 2 = u.val; omega)
  have h4 : (⟨j.val % 2, by omega⟩ : Fin 2) = v := Fin.ext (by show j.val % 2 = v.val; omega)
  unfold img3
  rw [h1, h2, h3, h4]

variable (m : (ℓ : Loc nD τ sig) → Buf (Elt Ideal) ℓ) (c : Dev nD)

/-- The encoder's result of the arguments. -/
def encM : Fin 64 → Fin 16384 → EReal :=
  enc (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The latent vectors of the arguments. -/
def latM : Fin 64 → Fin 2048 → EReal :=
  lat (hid (encM m c) (m ((c : Thread nD τ).loc main_arg7)) (m ((c : Thread nD τ).loc main_arg8))) (m ((c : Thread nD τ).loc main_arg9)) (m ((c : Thread nD τ).loc main_arg10))

/-- The decoder's dense layer of the arguments, of its input `x`. -/
def denM (x : Fin 64 → Fin 2048 → EReal) : Fin 64 → Fin 1024 → EReal :=
  dense x (m ((c : Thread nD τ).loc main_arg12)) (m ((c : Thread nD τ).loc main_arg13))

/-- The first image. -/
def im1M (x : Fin 64 → Fin 2048 → EReal) : Fin 64 → Fin 8 → Fin 8 → Fin 256 → EReal :=
  img1 (denM m c x) (m ((c : Thread nD τ).loc main_arg14)) (m ((c : Thread nD τ).loc main_arg15))

/-- The second image. -/
def im2M (x : Fin 64 → Fin 2048 → EReal) : Fin 64 → Fin 32 → Fin 32 → Fin 128 → EReal :=
  img2 (im1M m c x) (m ((c : Thread nD τ).loc main_arg16)) (m ((c : Thread nD τ).loc main_arg17))

/-- The third image. -/
def im3M (x : Fin 64 → Fin 2048 → EReal) : Fin 64 → Fin 64 → Fin 64 → EReal :=
  img3 (im2M m c x) (m ((c : Thread nD τ).loc main_arg18)) (m ((c : Thread nD τ).loc main_arg19))

/-- The second call's first operand. -/
theorem opA_at (b : Fin 64) (q : Fin 16384) : opA (Vm m) c (ix2 b q) = encM m c b q := by
  refine (congrFun (Vm_v75 m c) _).trans ((flat_v75 _ b q).trans ?_)
  rw [EV.res_eq]
  unfold encM enc
  have h0 : fin 64 ((b.val * 64 + q.val / 256) / 64) = b := Fin.ext (by show (b.val * 64 + q.val / 256) / 64 % 64 = b.val; omega)
  have h1 : (b.val * 64 + q.val / 256) / 8 % 8 = q.val / 2048 := by omega
  have h2 : (b.val * 64 + q.val / 256) % 8 = q.val / 256 % 8 := by omega
  show out3 _ _ _ (fin 64 ((b.val * 64 + q.val / 256) / 64)) ((b.val * 64 + q.val / 256) / 8 % 8) ((b.val * 64 + q.val / 256) % 8) _ = _
  rw [h0, h1, h2]
  rfl

theorem opW_eq : opW (Vm m) c = m ((c : Thread nD τ).loc main_arg7) := Vm_arg m c main_arg7 (by decide) (by decide) (by decide)

/-- The running sum after the eighth block, with the bias and clipped, is the first dense layer. -/
theorem hid_at (b : Fin 64) (o : Fin 1024) :
    max ((Mega.accAt (Vm m) c 7 (ix2 b o) : EReal) + (m ((c : Thread nD τ).loc main_arg8) : S1024.Idx → EReal) (ix1 o)) 0
      = hid (encM m c) (m ((c : Thread nD τ).loc main_arg7)) (m ((c : Thread nD τ).loc main_arg8)) b o := by
  unfold hid
  rw [acc_all, opW_eq]
  simp only [opA_at]

/-- The latent vectors in the kernel. -/
theorem lat_at (b : Fin 64) (q : Fin 2048) :
    k1_pay7 (F := Ideal) (Mega.accAt (Vm m) c 7) (shapeCast S1x1024 (m ((c : Thread nD τ).loc main_arg8)) shapeCasts_S1024_S1x1024) (m ((c : Thread nD τ).loc main_arg9))
      (shapeCast S1x2048 (m ((c : Thread nD τ).loc main_arg10)) shapeCasts_S2048_S1x2048) (ix2 b q) = latM m c b q := by
  refine (pay7_at _ _ _ _ b q).trans ?_
  unfold latM lat
  refine congrArg (fun z : EReal => max z 0) (congrArg₂ (fun u v : EReal => u + v) (Finset.sum_congr rfl fun k _ => ?_) (flat_a2048 _ q))
  refine congrArg (fun z : EReal => z * _) ?_
  refine Eq.trans ?_ (hid_at m c b k)
  exact congrArg (fun z : EReal => max (_ + z) 0) (flat_a1024 _ k)

/-- The decoder's input in the kernel. -/
theorem pick_at (b : Fin 64) (q : Fin 2048) (e : FVec Ideal S512x64 .f32) (P : FVec Ideal S64x2048 .f32) (p : Fin 64 → Fin 2048 → EReal) (hp : ∀ b q, P (ix2 b q) = p b q)
    (E : FVec Ideal S64x512 .f32) (hE : ∀ k r, E (ix2 k r) = Ideal.ofBits .f32 0xC0000000#32 * e (ix2 r k)) :
    flatV P e (k1_pay8 E) (k1_pay9 E) (ix2 b q) = pick p e b q := by
  refine (flatV_row P e (k1_pay8 E) (k1_pay9 E) b q).trans ?_
  unfold pick score
  refine congrArg (fun f : Fin 512 → EReal => e (ix2 (row f) ⟨q.val % 64, Nat.mod_lt _ (by decide)⟩)) (funext fun k => ?_)
  refine congrArg₂ (fun u v : EReal => u + v) ?_ (Finset.sum_congr rfl fun x _ => ?_)
  · refine (pay9_at E k).trans ?_
    simp only [hE]
  · rw [pay8_at, hp, hE]

/-- The decoder's dense layer in the kernel. -/
theorem dV_at (b : Fin 64) (o : Fin 1024) :
    (Mega.dV (Vm m) c (ix2 b o) : EReal) = denM m c (pick (latM m c) (m ((c : Thread nD τ).loc main_arg11))) b o := by
  rw [dV_eq, blk_2, blk_3, blk_4, blk_5, blk_6, blk_7, blk_8, Vm_v79, Vm_v80, Vm_v78, Vm_v81,
    Vm_arg m c main_arg9 (by decide) (by decide) (by decide), Vm_arg m c main_arg11 (by decide) (by decide) (by decide),
    Vm_arg m c main_arg12 (by decide) (by decide) (by decide)]
  refine (pay3_at _ _ _ b o).trans ?_
  unfold denM dense
  refine congrArg (fun z : EReal => max z 0) (congrArg₂ (fun u v : EReal => u + v) (Finset.sum_congr rfl fun k _ => ?_) (flat_a1024 _ o))
  exact congrArg (fun z : EReal => z * _) (pick_at b k _ _ (latM m c) (fun b q => lat_at m c b q) _ (fun k r => flat_v78 _ k r))

end Cert.KernelIdeal.Dec
end
-- ==== Proof.T.KOut.lean ====
module

public import proofs.«01_k».proof.Proof.T.KVal

@[expose] public section

set_option maxRecDepth 16384

noncomputable section

/-! # The kernel's images at an index -/

namespace Cert.KernelIdeal.Dec

open Cert.KernelIdeal Cert.KernelIdeal.Gen Cert.KernelIdeal.Run Idealize.ShloMosaic Idealize.ShloMosaic.TcCoe Idealize.SL.Sem Idealize.ShloMosaic.StableHlo

variable (m : (ℓ : Loc nD τ sig) → Buf (Elt Ideal) ℓ) (c : Dev nD)

/-- The decoder's input in the kernel, of the arguments. -/
def pickM : Fin 64 → Fin 2048 → EReal := pick (latM m c) (m ((c : Thread nD τ).loc main_arg11))

/-- The first image in the kernel: position `8 * i + j` of image `b` is row `64 * (8 * i + j) + b`. -/
theorem t1V_at (R : Fin 4096) (o : Fin 256) (b : Fin 64) (i j : Fin 8) (hR : R.val = 64 * (8 * i.val + j.val) + b.val) :
    (Mega.t1V (Vm m) c (ix2 R o) : EReal) = im1M m c (pickM m c) b i j o := by
  have hw : R.val / 256 < 16 := by omega
  have hb : (⟨R.val % 64, Nat.mod_lt _ (by decide)⟩ : Fin 64) = b := Fin.ext (by show R.val % 64 = b.val; omega)
  show Mega.band (F := Ideal) (Mega.dV (Vm m) c) (Mega.iblk (Vm m) c 9 (Mega.pt (9 + R.val / 256))) (Mega.iblk (Vm m) c 10 (Mega.pt (9 + R.val / 256)))
    ⟨R.val / 64 % 4, Nat.mod_lt _ (by decide)⟩ (ix2 (n0 := 64) (n1 := 256) ⟨R.val % 64, Nat.mod_lt _ (by decide)⟩ o) = _
  rw [hb, blk_10, Vm_v55]
  refine (band_at _ _ _ _ b o).trans ?_
  unfold im1M img1
  refine congrArg (fun z : EReal => max z 0) (congrArg₂ (fun u v : EReal => u + v) (Finset.sum_congr rfl fun k _ => ?_) (flat_a256 _ o))
  refine congrArg₂ (fun u v : EReal => u * v) (dV_at m c b k) ?_
  refine (blk_9 (Vm m) c ⟨R.val / 256, hw⟩ ⟨R.val / 64 % 4, Nat.mod_lt _ (by decide)⟩ k o).trans ?_
  rw [Vm_v54]
  refine (flat_v54 _ _ k o).trans ?_
  have h1 : (⟨(4 * (R.val / 256) + R.val / 64 % 4) / 8, by omega⟩ : Fin 8) = i := Fin.ext (by show (4 * (R.val / 256) + R.val / 64 % 4) / 8 = i.val; omega)
  have h2 : (⟨(4 * (R.val / 256) + R.val / 64 % 4) % 8, by omega⟩ : Fin 8) = j := Fin.ext (by show (4 * (R.val / 256) + R.val / 64 % 4) % 8 = j.val; omega)
  exact congrArg₂ (fun u v : Fin 8 => (m ((c : Thread nD τ).loc main_arg14) : S8x8x1024x256.Idx → EReal) (ix4 u v k o)) h1 h2

/-- The block-diagonal filters at an index. -/
theorem kron_at (K : FVec Ideal S2x2x128x1 .f32) (q : Fin 2048) (s : Fin 64) (w : Fin 16) (u v : Fin 2) (hs : s.val = 4 * w.val + 2 * u.val + v.val) :
    kronV (uitofp (F := Ideal) .f32 (cmpi .eq (addi (iotaInDim S16x16 32 0) (broadcastInDim S16x16 ![] bcast_S_S16x16 (constantI S_ 32 0#32))) (iotaInDim S16x16 32 1)))
      (shapeCast S128x4 (transpose S128x2x2x1 [2, 0, 1, 3] K transposes_S2x2x128x1_S128x2x2x1_2_0_1_3) shapeCasts_S128x2x2x1_S128x4) (ix2 q s)
      = (if (⟨q.val / 128, by omega⟩ : Fin 16) = w then (1 : EReal) else 0) * K (ix4 u v ⟨q.val % 128, by omega⟩ 0) := by
  have h1 : (⟨s.val / 4, by omega⟩ : Fin 16) = w := Fin.ext (by show s.val / 4 = w.val; omega)
  have h2 : (⟨s.val % 4 / 2, by omega⟩ : Fin 2) = u := Fin.ext (by show s.val % 4 / 2 = u.val; omega)
  have h3 : (⟨s.val % 4 % 2, by omega⟩ : Fin 2) = v := Fin.ext (by show s.val % 4 % 2 = v.val; omega)
  refine (kronV_at _ _ q s).trans ?_
  rw [eye_at, h1]
  refine congrArg (fun z : EReal => _ * z) ((side_at K _ _).trans ?_)
  exact congrArg₂ (fun u v : Fin 2 => K (ix4 u v ⟨q.val % 128, Nat.mod_lt _ (by decide)⟩ 0)) h2 h3

/-- What a point of the last stage leaves in its block. -/
theorem outV_at (t : Fin cfg1.N) (ht : 25 ≤ t.val) (r : Fin 512) (s : Fin 64) (b : Fin 64) (i j : Fin 8) (x y : Fin 4) (u v : Fin 2) (I J : Fin 64)
    (hr : 512 * (t.val - 25) + r.val = 64 * (8 * i.val + j.val) + b.val) (hs : s.val = 4 * (4 * x.val + y.val) + 2 * u.val + v.val)
    (hI : I.val = 8 * i.val + 2 * x.val + u.val) (hJ : J.val = 8 * j.val + 2 * y.val + v.val) :
    (Mega.outV (Vm m) c t (ix2 r s) : EReal) = Ideal.logistic (im3M m c (pickM m c) b I J) := by
  unfold Mega.outV
  rw [blk_11, blk_12, blk_13, blk_14, Vm_v57, Vm_v61, Vm_v70, Vm_v74]
  refine (pay6_at _ _ _ _ _ r s).trans (congrArg Ideal.logistic ?_)
  unfold im3M
  rw [img3_split _ _ _ b I J ⟨4 * i.val + x.val, by omega⟩ ⟨4 * j.val + y.val, by omega⟩ u v (by show I.val = 2 * (4 * i.val + x.val) + u.val; omega)
    (by show J.val = 2 * (4 * j.val + y.val) + v.val; omega)]
  refine congrArg₂ (fun u v : EReal => u + v) ?_ (flat_v74 _ s)
  have hw : 4 * x.val + y.val < 16 := by omega
  refine (Finset.sum_congr rfl fun q _ => congrArg (fun z : EReal => _ * z) (kron_at (m ((c : Thread nD τ).loc main_arg18)) q s ⟨4 * x.val + y.val, hw⟩ u v hs)).trans ?_
  refine (one_block _ (fun k => (m ((c : Thread nD τ).loc main_arg18) : S2x2x128x1.Idx → EReal) (ix4 u v k 0)) ⟨4 * x.val + y.val, hw⟩).trans ?_
  refine Finset.sum_congr rfl fun k _ => congrArg (fun z : EReal => z * _) ?_
  unfold im2M
  rw [img2_split _ _ _ b ⟨4 * i.val + x.val, by omega⟩ ⟨4 * j.val + y.val, by omega⟩ k i j x y rfl rfl]
  have h3 : (⟨(128 * (4 * x.val + y.val) + k.val) % 128, by omega⟩ : Fin 128) = k := Fin.ext (by show (128 * (4 * x.val + y.val) + k.val) % 128 = k.val; omega)
  refine congrArg (fun z : EReal => max z 0) (congrArg₂ (fun u v : EReal => u + v) (Finset.sum_congr rfl fun l _ => ?_)
    ((flat_v61 _ _).trans (congrArg (fun z => (m ((c : Thread nD τ).loc main_arg17) : S128.Idx → EReal) (ix1 z)) h3)))
  refine congrArg₂ (fun u v : EReal => u * v) ?_ ((flat_v57 _ l _).trans ?_)
  · exact t1V_at m c _ l b i j (by show (512 * (t.val - 25) + r.val) % 4096 = _; rw [hr]; omega)
  · have h1 : (⟨(128 * (4 * x.val + y.val) + k.val) / 512, by omega⟩ : Fin 4) = x := Fin.ext (by show (128 * (4 * x.val + y.val) + k.val) / 512 = x.val; omega)
    have h2 : (⟨(128 * (4 * x.val + y.val) + k.val) / 128 % 4, by omega⟩ : Fin 4) = y := Fin.ext (by show (128 * (4 * x.val + y.val) + k.val) / 128 % 4 = y.val; omega)
    show (m ((c : Thread nD τ).loc main_arg16) : S4x4x256x128.Idx → EReal) (ix4 ⟨(128 * (4 * x.val + y.val) + k.val) / 512, by omega⟩ ⟨(128 * (4 * x.val + y.val) + k.val) / 128 % 4, by omega⟩ l ⟨(128 * (4 * x.val + y.val) + k.val) % 128, by omega⟩) = _
    rw [h1, h2, h3]

/-- The second call's result, by row and column. -/
def Out : S4096x64.Idx → EReal := fun z =>
  Ideal.logistic (im3M m c (pickM m c) ⟨(z 0).val % 64, Nat.mod_lt _ (by decide)⟩
    ⟨8 * ((z 0).val / 512 % 8) + 2 * ((z 1).val / 16 % 4) + (z 1).val / 2 % 2, by omega⟩ ⟨8 * ((z 0).val / 64 % 8) + 2 * ((z 1).val / 4 % 4) + (z 1).val % 2, by omega⟩)

/-- What a point of the last stage leaves in its block is `Out` there. -/
theorem outV_out (t : Fin cfg1.N) (ht : 25 ≤ t.val) (y : S512x64.Idx) (z : S4096x64.Idx) (h0 : (z 0).val = 512 * (t.val - 25) + (y 0).val) (h1 : (z 1).val = (y 1).val) :
    Mega.outV (Vm m) c t y = Out m c z := by
  have hz0 : (z 0).val < 4096 := (z 0).isLt
  have hz1 : (z 1).val < 64 := (z 1).isLt
  have ey : y = ix2 (y 0) (y 1) := eq_ix2 y
  refine (congrArg (Mega.outV (Vm m) c t) ey).trans ?_
  refine outV_at m c t ht (y 0) (y 1) _ ⟨(z 0).val / 512 % 8, Nat.mod_lt _ (by decide)⟩ ⟨(z 0).val / 64 % 8, Nat.mod_lt _ (by decide)⟩
    ⟨(z 1).val / 16 % 4, Nat.mod_lt _ (by decide)⟩ ⟨(z 1).val / 4 % 4, Nat.mod_lt _ (by decide)⟩ ⟨(z 1).val / 2 % 2, Nat.mod_lt _ (by decide)⟩ ⟨(z 1).val % 2, Nat.mod_lt _ (by decide)⟩ _ _ ?_ ?_ ?_ ?_
  · show 512 * (t.val - 25) + (y 0).val = 64 * (8 * ((z 0).val / 512 % 8) + (z 0).val / 64 % 8) + (z 0).val % 64
    omega
  · show (y 1).val = 4 * (4 * ((z 1).val / 16 % 4) + (z 1).val / 4 % 4) + 2 * ((z 1).val / 2 % 2) + (z 1).val % 2
    omega
  · rfl
  · rfl

/-- The points that write a block back are the last eight. -/
theorem late : ∀ t : Fin cfg1.N, (cfg1.win 15).flush t → 25 ≤ t.val := by decide +kernel

/-- The second call's result array. -/
theorem call_out : V14 m (outs m) c main_v82 = Out m c := by
  rw [show V14 m (outs m) c main_v82 = outs m 14 main_v82 c from Function.update_self _ _ _, outs_14 m c]
  rw [show Pipeline.afterRegion (Mega.dats (Vm m) c) (Vm m c) (Proc.devRef .tc main_v82) = (Mega.dats (Vm m) c).arrAt 15 cfg1.N from
    Pipeline.afterRegion_arr (Mega.dats (Vm m) c) (Vm m c) launch1.win.arr_inj 15]
  refine Pipeline.Dat.arrAt_eq_of_covers (Mega.dats (Vm m) c) 15 (Out m c) (by decide +kernel) (fun t hf y => ?_) (harr := Memref.isWhole_whole _)
  rw [Mega.after1_15]
  have ht : 25 ≤ t.val := late t hf
  obtain ⟨h0, h1⟩ := rows_15 t ht y
  exact outV_out m c t ht y _ h0 h1

theorem Out_at (R : Fin 4096) (s : Fin 64) (b I J : Fin 64) (i j : Fin 8) (x y : Fin 4) (u v : Fin 2)
    (hr : R.val = i.val * 512 + j.val * 64 + b.val) (hs : s.val = x.val * 16 + y.val * 4 + u.val * 2 + v.val)
    (hI : I.val = 8 * i.val + 2 * x.val + u.val) (hJ : J.val = 8 * j.val + 2 * y.val + v.val) :
    Out m c (ix2 R s) = Ideal.logistic (im3M m c (pickM m c) b I J) := by
  have e0 : R.val % 64 = b.val := by omega
  have e1 : R.val / 512 % 8 = i.val := by
    have a1 : R.val / 512 = i.val := by omega
    rw [a1, Nat.mod_eq_of_lt i.isLt]
  have e2 : R.val / 64 % 8 = j.val := by
    have a2 : R.val / 64 = 8 * i.val + j.val := by omega
    rw [a2]
    omega
  have e3 : s.val / 16 % 4 = x.val := by
    have a3 : s.val / 16 = x.val := by omega
    rw [a3, Nat.mod_eq_of_lt x.isLt]
  have e4 : s.val / 4 % 4 = y.val := by omega
  have e5 : s.val / 2 % 2 = u.val := by omega
  have e6 : s.val % 2 = v.val := by omega
  refine congrArg Ideal.logistic (congr (congrArg₂ (im3M m c (pickM m c)) (Fin.ext e0) (Fin.ext ?_)) (Fin.ext ?_))
  · show 8 * (R.val / 512 % 8) + 2 * (s.val / 16 % 4) + s.val / 2 % 2 = I.val
    rw [e1, e3, e5, hI]
  · show 8 * (R.val / 64 % 8) + 2 * (s.val / 4 % 4) + s.val % 2 = J.val
    rw [e2, e4, e6, hJ]

theorem unflat (R : FVec Ideal S4096x64 .f32) (b I J : Fin 64) :
    shapeCast S64x64x64x1 (transpose S64x8x4x2x8x4x2 [2, 0, 3, 5, 1, 4, 6] (shapeCast S8x8x64x4x4x2x2 R shapeCasts_S4096x64_S8x8x64x4x4x2x2)
      transposes_S8x8x64x4x4x2x2_S64x8x4x2x8x4x2_2_0_3_5_1_4_6) shapeCasts_S64x8x4x2x8x4x2_S64x64x64x1 (ix4 b I J 0)
      = R (ix2 ⟨I.val / 8 * 512 + J.val / 8 * 64 + b.val, by omega⟩ ⟨I.val / 2 % 4 * 16 + J.val / 2 % 4 * 4 + I.val % 2 * 2 + J.val % 2, by omega⟩) := by
  pointwise

/-- The kernel's result at an index. -/
theorem result_at (b I J : Fin 64) : (V15 m (outs m) c main_v85 (ix4 b I J 0) : EReal) = Ideal.logistic (im3M m c (pickM m c) b I J) := by
  have e : V15 m (outs m) c main_v85 = shapeCast S64x64x64x1 (transpose S64x8x4x2x8x4x2 [2, 0, 3, 5, 1, 4, 6]
      (shapeCast S8x8x64x4x4x2x2 (V14 m (outs m) c main_v82) shapeCasts_S4096x64_S8x8x64x4x4x2x2)
      transposes_S8x8x64x4x4x2x2_S64x8x4x2x8x4x2_2_0_3_5_1_4_6) shapeCasts_S64x8x4x2x8x4x2_S64x64x64x1 := by
    show after hostOps2 (V14 m (outs m) c) (Proc.devRef .tc main_v85) = _
    after_results
    rfl
  rw [e, call_out]
  refine (unflat _ b I J).trans ?_
  exact Out_at m c _ _ b I J ⟨I.val / 8, by omega⟩ ⟨J.val / 8, by omega⟩ ⟨I.val / 2 % 4, by omega⟩ ⟨J.val / 2 % 4, by omega⟩ ⟨I.val % 2, by omega⟩ ⟨J.val % 2, by omega⟩
    rfl rfl (by show I.val = 8 * (I.val / 8) + 2 * (I.val / 2 % 4) + I.val % 2; omega) (by show J.val = 8 * (J.val / 8) + 2 * (J.val / 2 % 4) + J.val % 2; omega)

end Cert.KernelIdeal.Dec
end
-- ==== Proof.T.RefTail.lean ====
module

public import proofs.«01_k».proof.Proof.EK.Ref
public import proofs.«01_k».proof.Proof.T.Spec

@[expose] public section

set_option maxRecDepth 16384

noncomputable section

/-! # What the reference computes after the encoder -/

namespace Cert.RefRevIdeal.EV

open Cert.RefRevIdeal Cert.RefRevIdeal.Gen Cert.RefRevIdeal.Value Idealize.ShloMosaic Idealize.ShloMosaic.TcCoe Idealize.SL.Sem Idealize.ShloMosaic.StableHlo
open Cert.KernelIdeal.Dec (near row hid lat gap code dense img1 img2 img3)

/-- The codebook rows at the positions `v`, side by side. -/
def flatR (v : IVec S64x32x1 32) (e : FVec Ideal S512x64 .f32) : FVec Ideal S64x2048 .f32 :=
  shapeCast _ (select (broadcastInDim S64x32x64 ![0, 1] bcast_S64x32_S64x32x64_0_1 (Host.reduce IntOp.andi (andi (cmpi .sge v (broadcastInDim S64x32x1 ![] bcast_S_S64x32x1 (constantI S_ 32 0#32))) (cmpi .sle v (broadcastInDim S64x32x1 ![0, 1, 2] bcast_S1x1x1_S64x32x1_0_1_2 (broadcastInDim S1x1x1 ![2] bcast_S1_S1x1x1_2 (constantI S1 32 511#32))))) (constantI S_ 1 1#1) reducesTo_S64x32x1_S64x32_d2 h_S_)) (Host.gather gather_S512x64_S64x32x1_S64x32x64_2_0_n_n_0_2_164 e v) (broadcastInDim S64x32x64 ![] bcast_S_S64x32x64 (constant S_ .f32 0x7FC00000#32))) shapeCasts_S64x32x64_S64x2048

/-- The reference's dense layer. -/
def denseR (x : FVec Ideal S64x2048 .f32) (W : FVec Ideal S2048x1024 .f32) (a : FVec Ideal S1024 .f32) : FVec Ideal S64x1024 .f32 :=
  maximumf (addf (Host.dotGeneral dot_S64x2048_S2048x1024_S64x1024_1_0_0_1_n_n none x W) (broadcastInDim S64x1024 ![0, 1] bcast_S1x1024_S64x1024_0_1 (broadcastInDim S1x1024 ![1] bcast_S1024_S1x1024_1 a))) (broadcastInDim S64x1024 ![] bcast_S_S64x1024 (constant S_ .f32 0x00000000#32))

/-- The reference's first transposed convolution. -/
def img1R (d : FVec Ideal S64x1024 .f32) (K : FVec Ideal S8x8x1024x256 .f32) (a : FVec Ideal S256 .f32) : FVec Ideal S64x8x8x256 .f32 :=
  maximumf (addf (shapeCast _ (transpose S64x1x8x1x8x256 [3, 4, 0, 5, 1, 2] (Host.dotGeneral dot_S8x8x1024x256_S64x1x1x1024_S8x8x256x64x1x1_2_3_013_012_n_n none (Host.reverse [0, 1] (Host.reverse [0, 1] K)) (broadcastInDim S64x1x1x1024 ![0, 3] bcast_S64x1024_S64x1x1x1024_0_3 d)) transposes_S8x8x256x64x1x1_S64x1x8x1x8x256_3_4_0_5_1_2) shapeCasts_S64x1x8x1x8x256_S64x8x8x256) (broadcastInDim S64x8x8x256 ![0, 1, 2, 3] bcast_S1x1x1x256_S64x8x8x256_0_1_2_3 (broadcastInDim S1x1x1x256 ![3] bcast_S256_S1x1x1x256_3 a))) (broadcastInDim S64x8x8x256 ![] bcast_S_S64x8x8x256 (constant S_ .f32 0x00000000#32))

/-- The reference's second transposed convolution. -/
def img2R (t : FVec Ideal S64x8x8x256 .f32) (K : FVec Ideal S4x4x256x128 .f32) (a : FVec Ideal S128 .f32) : FVec Ideal S64x32x32x128 .f32 :=
  maximumf (addf (shapeCast _ (transpose S64x8x4x8x4x128 [3, 4, 0, 5, 1, 2] (Host.dotGeneral dot_S4x4x256x128_S64x8x8x256_S4x4x128x64x8x8_2_3_013_012_n_n none (Host.reverse [0, 1] (Host.reverse [0, 1] K)) t) transposes_S4x4x128x64x8x8_S64x8x4x8x4x128_3_4_0_5_1_2) shapeCasts_S64x8x4x8x4x128_S64x32x32x128) (broadcastInDim S64x32x32x128 ![0, 1, 2, 3] bcast_S1x1x1x128_S64x32x32x128_0_1_2_3 (broadcastInDim S1x1x1x128 ![3] bcast_S128_S1x1x1x128_3 a))) (broadcastInDim S64x32x32x128 ![] bcast_S_S64x32x32x128 (constant S_ .f32 0x00000000#32))

/-- The reference's third transposed convolution and the logistic function. -/
def lastR (t : FVec Ideal S64x32x32x128 .f32) (K : FVec Ideal S2x2x128x1 .f32) (a : FVec Ideal S1 .f32) : FVec Ideal S64x64x64x1 .f32 :=
  Host.divf (broadcastInDim S64x64x64x1 ![] bcast_S_S64x64x64x1 (constant S_ .f32 0x3F800000#32)) (addf (broadcastInDim S64x64x64x1 ![] bcast_S_S64x64x64x1 (constant S_ .f32 0x3F800000#32)) (Host.exp (Host.negf (addf (shapeCast _ (transpose S64x32x2x32x2x1 [3, 4, 0, 5, 1, 2] (Host.dotGeneral dot_S2x2x128x1_S64x32x32x128_S2x2x1x64x32x32_2_3_013_012_n_n none (Host.reverse [0, 1] (Host.reverse [0, 1] K)) t) transposes_S2x2x1x64x32x32_S64x32x2x32x2x1_3_4_0_5_1_2) shapeCasts_S64x32x2x32x2x1_S64x64x64x1) (broadcastInDim S64x64x64x1 ![0, 1, 2, 3] bcast_S1x1x1x1_S64x64x64x1_0_1_2_3 (broadcastInDim S1x1x1x1 ![3] bcast_S1_S1x1x1x1_3 a))))))

theorem denseR_at (x : FVec Ideal S64x2048 .f32) (W : FVec Ideal S2048x1024 .f32) (a : FVec Ideal S1024 .f32) (b : Fin 64) (o : Fin 1024) :
    denseR x W a (ix2 b o) = dense (fun b q => x (ix2 b q)) W a b o := by
  unfold denseR dense
  pointwise

/-- Reversing twice changes nothing. -/
theorem rev_rev {s : Shape} {α : Type} (axes : List (Fin s.rank)) (x : s.Idx → α) : Host.reverse axes (Host.reverse axes x) = x := by
  funext j
  unfold Host.reverse
  congr 1
  funext a
  by_cases h : a ∈ axes
  · simp only [h, if_true, Fin.rev_rev]
  · simp only [h, if_false]

theorem img1R_at (d : FVec Ideal S64x1024 .f32) (K : FVec Ideal S8x8x1024x256 .f32) (a : FVec Ideal S256 .f32) (b : Fin 64) (i j : Fin 8) (o : Fin 256) :
    img1R d K a (ix4 b i j o) = img1 (fun b q => d (ix2 b q)) K a b i j o := by
  unfold img1R img1
  rw [rev_rev]
  pointwise
  exact congrArg (fun z => max (z + a (ix1 o)) 0) (Finset.sum_congr rfl fun _ _ => mul_comm _ _)

theorem img2R_at (t : FVec Ideal S64x8x8x256 .f32) (K : FVec Ideal S4x4x256x128 .f32) (a : FVec Ideal S128 .f32) (b : Fin 64) (i j : Fin 32) (o : Fin 128) :
    img2R t K a (ix4 b i j o) = img2 (fun b i j o => t (ix4 b i j o)) K a b i j o := by
  unfold img2R img2
  rw [rev_rev]
  pointwise
  exact congrArg (fun z => max (z + a (ix1 o)) 0) (Finset.sum_congr rfl fun _ _ => mul_comm _ _)

theorem lastR_at (t : FVec Ideal S64x32x32x128 .f32) (K : FVec Ideal S2x2x128x1 .f32) (a : FVec Ideal S1 .f32) (b : Fin 64) (i j : Fin 64) :
    lastR t K a (ix4 b i j 0) = Ideal.div 1 (1 + Ideal.exp (- img3 (fun b i j o => t (ix4 b i j o)) K a b i j)) := by
  unfold lastR img3
  rw [rev_rev]
  pointwise
  exact congrArg (fun z => Ideal.div 1 (1 + Ideal.exp (-(z + a (ix1 0))))) (Finset.sum_congr rfl fun _ _ => mul_comm _ _)

/-- The look-up's operand index. -/
theorem gather_at (v : IVec S64x32x1 32) (e : FVec Ideal S512x64 .f32) (b : Fin 64) (l : Fin 32) (c : Fin 64) (k : Fin 512)
    (hk : v (ix3 b l 0) = BitVec.ofNat 32 k.val) :
    Host.gather gather_S512x64_S64x32x1_S64x32x64_2_0_n_n_0_2_164 e v (ix3 b l c) = e (ix2 k c) := by
  unfold Host.gather
  congr 1
  have hs : ∀ i : S64x32x1.Idx, (i 0).val = b.val → (i 1).val = l.val → i = ix3 b l 0 := by
    intro i h0 h1
    funext a
    match a with
    | ⟨0, _⟩ => exact Fin.ext h0
    | ⟨1, _⟩ => exact Fin.ext h1
    | ⟨2, _⟩ => exact Subsingleton.elim (α := Fin 1) _ _
  have hn : (BitVec.ofNat 32 k.val).toInt.toNat = k.val := by
    rw [BitVec.toInt_ofNat']
    have := k.isLt
    rw [Int.bmod_eq_of_le (by omega) (by omega)]
    omega
  funext a
  match a with
  | ⟨0, _⟩ =>
    apply Fin.ext
    have e1 : ∀ i : S64x32x1.Idx, (i 0).val = b.val → (i 1).val = l.val → (v i).toInt.toNat = k.val := by
      intro i h0 h1
      rw [hs i h0 h1, hk, hn]
    exact (congrArg (fun z => min z 511 + 0 + 0) (e1 (gather_S512x64_S64x32x1_S64x32x64_2_0_n_n_0_2_164.siIdx (ix3 b l c) ⟨0, by decide⟩) rfl rfl)).trans (by show min k.val 511 + 0 + 0 = k.val; omega)
  | ⟨1, _⟩ =>
    apply Fin.ext
    show 0 + 0 + c.val = c.val
    omega

/-- The looked-up rows, side by side. -/
theorem flatR_at (v : IVec S64x32x1 32) (e : FVec Ideal S512x64 .f32) (b : Fin 64) (q : Fin 2048) (k : Fin 512)
    (hk : v (ix3 b ⟨q.val / 64, by omega⟩ 0) = BitVec.ofNat 32 k.val) :
    flatR v e (ix2 b q) = e (ix2 k ⟨q.val % 64, by omega⟩) := by
  unfold flatR
  pointwise
  rw [gather_at v e b _ _ k hk]
  have h0 : ∀ k : Fin 512, IntOp.andi (IntOp.cmpi CmpIPredicate.sge (BitVec.ofNat 32 k.val) 0#32) (IntOp.cmpi CmpIPredicate.sle (BitVec.ofNat 32 k.val) 511#32) = 1#1 := by
    decide
  have h1 : (Finset.fold IntOp.andi (1#1) (fun x : Fin 1 => IntOp.andi (IntOp.cmpi CmpIPredicate.sge (v (ix3 b ⟨q.val / 64, by omega⟩ x)) 0#32)
      (IntOp.cmpi CmpIPredicate.sle (v (ix3 b ⟨q.val / 64, by omega⟩ x)) 511#32)) Finset.univ) = 1#1 := by
    rw [Finset.univ_unique, Finset.fold_singleton]
    show IntOp.andi (IntOp.andi (IntOp.cmpi CmpIPredicate.sge (v (ix3 b _ 0)) 0#32) (IntOp.cmpi CmpIPredicate.sle (v (ix3 b _ 0)) 511#32)) 1#1 = 1#1
    rw [hk, h0]
    rfl
  rw [h1]
  rfl

end Cert.RefRevIdeal.EV
end
-- ==== Proof.T.RefVal.lean ====
module

public import proofs.«01_k».proof.Proof.T.RefTail
public import proofs.«01_k».proof.Proof.T.KVal
public import proofs.«01_k».proof.Proof.T.Near

@[expose] public section

set_option maxRecDepth 16384

noncomputable section

/-! # What the reference computes from the encoder to the choice of a codebook row -/

namespace Cert.RefRevIdeal.EV

open Cert.RefRevIdeal Cert.RefRevIdeal.Gen Cert.RefRevIdeal.Value Idealize.ShloMosaic Idealize.ShloMosaic.TcCoe Idealize.SL.Sem Idealize.ShloMosaic.StableHlo
open Cert.KernelIdeal.EV (fin)
open Cert.KernelIdeal.Dec (near row hid lat gap code enc near_row)

/-- The reference's third convolution of padded images `v1`. -/
def conv3R (v1 : FVec Ideal S64x18x18x128 .f32) (w : FVec Ideal S4x4x128x256 .f32) (a : FVec Ideal S256 .f32) : FVec Ideal S64x8x8x256 .f32 :=
  maximumf (addf (addf (addf (addf (addf (addf (addf (addf (addf (addf (addf (addf (addf (addf (addf (addf (addf (broadcastInDim S64x8x8x256 ![] bcast_S_S64x8x8x256 (constant S_ .f32 0x00000000#32)) (Host.dotGeneral dot_S64x8x8x128_S128x256_S64x8x8x256_3_0_012_1_n_n none (Host.slice S64x8x8x128 ![0, 0, 0, 0] ![1, 2, 2, 1] v1 slicesBy_S64x18x18x128_S64x8x8x128_0s1_0s2_0s2_0s1) (shapeCast _ (extractStridedSlice S1x1x128x256 ![0, 0, 0, 0] w slices_S4x4x128x256_S1x1x128x256_0_0_0_0) shapeCasts_S1x1x128x256_S128x256))) (Host.dotGeneral dot_S64x8x8x128_S128x256_S64x8x8x256_3_0_012_1_n_n none (Host.slice S64x8x8x128 ![0, 0, 1, 0] ![1, 2, 2, 1] v1 slicesBy_S64x18x18x128_S64x8x8x128_0s1_0s2_1s2_0s1) (shapeCast _ (extractStridedSlice S1x1x128x256 ![0, 1, 0, 0] w slices_S4x4x128x256_S1x1x128x256_0_1_0_0) shapeCasts_S1x1x128x256_S128x256))) (Host.dotGeneral dot_S64x8x8x128_S128x256_S64x8x8x256_3_0_012_1_n_n none (Host.slice S64x8x8x128 ![0, 0, 2, 0] ![1, 2, 2, 1] v1 slicesBy_S64x18x18x128_S64x8x8x128_0s1_0s2_2s2_0s1) (shapeCast _ (extractStridedSlice S1x1x128x256 ![0, 2, 0, 0] w slices_S4x4x128x256_S1x1x128x256_0_2_0_0) shapeCasts_S1x1x128x256_S128x256))) (Host.dotGeneral dot_S64x8x8x128_S128x256_S64x8x8x256_3_0_012_1_n_n none (Host.slice S64x8x8x128 ![0, 0, 3, 0] ![1, 2, 2, 1] v1 slicesBy_S64x18x18x128_S64x8x8x128_0s1_0s2_3s2_0s1) (shapeCast _ (extractStridedSlice S1x1x128x256 ![0, 3, 0, 0] w slices_S4x4x128x256_S1x1x128x256_0_3_0_0) shapeCasts_S1x1x128x256_S128x256))) (Host.dotGeneral dot_S64x8x8x128_S128x256_S64x8x8x256_3_0_012_1_n_n none (Host.slice S64x8x8x128 ![0, 1, 0, 0] ![1, 2, 2, 1] v1 slicesBy_S64x18x18x128_S64x8x8x128_0s1_1s2_0s2_0s1) (shapeCast _ (extractStridedSlice S1x1x128x256 ![1, 0, 0, 0] w slices_S4x4x128x256_S1x1x128x256_1_0_0_0) shapeCasts_S1x1x128x256_S128x256))) (Host.dotGeneral dot_S64x8x8x128_S128x256_S64x8x8x256_3_0_012_1_n_n none (Host.slice S64x8x8x128 ![0, 1, 1, 0] ![1, 2, 2, 1] v1 slicesBy_S64x18x18x128_S64x8x8x128_0s1_1s2_1s2_0s1) (shapeCast _ (extractStridedSlice S1x1x128x256 ![1, 1, 0, 0] w slices_S4x4x128x256_S1x1x128x256_1_1_0_0) shapeCasts_S1x1x128x256_S128x256))) (Host.dotGeneral dot_S64x8x8x128_S128x256_S64x8x8x256_3_0_012_1_n_n none (Host.slice S64x8x8x128 ![0, 1, 2, 0] ![1, 2, 2, 1] v1 slicesBy_S64x18x18x128_S64x8x8x128_0s1_1s2_2s2_0s1) (shapeCast _ (extractStridedSlice S1x1x128x256 ![1, 2, 0, 0] w slices_S4x4x128x256_S1x1x128x256_1_2_0_0) shapeCasts_S1x1x128x256_S128x256))) (Host.dotGeneral dot_S64x8x8x128_S128x256_S64x8x8x256_3_0_012_1_n_n none (Host.slice S64x8x8x128 ![0, 1, 3, 0] ![1, 2, 2, 1] v1 slicesBy_S64x18x18x128_S64x8x8x128_0s1_1s2_3s2_0s1) (shapeCast _ (extractStridedSlice S1x1x128x256 ![1, 3, 0, 0] w slices_S4x4x128x256_S1x1x128x256_1_3_0_0) shapeCasts_S1x1x128x256_S128x256))) (Host.dotGeneral dot_S64x8x8x128_S128x256_S64x8x8x256_3_0_012_1_n_n none (Host.slice S64x8x8x128 ![0, 2, 0, 0] ![1, 2, 2, 1] v1 slicesBy_S64x18x18x128_S64x8x8x128_0s1_2s2_0s2_0s1) (shapeCast _ (extractStridedSlice S1x1x128x256 ![2, 0, 0, 0] w slices_S4x4x128x256_S1x1x128x256_2_0_0_0) shapeCasts_S1x1x128x256_S128x256))) (Host.dotGeneral dot_S64x8x8x128_S128x256_S64x8x8x256_3_0_012_1_n_n none (Host.slice S64x8x8x128 ![0, 2, 1, 0] ![1, 2, 2, 1] v1 slicesBy_S64x18x18x128_S64x8x8x128_0s1_2s2_1s2_0s1) (shapeCast _ (extractStridedSlice S1x1x128x256 ![2, 1, 0, 0] w slices_S4x4x128x256_S1x1x128x256_2_1_0_0) shapeCasts_S1x1x128x256_S128x256))) (Host.dotGeneral dot_S64x8x8x128_S128x256_S64x8x8x256_3_0_012_1_n_n none (Host.slice S64x8x8x128 ![0, 2, 2, 0] ![1, 2, 2, 1] v1 slicesBy_S64x18x18x128_S64x8x8x128_0s1_2s2_2s2_0s1) (shapeCast _ (extractStridedSlice S1x1x128x256 ![2, 2, 0, 0] w slices_S4x4x128x256_S1x1x128x256_2_2_0_0) shapeCasts_S1x1x128x256_S128x256))) (Host.dotGeneral dot_S64x8x8x128_S128x256_S64x8x8x256_3_0_012_1_n_n none (Host.slice S64x8x8x128 ![0, 2, 3, 0] ![1, 2, 2, 1] v1 slicesBy_S64x18x18x128_S64x8x8x128_0s1_2s2_3s2_0s1) (shapeCast _ (extractStridedSlice S1x1x128x256 ![2, 3, 0, 0] w slices_S4x4x128x256_S1x1x128x256_2_3_0_0) shapeCasts_S1x1x128x256_S128x256))) (Host.dotGeneral dot_S64x8x8x128_S128x256_S64x8x8x256_3_0_012_1_n_n none (Host.slice S64x8x8x128 ![0, 3, 0, 0] ![1, 2, 2, 1] v1 slicesBy_S64x18x18x128_S64x8x8x128_0s1_3s2_0s2_0s1) (shapeCast _ (extractStridedSlice S1x1x128x256 ![3, 0, 0, 0] w slices_S4x4x128x256_S1x1x128x256_3_0_0_0) shapeCasts_S1x1x128x256_S128x256))) (Host.dotGeneral dot_S64x8x8x128_S128x256_S64x8x8x256_3_0_012_1_n_n none (Host.slice S64x8x8x128 ![0, 3, 1, 0] ![1, 2, 2, 1] v1 slicesBy_S64x18x18x128_S64x8x8x128_0s1_3s2_1s2_0s1) (shapeCast _ (extractStridedSlice S1x1x128x256 ![3, 1, 0, 0] w slices_S4x4x128x256_S1x1x128x256_3_1_0_0) shapeCasts_S1x1x128x256_S128x256))) (Host.dotGeneral dot_S64x8x8x128_S128x256_S64x8x8x256_3_0_012_1_n_n none (Host.slice S64x8x8x128 ![0, 3, 2, 0] ![1, 2, 2, 1] v1 slicesBy_S64x18x18x128_S64x8x8x128_0s1_3s2_2s2_0s1) (shapeCast _ (extractStridedSlice S1x1x128x256 ![3, 2, 0, 0] w slices_S4x4x128x256_S1x1x128x256_3_2_0_0) shapeCasts_S1x1x128x256_S128x256))) (Host.dotGeneral dot_S64x8x8x128_S128x256_S64x8x8x256_3_0_012_1_n_n none (Host.slice S64x8x8x128 ![0, 3, 3, 0] ![1, 2, 2, 1] v1 slicesBy_S64x18x18x128_S64x8x8x128_0s1_3s2_3s2_0s1) (shapeCast _ (extractStridedSlice S1x1x128x256 ![3, 3, 0, 0] w slices_S4x4x128x256_S1x1x128x256_3_3_0_0) shapeCasts_S1x1x128x256_S128x256))) (broadcastInDim S64x8x8x256 ![0, 1, 2, 3] bcast_S1x1x1x256_S64x8x8x256_0_1_2_3 (broadcastInDim S1x1x1x256 ![3] bcast_S256_S1x1x1x256_3 a))) (broadcastInDim S64x8x8x256 ![] bcast_S_S64x8x8x256 (constant S_ .f32 0x00000000#32))

/-- The reference's first dense layer. -/
def hidR (x : FVec Ideal S64x8x8x256 .f32) (W : FVec Ideal S16384x1024 .f32) (a : FVec Ideal S1024 .f32) : FVec Ideal S64x1024 .f32 :=
  maximumf (addf (Host.dotGeneral dot_S64x16384_S16384x1024_S64x1024_1_0_0_1_n_n none (shapeCast _ x shapeCasts_S64x8x8x256_S64x16384) W) (broadcastInDim S64x1024 ![0, 1] bcast_S1x1024_S64x1024_0_1 (broadcastInDim S1x1024 ![1] bcast_S1024_S1x1024_1 a))) (broadcastInDim S64x1024 ![] bcast_S_S64x1024 (constant S_ .f32 0x00000000#32))

/-- The reference's second dense layer. -/
def latR (x : FVec Ideal S64x1024 .f32) (W : FVec Ideal S1024x2048 .f32) (a : FVec Ideal S2048 .f32) : FVec Ideal S64x2048 .f32 :=
  maximumf (addf (Host.dotGeneral dot_S64x1024_S1024x2048_S64x2048_1_0_0_1_n_n none x W) (broadcastInDim S64x2048 ![0, 1] bcast_S1x2048_S64x2048_0_1 (broadcastInDim S1x2048 ![1] bcast_S2048_S1x2048_1 a))) (broadcastInDim S64x2048 ![] bcast_S_S64x2048 (constant S_ .f32 0x00000000#32))

/-- The differences of the latent vectors and the codebook rows. -/
def diffR (p : FVec Ideal S64x2048 .f32) (e : FVec Ideal S512x64 .f32) : FVec Ideal S64x32x512x64 .f32 :=
  subf (broadcastInDim S64x32x512x64 ![0, 1, 2, 3] bcast_S64x32x1x64_S64x32x512x64_0_1_2_3 (broadcastInDim S64x32x1x64 ![0, 1, 3] bcast_S64x32x64_S64x32x1x64_0_1_3 (shapeCast _ p shapeCasts_S64x2048_S64x32x64))) (broadcastInDim S64x32x512x64 ![0, 1, 2, 3] bcast_S1x1x512x64_S64x32x512x64_0_1_2_3 (broadcastInDim S1x1x512x64 ![2, 3] bcast_S512x64_S1x1x512x64_2_3 e))

/-- Their lengths. -/
def distR (D : FVec Ideal S64x32x512x64 .f32) : FVec Ideal S64x32x512 .f32 :=
  Host.sqrt (Host.reduceAdd (mulf D D) (constant S_ .f32 0x00000000#32) reducesTo_S64x32x512x64_S64x32x512_d3 h_S_)

/-- The first position of the least length. -/
def firstR (d : FVec Ideal S64x32x512 .f32) : IVec S64x32 32 :=
  Host.reduce IntOp.minsi (select (cmpf .oeq d (broadcastInDim S64x32x512 ![0, 1, 2] bcast_S64x32x1_S64x32x512_0_1_2 (broadcastInDim S64x32x1 ![0, 1] bcast_S64x32_S64x32x1_0_1 (Host.reduce FloatOps.minimumf d (constant S_ .f32 0x7F800000#32) reducesTo_S64x32x512_S64x32_d2 h_S_)))) (broadcastInDim S64x32x512 ![2] bcast_S512_S64x32x512_2 (iotaInDim S512 32 0)) (broadcastInDim S64x32x512 ![] bcast_S_S64x32x512 (id (constantI S_ 32 512#32)))) (constantI S_ 32 2147483647#32) reducesTo_S64x32x512_S64x32_d2 h_S_

/-- The same, where a negative position would count from the end. -/
def wrapR (v : IVec S64x32 32) : IVec S64x32x1 32 :=
  broadcastInDim S64x32x1 ![0, 1] bcast_S64x32_S64x32x1_0_1 (select (cmpi .slt v (broadcastInDim S64x32 ![] bcast_S_S64x32 (constantI S_ 32 0#32))) (addi v (broadcastInDim S64x32 ![] bcast_S_S64x32 (constantI S_ 32 512#32))) v)

theorem conv3R_at (h : Fin 64 → ℕ → ℕ → Fin 128 → EReal) (v1 : FVec Ideal S64x18x18x128 .f32) (hh : ∀ (b : Fin 64) (i j : Fin 18) (k : Fin 128), v1 (ix4 b i j k) = h b i j k)
    (w : FVec Ideal S4x4x128x256 .f32) (a : FVec Ideal S256 .f32) (b : Fin 64) (i j : Fin 8) (k : Fin 256) :
    conv3R v1 w a (ix4 b i j k) = out3 h w a b i j k := by
  unfold conv3R out3
  pointwise
  simp only [hh]
  exact congrArg (fun z => max (z + a (ix1 k)) 0) (taps_of (fun p q c => h b p q c) (fun P Q c => w (ix4 P Q c k)) _ _)

theorem hidR_at (x : FVec Ideal S64x8x8x256 .f32) (W : FVec Ideal S16384x1024 .f32) (a : FVec Ideal S1024 .f32) (b : Fin 64) (o : Fin 1024) :
    hidR x W a (ix2 b o) = hid (fun b q => x (ix4 b ⟨q.val / 2048, by omega⟩ ⟨q.val / 256 % 8, by omega⟩ ⟨q.val % 256, by omega⟩)) W a b o := by
  unfold hidR hid
  pointwise

theorem latR_at (x : FVec Ideal S64x1024 .f32) (W : FVec Ideal S1024x2048 .f32) (a : FVec Ideal S2048 .f32) (b : Fin 64) (o : Fin 2048) :
    latR x W a (ix2 b o) = lat (fun b q => x (ix2 b q)) W a b o := by
  unfold latR lat
  pointwise

theorem diffR_at (p : FVec Ideal S64x2048 .f32) (e : FVec Ideal S512x64 .f32) (b : Fin 64) (l : Fin 32) (k : Fin 512) (c : Fin 64) :
    diffR p e (ix4 b l k c) = p (ix2 b ⟨l.val * 64 + c.val, by omega⟩) - e (ix2 k c) := by
  unfold diffR
  pointwise

theorem distR_at (D : FVec Ideal S64x32x512x64 .f32) (b : Fin 64) (l : Fin 32) (k : Fin 512) :
    distR D (ix3 b l k) = Ideal.sqrt (∑ c : Fin 64, D (ix4 b l k c) * D (ix4 b l k c)) := by
  unfold distR
  pointwise

theorem firstR_at (d : FVec Ideal S64x32x512 .f32) (b : Fin 64) (l : Fin 32) :
    firstR d (ix2 b l) = near fun k => d (ix3 b l k) := by
  unfold firstR near
  pointwise
  rfl

theorem wrapR_at (v : IVec S64x32 32) (b : Fin 64) (l : Fin 32) (k : Fin 512) (hk : v (ix2 b l) = BitVec.ofNat 32 k.val) :
    wrapR v (ix3 b l 0) = BitVec.ofNat 32 k.val := by
  unfold wrapR
  pointwise
  rw [hk]
  have h0 : ∀ k : Fin 512, IntOp.cmpi CmpIPredicate.slt (BitVec.ofNat 32 k.val) 0#32 = 0#1 := by decide
  rw [h0]
  rfl

variable (m : (ℓ : Loc nD τ sig) → Buf (Elt Ideal) ℓ) (c : Dev nD)

/-- The encoder's result of the arguments. -/
def encF : Fin 64 → Fin 16384 → EReal :=
  enc (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The latent vectors of the arguments. -/
def latF : Fin 64 → Fin 2048 → EReal :=
  lat (hid (encF m c) (m ((c : Thread nD τ).loc main_arg7)) (m ((c : Thread nD τ).loc main_arg8))) (m ((c : Thread nD τ).loc main_arg9)) (m ((c : Thread nD τ).loc main_arg10))

/-- The reference's latent vectors as an array. -/
def latA : FVec Ideal S64x2048 .f32 :=
  latR (hidR (conv3R (res_main_v178 (launchContents m c)) (m ((c : Thread nD τ).loc main_arg5)) (m ((c : Thread nD τ).loc main_arg6))) (m ((c : Thread nD τ).loc main_arg7)) (m ((c : Thread nD τ).loc main_arg8))) (m ((c : Thread nD τ).loc main_arg9)) (m ((c : Thread nD τ).loc main_arg10))

theorem v283_eq : res_main_v283 (launchContents m c) = diffR (latA m c) (m ((c : Thread nD τ).loc main_arg11)) := rfl

theorem call5_eq : res_main_call5_v5 (launchContents m c) = wrapR (firstR (distR (diffR (latA m c) (m ((c : Thread nD τ).loc main_arg11))))) := rfl

/-- The reference's latent vectors at an index. -/
theorem latA_at (b : Fin 64) (q : Fin 2048) : latA m c (ix2 b q) = latF m c b q := by
  have hh := v178_at (launchContents m c) _ (v91_at (launchContents m c) (m ((c : Thread nD τ).loc main_arg0)) rfl (m ((c : Thread nD τ).loc main_arg1)) rfl (m ((c : Thread nD τ).loc main_arg2)) rfl)
    (m ((c : Thread nD τ).loc main_arg3)) rfl (m ((c : Thread nD τ).loc main_arg4)) rfl
  unfold latA
  refine (latR_at _ _ _ b q).trans ?_
  unfold latF
  refine congrArg (fun f => lat f (m ((c : Thread nD τ).loc main_arg9)) (m ((c : Thread nD τ).loc main_arg10)) b q) (funext fun b => funext fun o => ?_)
  refine (hidR_at _ _ _ b o).trans ?_
  refine congrArg (fun f => hid f (m ((c : Thread nD τ).loc main_arg7)) (m ((c : Thread nD τ).loc main_arg8)) b o) (funext fun b => funext fun q => ?_)
  exact conv3R_at _ _ hh _ _ b _ _ _

/-- The row the reference looks up. -/
theorem call5_at (b : Fin 64) (l : Fin 32) :
    res_main_call5_v5 (launchContents m c) (ix3 b l 0) = BitVec.ofNat 32 (row fun k => Ideal.sqrt (gap (latF m c) (m ((c : Thread nD τ).loc main_arg11)) b l k)).val := by
  rw [call5_eq]
  refine wrapR_at _ b l _ ?_
  refine (firstR_at _ b l).trans ((near_row _).trans (congrArg (fun f => BitVec.ofNat 32 (row f).val) (funext fun k => ?_)))
  refine (distR_at _ b l k).trans (congrArg Ideal.sqrt ?_)
  unfold gap
  refine Finset.sum_congr rfl fun x _ => ?_
  have e : diffR (latA m c) (m ((c : Thread nD τ).loc main_arg11)) (ix4 b l k x) = latF m c b ⟨64 * l.val + x.val, by omega⟩ - (m ((c : Thread nD τ).loc main_arg11) : S512x64.Idx → EReal) (ix2 k x) := by
    refine (diffR_at _ _ b l k x).trans ?_
    rw [latA_at]
    exact congrArg (fun q => latF m c b q - _) (Fin.ext (by show l.val * 64 + x.val = 64 * l.val + x.val; omega))
  rw [e]

end Cert.RefRevIdeal.EV
end
-- ==== Proof.T.RefAll.lean ====
module

public import proofs.«01_k».proof.Proof.T.RefVal

@[expose] public section

set_option maxRecDepth 16384

noncomputable section

/-! # The reference's result at an index -/

namespace Cert.RefRevIdeal.EV

open Cert.RefRevIdeal Cert.RefRevIdeal.Gen Cert.RefRevIdeal.Value Idealize.ShloMosaic Idealize.ShloMosaic.TcCoe Idealize.SL.Sem Idealize.ShloMosaic.StableHlo
open Cert.KernelIdeal.Dec (near row hid lat gap code dense img1 img2 img3)

variable (m : (ℓ : Loc nD τ sig) → Buf (Elt Ideal) ℓ) (c : Dev nD)

/-- The reference's result, as the decoder's layers over the rows it chooses. -/
def All : FVec Ideal S64x64x64x1 .f32 :=
  lastR (img2R (img1R (denseR (flatR (res_main_call5_v5 (launchContents m c)) (m ((c : Thread nD τ).loc main_arg11))) (m ((c : Thread nD τ).loc main_arg12)) (m ((c : Thread nD τ).loc main_arg13)))
    (m ((c : Thread nD τ).loc main_arg14)) (m ((c : Thread nD τ).loc main_arg15))) (m ((c : Thread nD τ).loc main_arg16)) (m ((c : Thread nD τ).loc main_arg17)))
    (m ((c : Thread nD τ).loc main_arg18)) (m ((c : Thread nD τ).loc main_arg19))

/-- The rows the reference chooses, side by side. -/
theorem rows_at (b : Fin 64) (q : Fin 2048) :
    flatR (res_main_call5_v5 (launchContents m c)) (m ((c : Thread nD τ).loc main_arg11)) (ix2 b q) = code (latF m c) (m ((c : Thread nD τ).loc main_arg11)) b q :=
  flatR_at _ _ b q _ (call5_at m c b ⟨q.val / 64, by omega⟩)

/-- The result at an index. -/
theorem All_at (b i j : Fin 64) : All m c (ix4 b i j 0) = Ideal.logistic (img3 (img2 (img1 (dense (code (latF m c) (m ((c : Thread nD τ).loc main_arg11)))
      (m ((c : Thread nD τ).loc main_arg12)) (m ((c : Thread nD τ).loc main_arg13))) (m ((c : Thread nD τ).loc main_arg14)) (m ((c : Thread nD τ).loc main_arg15)))
      (m ((c : Thread nD τ).loc main_arg16)) (m ((c : Thread nD τ).loc main_arg17))) (m ((c : Thread nD τ).loc main_arg18)) (m ((c : Thread nD τ).loc main_arg19)) b i j) := by
  unfold All
  rw [lastR_at]
  simp only [img2R_at, img1R_at, denseR_at, rows_at]
  rfl

/-- The reference leaves that result and its arguments as they were. -/
theorem all_run (ρ : Dev nD → PrngReg) : θ_run defs (onTc (τ := τ) (main (F := Ideal))) ⟨m, fun _ => 0, ρ⟩ fun r => ∀ c : Dev nD,
      r.2.mem ((c.tc : Thread nD τ).loc main_v331) = All m c :=
  (θ_run defs _ _).mono (fun _ h c => (h c).1) (run m ρ)

end Cert.RefRevIdeal.EV
end
-- ==== Proof.T.Code.lean ====
module

public import proofs.«01_k».proof.Proof.T.KVal
public import proofs.«01_k».proof.Proof.T.Near

@[expose] public section

set_option maxRecDepth 16384

noncomputable section

/-! # The kernel's measure of distance names the reference's row

The kernel compares a quarter of the sum of the squares of the doubled, negated row plus its product with the latent
vector: the square of the distance less the square of the latent vector's length. The reference compares distances. Over
real numbers both are least at the same rows. -/

namespace Cert.KernelIdeal.Dec

open Cert.KernelIdeal Cert.KernelIdeal.Gen Idealize.ShloMosaic
open Cert.KernelIdeal.EV (fin xpad)
open Cert.RefRevIdeal.EV (pad1 pad2 out3)

/-- The value is a real number. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.zero : IsReal 0 := ⟨0, EReal.coe_zero.symm⟩

theorem IsReal.clip {x : EReal} (hx : IsReal x) : IsReal (max x 0) := by
  rcases max_choice x 0 with h | h <;> rw [h]
  · exact hx
  · exact IsReal.zero

theorem IsReal.sum {ι : Type} [Fintype ι] {f : ι → EReal} (h : ∀ i, IsReal (f i)) : IsReal (∑ i, f i) := by
  classical
  exact Finset.sum_induction f IsReal (fun _ _ => IsReal.add) IsReal.zero fun i _ => h i

theorem real_xpad (A : S64x64x64.Idx → EReal) (hA : ∀ i, IsReal (A i)) (b : Fin 64) (i j : ℕ) : IsReal (xpad A b i j) := by
  unfold xpad
  split
  · exact hA _
  · exact IsReal.zero

theorem real_pad1 (A : S64x64x64.Idx → EReal) (w : S4x4x1x64.Idx → EReal) (a : S64.Idx → EReal) (hA : ∀ i, IsReal (A i)) (hw : ∀ i, IsReal (w i)) (ha : ∀ i, IsReal (a i))
    (b : Fin 64) (i j : ℕ) (o : Fin 64) : IsReal (pad1 A w a b i j o) := by
  unfold pad1
  split
  · exact ((IsReal.sum fun t => (real_xpad A hA _ _ _).mul (hw _)).add (ha _)).clip
  · exact IsReal.zero

theorem real_pad2 (h : Fin 64 → ℕ → ℕ → Fin 64 → EReal) (w : S4x4x64x128.Idx → EReal) (a : S128.Idx → EReal) (hh : ∀ b i j o, IsReal (h b i j o)) (hw : ∀ i, IsReal (w i)) (ha : ∀ i, IsReal (a i))
    (b : Fin 64) (i j : ℕ) (o : Fin 128) : IsReal (pad2 h w a b i j o) := by
  unfold pad2
  split
  · exact ((IsReal.sum fun t => IsReal.sum fun c => (hh _ _ _ _).mul (hw _)).add (ha _)).clip
  · exact IsReal.zero

theorem real_out3 (h : Fin 64 → ℕ → ℕ → Fin 128 → EReal) (w : S4x4x128x256.Idx → EReal) (a : S256.Idx → EReal) (hh : ∀ b i j o, IsReal (h b i j o)) (hw : ∀ i, IsReal (w i)) (ha : ∀ i, IsReal (a i))
    (b : Fin 64) (i j : ℕ) (o : Fin 256) : IsReal (out3 h w a b i j o) := by
  unfold out3
  exact ((IsReal.sum fun t => IsReal.sum fun c => (hh _ _ _ _).mul (hw _)).add (ha _)).clip

theorem real_hid (g : Fin 64 → Fin 16384 → EReal) (W : S16384x1024.Idx → EReal) (a : S1024.Idx → EReal) (hg : ∀ b q, IsReal (g b q)) (hW : ∀ i, IsReal (W i)) (ha : ∀ i, IsReal (a i))
    (b : Fin 64) (o : Fin 1024) : IsReal (hid g W a b o) := by
  unfold hid
  exact ((IsReal.sum fun k => (hg _ _).mul (hW _)).add (ha _)).clip

theorem real_lat (h : Fin 64 → Fin 1024 → EReal) (W : S1024x2048.Idx → EReal) (a : S2048.Idx → EReal) (hh : ∀ b q, IsReal (h b q)) (hW : ∀ i, IsReal (W i)) (ha : ∀ i, IsReal (a i))
    (b : Fin 64) (o : Fin 2048) : IsReal (lat h W a b o) := by
  unfold lat
  exact ((IsReal.sum fun k => (hh _ _).mul (hW _)).add (ha _)).clip

theorem quarter : Ideal.ofBits .f32 0x3E800000#32 = ((1 / 4 : ℝ) : EReal) := by
  simp [Ideal.ofBits, Ideal.ieee]
  rw [← EReal.coe_mul]
  norm_num

theorem minus_two : Ideal.ofBits .f32 0xC0000000#32 = ((-2 : ℝ) : EReal) := by
  simp [Ideal.ofBits, Ideal.ieee]
  rw [← EReal.coe_mul]
  norm_num

/-- A sum of real numbers, taken among the extended reals. -/
theorem coe_total {ι : Type} [Fintype ι] (f : ι → ℝ) : (∑ i, ((f i : ℝ) : EReal)) = ((∑ i, f i : ℝ) : EReal) := by
  classical
  refine Finset.induction_on (motive := fun s => (∑ i ∈ s, ((f i : ℝ) : EReal)) = ((∑ i ∈ s, f i : ℝ) : EReal)) Finset.univ (by simp) fun i s hi ih => ?_
  rw [Finset.sum_insert hi, Finset.sum_insert hi, ih, EReal.coe_add]

/-- On real numbers the square root of the extended reals keeps and reflects order. -/
theorem root_le {x y : ℝ} (hx : 0 ≤ x) (hy : 0 ≤ y) : Ideal.sqrt (x : EReal) ≤ Ideal.sqrt (y : EReal) ↔ x ≤ y := by
  rw [Ideal.sqrt_coe, Ideal.sqrt_coe, if_neg (not_lt.2 hx), if_neg (not_lt.2 hy), EReal.coe_le_coe_iff]
  exact Real.sqrt_le_sqrt_iff hy

/-- Both measures are least at the same rows. -/
theorem pick_eq (p : Fin 64 → Fin 2048 → EReal) (e : S512x64.Idx → EReal) (hp : ∀ b q, IsReal (p b q)) (he : ∀ i, IsReal (e i)) : pick p e = code p e := by
  choose p' hp' using hp
  choose e' he' using he
  funext b q
  unfold pick code
  have hl : q.val / 64 < 32 := by omega
  refine congrArg (fun r : Fin 512 => e (ix2 r ⟨q.val % 64, Nat.mod_lt _ (by decide)⟩)) ?_
  generalize hL : (⟨q.val / 64, hl⟩ : Fin 32) = l
  have hs : ∀ k, score p e b l k = ((1 / 4 * (∑ c : Fin 64, (-2 * e' (ix2 k c)) * (-2 * e' (ix2 k c))) + ∑ c : Fin 64, p' b ⟨64 * l.val + c.val, by omega⟩ * (-2 * e' (ix2 k c)) : ℝ) : EReal) := by
    intro k
    unfold score
    simp only [hp', he', quarter, minus_two, ← EReal.coe_mul, coe_total, ← EReal.coe_add]
  have hg : ∀ k, gap p e b l k = ((∑ c : Fin 64, (p' b ⟨64 * l.val + c.val, by omega⟩ - e' (ix2 k c)) * (p' b ⟨64 * l.val + c.val, by omega⟩ - e' (ix2 k c)) : ℝ) : EReal) := by
    intro k
    unfold gap
    simp only [hp', he', ← EReal.coe_sub, ← EReal.coe_mul, coe_total]
  have hn : ∀ k : Fin 512, (0 : ℝ) ≤ ∑ c : Fin 64, (p' b ⟨64 * l.val + c.val, by omega⟩ - e' (ix2 k c)) * (p' b ⟨64 * l.val + c.val, by omega⟩ - e' (ix2 k c)) :=
    fun k => Finset.sum_nonneg fun c _ => mul_self_nonneg _
  have hd : ∀ k : Fin 512, (∑ c : Fin 64, (p' b ⟨64 * l.val + c.val, by omega⟩ - e' (ix2 k c)) * (p' b ⟨64 * l.val + c.val, by omega⟩ - e' (ix2 k c)))
      = (1 / 4 * (∑ c : Fin 64, (-2 * e' (ix2 k c)) * (-2 * e' (ix2 k c))) + ∑ c : Fin 64, p' b ⟨64 * l.val + c.val, by omega⟩ * (-2 * e' (ix2 k c)))
        + ∑ c : Fin 64, p' b ⟨64 * l.val + c.val, by omega⟩ * p' b ⟨64 * l.val + c.val, by omega⟩ := by
    intro k
    rw [Finset.mul_sum, ← Finset.sum_add_distrib, ← Finset.sum_add_distrib]
    exact Finset.sum_congr rfl fun c _ => by ring
  refine row_congr _ _ fun k => forall_congr' fun j => ?_
  show score p e b l k ≤ score p e b l j ↔ Ideal.sqrt (gap p e b l k) ≤ Ideal.sqrt (gap p e b l j)
  rw [hs k, hs j, hg k, hg j, root_le (hn k) (hn j), EReal.coe_le_coe_iff, hd k, hd j]
  exact (add_le_add_iff_right _).symm

end Cert.KernelIdeal.Dec
end
-- ==== Proof.T.Pre.lean ====
module

public import proofs.«01_k».proof.Defs
public import proofs.«01_k».proof.Proof.Gen.KernelIdeal
public import proofs.«01_k».proof.Proof.T.Code
public import proofs.«01_k».proof.Proof.T.KOut

@[expose] public section

set_option maxRecDepth 16384

noncomputable section

/-! # What the precondition says of the arguments: every entry it names is a real number -/

namespace Cert.Pre_finite

open Idealize.ShloMosaic

/-- The shape relations the precondition's operations take. -/
theorem shapes : Cert.Pre_finite.Facts where
  bcast_S_S64x64x64 := by decide +kernel
  bcast_S_S4x4x1x64 := by decide +kernel
  bcast_S_S64 := by decide +kernel
  bcast_S_S4x4x64x128 := by decide +kernel
  bcast_S_S128 := by decide +kernel
  bcast_S_S4x4x128x256 := by decide +kernel
  bcast_S_S256 := by decide +kernel
  bcast_S_S16384x1024 := by decide +kernel
  bcast_S_S1024 := by decide +kernel
  bcast_S_S1024x2048 := by decide +kernel
  bcast_S_S2048 := by decide +kernel
  bcast_S_S512x64 := by decide +kernel

end Cert.Pre_finite

namespace Cert.KernelIdeal.Dec

open Cert.KernelIdeal Cert.KernelIdeal.Gen Idealize.ShloMosaic Idealize.ShloMosaic.TcCoe

attribute [local instance] Cert.Pre_finite.shapes

/-- An extended real whose absolute value is below infinity is a real number. -/
theorem real_of_abs (x : EReal) (h : (FloatOps.cmpf (F := Ideal) (φ := .f32) .olt (FloatOps.absf (F := Ideal) (φ := .f32) x) (FloatOps.ofBits .f32 0x7F800000#32)) = 1#1) : IsReal x := by
  rw [show (FloatOps.ofBits .f32 0x7F800000#32 : Ideal .f32) = (⊤ : EReal) from top_bits] at h
  induction x with
  | bot => exact absurd h (by simp [FloatOps.cmpf, FloatOps.absf, Ideal.cmp])
  | coe r => exact ⟨r, rfl⟩
  | top => exact absurd h (by simp [FloatOps.cmpf, FloatOps.absf, Ideal.cmp])

/-- An array whose absolute values are all below infinity has real entries. -/
theorem real_of_test {s : Shape} (h0 : (⟨0, ![]⟩ : Shape).BroadcastsInDim s ![]) (a : FVec Ideal s .f32)
    (h : cmpf .olt (Host.absf a) (broadcastInDim s ![] h0 (constant (F := Ideal) ⟨0, ![]⟩ .f32 0x7F800000#32)) = fun _ => 1#1) (i : s.Idx) : IsReal (a i) :=
  real_of_abs (a i) (congrFun h i)

variable (m : (ℓ : Loc nD τ sig) → Buf (Elt Ideal) ℓ)

/-- The latent vectors of arguments the precondition holds of are real. -/
theorem latM_real (h : Pre_KernelIdeal_finite m) (c : Dev nD) (b : Fin 64) (q : Fin 2048) : IsReal (latM m c b q) := by
  obtain ⟨h0, h1, h2, h3, h4, h5, h6, h7, h8, h9, h10, h11⟩ := h c
  exact real_lat _ _ _ (fun b o => real_hid _ _ _ (fun b q => real_out3 _ _ _ (fun b i j o => real_pad2 _ _ _ (fun b i j o => real_pad1 _ _ _
      (real_of_test _ _ h0) (real_of_test _ _ h1) (real_of_test _ _ h2) b i j o)
    (real_of_test _ _ h3) (real_of_test _ _ h4) b i j o)
    (real_of_test _ _ h5) (real_of_test _ _ h6) _ _ _ _)
    (real_of_test _ _ h7) (real_of_test _ _ h8) b o)
    (real_of_test _ _ h9) (real_of_test _ _ h10) b q

/-- So are the entries of the codebook. -/
theorem book_real (h : Pre_KernelIdeal_finite m) (c : Dev nD) (i : S512x64.Idx) : IsReal ((m ((c : Thread nD τ).loc main_arg11) : FVec Ideal S512x64 .f32) i) := by
  obtain ⟨h0, h1, h2, h3, h4, h5, h6, h7, h8, h9, h10, h11⟩ := h c
  exact real_of_test _ _ h11 i

/-- The rows the kernel picks are the reference's. -/
theorem pickM_eq (h : Pre_KernelIdeal_finite m) (c : Dev nD) : pickM m c = code (latM m c) (m ((c : Thread nD τ).loc main_arg11)) :=
  pick_eq _ _ (latM_real m h c) (book_real m h c)

end Cert.KernelIdeal.Dec
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Regions
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelAtIdeal
public import proofs.«01_k».proof.Proof.Gen.KernelAtIdeal.Regions
public import proofs.«01_k».proof.Proof.Gen.KernelAtIdeal.Launch
public import proofs.«01_k».proof.Proof.Gen.KernelAtIdeal.Points
public import proofs.«01_k».proof.Proof.Gen.KernelAtIdeal.Skeleton
public import proofs.«01_k».proof.Proof.Gen.ReferenceIdeal
public import proofs.«01_k».proof.Proof.Gen.ReferenceAtIdeal
public import proofs.«01_k».proof.Proof.Gen.RefRevIdeal
public import proofs.«01_k».proof.Proof.Gen.RefRevIdeal.Run
public import proofs.«01_k».proof.Proof.K.Same
public import proofs.«01_k».proof.Proof.KI.Frame
public import proofs.«01_k».proof.Proof.RI.Run
public import proofs.«01_k».proof.Proof.KA.Value
public import proofs.«01_k».proof.Proof.RAt.Value
public import proofs.«01_k».proof.Proof.T.KOut
public import proofs.«01_k».proof.Proof.T.RefAll
public import proofs.«01_k».proof.Proof.T.Pre
public import Idealize.ShloMosaic.Adequacy
public import Idealize.ShloMosaic.Init

@[expose] public section

set_option maxRecDepth 8192

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.KernelAtIdeal.Gen.facts Cert.ReferenceAtIdeal.Gen.facts
  Cert.RefRevIdeal.Gen.facts Cert.Pre_finite.shapes

/-- The frame of `KernelIdeal`. -/
theorem frame_KernelIdeal : quiescent_KernelIdeal := fun m g _ =>
  (θ_run Cert.KernelIdeal.defs _ _).mono (fun _ h => ⟨fun c => (h.1 c).2, h.2⟩) (Cert.KernelIdeal.Run.run_args m g)

/-- The frame of the reference. -/
theorem frame_ReferenceIdeal : quiescent_ReferenceIdeal := fun m g _ => Cert.ReferenceIdeal.Run.run m g

/-- The words of the counterexample at filter position (0, 0): the number one in channel 0, zero elsewhere. -/
theorem words_first : ∀ ch : Fin 128, Cert.Cx_KernelAtIdeal.arg0_words 0 0 ch 0 = if ch = 0 then 0x3F800000#32 else 0x00000000#32 := by
  decide +kernel

/-- At filter position (1, 1) they are all zero. -/
theorem words_last : ∀ ch : Fin 128, Cert.Cx_KernelAtIdeal.arg0_words 1 1 ch 0 = 0x00000000#32 := by decide +kernel

theorem bits_one : (FloatOps.ofBits .f32 0x3F800000#32 : Ideal .f32) = (1 : EReal) := by pointwise!

theorem bits_zero : (FloatOps.ofBits .f32 0x00000000#32 : Ideal .f32) = (0 : EReal) := by pointwise!

theorem cx_first (ch : Fin 128) : Cert.Cx_KernelAtIdeal.arg0 (F := Ideal) (ix4 0 0 ch 0) = if ch = 0 then (1 : EReal) else 0 := by
  show (FloatOps.ofBits .f32 (Cert.Cx_KernelAtIdeal.arg0_words 0 0 ch 0) : Ideal .f32) = _
  rw [words_first]
  split
  · exact bits_one
  · exact bits_zero

theorem cx_last (ch : Fin 128) : Cert.Cx_KernelAtIdeal.arg0 (F := Ideal) (ix4 1 1 ch 0) = (0 : EReal) := by
  show (FloatOps.ofBits .f32 (Cert.Cx_KernelAtIdeal.arg0_words 1 1 ch 0) : Ideal .f32) = _
  rw [words_last]
  exact bits_zero

/-- The logistic function at one is not one half. -/
theorem logistic_one_ne : Ideal.logistic 1 ≠ ((2⁻¹ : ℝ) : EReal) := by
  rw [show (1 : EReal) = ((1 : ℝ) : EReal) from rfl, Ideal.logistic_coe]
  intro h
  have e := inv_injective (EReal.coe_injective h)
  have : Real.exp (-1) < 1 := by rw [Real.exp_lt_one_iff]; norm_num
  linarith

/-- The kernel and the reference differ at index zero of their results on the counterexample. -/
theorem differ : disproves_algebraic_KernelAtIdeal_ReferenceAtIdeal := by
  intro m g m' g' h h'
  refine ⟨trivial, fun c => _, ?_, Cert.ReferenceAtIdeal.Run.run m' g'⟩
  refine (θ_run Cert.KernelAtIdeal.defs _ _).mono (fun r hr hc => ?_) (Cert.KernelAtIdeal.Run.run_main m g)
  have ek := (hr.1 0 _ (Finset.mem_filter.mpr ⟨StableHlo.devRef_mem_tcRefs Cert.KernelAtIdeal.main_v106, by decide⟩)).symm.trans (hc 0)
  have e := congrFun ek (ix4 0 0 0 0)
  rw [Cert.KernelAtIdeal.Value.result_zero m 0 (fun ch => by rw [h 0]; exact cx_first ch)] at e
  refine logistic_one_ne (e.trans ?_)
  refine Cert.ReferenceAtIdeal.Value.v343_zero _ (Cert.ReferenceAtIdeal.Value.v325_zero _ ?_) ?_ ?_ (fun ch => ?_)
  · exact Cert.ReferenceAtIdeal.Run.mid_main_v16 _
  · exact (StableHlo.after_of_writes_sub _ _ Cert.ReferenceAtIdeal.Run.ops_part5_2_writes (r := Cert.ReferenceAtIdeal.main_v20) (by decide)).trans
      (Cert.ReferenceAtIdeal.Run.mid_main_v20 _)
  · exact (StableHlo.after_of_writes_sub _ _ Cert.ReferenceAtIdeal.Run.ops_part5_2_writes (r := Cert.ReferenceAtIdeal.main_v19) (by decide)).trans
      (Cert.ReferenceAtIdeal.Run.mid_main_v19 _)
  · rw [StableHlo.after_of_writes_sub _ _ Cert.ReferenceAtIdeal.Run.ops_part5_2_writes (r := Cert.ReferenceAtIdeal.main_arg0) (by decide),
      Cert.ReferenceAtIdeal.Run.mid_arg0]
    show m' ((0 : Dev Cert.ReferenceAtIdeal.nD).tc.loc Cert.ReferenceAtIdeal.main_arg0) (ix4 1 1 ch 0) = _
    rw [h' 0, h 0]
    exact cx_last ch

/-- The frame of the reference with reversed filters. -/
theorem frame_RefRevIdeal : quiescent_RefRevIdeal := fun m g _ =>
  (θ_run Cert.RefRevIdeal.defs _ _).mono (fun r h => ⟨fun c => (h c).2, sem_eq_zero_of_no_sems (by decide) r.2⟩) (Cert.RefRevIdeal.Value.run m g)

/-- The last coordinate of an index of the result is zero. -/
theorem last_zero (i : Cert.KernelIdeal.S64x64x64x1.Idx) : ∃ b p q : Fin 64, i = ix4 b p q 0 := by
  refine ⟨i 0, i 1, i 2, ?_⟩
  rw [show (0 : Fin 1) = i 3 from Subsingleton.elim _ _]
  exact eq_ix4 i

/-- The latent vectors of the two programs are the same where their arguments are. -/
theorem results_eq (m : (ℓ : Loc Cert.KernelIdeal.nD Cert.KernelIdeal.τ Cert.KernelIdeal.sig) → Buf (Elt Ideal) ℓ)
    (m' : (ℓ : Loc Cert.RefRevIdeal.nD Cert.RefRevIdeal.τ Cert.RefRevIdeal.sig) → Buf (Elt Ideal) ℓ) (c : Dev Cert.KernelIdeal.nD) (hp : Pre_KernelIdeal_finite m)
    (h0 : m' ((c.tc : Thread Cert.RefRevIdeal.nD Cert.RefRevIdeal.τ).loc Cert.RefRevIdeal.main_arg0) = m ((c.tc : Thread Cert.KernelIdeal.nD Cert.KernelIdeal.τ).loc Cert.KernelIdeal.main_arg0))
    (h1 : m' ((c.tc : Thread Cert.RefRevIdeal.nD Cert.RefRevIdeal.τ).loc Cert.RefRevIdeal.main_arg1) = m ((c.tc : Thread Cert.KernelIdeal.nD Cert.KernelIdeal.τ).loc Cert.KernelIdeal.main_arg1))
    (h2 : m' ((c.tc : Thread Cert.RefRevIdeal.nD Cert.RefRevIdeal.τ).loc Cert.RefRevIdeal.main_arg2) = m ((c.tc : Thread Cert.KernelIdeal.nD Cert.KernelIdeal.τ).loc Cert.KernelIdeal.main_arg2))
    (h3 : m' ((c.tc : Thread Cert.RefRevIdeal.nD Cert.RefRevIdeal.τ).loc Cert.RefRevIdeal.main_arg3) = m ((c.tc : Thread Cert.KernelIdeal.nD Cert.KernelIdeal.τ).loc Cert.KernelIdeal.main_arg3))
    (h4 : m' ((c.tc : Thread Cert.RefRevIdeal.nD Cert.RefRevIdeal.τ).loc Cert.RefRevIdeal.main_arg4) = m ((c.tc : Thread Cert.KernelIdeal.nD Cert.KernelIdeal.τ).loc Cert.KernelIdeal.main_arg4))
    (h5 : m' ((c.tc : Thread Cert.RefRevIdeal.nD Cert.RefRevIdeal.τ).loc Cert.RefRevIdeal.main_arg5) = m ((c.tc : Thread Cert.KernelIdeal.nD Cert.KernelIdeal.τ).loc Cert.KernelIdeal.main_arg5))
    (h6 : m' ((c.tc : Thread Cert.RefRevIdeal.nD Cert.RefRevIdeal.τ).loc Cert.RefRevIdeal.main_arg6) = m ((c.tc : Thread Cert.KernelIdeal.nD Cert.KernelIdeal.τ).loc Cert.KernelIdeal.main_arg6))
    (h7 : m' ((c.tc : Thread Cert.RefRevIdeal.nD Cert.RefRevIdeal.τ).loc Cert.RefRevIdeal.main_arg7) = m ((c.tc : Thread Cert.KernelIdeal.nD Cert.KernelIdeal.τ).loc Cert.KernelIdeal.main_arg7))
    (h8 : m' ((c.tc : Thread Cert.RefRevIdeal.nD Cert.RefRevIdeal.τ).loc Cert.RefRevIdeal.main_arg8) = m ((c.tc : Thread Cert.KernelIdeal.nD Cert.KernelIdeal.τ).loc Cert.KernelIdeal.main_arg8))
    (h9 : m' ((c.tc : Thread Cert.RefRevIdeal.nD Cert.RefRevIdeal.τ).loc Cert.RefRevIdeal.main_arg9) = m ((c.tc : Thread Cert.KernelIdeal.nD Cert.KernelIdeal.τ).loc Cert.KernelIdeal.main_arg9))
    (h10 : m' ((c.tc : Thread Cert.RefRevIdeal.nD Cert.RefRevIdeal.τ).loc Cert.RefRevIdeal.main_arg10) = m ((c.tc : Thread Cert.KernelIdeal.nD Cert.KernelIdeal.τ).loc Cert.KernelIdeal.main_arg10))
    (h11 : m' ((c.tc : Thread Cert.RefRevIdeal.nD Cert.RefRevIdeal.τ).loc Cert.RefRevIdeal.main_arg11) = m ((c.tc : Thread Cert.KernelIdeal.nD Cert.KernelIdeal.τ).loc Cert.KernelIdeal.main_arg11))
    (h12 : m' ((c.tc : Thread Cert.RefRevIdeal.nD Cert.RefRevIdeal.τ).loc Cert.RefRevIdeal.main_arg12) = m ((c.tc : Thread Cert.KernelIdeal.nD Cert.KernelIdeal.τ).loc Cert.KernelIdeal.main_arg12))
    (h13 : m' ((c.tc : Thread Cert.RefRevIdeal.nD Cert.RefRevIdeal.τ).loc Cert.RefRevIdeal.main_arg13) = m ((c.tc : Thread Cert.KernelIdeal.nD Cert.KernelIdeal.τ).loc Cert.KernelIdeal.main_arg13))
    (h14 : m' ((c.tc : Thread Cert.RefRevIdeal.nD Cert.RefRevIdeal.τ).loc Cert.RefRevIdeal.main_arg14) = m ((c.tc : Thread Cert.KernelIdeal.nD Cert.KernelIdeal.τ).loc Cert.KernelIdeal.main_arg14))
    (h15 : m' ((c.tc : Thread Cert.RefRevIdeal.nD Cert.RefRevIdeal.τ).loc Cert.RefRevIdeal.main_arg15) = m ((c.tc : Thread Cert.KernelIdeal.nD Cert.KernelIdeal.τ).loc Cert.KernelIdeal.main_arg15))
    (h16 : m' ((c.tc : Thread Cert.RefRevIdeal.nD Cert.RefRevIdeal.τ).loc Cert.RefRevIdeal.main_arg16) = m ((c.tc : Thread Cert.KernelIdeal.nD Cert.KernelIdeal.τ).loc Cert.KernelIdeal.main_arg16))
    (h17 : m' ((c.tc : Thread Cert.RefRevIdeal.nD Cert.RefRevIdeal.τ).loc Cert.RefRevIdeal.main_arg17) = m ((c.tc : Thread Cert.KernelIdeal.nD Cert.KernelIdeal.τ).loc Cert.KernelIdeal.main_arg17))
    (h18 : m' ((c.tc : Thread Cert.RefRevIdeal.nD Cert.RefRevIdeal.τ).loc Cert.RefRevIdeal.main_arg18) = m ((c.tc : Thread Cert.KernelIdeal.nD Cert.KernelIdeal.τ).loc Cert.KernelIdeal.main_arg18))
    (h19 : m' ((c.tc : Thread Cert.RefRevIdeal.nD Cert.RefRevIdeal.τ).loc Cert.RefRevIdeal.main_arg19) = m ((c.tc : Thread Cert.KernelIdeal.nD Cert.KernelIdeal.τ).loc Cert.KernelIdeal.main_arg19)) :
    Cert.RefRevIdeal.EV.All m' c = Cert.KernelIdeal.Gen.V15 m (Cert.KernelIdeal.Run.outs m) c Cert.KernelIdeal.main_v85 := by
  funext i
  obtain ⟨b, p, q, rfl⟩ := last_zero i
  refine (Cert.RefRevIdeal.EV.All_at m' c b p q).trans (Eq.trans ?_ (Cert.KernelIdeal.Dec.result_at m c b p q).symm)
  rw [Cert.KernelIdeal.Dec.pickM_eq m hp c]
  unfold Cert.RefRevIdeal.EV.latF Cert.RefRevIdeal.EV.encF
  rw [h0, h1, h2, h3, h4, h5, h6, h7, h8, h9, h10, h11, h12, h13, h14, h15, h16, h17, h18, h19]
  rfl

/-- The kernel and the reference with reversed filters leave the same result. -/
theorem equal_KernelIdeal_RefRevIdeal : algebraic_KernelIdeal_RefRevIdeal_pre_finite := by
  intro m g m' g' hp hagree
  refine ⟨fun c => Cert.KernelIdeal.Gen.V15 m (Cert.KernelIdeal.Run.outs m) c Cert.KernelIdeal.main_v85,
    (θ_run Cert.KernelIdeal.defs _ _).mono (fun r h c => h.1 c) (Cert.KernelIdeal.Run.run_args m g),
    (θ_run Cert.RefRevIdeal.defs _ _).mono (fun r h c => ⟨(h c).1.trans ?_, (h c).2⟩) (Cert.RefRevIdeal.Value.run m' g')⟩
  obtain ⟨h0, h1, h2, h3, h4, h5, h6, h7, h8, h9, h10, h11, h12, h13, h14, h15, h16, h17, h18, h19⟩ := hagree c
  exact results_eq m m' c hp h0 h1 h2 h3 h4 h5 h6 h7 h8 h9 h10 h11 h12 h13 h14 h15 h16 h17 h18 h19

/-- The certificate's claim. -/
theorem claim : Cert.Claim := ⟨Cert.Kernel.Gen.facts, Cert.KernelIdeal.Gen.facts, Cert.ReferenceIdeal.Gen.facts, Cert.KernelAtIdeal.Gen.facts, Cert.ReferenceAtIdeal.Gen.facts,
  Cert.RefRevIdeal.Gen.facts, Cert.Pre_finite.shapes, Cert.Same.frame_Kernel, frame_KernelIdeal, fun m g _ => frame_KernelIdeal m g trivial, frame_ReferenceIdeal,
  frame_RefRevIdeal, fun m g _ => frame_RefRevIdeal m g trivial, trivial, differ, equal_KernelIdeal_RefRevIdeal⟩

end Cert.Proof

end
